-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12)) (m ((c.tc : Thread Cert.Kernel2Ideal.nD Cert.Kernel2Ideal.τ).loc Cert.Kernel2Ideal.main_arg13)) (m ((c.tc : Thread Cert.Kernel2Ideal.nD Cert.Kernel2Ideal.τ).loc Cert.Kernel2Ideal.main_arg14)) (m ((c.tc : Thread Cert.Kernel2Ideal.nD Cert.Kernel2Ideal.τ).loc Cert.Kernel2Ideal.main_arg15)) (m ((c.tc : Thread Cert.Kernel2Ideal.nD Cert.Kernel2Ideal.τ).loc Cert.Kernel2Ideal.main_arg16))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12)) (m ((c.tc : Thread Cert.Kernel2Ideal.nD Cert.Kernel2Ideal.τ).loc Cert.Kernel2Ideal.main_arg13)) (m ((c.tc : Thread Cert.Kernel2Ideal.nD Cert.Kernel2Ideal.τ).loc Cert.Kernel2Ideal.main_arg14)) (m ((c.tc : Thread Cert.Kernel2Ideal.nD Cert.Kernel2Ideal.τ).loc Cert.Kernel2Ideal.main_arg15)) (m ((c.tc : Thread Cert.Kernel2Ideal.nD Cert.Kernel2Ideal.τ).loc Cert.Kernel2Ideal.main_arg16))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12)) (m ((c.tc : Thread Cert.Kernel2Ideal.nD Cert.Kernel2Ideal.τ).loc Cert.Kernel2Ideal.main_arg13)) (m ((c.tc : Thread Cert.Kernel2Ideal.nD Cert.Kernel2Ideal.τ).loc Cert.Kernel2Ideal.main_arg14)) (m ((c.tc : Thread Cert.Kernel2Ideal.nD Cert.Kernel2Ideal.τ).loc Cert.Kernel2Ideal.main_arg15)) (m ((c.tc : Thread Cert.Kernel2Ideal.nD Cert.Kernel2Ideal.τ).loc Cert.Kernel2Ideal.main_arg16))).2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12)) (m ((c.tc : Thread Cert.Kernel2Ideal.nD Cert.Kernel2Ideal.τ).loc Cert.Kernel2Ideal.main_arg13)) (m ((c.tc : Thread Cert.Kernel2Ideal.nD Cert.Kernel2Ideal.τ).loc Cert.Kernel2Ideal.main_arg14)) (m ((c.tc : Thread Cert.Kernel2Ideal.nD Cert.Kernel2Ideal.τ).loc Cert.Kernel2Ideal.main_arg15)) (m ((c.tc : Thread Cert.Kernel2Ideal.nD Cert.Kernel2Ideal.τ).loc Cert.Kernel2Ideal.main_arg16))).2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12)) (m ((c.tc : Thread Cert.Kernel2Ideal.nD Cert.Kernel2Ideal.τ).loc Cert.Kernel2Ideal.main_arg13)) (m ((c.tc : Thread Cert.Kernel2Ideal.nD Cert.Kernel2Ideal.τ).loc Cert.Kernel2Ideal.main_arg14)) (m ((c.tc : Thread Cert.Kernel2Ideal.nD Cert.Kernel2Ideal.τ).loc Cert.Kernel2Ideal.main_arg15)) (m ((c.tc : Thread Cert.Kernel2Ideal.nD Cert.Kernel2Ideal.τ).loc Cert.Kernel2Ideal.main_arg16))).2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12)) (m ((c.tc : Thread Cert.Kernel2Ideal.nD Cert.Kernel2Ideal.τ).loc Cert.Kernel2Ideal.main_arg13)) (m ((c.tc : Thread Cert.Kernel2Ideal.nD Cert.Kernel2Ideal.τ).loc Cert.Kernel2Ideal.main_arg14)) (m ((c.tc : Thread Cert.Kernel2Ideal.nD Cert.Kernel2Ideal.τ).loc Cert.Kernel2Ideal.main_arg15)) (m ((c.tc : Thread Cert.Kernel2Ideal.nD Cert.Kernel2Ideal.τ).loc Cert.Kernel2Ideal.main_arg16))).2.2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12)) (m ((c.tc : Thread Cert.Kernel2Ideal.nD Cert.Kernel2Ideal.τ).loc Cert.Kernel2Ideal.main_arg13)) (m ((c.tc : Thread Cert.Kernel2Ideal.nD Cert.Kernel2Ideal.τ).loc Cert.Kernel2Ideal.main_arg14)) (m ((c.tc : Thread Cert.Kernel2Ideal.nD Cert.Kernel2Ideal.τ).loc Cert.Kernel2Ideal.main_arg15)) (m ((c.tc : Thread Cert.Kernel2Ideal.nD Cert.Kernel2Ideal.τ).loc Cert.Kernel2Ideal.main_arg16))).2.2.2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12)) (m ((c.tc : Thread Cert.Kernel2Ideal.nD Cert.Kernel2Ideal.τ).loc Cert.Kernel2Ideal.main_arg13)) (m ((c.tc : Thread Cert.Kernel2Ideal.nD Cert.Kernel2Ideal.τ).loc Cert.Kernel2Ideal.main_arg14)) (m ((c.tc : Thread Cert.Kernel2Ideal.nD Cert.Kernel2Ideal.τ).loc Cert.Kernel2Ideal.main_arg15)) (m ((c.tc : Thread Cert.Kernel2Ideal.nD Cert.Kernel2Ideal.τ).loc Cert.Kernel2Ideal.main_arg16))).2.2.2.2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12)) (m ((c.tc : Thread Cert.Kernel2Ideal.nD Cert.Kernel2Ideal.τ).loc Cert.Kernel2Ideal.main_arg13)) (m ((c.tc : Thread Cert.Kernel2Ideal.nD Cert.Kernel2Ideal.τ).loc Cert.Kernel2Ideal.main_arg14)) (m ((c.tc : Thread Cert.Kernel2Ideal.nD Cert.Kernel2Ideal.τ).loc Cert.Kernel2Ideal.main_arg15)) (m ((c.tc : Thread Cert.Kernel2Ideal.nD Cert.Kernel2Ideal.τ).loc Cert.Kernel2Ideal.main_arg16))).2.2.2.2.2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12)) (m ((c.tc : Thread Cert.Kernel2Ideal.nD Cert.Kernel2Ideal.τ).loc Cert.Kernel2Ideal.main_arg13)) (m ((c.tc : Thread Cert.Kernel2Ideal.nD Cert.Kernel2Ideal.τ).loc Cert.Kernel2Ideal.main_arg14)) (m ((c.tc : Thread Cert.Kernel2Ideal.nD Cert.Kernel2Ideal.τ).loc Cert.Kernel2Ideal.main_arg15)) (m ((c.tc : Thread Cert.Kernel2Ideal.nD Cert.Kernel2Ideal.τ).loc Cert.Kernel2Ideal.main_arg16))).2.2.2.2.2.2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12)) (m ((c.tc : Thread Cert.Kernel2Ideal.nD Cert.Kernel2Ideal.τ).loc Cert.Kernel2Ideal.main_arg13)) (m ((c.tc : Thread Cert.Kernel2Ideal.nD Cert.Kernel2Ideal.τ).loc Cert.Kernel2Ideal.main_arg14)) (m ((c.tc : Thread Cert.Kernel2Ideal.nD Cert.Kernel2Ideal.τ).loc Cert.Kernel2Ideal.main_arg15)) (m ((c.tc : Thread Cert.Kernel2Ideal.nD Cert.Kernel2Ideal.τ).loc Cert.Kernel2Ideal.main_arg16))).2.2.2.2.2.2.2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12)) (m ((c.tc : Thread Cert.Kernel2Ideal.nD Cert.Kernel2Ideal.τ).loc Cert.Kernel2Ideal.main_arg13)) (m ((c.tc : Thread Cert.Kernel2Ideal.nD Cert.Kernel2Ideal.τ).loc Cert.Kernel2Ideal.main_arg14)) (m ((c.tc : Thread Cert.Kernel2Ideal.nD Cert.Kernel2Ideal.τ).loc Cert.Kernel2Ideal.main_arg15)) (m ((c.tc : Thread Cert.Kernel2Ideal.nD Cert.Kernel2Ideal.τ).loc Cert.Kernel2Ideal.main_arg16))).2.2.2.2.2.2.2.2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12)) (m ((c.tc : Thread Cert.Kernel2Ideal.nD Cert.Kernel2Ideal.τ).loc Cert.Kernel2Ideal.main_arg13)) (m ((c.tc : Thread Cert.Kernel2Ideal.nD Cert.Kernel2Ideal.τ).loc Cert.Kernel2Ideal.main_arg14)) (m ((c.tc : Thread Cert.Kernel2Ideal.nD Cert.Kernel2Ideal.τ).loc Cert.Kernel2Ideal.main_arg15)) (m ((c.tc : Thread Cert.Kernel2Ideal.nD Cert.Kernel2Ideal.τ).loc Cert.Kernel2Ideal.main_arg16))).2.2.2.2.2.2.2.2.2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12)) (m ((c.tc : Thread Cert.Kernel2Ideal.nD Cert.Kernel2Ideal.τ).loc Cert.Kernel2Ideal.main_arg13)) (m ((c.tc : Thread Cert.Kernel2Ideal.nD Cert.Kernel2Ideal.τ).loc Cert.Kernel2Ideal.main_arg14)) (m ((c.tc : Thread Cert.Kernel2Ideal.nD Cert.Kernel2Ideal.τ).loc Cert.Kernel2Ideal.main_arg15)) (m ((c.tc : Thread Cert.Kernel2Ideal.nD Cert.Kernel2Ideal.τ).loc Cert.Kernel2Ideal.main_arg16))).2.2.2.2.2.2.2.2.2.2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12)) (m ((c.tc : Thread Cert.Kernel2Ideal.nD Cert.Kernel2Ideal.τ).loc Cert.Kernel2Ideal.main_arg13)) (m ((c.tc : Thread Cert.Kernel2Ideal.nD Cert.Kernel2Ideal.τ).loc Cert.Kernel2Ideal.main_arg14)) (m ((c.tc : Thread Cert.Kernel2Ideal.nD Cert.Kernel2Ideal.τ).loc Cert.Kernel2Ideal.main_arg15)) (m ((c.tc : Thread Cert.Kernel2Ideal.nD Cert.Kernel2Ideal.τ).loc Cert.Kernel2Ideal.main_arg16))).2.2.2.2.2.2.2.2.2.2.2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12)) (m ((c.tc : Thread Cert.Kernel2Ideal.nD Cert.Kernel2Ideal.τ).loc Cert.Kernel2Ideal.main_arg13)) (m ((c.tc : Thread Cert.Kernel2Ideal.nD Cert.Kernel2Ideal.τ).loc Cert.Kernel2Ideal.main_arg14)) (m ((c.tc : Thread Cert.Kernel2Ideal.nD Cert.Kernel2Ideal.τ).loc Cert.Kernel2Ideal.main_arg15)) (m ((c.tc : Thread Cert.Kernel2Ideal.nD Cert.Kernel2Ideal.τ).loc Cert.Kernel2Ideal.main_arg16))).2.2.2.2.2.2.2.2.2.2.2.2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12)) (m ((c.tc : Thread Cert.Kernel2Ideal.nD Cert.Kernel2Ideal.τ).loc Cert.Kernel2Ideal.main_arg13)) (m ((c.tc : Thread Cert.Kernel2Ideal.nD Cert.Kernel2Ideal.τ).loc Cert.Kernel2Ideal.main_arg14)) (m ((c.tc : Thread Cert.Kernel2Ideal.nD Cert.Kernel2Ideal.τ).loc Cert.Kernel2Ideal.main_arg15)) (m ((c.tc : Thread Cert.Kernel2Ideal.nD Cert.Kernel2Ideal.τ).loc Cert.Kernel2Ideal.main_arg16))).2.2.2.2.2.2.2.2.2.2.2.2.2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12)) (m ((c.tc : Thread Cert.Reference2Ideal.nD Cert.Reference2Ideal.τ).loc Cert.Reference2Ideal.main_arg13)) (m ((c.tc : Thread Cert.Reference2Ideal.nD Cert.Reference2Ideal.τ).loc Cert.Reference2Ideal.main_arg14)) (m ((c.tc : Thread Cert.Reference2Ideal.nD Cert.Reference2Ideal.τ).loc Cert.Reference2Ideal.main_arg15)) (m ((c.tc : Thread Cert.Reference2Ideal.nD Cert.Reference2Ideal.τ).loc Cert.Reference2Ideal.main_arg16))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12)) (m ((c.tc : Thread Cert.Reference2Ideal.nD Cert.Reference2Ideal.τ).loc Cert.Reference2Ideal.main_arg13)) (m ((c.tc : Thread Cert.Reference2Ideal.nD Cert.Reference2Ideal.τ).loc Cert.Reference2Ideal.main_arg14)) (m ((c.tc : Thread Cert.Reference2Ideal.nD Cert.Reference2Ideal.τ).loc Cert.Reference2Ideal.main_arg15)) (m ((c.tc : Thread Cert.Reference2Ideal.nD Cert.Reference2Ideal.τ).loc Cert.Reference2Ideal.main_arg16))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12)) (m ((c.tc : Thread Cert.Reference2Ideal.nD Cert.Reference2Ideal.τ).loc Cert.Reference2Ideal.main_arg13)) (m ((c.tc : Thread Cert.Reference2Ideal.nD Cert.Reference2Ideal.τ).loc Cert.Reference2Ideal.main_arg14)) (m ((c.tc : Thread Cert.Reference2Ideal.nD Cert.Reference2Ideal.τ).loc Cert.Reference2Ideal.main_arg15)) (m ((c.tc : Thread Cert.Reference2Ideal.nD Cert.Reference2Ideal.τ).loc Cert.Reference2Ideal.main_arg16))).2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12)) (m ((c.tc : Thread Cert.Reference2Ideal.nD Cert.Reference2Ideal.τ).loc Cert.Reference2Ideal.main_arg13)) (m ((c.tc : Thread Cert.Reference2Ideal.nD Cert.Reference2Ideal.τ).loc Cert.Reference2Ideal.main_arg14)) (m ((c.tc : Thread Cert.Reference2Ideal.nD Cert.Reference2Ideal.τ).loc Cert.Reference2Ideal.main_arg15)) (m ((c.tc : Thread Cert.Reference2Ideal.nD Cert.Reference2Ideal.τ).loc Cert.Reference2Ideal.main_arg16))).2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12)) (m ((c.tc : Thread Cert.Reference2Ideal.nD Cert.Reference2Ideal.τ).loc Cert.Reference2Ideal.main_arg13)) (m ((c.tc : Thread Cert.Reference2Ideal.nD Cert.Reference2Ideal.τ).loc Cert.Reference2Ideal.main_arg14)) (m ((c.tc : Thread Cert.Reference2Ideal.nD Cert.Reference2Ideal.τ).loc Cert.Reference2Ideal.main_arg15)) (m ((c.tc : Thread Cert.Reference2Ideal.nD Cert.Reference2Ideal.τ).loc Cert.Reference2Ideal.main_arg16))).2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12)) (m ((c.tc : Thread Cert.Reference2Ideal.nD Cert.Reference2Ideal.τ).loc Cert.Reference2Ideal.main_arg13)) (m ((c.tc : Thread Cert.Reference2Ideal.nD Cert.Reference2Ideal.τ).loc Cert.Reference2Ideal.main_arg14)) (m ((c.tc : Thread Cert.Reference2Ideal.nD Cert.Reference2Ideal.τ).loc Cert.Reference2Ideal.main_arg15)) (m ((c.tc : Thread Cert.Reference2Ideal.nD Cert.Reference2Ideal.τ).loc Cert.Reference2Ideal.main_arg16))).2.2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12)) (m ((c.tc : Thread Cert.Reference2Ideal.nD Cert.Reference2Ideal.τ).loc Cert.Reference2Ideal.main_arg13)) (m ((c.tc : Thread Cert.Reference2Ideal.nD Cert.Reference2Ideal.τ).loc Cert.Reference2Ideal.main_arg14)) (m ((c.tc : Thread Cert.Reference2Ideal.nD Cert.Reference2Ideal.τ).loc Cert.Reference2Ideal.main_arg15)) (m ((c.tc : Thread Cert.Reference2Ideal.nD Cert.Reference2Ideal.τ).loc Cert.Reference2Ideal.main_arg16))).2.2.2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12)) (m ((c.tc : Thread Cert.Reference2Ideal.nD Cert.Reference2Ideal.τ).loc Cert.Reference2Ideal.main_arg13)) (m ((c.tc : Thread Cert.Reference2Ideal.nD Cert.Reference2Ideal.τ).loc Cert.Reference2Ideal.main_arg14)) (m ((c.tc : Thread Cert.Reference2Ideal.nD Cert.Reference2Ideal.τ).loc Cert.Reference2Ideal.main_arg15)) (m ((c.tc : Thread Cert.Reference2Ideal.nD Cert.Reference2Ideal.τ).loc Cert.Reference2Ideal.main_arg16))).2.2.2.2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12)) (m ((c.tc : Thread Cert.Reference2Ideal.nD Cert.Reference2Ideal.τ).loc Cert.Reference2Ideal.main_arg13)) (m ((c.tc : Thread Cert.Reference2Ideal.nD Cert.Reference2Ideal.τ).loc Cert.Reference2Ideal.main_arg14)) (m ((c.tc : Thread Cert.Reference2Ideal.nD Cert.Reference2Ideal.τ).loc Cert.Reference2Ideal.main_arg15)) (m ((c.tc : Thread Cert.Reference2Ideal.nD Cert.Reference2Ideal.τ).loc Cert.Reference2Ideal.main_arg16))).2.2.2.2.2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12)) (m ((c.tc : Thread Cert.Reference2Ideal.nD Cert.Reference2Ideal.τ).loc Cert.Reference2Ideal.main_arg13)) (m ((c.tc : Thread Cert.Reference2Ideal.nD Cert.Reference2Ideal.τ).loc Cert.Reference2Ideal.main_arg14)) (m ((c.tc : Thread Cert.Reference2Ideal.nD Cert.Reference2Ideal.τ).loc Cert.Reference2Ideal.main_arg15)) (m ((c.tc : Thread Cert.Reference2Ideal.nD Cert.Reference2Ideal.τ).loc Cert.Reference2Ideal.main_arg16))).2.2.2.2.2.2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12)) (m ((c.tc : Thread Cert.Reference2Ideal.nD Cert.Reference2Ideal.τ).loc Cert.Reference2Ideal.main_arg13)) (m ((c.tc : Thread Cert.Reference2Ideal.nD Cert.Reference2Ideal.τ).loc Cert.Reference2Ideal.main_arg14)) (m ((c.tc : Thread Cert.Reference2Ideal.nD Cert.Reference2Ideal.τ).loc Cert.Reference2Ideal.main_arg15)) (m ((c.tc : Thread Cert.Reference2Ideal.nD Cert.Reference2Ideal.τ).loc Cert.Reference2Ideal.main_arg16))).2.2.2.2.2.2.2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12)) (m ((c.tc : Thread Cert.Reference2Ideal.nD Cert.Reference2Ideal.τ).loc Cert.Reference2Ideal.main_arg13)) (m ((c.tc : Thread Cert.Reference2Ideal.nD Cert.Reference2Ideal.τ).loc Cert.Reference2Ideal.main_arg14)) (m ((c.tc : Thread Cert.Reference2Ideal.nD Cert.Reference2Ideal.τ).loc Cert.Reference2Ideal.main_arg15)) (m ((c.tc : Thread Cert.Reference2Ideal.nD Cert.Reference2Ideal.τ).loc Cert.Reference2Ideal.main_arg16))).2.2.2.2.2.2.2.2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12)) (m ((c.tc : Thread Cert.Reference2Ideal.nD Cert.Reference2Ideal.τ).loc Cert.Reference2Ideal.main_arg13)) (m ((c.tc : Thread Cert.Reference2Ideal.nD Cert.Reference2Ideal.τ).loc Cert.Reference2Ideal.main_arg14)) (m ((c.tc : Thread Cert.Reference2Ideal.nD Cert.Reference2Ideal.τ).loc Cert.Reference2Ideal.main_arg15)) (m ((c.tc : Thread Cert.Reference2Ideal.nD Cert.Reference2Ideal.τ).loc Cert.Reference2Ideal.main_arg16))).2.2.2.2.2.2.2.2.2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12)) (m ((c.tc : Thread Cert.Reference2Ideal.nD Cert.Reference2Ideal.τ).loc Cert.Reference2Ideal.main_arg13)) (m ((c.tc : Thread Cert.Reference2Ideal.nD Cert.Reference2Ideal.τ).loc Cert.Reference2Ideal.main_arg14)) (m ((c.tc : Thread Cert.Reference2Ideal.nD Cert.Reference2Ideal.τ).loc Cert.Reference2Ideal.main_arg15)) (m ((c.tc : Thread Cert.Reference2Ideal.nD Cert.Reference2Ideal.τ).loc Cert.Reference2Ideal.main_arg16))).2.2.2.2.2.2.2.2.2.2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12)) (m ((c.tc : Thread Cert.Reference2Ideal.nD Cert.Reference2Ideal.τ).loc Cert.Reference2Ideal.main_arg13)) (m ((c.tc : Thread Cert.Reference2Ideal.nD Cert.Reference2Ideal.τ).loc Cert.Reference2Ideal.main_arg14)) (m ((c.tc : Thread Cert.Reference2Ideal.nD Cert.Reference2Ideal.τ).loc Cert.Reference2Ideal.main_arg15)) (m ((c.tc : Thread Cert.Reference2Ideal.nD Cert.Reference2Ideal.τ).loc Cert.Reference2Ideal.main_arg16))).2.2.2.2.2.2.2.2.2.2.2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12)) (m ((c.tc : Thread Cert.Reference2Ideal.nD Cert.Reference2Ideal.τ).loc Cert.Reference2Ideal.main_arg13)) (m ((c.tc : Thread Cert.Reference2Ideal.nD Cert.Reference2Ideal.τ).loc Cert.Reference2Ideal.main_arg14)) (m ((c.tc : Thread Cert.Reference2Ideal.nD Cert.Reference2Ideal.τ).loc Cert.Reference2Ideal.main_arg15)) (m ((c.tc : Thread Cert.Reference2Ideal.nD Cert.Reference2Ideal.τ).loc Cert.Reference2Ideal.main_arg16))).2.2.2.2.2.2.2.2.2.2.2.2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12)) (m ((c.tc : Thread Cert.Reference2Ideal.nD Cert.Reference2Ideal.τ).loc Cert.Reference2Ideal.main_arg13)) (m ((c.tc : Thread Cert.Reference2Ideal.nD Cert.Reference2Ideal.τ).loc Cert.Reference2Ideal.main_arg14)) (m ((c.tc : Thread Cert.Reference2Ideal.nD Cert.Reference2Ideal.τ).loc Cert.Reference2Ideal.main_arg15)) (m ((c.tc : Thread Cert.Reference2Ideal.nD Cert.Reference2Ideal.τ).loc Cert.Reference2Ideal.main_arg16))).2.2.2.2.2.2.2.2.2.2.2.2.2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.2.2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.2.2.2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.2.2.2.2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))).1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))).2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))).2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))).2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))).2.2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))).2.2.2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))).2.2.2.2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))).2.2.2.2.2.2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13)
      ∧ r.2.mem ((c.tc : Thread Cert.Kernel2.nD Cert.Kernel2.τ).loc Cert.Kernel2.main_arg14) = m ((c.tc : Thread Cert.Kernel2.nD Cert.Kernel2.τ).loc Cert.Kernel2.main_arg14)
      ∧ r.2.mem ((c.tc : Thread Cert.Kernel2.nD Cert.Kernel2.τ).loc Cert.Kernel2.main_arg15) = m ((c.tc : Thread Cert.Kernel2.nD Cert.Kernel2.τ).loc Cert.Kernel2.main_arg15)
      ∧ r.2.mem ((c.tc : Thread Cert.Kernel2.nD Cert.Kernel2.τ).loc Cert.Kernel2.main_arg16) = m ((c.tc : Thread Cert.Kernel2.nD Cert.Kernel2.τ).loc Cert.Kernel2.main_arg16))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
      ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
      ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15)
      ∧ r.2.mem ((c.tc : Thread Cert.Kernel2Ideal.nD Cert.Kernel2Ideal.τ).loc Cert.Kernel2Ideal.main_arg16) = m ((c.tc : Thread Cert.Kernel2Ideal.nD Cert.Kernel2Ideal.τ).loc Cert.Kernel2Ideal.main_arg16))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
      ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
      ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15)
      ∧ r.2.mem ((c.tc : Thread Cert.Kernel2Ideal.nD Cert.Kernel2Ideal.τ).loc Cert.Kernel2Ideal.main_arg16) = m ((c.tc : Thread Cert.Kernel2Ideal.nD Cert.Kernel2Ideal.τ).loc Cert.Kernel2Ideal.main_arg16))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13)
      ∧ r.2.mem ((c.tc : Thread Cert.Reference2Ideal.nD Cert.Reference2Ideal.τ).loc Cert.Reference2Ideal.main_arg14) = m ((c.tc : Thread Cert.Reference2Ideal.nD Cert.Reference2Ideal.τ).loc Cert.Reference2Ideal.main_arg14)
      ∧ r.2.mem ((c.tc : Thread Cert.Reference2Ideal.nD Cert.Reference2Ideal.τ).loc Cert.Reference2Ideal.main_arg15) = m ((c.tc : Thread Cert.Reference2Ideal.nD Cert.Reference2Ideal.τ).loc Cert.Reference2Ideal.main_arg15)
      ∧ r.2.mem ((c.tc : Thread Cert.Reference2Ideal.nD Cert.Reference2Ideal.τ).loc Cert.Reference2Ideal.main_arg16) = m ((c.tc : Thread Cert.Reference2Ideal.nD Cert.Reference2Ideal.τ).loc Cert.Reference2Ideal.main_arg16))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13)
      ∧ r.2.mem ((c.tc : Thread Cert.Reference2Ideal.nD Cert.Reference2Ideal.τ).loc Cert.Reference2Ideal.main_arg14) = m ((c.tc : Thread Cert.Reference2Ideal.nD Cert.Reference2Ideal.τ).loc Cert.Reference2Ideal.main_arg14)
      ∧ r.2.mem ((c.tc : Thread Cert.Reference2Ideal.nD Cert.Reference2Ideal.τ).loc Cert.Reference2Ideal.main_arg15) = m ((c.tc : Thread Cert.Reference2Ideal.nD Cert.Reference2Ideal.τ).loc Cert.Reference2Ideal.main_arg15)
      ∧ r.2.mem ((c.tc : Thread Cert.Reference2Ideal.nD Cert.Reference2Ideal.τ).loc Cert.Reference2Ideal.main_arg16) = m ((c.tc : Thread Cert.Reference2Ideal.nD Cert.Reference2Ideal.τ).loc Cert.Reference2Ideal.main_arg16))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12)
      ∧ r.2.mem ((c.tc : Thread Cert.Kernel4.nD Cert.Kernel4.τ).loc Cert.Kernel4.main_arg13) = m ((c.tc : Thread Cert.Kernel4.nD Cert.Kernel4.τ).loc Cert.Kernel4.main_arg13)
      ∧ r.2.mem ((c.tc : Thread Cert.Kernel4.nD Cert.Kernel4.τ).loc Cert.Kernel4.main_arg14) = m ((c.tc : Thread Cert.Kernel4.nD Cert.Kernel4.τ).loc Cert.Kernel4.main_arg14)
      ∧ r.2.mem ((c.tc : Thread Cert.Kernel4.nD Cert.Kernel4.τ).loc Cert.Kernel4.main_arg15) = m ((c.tc : Thread Cert.Kernel4.nD Cert.Kernel4.τ).loc Cert.Kernel4.main_arg15)
      ∧ r.2.mem ((c.tc : Thread Cert.Kernel4.nD Cert.Kernel4.τ).loc Cert.Kernel4.main_arg16) = m ((c.tc : Thread Cert.Kernel4.nD Cert.Kernel4.τ).loc Cert.Kernel4.main_arg16)
      ∧ r.2.mem ((c.tc : Thread Cert.Kernel4.nD Cert.Kernel4.τ).loc Cert.Kernel4.main_arg17) = m ((c.tc : Thread Cert.Kernel4.nD Cert.Kernel4.τ).loc Cert.Kernel4.main_arg17)
      ∧ r.2.mem ((c.tc : Thread Cert.Kernel4.nD Cert.Kernel4.τ).loc Cert.Kernel4.main_arg18) = m ((c.tc : Thread Cert.Kernel4.nD Cert.Kernel4.τ).loc Cert.Kernel4.main_arg18)
      ∧ r.2.mem ((c.tc : Thread Cert.Kernel4.nD Cert.Kernel4.τ).loc Cert.Kernel4.main_arg19) = m ((c.tc : Thread Cert.Kernel4.nD Cert.Kernel4.τ).loc Cert.Kernel4.main_arg19)
      ∧ r.2.mem ((c.tc : Thread Cert.Kernel4.nD Cert.Kernel4.τ).loc Cert.Kernel4.main_arg20) = m ((c.tc : Thread Cert.Kernel4.nD Cert.Kernel4.τ).loc Cert.Kernel4.main_arg20)
      ∧ r.2.mem ((c.tc : Thread Cert.Kernel4.nD Cert.Kernel4.τ).loc Cert.Kernel4.main_arg21) = m ((c.tc : Thread Cert.Kernel4.nD Cert.Kernel4.τ).loc Cert.Kernel4.main_arg21)
      ∧ r.2.mem ((c.tc : Thread Cert.Kernel4.nD Cert.Kernel4.τ).loc Cert.Kernel4.main_arg22) = m ((c.tc : Thread Cert.Kernel4.nD Cert.Kernel4.τ).loc Cert.Kernel4.main_arg22)
      ∧ r.2.mem ((c.tc : Thread Cert.Kernel4.nD Cert.Kernel4.τ).loc Cert.Kernel4.main_arg23) = m ((c.tc : Thread Cert.Kernel4.nD Cert.Kernel4.τ).loc Cert.Kernel4.main_arg23)
      ∧ r.2.mem ((c.tc : Thread Cert.Kernel4.nD Cert.Kernel4.τ).loc Cert.Kernel4.main_arg24) = m ((c.tc : Thread Cert.Kernel4.nD Cert.Kernel4.τ).loc Cert.Kernel4.main_arg24)
      ∧ r.2.mem ((c.tc : Thread Cert.Kernel4.nD Cert.Kernel4.τ).loc Cert.Kernel4.main_arg25) = m ((c.tc : Thread Cert.Kernel4.nD Cert.Kernel4.τ).loc Cert.Kernel4.main_arg25)
      ∧ r.2.mem ((c.tc : Thread Cert.Kernel4.nD Cert.Kernel4.τ).loc Cert.Kernel4.main_arg26) = m ((c.tc : Thread Cert.Kernel4.nD Cert.Kernel4.τ).loc Cert.Kernel4.main_arg26)
      ∧ r.2.mem ((c.tc : Thread Cert.Kernel4.nD Cert.Kernel4.τ).loc Cert.Kernel4.main_arg27) = m ((c.tc : Thread Cert.Kernel4.nD Cert.Kernel4.τ).loc Cert.Kernel4.main_arg27))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
      ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14)
      ∧ r.2.mem ((c.tc : Thread Cert.Kernel4Ideal.nD Cert.Kernel4Ideal.τ).loc Cert.Kernel4Ideal.main_arg15) = m ((c.tc : Thread Cert.Kernel4Ideal.nD Cert.Kernel4Ideal.τ).loc Cert.Kernel4Ideal.main_arg15)
      ∧ r.2.mem ((c.tc : Thread Cert.Kernel4Ideal.nD Cert.Kernel4Ideal.τ).loc Cert.Kernel4Ideal.main_arg16) = m ((c.tc : Thread Cert.Kernel4Ideal.nD Cert.Kernel4Ideal.τ).loc Cert.Kernel4Ideal.main_arg16)
      ∧ r.2.mem ((c.tc : Thread Cert.Kernel4Ideal.nD Cert.Kernel4Ideal.τ).loc Cert.Kernel4Ideal.main_arg17) = m ((c.tc : Thread Cert.Kernel4Ideal.nD Cert.Kernel4Ideal.τ).loc Cert.Kernel4Ideal.main_arg17)
      ∧ r.2.mem ((c.tc : Thread Cert.Kernel4Ideal.nD Cert.Kernel4Ideal.τ).loc Cert.Kernel4Ideal.main_arg18) = m ((c.tc : Thread Cert.Kernel4Ideal.nD Cert.Kernel4Ideal.τ).loc Cert.Kernel4Ideal.main_arg18)
      ∧ r.2.mem ((c.tc : Thread Cert.Kernel4Ideal.nD Cert.Kernel4Ideal.τ).loc Cert.Kernel4Ideal.main_arg19) = m ((c.tc : Thread Cert.Kernel4Ideal.nD Cert.Kernel4Ideal.τ).loc Cert.Kernel4Ideal.main_arg19)
      ∧ r.2.mem ((c.tc : Thread Cert.Kernel4Ideal.nD Cert.Kernel4Ideal.τ).loc Cert.Kernel4Ideal.main_arg20) = m ((c.tc : Thread Cert.Kernel4Ideal.nD Cert.Kernel4Ideal.τ).loc Cert.Kernel4Ideal.main_arg20)
      ∧ r.2.mem ((c.tc : Thread Cert.Kernel4Ideal.nD Cert.Kernel4Ideal.τ).loc Cert.Kernel4Ideal.main_arg21) = m ((c.tc : Thread Cert.Kernel4Ideal.nD Cert.Kernel4Ideal.τ).loc Cert.Kernel4Ideal.main_arg21)
      ∧ r.2.mem ((c.tc : Thread Cert.Kernel4Ideal.nD Cert.Kernel4Ideal.τ).loc Cert.Kernel4Ideal.main_arg22) = m ((c.tc : Thread Cert.Kernel4Ideal.nD Cert.Kernel4Ideal.τ).loc Cert.Kernel4Ideal.main_arg22)
      ∧ r.2.mem ((c.tc : Thread Cert.Kernel4Ideal.nD Cert.Kernel4Ideal.τ).loc Cert.Kernel4Ideal.main_arg23) = m ((c.tc : Thread Cert.Kernel4Ideal.nD Cert.Kernel4Ideal.τ).loc Cert.Kernel4Ideal.main_arg23)
      ∧ r.2.mem ((c.tc : Thread Cert.Kernel4Ideal.nD Cert.Kernel4Ideal.τ).loc Cert.Kernel4Ideal.main_arg24) = m ((c.tc : Thread Cert.Kernel4Ideal.nD Cert.Kernel4Ideal.τ).loc Cert.Kernel4Ideal.main_arg24)
      ∧ r.2.mem ((c.tc : Thread Cert.Kernel4Ideal.nD Cert.Kernel4Ideal.τ).loc Cert.Kernel4Ideal.main_arg25) = m ((c.tc : Thread Cert.Kernel4Ideal.nD Cert.Kernel4Ideal.τ).loc Cert.Kernel4Ideal.main_arg25)
      ∧ r.2.mem ((c.tc : Thread Cert.Kernel4Ideal.nD Cert.Kernel4Ideal.τ).loc Cert.Kernel4Ideal.main_arg26) = m ((c.tc : Thread Cert.Kernel4Ideal.nD Cert.Kernel4Ideal.τ).loc Cert.Kernel4Ideal.main_arg26)
      ∧ r.2.mem ((c.tc : Thread Cert.Kernel4Ideal.nD Cert.Kernel4Ideal.τ).loc Cert.Kernel4Ideal.main_arg27) = m ((c.tc : Thread Cert.Kernel4Ideal.nD Cert.Kernel4Ideal.τ).loc Cert.Kernel4Ideal.main_arg27))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12)
      ∧ r.2.mem ((c.tc : Thread Cert.Reference4Ideal.nD Cert.Reference4Ideal.τ).loc Cert.Reference4Ideal.main_arg13) = m ((c.tc : Thread Cert.Reference4Ideal.nD Cert.Reference4Ideal.τ).loc Cert.Reference4Ideal.main_arg13)
      ∧ r.2.mem ((c.tc : Thread Cert.Reference4Ideal.nD Cert.Reference4Ideal.τ).loc Cert.Reference4Ideal.main_arg14) = m ((c.tc : Thread Cert.Reference4Ideal.nD Cert.Reference4Ideal.τ).loc Cert.Reference4Ideal.main_arg14)
      ∧ r.2.mem ((c.tc : Thread Cert.Reference4Ideal.nD Cert.Reference4Ideal.τ).loc Cert.Reference4Ideal.main_arg15) = m ((c.tc : Thread Cert.Reference4Ideal.nD Cert.Reference4Ideal.τ).loc Cert.Reference4Ideal.main_arg15)
      ∧ r.2.mem ((c.tc : Thread Cert.Reference4Ideal.nD Cert.Reference4Ideal.τ).loc Cert.Reference4Ideal.main_arg16) = m ((c.tc : Thread Cert.Reference4Ideal.nD Cert.Reference4Ideal.τ).loc Cert.Reference4Ideal.main_arg16)
      ∧ r.2.mem ((c.tc : Thread Cert.Reference4Ideal.nD Cert.Reference4Ideal.τ).loc Cert.Reference4Ideal.main_arg17) = m ((c.tc : Thread Cert.Reference4Ideal.nD Cert.Reference4Ideal.τ).loc Cert.Reference4Ideal.main_arg17)
      ∧ r.2.mem ((c.tc : Thread Cert.Reference4Ideal.nD Cert.Reference4Ideal.τ).loc Cert.Reference4Ideal.main_arg18) = m ((c.tc : Thread Cert.Reference4Ideal.nD Cert.Reference4Ideal.τ).loc Cert.Reference4Ideal.main_arg18)
      ∧ r.2.mem ((c.tc : Thread Cert.Reference4Ideal.nD Cert.Reference4Ideal.τ).loc Cert.Reference4Ideal.main_arg19) = m ((c.tc : Thread Cert.Reference4Ideal.nD Cert.Reference4Ideal.τ).loc Cert.Reference4Ideal.main_arg19)
      ∧ r.2.mem ((c.tc : Thread Cert.Reference4Ideal.nD Cert.Reference4Ideal.τ).loc Cert.Reference4Ideal.main_arg20) = m ((c.tc : Thread Cert.Reference4Ideal.nD Cert.Reference4Ideal.τ).loc Cert.Reference4Ideal.main_arg20)
      ∧ r.2.mem ((c.tc : Thread Cert.Reference4Ideal.nD Cert.Reference4Ideal.τ).loc Cert.Reference4Ideal.main_arg21) = m ((c.tc : Thread Cert.Reference4Ideal.nD Cert.Reference4Ideal.τ).loc Cert.Reference4Ideal.main_arg21)
      ∧ r.2.mem ((c.tc : Thread Cert.Reference4Ideal.nD Cert.Reference4Ideal.τ).loc Cert.Reference4Ideal.main_arg22) = m ((c.tc : Thread Cert.Reference4Ideal.nD Cert.Reference4Ideal.τ).loc Cert.Reference4Ideal.main_arg22)
      ∧ r.2.mem ((c.tc : Thread Cert.Reference4Ideal.nD Cert.Reference4Ideal.τ).loc Cert.Reference4Ideal.main_arg23) = m ((c.tc : Thread Cert.Reference4Ideal.nD Cert.Reference4Ideal.τ).loc Cert.Reference4Ideal.main_arg23)
      ∧ r.2.mem ((c.tc : Thread Cert.Reference4Ideal.nD Cert.Reference4Ideal.τ).loc Cert.Reference4Ideal.main_arg24) = m ((c.tc : Thread Cert.Reference4Ideal.nD Cert.Reference4Ideal.τ).loc Cert.Reference4Ideal.main_arg24)
      ∧ r.2.mem ((c.tc : Thread Cert.Reference4Ideal.nD Cert.Reference4Ideal.τ).loc Cert.Reference4Ideal.main_arg25) = m ((c.tc : Thread Cert.Reference4Ideal.nD Cert.Reference4Ideal.τ).loc Cert.Reference4Ideal.main_arg25)
      ∧ r.2.mem ((c.tc : Thread Cert.Reference4Ideal.nD Cert.Reference4Ideal.τ).loc Cert.Reference4Ideal.main_arg26) = m ((c.tc : Thread Cert.Reference4Ideal.nD Cert.Reference4Ideal.τ).loc Cert.Reference4Ideal.main_arg26)
      ∧ r.2.mem ((c.tc : Thread Cert.Reference4Ideal.nD Cert.Reference4Ideal.τ).loc Cert.Reference4Ideal.main_arg27) = m ((c.tc : Thread Cert.Reference4Ideal.nD Cert.Reference4Ideal.τ).loc Cert.Reference4Ideal.main_arg27))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v19_0)) (v1 : (c : Dev Cert.KernelIdeal.nD) → Buf (Elt Ideal) ((c.tc : Thread Cert.KernelIdeal.nD Cert.KernelIdeal.τ).loc Cert.KernelIdeal.main_v19_1)) (v2 : (c : Dev Cert.KernelIdeal.nD) → Buf (Elt Ideal) ((c.tc : Thread Cert.KernelIdeal.nD Cert.KernelIdeal.τ).loc Cert.KernelIdeal.main_v13_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19_0) = v0 c
          ∧ r.2.mem ((c.tc : Thread Cert.KernelIdeal.nD Cert.KernelIdeal.τ).loc Cert.KernelIdeal.main_v19_1) = v1 c
          ∧ r.2.mem ((c.tc : Thread Cert.KernelIdeal.nD Cert.KernelIdeal.τ).loc Cert.KernelIdeal.main_v13_0) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_v66) = v1 c
          ∧ r.2.mem ((c.tc : Thread Cert.ReferenceIdeal.nD Cert.ReferenceIdeal.τ).loc Cert.ReferenceIdeal.main_v37) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)
      ∧ m' ((c.tc : Thread Cert.Reference2Ideal.nD Cert.Reference2Ideal.τ).loc Cert.Reference2Ideal.main_arg14) = m ((c.tc : Thread Cert.Kernel2Ideal.nD Cert.Kernel2Ideal.τ).loc Cert.Kernel2Ideal.main_arg14)
      ∧ m' ((c.tc : Thread Cert.Reference2Ideal.nD Cert.Reference2Ideal.τ).loc Cert.Reference2Ideal.main_arg15) = m ((c.tc : Thread Cert.Kernel2Ideal.nD Cert.Kernel2Ideal.τ).loc Cert.Kernel2Ideal.main_arg15)
      ∧ m' ((c.tc : Thread Cert.Reference2Ideal.nD Cert.Reference2Ideal.τ).loc Cert.Reference2Ideal.main_arg16) = m ((c.tc : Thread Cert.Kernel2Ideal.nD Cert.Kernel2Ideal.τ).loc Cert.Kernel2Ideal.main_arg16)) →
    ∃ (v0 : (c : Dev Cert.Kernel2Ideal.nD) → Buf (Elt Ideal) ((c.tc : Thread Cert.Kernel2Ideal.nD Cert.Kernel2Ideal.τ).loc Cert.Kernel2Ideal.main_v8_4)) (v1 : (c : Dev Cert.Kernel2Ideal.nD) → Buf (Elt Ideal) ((c.tc : Thread Cert.Kernel2Ideal.nD Cert.Kernel2Ideal.τ).loc Cert.Kernel2Ideal.main_v17_0)) (v2 : (c : Dev Cert.Kernel2Ideal.nD) → Buf (Elt Ideal) ((c.tc : Thread Cert.Kernel2Ideal.nD Cert.Kernel2Ideal.τ).loc Cert.Kernel2Ideal.main_v18)) (v3 : (c : Dev Cert.Kernel2Ideal.nD) → Buf (Elt Ideal) ((c.tc : Thread Cert.Kernel2Ideal.nD Cert.Kernel2Ideal.τ).loc Cert.Kernel2Ideal.main_v15_0)) (v4 : (c : Dev Cert.Kernel2Ideal.nD) → Buf (Elt Ideal) ((c.tc : Thread Cert.Kernel2Ideal.nD Cert.Kernel2Ideal.τ).loc Cert.Kernel2Ideal.main_v17_4)) (v5 : (c : Dev Cert.Kernel2Ideal.nD) → Buf (Elt Ideal) ((c.tc : Thread Cert.Kernel2Ideal.nD Cert.Kernel2Ideal.τ).loc Cert.Kernel2Ideal.main_v17_5)) (v6 : (c : Dev Cert.Kernel2Ideal.nD) → Buf (Elt Ideal) ((c.tc : Thread Cert.Kernel2Ideal.nD Cert.Kernel2Ideal.τ).loc Cert.Kernel2Ideal.main_v16)) (v7 : (c : Dev Cert.Kernel2Ideal.nD) → Buf (Elt Ideal) ((c.tc : Thread Cert.Kernel2Ideal.nD Cert.Kernel2Ideal.τ).loc Cert.Kernel2Ideal.main_v15_3)) (v8 : (c : Dev Cert.Kernel2Ideal.nD) → Buf (Elt Ideal) ((c.tc : Thread Cert.Kernel2Ideal.nD Cert.Kernel2Ideal.τ).loc Cert.Kernel2Ideal.main_v15_2)) (v9 : (c : Dev Cert.Kernel2Ideal.nD) → Buf (Elt Ideal) ((c.tc : Thread Cert.Kernel2Ideal.nD Cert.Kernel2Ideal.τ).loc Cert.Kernel2Ideal.main_v14)) (v10 : (c : Dev Cert.Kernel2Ideal.nD) → Buf (Elt Ideal) ((c.tc : Thread Cert.Kernel2Ideal.nD Cert.Kernel2Ideal.τ).loc Cert.Kernel2Ideal.main_v11)) (v11 : (c : Dev Cert.Kernel2Ideal.nD) → Buf (Elt Ideal) ((c.tc : Thread Cert.Kernel2Ideal.nD Cert.Kernel2Ideal.τ).loc Cert.Kernel2Ideal.main_v8_6)) (v12 : (c : Dev Cert.Kernel2Ideal.nD) → Buf (Elt Ideal) ((c.tc : Thread Cert.Kernel2Ideal.nD Cert.Kernel2Ideal.τ).loc Cert.Kernel2Ideal.main_v8_5)) (v13 : (c : Dev Cert.Kernel2Ideal.nD) → Buf (Elt Ideal) ((c.tc : Thread Cert.Kernel2Ideal.nD Cert.Kernel2Ideal.τ).loc Cert.Kernel2Ideal.main_v9)) (v14 : (c : Dev Cert.Kernel2Ideal.nD) → Buf (Elt Ideal) ((c.tc : Thread Cert.Kernel2Ideal.nD Cert.Kernel2Ideal.τ).loc Cert.Kernel2Ideal.main_v10)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8_4) = v0 c
          ∧ r.2.mem ((c.tc : Thread Cert.Kernel2Ideal.nD Cert.Kernel2Ideal.τ).loc Cert.Kernel2Ideal.main_v17_0) = v1 c
          ∧ r.2.mem ((c.tc : Thread Cert.Kernel2Ideal.nD Cert.Kernel2Ideal.τ).loc Cert.Kernel2Ideal.main_v18) = v2 c
          ∧ r.2.mem ((c.tc : Thread Cert.Kernel2Ideal.nD Cert.Kernel2Ideal.τ).loc Cert.Kernel2Ideal.main_v15_0) = v3 c
          ∧ r.2.mem ((c.tc : Thread Cert.Kernel2Ideal.nD Cert.Kernel2Ideal.τ).loc Cert.Kernel2Ideal.main_v17_4) = v4 c
          ∧ r.2.mem ((c.tc : Thread Cert.Kernel2Ideal.nD Cert.Kernel2Ideal.τ).loc Cert.Kernel2Ideal.main_v17_5) = v5 c
          ∧ r.2.mem ((c.tc : Thread Cert.Kernel2Ideal.nD Cert.Kernel2Ideal.τ).loc Cert.Kernel2Ideal.main_v16) = v6 c
          ∧ r.2.mem ((c.tc : Thread Cert.Kernel2Ideal.nD Cert.Kernel2Ideal.τ).loc Cert.Kernel2Ideal.main_v15_3) = v7 c
          ∧ r.2.mem ((c.tc : Thread Cert.Kernel2Ideal.nD Cert.Kernel2Ideal.τ).loc Cert.Kernel2Ideal.main_v15_2) = v8 c
          ∧ r.2.mem ((c.tc : Thread Cert.Kernel2Ideal.nD Cert.Kernel2Ideal.τ).loc Cert.Kernel2Ideal.main_v14) = v9 c
          ∧ r.2.mem ((c.tc : Thread Cert.Kernel2Ideal.nD Cert.Kernel2Ideal.τ).loc Cert.Kernel2Ideal.main_v11) = v10 c
          ∧ r.2.mem ((c.tc : Thread Cert.Kernel2Ideal.nD Cert.Kernel2Ideal.τ).loc Cert.Kernel2Ideal.main_v8_6) = v11 c
          ∧ r.2.mem ((c.tc : Thread Cert.Kernel2Ideal.nD Cert.Kernel2Ideal.τ).loc Cert.Kernel2Ideal.main_v8_5) = v12 c
          ∧ r.2.mem ((c.tc : Thread Cert.Kernel2Ideal.nD Cert.Kernel2Ideal.τ).loc Cert.Kernel2Ideal.main_v9) = v13 c
          ∧ r.2.mem ((c.tc : Thread Cert.Kernel2Ideal.nD Cert.Kernel2Ideal.τ).loc Cert.Kernel2Ideal.main_v10) = v14 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
          ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
          ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15)
          ∧ r.2.mem ((c.tc : Thread Cert.Kernel2Ideal.nD Cert.Kernel2Ideal.τ).loc Cert.Kernel2Ideal.main_arg16) = m ((c.tc : Thread Cert.Kernel2Ideal.nD Cert.Kernel2Ideal.τ).loc Cert.Kernel2Ideal.main_arg16))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v125) = v0 c
          ∧ r.2.mem ((c.tc : Thread Cert.Reference2Ideal.nD Cert.Reference2Ideal.τ).loc Cert.Reference2Ideal.main_v269) = v1 c
          ∧ r.2.mem ((c.tc : Thread Cert.Reference2Ideal.nD Cert.Reference2Ideal.τ).loc Cert.Reference2Ideal.main_v250) = v2 c
          ∧ r.2.mem ((c.tc : Thread Cert.Reference2Ideal.nD Cert.Reference2Ideal.τ).loc Cert.Reference2Ideal.main_v207) = v3 c
          ∧ r.2.mem ((c.tc : Thread Cert.Reference2Ideal.nD Cert.Reference2Ideal.τ).loc Cert.Reference2Ideal.main_v253) = v4 c
          ∧ r.2.mem ((c.tc : Thread Cert.Reference2Ideal.nD Cert.Reference2Ideal.τ).loc Cert.Reference2Ideal.main_v234) = v5 c
          ∧ r.2.mem ((c.tc : Thread Cert.Reference2Ideal.nD Cert.Reference2Ideal.τ).loc Cert.Reference2Ideal.main_v228) = v6 c
          ∧ r.2.mem ((c.tc : Thread Cert.Reference2Ideal.nD Cert.Reference2Ideal.τ).loc Cert.Reference2Ideal.main_v210) = v7 c
          ∧ r.2.mem ((c.tc : Thread Cert.Reference2Ideal.nD Cert.Reference2Ideal.τ).loc Cert.Reference2Ideal.main_v190) = v8 c
          ∧ r.2.mem ((c.tc : Thread Cert.Reference2Ideal.nD Cert.Reference2Ideal.τ).loc Cert.Reference2Ideal.main_v186) = v9 c
          ∧ r.2.mem ((c.tc : Thread Cert.Reference2Ideal.nD Cert.Reference2Ideal.τ).loc Cert.Reference2Ideal.main_v180) = v10 c
          ∧ r.2.mem ((c.tc : Thread Cert.Reference2Ideal.nD Cert.Reference2Ideal.τ).loc Cert.Reference2Ideal.main_v162) = v11 c
          ∧ r.2.mem ((c.tc : Thread Cert.Reference2Ideal.nD Cert.Reference2Ideal.τ).loc Cert.Reference2Ideal.main_v142) = v12 c
          ∧ r.2.mem ((c.tc : Thread Cert.Reference2Ideal.nD Cert.Reference2Ideal.τ).loc Cert.Reference2Ideal.main_v138) = v13 c
          ∧ r.2.mem ((c.tc : Thread Cert.Reference2Ideal.nD Cert.Reference2Ideal.τ).loc Cert.Reference2Ideal.main_v135) = v14 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13)
          ∧ r.2.mem ((c.tc : Thread Cert.Reference2Ideal.nD Cert.Reference2Ideal.τ).loc Cert.Reference2Ideal.main_arg14) = m' ((c.tc : Thread Cert.Reference2Ideal.nD Cert.Reference2Ideal.τ).loc Cert.Reference2Ideal.main_arg14)
          ∧ r.2.mem ((c.tc : Thread Cert.Reference2Ideal.nD Cert.Reference2Ideal.τ).loc Cert.Reference2Ideal.main_arg15) = m' ((c.tc : Thread Cert.Reference2Ideal.nD Cert.Reference2Ideal.τ).loc Cert.Reference2Ideal.main_arg15)
          ∧ r.2.mem ((c.tc : Thread Cert.Reference2Ideal.nD Cert.Reference2Ideal.τ).loc Cert.Reference2Ideal.main_arg16) = m' ((c.tc : Thread Cert.Reference2Ideal.nD Cert.Reference2Ideal.τ).loc Cert.Reference2Ideal.main_arg16))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v18)) (v1 : (c : Dev Cert.Kernel3Ideal.nD) → Buf (Elt Ideal) ((c.tc : Thread Cert.Kernel3Ideal.nD Cert.Kernel3Ideal.τ).loc Cert.Kernel3Ideal.main_v19)) (v2 : (c : Dev Cert.Kernel3Ideal.nD) → Buf (Elt Ideal) ((c.tc : Thread Cert.Kernel3Ideal.nD Cert.Kernel3Ideal.τ).loc Cert.Kernel3Ideal.main_v20)) (v3 : (c : Dev Cert.Kernel3Ideal.nD) → Buf (Elt Ideal) ((c.tc : Thread Cert.Kernel3Ideal.nD Cert.Kernel3Ideal.τ).loc Cert.Kernel3Ideal.main_v21)) (v4 : (c : Dev Cert.Kernel3Ideal.nD) → Buf (Elt Ideal) ((c.tc : Thread Cert.Kernel3Ideal.nD Cert.Kernel3Ideal.τ).loc Cert.Kernel3Ideal.main_v22)) (v5 : (c : Dev Cert.Kernel3Ideal.nD) → Buf (Elt Ideal) ((c.tc : Thread Cert.Kernel3Ideal.nD Cert.Kernel3Ideal.τ).loc Cert.Kernel3Ideal.main_v23)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v18) = v0 c
          ∧ r.2.mem ((c.tc : Thread Cert.Kernel3Ideal.nD Cert.Kernel3Ideal.τ).loc Cert.Kernel3Ideal.main_v19) = v1 c
          ∧ r.2.mem ((c.tc : Thread Cert.Kernel3Ideal.nD Cert.Kernel3Ideal.τ).loc Cert.Kernel3Ideal.main_v20) = v2 c
          ∧ r.2.mem ((c.tc : Thread Cert.Kernel3Ideal.nD Cert.Kernel3Ideal.τ).loc Cert.Kernel3Ideal.main_v21) = v3 c
          ∧ r.2.mem ((c.tc : Thread Cert.Kernel3Ideal.nD Cert.Kernel3Ideal.τ).loc Cert.Kernel3Ideal.main_v22) = v4 c
          ∧ r.2.mem ((c.tc : Thread Cert.Kernel3Ideal.nD Cert.Kernel3Ideal.τ).loc Cert.Kernel3Ideal.main_v23) = v5 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v14) = v0 c
          ∧ r.2.mem ((c.tc : Thread Cert.Reference3Ideal.nD Cert.Reference3Ideal.τ).loc Cert.Reference3Ideal.main_v97) = v1 c
          ∧ r.2.mem ((c.tc : Thread Cert.Reference3Ideal.nD Cert.Reference3Ideal.τ).loc Cert.Reference3Ideal.main_v94) = v2 c
          ∧ r.2.mem ((c.tc : Thread Cert.Reference3Ideal.nD Cert.Reference3Ideal.τ).loc Cert.Reference3Ideal.main_v99) = v3 c
          ∧ r.2.mem ((c.tc : Thread Cert.Reference3Ideal.nD Cert.Reference3Ideal.τ).loc Cert.Reference3Ideal.main_v32) = v4 c
          ∧ r.2.mem ((c.tc : Thread Cert.Reference3Ideal.nD Cert.Reference3Ideal.τ).loc Cert.Reference3Ideal.main_v33) = v5 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)
      ∧ m' ((c.tc : Thread Cert.Reference4Ideal.nD Cert.Reference4Ideal.τ).loc Cert.Reference4Ideal.main_arg13) = m ((c.tc : Thread Cert.Kernel4Ideal.nD Cert.Kernel4Ideal.τ).loc Cert.Kernel4Ideal.main_arg13)
      ∧ m' ((c.tc : Thread Cert.Reference4Ideal.nD Cert.Reference4Ideal.τ).loc Cert.Reference4Ideal.main_arg14) = m ((c.tc : Thread Cert.Kernel4Ideal.nD Cert.Kernel4Ideal.τ).loc Cert.Kernel4Ideal.main_arg14)
      ∧ m' ((c.tc : Thread Cert.Reference4Ideal.nD Cert.Reference4Ideal.τ).loc Cert.Reference4Ideal.main_arg15) = m ((c.tc : Thread Cert.Kernel4Ideal.nD Cert.Kernel4Ideal.τ).loc Cert.Kernel4Ideal.main_arg15)
      ∧ m' ((c.tc : Thread Cert.Reference4Ideal.nD Cert.Reference4Ideal.τ).loc Cert.Reference4Ideal.main_arg16) = m ((c.tc : Thread Cert.Kernel4Ideal.nD Cert.Kernel4Ideal.τ).loc Cert.Kernel4Ideal.main_arg16)
      ∧ m' ((c.tc : Thread Cert.Reference4Ideal.nD Cert.Reference4Ideal.τ).loc Cert.Reference4Ideal.main_arg17) = m ((c.tc : Thread Cert.Kernel4Ideal.nD Cert.Kernel4Ideal.τ).loc Cert.Kernel4Ideal.main_arg17)
      ∧ m' ((c.tc : Thread Cert.Reference4Ideal.nD Cert.Reference4Ideal.τ).loc Cert.Reference4Ideal.main_arg18) = m ((c.tc : Thread Cert.Kernel4Ideal.nD Cert.Kernel4Ideal.τ).loc Cert.Kernel4Ideal.main_arg18)
      ∧ m' ((c.tc : Thread Cert.Reference4Ideal.nD Cert.Reference4Ideal.τ).loc Cert.Reference4Ideal.main_arg19) = m ((c.tc : Thread Cert.Kernel4Ideal.nD Cert.Kernel4Ideal.τ).loc Cert.Kernel4Ideal.main_arg19)
      ∧ m' ((c.tc : Thread Cert.Reference4Ideal.nD Cert.Reference4Ideal.τ).loc Cert.Reference4Ideal.main_arg20) = m ((c.tc : Thread Cert.Kernel4Ideal.nD Cert.Kernel4Ideal.τ).loc Cert.Kernel4Ideal.main_arg20)
      ∧ m' ((c.tc : Thread Cert.Reference4Ideal.nD Cert.Reference4Ideal.τ).loc Cert.Reference4Ideal.main_arg21) = m ((c.tc : Thread Cert.Kernel4Ideal.nD Cert.Kernel4Ideal.τ).loc Cert.Kernel4Ideal.main_arg21)
      ∧ m' ((c.tc : Thread Cert.Reference4Ideal.nD Cert.Reference4Ideal.τ).loc Cert.Reference4Ideal.main_arg22) = m ((c.tc : Thread Cert.Kernel4Ideal.nD Cert.Kernel4Ideal.τ).loc Cert.Kernel4Ideal.main_arg22)
      ∧ m' ((c.tc : Thread Cert.Reference4Ideal.nD Cert.Reference4Ideal.τ).loc Cert.Reference4Ideal.main_arg23) = m ((c.tc : Thread Cert.Kernel4Ideal.nD Cert.Kernel4Ideal.τ).loc Cert.Kernel4Ideal.main_arg23)
      ∧ m' ((c.tc : Thread Cert.Reference4Ideal.nD Cert.Reference4Ideal.τ).loc Cert.Reference4Ideal.main_arg24) = m ((c.tc : Thread Cert.Kernel4Ideal.nD Cert.Kernel4Ideal.τ).loc Cert.Kernel4Ideal.main_arg24)
      ∧ m' ((c.tc : Thread Cert.Reference4Ideal.nD Cert.Reference4Ideal.τ).loc Cert.Reference4Ideal.main_arg25) = m ((c.tc : Thread Cert.Kernel4Ideal.nD Cert.Kernel4Ideal.τ).loc Cert.Kernel4Ideal.main_arg25)
      ∧ m' ((c.tc : Thread Cert.Reference4Ideal.nD Cert.Reference4Ideal.τ).loc Cert.Reference4Ideal.main_arg26) = m ((c.tc : Thread Cert.Kernel4Ideal.nD Cert.Kernel4Ideal.τ).loc Cert.Kernel4Ideal.main_arg26)
      ∧ m' ((c.tc : Thread Cert.Reference4Ideal.nD Cert.Reference4Ideal.τ).loc Cert.Reference4Ideal.main_arg27) = m ((c.tc : Thread Cert.Kernel4Ideal.nD Cert.Kernel4Ideal.τ).loc Cert.Kernel4Ideal.main_arg27)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)) (v2 : (c : Dev Cert.Kernel4Ideal.nD) → Buf (Elt Ideal) ((c.tc : Thread Cert.Kernel4Ideal.nD Cert.Kernel4Ideal.τ).loc Cert.Kernel4Ideal.main_v0_2)) (v3 : (c : Dev Cert.Kernel4Ideal.nD) → Buf (Elt Ideal) ((c.tc : Thread Cert.Kernel4Ideal.nD Cert.Kernel4Ideal.τ).loc Cert.Kernel4Ideal.main_v1_0)) (v4 : (c : Dev Cert.Kernel4Ideal.nD) → Buf (Elt Ideal) ((c.tc : Thread Cert.Kernel4Ideal.nD Cert.Kernel4Ideal.τ).loc Cert.Kernel4Ideal.main_v1_1)) (v5 : (c : Dev Cert.Kernel4Ideal.nD) → Buf (Elt Ideal) ((c.tc : Thread Cert.Kernel4Ideal.nD Cert.Kernel4Ideal.τ).loc Cert.Kernel4Ideal.main_v1_2)) (v6 : (c : Dev Cert.Kernel4Ideal.nD) → Buf (Elt Ideal) ((c.tc : Thread Cert.Kernel4Ideal.nD Cert.Kernel4Ideal.τ).loc Cert.Kernel4Ideal.main_v2_0)) (v7 : (c : Dev Cert.Kernel4Ideal.nD) → Buf (Elt Ideal) ((c.tc : Thread Cert.Kernel4Ideal.nD Cert.Kernel4Ideal.τ).loc Cert.Kernel4Ideal.main_v2_1)) (v8 : (c : Dev Cert.Kernel4Ideal.nD) → Buf (Elt Ideal) ((c.tc : Thread Cert.Kernel4Ideal.nD Cert.Kernel4Ideal.τ).loc Cert.Kernel4Ideal.main_v2_2)) (v9 : (c : Dev Cert.Kernel4Ideal.nD) → Buf (Elt Ideal) ((c.tc : Thread Cert.Kernel4Ideal.nD Cert.Kernel4Ideal.τ).loc Cert.Kernel4Ideal.main_v3_0)) (v10 : (c : Dev Cert.Kernel4Ideal.nD) → Buf (Elt Ideal) ((c.tc : Thread Cert.Kernel4Ideal.nD Cert.Kernel4Ideal.τ).loc Cert.Kernel4Ideal.main_v3_1)) (v11 : (c : Dev Cert.Kernel4Ideal.nD) → Buf (Elt Ideal) ((c.tc : Thread Cert.Kernel4Ideal.nD Cert.Kernel4Ideal.τ).loc Cert.Kernel4Ideal.main_v3_2)) (v12 : (c : Dev Cert.Kernel4Ideal.nD) → Buf (Elt Ideal) ((c.tc : Thread Cert.Kernel4Ideal.nD Cert.Kernel4Ideal.τ).loc Cert.Kernel4Ideal.main_v4_0)) (v13 : (c : Dev Cert.Kernel4Ideal.nD) → Buf (Elt Ideal) ((c.tc : Thread Cert.Kernel4Ideal.nD Cert.Kernel4Ideal.τ).loc Cert.Kernel4Ideal.main_v4_1)) (v14 : (c : Dev Cert.Kernel4Ideal.nD) → Buf (Elt Ideal) ((c.tc : Thread Cert.Kernel4Ideal.nD Cert.Kernel4Ideal.τ).loc Cert.Kernel4Ideal.main_v4_2)) (v15 : (c : Dev Cert.Kernel4Ideal.nD) → Buf (Elt Ideal) ((c.tc : Thread Cert.Kernel4Ideal.nD Cert.Kernel4Ideal.τ).loc Cert.Kernel4Ideal.main_v5_0)) (v16 : (c : Dev Cert.Kernel4Ideal.nD) → Buf (Elt Ideal) ((c.tc : Thread Cert.Kernel4Ideal.nD Cert.Kernel4Ideal.τ).loc Cert.Kernel4Ideal.main_v5_1)) (v17 : (c : Dev Cert.Kernel4Ideal.nD) → Buf (Elt Ideal) ((c.tc : Thread Cert.Kernel4Ideal.nD Cert.Kernel4Ideal.τ).loc Cert.Kernel4Ideal.main_v5_2)) (v18 : (c : Dev Cert.Kernel4Ideal.nD) → Buf (Elt Ideal) ((c.tc : Thread Cert.Kernel4Ideal.nD Cert.Kernel4Ideal.τ).loc Cert.Kernel4Ideal.main_v6_0)) (v19 : (c : Dev Cert.Kernel4Ideal.nD) → Buf (Elt Ideal) ((c.tc : Thread Cert.Kernel4Ideal.nD Cert.Kernel4Ideal.τ).loc Cert.Kernel4Ideal.main_v6_1)) (v20 : (c : Dev Cert.Kernel4Ideal.nD) → Buf (Elt Ideal) ((c.tc : Thread Cert.Kernel4Ideal.nD Cert.Kernel4Ideal.τ).loc Cert.Kernel4Ideal.main_v6_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_v0_2) = v2 c
          ∧ r.2.mem ((c.tc : Thread Cert.Kernel4Ideal.nD Cert.Kernel4Ideal.τ).loc Cert.Kernel4Ideal.main_v1_0) = v3 c
          ∧ r.2.mem ((c.tc : Thread Cert.Kernel4Ideal.nD Cert.Kernel4Ideal.τ).loc Cert.Kernel4Ideal.main_v1_1) = v4 c
          ∧ r.2.mem ((c.tc : Thread Cert.Kernel4Ideal.nD Cert.Kernel4Ideal.τ).loc Cert.Kernel4Ideal.main_v1_2) = v5 c
          ∧ r.2.mem ((c.tc : Thread Cert.Kernel4Ideal.nD Cert.Kernel4Ideal.τ).loc Cert.Kernel4Ideal.main_v2_0) = v6 c
          ∧ r.2.mem ((c.tc : Thread Cert.Kernel4Ideal.nD Cert.Kernel4Ideal.τ).loc Cert.Kernel4Ideal.main_v2_1) = v7 c
          ∧ r.2.mem ((c.tc : Thread Cert.Kernel4Ideal.nD Cert.Kernel4Ideal.τ).loc Cert.Kernel4Ideal.main_v2_2) = v8 c
          ∧ r.2.mem ((c.tc : Thread Cert.Kernel4Ideal.nD Cert.Kernel4Ideal.τ).loc Cert.Kernel4Ideal.main_v3_0) = v9 c
          ∧ r.2.mem ((c.tc : Thread Cert.Kernel4Ideal.nD Cert.Kernel4Ideal.τ).loc Cert.Kernel4Ideal.main_v3_1) = v10 c
          ∧ r.2.mem ((c.tc : Thread Cert.Kernel4Ideal.nD Cert.Kernel4Ideal.τ).loc Cert.Kernel4Ideal.main_v3_2) = v11 c
          ∧ r.2.mem ((c.tc : Thread Cert.Kernel4Ideal.nD Cert.Kernel4Ideal.τ).loc Cert.Kernel4Ideal.main_v4_0) = v12 c
          ∧ r.2.mem ((c.tc : Thread Cert.Kernel4Ideal.nD Cert.Kernel4Ideal.τ).loc Cert.Kernel4Ideal.main_v4_1) = v13 c
          ∧ r.2.mem ((c.tc : Thread Cert.Kernel4Ideal.nD Cert.Kernel4Ideal.τ).loc Cert.Kernel4Ideal.main_v4_2) = v14 c
          ∧ r.2.mem ((c.tc : Thread Cert.Kernel4Ideal.nD Cert.Kernel4Ideal.τ).loc Cert.Kernel4Ideal.main_v5_0) = v15 c
          ∧ r.2.mem ((c.tc : Thread Cert.Kernel4Ideal.nD Cert.Kernel4Ideal.τ).loc Cert.Kernel4Ideal.main_v5_1) = v16 c
          ∧ r.2.mem ((c.tc : Thread Cert.Kernel4Ideal.nD Cert.Kernel4Ideal.τ).loc Cert.Kernel4Ideal.main_v5_2) = v17 c
          ∧ r.2.mem ((c.tc : Thread Cert.Kernel4Ideal.nD Cert.Kernel4Ideal.τ).loc Cert.Kernel4Ideal.main_v6_0) = v18 c
          ∧ r.2.mem ((c.tc : Thread Cert.Kernel4Ideal.nD Cert.Kernel4Ideal.τ).loc Cert.Kernel4Ideal.main_v6_1) = v19 c
          ∧ r.2.mem ((c.tc : Thread Cert.Kernel4Ideal.nD Cert.Kernel4Ideal.τ).loc Cert.Kernel4Ideal.main_v6_2) = v20 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
          ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
          ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14)
          ∧ r.2.mem ((c.tc : Thread Cert.Kernel4Ideal.nD Cert.Kernel4Ideal.τ).loc Cert.Kernel4Ideal.main_arg15) = m ((c.tc : Thread Cert.Kernel4Ideal.nD Cert.Kernel4Ideal.τ).loc Cert.Kernel4Ideal.main_arg15)
          ∧ r.2.mem ((c.tc : Thread Cert.Kernel4Ideal.nD Cert.Kernel4Ideal.τ).loc Cert.Kernel4Ideal.main_arg16) = m ((c.tc : Thread Cert.Kernel4Ideal.nD Cert.Kernel4Ideal.τ).loc Cert.Kernel4Ideal.main_arg16)
          ∧ r.2.mem ((c.tc : Thread Cert.Kernel4Ideal.nD Cert.Kernel4Ideal.τ).loc Cert.Kernel4Ideal.main_arg17) = m ((c.tc : Thread Cert.Kernel4Ideal.nD Cert.Kernel4Ideal.τ).loc Cert.Kernel4Ideal.main_arg17)
          ∧ r.2.mem ((c.tc : Thread Cert.Kernel4Ideal.nD Cert.Kernel4Ideal.τ).loc Cert.Kernel4Ideal.main_arg18) = m ((c.tc : Thread Cert.Kernel4Ideal.nD Cert.Kernel4Ideal.τ).loc Cert.Kernel4Ideal.main_arg18)
          ∧ r.2.mem ((c.tc : Thread Cert.Kernel4Ideal.nD Cert.Kernel4Ideal.τ).loc Cert.Kernel4Ideal.main_arg19) = m ((c.tc : Thread Cert.Kernel4Ideal.nD Cert.Kernel4Ideal.τ).loc Cert.Kernel4Ideal.main_arg19)
          ∧ r.2.mem ((c.tc : Thread Cert.Kernel4Ideal.nD Cert.Kernel4Ideal.τ).loc Cert.Kernel4Ideal.main_arg20) = m ((c.tc : Thread Cert.Kernel4Ideal.nD Cert.Kernel4Ideal.τ).loc Cert.Kernel4Ideal.main_arg20)
          ∧ r.2.mem ((c.tc : Thread Cert.Kernel4Ideal.nD Cert.Kernel4Ideal.τ).loc Cert.Kernel4Ideal.main_arg21) = m ((c.tc : Thread Cert.Kernel4Ideal.nD Cert.Kernel4Ideal.τ).loc Cert.Kernel4Ideal.main_arg21)
          ∧ r.2.mem ((c.tc : Thread Cert.Kernel4Ideal.nD Cert.Kernel4Ideal.τ).loc Cert.Kernel4Ideal.main_arg22) = m ((c.tc : Thread Cert.Kernel4Ideal.nD Cert.Kernel4Ideal.τ).loc Cert.Kernel4Ideal.main_arg22)
          ∧ r.2.mem ((c.tc : Thread Cert.Kernel4Ideal.nD Cert.Kernel4Ideal.τ).loc Cert.Kernel4Ideal.main_arg23) = m ((c.tc : Thread Cert.Kernel4Ideal.nD Cert.Kernel4Ideal.τ).loc Cert.Kernel4Ideal.main_arg23)
          ∧ r.2.mem ((c.tc : Thread Cert.Kernel4Ideal.nD Cert.Kernel4Ideal.τ).loc Cert.Kernel4Ideal.main_arg24) = m ((c.tc : Thread Cert.Kernel4Ideal.nD Cert.Kernel4Ideal.τ).loc Cert.Kernel4Ideal.main_arg24)
          ∧ r.2.mem ((c.tc : Thread Cert.Kernel4Ideal.nD Cert.Kernel4Ideal.τ).loc Cert.Kernel4Ideal.main_arg25) = m ((c.tc : Thread Cert.Kernel4Ideal.nD Cert.Kernel4Ideal.τ).loc Cert.Kernel4Ideal.main_arg25)
          ∧ r.2.mem ((c.tc : Thread Cert.Kernel4Ideal.nD Cert.Kernel4Ideal.τ).loc Cert.Kernel4Ideal.main_arg26) = m ((c.tc : Thread Cert.Kernel4Ideal.nD Cert.Kernel4Ideal.τ).loc Cert.Kernel4Ideal.main_arg26)
          ∧ r.2.mem ((c.tc : Thread Cert.Kernel4Ideal.nD Cert.Kernel4Ideal.τ).loc Cert.Kernel4Ideal.main_arg27) = m ((c.tc : Thread Cert.Kernel4Ideal.nD Cert.Kernel4Ideal.τ).loc Cert.Kernel4Ideal.main_arg27))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v23) = v0 c
          ∧ r.2.mem ((c.tc : Thread Cert.Reference4Ideal.nD Cert.Reference4Ideal.τ).loc Cert.Reference4Ideal.main_v4) = v1 c
          ∧ r.2.mem ((c.tc : Thread Cert.Reference4Ideal.nD Cert.Reference4Ideal.τ).loc Cert.Reference4Ideal.main_v10) = v2 c
          ∧ r.2.mem ((c.tc : Thread Cert.Reference4Ideal.nD Cert.Reference4Ideal.τ).loc Cert.Reference4Ideal.main_v47) = v3 c
          ∧ r.2.mem ((c.tc : Thread Cert.Reference4Ideal.nD Cert.Reference4Ideal.τ).loc Cert.Reference4Ideal.main_v28) = v4 c
          ∧ r.2.mem ((c.tc : Thread Cert.Reference4Ideal.nD Cert.Reference4Ideal.τ).loc Cert.Reference4Ideal.main_v34) = v5 c
          ∧ r.2.mem ((c.tc : Thread Cert.Reference4Ideal.nD Cert.Reference4Ideal.τ).loc Cert.Reference4Ideal.main_v71) = v6 c
          ∧ r.2.mem ((c.tc : Thread Cert.Reference4Ideal.nD Cert.Reference4Ideal.τ).loc Cert.Reference4Ideal.main_v52) = v7 c
          ∧ r.2.mem ((c.tc : Thread Cert.Reference4Ideal.nD Cert.Reference4Ideal.τ).loc Cert.Reference4Ideal.main_v58) = v8 c
          ∧ r.2.mem ((c.tc : Thread Cert.Reference4Ideal.nD Cert.Reference4Ideal.τ).loc Cert.Reference4Ideal.main_v95) = v9 c
          ∧ r.2.mem ((c.tc : Thread Cert.Reference4Ideal.nD Cert.Reference4Ideal.τ).loc Cert.Reference4Ideal.main_v76) = v10 c
          ∧ r.2.mem ((c.tc : Thread Cert.Reference4Ideal.nD Cert.Reference4Ideal.τ).loc Cert.Reference4Ideal.main_v82) = v11 c
          ∧ r.2.mem ((c.tc : Thread Cert.Reference4Ideal.nD Cert.Reference4Ideal.τ).loc Cert.Reference4Ideal.main_v119) = v12 c
          ∧ r.2.mem ((c.tc : Thread Cert.Reference4Ideal.nD Cert.Reference4Ideal.τ).loc Cert.Reference4Ideal.main_v100) = v13 c
          ∧ r.2.mem ((c.tc : Thread Cert.Reference4Ideal.nD Cert.Reference4Ideal.τ).loc Cert.Reference4Ideal.main_v106) = v14 c
          ∧ r.2.mem ((c.tc : Thread Cert.Reference4Ideal.nD Cert.Reference4Ideal.τ).loc Cert.Reference4Ideal.main_v143) = v15 c
          ∧ r.2.mem ((c.tc : Thread Cert.Reference4Ideal.nD Cert.Reference4Ideal.τ).loc Cert.Reference4Ideal.main_v124) = v16 c
          ∧ r.2.mem ((c.tc : Thread Cert.Reference4Ideal.nD Cert.Reference4Ideal.τ).loc Cert.Reference4Ideal.main_v130) = v17 c
          ∧ r.2.mem ((c.tc : Thread Cert.Reference4Ideal.nD Cert.Reference4Ideal.τ).loc Cert.Reference4Ideal.main_v167) = v18 c
          ∧ r.2.mem ((c.tc : Thread Cert.Reference4Ideal.nD Cert.Reference4Ideal.τ).loc Cert.Reference4Ideal.main_v148) = v19 c
          ∧ r.2.mem ((c.tc : Thread Cert.Reference4Ideal.nD Cert.Reference4Ideal.τ).loc Cert.Reference4Ideal.main_v154) = v20 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12)
          ∧ r.2.mem ((c.tc : Thread Cert.Reference4Ideal.nD Cert.Reference4Ideal.τ).loc Cert.Reference4Ideal.main_arg13) = m' ((c.tc : Thread Cert.Reference4Ideal.nD Cert.Reference4Ideal.τ).loc Cert.Reference4Ideal.main_arg13)
          ∧ r.2.mem ((c.tc : Thread Cert.Reference4Ideal.nD Cert.Reference4Ideal.τ).loc Cert.Reference4Ideal.main_arg14) = m' ((c.tc : Thread Cert.Reference4Ideal.nD Cert.Reference4Ideal.τ).loc Cert.Reference4Ideal.main_arg14)
          ∧ r.2.mem ((c.tc : Thread Cert.Reference4Ideal.nD Cert.Reference4Ideal.τ).loc Cert.Reference4Ideal.main_arg15) = m' ((c.tc : Thread Cert.Reference4Ideal.nD Cert.Reference4Ideal.τ).loc Cert.Reference4Ideal.main_arg15)
          ∧ r.2.mem ((c.tc : Thread Cert.Reference4Ideal.nD Cert.Reference4Ideal.τ).loc Cert.Reference4Ideal.main_arg16) = m' ((c.tc : Thread Cert.Reference4Ideal.nD Cert.Reference4Ideal.τ).loc Cert.Reference4Ideal.main_arg16)
          ∧ r.2.mem ((c.tc : Thread Cert.Reference4Ideal.nD Cert.Reference4Ideal.τ).loc Cert.Reference4Ideal.main_arg17) = m' ((c.tc : Thread Cert.Reference4Ideal.nD Cert.Reference4Ideal.τ).loc Cert.Reference4Ideal.main_arg17)
          ∧ r.2.mem ((c.tc : Thread Cert.Reference4Ideal.nD Cert.Reference4Ideal.τ).loc Cert.Reference4Ideal.main_arg18) = m' ((c.tc : Thread Cert.Reference4Ideal.nD Cert.Reference4Ideal.τ).loc Cert.Reference4Ideal.main_arg18)
          ∧ r.2.mem ((c.tc : Thread Cert.Reference4Ideal.nD Cert.Reference4Ideal.τ).loc Cert.Reference4Ideal.main_arg19) = m' ((c.tc : Thread Cert.Reference4Ideal.nD Cert.Reference4Ideal.τ).loc Cert.Reference4Ideal.main_arg19)
          ∧ r.2.mem ((c.tc : Thread Cert.Reference4Ideal.nD Cert.Reference4Ideal.τ).loc Cert.Reference4Ideal.main_arg20) = m' ((c.tc : Thread Cert.Reference4Ideal.nD Cert.Reference4Ideal.τ).loc Cert.Reference4Ideal.main_arg20)
          ∧ r.2.mem ((c.tc : Thread Cert.Reference4Ideal.nD Cert.Reference4Ideal.τ).loc Cert.Reference4Ideal.main_arg21) = m' ((c.tc : Thread Cert.Reference4Ideal.nD Cert.Reference4Ideal.τ).loc Cert.Reference4Ideal.main_arg21)
          ∧ r.2.mem ((c.tc : Thread Cert.Reference4Ideal.nD Cert.Reference4Ideal.τ).loc Cert.Reference4Ideal.main_arg22) = m' ((c.tc : Thread Cert.Reference4Ideal.nD Cert.Reference4Ideal.τ).loc Cert.Reference4Ideal.main_arg22)
          ∧ r.2.mem ((c.tc : Thread Cert.Reference4Ideal.nD Cert.Reference4Ideal.τ).loc Cert.Reference4Ideal.main_arg23) = m' ((c.tc : Thread Cert.Reference4Ideal.nD Cert.Reference4Ideal.τ).loc Cert.Reference4Ideal.main_arg23)
          ∧ r.2.mem ((c.tc : Thread Cert.Reference4Ideal.nD Cert.Reference4Ideal.τ).loc Cert.Reference4Ideal.main_arg24) = m' ((c.tc : Thread Cert.Reference4Ideal.nD Cert.Reference4Ideal.τ).loc Cert.Reference4Ideal.main_arg24)
          ∧ r.2.mem ((c.tc : Thread Cert.Reference4Ideal.nD Cert.Reference4Ideal.τ).loc Cert.Reference4Ideal.main_arg25) = m' ((c.tc : Thread Cert.Reference4Ideal.nD Cert.Reference4Ideal.τ).loc Cert.Reference4Ideal.main_arg25)
          ∧ r.2.mem ((c.tc : Thread Cert.Reference4Ideal.nD Cert.Reference4Ideal.τ).loc Cert.Reference4Ideal.main_arg26) = m' ((c.tc : Thread Cert.Reference4Ideal.nD Cert.Reference4Ideal.τ).loc Cert.Reference4Ideal.main_arg26)
          ∧ r.2.mem ((c.tc : Thread Cert.Reference4Ideal.nD Cert.Reference4Ideal.τ).loc Cert.Reference4Ideal.main_arg27) = m' ((c.tc : Thread Cert.Reference4Ideal.nD Cert.Reference4Ideal.τ).loc Cert.Reference4Ideal.main_arg27))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts) (hPre_finite2 : Cert.Pre_finite2.Facts) (hPre_finite3 : Cert.Pre_finite3.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal (hKernel4Ideal := hKernel4Ideal) (hReference4Ideal := hReference4Ideal)
-- ==== Pre_finite.lean ====
abbrev S16384x512 : Shape := ⟨2, ![16384, 512]⟩
abbrev S16384x128 : Shape := ⟨2, ![16384, 128]⟩
abbrev S_ : Shape := ⟨0, ![]⟩

class Facts : Prop where
  bcast_S_S16384x512 : S_.BroadcastsInDim S16384x512 (![] : Fin 0 → Fin S16384x512.rank)
  bcast_S_S16384x128 : S_.BroadcastsInDim S16384x128 (![] : Fin 0 → Fin S16384x128.rank)

variable [Facts]

def fn {F : FTy → Type} [FloatOps F] (main_arg0 : FVec F S16384x512 .f32) (main_arg1 : FVec F S16384x128 .f32) (main_arg2 : FVec F S16384x128 .f32) (main_arg3 : FVec F S16384x512 .f32) : IVec S16384x512 1 × IVec S16384x128 1 × IVec S16384x128 1 × IVec S16384x512 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_v3 : FVec F S16384x128 .f32 := Host.absf main_arg1
  let main_cst_0 : FVec F S_ .f32 := constant S_ .f32 0x7F800000#32
  let main_v4 : FVec F S16384x128 .f32 := broadcastInDim S16384x128 ![] bcast_S_S16384x128 main_cst_0
  let main_v5 : IVec S16384x128 1 := cmpf .olt main_v3 main_v4
  let main_v6 : FVec F S16384x128 .f32 := Host.absf main_arg2
  let main_cst_1 : FVec F S_ .f32 := constant S_ .f32 0x7F800000#32
  let main_v7 : FVec F S16384x128 .f32 := broadcastInDim S16384x128 ![] bcast_S_S16384x128 main_cst_1
  let main_v8 : IVec S16384x128 1 := cmpf .olt main_v6 main_v7
  let main_v9 : FVec F S16384x512 .f32 := Host.absf main_arg3
  let main_cst_2 : FVec F S_ .f32 := constant S_ .f32 0x7F800000#32
  let main_v10 : FVec F S16384x512 .f32 := broadcastInDim S16384x512 ![] bcast_S_S16384x512 main_cst_2
  let main_v11 : IVec S16384x512 1 := cmpf .olt main_v9 main_v10
  (main_v2, main_v5, main_v8, main_v11)
-- ==== Pre_finite2.lean ====
abbrev S16384x512 : Shape := ⟨2, ![16384, 512]⟩
abbrev S16384x1024 : Shape := ⟨2, ![16384, 1024]⟩
abbrev S16384x256 : Shape := ⟨2, ![16384, 256]⟩
abbrev S1x512 : Shape := ⟨2, ![1, 512]⟩
abbrev S1024x1024 : Shape := ⟨2, ![1024, 1024]⟩
abbrev S1x1024 : Shape := ⟨2, ![1, 1024]⟩
abbrev S1024x4096 : Shape := ⟨2, ![1024, 4096]⟩
abbrev S4096x1024 : Shape := ⟨2, ![4096, 1024]⟩
abbrev S256x1024 : Shape := ⟨2, ![256, 1024]⟩
abbrev S_ : Shape := ⟨0, ![]⟩

class Facts : Prop where
  bcast_S_S16384x512 : S_.BroadcastsInDim S16384x512 (![] : Fin 0 → Fin S16384x512.rank)
  bcast_S_S16384x1024 : S_.BroadcastsInDim S16384x1024 (![] : Fin 0 → Fin S16384x1024.rank)
  bcast_S_S16384x256 : S_.BroadcastsInDim S16384x256 (![] : Fin 0 → Fin S16384x256.rank)
  bcast_S_S1x512 : S_.BroadcastsInDim S1x512 (![] : Fin 0 → Fin S1x512.rank)
  bcast_S_S1024x1024 : S_.BroadcastsInDim S1024x1024 (![] : Fin 0 → Fin S1024x1024.rank)
  bcast_S_S1x1024 : S_.BroadcastsInDim S1x1024 (![] : Fin 0 → Fin S1x1024.rank)
  bcast_S_S1024x4096 : S_.BroadcastsInDim S1024x4096 (![] : Fin 0 → Fin S1024x4096.rank)
  bcast_S_S4096x1024 : S_.BroadcastsInDim S4096x1024 (![] : Fin 0 → Fin S4096x1024.rank)
  bcast_S_S256x1024 : S_.BroadcastsInDim S256x1024 (![] : Fin 0 → Fin S256x1024.rank)

variable [Facts]

def fn_part2 {F : FTy → Type} [FloatOps F] (main_arg12 : FVec F S4096x1024 .f32) (main_arg13 : FVec F S1x1024 .f32) (main_arg14 : FVec F S1x1024 .f32) (main_arg15 : FVec F S1024x1024 .f32) (main_arg16 : FVec F S256x1024 .f32) (main_v2 : IVec S16384x512 1) (main_v5 : IVec S16384x512 1) (main_v8 : IVec S16384x1024 1) (main_v11 : IVec S16384x256 1) (main_v14 : IVec S16384x1024 1) (main_v17 : IVec S16384x512 1) (main_v20 : IVec S1x512 1) (main_v23 : IVec S1x512 1) (main_v26 : IVec S1024x1024 1) (main_v29 : IVec S1x1024 1) (main_v32 : IVec S1x1024 1) (main_v35 : IVec S1024x4096 1) : IVec S16384x512 1 × IVec S16384x512 1 × IVec S16384x1024 1 × IVec S16384x256 1 × IVec S16384x1024 1 × IVec S16384x512 1 × IVec S1x512 1 × IVec S1x512 1 × IVec S1024x1024 1 × IVec S1x1024 1 × IVec S1x1024 1 × IVec S1024x4096 1 × IVec S4096x1024 1 × IVec S1x1024 1 × IVec S1x1024 1 × IVec S1024x1024 1 × IVec S256x1024 1 :=
  let main_v36 : FVec F S4096x1024 .f32 := Host.absf main_arg12
  let main_cst_11 : FVec F S_ .f32 := constant S_ .f32 0x7F800000#32
  let main_v37 : FVec F S4096x1024 .f32 := broadcastInDim S4096x1024 ![] bcast_S_S4096x1024 main_cst_11
  let main_v38 : IVec S4096x1024 1 := cmpf .olt main_v36 main_v37
  let main_v39 : FVec F S1x1024 .f32 := Host.absf main_arg13
  let main_cst_12 : FVec F S_ .f32 := constant S_ .f32 0x7F800000#32
  let main_v40 : FVec F S1x1024 .f32 := broadcastInDim S1x1024 ![] bcast_S_S1x1024 main_cst_12
  let main_v41 : IVec S1x1024 1 := cmpf .olt main_v39 main_v40
  let main_v42 : FVec F S1x1024 .f32 := Host.absf main_arg14
  let main_cst_13 : FVec F S_ .f32 := constant S_ .f32 0x7F800000#32
  let main_v43 : FVec F S1x1024 .f32 := broadcastInDim S1x1024 ![] bcast_S_S1x1024 main_cst_13
  let main_v44 : IVec S1x1024 1 := cmpf .olt main_v42 main_v43
  let main_v45 : FVec F S1024x1024 .f32 := Host.absf main_arg15
  let main_cst_14 : FVec F S_ .f32 := constant S_ .f32 0x7F800000#32
  let main_v46 : FVec F S1024x1024 .f32 := broadcastInDim S1024x1024 ![] bcast_S_S1024x1024 main_cst_14
  let main_v47 : IVec S1024x1024 1 := cmpf .olt main_v45 main_v46
  let main_v48 : FVec F S256x1024 .f32 := Host.absf main_arg16
  let main_cst_15 : FVec F S_ .f32 := constant S_ .f32 0x7F800000#32
  let main_v49 : FVec F S256x1024 .f32 := broadcastInDim S256x1024 ![] bcast_S_S256x1024 main_cst_15
  let main_v50 : IVec S256x1024 1 := cmpf .olt main_v48 main_v49
  (main_v2, main_v5, main_v8, main_v11, main_v14, main_v17, main_v20, main_v23, main_v26, main_v29, main_v32, main_v35, main_v38, main_v41, main_v44, main_v47, main_v50)

def fn_part1 {F : FTy → Type} [FloatOps F] (main_arg6 : FVec F S1x512 .f32) (main_arg7 : FVec F S1x512 .f32) (main_arg8 : FVec F S1024x1024 .f32) (main_arg9 : FVec F S1x1024 .f32) (main_arg10 : FVec F S1x1024 .f32) (main_arg11 : FVec F S1024x4096 .f32) (main_arg12 : FVec F S4096x1024 .f32) (main_arg13 : FVec F S1x1024 .f32) (main_arg14 : FVec F S1x1024 .f32) (main_arg15 : FVec F S1024x1024 .f32) (main_arg16 : FVec F S256x1024 .f32) (main_v2 : IVec S16384x512 1) (main_v5 : IVec S16384x512 1) (main_v8 : IVec S16384x1024 1) (main_v11 : IVec S16384x256 1) (main_v14 : IVec S16384x1024 1) (main_v17 : IVec S16384x512 1) : IVec S16384x512 1 × IVec S16384x512 1 × IVec S16384x1024 1 × IVec S16384x256 1 × IVec S16384x1024 1 × IVec S16384x512 1 × IVec S1x512 1 × IVec S1x512 1 × IVec S1024x1024 1 × IVec S1x1024 1 × IVec S1x1024 1 × IVec S1024x4096 1 × IVec S4096x1024 1 × IVec S1x1024 1 × IVec S1x1024 1 × IVec S1024x1024 1 × IVec S256x1024 1 :=
  let main_v18 : FVec F S1x512 .f32 := Host.absf main_arg6
  let main_cst_5 : FVec F S_ .f32 := constant S_ .f32 0x7F800000#32
  let main_v19 : FVec F S1x512 .f32 := broadcastInDim S1x512 ![] bcast_S_S1x512 main_cst_5
  let main_v20 : IVec S1x512 1 := cmpf .olt main_v18 main_v19
  let main_v21 : FVec F S1x512 .f32 := Host.absf main_arg7
  let main_cst_6 : FVec F S_ .f32 := constant S_ .f32 0x7F800000#32
  let main_v22 : FVec F S1x512 .f32 := broadcastInDim S1x512 ![] bcast_S_S1x512 main_cst_6
  let main_v23 : IVec S1x512 1 := cmpf .olt main_v21 main_v22
  let main_v24 : FVec F S1024x1024 .f32 := Host.absf main_arg8
  let main_cst_7 : FVec F S_ .f32 := constant S_ .f32 0x7F800000#32
  let main_v25 : FVec F S1024x1024 .f32 := broadcastInDim S1024x1024 ![] bcast_S_S1024x1024 main_cst_7
  let main_v26 : IVec S1024x1024 1 := cmpf .olt main_v24 main_v25
  let main_v27 : FVec F S1x1024 .f32 := Host.absf main_arg9
  let main_cst_8 : FVec F S_ .f32 := constant S_ .f32 0x7F800000#32
  let main_v28 : FVec F S1x1024 .f32 := broadcastInDim S1x1024 ![] bcast_S_S1x1024 main_cst_8
  let main_v29 : IVec S1x1024 1 := cmpf .olt main_v27 main_v28
  let main_v30 : FVec F S1x1024 .f32 := Host.absf main_arg10
  let main_cst_9 : FVec F S_ .f32 := constant S_ .f32 0x7F800000#32
  let main_v31 : FVec F S1x1024 .f32 := broadcastInDim S1x1024 ![] bcast_S_S1x1024 main_cst_9
  let main_v32 : IVec S1x1024 1 := cmpf .olt main_v30 main_v31
  let main_v33 : FVec F S1024x4096 .f32 := Host.absf main_arg11
  let main_cst_10 : FVec F S_ .f32 := constant S_ .f32 0x7F800000#32
  let main_v34 : FVec F S1024x4096 .f32 := broadcastInDim S1024x4096 ![] bcast_S_S1024x4096 main_cst_10
  let main_v35 : IVec S1024x4096 1 := cmpf .olt main_v33 main_v34
  fn_part2 (F := F) main_arg12 main_arg13 main_arg14 main_arg15 main_arg16 main_v2 main_v5 main_v8 main_v11 main_v14 main_v17 main_v20 main_v23 main_v26 main_v29 main_v32 main_v35

def fn {F : FTy → Type} [FloatOps F] (main_arg0 : FVec F S16384x512 .f32) (main_arg1 : FVec F S16384x512 .f32) (main_arg2 : FVec F S16384x1024 .f32) (main_arg3 : FVec F S16384x256 .f32) (main_arg4 : FVec F S16384x1024 .f32) (main_arg5 : FVec F S16384x512 .f32) (main_arg6 : FVec F S1x512 .f32) (main_arg7 : FVec F S1x512 .f32) (main_arg8 : FVec F S1024x1024 .f32) (main_arg9 : FVec F S1x1024 .f32) (main_arg10 : FVec F S1x1024 .f32) (main_arg11 : FVec F S1024x4096 .f32) (main_arg12 : FVec F S4096x1024 .f32) (main_arg13 : FVec F S1x1024 .f32) (main_arg14 : FVec F S1x1024 .f32) (main_arg15 : FVec F S1024x1024 .f32) (main_arg16 : FVec F S256x1024 .f32) : IVec S16384x512 1 × IVec S16384x512 1 × IVec S16384x1024 1 × IVec S16384x256 1 × IVec S16384x1024 1 × IVec S16384x512 1 × IVec S1x512 1 × IVec S1x512 1 × IVec S1024x1024 1 × IVec S1x1024 1 × IVec S1x1024 1 × IVec S1024x4096 1 × IVec S4096x1024 1 × IVec S1x1024 1 × IVec S1x1024 1 × IVec S1024x1024 1 × IVec S256x1024 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_v3 : FVec F S16384x512 .f32 := Host.absf main_arg1
  let main_cst_0 : FVec F S_ .f32 := constant S_ .f32 0x7F800000#32
  let main_v4 : FVec F S16384x512 .f32 := broadcastInDim S16384x512 ![] bcast_S_S16384x512 main_cst_0
  let main_v5 : IVec S16384x512 1 := cmpf .olt main_v3 main_v4
  let main_v6 : FVec F S16384x1024 .f32 := Host.absf main_arg2
  let main_cst_1 : FVec F S_ .f32 := constant S_ .f32 0x7F800000#32
  let main_v7 : FVec F S16384x1024 .f32 := broadcastInDim S16384x1024 ![] bcast_S_S16384x1024 main_cst_1
  let main_v8 : IVec S16384x1024 1 := cmpf .olt main_v6 main_v7
  let main_v9 : FVec F S16384x256 .f32 := Host.absf main_arg3
  let main_cst_2 : FVec F S_ .f32 := constant S_ .f32 0x7F800000#32
  let main_v10 : FVec F S16384x256 .f32 := broadcastInDim S16384x256 ![] bcast_S_S16384x256 main_cst_2
  let main_v11 : IVec S16384x256 1 := cmpf .olt main_v9 main_v10
  let main_v12 : FVec F S16384x1024 .f32 := Host.absf main_arg4
  let main_cst_3 : FVec F S_ .f32 := constant S_ .f32 0x7F800000#32
  let main_v13 : FVec F S16384x1024 .f32 := broadcastInDim S16384x1024 ![] bcast_S_S16384x1024 main_cst_3
  let main_v14 : IVec S16384x1024 1 := cmpf .olt main_v12 main_v13
  let main_v15 : FVec F S16384x512 .f32 := Host.absf main_arg5
  let main_cst_4 : FVec F S_ .f32 := constant S_ .f32 0x7F800000#32
  let main_v16 : FVec F S16384x512 .f32 := broadcastInDim S16384x512 ![] bcast_S_S16384x512 main_cst_4
  let main_v17 : IVec S16384x512 1 := cmpf .olt main_v15 main_v16
  fn_part1 (F := F) main_arg6 main_arg7 main_arg8 main_arg9 main_arg10 main_arg11 main_arg12 main_arg13 main_arg14 main_arg15 main_arg16 main_v2 main_v5 main_v8 main_v11 main_v14 main_v17
-- ==== Pre_finite3.lean ====
abbrev S16384x1024 : Shape := ⟨2, ![16384, 1024]⟩
abbrev S1x1024 : Shape := ⟨2, ![1, 1024]⟩
abbrev S1024x2304 : Shape := ⟨2, ![1024, 2304]⟩
abbrev S1x64 : Shape := ⟨2, ![1, 64]⟩
abbrev S16384x32 : Shape := ⟨2, ![16384, 32]⟩
abbrev S16384x2304 : Shape := ⟨2, ![16384, 2304]⟩
abbrev S_ : Shape := ⟨0, ![]⟩

class Facts : Prop where
  bcast_S_S16384x1024 : S_.BroadcastsInDim S16384x1024 (![] : Fin 0 → Fin S16384x1024.rank)
  bcast_S_S1x1024 : S_.BroadcastsInDim S1x1024 (![] : Fin 0 → Fin S1x1024.rank)
  bcast_S_S1024x2304 : S_.BroadcastsInDim S1024x2304 (![] : Fin 0 → Fin S1024x2304.rank)
  bcast_S_S1x64 : S_.BroadcastsInDim S1x64 (![] : Fin 0 → Fin S1x64.rank)
  bcast_S_S16384x32 : S_.BroadcastsInDim S16384x32 (![] : Fin 0 → Fin S16384x32.rank)
  bcast_S_S16384x2304 : S_.BroadcastsInDim S16384x2304 (![] : Fin 0 → Fin S16384x2304.rank)

variable [Facts]

def fn_part1 {F : FTy → Type} [FloatOps F] (main_arg6 : FVec F S16384x32 .f32) (main_arg7 : FVec F S16384x2304 .f32) (main_v2 : IVec S16384x1024 1) (main_v5 : IVec S1x1024 1) (main_v8 : IVec S1024x2304 1) (main_v11 : IVec S1x64 1) (main_v14 : IVec S1x64 1) (main_v17 : IVec S16384x32 1) : IVec S16384x1024 1 × IVec S1x1024 1 × IVec S1024x2304 1 × IVec S1x64 1 × IVec S1x64 1 × IVec S16384x32 1 × IVec S16384x32 1 × IVec S16384x2304 1 :=
  let main_v18 : FVec F S16384x32 .f32 := Host.absf main_arg6
  let main_cst_5 : FVec F S_ .f32 := constant S_ .f32 0x7F800000#32
  let main_v19 : FVec F S16384x32 .f32 := broadcastInDim S16384x32 ![] bcast_S_S16384x32 main_cst_5
  let main_v20 : IVec S16384x32 1 := cmpf .olt main_v18 main_v19
  let main_v21 : FVec F S16384x2304 .f32 := Host.absf main_arg7
  let main_cst_6 : FVec F S_ .f32 := constant S_ .f32 0x7F800000#32
  let main_v22 : FVec F S16384x2304 .f32 := broadcastInDim S16384x2304 ![] bcast_S_S16384x2304 main_cst_6
  let main_v23 : IVec S16384x2304 1 := cmpf .olt main_v21 main_v22
  (main_v2, main_v5, main_v8, main_v11, main_v14, main_v17, main_v20, main_v23)

def fn {F : FTy → Type} [FloatOps F] (main_arg0 : FVec F S16384x1024 .f32) (main_arg1 : FVec F S1x1024 .f32) (main_arg2 : FVec F S1024x2304 .f32) (main_arg3 : FVec F S1x64 .f32) (main_arg4 : FVec F S1x64 .f32) (main_arg5 : FVec F S16384x32 .f32) (main_arg6 : FVec F S16384x32 .f32) (main_arg7 : FVec F S16384x2304 .f32) : IVec S16384x1024 1 × IVec S1x1024 1 × IVec S1024x2304 1 × IVec S1x64 1 × IVec S1x64 1 × IVec S16384x32 1 × IVec S16384x32 1 × IVec S16384x2304 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1024x2304 .f32 := Host.absf main_arg2
  let main_cst_1 : FVec F S_ .f32 := constant S_ .f32 0x7F800000#32
  let main_v7 : FVec F S1024x2304 .f32 := broadcastInDim S1024x2304 ![] bcast_S_S1024x2304 main_cst_1
  let main_v8 : IVec S1024x2304 1 := cmpf .olt main_v6 main_v7
  let main_v9 : FVec F S1x64 .f32 := Host.absf main_arg3
  let main_cst_2 : FVec F S_ .f32 := constant S_ .f32 0x7F800000#32
  let main_v10 : FVec F S1x64 .f32 := broadcastInDim S1x64 ![] bcast_S_S1x64 main_cst_2
  let main_v11 : IVec S1x64 1 := cmpf .olt main_v9 main_v10
  let main_v12 : FVec F S1x64 .f32 := Host.absf main_arg4
  let main_cst_3 : FVec F S_ .f32 := constant S_ .f32 0x7F800000#32
  let main_v13 : FVec F S1x64 .f32 := broadcastInDim S1x64 ![] bcast_S_S1x64 main_cst_3
  let main_v14 : IVec S1x64 1 := cmpf .olt main_v12 main_v13
  let main_v15 : FVec F S16384x32 .f32 := Host.absf main_arg5
  let main_cst_4 : FVec F S_ .f32 := constant S_ .f32 0x7F800000#32
  let main_v16 : FVec F S16384x32 .f32 := broadcastInDim S16384x32 ![] bcast_S_S16384x32 main_cst_4
  let main_v17 : IVec S16384x32 1 := cmpf .olt main_v15 main_v16
  fn_part1 (F := F) main_arg6 main_arg7 main_v2 main_v5 main_v8 main_v11 main_v14 main_v17
-- ==== Kernel.lean ====
abbrev S16384x512 : Shape := ⟨2, ![16384, 512]⟩
abbrev S16384x128 : Shape := ⟨2, ![16384, 128]⟩
abbrev S_ : Shape := ⟨0, ![]⟩
abbrev S16384x64 : Shape := ⟨2, ![16384, 64]⟩
abbrev S1x16384x128 : Shape := ⟨3, ![1, 16384, 128]⟩
abbrev S2x16384x128 : Shape := ⟨3, ![2, 16384, 128]⟩
abbrev S8x16384x1 : Shape := ⟨3, ![8, 16384, 1]⟩
abbrev S256x256 : Shape := ⟨2, ![256, 256]⟩
abbrev S4x256x1 : Shape := ⟨3, ![4, 256, 1]⟩
abbrev S256x128 : Shape := ⟨2, ![256, 128]⟩
abbrev S2048x128 : Shape := ⟨2, ![2048, 128]⟩
abbrev S1024x128 : Shape := ⟨2, ![1024, 128]⟩
abbrev S1024x1 : Shape := ⟨2, ![1024, 1]⟩
abbrev S1x2048x128 : Shape := ⟨3, ![1, 2048, 128]⟩
abbrev S1024x2048 : Shape := ⟨2, ![1024, 2048]⟩
abbrev S1024 : Shape := ⟨1, ![1024]⟩
abbrev S16384x8x64 : Shape := ⟨3, ![16384, 8, 64]⟩
abbrev S16384x8 : Shape := ⟨2, ![16384, 8]⟩
abbrev S8x16384 : Shape := ⟨2, ![8, 16384]⟩
abbrev S2x128x16384 : Shape := ⟨3, ![2, 128, 16384]⟩
abbrev S512x256 : Shape := ⟨2, ![512, 256]⟩
abbrev S4x512x1 : Shape := ⟨3, ![4, 512, 1]⟩
abbrev S1x128x16384 : Shape := ⟨3, ![1, 128, 16384]⟩
abbrev S512x128 : Shape := ⟨2, ![512, 128]⟩
abbrev S2048x1 : Shape := ⟨2, ![2048, 1]⟩
abbrev S128x2048 : Shape := ⟨2, ![128, 2048]⟩
abbrev S1x512x128 : Shape := ⟨3, ![1, 512, 128]⟩
abbrev S2048x512 : Shape := ⟨2, ![2048, 512]⟩
abbrev S1x128x512 : Shape := ⟨3, ![1, 128, 512]⟩
abbrev S128x512 : Shape := ⟨2, ![128, 512]⟩

abbrev nBuf : Space → Nat
  | .hbm => 28
  | .vmem => 22
  | .smem => 0
  | _ => 0

abbrev bufTy : (tb : Table) → Fin (tcTables nBuf tb) → BufTy
  | .hbm, ⟨0, _⟩ => ⟨S16384x512, .f32⟩
  | .hbm, ⟨1, _⟩ => ⟨S16384x128, .f32⟩
  | .hbm, ⟨2, _⟩ => ⟨S16384x128, .f32⟩
  | .hbm, ⟨3, _⟩ => ⟨S16384x512, .f32⟩
  | .hbm, ⟨4, _⟩ => ⟨S_, .f32⟩
  | .hbm, ⟨5, _⟩ => ⟨S16384x512, .f32⟩
  | .hbm, ⟨6, _⟩ => ⟨S16384x512, .f32⟩
  | .hbm, ⟨7, _⟩ => ⟨S16384x512, .bf16⟩
  | .hbm, ⟨8, _⟩ => ⟨S16384x64, .f32⟩
  | .hbm, ⟨9, _⟩ => ⟨S16384x64, .f32⟩
  | .hbm, ⟨10, _⟩ => ⟨S16384x128, .f32⟩
  | .hbm, ⟨11, _⟩ => ⟨S16384x64, .f32⟩
  | .hbm, ⟨12, _⟩ => ⟨S16384x64, .f32⟩
  | .hbm, ⟨13, _⟩ => ⟨S16384x128, .f32⟩
  | .hbm, ⟨14, _⟩ => ⟨S1x16384x128, .f32⟩
  | .hbm, ⟨15, _⟩ => ⟨S1x16384x128, .f32⟩
  | .hbm, ⟨16, _⟩ => ⟨S2x16384x128, .f32⟩
  | .hbm, ⟨17, _⟩ => ⟨S2x16384x128, .bf16⟩
  | .hbm, ⟨18, _⟩ => ⟨S16384x512, .f32⟩
  | .hbm, ⟨19, _⟩ => ⟨S8x16384x1, .f32⟩
  | .hbm, ⟨20, _⟩ => ⟨S16384x512, .f32⟩
  | .hbm, ⟨21, _⟩ => ⟨S16384x8x64, .f32⟩
  | .hbm, ⟨22, _⟩ => ⟨S_, .f32⟩
  | .hbm, ⟨23, _⟩ => ⟨S16384x8, .f32⟩
  | .hbm, ⟨24, _⟩ => ⟨S8x16384, .f32⟩
  | .hbm, ⟨25, _⟩ => ⟨S8x16384x1, .f32⟩
  | .hbm, ⟨26, _⟩ => ⟨S16384x512, .f32⟩
  | .hbm, ⟨27, _⟩ => ⟨S2x128x16384, .f32⟩
  | .local _ .vmem, ⟨0, _⟩ => ⟨S256x256, .bf16⟩
  | .local _ .vmem, ⟨1, _⟩ => ⟨S256x256, .bf16⟩
  | .local _ .vmem, ⟨2, _⟩ => ⟨S1x16384x128, .bf16⟩
  | .local _ .vmem, ⟨3, _⟩ => ⟨S1x16384x128, .bf16⟩
  | .local _ .vmem, ⟨4, _⟩ => ⟨S256x256, .f32⟩
  | .local _ .vmem, ⟨5, _⟩ => ⟨S256x256, .f32⟩
  | .local _ .vmem, ⟨6, _⟩ => ⟨S4x256x1, .f32⟩
  | .local _ .vmem, ⟨7, _⟩ => ⟨S4x256x1, .f32⟩
  | .local _ .vmem, ⟨8, _⟩ => ⟨S512x256, .bf16⟩
  | .local _ .vmem, ⟨9, _⟩ => ⟨S512x256, .bf16⟩
  | .local _ .vmem, ⟨10, _⟩ => ⟨S512x256, .f32⟩
  | .local _ .vmem, ⟨11, _⟩ => ⟨S512x256, .f32⟩
  | .local _ .vmem, ⟨12, _⟩ => ⟨S1x16384x128, .bf16⟩
  | .local _ .vmem, ⟨13, _⟩ => ⟨S1x16384x128, .bf16⟩
  | .local _ .vmem, ⟨14, _⟩ => ⟨S4x512x1, .f32⟩
  | .local _ .vmem, ⟨15, _⟩ => ⟨S4x512x1, .f32⟩
  | .local _ .vmem, ⟨16, _⟩ => ⟨S4x512x1, .f32⟩
  | .local _ .vmem, ⟨17, _⟩ => ⟨S4x512x1, .f32⟩
  | .local _ .vmem, ⟨18, _⟩ => ⟨S512x256, .f32⟩
  | .local _ .vmem, ⟨19, _⟩ => ⟨S512x256, .f32⟩
  | .local _ .vmem, ⟨20, _⟩ => ⟨S1x128x16384, .f32⟩
  | .local _ .vmem, ⟨21, _⟩ => ⟨S1x128x16384, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13_0 : Ref sig .tc := ⟨.hbm, 18, rfl⟩
abbrev main_v13_1 : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19_0 : Ref sig .tc := ⟨.hbm, 26, rfl⟩
abbrev main_v19_1 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17
abbrev cc1_sem5_0 : DmaSem sig := 18
abbrev cc1_sem5_1 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨2, ![2, 64], ![false, false]⟩

def k0_mult1 : BitVec 32 :=
  let c8_i32 : BitVec 32 := 8#32
  let c0_i32 : BitVec 32 := 0#32
  let v25 : BitVec 32 := Scalar.muli c8_i32 c0_i32
  let c0_i32_9 : BitVec 32 := 0#32
  let v26 : BitVec 32 := Scalar.addi v25 c0_i32_9
  let c2048_i32 : BitVec 32 := 2048#32
  let v27 : BitVec 32 := Scalar.muli v26 c2048_i32
  v27
def k0_off1 (c0_i32_9 : BitVec 32) : Fin 3 → Nat :=
  let c0_10 : Index := 0#32
  let c8_i32 : BitVec 32 := 8#32
  let c0_i32 : BitVec 32 := 0#32
  let v25 : BitVec 32 := Scalar.muli c8_i32 c0_i32
  let v26 : BitVec 32 := Scalar.addi v25 c0_i32_9
  let c2048_i32 : BitVec 32 := 2048#32
  let v27 : BitVec 32 := Scalar.muli v26 c2048_i32
  let v28 : BitVec 32 := v27
  let v29 : Index := Scalar.indexCast v28
  let c0_11 : Index := 0#32
  ![0, v29.toNat, 0]
def k0_mult2 : BitVec 32 :=
  let c8_i32_16 : BitVec 32 := 8#32
  let c0_i32 : BitVec 32 := 0#32
  let v48 : BitVec 32 := Scalar.muli c8_i32_16 c0_i32
  let c1_i32 : BitVec 32 := 1#32
  let v49 : BitVec 32 := Scalar.addi v48 c1_i32
  let c2048_i32_17 : BitVec 32 := 2048#32
  let v50 : BitVec 32 := Scalar.muli v49 c2048_i32_17
  v50
def k0_mult3 : BitVec 32 :=
  let c8_i32_24 : BitVec 32 := 8#32
  let c0_i32 : BitVec 32 := 0#32
  let v71 : BitVec 32 := Scalar.muli c8_i32_24 c0_i32
  let c2_i32 : BitVec 32 := 2#32
  let v72 : BitVec 32 := Scalar.addi v71 c2_i32
  let c2048_i32_25 : BitVec 32 := 2048#32
  let v73 : BitVec 32 := Scalar.muli v72 c2048_i32_25
  v73
def k0_mult4 : BitVec 32 :=
  let c8_i32_32 : BitVec 32 := 8#32
  let c0_i32 : BitVec 32 := 0#32
  let v94 : BitVec 32 := Scalar.muli c8_i32_32 c0_i32
  let c3_i32 : BitVec 32 := 3#32
  let v95 : BitVec 32 := Scalar.addi v94 c3_i32
  let c2048_i32_33 : BitVec 32 := 2048#32
  let v96 : BitVec 32 := Scalar.muli v95 c2048_i32_33
  v96
def k0_mult5 : BitVec 32 :=
  let c8_i32_40 : BitVec 32 := 8#32
  let c0_i32 : BitVec 32 := 0#32
  let v117 : BitVec 32 := Scalar.muli c8_i32_40 c0_i32
  let c4_i32 : BitVec 32 := 4#32
  let v118 : BitVec 32 := Scalar.addi v117 c4_i32
  let c2048_i32_41 : BitVec 32 := 2048#32
  let v119 : BitVec 32 := Scalar.muli v118 c2048_i32_41
  v119
def k0_mult6 : BitVec 32 :=
  let c8_i32_48 : BitVec 32 := 8#32
  let c0_i32 : BitVec 32 := 0#32
  let v140 : BitVec 32 := Scalar.muli c8_i32_48 c0_i32
  let c5_i32 : BitVec 32 := 5#32
  let v141 : BitVec 32 := Scalar.addi v140 c5_i32
  let c2048_i32_49 : BitVec 32 := 2048#32
  let v142 : BitVec 32 := Scalar.muli v141 c2048_i32_49
  v142
def k0_mult7 : BitVec 32 :=
  let c8_i32_56 : BitVec 32 := 8#32
  let c0_i32 : BitVec 32 := 0#32
  let v163 : BitVec 32 := Scalar.muli c8_i32_56 c0_i32
  let c6_i32 : BitVec 32 := 6#32
  let v164 : BitVec 32 := Scalar.addi v163 c6_i32
  let c2048_i32_57 : BitVec 32 := 2048#32
  let v165 : BitVec 32 := Scalar.muli v164 c2048_i32_57
  v165
def k0_mult8 : BitVec 32 :=
  let c8_i32_64 : BitVec 32 := 8#32
  let c0_i32 : BitVec 32 := 0#32
  let v186 : BitVec 32 := Scalar.muli c8_i32_64 c0_i32
  let c7_i32 : BitVec 32 := 7#32
  let v187 : BitVec 32 := Scalar.addi v186 c7_i32
  let c2048_i32_65 : BitVec 32 := 2048#32
  let v188 : BitVec 32 := Scalar.muli v187 c2048_i32_65
  v188
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16384x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![2, 32], ![false, false]⟩

@[reducible] def k1_t1_loop : Scf.Loop 32 :=
  let c0_i32_22 : BitVec 32 := 0#32
  let c4_i32 : BitVec 32 := 4#32
  let v47 : BitVec 32 := Scalar.addi c0_i32_22 c4_i32
  let c1_i32 : BitVec 32 := 1#32
  ⟨c0_i32_22, v47, c1_i32⟩
def k1_mult1 (k1_t1 : Fin k1_t1_loop.trips) : BitVec 32 :=
  let c8_i32 : BitVec 32 := 8#32
  let c0_i32_22 : BitVec 32 := 0#32
  let c1_i32 : BitVec 32 := 1#32
  let arg9 : BitVec 32 := Scf.iv c0_i32_22 c1_i32 k1_t1
  let v59 : BitVec 32 := Scalar.muli c8_i32 arg9
  let c0_i32_29 : BitVec 32 := 0#32
  let v60 : BitVec 32 := Scalar.addi v59 c0_i32_29
  let c512_i32 : BitVec 32 := 512#32
  let v61 : BitVec 32 := Scalar.muli v60 c512_i32
  v61
def k1_off1 (k1_t1 : Fin k1_t1_loop.trips) (c0_i32_29 : BitVec 32) : Fin 3 → Nat :=
  let c0_30 : Index := 0#32
  let c8_i32 : BitVec 32 := 8#32
  let c0_i32_22 : BitVec 32 := 0#32
  let c1_i32 : BitVec 32 := 1#32
  let arg9 : BitVec 32 := Scf.iv c0_i32_22 c1_i32 k1_t1
  let v59 : BitVec 32 := Scalar.muli c8_i32 arg9
  let v60 : BitVec 32 := Scalar.addi v59 c0_i32_29
  let c512_i32 : BitVec 32 := 512#32
  let v61 : BitVec 32 := Scalar.muli v60 c512_i32
  let v62 : BitVec 32 := v61
  let v63 : Index := Scalar.indexCast v62
  let c0_31 : Index := 0#32
  ![0, v63.toNat, 0]
def k1_off2 (k1_t1 : Fin k1_t1_loop.trips) (c0_i32_29 : BitVec 32) : Fin 3 → Nat :=
  let c0_34 : Index := 0#32
  let c0_35 : Index := 0#32
  let c8_i32 : BitVec 32 := 8#32
  let c0_i32_22 : BitVec 32 := 0#32
  let c1_i32 : BitVec 32 := 1#32
  let arg9 : BitVec 32 := Scf.iv c0_i32_22 c1_i32 k1_t1
  let v59 : BitVec 32 := Scalar.muli c8_i32 arg9
  let v60 : BitVec 32 := Scalar.addi v59 c0_i32_29
  let c512_i32 : BitVec 32 := 512#32
  let v61 : BitVec 32 := Scalar.muli v60 c512_i32
  let v62 : BitVec 32 := v61
  let v75 : Index := Scalar.indexCast v62
  ![0, 0, v75.toNat]
def k1_mult2 (k1_t1 : Fin k1_t1_loop.trips) : BitVec 32 :=
  let c8_i32_41 : BitVec 32 := 8#32
  let c0_i32_22 : BitVec 32 := 0#32
  let c1_i32 : BitVec 32 := 1#32
  let arg9 : BitVec 32 := Scf.iv c0_i32_22 c1_i32 k1_t1
  let v89 : BitVec 32 := Scalar.muli c8_i32_41 arg9
  let c1_i32_42 : BitVec 32 := 1#32
  let v90 : BitVec 32 := Scalar.addi v89 c1_i32_42
  let c512_i32_43 : BitVec 32 := 512#32
  let v91 : BitVec 32 := Scalar.muli v90 c512_i32_43
  v91
def k1_mult3 (k1_t1 : Fin k1_t1_loop.trips) : BitVec 32 :=
  let c8_i32_55 : BitVec 32 := 8#32
  let c0_i32_22 : BitVec 32 := 0#32
  let c1_i32 : BitVec 32 := 1#32
  let arg9 : BitVec 32 := Scf.iv c0_i32_22 c1_i32 k1_t1
  let v119 : BitVec 32 := Scalar.muli c8_i32_55 arg9
  let c2_i32 : BitVec 32 := 2#32
  let v120 : BitVec 32 := Scalar.addi v119 c2_i32
  let c512_i32_56 : BitVec 32 := 512#32
  let v121 : BitVec 32 := Scalar.muli v120 c512_i32_56
  v121
def k1_mult4 (k1_t1 : Fin k1_t1_loop.trips) : BitVec 32 :=
  let c8_i32_68 : BitVec 32 := 8#32
  let c0_i32_22 : BitVec 32 := 0#32
  let c1_i32 : BitVec 32 := 1#32
  let arg9 : BitVec 32 := Scf.iv c0_i32_22 c1_i32 k1_t1
  let v149 : BitVec 32 := Scalar.muli c8_i32_68 arg9
  let c3_i32 : BitVec 32 := 3#32
  let v150 : BitVec 32 := Scalar.addi v149 c3_i32
  let c512_i32_69 : BitVec 32 := 512#32
  let v151 : BitVec 32 := Scalar.muli v150 c512_i32_69
  v151
def k1_mult5 (k1_t1 : Fin k1_t1_loop.trips) : BitVec 32 :=
  let c8_i32_81 : BitVec 32 := 8#32
  let c0_i32_22 : BitVec 32 := 0#32
  let c1_i32 : BitVec 32 := 1#32
  let arg9 : BitVec 32 := Scf.iv c0_i32_22 c1_i32 k1_t1
  let v179 : BitVec 32 := Scalar.muli c8_i32_81 arg9
  let c4_i32_82 : BitVec 32 := 4#32
  let v180 : BitVec 32 := Scalar.addi v179 c4_i32_82
  let c512_i32_83 : BitVec 32 := 512#32
  let v181 : BitVec 32 := Scalar.muli v180 c512_i32_83
  v181
def k1_mult6 (k1_t1 : Fin k1_t1_loop.trips) : BitVec 32 :=
  let c8_i32_95 : BitVec 32 := 8#32
  let c0_i32_22 : BitVec 32 := 0#32
  let c1_i32 : BitVec 32 := 1#32
  let arg9 : BitVec 32 := Scf.iv c0_i32_22 c1_i32 k1_t1
  let v209 : BitVec 32 := Scalar.muli c8_i32_95 arg9
  let c5_i32 : BitVec 32 := 5#32
  let v210 : BitVec 32 := Scalar.addi v209 c5_i32
  let c512_i32_96 : BitVec 32 := 512#32
  let v211 : BitVec 32 := Scalar.muli v210 c512_i32_96
  v211
def k1_mult7 (k1_t1 : Fin k1_t1_loop.trips) : BitVec 32 :=
  let c8_i32_108 : BitVec 32 := 8#32
  let c0_i32_22 : BitVec 32 := 0#32
  let c1_i32 : BitVec 32 := 1#32
  let arg9 : BitVec 32 := Scf.iv c0_i32_22 c1_i32 k1_t1
  let v239 : BitVec 32 := Scalar.muli c8_i32_108 arg9
  let c6_i32 : BitVec 32 := 6#32
  let v240 : BitVec 32 := Scalar.addi v239 c6_i32
  let c512_i32_109 : BitVec 32 := 512#32
  let v241 : BitVec 32 := Scalar.muli v240 c512_i32_109
  v241
def k1_mult8 (k1_t1 : Fin k1_t1_loop.trips) : BitVec 32 :=
  let c8_i32_121 : BitVec 32 := 8#32
  let c0_i32_22 : BitVec 32 := 0#32
  let c1_i32 : BitVec 32 := 1#32
  let arg9 : BitVec 32 := Scf.iv c0_i32_22 c1_i32 k1_t1
  let v269 : BitVec 32 := Scalar.muli c8_i32_121 arg9
  let c7_i32 : BitVec 32 := 7#32
  let v270 : BitVec 32 := Scalar.addi v269 c7_i32
  let c512_i32_122 : BitVec 32 := 512#32
  let v271 : BitVec 32 := Scalar.muli v270 c512_i32_122
  v271
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S512x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S512x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x16384x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S4x512x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S4x512x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S512x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x128x16384 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]
-- ==== ReferenceIdeal.lean ====
abbrev S16384x512 : Shape := ⟨2, ![16384, 512]⟩
abbrev S16384x128 : Shape := ⟨2, ![16384, 128]⟩
abbrev S_ : Shape := ⟨0, ![]⟩
abbrev S16384x2x4x64 : Shape := ⟨4, ![16384, 2, 4, 64]⟩
abbrev S16384x2x64 : Shape := ⟨3, ![16384, 2, 64]⟩
abbrev S2x16384x16384x4 : Shape := ⟨4, ![2, 16384, 16384, 4]⟩
abbrev S2x4x16384x16384 : Shape := ⟨4, ![2, 4, 16384, 16384]⟩
abbrev S2x4x16384 : Shape := ⟨3, ![2, 4, 16384]⟩
abbrev S2x4x16384x1 : Shape := ⟨4, ![2, 4, 16384, 1]⟩
abbrev S2x64x4x16384 : Shape := ⟨4, ![2, 64, 4, 16384]⟩
abbrev S2x64x16384 : Shape := ⟨3, ![2, 64, 16384]⟩
abbrev S2x16384x4x64 : Shape := ⟨4, ![2, 16384, 4, 64]⟩
abbrev S2x16384x64 : Shape := ⟨3, ![2, 16384, 64]⟩
abbrev S16384x2x128 : Shape := ⟨3, ![16384, 2, 128]⟩
abbrev S2x128x16384 : Shape := ⟨3, ![2, 128, 16384]⟩

abbrev nBuf : Space → Nat
  | .hbm => 84
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x128, .f32⟩
  | .hbm, ⟨2, _⟩ => ⟨S16384x128, .f32⟩
  | .hbm, ⟨3, _⟩ => ⟨S16384x512, .f32⟩
  | .hbm, ⟨4, _⟩ => ⟨S_, .f32⟩
  | .hbm, ⟨5, _⟩ => ⟨S16384x512, .f32⟩
  | .hbm, ⟨6, _⟩ => ⟨S16384x512, .f32⟩
  | .hbm, ⟨7, _⟩ => ⟨S16384x2x4x64, .f32⟩
  | .hbm, ⟨8, _⟩ => ⟨S16384x2x64, .f32⟩
  | .hbm, ⟨9, _⟩ => ⟨S16384x2x64, .f32⟩
  | .hbm, ⟨10, _⟩ => ⟨S2x16384x16384x4, .f32⟩
  | .hbm, ⟨11, _⟩ => ⟨S2x4x16384x16384, .f32⟩
  | .hbm, ⟨12, _⟩ => ⟨S_, .f32⟩
  | .hbm, ⟨13, _⟩ => ⟨S2x4x16384, .f32⟩
  | .hbm, ⟨14, _⟩ => ⟨S2x4x16384x1, .f32⟩
  | .hbm, ⟨15, _⟩ => ⟨S2x4x16384x16384, .f32⟩
  | .hbm, ⟨16, _⟩ => ⟨S2x4x16384x16384, .i1⟩
  | .hbm, ⟨17, _⟩ => ⟨S2x4x16384x16384, .f32⟩
  | .hbm, ⟨18, _⟩ => ⟨S_, .f32⟩
  | .hbm, ⟨19, _⟩ => ⟨S2x4x16384, .f32⟩
  | .hbm, ⟨20, _⟩ => ⟨S_, .f32⟩
  | .hbm, ⟨21, _⟩ => ⟨S2x4x16384, .f32⟩
  | .hbm, ⟨22, _⟩ => ⟨S2x4x16384, .f32⟩
  | .hbm, ⟨23, _⟩ => ⟨S_, .f32⟩
  | .hbm, ⟨24, _⟩ => ⟨S2x4x16384, .f32⟩
  | .hbm, ⟨25, _⟩ => ⟨S2x4x16384, .i1⟩
  | .hbm, ⟨26, _⟩ => ⟨S_, .f32⟩
  | .hbm, ⟨27, _⟩ => ⟨S2x4x16384, .f32⟩
  | .hbm, ⟨28, _⟩ => ⟨S2x4x16384, .i1⟩
  | .hbm, ⟨29, _⟩ => ⟨S_, .f32⟩
  | .hbm, ⟨30, _⟩ => ⟨S2x4x16384, .f32⟩
  | .hbm, ⟨31, _⟩ => ⟨S_, .f32⟩
  | .hbm, ⟨32, _⟩ => ⟨S2x4x16384, .f32⟩
  | .hbm, ⟨33, _⟩ => ⟨S_, .f32⟩
  | .hbm, ⟨34, _⟩ => ⟨S2x4x16384, .f32⟩
  | .hbm, ⟨35, _⟩ => ⟨S2x4x16384, .f32⟩
  | .hbm, ⟨36, _⟩ => ⟨S2x4x16384, .f32⟩
  | .hbm, ⟨37, _⟩ => ⟨S2x4x16384x1, .f32⟩
  | .hbm, ⟨38, _⟩ => ⟨S2x4x16384x16384, .f32⟩
  | .hbm, ⟨39, _⟩ => ⟨S2x4x16384x16384, .f32⟩
  | .hbm, ⟨40, _⟩ => ⟨S2x4x16384x16384, .f32⟩
  | .hbm, ⟨41, _⟩ => ⟨S_, .f32⟩
  | .hbm, ⟨42, _⟩ => ⟨S2x4x16384, .f32⟩
  | .hbm, ⟨43, _⟩ => ⟨S2x4x16384x1, .f32⟩
  | .hbm, ⟨44, _⟩ => ⟨S2x4x16384x16384, .f32⟩
  | .hbm, ⟨45, _⟩ => ⟨S2x4x16384x16384, .f32⟩
  | .hbm, ⟨46, _⟩ => ⟨S2x4x16384x1, .f32⟩
  | .hbm, ⟨47, _⟩ => ⟨S_, .f32⟩
  | .hbm, ⟨48, _⟩ => ⟨S2x4x16384x1, .f32⟩
  | .hbm, ⟨49, _⟩ => ⟨S2x4x16384x1, .f32⟩
  | .hbm, ⟨50, _⟩ => ⟨S2x64x4x16384, .f32⟩
  | .hbm, ⟨51, _⟩ => ⟨S16384x2x4x64, .f32⟩
  | .hbm, ⟨52, _⟩ => ⟨S16384x512, .f32⟩
  | .hbm, ⟨53, _⟩ => ⟨S16384x2x4x64, .f32⟩
  | .hbm, ⟨54, _⟩ => ⟨S2x64x4x16384, .f32⟩
  | .hbm, ⟨55, _⟩ => ⟨S2x4x16384x16384, .f32⟩
  | .hbm, ⟨56, _⟩ => ⟨S2x64x16384, .f32⟩
  | .hbm, ⟨57, _⟩ => ⟨S16384x2x64, .f32⟩
  | .hbm, ⟨58, _⟩ => ⟨S2x4x16384x16384, .f32⟩
  | .hbm, ⟨59, _⟩ => ⟨S2x4x16384x16384, .f32⟩
  | .hbm, ⟨60, _⟩ => ⟨S2x4x16384x16384, .f32⟩
  | .hbm, ⟨61, _⟩ => ⟨S_, .f32⟩
  | .hbm, ⟨62, _⟩ => ⟨S2x4x16384, .f32⟩
  | .hbm, ⟨63, _⟩ => ⟨S2x4x16384x1, .f32⟩
  | .hbm, ⟨64, _⟩ => ⟨S2x4x16384x1, .f32⟩
  | .hbm, ⟨65, _⟩ => ⟨S2x4x16384x16384, .f32⟩
  | .hbm, ⟨66, _⟩ => ⟨S2x4x16384x16384, .f32⟩
  | .hbm, ⟨67, _⟩ => ⟨S_, .f32⟩
  | .hbm, ⟨68, _⟩ => ⟨S2x4x16384, .f32⟩
  | .hbm, ⟨69, _⟩ => ⟨S2x4x16384x16384, .f32⟩
  | .hbm, ⟨70, _⟩ => ⟨S2x4x16384x16384, .f32⟩
  | .hbm, ⟨71, _⟩ => ⟨S2x4x16384x16384, .f32⟩
  | .hbm, ⟨72, _⟩ => ⟨S2x16384x16384x4, .f32⟩
  | .hbm, ⟨73, _⟩ => ⟨S2x16384x4x64, .f32⟩
  | .hbm, ⟨74, _⟩ => ⟨S16384x2x4x64, .f32⟩
  | .hbm, ⟨75, _⟩ => ⟨S2x16384x64, .f32⟩
  | .hbm, ⟨76, _⟩ => ⟨S16384x2x64, .f32⟩
  | .hbm, ⟨77, _⟩ => ⟨S16384x128, .f32⟩
  | .hbm, ⟨78, _⟩ => ⟨S16384x128, .f32⟩
  | .hbm, ⟨79, _⟩ => ⟨S16384x512, .f32⟩
  | .hbm, ⟨80, _⟩ => ⟨S16384x2x64, .f32⟩
  | .hbm, ⟨81, _⟩ => ⟨S16384x2x64, .f32⟩
  | .hbm, ⟨82, _⟩ => ⟨S16384x2x128, .f32⟩
  | .hbm, ⟨83, _⟩ => ⟨S2x128x16384, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_8 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_9 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_10 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst_11 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩

abbrev nD : Nat := 1
abbrev τ : Topo := Topo.v7x

variable {F : FTy → Type} [FloatOps F]
-- ==== Kernel2.lean ====
abbrev S16384x512 : Shape := ⟨2, ![16384, 512]⟩
abbrev S16384x1024 : Shape := ⟨2, ![16384, 1024]⟩
abbrev S16384x256 : Shape := ⟨2, ![16384, 256]⟩
abbrev S1x512 : Shape := ⟨2, ![1, 512]⟩
abbrev S1024x1024 : Shape := ⟨2, ![1024, 1024]⟩
abbrev S1x1024 : Shape := ⟨2, ![1, 1024]⟩
abbrev S1024x4096 : Shape := ⟨2, ![1024, 4096]⟩
abbrev S4096x1024 : Shape := ⟨2, ![4096, 1024]⟩
abbrev S256x1024 : Shape := ⟨2, ![256, 1024]⟩
abbrev S512x512 : Shape := ⟨2, ![512, 512]⟩
abbrev S512x1024 : Shape := ⟨2, ![512, 1024]⟩
abbrev S512 : Shape := ⟨1, ![512]⟩
abbrev S512x1 : Shape := ⟨2, ![512, 1]⟩
abbrev S16384x4096 : Shape := ⟨2, ![16384, 4096]⟩
abbrev S512x4096 : Shape := ⟨2, ![512, 4096]⟩
abbrev S1x1 : Shape := ⟨2, ![1, 1]⟩
abbrev S512x256 : Shape := ⟨2, ![512, 256]⟩
abbrev S1 : Shape := ⟨1, ![1]⟩
abbrev S1024 : Shape := ⟨1, ![1024]⟩
abbrev S2048x1024 : Shape := ⟨2, ![2048, 1024]⟩
abbrev S2048x256 : Shape := ⟨2, ![2048, 256]⟩
abbrev S8x16384x1 : Shape := ⟨3, ![8, 16384, 1]⟩
abbrev S8x512x1 : Shape := ⟨3, ![8, 512, 1]⟩
abbrev S512x128 : Shape := ⟨2, ![512, 128]⟩
abbrev S1x512x1 : Shape := ⟨3, ![1, 512, 1]⟩

abbrev nBuf : Space → Nat
  | .hbm => 55
  | .vmem => 134
  | .smem => 0
  | _ => 0

abbrev vmemTy0_0 (i : Nat) : BufTy := match i % 128 with
  | 0 => ⟨S512x512, .f32⟩
  | 1 => ⟨S512x512, .f32⟩
  | 2 => ⟨S512x512, .f32⟩
  | 3 => ⟨S512x512, .f32⟩
  | 4 => ⟨S512x1024, .f32⟩
  | 5 => ⟨S512x1024, .f32⟩
  | 6 => ⟨S1x512, .f32⟩
  | 7 => ⟨S1x512, .f32⟩
  | 8 => ⟨S1024x1024, .bf16⟩
  | 9 => ⟨S1x1024, .f32⟩
  | 10 => ⟨S1x1024, .f32⟩
  | 11 => ⟨S512x1024, .bf16⟩
  | 12 => ⟨S512x1024, .bf16⟩
  | 13 => ⟨S512x1024, .f32⟩
  | 14 => ⟨S512x1024, .f32⟩
  | 15 => ⟨S512x1024, .f32⟩
  | 16 => ⟨S512x1024, .f32⟩
  | 17 => ⟨S512x1024, .bf16⟩
  | 18 => ⟨S512x1024, .bf16⟩
  | 19 => ⟨S512x1024, .bf16⟩
  | 20 => ⟨S512x1024, .bf16⟩
  | 21 => ⟨S1024x4096, .bf16⟩
  | 22 => ⟨S512x4096, .f32⟩
  | 23 => ⟨S512x4096, .f32⟩
  | 24 => ⟨S512x4096, .f32⟩
  | 25 => ⟨S512x4096, .f32⟩
  | 26 => ⟨S4096x1024, .bf16⟩
  | 27 => ⟨S512x1024, .f32⟩
  | 28 => ⟨S512x1024, .f32⟩
  | 29 => ⟨S1x1024, .f32⟩
  | 30 => ⟨S1x1024, .f32⟩
  | 31 => ⟨S512x1024, .f32⟩
  | 32 => ⟨S512x1024, .f32⟩
  | 33 => ⟨S512x1024, .f32⟩
  | 34 => ⟨S512x1024, .f32⟩
  | 35 => ⟨S512x1024, .bf16⟩
  | 36 => ⟨S512x1024, .bf16⟩
  | 37 => ⟨S512x1024, .bf16⟩
  | 38 => ⟨S512x1024, .bf16⟩
  | 39 => ⟨S512x256, .f32⟩
  | 40 => ⟨S512x256, .f32⟩
  | 41 => ⟨S512x1024, .f32⟩
  | 42 => ⟨S512x1024, .f32⟩
  | 43 => ⟨S512x1024, .f32⟩
  | 44 => ⟨S512x1024, .f32⟩
  | 45 => ⟨S512x1024, .f32⟩
  | 46 => ⟨S512x1024, .f32⟩
  | 47 => ⟨S1024x1024, .bf16⟩
  | 48 => ⟨S256x1024, .bf16⟩
  | 49 => ⟨S1x1024, .f32⟩
  | 50 => ⟨S1x1024, .f32⟩
  | 51 => ⟨S512x1024, .f32⟩
  | 52 => ⟨S512x1024, .f32⟩
  | 53 => ⟨S512x1024, .bf16⟩
  | 54 => ⟨S512x1024, .bf16⟩
  | 55 => ⟨S512x1024, .bf16⟩
  | 56 => ⟨S512x1024, .bf16⟩
  | 57 => ⟨S512x1024, .bf16⟩
  | 58 => ⟨S512x1024, .bf16⟩
  | 59 => ⟨S1x1, .f32⟩
  | 60 => ⟨S1x1024, .f32⟩
  | 61 => ⟨S1x1024, .f32⟩
  | 62 => ⟨S2048x1024, .bf16⟩
  | 63 => ⟨S2048x1024, .bf16⟩
  | 64 => ⟨S2048x1024, .bf16⟩
  | 65 => ⟨S2048x1024, .bf16⟩
  | 66 => ⟨S1024x1024, .f32⟩
  | 67 => ⟨S2048x256, .f32⟩
  | 68 => ⟨S2048x256, .f32⟩
  | 69 => ⟨S2048x1024, .bf16⟩
  | 70 => ⟨S2048x1024, .bf16⟩
  | 71 => ⟨S256x1024, .f32⟩
  | 72 => ⟨S2048x1024, .f32⟩
  | 73 => ⟨S2048x1024, .f32⟩
  | 74 => ⟨S2048x1024, .bf16⟩
  | 75 => ⟨S2048x1024, .bf16⟩
  | 76 => ⟨S1024x1024, .f32⟩
  | 77 => ⟨S1024x1024, .f32⟩
  | 78 => ⟨S512x1024, .bf16⟩
  | 79 => ⟨S512x1024, .bf16⟩
  | 80 => ⟨S1024x4096, .bf16⟩
  | 81 => ⟨S512x4096, .f32⟩
  | 82 => ⟨S512x4096, .f32⟩
  | 83 => ⟨S512x4096, .bf16⟩
  | 84 => ⟨S512x4096, .bf16⟩
  | 85 => ⟨S2048x1024, .bf16⟩
  | 86 => ⟨S2048x1024, .bf16⟩
  | 87 => ⟨S2048x1024, .bf16⟩
  | 88 => ⟨S2048x1024, .bf16⟩
  | 89 => ⟨S1024x1024, .f32⟩
  | 90 => ⟨S1024x1024, .f32⟩
  | 91 => ⟨S512x4096, .bf16⟩
  | 92 => ⟨S512x4096, .bf16⟩
  | 93 => ⟨S1024x4096, .bf16⟩
  | 94 => ⟨S512x1024, .f32⟩
  | 95 => ⟨S512x1024, .f32⟩
  | 96 => ⟨S512x1024, .f32⟩
  | 97 => ⟨S512x1024, .f32⟩
  | 98 => ⟨S512x1024, .f32⟩
  | 99 => ⟨S512x1024, .f32⟩
  | 100 => ⟨S1x1024, .f32⟩
  | 101 => ⟨S1x1024, .f32⟩
  | 102 => ⟨S512x1024, .f32⟩
  | 103 => ⟨S512x1024, .f32⟩
  | 104 => ⟨S512x1024, .bf16⟩
  | 105 => ⟨S512x1024, .bf16⟩
  | 106 => ⟨S1x1024, .f32⟩
  | 107 => ⟨S1x1024, .f32⟩
  | 108 => ⟨S2048x1024, .bf16⟩
  | 109 => ⟨S2048x1024, .bf16⟩
  | 110 => ⟨S2048x1024, .bf16⟩
  | 111 => ⟨S2048x1024, .bf16⟩
  | 112 => ⟨S1024x1024, .f32⟩
  | 113 => ⟨S512x1024, .bf16⟩
  | 114 => ⟨S512x1024, .bf16⟩
  | 115 => ⟨S1024x1024, .bf16⟩
  | 116 => ⟨S512x512, .f32⟩
  | 117 => ⟨S512x512, .f32⟩
  | 118 => ⟨S512x512, .f32⟩
  | 119 => ⟨S512x512, .f32⟩
  | 120 => ⟨S512x512, .f32⟩
  | 121 => ⟨S512x512, .f32⟩
  | 122 => ⟨S1x512, .f32⟩
  | 123 => ⟨S1x512, .f32⟩
  | 124 => ⟨S512x512, .f32⟩
  | 125 => ⟨S512x512, .f32⟩
  | 126 => ⟨S512x512, .bf16⟩
  | 127 => ⟨S512x512, .bf16⟩
  | _ => ⟨S16384x512, .f32⟩

abbrev vmemTy0_1 (i : Nat) : BufTy := match i % 128 with
  | 0 => ⟨S8x512x1, .f32⟩
  | 1 => ⟨S8x512x1, .f32⟩
  | 2 => ⟨S512x512, .f32⟩
  | 3 => ⟨S512x512, .f32⟩
  | 4 => ⟨S1x512, .f32⟩
  | 5 => ⟨S1x512, .f32⟩
  | _ => ⟨S16384x512, .f32⟩

abbrev vmemTy (i : Nat) : BufTy := match i / 128 with
  | 0 => vmemTy0_0 i
  | 1 => vmemTy0_1 i
  | _ => ⟨S16384x512, .f32⟩

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x1024, .f32⟩
  | .hbm, ⟨3, _⟩ => ⟨S16384x256, .f32⟩
  | .hbm, ⟨4, _⟩ => ⟨S16384x1024, .f32⟩
  | .hbm, ⟨5, _⟩ => ⟨S16384x512, .f32⟩
  | .hbm, ⟨6, _⟩ => ⟨S1x512, .f32⟩
  | .hbm, ⟨7, _⟩ => ⟨S1x512, .f32⟩
  | .hbm, ⟨8, _⟩ => ⟨S1024x1024, .f32⟩
  | .hbm, ⟨9, _⟩ => ⟨S1x1024, .f32⟩
  | .hbm, ⟨10, _⟩ => ⟨S1x1024, .f32⟩
  | .hbm, ⟨11, _⟩ => ⟨S1024x4096, .f32⟩
  | .hbm, ⟨12, _⟩ => ⟨S4096x1024, .f32⟩
  | .hbm, ⟨13, _⟩ => ⟨S1x1024, .f32⟩
  | .hbm, ⟨14, _⟩ => ⟨S1x1024, .f32⟩
  | .hbm, ⟨15, _⟩ => ⟨S1024x1024, .f32⟩
  | .hbm, ⟨16, _⟩ => ⟨S256x1024, .f32⟩
  | .hbm, ⟨17, _⟩ => ⟨S1024x1024, .bf16⟩
  | .hbm, ⟨18, _⟩ => ⟨S1024x4096, .bf16⟩
  | .hbm, ⟨19, _⟩ => ⟨S4096x1024, .bf16⟩
  | .hbm, ⟨20, _⟩ => ⟨S1024x1024, .bf16⟩
  | .hbm, ⟨21, _⟩ => ⟨S256x1024, .bf16⟩
  | .hbm, ⟨22, _⟩ => ⟨S16384x1024, .bf16⟩
  | .hbm, ⟨23, _⟩ => ⟨S16384x1024, .f32⟩
  | .hbm, ⟨24, _⟩ => ⟨S16384x1024, .f32⟩
  | .hbm, ⟨25, _⟩ => ⟨S16384x1024, .bf16⟩
  | .hbm, ⟨26, _⟩ => ⟨S16384x4096, .f32⟩
  | .hbm, ⟨27, _⟩ => ⟨S16384x1024, .f32⟩
  | .hbm, ⟨28, _⟩ => ⟨S16384x1024, .f32⟩
  | .hbm, ⟨29, _⟩ => ⟨S16384x1024, .bf16⟩
  | .hbm, ⟨30, _⟩ => ⟨S16384x1024, .f32⟩
  | .hbm, ⟨31, _⟩ => ⟨S16384x1024, .bf16⟩
  | .hbm, ⟨32, _⟩ => ⟨S16384x1024, .bf16⟩
  | .hbm, ⟨33, _⟩ => ⟨S16384x1024, .bf16⟩
  | .hbm, ⟨34, _⟩ => ⟨S1x1, .f32⟩
  | .hbm, ⟨35, _⟩ => ⟨S1x1024, .f32⟩
  | .hbm, ⟨36, _⟩ => ⟨S1x1024, .f32⟩
  | .hbm, ⟨37, _⟩ => ⟨S1024x1024, .f32⟩
  | .hbm, ⟨38, _⟩ => ⟨S256x1024, .f32⟩
  | .hbm, ⟨39, _⟩ => ⟨S4096x1024, .f32⟩
  | .hbm, ⟨40, _⟩ => ⟨S1024x4096, .bf16⟩
  | .hbm, ⟨41, _⟩ => ⟨S16384x4096, .bf16⟩
  | .hbm, ⟨42, _⟩ => ⟨S1024x4096, .f32⟩
  | .hbm, ⟨43, _⟩ => ⟨S16384x1024, .f32⟩
  | .hbm, ⟨44, _⟩ => ⟨S16384x1024, .bf16⟩
  | .hbm, ⟨45, _⟩ => ⟨S1x1024, .f32⟩
  | .hbm, ⟨46, _⟩ => ⟨S1x1024, .f32⟩
  | .hbm, ⟨47, _⟩ => ⟨S1024x1024, .f32⟩
  | .hbm, ⟨48, _⟩ => ⟨S16384x512, .f32⟩
  | .hbm, ⟨49, _⟩ => ⟨S16384x512, .bf16⟩
  | .hbm, ⟨50, _⟩ => ⟨S8x16384x1, .f32⟩
  | .hbm, ⟨51, _⟩ => ⟨S16384x512, .f32⟩
  | .hbm, ⟨52, _⟩ => ⟨S1x512, .f32⟩
  | .hbm, ⟨53, _⟩ => ⟨S1x512, .f32⟩
  | .hbm, ⟨54, _⟩ => ⟨S16384x512, .f32⟩
  | .local _ .vmem, ⟨i, _⟩ => vmemTy i
  | _, _ => ⟨S16384x512, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 134 → Bool
  | ⟨i, _⟩ => dmaSemScopedAt i

abbrev sig : RefSig :=
  ofTc nBuf bufTy 0 134 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5_0 : Ref sig .tc := ⟨.hbm, 22, rfl⟩
abbrev main_v5_1 : Ref sig .tc := ⟨.hbm, 23, rfl⟩
abbrev main_v5_2 : Ref sig .tc := ⟨.hbm, 24, rfl⟩
abbrev main_v5_3 : Ref sig .tc := ⟨.hbm, 25, rfl⟩
abbrev main_v6 : Ref sig .tc := ⟨.hbm, 26, rfl⟩
abbrev main_v7_0 : Ref sig .tc := ⟨.hbm, 27, rfl⟩
abbrev main_v7_1 : Ref sig .tc := ⟨.hbm, 28, rfl⟩
abbrev main_v7_2 : Ref sig .tc := ⟨.hbm, 29, rfl⟩
abbrev main_v8_0 : Ref sig .tc := ⟨.hbm, 30, rfl⟩
abbrev main_v8_1 : Ref sig .tc := ⟨.hbm, 31, rfl⟩
abbrev main_v8_2 : Ref sig .tc := ⟨.hbm, 32, rfl⟩
abbrev main_v8_3 : Ref sig .tc := ⟨.hbm, 33, rfl⟩
abbrev main_v8_4 : Ref sig .tc := ⟨.hbm, 34, rfl⟩
abbrev main_v8_5 : Ref sig .tc := ⟨.hbm, 35, rfl⟩
abbrev main_v8_6 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15_0 : Ref sig .tc := ⟨.hbm, 43, rfl⟩
abbrev main_v15_1 : Ref sig .tc := ⟨.hbm, 44, rfl⟩
abbrev main_v15_2 : Ref sig .tc := ⟨.hbm, 45, rfl⟩
abbrev main_v15_3 : Ref sig .tc := ⟨.hbm, 46, rfl⟩
abbrev main_v16 : Ref sig .tc := ⟨.hbm, 47, rfl⟩
abbrev main_v17_0 : Ref sig .tc := ⟨.hbm, 48, rfl⟩
abbrev main_v17_1 : Ref sig .tc := ⟨.hbm, 49, rfl⟩
abbrev main_v17_2 : Ref sig .tc := ⟨.hbm, 50, rfl⟩
abbrev main_v17_3 : Ref sig .tc := ⟨.hbm, 51, rfl⟩
abbrev main_v17_4 : Ref sig .tc := ⟨.hbm, 52, rfl⟩
abbrev main_v17_5 : Ref sig .tc := ⟨.hbm, 53, rfl⟩
abbrev main_v18 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc1_stg0_0 : Ref sig .tc := ⟨.vmem, 19, rfl⟩
abbrev cc1_stg0_1 : Ref sig .tc := ⟨.vmem, 20, rfl⟩
abbrev cc1_stg1_0 : Ref sig .tc := ⟨.vmem, 21, rfl⟩
abbrev cc1_stg2_0 : Ref sig .tc := ⟨.vmem, 22, rfl⟩
abbrev cc1_stg2_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg2_0 : Ref sig .tc := ⟨.vmem, 27, rfl⟩
abbrev cc2_stg2_1 : Ref sig .tc := ⟨.vmem, 28, rfl⟩
abbrev cc2_stg3_0 : Ref sig .tc := ⟨.vmem, 29, rfl⟩
abbrev cc2_stg4_0 : Ref sig .tc := ⟨.vmem, 30, rfl⟩
abbrev cc2_stg5_0 : Ref sig .tc := ⟨.vmem, 31, rfl⟩
abbrev cc2_stg5_1 : Ref sig .tc := ⟨.vmem, 32, rfl⟩
abbrev cc2_stg6_0 : Ref sig .tc := ⟨.vmem, 33, rfl⟩
abbrev cc2_stg6_1 : Ref sig .tc := ⟨.vmem, 34, rfl⟩
abbrev cc2_stg7_0 : Ref sig .tc := ⟨.vmem, 35, rfl⟩
abbrev cc2_stg7_1 : Ref sig .tc := ⟨.vmem, 36, rfl⟩
abbrev cc3_stg0_0 : Ref sig .tc := ⟨.vmem, 37, rfl⟩
abbrev cc3_stg0_1 : Ref sig .tc := ⟨.vmem, 38, rfl⟩
abbrev cc3_stg1_0 : Ref sig .tc := ⟨.vmem, 39, rfl⟩
abbrev cc3_stg1_1 : Ref sig .tc := ⟨.vmem, 40, rfl⟩
abbrev cc3_stg2_0 : Ref sig .tc := ⟨.vmem, 41, rfl⟩
abbrev cc3_stg2_1 : Ref sig .tc := ⟨.vmem, 42, rfl⟩
abbrev cc3_stg3_0 : Ref sig .tc := ⟨.vmem, 43, rfl⟩
abbrev cc3_stg3_1 : Ref sig .tc := ⟨.vmem, 44, rfl⟩
abbrev cc3_stg4_0 : Ref sig .tc := ⟨.vmem, 45, rfl⟩
abbrev cc3_stg4_1 : Ref sig .tc := ⟨.vmem, 46, rfl⟩
abbrev cc3_stg5_0 : Ref sig .tc := ⟨.vmem, 47, rfl⟩
abbrev cc3_stg6_0 : Ref sig .tc := ⟨.vmem, 48, rfl⟩
abbrev cc3_stg7_0 : Ref sig .tc := ⟨.vmem, 49, rfl⟩
abbrev cc3_stg8_0 : Ref sig .tc := ⟨.vmem, 50, rfl⟩
abbrev cc3_stg9_0 : Ref sig .tc := ⟨.vmem, 51, rfl⟩
abbrev cc3_stg9_1 : Ref sig .tc := ⟨.vmem, 52, rfl⟩
abbrev cc3_stg10_0 : Ref sig .tc := ⟨.vmem, 53, rfl⟩
abbrev cc3_stg10_1 : Ref sig .tc := ⟨.vmem, 54, rfl⟩
abbrev cc3_stg11_0 : Ref sig .tc := ⟨.vmem, 55, rfl⟩
abbrev cc3_stg11_1 : Ref sig .tc := ⟨.vmem, 56, rfl⟩
abbrev cc3_stg12_0 : Ref sig .tc := ⟨.vmem, 57, rfl⟩
abbrev cc3_stg12_1 : Ref sig .tc := ⟨.vmem, 58, rfl⟩
abbrev cc3_stg13_0 : Ref sig .tc := ⟨.vmem, 59, rfl⟩
abbrev cc3_stg14_0 : Ref sig .tc := ⟨.vmem, 60, rfl⟩
abbrev cc3_stg15_0 : Ref sig .tc := ⟨.vmem, 61, rfl⟩
abbrev cc4_stg0_0 : Ref sig .tc := ⟨.vmem, 62, rfl⟩
abbrev cc4_stg0_1 : Ref sig .tc := ⟨.vmem, 63, rfl⟩
abbrev cc4_stg1_0 : Ref sig .tc := ⟨.vmem, 64, rfl⟩
abbrev cc4_stg1_1 : Ref sig .tc := ⟨.vmem, 65, rfl⟩
abbrev cc4_stg2_0 : Ref sig .tc := ⟨.vmem, 66, rfl⟩
abbrev cc5_stg0_0 : Ref sig .tc := ⟨.vmem, 67, rfl⟩
abbrev cc5_stg0_1 : Ref sig .tc := ⟨.vmem, 68, rfl⟩
abbrev cc5_stg1_0 : Ref sig .tc := ⟨.vmem, 69, rfl⟩
abbrev cc5_stg1_1 : Ref sig .tc := ⟨.vmem, 70, rfl⟩
abbrev cc5_stg2_0 : Ref sig .tc := ⟨.vmem, 71, rfl⟩
abbrev cc6_stg0_0 : Ref sig .tc := ⟨.vmem, 72, rfl⟩
abbrev cc6_stg0_1 : Ref sig .tc := ⟨.vmem, 73, rfl⟩
abbrev cc6_stg1_0 : Ref sig .tc := ⟨.vmem, 74, rfl⟩
abbrev cc6_stg1_1 : Ref sig .tc := ⟨.vmem, 75, rfl⟩
abbrev cc6_stg2_0 : Ref sig .tc := ⟨.vmem, 76, rfl⟩
abbrev cc6_stg2_1 : Ref sig .tc := ⟨.vmem, 77, rfl⟩
abbrev cc7_stg0_0 : Ref sig .tc := ⟨.vmem, 78, rfl⟩
abbrev cc7_stg0_1 : Ref sig .tc := ⟨.vmem, 79, rfl⟩
abbrev cc7_stg1_0 : Ref sig .tc := ⟨.vmem, 80, rfl⟩
abbrev cc7_stg2_0 : Ref sig .tc := ⟨.vmem, 81, rfl⟩
abbrev cc7_stg2_1 : Ref sig .tc := ⟨.vmem, 82, rfl⟩
abbrev cc7_stg3_0 : Ref sig .tc := ⟨.vmem, 83, rfl⟩
abbrev cc7_stg3_1 : Ref sig .tc := ⟨.vmem, 84, rfl⟩
abbrev cc8_stg0_0 : Ref sig .tc := ⟨.vmem, 85, rfl⟩
abbrev cc8_stg0_1 : Ref sig .tc := ⟨.vmem, 86, rfl⟩
abbrev cc8_stg1_0 : Ref sig .tc := ⟨.vmem, 87, rfl⟩
abbrev cc8_stg1_1 : Ref sig .tc := ⟨.vmem, 88, rfl⟩
abbrev cc8_stg2_0 : Ref sig .tc := ⟨.vmem, 89, rfl⟩
abbrev cc8_stg2_1 : Ref sig .tc := ⟨.vmem, 90, rfl⟩
abbrev cc9_stg0_0 : Ref sig .tc := ⟨.vmem, 91, rfl⟩
abbrev cc9_stg0_1 : Ref sig .tc := ⟨.vmem, 92, rfl⟩
abbrev cc9_stg1_0 : Ref sig .tc := ⟨.vmem, 93, rfl⟩
abbrev cc9_stg2_0 : Ref sig .tc := ⟨.vmem, 94, rfl⟩
abbrev cc9_stg2_1 : Ref sig .tc := ⟨.vmem, 95, rfl⟩
abbrev cc9_stg3_0 : Ref sig .tc := ⟨.vmem, 96, rfl⟩
abbrev cc9_stg3_1 : Ref sig .tc := ⟨.vmem, 97, rfl⟩
abbrev cc9_stg4_0 : Ref sig .tc := ⟨.vmem, 98, rfl⟩
abbrev cc9_stg4_1 : Ref sig .tc := ⟨.vmem, 99, rfl⟩
abbrev cc9_stg5_0 : Ref sig .tc := ⟨.vmem, 100, rfl⟩
abbrev cc9_stg6_0 : Ref sig .tc := ⟨.vmem, 101, rfl⟩
abbrev cc9_stg7_0 : Ref sig .tc := ⟨.vmem, 102, rfl⟩
abbrev cc9_stg7_1 : Ref sig .tc := ⟨.vmem, 103, rfl⟩
abbrev cc9_stg8_0 : Ref sig .tc := ⟨.vmem, 104, rfl⟩
abbrev cc9_stg8_1 : Ref sig .tc := ⟨.vmem, 105, rfl⟩
abbrev cc9_stg9_0 : Ref sig .tc := ⟨.vmem, 106, rfl⟩
abbrev cc9_stg10_0 : Ref sig .tc := ⟨.vmem, 107, rfl⟩
abbrev cc10_stg0_0 : Ref sig .tc := ⟨.vmem, 108, rfl⟩
abbrev cc10_stg0_1 : Ref sig .tc := ⟨.vmem, 109, rfl⟩
abbrev cc10_stg1_0 : Ref sig .tc := ⟨.vmem, 110, rfl⟩
abbrev cc10_stg1_1 : Ref sig .tc := ⟨.vmem, 111, rfl⟩
abbrev cc10_stg2_0 : Ref sig .tc := ⟨.vmem, 112, rfl⟩
abbrev cc11_stg0_0 : Ref sig .tc := ⟨.vmem, 113, rfl⟩
abbrev cc11_stg0_1 : Ref sig .tc := ⟨.vmem, 114, rfl⟩
abbrev cc11_stg1_0 : Ref sig .tc := ⟨.vmem, 115, rfl⟩
abbrev cc11_stg2_0 : Ref sig .tc := ⟨.vmem, 116, rfl⟩
abbrev cc11_stg2_1 : Ref sig .tc := ⟨.vmem, 117, rfl⟩
abbrev cc11_stg3_0 : Ref sig .tc := ⟨.vmem, 118, rfl⟩
abbrev cc11_stg3_1 : Ref sig .tc := ⟨.vmem, 119, rfl⟩
abbrev cc11_stg4_0 : Ref sig .tc := ⟨.vmem, 120, rfl⟩
abbrev cc11_stg4_1 : Ref sig .tc := ⟨.vmem, 121, rfl⟩
abbrev cc11_stg5_0 : Ref sig .tc := ⟨.vmem, 122, rfl⟩
abbrev cc11_stg6_0 : Ref sig .tc := ⟨.vmem, 123, rfl⟩
abbrev cc11_stg7_0 : Ref sig .tc := ⟨.vmem, 124, rfl⟩
abbrev cc11_stg7_1 : Ref sig .tc := ⟨.vmem, 125, rfl⟩
abbrev cc11_stg8_0 : Ref sig .tc := ⟨.vmem, 126, rfl⟩
abbrev cc11_stg8_1 : Ref sig .tc := ⟨.vmem, 127, rfl⟩
abbrev cc11_stg9_0 : Ref sig .tc := ⟨.vmem, 128, rfl⟩
abbrev cc11_stg9_1 : Ref sig .tc := ⟨.vmem, 129, rfl⟩
abbrev cc11_stg10_0 : Ref sig .tc := ⟨.vmem, 130, rfl⟩
abbrev cc11_stg10_1 : Ref sig .tc := ⟨.vmem, 131, rfl⟩
abbrev cc11_stg11_0 : Ref sig .tc := ⟨.vmem, 132, rfl⟩
abbrev cc11_stg12_0 : Ref sig .tc := ⟨.vmem, 133, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc1_sem0_0 : DmaSem sig := 19
abbrev cc1_sem0_1 : DmaSem sig := 20
abbrev cc1_sem1_0 : DmaSem sig := 21
abbrev cc1_sem2_0 : DmaSem sig := 22
abbrev cc1_sem2_1 : DmaSem sig := 23
abbrev cc2_sem0_0 : DmaSem sig := 24
abbrev cc2_sem0_1 : DmaSem sig := 25
abbrev cc2_sem1_0 : DmaSem sig := 26
abbrev cc2_sem2_0 : DmaSem sig := 27
abbrev cc2_sem2_1 : DmaSem sig := 28
abbrev cc2_sem3_0 : DmaSem sig := 29
abbrev cc2_sem4_0 : DmaSem sig := 30
abbrev cc2_sem5_0 : DmaSem sig := 31
abbrev cc2_sem5_1 : DmaSem sig := 32
abbrev cc2_sem6_0 : DmaSem sig := 33
abbrev cc2_sem6_1 : DmaSem sig := 34
abbrev cc2_sem7_0 : DmaSem sig := 35
abbrev cc2_sem7_1 : DmaSem sig := 36
abbrev cc3_sem0_0 : DmaSem sig := 37
abbrev cc3_sem0_1 : DmaSem sig := 38
abbrev cc3_sem1_0 : DmaSem sig := 39
abbrev cc3_sem1_1 : DmaSem sig := 40
abbrev cc3_sem2_0 : DmaSem sig := 41
abbrev cc3_sem2_1 : DmaSem sig := 42
abbrev cc3_sem3_0 : DmaSem sig := 43
abbrev cc3_sem3_1 : DmaSem sig := 44
abbrev cc3_sem4_0 : DmaSem sig := 45
abbrev cc3_sem4_1 : DmaSem sig := 46
abbrev cc3_sem5_0 : DmaSem sig := 47
abbrev cc3_sem6_0 : DmaSem sig := 48
abbrev cc3_sem7_0 : DmaSem sig := 49
abbrev cc3_sem8_0 : DmaSem sig := 50
abbrev cc3_sem9_0 : DmaSem sig := 51
abbrev cc3_sem9_1 : DmaSem sig := 52
abbrev cc3_sem10_0 : DmaSem sig := 53
abbrev cc3_sem10_1 : DmaSem sig := 54
abbrev cc3_sem11_0 : DmaSem sig := 55
abbrev cc3_sem11_1 : DmaSem sig := 56
abbrev cc3_sem12_0 : DmaSem sig := 57
abbrev cc3_sem12_1 : DmaSem sig := 58
abbrev cc3_sem13_0 : DmaSem sig := 59
abbrev cc3_sem14_0 : DmaSem sig := 60
abbrev cc3_sem15_0 : DmaSem sig := 61
abbrev cc4_sem0_0 : DmaSem sig := 62
abbrev cc4_sem0_1 : DmaSem sig := 63
abbrev cc4_sem1_0 : DmaSem sig := 64
abbrev cc4_sem1_1 : DmaSem sig := 65
abbrev cc4_sem2_0 : DmaSem sig := 66
abbrev cc5_sem0_0 : DmaSem sig := 67
abbrev cc5_sem0_1 : DmaSem sig := 68
abbrev cc5_sem1_0 : DmaSem sig := 69
abbrev cc5_sem1_1 : DmaSem sig := 70
abbrev cc5_sem2_0 : DmaSem sig := 71
abbrev cc6_sem0_0 : DmaSem sig := 72
abbrev cc6_sem0_1 : DmaSem sig := 73
abbrev cc6_sem1_0 : DmaSem sig := 74
abbrev cc6_sem1_1 : DmaSem sig := 75
abbrev cc6_sem2_0 : DmaSem sig := 76
abbrev cc6_sem2_1 : DmaSem sig := 77
abbrev cc7_sem0_0 : DmaSem sig := 78
abbrev cc7_sem0_1 : DmaSem sig := 79
abbrev cc7_sem1_0 : DmaSem sig := 80
abbrev cc7_sem2_0 : DmaSem sig := 81
abbrev cc7_sem2_1 : DmaSem sig := 82
abbrev cc7_sem3_0 : DmaSem sig := 83
abbrev cc7_sem3_1 : DmaSem sig := 84
abbrev cc8_sem0_0 : DmaSem sig := 85
abbrev cc8_sem0_1 : DmaSem sig := 86
abbrev cc8_sem1_0 : DmaSem sig := 87
abbrev cc8_sem1_1 : DmaSem sig := 88
abbrev cc8_sem2_0 : DmaSem sig := 89
abbrev cc8_sem2_1 : DmaSem sig := 90
abbrev cc9_sem0_0 : DmaSem sig := 91
abbrev cc9_sem0_1 : DmaSem sig := 92
abbrev cc9_sem1_0 : DmaSem sig := 93
abbrev cc9_sem2_0 : DmaSem sig := 94
abbrev cc9_sem2_1 : DmaSem sig := 95
abbrev cc9_sem3_0 : DmaSem sig := 96
abbrev cc9_sem3_1 : DmaSem sig := 97
abbrev cc9_sem4_0 : DmaSem sig := 98
abbrev cc9_sem4_1 : DmaSem sig := 99
abbrev cc9_sem5_0 : DmaSem sig := 100
abbrev cc9_sem6_0 : DmaSem sig := 101
abbrev cc9_sem7_0 : DmaSem sig := 102
abbrev cc9_sem7_1 : DmaSem sig := 103
abbrev cc9_sem8_0 : DmaSem sig := 104
abbrev cc9_sem8_1 : DmaSem sig := 105
abbrev cc9_sem9_0 : DmaSem sig := 106
abbrev cc9_sem10_0 : DmaSem sig := 107
abbrev cc10_sem0_0 : DmaSem sig := 108
abbrev cc10_sem0_1 : DmaSem sig := 109
abbrev cc10_sem1_0 : DmaSem sig := 110
abbrev cc10_sem1_1 : DmaSem sig := 111
abbrev cc10_sem2_0 : DmaSem sig := 112
abbrev cc11_sem0_0 : DmaSem sig := 113
abbrev cc11_sem0_1 : DmaSem sig := 114
abbrev cc11_sem1_0 : DmaSem sig := 115
abbrev cc11_sem2_0 : DmaSem sig := 116
abbrev cc11_sem2_1 : DmaSem sig := 117
abbrev cc11_sem3_0 : DmaSem sig := 118
abbrev cc11_sem3_1 : DmaSem sig := 119
abbrev cc11_sem4_0 : DmaSem sig := 120
abbrev cc11_sem4_1 : DmaSem sig := 121
abbrev cc11_sem5_0 : DmaSem sig := 122
abbrev cc11_sem6_0 : DmaSem sig := 123
abbrev cc11_sem7_0 : DmaSem sig := 124
abbrev cc11_sem7_1 : DmaSem sig := 125
abbrev cc11_sem8_0 : DmaSem sig := 126
abbrev cc11_sem8_1 : DmaSem sig := 127
abbrev cc11_sem9_0 : DmaSem sig := 128
abbrev cc11_sem9_1 : DmaSem sig := 129
abbrev cc11_sem10_0 : DmaSem sig := 130
abbrev cc11_sem10_1 : DmaSem sig := 131
abbrev cc11_sem11_0 : DmaSem sig := 132
abbrev cc11_sem12_0 : DmaSem sig := 133

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x4096 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x4096 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S4096x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S512x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x1024 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S512x1024 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S512x1024 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S512x1024 .bf16 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![32], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_10 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_11 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_12 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_13 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_14 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_15 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S512x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S512x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S512x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S512x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S512x1024 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 1 → Memref sig .tc .vmem S1024x1024 .bf16 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S256x1024 .bf16 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x1024 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x1024 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 2 → Memref sig .tc .vmem S512x1024 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

abbrev stage3_10 : Fin 2 → Memref sig .tc .vmem S512x1024 .bf16 := fun | 0 => Memref.whole cc3_stg10_0 | 1 => Memref.whole cc3_stg10_1 | ⟨_ + 2, h⟩ => absurd h (Nat.not_lt.2 (Nat.le_add_left _ _))
abbrev sem3_10 : Fin 2 → DmaSem sig := fun | 0 => cc3_sem10_0 | 1 => cc3_sem10_1 | ⟨_ + 2, h⟩ => absurd h (Nat.not_lt.2 (Nat.le_add_left _ _))
abbrev reads3_10 : Fin grid3.rank → Bool := ![true]

abbrev stage3_11 : Fin 2 → Memref sig .tc .vmem S512x1024 .bf16 := fun | 0 => Memref.whole cc3_stg11_0 | 1 => Memref.whole cc3_stg11_1 | ⟨_ + 2, h⟩ => absurd h (Nat.not_lt.2 (Nat.le_add_left _ _))
abbrev sem3_11 : Fin 2 → DmaSem sig := fun | 0 => cc3_sem11_0 | 1 => cc3_sem11_1 | ⟨_ + 2, h⟩ => absurd h (Nat.not_lt.2 (Nat.le_add_left _ _))
abbrev reads3_11 : Fin grid3.rank → Bool := ![true]

abbrev stage3_12 : Fin 2 → Memref sig .tc .vmem S512x1024 .bf16 := fun | 0 => Memref.whole cc3_stg12_0 | 1 => Memref.whole cc3_stg12_1 | ⟨_ + 2, h⟩ => absurd h (Nat.not_lt.2 (Nat.le_add_left _ _))
abbrev sem3_12 : Fin 2 → DmaSem sig := fun | 0 => cc3_sem12_0 | 1 => cc3_sem12_1 | ⟨_ + 2, h⟩ => absurd h (Nat.not_lt.2 (Nat.le_add_left _ _))
abbrev reads3_12 : Fin grid3.rank → Bool := ![true]

abbrev stage3_13 : Fin 1 → Memref sig .tc .vmem S1x1 .f32 := fun | 0 => Memref.whole cc3_stg13_0 | ⟨_ + 1, h⟩ => absurd h (Nat.not_lt.2 (Nat.le_add_left _ _))
abbrev sem3_13 : Fin 1 → DmaSem sig := fun | 0 => cc3_sem13_0 | ⟨_ + 1, h⟩ => absurd h (Nat.not_lt.2 (Nat.le_add_left _ _))
abbrev reads3_13 : Fin grid3.rank → Bool := ![false]

abbrev stage3_14 : Fin 1 → Memref sig .tc .vmem S1x1024 .f32 := fun | 0 => Memref.whole cc3_stg14_0 | ⟨_ + 1, h⟩ => absurd h (Nat.not_lt.2 (Nat.le_add_left _ _))
abbrev sem3_14 : Fin 1 → DmaSem sig := fun | 0 => cc3_sem14_0 | ⟨_ + 1, h⟩ => absurd h (Nat.not_lt.2 (Nat.le_add_left _ _))
abbrev reads3_14 : Fin grid3.rank → Bool := ![false]

abbrev stage3_15 : Fin 1 → Memref sig .tc .vmem S1x1024 .f32 := fun | 0 => Memref.whole cc3_stg15_0 | ⟨_ + 1, h⟩ => absurd h (Nat.not_lt.2 (Nat.le_add_left _ _))
abbrev sem3_15 : Fin 1 → DmaSem sig := fun | 0 => cc3_sem15_0 | ⟨_ + 1, h⟩ => absurd h (Nat.not_lt.2 (Nat.le_add_left _ _))
abbrev reads3_15 : Fin grid3.rank → Bool := ![false]

abbrev grid4 : Pipeline.Grid := ⟨3, ![1, 1, 8], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S2048x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 2 → Memref sig .tc .vmem S2048x1024 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 1 → Memref sig .tc .vmem S1024x1024 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![true, true, false]

abbrev grid5 : Pipeline.Grid := ⟨3, ![1, 1, 8], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 2 → Memref sig .tc .vmem S2048x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, true]

abbrev stage5_1 : Fin 2 → Memref sig .tc .vmem S2048x1024 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true, true]

abbrev stage5_2 : Fin 1 → Memref sig .tc .vmem S256x1024 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![true, true, false]

abbrev grid6 : Pipeline.Grid := ⟨3, ![4, 1, 8], ![false, false, false]⟩

def cc6_transform_0 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc6_transform_1 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc6_transform_2 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage6_0 : Fin 2 → Memref sig .tc .vmem S2048x1024 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false, true]

abbrev stage6_1 : Fin 2 → Memref sig .tc .vmem S2048x1024 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true, true]

abbrev stage6_2 : Fin 2 → Memref sig .tc .vmem S1024x1024 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true, false]

abbrev grid7 : Pipeline.Grid := ⟨1, ![32], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S512x1024 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1024x4096 .bf16 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S512x4096 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 2 → Memref sig .tc .vmem S512x4096 .bf16 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev grid8 : Pipeline.Grid := ⟨3, ![1, 4, 8], ![false, false, false]⟩

def cc8_transform_0 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc8_transform_1 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc8_transform_2 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage8_0 : Fin 2 → Memref sig .tc .vmem S2048x1024 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true, false, true]

abbrev stage8_1 : Fin 2 → Memref sig .tc .vmem S2048x1024 .bf16 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![false, true, true]

abbrev stage8_2 : Fin 2 → Memref sig .tc .vmem S1024x1024 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true, true, false]

abbrev grid9 : Pipeline.Grid := ⟨1, ![32], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_4 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_5 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_6 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_7 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_8 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_9 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_10 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage9_0 : Fin 2 → Memref sig .tc .vmem S512x4096 .bf16 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S1024x4096 .bf16 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 2 → Memref sig .tc .vmem S512x1024 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev stage9_3 : Fin 2 → Memref sig .tc .vmem S512x1024 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

abbrev stage9_4 : Fin 2 → Memref sig .tc .vmem S512x1024 .f32 := fun | 0 => Memref.whole cc9_stg4_0 | 1 => Memref.whole cc9_stg4_1 | ⟨_ + 2, h⟩ => absurd h (Nat.not_lt.2 (Nat.le_add_left _ _))
abbrev sem9_4 : Fin 2 → DmaSem sig := fun | 0 => cc9_sem4_0 | 1 => cc9_sem4_1 | ⟨_ + 2, h⟩ => absurd h (Nat.not_lt.2 (Nat.le_add_left _ _))
abbrev reads9_4 : Fin grid9.rank → Bool := ![true]

abbrev stage9_5 : Fin 1 → Memref sig .tc .vmem S1x1024 .f32 := fun | 0 => Memref.whole cc9_stg5_0 | ⟨_ + 1, h⟩ => absurd h (Nat.not_lt.2 (Nat.le_add_left _ _))
abbrev sem9_5 : Fin 1 → DmaSem sig := fun | 0 => cc9_sem5_0 | ⟨_ + 1, h⟩ => absurd h (Nat.not_lt.2 (Nat.le_add_left _ _))
abbrev reads9_5 : Fin grid9.rank → Bool := ![false]

abbrev stage9_6 : Fin 1 → Memref sig .tc .vmem S1x1024 .f32 := fun | 0 => Memref.whole cc9_stg6_0 | ⟨_ + 1, h⟩ => absurd h (Nat.not_lt.2 (Nat.le_add_left _ _))
abbrev sem9_6 : Fin 1 → DmaSem sig := fun | 0 => cc9_sem6_0 | ⟨_ + 1, h⟩ => absurd h (Nat.not_lt.2 (Nat.le_add_left _ _))
abbrev reads9_6 : Fin grid9.rank → Bool := ![false]

abbrev stage9_7 : Fin 2 → Memref sig .tc .vmem S512x1024 .f32 := fun | 0 => Memref.whole cc9_stg7_0 | 1 => Memref.whole cc9_stg7_1 | ⟨_ + 2, h⟩ => absurd h (Nat.not_lt.2 (Nat.le_add_left _ _))
abbrev sem9_7 : Fin 2 → DmaSem sig := fun | 0 => cc9_sem7_0 | 1 => cc9_sem7_1 | ⟨_ + 2, h⟩ => absurd h (Nat.not_lt.2 (Nat.le_add_left _ _))
abbrev reads9_7 : Fin grid9.rank → Bool := ![true]

abbrev stage9_8 : Fin 2 → Memref sig .tc .vmem S512x1024 .bf16 := fun | 0 => Memref.whole cc9_stg8_0 | 1 => Memref.whole cc9_stg8_1 | ⟨_ + 2, h⟩ => absurd h (Nat.not_lt.2 (Nat.le_add_left _ _))
abbrev sem9_8 : Fin 2 → DmaSem sig := fun | 0 => cc9_sem8_0 | 1 => cc9_sem8_1 | ⟨_ + 2, h⟩ => absurd h (Nat.not_lt.2 (Nat.le_add_left _ _))
abbrev reads9_8 : Fin grid9.rank → Bool := ![true]

abbrev stage9_9 : Fin 1 → Memref sig .tc .vmem S1x1024 .f32 := fun | 0 => Memref.whole cc9_stg9_0 | ⟨_ + 1, h⟩ => absurd h (Nat.not_lt.2 (Nat.le_add_left _ _))
abbrev sem9_9 : Fin 1 → DmaSem sig := fun | 0 => cc9_sem9_0 | ⟨_ + 1, h⟩ => absurd h (Nat.not_lt.2 (Nat.le_add_left _ _))
abbrev reads9_9 : Fin grid9.rank → Bool := ![false]

abbrev stage9_10 : Fin 1 → Memref sig .tc .vmem S1x1024 .f32 := fun | 0 => Memref.whole cc9_stg10_0 | ⟨_ + 1, h⟩ => absurd h (Nat.not_lt.2 (Nat.le_add_left _ _))
abbrev sem9_10 : Fin 1 → DmaSem sig := fun | 0 => cc9_sem10_0 | ⟨_ + 1, h⟩ => absurd h (Nat.not_lt.2 (Nat.le_add_left _ _))
abbrev reads9_10 : Fin grid9.rank → Bool := ![false]

abbrev grid10 : Pipeline.Grid := ⟨3, ![1, 1, 8], ![false, false, false]⟩

def cc10_transform_0 (i : grid10.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc10_transform_1 (i : grid10.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc10_transform_2 (i : grid10.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage10_0 : Fin 2 → Memref sig .tc .vmem S2048x1024 .bf16 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true, false, true]

abbrev stage10_1 : Fin 2 → Memref sig .tc .vmem S2048x1024 .bf16 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![false, true, true]

abbrev stage10_2 : Fin 1 → Memref sig .tc .vmem S1024x1024 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![true, true, false]

abbrev grid11 : Pipeline.Grid := ⟨1, ![32], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_3 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_4 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_5 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_6 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_7 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_8 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_9 (i : grid11.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc11_transform_10 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_11 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_12 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage11_0 : Fin 2 → Memref sig .tc .vmem S512x1024 .bf16 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S1024x1024 .bf16 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 2 → Memref sig .tc .vmem S512x512 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true]

abbrev stage11_3 : Fin 2 → Memref sig .tc .vmem S512x512 .f32 := fun | 0 => Memref.whole cc11_stg3_0 | 1 => Memref.whole cc11_stg3_1 | ⟨_ + 2, h⟩ => absurd h (Nat.not_lt.2 (Nat.le_add_left _ _))
abbrev sem11_3 : Fin 2 → DmaSem sig := fun | 0 => cc11_sem3_0 | 1 => cc11_sem3_1 | ⟨_ + 2, h⟩ => absurd h (Nat.not_lt.2 (Nat.le_add_left _ _))
abbrev reads11_3 : Fin grid11.rank → Bool := ![true]

abbrev stage11_4 : Fin 2 → Memref sig .tc .vmem S512x512 .f32 := fun | 0 => Memref.whole cc11_stg4_0 | 1 => Memref.whole cc11_stg4_1 | ⟨_ + 2, h⟩ => absurd h (Nat.not_lt.2 (Nat.le_add_left _ _))
abbrev sem11_4 : Fin 2 → DmaSem sig := fun | 0 => cc11_sem4_0 | 1 => cc11_sem4_1 | ⟨_ + 2, h⟩ => absurd h (Nat.not_lt.2 (Nat.le_add_left _ _))
abbrev reads11_4 : Fin grid11.rank → Bool := ![true]

abbrev stage11_5 : Fin 1 → Memref sig .tc .vmem S1x512 .f32 := fun | 0 => Memref.whole cc11_stg5_0 | ⟨_ + 1, h⟩ => absurd h (Nat.not_lt.2 (Nat.le_add_left _ _))
abbrev sem11_5 : Fin 1 → DmaSem sig := fun | 0 => cc11_sem5_0 | ⟨_ + 1, h⟩ => absurd h (Nat.not_lt.2 (Nat.le_add_left _ _))
abbrev reads11_5 : Fin grid11.rank → Bool := ![false]

abbrev stage11_6 : Fin 1 → Memref sig .tc .vmem S1x512 .f32 := fun | 0 => Memref.whole cc11_stg6_0 | ⟨_ + 1, h⟩ => absurd h (Nat.not_lt.2 (Nat.le_add_left _ _))
abbrev sem11_6 : Fin 1 → DmaSem sig := fun | 0 => cc11_sem6_0 | ⟨_ + 1, h⟩ => absurd h (Nat.not_lt.2 (Nat.le_add_left _ _))
abbrev reads11_6 : Fin grid11.rank → Bool := ![false]

abbrev stage11_7 : Fin 2 → Memref sig .tc .vmem S512x512 .f32 := fun | 0 => Memref.whole cc11_stg7_0 | 1 => Memref.whole cc11_stg7_1 | ⟨_ + 2, h⟩ => absurd h (Nat.not_lt.2 (Nat.le_add_left _ _))
abbrev sem11_7 : Fin 2 → DmaSem sig := fun | 0 => cc11_sem7_0 | 1 => cc11_sem7_1 | ⟨_ + 2, h⟩ => absurd h (Nat.not_lt.2 (Nat.le_add_left _ _))
abbrev reads11_7 : Fin grid11.rank → Bool := ![true]

abbrev stage11_8 : Fin 2 → Memref sig .tc .vmem S512x512 .bf16 := fun | 0 => Memref.whole cc11_stg8_0 | 1 => Memref.whole cc11_stg8_1 | ⟨_ + 2, h⟩ => absurd h (Nat.not_lt.2 (Nat.le_add_left _ _))
abbrev sem11_8 : Fin 2 → DmaSem sig := fun | 0 => cc11_sem8_0 | 1 => cc11_sem8_1 | ⟨_ + 2, h⟩ => absurd h (Nat.not_lt.2 (Nat.le_add_left _ _))
abbrev reads11_8 : Fin grid11.rank → Bool := ![true]

abbrev stage11_9 : Fin 2 → Memref sig .tc .vmem S8x512x1 .f32 := fun | 0 => Memref.whole cc11_stg9_0 | 1 => Memref.whole cc11_stg9_1 | ⟨_ + 2, h⟩ => absurd h (Nat.not_lt.2 (Nat.le_add_left _ _))
abbrev sem11_9 : Fin 2 → DmaSem sig := fun | 0 => cc11_sem9_0 | 1 => cc11_sem9_1 | ⟨_ + 2, h⟩ => absurd h (Nat.not_lt.2 (Nat.le_add_left _ _))
abbrev reads11_9 : Fin grid11.rank → Bool := ![true]

abbrev stage11_10 : Fin 2 → Memref sig .tc .vmem S512x512 .f32 := fun | 0 => Memref.whole cc11_stg10_0 | 1 => Memref.whole cc11_stg10_1 | ⟨_ + 2, h⟩ => absurd h (Nat.not_lt.2 (Nat.le_add_left _ _))
abbrev sem11_10 : Fin 2 → DmaSem sig := fun | 0 => cc11_sem10_0 | 1 => cc11_sem10_1 | ⟨_ + 2, h⟩ => absurd h (Nat.not_lt.2 (Nat.le_add_left _ _))
abbrev reads11_10 : Fin grid11.rank → Bool := ![true]

abbrev stage11_11 : Fin 1 → Memref sig .tc .vmem S1x512 .f32 := fun | 0 => Memref.whole cc11_stg11_0 | ⟨_ + 1, h⟩ => absurd h (Nat.not_lt.2 (Nat.le_add_left _ _))
abbrev sem11_11 : Fin 1 → DmaSem sig := fun | 0 => cc11_sem11_0 | ⟨_ + 1, h⟩ => absurd h (Nat.not_lt.2 (Nat.le_add_left _ _))
abbrev reads11_11 : Fin grid11.rank → Bool := ![false]

abbrev stage11_12 : Fin 1 → Memref sig .tc .vmem S1x512 .f32 := fun | 0 => Memref.whole cc11_stg12_0 | ⟨_ + 1, h⟩ => absurd h (Nat.not_lt.2 (Nat.le_add_left _ _))
abbrev sem11_12 : Fin 1 → DmaSem sig := fun | 0 => cc11_sem12_0 | ⟨_ + 1, h⟩ => absurd h (Nat.not_lt.2 (Nat.le_add_left _ _))
abbrev reads11_12 : Fin grid11.rank → Bool := ![false]
-- ==== Reference2Ideal.lean ====
abbrev S16384x512 : Shape := ⟨2, ![16384, 512]⟩
abbrev S16384x1024 : Shape := ⟨2, ![16384, 1024]⟩
abbrev S16384x256 : Shape := ⟨2, ![16384, 256]⟩
abbrev S1x512 : Shape := ⟨2, ![1, 512]⟩
abbrev S1024x1024 : Shape := ⟨2, ![1024, 1024]⟩
abbrev S1x1024 : Shape := ⟨2, ![1, 1024]⟩
abbrev S1024x4096 : Shape := ⟨2, ![1024, 4096]⟩
abbrev S4096x1024 : Shape := ⟨2, ![4096, 1024]⟩
abbrev S256x1024 : Shape := ⟨2, ![256, 1024]⟩
abbrev S_ : Shape := ⟨0, ![]⟩
abbrev S16384 : Shape := ⟨1, ![16384]⟩
abbrev S16384x1 : Shape := ⟨2, ![16384, 1]⟩
abbrev S16384x4096 : Shape := ⟨2, ![16384, 4096]⟩
abbrev S1x1 : Shape := ⟨2, ![1, 1]⟩
abbrev S1024x256 : Shape := ⟨2, ![1024, 256]⟩
abbrev S1024 : Shape := ⟨1, ![1024]⟩
abbrev S512 : Shape := ⟨1, ![512]⟩

abbrev nBuf : Space → Nat
  | .hbm => 352
  | .vmem => 0
  | .smem => 0
  | _ => 0

abbrev hbmTy0_0 (i : Nat) : BufTy := match i % 128 with
  | 0 => ⟨S16384x512, .f32⟩
  | 1 => ⟨S16384x512, .f32⟩
  | 2 => ⟨S16384x1024, .f32⟩
  | 3 => ⟨S16384x256, .f32⟩
  | 4 => ⟨S16384x1024, .f32⟩
  | 5 => ⟨S16384x512, .f32⟩
  | 6 => ⟨S1x512, .f32⟩
  | 7 => ⟨S1x512, .f32⟩
  | 8 => ⟨S1024x1024, .f32⟩
  | 9 => ⟨S1x1024, .f32⟩
  | 10 => ⟨S1x1024, .f32⟩
  | 11 => ⟨S1024x4096, .f32⟩
  | 12 => ⟨S4096x1024, .f32⟩
  | 13 => ⟨S1x1024, .f32⟩
  | 14 => ⟨S1x1024, .f32⟩
  | 15 => ⟨S1024x1024, .f32⟩
  | 16 => ⟨S256x1024, .f32⟩
  | 17 => ⟨S16384x512, .f32⟩
  | 18 => ⟨S_, .f32⟩
  | 19 => ⟨S16384, .f32⟩
  | 20 => ⟨S16384x1, .f32⟩
  | 21 => ⟨S_, .f32⟩
  | 22 => ⟨S16384x1, .f32⟩
  | 23 => ⟨S16384x1, .f32⟩
  | 24 => ⟨S_, .f32⟩
  | 25 => ⟨S16384x1, .f32⟩
  | 26 => ⟨S16384x1, .f32⟩
  | 27 => ⟨S16384x1, .f32⟩
  | 28 => ⟨S16384x1, .f32⟩
  | 29 => ⟨S_, .f32⟩
  | 30 => ⟨S16384x1, .f32⟩
  | 31 => ⟨S16384x1, .f32⟩
  | 32 => ⟨S16384x512, .f32⟩
  | 33 => ⟨S16384x512, .f32⟩
  | 34 => ⟨S16384x512, .f32⟩
  | 35 => ⟨S16384x512, .f32⟩
  | 36 => ⟨S16384x512, .f32⟩
  | 37 => ⟨S_, .f32⟩
  | 38 => ⟨S16384, .f32⟩
  | 39 => ⟨S16384x1, .f32⟩
  | 40 => ⟨S_, .f32⟩
  | 41 => ⟨S16384x1, .f32⟩
  | 42 => ⟨S16384x1, .f32⟩
  | 43 => ⟨S_, .f32⟩
  | 44 => ⟨S16384x1, .f32⟩
  | 45 => ⟨S16384x1, .f32⟩
  | 46 => ⟨S16384x1, .f32⟩
  | 47 => ⟨S16384x1, .f32⟩
  | 48 => ⟨S_, .f32⟩
  | 49 => ⟨S16384x1, .f32⟩
  | 50 => ⟨S16384x1, .f32⟩
  | 51 => ⟨S16384x512, .f32⟩
  | 52 => ⟨S16384x512, .f32⟩
  | 53 => ⟨S16384x512, .f32⟩
  | 54 => ⟨S16384x512, .f32⟩
  | 55 => ⟨S16384x1024, .f32⟩
  | 56 => ⟨S16384x1024, .f32⟩
  | 57 => ⟨S16384x1024, .f32⟩
  | 58 => ⟨S_, .f32⟩
  | 59 => ⟨S16384, .f32⟩
  | 60 => ⟨S16384x1, .f32⟩
  | 61 => ⟨S_, .f32⟩
  | 62 => ⟨S16384x1, .f32⟩
  | 63 => ⟨S16384x1, .f32⟩
  | 64 => ⟨S_, .f32⟩
  | 65 => ⟨S16384x1, .f32⟩
  | 66 => ⟨S16384x1, .f32⟩
  | 67 => ⟨S16384x1, .f32⟩
  | 68 => ⟨S16384x1, .f32⟩
  | 69 => ⟨S_, .f32⟩
  | 70 => ⟨S16384x1, .f32⟩
  | 71 => ⟨S16384x1, .f32⟩
  | 72 => ⟨S16384x1024, .f32⟩
  | 73 => ⟨S16384x1024, .f32⟩
  | 74 => ⟨S16384x1024, .f32⟩
  | 75 => ⟨S16384x1024, .f32⟩
  | 76 => ⟨S16384x1024, .f32⟩
  | 77 => ⟨S16384x1024, .f32⟩
  | 78 => ⟨S_, .f32⟩
  | 79 => ⟨S16384, .f32⟩
  | 80 => ⟨S16384x1, .f32⟩
  | 81 => ⟨S_, .f32⟩
  | 82 => ⟨S16384x1, .f32⟩
  | 83 => ⟨S16384x1, .f32⟩
  | 84 => ⟨S_, .f32⟩
  | 85 => ⟨S16384x1, .f32⟩
  | 86 => ⟨S16384x1, .f32⟩
  | 87 => ⟨S16384x1, .f32⟩
  | 88 => ⟨S16384x1, .f32⟩
  | 89 => ⟨S_, .f32⟩
  | 90 => ⟨S16384x1, .f32⟩
  | 91 => ⟨S16384x1, .f32⟩
  | 92 => ⟨S16384x1024, .f32⟩
  | 93 => ⟨S16384x1024, .f32⟩
  | 94 => ⟨S16384x1024, .f32⟩
  | 95 => ⟨S16384x1024, .f32⟩
  | 96 => ⟨S16384x4096, .f32⟩
  | 97 => ⟨S_, .f32⟩
  | 98 => ⟨S16384x4096, .f32⟩
  | 99 => ⟨S16384x4096, .f32⟩
  | 100 => ⟨S_, .f32⟩
  | 101 => ⟨S16384x4096, .f32⟩
  | 102 => ⟨S16384x4096, .i1⟩
  | 103 => ⟨S_, .f32⟩
  | 104 => ⟨S16384x4096, .f32⟩
  | 105 => ⟨S16384x4096, .f32⟩
  | 106 => ⟨S_, .f32⟩
  | 107 => ⟨S16384x4096, .f32⟩
  | 108 => ⟨S16384x4096, .f32⟩
  | 109 => ⟨S16384x1024, .f32⟩
  | 110 => ⟨S16384x1024, .f32⟩
  | 111 => ⟨S_, .f32⟩
  | 112 => ⟨S16384, .f32⟩
  | 113 => ⟨S16384x1, .f32⟩
  | 114 => ⟨S_, .f32⟩
  | 115 => ⟨S16384x1, .f32⟩
  | 116 => ⟨S16384x1, .f32⟩
  | 117 => ⟨S_, .f32⟩
  | 118 => ⟨S16384x1, .f32⟩
  | 119 => ⟨S16384x1, .f32⟩
  | 120 => ⟨S16384x1, .f32⟩
  | 121 => ⟨S16384x1, .f32⟩
  | 122 => ⟨S_, .f32⟩
  | 123 => ⟨S16384x1, .f32⟩
  | 124 => ⟨S16384x1, .f32⟩
  | 125 => ⟨S16384x1024, .f32⟩
  | 126 => ⟨S16384x1024, .f32⟩
  | 127 => ⟨S16384x1024, .f32⟩
  | _ => ⟨S16384x512, .f32⟩

abbrev hbmTy0_1 (i : Nat) : BufTy := match i % 128 with
  | 0 => ⟨S16384x1024, .f32⟩
  | 1 => ⟨S16384x1024, .f32⟩
  | 2 => ⟨S16384x1024, .f32⟩
  | 3 => ⟨S_, .f32⟩
  | 4 => ⟨S16384, .f32⟩
  | 5 => ⟨S16384x1, .f32⟩
  | 6 => ⟨S_, .f32⟩
  | 7 => ⟨S16384x1, .f32⟩
  | 8 => ⟨S16384x1, .f32⟩
  | 9 => ⟨S_, .f32⟩
  | 10 => ⟨S16384x1, .f32⟩
  | 11 => ⟨S16384x1, .f32⟩
  | 12 => ⟨S16384x1, .f32⟩
  | 13 => ⟨S16384x1, .f32⟩
  | 14 => ⟨S_, .f32⟩
  | 15 => ⟨S16384x1, .f32⟩
  | 16 => ⟨S16384x1, .f32⟩
  | 17 => ⟨S16384x1024, .f32⟩
  | 18 => ⟨S16384x1024, .f32⟩
  | 19 => ⟨S16384x1024, .f32⟩
  | 20 => ⟨S16384x1024, .f32⟩
  | 21 => ⟨S16384x1024, .f32⟩
  | 22 => ⟨S16384x1024, .f32⟩
  | 23 => ⟨S16384x1024, .f32⟩
  | 24 => ⟨S_, .f32⟩
  | 25 => ⟨S16384x1024, .f32⟩
  | 26 => ⟨S16384x1024, .f32⟩
  | 27 => ⟨S_, .f32⟩
  | 28 => ⟨S16384x1024, .f32⟩
  | 29 => ⟨S16384x1024, .f32⟩
  | 30 => ⟨S_, .f32⟩
  | 31 => ⟨S16384x1024, .f32⟩
  | 32 => ⟨S16384x1024, .f32⟩
  | 33 => ⟨S16384x1024, .f32⟩
  | 34 => ⟨S16384x1024, .f32⟩
  | 35 => ⟨S16384x1024, .f32⟩
  | 36 => ⟨S16384x1024, .f32⟩
  | 37 => ⟨S16384x1024, .f32⟩
  | 38 => ⟨S16384x1024, .f32⟩
  | 39 => ⟨S_, .f32⟩
  | 40 => ⟨S16384x1024, .f32⟩
  | 41 => ⟨S16384x1024, .f32⟩
  | 42 => ⟨S_, .f32⟩
  | 43 => ⟨S16384, .f32⟩
  | 44 => ⟨S_, .f32⟩
  | 45 => ⟨S16384, .f32⟩
  | 46 => ⟨S16384, .f32⟩
  | 47 => ⟨S_, .f32⟩
  | 48 => ⟨S_, .f32⟩
  | 49 => ⟨S_, .f32⟩
  | 50 => ⟨S_, .f32⟩
  | 51 => ⟨S1x1, .f32⟩
  | 52 => ⟨S_, .f32⟩
  | 53 => ⟨S_, .f32⟩
  | 54 => ⟨S_, .f32⟩
  | 55 => ⟨S16384, .f32⟩
  | 56 => ⟨S_, .f32⟩
  | 57 => ⟨S16384, .f32⟩
  | 58 => ⟨S16384, .f32⟩
  | 59 => ⟨S16384x1024, .f32⟩
  | 60 => ⟨S16384x1024, .f32⟩
  | 61 => ⟨S16384x1024, .f32⟩
  | 62 => ⟨S16384x1024, .f32⟩
  | 63 => ⟨S1024x256, .f32⟩
  | 64 => ⟨S256x1024, .f32⟩
  | 65 => ⟨S16384x1024, .f32⟩
  | 66 => ⟨S1024x1024, .f32⟩
  | 67 => ⟨S1024x1024, .f32⟩
  | 68 => ⟨S16384x1024, .f32⟩
  | 69 => ⟨S16384x1024, .f32⟩
  | 70 => ⟨S_, .f32⟩
  | 71 => ⟨S1024, .f32⟩
  | 72 => ⟨S1x1024, .f32⟩
  | 73 => ⟨S16384x1024, .f32⟩
  | 74 => ⟨S16384x1024, .f32⟩
  | 75 => ⟨S16384x1024, .f32⟩
  | 76 => ⟨S_, .f32⟩
  | 77 => ⟨S16384, .f32⟩
  | 78 => ⟨S16384x1, .f32⟩
  | 79 => ⟨S16384x1024, .f32⟩
  | 80 => ⟨S16384x1024, .f32⟩
  | 81 => ⟨S16384x1024, .f32⟩
  | 82 => ⟨S16384x1, .f32⟩
  | 83 => ⟨S_, .f32⟩
  | 84 => ⟨S16384x1, .f32⟩
  | 85 => ⟨S16384x1, .f32⟩
  | 86 => ⟨S_, .f32⟩
  | 87 => ⟨S16384, .f32⟩
  | 88 => ⟨S16384x1024, .f32⟩
  | 89 => ⟨S16384x1024, .f32⟩
  | 90 => ⟨S16384x1024, .f32⟩
  | 91 => ⟨S16384x1024, .f32⟩
  | 92 => ⟨S16384x1024, .f32⟩
  | 93 => ⟨S16384x1024, .f32⟩
  | 94 => ⟨S_, .f32⟩
  | 95 => ⟨S1024, .f32⟩
  | 96 => ⟨S1x1024, .f32⟩
  | 97 => ⟨S16384x1024, .f32⟩
  | 98 => ⟨S16384x1024, .f32⟩
  | 99 => ⟨S16384x1024, .f32⟩
  | 100 => ⟨S_, .f32⟩
  | 101 => ⟨S16384, .f32⟩
  | 102 => ⟨S16384x1, .f32⟩
  | 103 => ⟨S16384x1024, .f32⟩
  | 104 => ⟨S16384x1024, .f32⟩
  | 105 => ⟨S16384x1, .f32⟩
  | 106 => ⟨S_, .f32⟩
  | 107 => ⟨S16384x1, .f32⟩
  | 108 => ⟨S16384x1, .f32⟩
  | 109 => ⟨S_, .f32⟩
  | 110 => ⟨S16384, .f32⟩
  | 111 => ⟨S16384x1024, .f32⟩
  | 112 => ⟨S16384x1024, .f32⟩
  | 113 => ⟨S16384x1024, .f32⟩
  | 114 => ⟨S16384x1024, .f32⟩
  | 115 => ⟨S16384x1024, .f32⟩
  | 116 => ⟨S1024x4096, .f32⟩
  | 117 => ⟨S4096x1024, .f32⟩
  | 118 => ⟨S16384x4096, .f32⟩
  | 119 => ⟨S16384x4096, .f32⟩
  | 120 => ⟨S_, .f32⟩
  | 121 => ⟨S16384x4096, .f32⟩
  | 122 => ⟨S16384x4096, .f32⟩
  | 123 => ⟨S4096x1024, .f32⟩
  | 124 => ⟨S1024x4096, .f32⟩
  | 125 => ⟨S16384x1024, .f32⟩
  | 126 => ⟨S16384x1024, .f32⟩
  | 127 => ⟨S_, .f32⟩
  | _ => ⟨S16384x512, .f32⟩

abbrev hbmTy0_2 (i : Nat) : BufTy := match i % 128 with
  | 0 => ⟨S1024, .f32⟩
  | 1 => ⟨S1x1024, .f32⟩
  | 2 => ⟨S16384x1024, .f32⟩
  | 3 => ⟨S16384x1024, .f32⟩
  | 4 => ⟨S16384x1024, .f32⟩
  | 5 => ⟨S_, .f32⟩
  | 6 => ⟨S16384, .f32⟩
  | 7 => ⟨S16384x1, .f32⟩
  | 8 => ⟨S16384x1024, .f32⟩
  | 9 => ⟨S16384x1024, .f32⟩
  | 10 => ⟨S16384x1024, .f32⟩
  | 11 => ⟨S16384x1, .f32⟩
  | 12 => ⟨S_, .f32⟩
  | 13 => ⟨S16384x1, .f32⟩
  | 14 => ⟨S16384x1, .f32⟩
  | 15 => ⟨S_, .f32⟩
  | 16 => ⟨S16384, .f32⟩
  | 17 => ⟨S16384x1024, .f32⟩
  | 18 => ⟨S16384x1024, .f32⟩
  | 19 => ⟨S16384x1024, .f32⟩
  | 20 => ⟨S16384x1024, .f32⟩
  | 21 => ⟨S16384x1024, .f32⟩
  | 22 => ⟨S16384x1024, .f32⟩
  | 23 => ⟨S_, .f32⟩
  | 24 => ⟨S1024, .f32⟩
  | 25 => ⟨S1x1024, .f32⟩
  | 26 => ⟨S16384x1024, .f32⟩
  | 27 => ⟨S16384x1024, .f32⟩
  | 28 => ⟨S16384x1024, .f32⟩
  | 29 => ⟨S_, .f32⟩
  | 30 => ⟨S16384, .f32⟩
  | 31 => ⟨S16384x1, .f32⟩
  | 32 => ⟨S16384x1024, .f32⟩
  | 33 => ⟨S16384x1024, .f32⟩
  | 34 => ⟨S16384x1, .f32⟩
  | 35 => ⟨S_, .f32⟩
  | 36 => ⟨S16384x1, .f32⟩
  | 37 => ⟨S16384x1, .f32⟩
  | 38 => ⟨S_, .f32⟩
  | 39 => ⟨S16384, .f32⟩
  | 40 => ⟨S16384x1024, .f32⟩
  | 41 => ⟨S16384x1024, .f32⟩
  | 42 => ⟨S16384x1024, .f32⟩
  | 43 => ⟨S16384x1024, .f32⟩
  | 44 => ⟨S16384x1024, .f32⟩
  | 45 => ⟨S1024x1024, .f32⟩
  | 46 => ⟨S1024x1024, .f32⟩
  | 47 => ⟨S16384x1024, .f32⟩
  | 48 => ⟨S16384x512, .f32⟩
  | 49 => ⟨S16384x512, .f32⟩
  | 50 => ⟨S16384x512, .f32⟩
  | 51 => ⟨S_, .f32⟩
  | 52 => ⟨S512, .f32⟩
  | 53 => ⟨S1x512, .f32⟩
  | 54 => ⟨S16384x512, .f32⟩
  | 55 => ⟨S16384x512, .f32⟩
  | 56 => ⟨S16384x512, .f32⟩
  | 57 => ⟨S_, .f32⟩
  | 58 => ⟨S16384, .f32⟩
  | 59 => ⟨S16384x1, .f32⟩
  | 60 => ⟨S16384x512, .f32⟩
  | 61 => ⟨S16384x512, .f32⟩
  | 62 => ⟨S16384x1, .f32⟩
  | 63 => ⟨S_, .f32⟩
  | 64 => ⟨S16384x1, .f32⟩
  | 65 => ⟨S16384x1, .f32⟩
  | 66 => ⟨S_, .f32⟩
  | 67 => ⟨S16384, .f32⟩
  | 68 => ⟨S16384x512, .f32⟩
  | 69 => ⟨S16384x512, .f32⟩
  | 70 => ⟨S16384x512, .f32⟩
  | 71 => ⟨S16384x512, .f32⟩
  | 72 => ⟨S16384x512, .f32⟩
  | 73 => ⟨S16384x512, .f32⟩
  | 74 => ⟨S_, .f32⟩
  | 75 => ⟨S512, .f32⟩
  | 76 => ⟨S1x512, .f32⟩
  | 77 => ⟨S16384x512, .f32⟩
  | 78 => ⟨S16384x512, .f32⟩
  | 79 => ⟨S16384x512, .f32⟩
  | 80 => ⟨S_, .f32⟩
  | 81 => ⟨S16384, .f32⟩
  | 82 => ⟨S16384x1, .f32⟩
  | 83 => ⟨S16384x512, .f32⟩
  | 84 => ⟨S16384x512, .f32⟩
  | 85 => ⟨S16384x1, .f32⟩
  | 86 => ⟨S_, .f32⟩
  | 87 => ⟨S16384x1, .f32⟩
  | 88 => ⟨S16384x1, .f32⟩
  | 89 => ⟨S_, .f32⟩
  | 90 => ⟨S16384, .f32⟩
  | 91 => ⟨S16384x512, .f32⟩
  | 92 => ⟨S16384x512, .f32⟩
  | 93 => ⟨S16384x512, .f32⟩
  | 94 => ⟨S16384x512, .f32⟩
  | 95 => ⟨S16384x512, .f32⟩
  | _ => ⟨S16384x512, .f32⟩

abbrev hbmTy (i : Nat) : BufTy := match i / 128 with
  | 0 => hbmTy0_0 i
  | 1 => hbmTy0_1 i
  | 2 => hbmTy0_2 i
  | _ => ⟨S16384x512, .f32⟩

abbrev bufTy : (tb : Table) → Fin (tcTables nBuf tb) → BufTy
  | .hbm, ⟨i, _⟩ => hbmTy i
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_cst : Ref sig .tc := ⟨.hbm, 18, rfl⟩
abbrev main_v1 : Ref sig .tc := ⟨.hbm, 19, rfl⟩
abbrev main_v2 : Ref sig .tc := ⟨.hbm, 20, rfl⟩
abbrev main_cst_0 : Ref sig .tc := ⟨.hbm, 21, rfl⟩
abbrev main_v3 : Ref sig .tc := ⟨.hbm, 22, rfl⟩
abbrev main_v4 : Ref sig .tc := ⟨.hbm, 23, rfl⟩
abbrev main_cst_1 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_cst_2 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_cst_3 : Ref sig .tc := ⟨.hbm, 37, rfl⟩
abbrev main_v16 : Ref sig .tc := ⟨.hbm, 38, rfl⟩
abbrev main_v17 : Ref sig .tc := ⟨.hbm, 39, rfl⟩
abbrev main_cst_4 : Ref sig .tc := ⟨.hbm, 40, rfl⟩
abbrev main_v18 : Ref sig .tc := ⟨.hbm, 41, rfl⟩
abbrev main_v19 : Ref sig .tc := ⟨.hbm, 42, rfl⟩
abbrev main_cst_5 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_cst_6 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_cst_7 : Ref sig .tc := ⟨.hbm, 58, rfl⟩
abbrev main_v33 : Ref sig .tc := ⟨.hbm, 59, rfl⟩
abbrev main_v34 : Ref sig .tc := ⟨.hbm, 60, rfl⟩
abbrev main_cst_8 : Ref sig .tc := ⟨.hbm, 61, rfl⟩
abbrev main_v35 : Ref sig .tc := ⟨.hbm, 62, rfl⟩
abbrev main_v36 : Ref sig .tc := ⟨.hbm, 63, rfl⟩
abbrev main_cst_9 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_cst_10 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_cst_11 : Ref sig .tc := ⟨.hbm, 78, rfl⟩
abbrev main_v49 : Ref sig .tc := ⟨.hbm, 79, rfl⟩
abbrev main_v50 : Ref sig .tc := ⟨.hbm, 80, rfl⟩
abbrev main_cst_12 : Ref sig .tc := ⟨.hbm, 81, rfl⟩
abbrev main_v51 : Ref sig .tc := ⟨.hbm, 82, rfl⟩
abbrev main_v52 : Ref sig .tc := ⟨.hbm, 83, rfl⟩
abbrev main_cst_13 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_cst_14 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_call0_cst : Ref sig .tc := ⟨.hbm, 97, rfl⟩
abbrev main_call0_v0 : Ref sig .tc := ⟨.hbm, 98, rfl⟩
abbrev main_v64 : Ref sig .tc := ⟨.hbm, 99, rfl⟩
abbrev main_cst_15 : Ref sig .tc := ⟨.hbm, 100, rfl⟩
abbrev main_v65 : Ref sig .tc := ⟨.hbm, 101, rfl⟩
abbrev main_v66 : Ref sig .tc := ⟨.hbm, 102, rfl⟩
abbrev main_cst_16 : Ref sig .tc := ⟨.hbm, 103, rfl⟩
abbrev main_v67 : Ref sig .tc := ⟨.hbm, 104, rfl⟩
abbrev main_v68 : Ref sig .tc := ⟨.hbm, 105, rfl⟩
abbrev main_cst_17 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_cst_18 : Ref sig .tc := ⟨.hbm, 111, rfl⟩
abbrev main_v73 : Ref sig .tc := ⟨.hbm, 112, rfl⟩
abbrev main_v74 : Ref sig .tc := ⟨.hbm, 113, rfl⟩
abbrev main_cst_19 : Ref sig .tc := ⟨.hbm, 114, rfl⟩
abbrev main_v75 : Ref sig .tc := ⟨.hbm, 115, rfl⟩
abbrev main_v76 : Ref sig .tc := ⟨.hbm, 116, rfl⟩
abbrev main_cst_20 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_cst_21 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_cst_22 : Ref sig .tc := ⟨.hbm, 131, rfl⟩
abbrev main_v89 : Ref sig .tc := ⟨.hbm, 132, rfl⟩
abbrev main_v90 : Ref sig .tc := ⟨.hbm, 133, rfl⟩
abbrev main_cst_23 : Ref sig .tc := ⟨.hbm, 134, rfl⟩
abbrev main_v91 : Ref sig .tc := ⟨.hbm, 135, rfl⟩
abbrev main_v92 : Ref sig .tc := ⟨.hbm, 136, rfl⟩
abbrev main_cst_24 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_cst_25 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_cst_26 : Ref sig .tc := ⟨.hbm, 152, rfl⟩
abbrev main_v106 : Ref sig .tc := ⟨.hbm, 153, rfl⟩
abbrev main_v107 : Ref sig .tc := ⟨.hbm, 154, rfl⟩
abbrev main_cst_27 : Ref sig .tc := ⟨.hbm, 155, rfl⟩
abbrev main_v108 : Ref sig .tc := ⟨.hbm, 156, rfl⟩
abbrev main_v109 : Ref sig .tc := ⟨.hbm, 157, rfl⟩
abbrev main_cst_28 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_cst_29 : Ref sig .tc := ⟨.hbm, 167, rfl⟩
abbrev main_v118 : Ref sig .tc := ⟨.hbm, 168, rfl⟩
abbrev main_v119 : Ref sig .tc := ⟨.hbm, 169, rfl⟩
abbrev main_cst_30 : Ref sig .tc := ⟨.hbm, 170, rfl⟩
abbrev main_v120 : Ref sig .tc := ⟨.hbm, 171, rfl⟩
abbrev main_cst_31 : Ref sig .tc := ⟨.hbm, 172, rfl⟩
abbrev main_v121 : Ref sig .tc := ⟨.hbm, 173, rfl⟩
abbrev main_v122 : Ref sig .tc := ⟨.hbm, 174, rfl⟩
abbrev main_cst_32 : Ref sig .tc := ⟨.hbm, 175, rfl⟩
abbrev main_v123 : Ref sig .tc := ⟨.hbm, 176, rfl⟩
abbrev main_cst_33 : Ref sig .tc := ⟨.hbm, 177, rfl⟩
abbrev main_v124 : Ref sig .tc := ⟨.hbm, 178, rfl⟩
abbrev main_v125 : Ref sig .tc := ⟨.hbm, 179, rfl⟩
abbrev main_cst_34 : Ref sig .tc := ⟨.hbm, 180, rfl⟩
abbrev main_cst_35 : Ref sig .tc := ⟨.hbm, 181, rfl⟩
abbrev main_v126 : Ref sig .tc := ⟨.hbm, 182, rfl⟩
abbrev main_v127 : Ref sig .tc := ⟨.hbm, 183, rfl⟩
abbrev main_cst_36 : Ref sig .tc := ⟨.hbm, 184, rfl⟩
abbrev main_v128 : Ref sig .tc := ⟨.hbm, 185, rfl⟩
abbrev main_v129 : Ref sig .tc := ⟨.hbm, 186, rfl⟩
abbrev main_v130 : Ref sig .tc := ⟨.hbm, 187, rfl⟩
abbrev main_v131 : Ref sig .tc := ⟨.hbm, 188, rfl⟩
abbrev main_v132 : Ref sig .tc := ⟨.hbm, 189, rfl⟩
abbrev main_v133 : Ref sig .tc := ⟨.hbm, 190, rfl⟩
abbrev main_v134 : Ref sig .tc := ⟨.hbm, 191, rfl⟩
abbrev main_v135 : Ref sig .tc := ⟨.hbm, 192, rfl⟩
abbrev main_v136 : Ref sig .tc := ⟨.hbm, 193, rfl⟩
abbrev main_v137 : Ref sig .tc := ⟨.hbm, 194, rfl⟩
abbrev main_v138 : Ref sig .tc := ⟨.hbm, 195, rfl⟩
abbrev main_v139 : Ref sig .tc := ⟨.hbm, 196, rfl⟩
abbrev main_v140 : Ref sig .tc := ⟨.hbm, 197, rfl⟩
abbrev main_cst_37 : Ref sig .tc := ⟨.hbm, 198, rfl⟩
abbrev main_v141 : Ref sig .tc := ⟨.hbm, 199, rfl⟩
abbrev main_v142 : Ref sig .tc := ⟨.hbm, 200, rfl⟩
abbrev main_v143 : Ref sig .tc := ⟨.hbm, 201, rfl⟩
abbrev main_v144 : Ref sig .tc := ⟨.hbm, 202, rfl⟩
abbrev main_v145 : Ref sig .tc := ⟨.hbm, 203, rfl⟩
abbrev main_cst_38 : Ref sig .tc := ⟨.hbm, 204, rfl⟩
abbrev main_v146 : Ref sig .tc := ⟨.hbm, 205, rfl⟩
abbrev main_v147 : Ref sig .tc := ⟨.hbm, 206, rfl⟩
abbrev main_v148 : Ref sig .tc := ⟨.hbm, 207, rfl⟩
abbrev main_v149 : Ref sig .tc := ⟨.hbm, 208, rfl⟩
abbrev main_v150 : Ref sig .tc := ⟨.hbm, 209, rfl⟩
abbrev main_v151 : Ref sig .tc := ⟨.hbm, 210, rfl⟩
abbrev main_cst_39 : Ref sig .tc := ⟨.hbm, 211, rfl⟩
abbrev main_v152 : Ref sig .tc := ⟨.hbm, 212, rfl⟩
abbrev main_v153 : Ref sig .tc := ⟨.hbm, 213, rfl⟩
abbrev main_cst_40 : Ref sig .tc := ⟨.hbm, 214, rfl⟩
abbrev main_v154 : Ref sig .tc := ⟨.hbm, 215, rfl⟩
abbrev main_v155 : Ref sig .tc := ⟨.hbm, 216, rfl⟩
abbrev main_v156 : Ref sig .tc := ⟨.hbm, 217, rfl⟩
abbrev main_v157 : Ref sig .tc := ⟨.hbm, 218, rfl⟩
abbrev main_v158 : Ref sig .tc := ⟨.hbm, 219, rfl⟩
abbrev main_v159 : Ref sig .tc := ⟨.hbm, 220, rfl⟩
abbrev main_v160 : Ref sig .tc := ⟨.hbm, 221, rfl⟩
abbrev main_cst_41 : Ref sig .tc := ⟨.hbm, 222, rfl⟩
abbrev main_v161 : Ref sig .tc := ⟨.hbm, 223, rfl⟩
abbrev main_v162 : Ref sig .tc := ⟨.hbm, 224, rfl⟩
abbrev main_v163 : Ref sig .tc := ⟨.hbm, 225, rfl⟩
abbrev main_v164 : Ref sig .tc := ⟨.hbm, 226, rfl⟩
abbrev main_v165 : Ref sig .tc := ⟨.hbm, 227, rfl⟩
abbrev main_cst_42 : Ref sig .tc := ⟨.hbm, 228, rfl⟩
abbrev main_v166 : Ref sig .tc := ⟨.hbm, 229, rfl⟩
abbrev main_v167 : Ref sig .tc := ⟨.hbm, 230, rfl⟩
abbrev main_v168 : Ref sig .tc := ⟨.hbm, 231, rfl⟩
abbrev main_v169 : Ref sig .tc := ⟨.hbm, 232, rfl⟩
abbrev main_v170 : Ref sig .tc := ⟨.hbm, 233, rfl⟩
abbrev main_cst_43 : Ref sig .tc := ⟨.hbm, 234, rfl⟩
abbrev main_v171 : Ref sig .tc := ⟨.hbm, 235, rfl⟩
abbrev main_v172 : Ref sig .tc := ⟨.hbm, 236, rfl⟩
abbrev main_cst_44 : Ref sig .tc := ⟨.hbm, 237, rfl⟩
abbrev main_v173 : Ref sig .tc := ⟨.hbm, 238, rfl⟩
abbrev main_v174 : Ref sig .tc := ⟨.hbm, 239, rfl⟩
abbrev main_v175 : Ref sig .tc := ⟨.hbm, 240, rfl⟩
abbrev main_v176 : Ref sig .tc := ⟨.hbm, 241, rfl⟩
abbrev main_v177 : Ref sig .tc := ⟨.hbm, 242, rfl⟩
abbrev main_v178 : Ref sig .tc := ⟨.hbm, 243, rfl⟩
abbrev main_v179 : Ref sig .tc := ⟨.hbm, 244, rfl⟩
abbrev main_v180 : Ref sig .tc := ⟨.hbm, 245, rfl⟩
abbrev main_v181 : Ref sig .tc := ⟨.hbm, 246, rfl⟩
abbrev main_v182 : Ref sig .tc := ⟨.hbm, 247, rfl⟩
abbrev main_cst_45 : Ref sig .tc := ⟨.hbm, 248, rfl⟩
abbrev main_v183 : Ref sig .tc := ⟨.hbm, 249, rfl⟩
abbrev main_v184 : Ref sig .tc := ⟨.hbm, 250, rfl⟩
abbrev main_v185 : Ref sig .tc := ⟨.hbm, 251, rfl⟩
abbrev main_v186 : Ref sig .tc := ⟨.hbm, 252, rfl⟩
abbrev main_v187 : Ref sig .tc := ⟨.hbm, 253, rfl⟩
abbrev main_v188 : Ref sig .tc := ⟨.hbm, 254, rfl⟩
abbrev main_cst_46 : Ref sig .tc := ⟨.hbm, 255, rfl⟩
abbrev main_v189 : Ref sig .tc := ⟨.hbm, 256, rfl⟩
abbrev main_v190 : Ref sig .tc := ⟨.hbm, 257, rfl⟩
abbrev main_v191 : Ref sig .tc := ⟨.hbm, 258, rfl⟩
abbrev main_v192 : Ref sig .tc := ⟨.hbm, 259, rfl⟩
abbrev main_v193 : Ref sig .tc := ⟨.hbm, 260, rfl⟩
abbrev main_cst_47 : Ref sig .tc := ⟨.hbm, 261, rfl⟩
abbrev main_v194 : Ref sig .tc := ⟨.hbm, 262, rfl⟩
abbrev main_v195 : Ref sig .tc := ⟨.hbm, 263, rfl⟩
abbrev main_v196 : Ref sig .tc := ⟨.hbm, 264, rfl⟩
abbrev main_v197 : Ref sig .tc := ⟨.hbm, 265, rfl⟩
abbrev main_v198 : Ref sig .tc := ⟨.hbm, 266, rfl⟩
abbrev main_v199 : Ref sig .tc := ⟨.hbm, 267, rfl⟩
abbrev main_cst_48 : Ref sig .tc := ⟨.hbm, 268, rfl⟩
abbrev main_v200 : Ref sig .tc := ⟨.hbm, 269, rfl⟩
abbrev main_v201 : Ref sig .tc := ⟨.hbm, 270, rfl⟩
abbrev main_cst_49 : Ref sig .tc := ⟨.hbm, 271, rfl⟩
abbrev main_v202 : Ref sig .tc := ⟨.hbm, 272, rfl⟩
abbrev main_v203 : Ref sig .tc := ⟨.hbm, 273, rfl⟩
abbrev main_v204 : Ref sig .tc := ⟨.hbm, 274, rfl⟩
abbrev main_v205 : Ref sig .tc := ⟨.hbm, 275, rfl⟩
abbrev main_v206 : Ref sig .tc := ⟨.hbm, 276, rfl⟩
abbrev main_v207 : Ref sig .tc := ⟨.hbm, 277, rfl⟩
abbrev main_v208 : Ref sig .tc := ⟨.hbm, 278, rfl⟩
abbrev main_cst_50 : Ref sig .tc := ⟨.hbm, 279, rfl⟩
abbrev main_v209 : Ref sig .tc := ⟨.hbm, 280, rfl⟩
abbrev main_v210 : Ref sig .tc := ⟨.hbm, 281, rfl⟩
abbrev main_v211 : Ref sig .tc := ⟨.hbm, 282, rfl⟩
abbrev main_v212 : Ref sig .tc := ⟨.hbm, 283, rfl⟩
abbrev main_v213 : Ref sig .tc := ⟨.hbm, 284, rfl⟩
abbrev main_cst_51 : Ref sig .tc := ⟨.hbm, 285, rfl⟩
abbrev main_v214 : Ref sig .tc := ⟨.hbm, 286, rfl⟩
abbrev main_v215 : Ref sig .tc := ⟨.hbm, 287, rfl⟩
abbrev main_v216 : Ref sig .tc := ⟨.hbm, 288, rfl⟩
abbrev main_v217 : Ref sig .tc := ⟨.hbm, 289, rfl⟩
abbrev main_v218 : Ref sig .tc := ⟨.hbm, 290, rfl⟩
abbrev main_cst_52 : Ref sig .tc := ⟨.hbm, 291, rfl⟩
abbrev main_v219 : Ref sig .tc := ⟨.hbm, 292, rfl⟩
abbrev main_v220 : Ref sig .tc := ⟨.hbm, 293, rfl⟩
abbrev main_cst_53 : Ref sig .tc := ⟨.hbm, 294, rfl⟩
abbrev main_v221 : Ref sig .tc := ⟨.hbm, 295, rfl⟩
abbrev main_v222 : Ref sig .tc := ⟨.hbm, 296, rfl⟩
abbrev main_v223 : Ref sig .tc := ⟨.hbm, 297, rfl⟩
abbrev main_v224 : Ref sig .tc := ⟨.hbm, 298, rfl⟩
abbrev main_v225 : Ref sig .tc := ⟨.hbm, 299, rfl⟩
abbrev main_v226 : Ref sig .tc := ⟨.hbm, 300, rfl⟩
abbrev main_v227 : Ref sig .tc := ⟨.hbm, 301, rfl⟩
abbrev main_v228 : Ref sig .tc := ⟨.hbm, 302, rfl⟩
abbrev main_v229 : Ref sig .tc := ⟨.hbm, 303, rfl⟩
abbrev main_v230 : Ref sig .tc := ⟨.hbm, 304, rfl⟩
abbrev main_v231 : Ref sig .tc := ⟨.hbm, 305, rfl⟩
abbrev main_v232 : Ref sig .tc := ⟨.hbm, 306, rfl⟩
abbrev main_cst_54 : Ref sig .tc := ⟨.hbm, 307, rfl⟩
abbrev main_v233 : Ref sig .tc := ⟨.hbm, 308, rfl⟩
abbrev main_v234 : Ref sig .tc := ⟨.hbm, 309, rfl⟩
abbrev main_v235 : Ref sig .tc := ⟨.hbm, 310, rfl⟩
abbrev main_v236 : Ref sig .tc := ⟨.hbm, 311, rfl⟩
abbrev main_v237 : Ref sig .tc := ⟨.hbm, 312, rfl⟩
abbrev main_cst_55 : Ref sig .tc := ⟨.hbm, 313, rfl⟩
abbrev main_v238 : Ref sig .tc := ⟨.hbm, 314, rfl⟩
abbrev main_v239 : Ref sig .tc := ⟨.hbm, 315, rfl⟩
abbrev main_v240 : Ref sig .tc := ⟨.hbm, 316, rfl⟩
abbrev main_v241 : Ref sig .tc := ⟨.hbm, 317, rfl⟩
abbrev main_v242 : Ref sig .tc := ⟨.hbm, 318, rfl⟩
abbrev main_cst_56 : Ref sig .tc := ⟨.hbm, 319, rfl⟩
abbrev main_v243 : Ref sig .tc := ⟨.hbm, 320, rfl⟩
abbrev main_v244 : Ref sig .tc := ⟨.hbm, 321, rfl⟩
abbrev main_cst_57 : Ref sig .tc := ⟨.hbm, 322, rfl⟩
abbrev main_v245 : Ref sig .tc := ⟨.hbm, 323, rfl⟩
abbrev main_v246 : Ref sig .tc := ⟨.hbm, 324, rfl⟩
abbrev main_v247 : Ref sig .tc := ⟨.hbm, 325, rfl⟩
abbrev main_v248 : Ref sig .tc := ⟨.hbm, 326, rfl⟩
abbrev main_v249 : Ref sig .tc := ⟨.hbm, 327, rfl⟩
abbrev main_v250 : Ref sig .tc := ⟨.hbm, 328, rfl⟩
abbrev main_v251 : Ref sig .tc := ⟨.hbm, 329, rfl⟩
abbrev main_cst_58 : Ref sig .tc := ⟨.hbm, 330, rfl⟩
abbrev main_v252 : Ref sig .tc := ⟨.hbm, 331, rfl⟩
abbrev main_v253 : Ref sig .tc := ⟨.hbm, 332, rfl⟩
abbrev main_v254 : Ref sig .tc := ⟨.hbm, 333, rfl⟩
abbrev main_v255 : Ref sig .tc := ⟨.hbm, 334, rfl⟩
abbrev main_v256 : Ref sig .tc := ⟨.hbm, 335, rfl⟩
abbrev main_cst_59 : Ref sig .tc := ⟨.hbm, 336, rfl⟩
abbrev main_v257 : Ref sig .tc := ⟨.hbm, 337, rfl⟩
abbrev main_v258 : Ref sig .tc := ⟨.hbm, 338, rfl⟩
abbrev main_v259 : Ref sig .tc := ⟨.hbm, 339, rfl⟩
abbrev main_v260 : Ref sig .tc := ⟨.hbm, 340, rfl⟩
abbrev main_v261 : Ref sig .tc := ⟨.hbm, 341, rfl⟩
abbrev main_cst_60 : Ref sig .tc := ⟨.hbm, 342, rfl⟩
abbrev main_v262 : Ref sig .tc := ⟨.hbm, 343, rfl⟩
abbrev main_v263 : Ref sig .tc := ⟨.hbm, 344, rfl⟩
abbrev main_cst_61 : Ref sig .tc := ⟨.hbm, 345, rfl⟩
abbrev main_v264 : Ref sig .tc := ⟨.hbm, 346, rfl⟩
abbrev main_v265 : Ref sig .tc := ⟨.hbm, 347, rfl⟩
abbrev main_v266 : Ref sig .tc := ⟨.hbm, 348, rfl⟩
abbrev main_v267 : Ref sig .tc := ⟨.hbm, 349, rfl⟩
abbrev main_v268 : Ref sig .tc := ⟨.hbm, 350, rfl⟩
abbrev main_v269 : Ref sig .tc := ⟨.hbm, 351, rfl⟩

abbrev nD : Nat := 1
abbrev τ : Topo := Topo.v7x

variable {F : FTy → Type} [FloatOps F]
-- ==== Kernel3.lean ====
abbrev S16384x1024 : Shape := ⟨2, ![16384, 1024]⟩
abbrev S1x1024 : Shape := ⟨2, ![1, 1024]⟩
abbrev S1024x2304 : Shape := ⟨2, ![1024, 2304]⟩
abbrev S1x64 : Shape := ⟨2, ![1, 64]⟩
abbrev S16384x32 : Shape := ⟨2, ![16384, 32]⟩
abbrev S16384x2304 : Shape := ⟨2, ![16384, 2304]⟩
abbrev S16384x128 : Shape := ⟨2, ![16384, 128]⟩
abbrev S1x128 : Shape := ⟨2, ![1, 128]⟩
abbrev S128 : Shape := ⟨1, ![128]⟩
abbrev S128x1 : Shape := ⟨2, ![128, 1]⟩
abbrev S_ : Shape := ⟨0, ![]⟩
abbrev S128x128 : Shape := ⟨2, ![128, 128]⟩
abbrev S16384x512 : Shape := ⟨2, ![16384, 512]⟩
abbrev S2x16384x128 : Shape := ⟨3, ![2, 16384, 128]⟩
abbrev S512x1024 : Shape := ⟨2, ![512, 1024]⟩
abbrev S512x128 : Shape := ⟨2, ![512, 128]⟩
abbrev S512x512 : Shape := ⟨2, ![512, 512]⟩
abbrev S2x512x128 : Shape := ⟨3, ![2, 512, 128]⟩
abbrev S512 : Shape := ⟨1, ![512]⟩
abbrev S512x1 : Shape := ⟨2, ![512, 1]⟩
abbrev S512x2304 : Shape := ⟨2, ![512, 2304]⟩
abbrev S1x512x128 : Shape := ⟨3, ![1, 512, 128]⟩
abbrev S2048x1024 : Shape := ⟨2, ![2048, 1024]⟩
abbrev S2048x2304 : Shape := ⟨2, ![2048, 2304]⟩

abbrev nBuf : Space → Nat
  | .hbm => 73
  | .vmem => 32
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x2304, .f32⟩
  | .hbm, ⟨3, _⟩ => ⟨S1x64, .f32⟩
  | .hbm, ⟨4, _⟩ => ⟨S1x64, .f32⟩
  | .hbm, ⟨5, _⟩ => ⟨S16384x32, .f32⟩
  | .hbm, ⟨6, _⟩ => ⟨S16384x32, .f32⟩
  | .hbm, ⟨7, _⟩ => ⟨S16384x2304, .f32⟩
  | .hbm, ⟨8, _⟩ => ⟨S1024x2304, .bf16⟩
  | .hbm, ⟨9, _⟩ => ⟨S16384x128, .f32⟩
  | .hbm, ⟨10, _⟩ => ⟨S16384x32, .f32⟩
  | .hbm, ⟨11, _⟩ => ⟨S16384x32, .f32⟩
  | .hbm, ⟨12, _⟩ => ⟨S16384x128, .f32⟩
  | .hbm, ⟨13, _⟩ => ⟨S1x128, .f32⟩
  | .hbm, ⟨14, _⟩ => ⟨S1x128, .f32⟩
  | .hbm, ⟨15, _⟩ => ⟨S128, .i32⟩
  | .hbm, ⟨16, _⟩ => ⟨S128x1, .i32⟩
  | .hbm, ⟨17, _⟩ => ⟨S_, .i32⟩
  | .hbm, ⟨18, _⟩ => ⟨S_, .i32⟩
  | .hbm, ⟨19, _⟩ => ⟨S128x1, .i32⟩
  | .hbm, ⟨20, _⟩ => ⟨S128x1, .i32⟩
  | .hbm, ⟨21, _⟩ => ⟨S128x1, .i32⟩
  | .hbm, ⟨22, _⟩ => ⟨S_, .i32⟩
  | .hbm, ⟨23, _⟩ => ⟨S128x1, .i32⟩
  | .hbm, ⟨24, _⟩ => ⟨S128x1, .i1⟩
  | .hbm, ⟨25, _⟩ => ⟨S128x1, .i32⟩
  | .hbm, ⟨26, _⟩ => ⟨S128x1, .i32⟩
  | .hbm, ⟨27, _⟩ => ⟨S_, .i32⟩
  | .hbm, ⟨28, _⟩ => ⟨S128x1, .i32⟩
  | .hbm, ⟨29, _⟩ => ⟨S128x1, .i1⟩
  | .hbm, ⟨30, _⟩ => ⟨S128x1, .i1⟩
  | .hbm, ⟨31, _⟩ => ⟨S_, .i32⟩
  | .hbm, ⟨32, _⟩ => ⟨S128x1, .i32⟩
  | .hbm, ⟨33, _⟩ => ⟨S128x1, .i32⟩
  | .hbm, ⟨34, _⟩ => ⟨S128x1, .i32⟩
  | .hbm, ⟨35, _⟩ => ⟨S1x128, .i32⟩
  | .hbm, ⟨36, _⟩ => ⟨S_, .i32⟩
  | .hbm, ⟨37, _⟩ => ⟨S_, .i32⟩
  | .hbm, ⟨38, _⟩ => ⟨S1x128, .i32⟩
  | .hbm, ⟨39, _⟩ => ⟨S1x128, .i32⟩
  | .hbm, ⟨40, _⟩ => ⟨S1x128, .i32⟩
  | .hbm, ⟨41, _⟩ => ⟨S_, .i32⟩
  | .hbm, ⟨42, _⟩ => ⟨S1x128, .i32⟩
  | .hbm, ⟨43, _⟩ => ⟨S1x128, .i1⟩
  | .hbm, ⟨44, _⟩ => ⟨S1x128, .i32⟩
  | .hbm, ⟨45, _⟩ => ⟨S1x128, .i32⟩
  | .hbm, ⟨46, _⟩ => ⟨S_, .i32⟩
  | .hbm, ⟨47, _⟩ => ⟨S1x128, .i32⟩
  | .hbm, ⟨48, _⟩ => ⟨S1x128, .i1⟩
  | .hbm, ⟨49, _⟩ => ⟨S1x128, .i1⟩
  | .hbm, ⟨50, _⟩ => ⟨S_, .i32⟩
  | .hbm, ⟨51, _⟩ => ⟨S1x128, .i32⟩
  | .hbm, ⟨52, _⟩ => ⟨S1x128, .i32⟩
  | .hbm, ⟨53, _⟩ => ⟨S1x128, .i32⟩
  | .hbm, ⟨54, _⟩ => ⟨S128x128, .i32⟩
  | .hbm, ⟨55, _⟩ => ⟨S128x128, .i32⟩
  | .hbm, ⟨56, _⟩ => ⟨S128x128, .i1⟩
  | .hbm, ⟨57, _⟩ => ⟨S128x128, .bf16⟩
  | .hbm, ⟨58, _⟩ => ⟨S16384x1024, .bf16⟩
  | .hbm, ⟨59, _⟩ => ⟨S16384x512, .f32⟩
  | .hbm, ⟨60, _⟩ => ⟨S16384x128, .f32⟩
  | .hbm, ⟨61, _⟩ => ⟨S16384x512, .bf16⟩
  | .hbm, ⟨62, _⟩ => ⟨S2x16384x128, .bf16⟩
  | .hbm, ⟨63, _⟩ => ⟨S16384x512, .bf16⟩
  | .hbm, ⟨64, _⟩ => ⟨S16384x512, .bf16⟩
  | .hbm, ⟨65, _⟩ => ⟨S16384x512, .bf16⟩
  | .hbm, ⟨66, _⟩ => ⟨S16384x2304, .bf16⟩
  | .hbm, ⟨67, _⟩ => ⟨S1024x2304, .f32⟩
  | .hbm, ⟨68, _⟩ => ⟨S16384x512, .f32⟩
  | .hbm, ⟨69, _⟩ => ⟨S2x16384x128, .f32⟩
  | .hbm, ⟨70, _⟩ => ⟨S16384x512, .f32⟩
  | .hbm, ⟨71, _⟩ => ⟨S16384x512, .f32⟩
  | .hbm, ⟨72, _⟩ => ⟨S16384x512, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2304, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S1x128, .f32⟩
  | .local _ .vmem, ⟨9, _⟩ => ⟨S1x128, .f32⟩
  | .local _ .vmem, ⟨10, _⟩ => ⟨S128x128, .bf16⟩
  | .local _ .vmem, ⟨11, _⟩ => ⟨S512x1024, .bf16⟩
  | .local _ .vmem, ⟨12, _⟩ => ⟨S512x1024, .bf16⟩
  | .local _ .vmem, ⟨13, _⟩ => ⟨S512x512, .f32⟩
  | .local _ .vmem, ⟨14, _⟩ => ⟨S512x512, .f32⟩
  | .local _ .vmem, ⟨15, _⟩ => ⟨S512x128, .f32⟩
  | .local _ .vmem, ⟨16, _⟩ => ⟨S512x128, .f32⟩
  | .local _ .vmem, ⟨17, _⟩ => ⟨S512x512, .bf16⟩
  | .local _ .vmem, ⟨18, _⟩ => ⟨S512x512, .bf16⟩
  | .local _ .vmem, ⟨19, _⟩ => ⟨S2x512x128, .bf16⟩
  | .local _ .vmem, ⟨20, _⟩ => ⟨S2x512x128, .bf16⟩
  | .local _ .vmem, ⟨21, _⟩ => ⟨S512x512, .bf16⟩
  | .local _ .vmem, ⟨22, _⟩ => ⟨S512x512, .bf16⟩
  | .local _ .vmem, ⟨23, _⟩ => ⟨S512x512, .bf16⟩
  | .local _ .vmem, ⟨24, _⟩ => ⟨S512x512, .bf16⟩
  | .local _ .vmem, ⟨25, _⟩ => ⟨S512x512, .bf16⟩
  | .local _ .vmem, ⟨26, _⟩ => ⟨S512x512, .bf16⟩
  | .local _ .vmem, ⟨27, _⟩ => ⟨S2048x1024, .bf16⟩
  | .local _ .vmem, ⟨28, _⟩ => ⟨S2048x1024, .bf16⟩
  | .local _ .vmem, ⟨29, _⟩ => ⟨S2048x2304, .bf16⟩
  | .local _ .vmem, ⟨30, _⟩ => ⟨S2048x2304, .bf16⟩
  | .local _ .vmem, ⟨31, _⟩ => ⟨S1024x2304, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_c : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_0 : Ref sig .tc := ⟨.hbm, 31, rfl⟩
abbrev main_call0_v12 : Ref sig .tc := ⟨.hbm, 32, rfl⟩
abbrev main_call0_v13 : Ref sig .tc := ⟨.hbm, 33, rfl⟩
abbrev main_v9 : Ref sig .tc := ⟨.hbm, 34, rfl⟩
abbrev main_v10 : Ref sig .tc := ⟨.hbm, 35, rfl⟩
abbrev main_c_0 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_call1_v5 : Ref sig .tc := ⟨.hbm, 42, rfl⟩
abbrev main_call1_v6 : Ref sig .tc := ⟨.hbm, 43, rfl⟩
abbrev main_call1_v7 : Ref sig .tc := ⟨.hbm, 44, rfl⟩
abbrev main_call1_v8 : Ref sig .tc := ⟨.hbm, 45, rfl⟩
abbrev main_call1_c : Ref sig .tc := ⟨.hbm, 46, rfl⟩
abbrev main_call1_v9 : Ref sig .tc := ⟨.hbm, 47, rfl⟩
abbrev main_call1_v10 : Ref sig .tc := ⟨.hbm, 48, rfl⟩
abbrev main_call1_v11 : Ref sig .tc := ⟨.hbm, 49, rfl⟩
abbrev main_call1_c_0 : Ref sig .tc := ⟨.hbm, 50, rfl⟩
abbrev main_call1_v12 : Ref sig .tc := ⟨.hbm, 51, rfl⟩
abbrev main_call1_v13 : Ref sig .tc := ⟨.hbm, 52, rfl⟩
abbrev main_v11 : Ref sig .tc := ⟨.hbm, 53, rfl⟩
abbrev main_v12 : Ref sig .tc := ⟨.hbm, 54, rfl⟩
abbrev main_v13 : Ref sig .tc := ⟨.hbm, 55, rfl⟩
abbrev main_v14 : Ref sig .tc := ⟨.hbm, 56, rfl⟩
abbrev main_v15 : Ref sig .tc := ⟨.hbm, 57, rfl⟩
abbrev main_v16_0 : Ref sig .tc := ⟨.hbm, 58, rfl⟩
abbrev main_v16_1 : Ref sig .tc := ⟨.hbm, 59, rfl⟩
abbrev main_v16_2 : Ref sig .tc := ⟨.hbm, 60, rfl⟩
abbrev main_v16_3 : Ref sig .tc := ⟨.hbm, 61, rfl⟩
abbrev main_v16_4 : Ref sig .tc := ⟨.hbm, 62, rfl⟩
abbrev main_v16_5 : Ref sig .tc := ⟨.hbm, 63, rfl⟩
abbrev main_v16_6 : Ref sig .tc := ⟨.hbm, 64, rfl⟩
abbrev main_v16_7 : Ref sig .tc := ⟨.hbm, 65, rfl⟩
abbrev main_v17 : Ref sig .tc := ⟨.hbm, 66, rfl⟩
abbrev main_v18 : Ref sig .tc := ⟨.hbm, 67, rfl⟩
abbrev main_v19 : Ref sig .tc := ⟨.hbm, 68, rfl⟩
abbrev main_v20 : Ref sig .tc := ⟨.hbm, 69, rfl⟩
abbrev main_v21 : Ref sig .tc := ⟨.hbm, 70, rfl⟩
abbrev main_v22 : Ref sig .tc := ⟨.hbm, 71, rfl⟩
abbrev main_v23 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc1_stg0_0 : Ref sig .tc := ⟨.vmem, 27, rfl⟩
abbrev cc1_stg0_1 : Ref sig .tc := ⟨.vmem, 28, rfl⟩
abbrev cc1_stg1_0 : Ref sig .tc := ⟨.vmem, 29, rfl⟩
abbrev cc1_stg1_1 : Ref sig .tc := ⟨.vmem, 30, rfl⟩
abbrev cc1_stg2_0 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc1_sem0_0 : DmaSem sig := 27
abbrev cc1_sem0_1 : DmaSem sig := 28
abbrev cc1_sem1_0 : DmaSem sig := 29
abbrev cc1_sem1_1 : DmaSem sig := 30
abbrev cc1_sem2_0 : DmaSem sig := 31

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2304 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S2x512x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev grid1 : Pipeline.Grid := ⟨3, ![1, 1, 8], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S2048x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S2048x2304 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 1 → Memref sig .tc .vmem S1024x2304 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true, true, false]
-- ==== Reference3Ideal.lean ====
abbrev S16384x1024 : Shape := ⟨2, ![16384, 1024]⟩
abbrev S1x1024 : Shape := ⟨2, ![1, 1024]⟩
abbrev S1024x2304 : Shape := ⟨2, ![1024, 2304]⟩
abbrev S1x64 : Shape := ⟨2, ![1, 64]⟩
abbrev S16384x32 : Shape := ⟨2, ![16384, 32]⟩
abbrev S16384x2304 : Shape := ⟨2, ![16384, 2304]⟩
abbrev S_ : Shape := ⟨0, ![]⟩
abbrev S16384 : Shape := ⟨1, ![16384]⟩
abbrev S16384x1 : Shape := ⟨2, ![16384, 1]⟩
abbrev S2304x1024 : Shape := ⟨2, ![2304, 1024]⟩
abbrev S16384x512 : Shape := ⟨2, ![16384, 512]⟩
abbrev S16384x128 : Shape := ⟨2, ![16384, 128]⟩
abbrev S16384x8x64 : Shape := ⟨3, ![16384, 8, 64]⟩
abbrev S16384x8 : Shape := ⟨2, ![16384, 8]⟩
abbrev S16384x8x1 : Shape := ⟨3, ![16384, 8, 1]⟩
abbrev S1x1x64 : Shape := ⟨3, ![1, 1, 64]⟩
abbrev S16384x8x32 : Shape := ⟨3, ![16384, 8, 32]⟩
abbrev S16384x1x32 : Shape := ⟨3, ![16384, 1, 32]⟩
abbrev S16384x2x64 : Shape := ⟨3, ![16384, 2, 64]⟩
abbrev S16384x2 : Shape := ⟨2, ![16384, 2]⟩
abbrev S16384x2x1 : Shape := ⟨3, ![16384, 2, 1]⟩
abbrev S16384x2x32 : Shape := ⟨3, ![16384, 2, 32]⟩
abbrev S16384x2x128 : Shape := ⟨3, ![16384, 2, 128]⟩
abbrev S2x16384x128 : Shape := ⟨3, ![2, 16384, 128]⟩

abbrev nBuf : Space → Nat
  | .hbm => 122
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x2304, .f32⟩
  | .hbm, ⟨3, _⟩ => ⟨S1x64, .f32⟩
  | .hbm, ⟨4, _⟩ => ⟨S1x64, .f32⟩
  | .hbm, ⟨5, _⟩ => ⟨S16384x32, .f32⟩
  | .hbm, ⟨6, _⟩ => ⟨S16384x32, .f32⟩
  | .hbm, ⟨7, _⟩ => ⟨S16384x2304, .f32⟩
  | .hbm, ⟨8, _⟩ => ⟨S16384x1024, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x2304, .f32⟩
  | .hbm, ⟨24, _⟩ => ⟨S2304x1024, .f32⟩
  | .hbm, ⟨25, _⟩ => ⟨S1024x2304, .f32⟩
  | .hbm, ⟨26, _⟩ => ⟨S16384x1024, .f32⟩
  | .hbm, ⟨27, _⟩ => ⟨S_, .f32⟩
  | .hbm, ⟨28, _⟩ => ⟨S16384, .f32⟩
  | .hbm, ⟨29, _⟩ => ⟨S16384x1, .f32⟩
  | .hbm, ⟨30, _⟩ => ⟨S_, .f32⟩
  | .hbm, ⟨31, _⟩ => ⟨S16384x1, .f32⟩
  | .hbm, ⟨32, _⟩ => ⟨S16384x1, .f32⟩
  | .hbm, ⟨33, _⟩ => ⟨S_, .f32⟩
  | .hbm, ⟨34, _⟩ => ⟨S16384x1, .f32⟩
  | .hbm, ⟨35, _⟩ => ⟨S16384x1, .f32⟩
  | .hbm, ⟨36, _⟩ => ⟨S16384x1, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S16384x2304, .f32⟩
  | .hbm, ⟨42, _⟩ => ⟨S16384x512, .f32⟩
  | .hbm, ⟨43, _⟩ => ⟨S16384x128, .f32⟩
  | .hbm, ⟨44, _⟩ => ⟨S16384x128, .f32⟩
  | .hbm, ⟨45, _⟩ => ⟨S16384x512, .f32⟩
  | .hbm, ⟨46, _⟩ => ⟨S16384x512, .f32⟩
  | .hbm, ⟨47, _⟩ => ⟨S16384x512, .f32⟩
  | .hbm, ⟨48, _⟩ => ⟨S16384x8x64, .f32⟩
  | .hbm, ⟨49, _⟩ => ⟨S16384x8x64, .f32⟩
  | .hbm, ⟨50, _⟩ => ⟨S_, .f32⟩
  | .hbm, ⟨51, _⟩ => ⟨S16384x8, .f32⟩
  | .hbm, ⟨52, _⟩ => ⟨S16384x8x1, .f32⟩
  | .hbm, ⟨53, _⟩ => ⟨S_, .f32⟩
  | .hbm, ⟨54, _⟩ => ⟨S16384x8x1, .f32⟩
  | .hbm, ⟨55, _⟩ => ⟨S16384x8x1, .f32⟩
  | .hbm, ⟨56, _⟩ => ⟨S_, .f32⟩
  | .hbm, ⟨57, _⟩ => ⟨S16384x8x1, .f32⟩
  | .hbm, ⟨58, _⟩ => ⟨S16384x8x1, .f32⟩
  | .hbm, ⟨59, _⟩ => ⟨S16384x8x1, .f32⟩
  | .hbm, ⟨60, _⟩ => ⟨S16384x8x64, .f32⟩
  | .hbm, ⟨61, _⟩ => ⟨S16384x8x64, .f32⟩
  | .hbm, ⟨62, _⟩ => ⟨S1x1x64, .f32⟩
  | .hbm, ⟨63, _⟩ => ⟨S16384x8x64, .f32⟩
  | .hbm, ⟨64, _⟩ => ⟨S16384x8x64, .f32⟩
  | .hbm, ⟨65, _⟩ => ⟨S16384x8x32, .f32⟩
  | .hbm, ⟨66, _⟩ => ⟨S16384x8x32, .f32⟩
  | .hbm, ⟨67, _⟩ => ⟨S16384x1x32, .f32⟩
  | .hbm, ⟨68, _⟩ => ⟨S16384x1x32, .f32⟩
  | .hbm, ⟨69, _⟩ => ⟨S16384x8x32, .f32⟩
  | .hbm, ⟨70, _⟩ => ⟨S16384x8x32, .f32⟩
  | .hbm, ⟨71, _⟩ => ⟨S16384x8x32, .f32⟩
  | .hbm, ⟨72, _⟩ => ⟨S16384x8x32, .f32⟩
  | .hbm, ⟨73, _⟩ => ⟨S16384x8x32, .f32⟩
  | .hbm, ⟨74, _⟩ => ⟨S16384x8x32, .f32⟩
  | .hbm, ⟨75, _⟩ => ⟨S16384x8x32, .f32⟩
  | .hbm, ⟨76, _⟩ => ⟨S16384x8x32, .f32⟩
  | .hbm, ⟨77, _⟩ => ⟨S16384x8x32, .f32⟩
  | .hbm, ⟨78, _⟩ => ⟨S16384x8x32, .f32⟩
  | .hbm, ⟨79, _⟩ => ⟨S16384x8x64, .f32⟩
  | .hbm, ⟨80, _⟩ => ⟨S16384x2x64, .f32⟩
  | .hbm, ⟨81, _⟩ => ⟨S16384x2x64, .f32⟩
  | .hbm, ⟨82, _⟩ => ⟨S_, .f32⟩
  | .hbm, ⟨83, _⟩ => ⟨S16384x2, .f32⟩
  | .hbm, ⟨84, _⟩ => ⟨S16384x2x1, .f32⟩
  | .hbm, ⟨85, _⟩ => ⟨S_, .f32⟩
  | .hbm, ⟨86, _⟩ => ⟨S16384x2x1, .f32⟩
  | .hbm, ⟨87, _⟩ => ⟨S16384x2x1, .f32⟩
  | .hbm, ⟨88, _⟩ => ⟨S_, .f32⟩
  | .hbm, ⟨89, _⟩ => ⟨S16384x2x1, .f32⟩
  | .hbm, ⟨90, _⟩ => ⟨S16384x2x1, .f32⟩
  | .hbm, ⟨91, _⟩ => ⟨S16384x2x1, .f32⟩
  | .hbm, ⟨92, _⟩ => ⟨S16384x2x64, .f32⟩
  | .hbm, ⟨93, _⟩ => ⟨S16384x2x64, .f32⟩
  | .hbm, ⟨94, _⟩ => ⟨S1x1x64, .f32⟩
  | .hbm, ⟨95, _⟩ => ⟨S16384x2x64, .f32⟩
  | .hbm, ⟨96, _⟩ => ⟨S16384x2x64, .f32⟩
  | .hbm, ⟨97, _⟩ => ⟨S16384x2x32, .f32⟩
  | .hbm, ⟨98, _⟩ => ⟨S16384x2x32, .f32⟩
  | .hbm, ⟨99, _⟩ => ⟨S16384x1x32, .f32⟩
  | .hbm, ⟨100, _⟩ => ⟨S16384x1x32, .f32⟩
  | .hbm, ⟨101, _⟩ => ⟨S16384x2x32, .f32⟩
  | .hbm, ⟨102, _⟩ => ⟨S16384x2x32, .f32⟩
  | .hbm, ⟨103, _⟩ => ⟨S16384x2x32, .f32⟩
  | .hbm, ⟨104, _⟩ => ⟨S16384x2x32, .f32⟩
  | .hbm, ⟨105, _⟩ => ⟨S16384x2x32, .f32⟩
  | .hbm, ⟨106, _⟩ => ⟨S16384x2x32, .f32⟩
  | .hbm, ⟨107, _⟩ => ⟨S16384x2x32, .f32⟩
  | .hbm, ⟨108, _⟩ => ⟨S16384x2x32, .f32⟩
  | .hbm, ⟨109, _⟩ => ⟨S16384x2x32, .f32⟩
  | .hbm, ⟨110, _⟩ => ⟨S16384x2x32, .f32⟩
  | .hbm, ⟨111, _⟩ => ⟨S16384x2x64, .f32⟩
  | .hbm, ⟨112, _⟩ => ⟨S16384x2x64, .f32⟩
  | .hbm, ⟨113, _⟩ => ⟨S16384x2x128, .f32⟩
  | .hbm, ⟨114, _⟩ => ⟨S2x16384x128, .f32⟩
  | .hbm, ⟨115, _⟩ => ⟨S16384x512, .f32⟩
  | .hbm, ⟨116, _⟩ => ⟨S_, .f32⟩
  | .hbm, ⟨117, _⟩ => ⟨S16384x512, .f32⟩
  | .hbm, ⟨118, _⟩ => ⟨S16384x512, .f32⟩
  | .hbm, ⟨119, _⟩ => ⟨S_, .f32⟩
  | .hbm, ⟨120, _⟩ => ⟨S16384x512, .f32⟩
  | .hbm, ⟨121, _⟩ => ⟨S16384x512, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_5 : Ref sig .tc := ⟨.hbm, 50, rfl⟩
abbrev main_v36 : Ref sig .tc := ⟨.hbm, 51, rfl⟩
abbrev main_v37 : Ref sig .tc := ⟨.hbm, 52, rfl⟩
abbrev main_cst_6 : Ref sig .tc := ⟨.hbm, 53, rfl⟩
abbrev main_v38 : Ref sig .tc := ⟨.hbm, 54, rfl⟩
abbrev main_v39 : Ref sig .tc := ⟨.hbm, 55, rfl⟩
abbrev main_cst_7 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_cst_8 : Ref sig .tc := ⟨.hbm, 82, rfl⟩
abbrev main_v65 : Ref sig .tc := ⟨.hbm, 83, rfl⟩
abbrev main_v66 : Ref sig .tc := ⟨.hbm, 84, rfl⟩
abbrev main_cst_9 : Ref sig .tc := ⟨.hbm, 85, rfl⟩
abbrev main_v67 : Ref sig .tc := ⟨.hbm, 86, rfl⟩
abbrev main_v68 : Ref sig .tc := ⟨.hbm, 87, rfl⟩
abbrev main_cst_10 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_cst_11 : Ref sig .tc := ⟨.hbm, 116, rfl⟩
abbrev main_v96 : Ref sig .tc := ⟨.hbm, 117, rfl⟩
abbrev main_v97 : Ref sig .tc := ⟨.hbm, 118, rfl⟩
abbrev main_cst_12 : Ref sig .tc := ⟨.hbm, 119, rfl⟩
abbrev main_v98 : Ref sig .tc := ⟨.hbm, 120, rfl⟩
abbrev main_v99 : Ref sig .tc := ⟨.hbm, 121, rfl⟩

abbrev nD : Nat := 1
abbrev τ : Topo := Topo.v7x

variable {F : FTy → Type} [FloatOps F]
-- ==== Kernel4.lean ====
abbrev S1024x576 : Shape := ⟨2, ![1024, 576]⟩
abbrev S256x1024 : Shape := ⟨2, ![256, 1024]⟩
abbrev S1024x1024 : Shape := ⟨2, ![1024, 1024]⟩
abbrev S256x256 : Shape := ⟨2, ![256, 256]⟩
abbrev S8x1024 : Shape := ⟨2, ![8, 1024]⟩
abbrev S256x576 : Shape := ⟨2, ![256, 576]⟩

abbrev nBuf : Space → Nat
  | .hbm => 49
  | .vmem => 70
  | .smem => 0
  | _ => 0

abbrev bufTy : (tb : Table) → Fin (tcTables nBuf tb) → BufTy
  | .hbm, ⟨0, _⟩ => ⟨S1024x576, .f32⟩
  | .hbm, ⟨1, _⟩ => ⟨S1024x576, .f32⟩
  | .hbm, ⟨2, _⟩ => ⟨S1024x576, .f32⟩
  | .hbm, ⟨3, _⟩ => ⟨S1024x576, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S1024x1024, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S256x1024, .f32⟩
  | .hbm, ⟨20, _⟩ => ⟨S256x256, .f32⟩
  | .hbm, ⟨21, _⟩ => ⟨S256x256, .f32⟩
  | .hbm, ⟨22, _⟩ => ⟨S256x256, .f32⟩
  | .hbm, ⟨23, _⟩ => ⟨S256x256, .f32⟩
  | .hbm, ⟨24, _⟩ => ⟨S8x1024, .f32⟩
  | .hbm, ⟨25, _⟩ => ⟨S8x1024, .f32⟩
  | .hbm, ⟨26, _⟩ => ⟨S8x1024, .f32⟩
  | .hbm, ⟨27, _⟩ => ⟨S8x1024, .f32⟩
  | .hbm, ⟨28, _⟩ => ⟨S1024x576, .f32⟩
  | .hbm, ⟨29, _⟩ => ⟨S1024x576, .f32⟩
  | .hbm, ⟨30, _⟩ => ⟨S1024x576, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S1024x1024, .f32⟩
  | .hbm, ⟨35, _⟩ => ⟨S1024x1024, .f32⟩
  | .hbm, ⟨36, _⟩ => ⟨S1024x1024, .f32⟩
  | .hbm, ⟨37, _⟩ => ⟨S1024x1024, .f32⟩
  | .hbm, ⟨38, _⟩ => ⟨S1024x1024, .f32⟩
  | .hbm, ⟨39, _⟩ => ⟨S1024x1024, .f32⟩
  | .hbm, ⟨40, _⟩ => ⟨S256x1024, .f32⟩
  | .hbm, ⟨41, _⟩ => ⟨S256x1024, .f32⟩
  | .hbm, ⟨42, _⟩ => ⟨S256x1024, .f32⟩
  | .hbm, ⟨43, _⟩ => ⟨S256x256, .f32⟩
  | .hbm, ⟨44, _⟩ => ⟨S256x256, .f32⟩
  | .hbm, ⟨45, _⟩ => ⟨S256x256, .f32⟩
  | .hbm, ⟨46, _⟩ => ⟨S8x1024, .f32⟩
  | .hbm, ⟨47, _⟩ => ⟨S8x1024, .f32⟩
  | .hbm, ⟨48, _⟩ => ⟨S8x1024, .f32⟩
  | .local _ .vmem, ⟨0, _⟩ => ⟨S256x576, .f32⟩
  | .local _ .vmem, ⟨1, _⟩ => ⟨S256x576, .f32⟩
  | .local _ .vmem, ⟨2, _⟩ => ⟨S256x576, .f32⟩
  | .local _ .vmem, ⟨3, _⟩ => ⟨S256x576, .f32⟩
  | .local _ .vmem, ⟨4, _⟩ => ⟨S256x576, .f32⟩
  | .local _ .vmem, ⟨5, _⟩ => ⟨S256x576, .f32⟩
  | .local _ .vmem, ⟨6, _⟩ => ⟨S256x576, .f32⟩
  | .local _ .vmem, ⟨7, _⟩ => ⟨S256x576, .f32⟩
  | .local _ .vmem, ⟨8, _⟩ => ⟨S256x576, .f32⟩
  | .local _ .vmem, ⟨9, _⟩ => ⟨S256x576, .f32⟩
  | .local _ .vmem, ⟨10, _⟩ => ⟨S256x576, .f32⟩
  | .local _ .vmem, ⟨11, _⟩ => ⟨S256x576, .f32⟩
  | .local _ .vmem, ⟨12, _⟩ => ⟨S256x576, .f32⟩
  | .local _ .vmem, ⟨13, _⟩ => ⟨S256x576, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | .local _ .vmem, ⟨22, _⟩ => ⟨S256x1024, .f32⟩
  | .local _ .vmem, ⟨23, _⟩ => ⟨S256x1024, .f32⟩
  | .local _ .vmem, ⟨24, _⟩ => ⟨S256x1024, .f32⟩
  | .local _ .vmem, ⟨25, _⟩ => ⟨S256x1024, .f32⟩
  | .local _ .vmem, ⟨26, _⟩ => ⟨S256x1024, .f32⟩
  | .local _ .vmem, ⟨27, _⟩ => ⟨S256x1024, .f32⟩
  | .local _ .vmem, ⟨28, _⟩ => ⟨S256x1024, .f32⟩
  | .local _ .vmem, ⟨29, _⟩ => ⟨S256x1024, .f32⟩
  | .local _ .vmem, ⟨30, _⟩ => ⟨S256x1024, .f32⟩
  | .local _ .vmem, ⟨31, _⟩ => ⟨S256x1024, .f32⟩
  | .local _ .vmem, ⟨32, _⟩ => ⟨S256x1024, .f32⟩
  | .local _ .vmem, ⟨33, _⟩ => ⟨S256x1024, .f32⟩
  | .local _ .vmem, ⟨34, _⟩ => ⟨S256x1024, .f32⟩
  | .local _ .vmem, ⟨35, _⟩ => ⟨S256x1024, .f32⟩
  | .local _ .vmem, ⟨36, _⟩ => ⟨S256x1024, .f32⟩
  | .local _ .vmem, ⟨37, _⟩ => ⟨S256x1024, .f32⟩
  | .local _ .vmem, ⟨38, _⟩ => ⟨S256x1024, .f32⟩
  | .local _ .vmem, ⟨39, _⟩ => ⟨S256x1024, .f32⟩
  | .local _ .vmem, ⟨40, _⟩ => ⟨S256x1024, .f32⟩
  | .local _ .vmem, ⟨41, _⟩ => ⟨S256x1024, .f32⟩
  | .local _ .vmem, ⟨42, _⟩ => ⟨S256x1024, .f32⟩
  | .local _ .vmem, ⟨43, _⟩ => ⟨S256x1024, .f32⟩
  | .local _ .vmem, ⟨44, _⟩ => ⟨S256x1024, .f32⟩
  | .local _ .vmem, ⟨45, _⟩ => ⟨S256x1024, .f32⟩
  | .local _ .vmem, ⟨46, _⟩ => ⟨S256x1024, .f32⟩
  | .local _ .vmem, ⟨47, _⟩ => ⟨S256x1024, .f32⟩
  | .local _ .vmem, ⟨48, _⟩ => ⟨S256x1024, .f32⟩
  | .local _ .vmem, ⟨49, _⟩ => ⟨S256x1024, .f32⟩
  | .local _ .vmem, ⟨50, _⟩ => ⟨S256x1024, .f32⟩
  | .local _ .vmem, ⟨51, _⟩ => ⟨S256x1024, .f32⟩
  | .local _ .vmem, ⟨52, _⟩ => ⟨S256x1024, .f32⟩
  | .local _ .vmem, ⟨53, _⟩ => ⟨S256x1024, .f32⟩
  | .local _ .vmem, ⟨54, _⟩ => ⟨S256x1024, .f32⟩
  | .local _ .vmem, ⟨55, _⟩ => ⟨S256x1024, .f32⟩
  | .local _ .vmem, ⟨56, _⟩ => ⟨S256x256, .f32⟩
  | .local _ .vmem, ⟨57, _⟩ => ⟨S256x256, .f32⟩
  | .local _ .vmem, ⟨58, _⟩ => ⟨S256x256, .f32⟩
  | .local _ .vmem, ⟨59, _⟩ => ⟨S256x256, .f32⟩
  | .local _ .vmem, ⟨60, _⟩ => ⟨S256x256, .f32⟩
  | .local _ .vmem, ⟨61, _⟩ => ⟨S256x256, .f32⟩
  | .local _ .vmem, ⟨62, _⟩ => ⟨S256x256, .f32⟩
  | .local _ .vmem, ⟨63, _⟩ => ⟨S8x1024, .f32⟩
  | .local _ .vmem, ⟨64, _⟩ => ⟨S8x1024, .f32⟩
  | .local _ .vmem, ⟨65, _⟩ => ⟨S8x1024, .f32⟩
  | .local _ .vmem, ⟨66, _⟩ => ⟨S8x1024, .f32⟩
  | .local _ .vmem, ⟨67, _⟩ => ⟨S8x1024, .f32⟩
  | .local _ .vmem, ⟨68, _⟩ => ⟨S8x1024, .f32⟩
  | .local _ .vmem, ⟨69, _⟩ => ⟨S8x1024, .f32⟩
  | _, _ => ⟨S1024x576, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | _, _ => false

abbrev semScoped : Fin 0 → Bool
  | ⟨_, h⟩ => absurd h (Nat.not_lt_zero _)

abbrev dmaSemScoped : Fin 70 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | _ => false

abbrev sig : RefSig :=
  ofTc nBuf bufTy 0 70 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0_0 : Ref sig .tc := ⟨.hbm, 28, rfl⟩
abbrev main_v0_1 : Ref sig .tc := ⟨.hbm, 29, rfl⟩
abbrev main_v0_2 : Ref sig .tc := ⟨.hbm, 30, rfl⟩
abbrev main_v1_0 : Ref sig .tc := ⟨.hbm, 31, rfl⟩
abbrev main_v1_1 : Ref sig .tc := ⟨.hbm, 32, rfl⟩
abbrev main_v1_2 : Ref sig .tc := ⟨.hbm, 33, rfl⟩
abbrev main_v2_0 : Ref sig .tc := ⟨.hbm, 34, rfl⟩
abbrev main_v2_1 : Ref sig .tc := ⟨.hbm, 35, rfl⟩
abbrev main_v2_2 : Ref sig .tc := ⟨.hbm, 36, rfl⟩
abbrev main_v3_0 : Ref sig .tc := ⟨.hbm, 37, rfl⟩
abbrev main_v3_1 : Ref sig .tc := ⟨.hbm, 38, rfl⟩
abbrev main_v3_2 : Ref sig .tc := ⟨.hbm, 39, rfl⟩
abbrev main_v4_0 : Ref sig .tc := ⟨.hbm, 40, rfl⟩
abbrev main_v4_1 : Ref sig .tc := ⟨.hbm, 41, rfl⟩
abbrev main_v4_2 : Ref sig .tc := ⟨.hbm, 42, rfl⟩
abbrev main_v5_0 : Ref sig .tc := ⟨.hbm, 43, rfl⟩
abbrev main_v5_1 : Ref sig .tc := ⟨.hbm, 44, rfl⟩
abbrev main_v5_2 : Ref sig .tc := ⟨.hbm, 45, rfl⟩
abbrev main_v6_0 : Ref sig .tc := ⟨.hbm, 46, rfl⟩
abbrev main_v6_1 : Ref sig .tc := ⟨.hbm, 47, rfl⟩
abbrev main_v6_2 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc1_stg0_0 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg2_1 : Ref sig .tc := ⟨.vmem, 26, rfl⟩
abbrev cc2_stg3_0 : Ref sig .tc := ⟨.vmem, 27, rfl⟩
abbrev cc2_stg3_1 : Ref sig .tc := ⟨.vmem, 28, rfl⟩
abbrev cc2_stg4_0 : Ref sig .tc := ⟨.vmem, 29, rfl⟩
abbrev cc2_stg4_1 : Ref sig .tc := ⟨.vmem, 30, rfl⟩
abbrev cc2_stg5_0 : Ref sig .tc := ⟨.vmem, 31, rfl⟩
abbrev cc2_stg5_1 : Ref sig .tc := ⟨.vmem, 32, rfl⟩
abbrev cc2_stg6_0 : Ref sig .tc := ⟨.vmem, 33, rfl⟩
abbrev cc2_stg6_1 : Ref sig .tc := ⟨.vmem, 34, rfl⟩
abbrev cc3_stg0_0 : Ref sig .tc := ⟨.vmem, 35, rfl⟩
abbrev cc3_stg0_1 : Ref sig .tc := ⟨.vmem, 36, rfl⟩
abbrev cc3_stg1_0 : Ref sig .tc := ⟨.vmem, 37, rfl⟩
abbrev cc3_stg1_1 : Ref sig .tc := ⟨.vmem, 38, rfl⟩
abbrev cc3_stg2_0 : Ref sig .tc := ⟨.vmem, 39, rfl⟩
abbrev cc3_stg2_1 : Ref sig .tc := ⟨.vmem, 40, rfl⟩
abbrev cc3_stg3_0 : Ref sig .tc := ⟨.vmem, 41, rfl⟩
abbrev cc3_stg3_1 : Ref sig .tc := ⟨.vmem, 42, rfl⟩
abbrev cc3_stg4_0 : Ref sig .tc := ⟨.vmem, 43, rfl⟩
abbrev cc3_stg4_1 : Ref sig .tc := ⟨.vmem, 44, rfl⟩
abbrev cc3_stg5_0 : Ref sig .tc := ⟨.vmem, 45, rfl⟩
abbrev cc3_stg5_1 : Ref sig .tc := ⟨.vmem, 46, rfl⟩
abbrev cc3_stg6_0 : Ref sig .tc := ⟨.vmem, 47, rfl⟩
abbrev cc3_stg6_1 : Ref sig .tc := ⟨.vmem, 48, rfl⟩
abbrev cc4_stg0_0 : Ref sig .tc := ⟨.vmem, 49, rfl⟩
abbrev cc4_stg1_0 : Ref sig .tc := ⟨.vmem, 50, rfl⟩
abbrev cc4_stg2_0 : Ref sig .tc := ⟨.vmem, 51, rfl⟩
abbrev cc4_stg3_0 : Ref sig .tc := ⟨.vmem, 52, rfl⟩
abbrev cc4_stg4_0 : Ref sig .tc := ⟨.vmem, 53, rfl⟩
abbrev cc4_stg5_0 : Ref sig .tc := ⟨.vmem, 54, rfl⟩
abbrev cc4_stg6_0 : Ref sig .tc := ⟨.vmem, 55, rfl⟩
abbrev cc5_stg0_0 : Ref sig .tc := ⟨.vmem, 56, rfl⟩
abbrev cc5_stg1_0 : Ref sig .tc := ⟨.vmem, 57, rfl⟩
abbrev cc5_stg2_0 : Ref sig .tc := ⟨.vmem, 58, rfl⟩
abbrev cc5_stg3_0 : Ref sig .tc := ⟨.vmem, 59, rfl⟩
abbrev cc5_stg4_0 : Ref sig .tc := ⟨.vmem, 60, rfl⟩
abbrev cc5_stg5_0 : Ref sig .tc := ⟨.vmem, 61, rfl⟩
abbrev cc5_stg6_0 : Ref sig .tc := ⟨.vmem, 62, rfl⟩
abbrev cc6_stg0_0 : Ref sig .tc := ⟨.vmem, 63, rfl⟩
abbrev cc6_stg1_0 : Ref sig .tc := ⟨.vmem, 64, rfl⟩
abbrev cc6_stg2_0 : Ref sig .tc := ⟨.vmem, 65, rfl⟩
abbrev cc6_stg3_0 : Ref sig .tc := ⟨.vmem, 66, rfl⟩
abbrev cc6_stg4_0 : Ref sig .tc := ⟨.vmem, 67, rfl⟩
abbrev cc6_stg5_0 : Ref sig .tc := ⟨.vmem, 68, rfl⟩
abbrev cc6_stg6_0 : Ref sig .tc := ⟨.vmem, 69, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem1_0 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc2_sem0_0 : DmaSem sig := 21
abbrev cc2_sem0_1 : DmaSem sig := 22
abbrev cc2_sem1_0 : DmaSem sig := 23
abbrev cc2_sem1_1 : DmaSem sig := 24
abbrev cc2_sem2_0 : DmaSem sig := 25
abbrev cc2_sem2_1 : DmaSem sig := 26
abbrev cc2_sem3_0 : DmaSem sig := 27
abbrev cc2_sem3_1 : DmaSem sig := 28
abbrev cc2_sem4_0 : DmaSem sig := 29
abbrev cc2_sem4_1 : DmaSem sig := 30
abbrev cc2_sem5_0 : DmaSem sig := 31
abbrev cc2_sem5_1 : DmaSem sig := 32
abbrev cc2_sem6_0 : DmaSem sig := 33
abbrev cc2_sem6_1 : DmaSem sig := 34
abbrev cc3_sem0_0 : DmaSem sig := 35
abbrev cc3_sem0_1 : DmaSem sig := 36
abbrev cc3_sem1_0 : DmaSem sig := 37
abbrev cc3_sem1_1 : DmaSem sig := 38
abbrev cc3_sem2_0 : DmaSem sig := 39
abbrev cc3_sem2_1 : DmaSem sig := 40
abbrev cc3_sem3_0 : DmaSem sig := 41
abbrev cc3_sem3_1 : DmaSem sig := 42
abbrev cc3_sem4_0 : DmaSem sig := 43
abbrev cc3_sem4_1 : DmaSem sig := 44
abbrev cc3_sem5_0 : DmaSem sig := 45
abbrev cc3_sem5_1 : DmaSem sig := 46
abbrev cc3_sem6_0 : DmaSem sig := 47
abbrev cc3_sem6_1 : DmaSem sig := 48
abbrev cc4_sem0_0 : DmaSem sig := 49
abbrev cc4_sem1_0 : DmaSem sig := 50
abbrev cc4_sem2_0 : DmaSem sig := 51
abbrev cc4_sem3_0 : DmaSem sig := 52
abbrev cc4_sem4_0 : DmaSem sig := 53
abbrev cc4_sem5_0 : DmaSem sig := 54
abbrev cc4_sem6_0 : DmaSem sig := 55
abbrev cc5_sem0_0 : DmaSem sig := 56
abbrev cc5_sem1_0 : DmaSem sig := 57
abbrev cc5_sem2_0 : DmaSem sig := 58
abbrev cc5_sem3_0 : DmaSem sig := 59
abbrev cc5_sem4_0 : DmaSem sig := 60
abbrev cc5_sem5_0 : DmaSem sig := 61
abbrev cc5_sem6_0 : DmaSem sig := 62
abbrev cc6_sem0_0 : DmaSem sig := 63
abbrev cc6_sem1_0 : DmaSem sig := 64
abbrev cc6_sem2_0 : DmaSem sig := 65
abbrev cc6_sem3_0 : DmaSem sig := 66
abbrev cc6_sem4_0 : DmaSem sig := 67
abbrev cc6_sem5_0 : DmaSem sig := 68
abbrev cc6_sem6_0 : DmaSem sig := 69

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x576 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x576 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x576 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x576 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x576 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x576 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x576 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S256x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S256x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true]

abbrev stage1_2 : Fin 1 → Memref sig .tc .vmem S256x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true]

abbrev stage1_3 : Fin 1 → Memref sig .tc .vmem S256x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true]

abbrev stage1_4 : Fin 1 → Memref sig .tc .vmem S256x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![true]

abbrev stage1_5 : Fin 1 → Memref sig .tc .vmem S256x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![true]

abbrev stage1_6 : Fin 1 → Memref sig .tc .vmem S256x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S256x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S256x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S256x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S256x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S256x1024 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S256x1024 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![4], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S256x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S256x1024 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S256x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S256x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S256x1024 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S256x1024 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S256x1024 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 1 → Memref sig .tc .vmem S256x1024 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true]

abbrev stage4_1 : Fin 1 → Memref sig .tc .vmem S256x1024 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![true]

abbrev stage4_2 : Fin 1 → Memref sig .tc .vmem S256x1024 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![true]

abbrev stage4_3 : Fin 1 → Memref sig .tc .vmem S256x1024 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![true]

abbrev stage4_4 : Fin 1 → Memref sig .tc .vmem S256x1024 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![true]

abbrev stage4_5 : Fin 1 → Memref sig .tc .vmem S256x1024 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![true]

abbrev stage4_6 : Fin 1 → Memref sig .tc .vmem S256x1024 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![true]

abbrev grid5 : Pipeline.Grid := ⟨1, ![1], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 1 → Memref sig .tc .vmem S256x256 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![true]

abbrev stage5_1 : Fin 1 → Memref sig .tc .vmem S256x256 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![true]

abbrev stage5_2 : Fin 1 → Memref sig .tc .vmem S256x256 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![true]

abbrev stage5_3 : Fin 1 → Memref sig .tc .vmem S256x256 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![true]

abbrev stage5_4 : Fin 1 → Memref sig .tc .vmem S256x256 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![true]

abbrev stage5_5 : Fin 1 → Memref sig .tc .vmem S256x256 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![true]

abbrev stage5_6 : Fin 1 → Memref sig .tc .vmem S256x256 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 1 → Memref sig .tc .vmem S8x1024 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![true]

abbrev stage6_1 : Fin 1 → Memref sig .tc .vmem S8x1024 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![true]

abbrev stage6_2 : Fin 1 → Memref sig .tc .vmem S8x1024 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![true]

abbrev stage6_3 : Fin 1 → Memref sig .tc .vmem S8x1024 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![true]

abbrev stage6_4 : Fin 1 → Memref sig .tc .vmem S8x1024 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![true]

abbrev stage6_5 : Fin 1 → Memref sig .tc .vmem S8x1024 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![true]

abbrev stage6_6 : Fin 1 → Memref sig .tc .vmem S8x1024 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![true]
-- ==== Reference4Ideal.lean ====
abbrev S1024x576 : Shape := ⟨2, ![1024, 576]⟩
abbrev S256x1024 : Shape := ⟨2, ![256, 1024]⟩
abbrev S1024x1024 : Shape := ⟨2, ![1024, 1024]⟩
abbrev S256x256 : Shape := ⟨2, ![256, 256]⟩
abbrev S8x1024 : Shape := ⟨2, ![8, 1024]⟩
abbrev S_ : Shape := ⟨0, ![]⟩

abbrev nBuf : Space → Nat
  | .hbm => 259
  | .vmem => 0
  | .smem => 0
  | _ => 0

abbrev hbmTy0_0 (i : Nat) : BufTy := match i % 128 with
  | 0 => ⟨S1024x576, .f32⟩
  | 1 => ⟨S1024x576, .f32⟩
  | 2 => ⟨S1024x576, .f32⟩
  | 3 => ⟨S1024x576, .f32⟩
  | 4 => ⟨S256x1024, .f32⟩
  | 5 => ⟨S256x1024, .f32⟩
  | 6 => ⟨S256x1024, .f32⟩
  | 7 => ⟨S256x1024, .f32⟩
  | 8 => ⟨S1024x1024, .f32⟩
  | 9 => ⟨S1024x1024, .f32⟩
  | 10 => ⟨S1024x1024, .f32⟩
  | 11 => ⟨S1024x1024, .f32⟩
  | 12 => ⟨S1024x1024, .f32⟩
  | 13 => ⟨S1024x1024, .f32⟩
  | 14 => ⟨S1024x1024, .f32⟩
  | 15 => ⟨S1024x1024, .f32⟩
  | 16 => ⟨S256x1024, .f32⟩
  | 17 => ⟨S256x1024, .f32⟩
  | 18 => ⟨S256x1024, .f32⟩
  | 19 => ⟨S256x1024, .f32⟩
  | 20 => ⟨S256x256, .f32⟩
  | 21 => ⟨S256x256, .f32⟩
  | 22 => ⟨S256x256, .f32⟩
  | 23 => ⟨S256x256, .f32⟩
  | 24 => ⟨S8x1024, .f32⟩
  | 25 => ⟨S8x1024, .f32⟩
  | 26 => ⟨S8x1024, .f32⟩
  | 27 => ⟨S8x1024, .f32⟩
  | 28 => ⟨S_, .f32⟩
  | 29 => ⟨S1024x576, .f32⟩
  | 30 => ⟨S1024x576, .f32⟩
  | 31 => ⟨S_, .f32⟩
  | 32 => ⟨S1024x576, .f32⟩
  | 33 => ⟨S1024x576, .f32⟩
  | 34 => ⟨S1024x576, .f32⟩
  | 35 => ⟨S_, .f32⟩
  | 36 => ⟨S1024x576, .f32⟩
  | 37 => ⟨S1024x576, .f32⟩
  | 38 => ⟨S1024x576, .f32⟩
  | 39 => ⟨S_, .f32⟩
  | 40 => ⟨S1024x576, .f32⟩
  | 41 => ⟨S1024x576, .f32⟩
  | 42 => ⟨S1024x576, .f32⟩
  | 43 => ⟨S_, .f32⟩
  | 44 => ⟨S1024x576, .f32⟩
  | 45 => ⟨S1024x576, .f32⟩
  | 46 => ⟨S_, .f32⟩
  | 47 => ⟨S1024x576, .f32⟩
  | 48 => ⟨S1024x576, .f32⟩
  | 49 => ⟨S1024x576, .f32⟩
  | 50 => ⟨S_, .f32⟩
  | 51 => ⟨S1024x576, .f32⟩
  | 52 => ⟨S1024x576, .f32⟩
  | 53 => ⟨S1024x576, .f32⟩
  | 54 => ⟨S_, .f32⟩
  | 55 => ⟨S1024x576, .f32⟩
  | 56 => ⟨S1024x576, .f32⟩
  | 57 => ⟨S1024x576, .f32⟩
  | 58 => ⟨S_, .f32⟩
  | 59 => ⟨S1024x576, .f32⟩
  | 60 => ⟨S1024x576, .f32⟩
  | 61 => ⟨S_, .f32⟩
  | 62 => ⟨S256x1024, .f32⟩
  | 63 => ⟨S256x1024, .f32⟩
  | 64 => ⟨S_, .f32⟩
  | 65 => ⟨S256x1024, .f32⟩
  | 66 => ⟨S256x1024, .f32⟩
  | 67 => ⟨S256x1024, .f32⟩
  | 68 => ⟨S_, .f32⟩
  | 69 => ⟨S256x1024, .f32⟩
  | 70 => ⟨S256x1024, .f32⟩
  | 71 => ⟨S256x1024, .f32⟩
  | 72 => ⟨S_, .f32⟩
  | 73 => ⟨S256x1024, .f32⟩
  | 74 => ⟨S256x1024, .f32⟩
  | 75 => ⟨S256x1024, .f32⟩
  | 76 => ⟨S_, .f32⟩
  | 77 => ⟨S256x1024, .f32⟩
  | 78 => ⟨S256x1024, .f32⟩
  | 79 => ⟨S_, .f32⟩
  | 80 => ⟨S256x1024, .f32⟩
  | 81 => ⟨S256x1024, .f32⟩
  | 82 => ⟨S256x1024, .f32⟩
  | 83 => ⟨S_, .f32⟩
  | 84 => ⟨S256x1024, .f32⟩
  | 85 => ⟨S256x1024, .f32⟩
  | 86 => ⟨S256x1024, .f32⟩
  | 87 => ⟨S_, .f32⟩
  | 88 => ⟨S256x1024, .f32⟩
  | 89 => ⟨S256x1024, .f32⟩
  | 90 => ⟨S256x1024, .f32⟩
  | 91 => ⟨S_, .f32⟩
  | 92 => ⟨S256x1024, .f32⟩
  | 93 => ⟨S256x1024, .f32⟩
  | 94 => ⟨S_, .f32⟩
  | 95 => ⟨S1024x1024, .f32⟩
  | 96 => ⟨S1024x1024, .f32⟩
  | 97 => ⟨S_, .f32⟩
  | 98 => ⟨S1024x1024, .f32⟩
  | 99 => ⟨S1024x1024, .f32⟩
  | 100 => ⟨S1024x1024, .f32⟩
  | 101 => ⟨S_, .f32⟩
  | 102 => ⟨S1024x1024, .f32⟩
  | 103 => ⟨S1024x1024, .f32⟩
  | 104 => ⟨S1024x1024, .f32⟩
  | 105 => ⟨S_, .f32⟩
  | 106 => ⟨S1024x1024, .f32⟩
  | 107 => ⟨S1024x1024, .f32⟩
  | 108 => ⟨S1024x1024, .f32⟩
  | 109 => ⟨S_, .f32⟩
  | 110 => ⟨S1024x1024, .f32⟩
  | 111 => ⟨S1024x1024, .f32⟩
  | 112 => ⟨S_, .f32⟩
  | 113 => ⟨S1024x1024, .f32⟩
  | 114 => ⟨S1024x1024, .f32⟩
  | 115 => ⟨S1024x1024, .f32⟩
  | 116 => ⟨S_, .f32⟩
  | 117 => ⟨S1024x1024, .f32⟩
  | 118 => ⟨S1024x1024, .f32⟩
  | 119 => ⟨S1024x1024, .f32⟩
  | 120 => ⟨S_, .f32⟩
  | 121 => ⟨S1024x1024, .f32⟩
  | 122 => ⟨S1024x1024, .f32⟩
  | 123 => ⟨S1024x1024, .f32⟩
  | 124 => ⟨S_, .f32⟩
  | 125 => ⟨S1024x1024, .f32⟩
  | 126 => ⟨S1024x1024, .f32⟩
  | 127 => ⟨S_, .f32⟩
  | _ => ⟨S1024x576, .f32⟩

abbrev hbmTy0_1 (i : Nat) : BufTy := match i % 128 with
  | 0 => ⟨S1024x1024, .f32⟩
  | 1 => ⟨S1024x1024, .f32⟩
  | 2 => ⟨S_, .f32⟩
  | 3 => ⟨S1024x1024, .f32⟩
  | 4 => ⟨S1024x1024, .f32⟩
  | 5 => ⟨S1024x1024, .f32⟩
  | 6 => ⟨S_, .f32⟩
  | 7 => ⟨S1024x1024, .f32⟩
  | 8 => ⟨S1024x1024, .f32⟩
  | 9 => ⟨S1024x1024, .f32⟩
  | 10 => ⟨S_, .f32⟩
  | 11 => ⟨S1024x1024, .f32⟩
  | 12 => ⟨S1024x1024, .f32⟩
  | 13 => ⟨S1024x1024, .f32⟩
  | 14 => ⟨S_, .f32⟩
  | 15 => ⟨S1024x1024, .f32⟩
  | 16 => ⟨S1024x1024, .f32⟩
  | 17 => ⟨S_, .f32⟩
  | 18 => ⟨S1024x1024, .f32⟩
  | 19 => ⟨S1024x1024, .f32⟩
  | 20 => ⟨S1024x1024, .f32⟩
  | 21 => ⟨S_, .f32⟩
  | 22 => ⟨S1024x1024, .f32⟩
  | 23 => ⟨S1024x1024, .f32⟩
  | 24 => ⟨S1024x1024, .f32⟩
  | 25 => ⟨S_, .f32⟩
  | 26 => ⟨S1024x1024, .f32⟩
  | 27 => ⟨S1024x1024, .f32⟩
  | 28 => ⟨S1024x1024, .f32⟩
  | 29 => ⟨S_, .f32⟩
  | 30 => ⟨S1024x1024, .f32⟩
  | 31 => ⟨S1024x1024, .f32⟩
  | 32 => ⟨S_, .f32⟩
  | 33 => ⟨S256x1024, .f32⟩
  | 34 => ⟨S256x1024, .f32⟩
  | 35 => ⟨S_, .f32⟩
  | 36 => ⟨S256x1024, .f32⟩
  | 37 => ⟨S256x1024, .f32⟩
  | 38 => ⟨S256x1024, .f32⟩
  | 39 => ⟨S_, .f32⟩
  | 40 => ⟨S256x1024, .f32⟩
  | 41 => ⟨S256x1024, .f32⟩
  | 42 => ⟨S256x1024, .f32⟩
  | 43 => ⟨S_, .f32⟩
  | 44 => ⟨S256x1024, .f32⟩
  | 45 => ⟨S256x1024, .f32⟩
  | 46 => ⟨S256x1024, .f32⟩
  | 47 => ⟨S_, .f32⟩
  | 48 => ⟨S256x1024, .f32⟩
  | 49 => ⟨S256x1024, .f32⟩
  | 50 => ⟨S_, .f32⟩
  | 51 => ⟨S256x1024, .f32⟩
  | 52 => ⟨S256x1024, .f32⟩
  | 53 => ⟨S256x1024, .f32⟩
  | 54 => ⟨S_, .f32⟩
  | 55 => ⟨S256x1024, .f32⟩
  | 56 => ⟨S256x1024, .f32⟩
  | 57 => ⟨S256x1024, .f32⟩
  | 58 => ⟨S_, .f32⟩
  | 59 => ⟨S256x1024, .f32⟩
  | 60 => ⟨S256x1024, .f32⟩
  | 61 => ⟨S256x1024, .f32⟩
  | 62 => ⟨S_, .f32⟩
  | 63 => ⟨S256x1024, .f32⟩
  | 64 => ⟨S256x1024, .f32⟩
  | 65 => ⟨S_, .f32⟩
  | 66 => ⟨S256x256, .f32⟩
  | 67 => ⟨S256x256, .f32⟩
  | 68 => ⟨S_, .f32⟩
  | 69 => ⟨S256x256, .f32⟩
  | 70 => ⟨S256x256, .f32⟩
  | 71 => ⟨S256x256, .f32⟩
  | 72 => ⟨S_, .f32⟩
  | 73 => ⟨S256x256, .f32⟩
  | 74 => ⟨S256x256, .f32⟩
  | 75 => ⟨S256x256, .f32⟩
  | 76 => ⟨S_, .f32⟩
  | 77 => ⟨S256x256, .f32⟩
  | 78 => ⟨S256x256, .f32⟩
  | 79 => ⟨S256x256, .f32⟩
  | 80 => ⟨S_, .f32⟩
  | 81 => ⟨S256x256, .f32⟩
  | 82 => ⟨S256x256, .f32⟩
  | 83 => ⟨S_, .f32⟩
  | 84 => ⟨S256x256, .f32⟩
  | 85 => ⟨S256x256, .f32⟩
  | 86 => ⟨S256x256, .f32⟩
  | 87 => ⟨S_, .f32⟩
  | 88 => ⟨S256x256, .f32⟩
  | 89 => ⟨S256x256, .f32⟩
  | 90 => ⟨S256x256, .f32⟩
  | 91 => ⟨S_, .f32⟩
  | 92 => ⟨S256x256, .f32⟩
  | 93 => ⟨S256x256, .f32⟩
  | 94 => ⟨S256x256, .f32⟩
  | 95 => ⟨S_, .f32⟩
  | 96 => ⟨S256x256, .f32⟩
  | 97 => ⟨S256x256, .f32⟩
  | 98 => ⟨S_, .f32⟩
  | 99 => ⟨S8x1024, .f32⟩
  | 100 => ⟨S8x1024, .f32⟩
  | 101 => ⟨S_, .f32⟩
  | 102 => ⟨S8x1024, .f32⟩
  | 103 => ⟨S8x1024, .f32⟩
  | 104 => ⟨S8x1024, .f32⟩
  | 105 => ⟨S_, .f32⟩
  | 106 => ⟨S8x1024, .f32⟩
  | 107 => ⟨S8x1024, .f32⟩
  | 108 => ⟨S8x1024, .f32⟩
  | 109 => ⟨S_, .f32⟩
  | 110 => ⟨S8x1024, .f32⟩
  | 111 => ⟨S8x1024, .f32⟩
  | 112 => ⟨S8x1024, .f32⟩
  | 113 => ⟨S_, .f32⟩
  | 114 => ⟨S8x1024, .f32⟩
  | 115 => ⟨S8x1024, .f32⟩
  | 116 => ⟨S_, .f32⟩
  | 117 => ⟨S8x1024, .f32⟩
  | 118 => ⟨S8x1024, .f32⟩
  | 119 => ⟨S8x1024, .f32⟩
  | 120 => ⟨S_, .f32⟩
  | 121 => ⟨S8x1024, .f32⟩
  | 122 => ⟨S8x1024, .f32⟩
  | 123 => ⟨S8x1024, .f32⟩
  | 124 => ⟨S_, .f32⟩
  | 125 => ⟨S8x1024, .f32⟩
  | 126 => ⟨S8x1024, .f32⟩
  | 127 => ⟨S8x1024, .f32⟩
  | _ => ⟨S1024x576, .f32⟩

abbrev hbmTy0_2 (i : Nat) : BufTy := match i % 128 with
  | 0 => ⟨S_, .f32⟩
  | 1 => ⟨S8x1024, .f32⟩
  | 2 => ⟨S8x1024, .f32⟩
  | _ => ⟨S1024x576, .f32⟩

abbrev hbmTy (i : Nat) : BufTy := match i / 128 with
  | 0 => hbmTy0_0 i
  | 1 => hbmTy0_1 i
  | 2 => hbmTy0_2 i
  | _ => ⟨S1024x576, .f32⟩

abbrev bufTy : (tb : Table) → Fin (tcTables nBuf tb) → BufTy
  | .hbm, ⟨i, _⟩ => hbmTy i
  | _, _ => ⟨S1024x576, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_cst : Ref sig .tc := ⟨.hbm, 28, rfl⟩
abbrev main_v0 : Ref sig .tc := ⟨.hbm, 29, rfl⟩
abbrev main_v1 : Ref sig .tc := ⟨.hbm, 30, rfl⟩
abbrev main_cst_0 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_cst_1 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_cst_2 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_cst_3 : Ref sig .tc := ⟨.hbm, 43, rfl⟩
abbrev main_v11 : Ref sig .tc := ⟨.hbm, 44, rfl⟩
abbrev main_v12 : Ref sig .tc := ⟨.hbm, 45, rfl⟩
abbrev main_cst_4 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_cst_5 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_cst_6 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_cst_7 : Ref sig .tc := ⟨.hbm, 58, rfl⟩
abbrev main_v22 : Ref sig .tc := ⟨.hbm, 59, rfl⟩
abbrev main_v23 : Ref sig .tc := ⟨.hbm, 60, rfl⟩
abbrev main_cst_8 : Ref sig .tc := ⟨.hbm, 61, rfl⟩
abbrev main_v24 : Ref sig .tc := ⟨.hbm, 62, rfl⟩
abbrev main_v25 : Ref sig .tc := ⟨.hbm, 63, rfl⟩
abbrev main_cst_9 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_cst_10 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_cst_11 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_cst_12 : Ref sig .tc := ⟨.hbm, 76, rfl⟩
abbrev main_v35 : Ref sig .tc := ⟨.hbm, 77, rfl⟩
abbrev main_v36 : Ref sig .tc := ⟨.hbm, 78, rfl⟩
abbrev main_cst_13 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_cst_14 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_cst_15 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_cst_16 : Ref sig .tc := ⟨.hbm, 91, rfl⟩
abbrev main_v46 : Ref sig .tc := ⟨.hbm, 92, rfl⟩
abbrev main_v47 : Ref sig .tc := ⟨.hbm, 93, rfl⟩
abbrev main_cst_17 : Ref sig .tc := ⟨.hbm, 94, rfl⟩
abbrev main_v48 : Ref sig .tc := ⟨.hbm, 95, rfl⟩
abbrev main_v49 : Ref sig .tc := ⟨.hbm, 96, rfl⟩
abbrev main_cst_18 : Ref sig .tc := ⟨.hbm, 97, rfl⟩
abbrev main_v50 : Ref sig .tc := ⟨.hbm, 98, rfl⟩
abbrev main_v51 : Ref sig .tc := ⟨.hbm, 99, rfl⟩
abbrev main_v52 : Ref sig .tc := ⟨.hbm, 100, rfl⟩
abbrev main_cst_19 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_cst_20 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_cst_21 : Ref sig .tc := ⟨.hbm, 109, rfl⟩
abbrev main_v59 : Ref sig .tc := ⟨.hbm, 110, rfl⟩
abbrev main_v60 : Ref sig .tc := ⟨.hbm, 111, rfl⟩
abbrev main_cst_22 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_cst_23 : Ref sig .tc := ⟨.hbm, 116, rfl⟩
abbrev main_v64 : Ref sig .tc := ⟨.hbm, 117, rfl⟩
abbrev main_v65 : Ref sig .tc := ⟨.hbm, 118, rfl⟩
abbrev main_v66 : Ref sig .tc := ⟨.hbm, 119, rfl⟩
abbrev main_cst_24 : Ref sig .tc := ⟨.hbm, 120, rfl⟩
abbrev main_v67 : Ref sig .tc := ⟨.hbm, 121, rfl⟩
abbrev main_v68 : Ref sig .tc := ⟨.hbm, 122, rfl⟩
abbrev main_v69 : Ref sig .tc := ⟨.hbm, 123, rfl⟩
abbrev main_cst_25 : Ref sig .tc := ⟨.hbm, 124, rfl⟩
abbrev main_v70 : Ref sig .tc := ⟨.hbm, 125, rfl⟩
abbrev main_v71 : Ref sig .tc := ⟨.hbm, 126, rfl⟩
abbrev main_cst_26 : Ref sig .tc := ⟨.hbm, 127, rfl⟩
abbrev main_v72 : Ref sig .tc := ⟨.hbm, 128, rfl⟩
abbrev main_v73 : Ref sig .tc := ⟨.hbm, 129, rfl⟩
abbrev main_cst_27 : Ref sig .tc := ⟨.hbm, 130, rfl⟩
abbrev main_v74 : Ref sig .tc := ⟨.hbm, 131, rfl⟩
abbrev main_v75 : Ref sig .tc := ⟨.hbm, 132, rfl⟩
abbrev main_v76 : Ref sig .tc := ⟨.hbm, 133, rfl⟩
abbrev main_cst_28 : Ref sig .tc := ⟨.hbm, 134, rfl⟩
abbrev main_v77 : Ref sig .tc := ⟨.hbm, 135, rfl⟩
abbrev main_v78 : Ref sig .tc := ⟨.hbm, 136, rfl⟩
abbrev main_v79 : Ref sig .tc := ⟨.hbm, 137, rfl⟩
abbrev main_cst_29 : Ref sig .tc := ⟨.hbm, 138, rfl⟩
abbrev main_v80 : Ref sig .tc := ⟨.hbm, 139, rfl⟩
abbrev main_v81 : Ref sig .tc := ⟨.hbm, 140, rfl⟩
abbrev main_v82 : Ref sig .tc := ⟨.hbm, 141, rfl⟩
abbrev main_cst_30 : Ref sig .tc := ⟨.hbm, 142, rfl⟩
abbrev main_v83 : Ref sig .tc := ⟨.hbm, 143, rfl⟩
abbrev main_v84 : Ref sig .tc := ⟨.hbm, 144, rfl⟩
abbrev main_cst_31 : Ref sig .tc := ⟨.hbm, 145, rfl⟩
abbrev main_v85 : Ref sig .tc := ⟨.hbm, 146, rfl⟩
abbrev main_v86 : Ref sig .tc := ⟨.hbm, 147, rfl⟩
abbrev main_v87 : Ref sig .tc := ⟨.hbm, 148, rfl⟩
abbrev main_cst_32 : Ref sig .tc := ⟨.hbm, 149, rfl⟩
abbrev main_v88 : Ref sig .tc := ⟨.hbm, 150, rfl⟩
abbrev main_v89 : Ref sig .tc := ⟨.hbm, 151, rfl⟩
abbrev main_v90 : Ref sig .tc := ⟨.hbm, 152, rfl⟩
abbrev main_cst_33 : Ref sig .tc := ⟨.hbm, 153, rfl⟩
abbrev main_v91 : Ref sig .tc := ⟨.hbm, 154, rfl⟩
abbrev main_v92 : Ref sig .tc := ⟨.hbm, 155, rfl⟩
abbrev main_v93 : Ref sig .tc := ⟨.hbm, 156, rfl⟩
abbrev main_cst_34 : Ref sig .tc := ⟨.hbm, 157, rfl⟩
abbrev main_v94 : Ref sig .tc := ⟨.hbm, 158, rfl⟩
abbrev main_v95 : Ref sig .tc := ⟨.hbm, 159, rfl⟩
abbrev main_cst_35 : Ref sig .tc := ⟨.hbm, 160, rfl⟩
abbrev main_v96 : Ref sig .tc := ⟨.hbm, 161, rfl⟩
abbrev main_v97 : Ref sig .tc := ⟨.hbm, 162, rfl⟩
abbrev main_cst_36 : Ref sig .tc := ⟨.hbm, 163, rfl⟩
abbrev main_v98 : Ref sig .tc := ⟨.hbm, 164, rfl⟩
abbrev main_v99 : Ref sig .tc := ⟨.hbm, 165, rfl⟩
abbrev main_v100 : Ref sig .tc := ⟨.hbm, 166, rfl⟩
abbrev main_cst_37 : Ref sig .tc := ⟨.hbm, 167, rfl⟩
abbrev main_v101 : Ref sig .tc := ⟨.hbm, 168, rfl⟩
abbrev main_v102 : Ref sig .tc := ⟨.hbm, 169, rfl⟩
abbrev main_v103 : Ref sig .tc := ⟨.hbm, 170, rfl⟩
abbrev main_cst_38 : Ref sig .tc := ⟨.hbm, 171, rfl⟩
abbrev main_v104 : Ref sig .tc := ⟨.hbm, 172, rfl⟩
abbrev main_v105 : Ref sig .tc := ⟨.hbm, 173, rfl⟩
abbrev main_v106 : Ref sig .tc := ⟨.hbm, 174, rfl⟩
abbrev main_cst_39 : Ref sig .tc := ⟨.hbm, 175, rfl⟩
abbrev main_v107 : Ref sig .tc := ⟨.hbm, 176, rfl⟩
abbrev main_v108 : Ref sig .tc := ⟨.hbm, 177, rfl⟩
abbrev main_cst_40 : Ref sig .tc := ⟨.hbm, 178, rfl⟩
abbrev main_v109 : Ref sig .tc := ⟨.hbm, 179, rfl⟩
abbrev main_v110 : Ref sig .tc := ⟨.hbm, 180, rfl⟩
abbrev main_v111 : Ref sig .tc := ⟨.hbm, 181, rfl⟩
abbrev main_cst_41 : Ref sig .tc := ⟨.hbm, 182, rfl⟩
abbrev main_v112 : Ref sig .tc := ⟨.hbm, 183, rfl⟩
abbrev main_v113 : Ref sig .tc := ⟨.hbm, 184, rfl⟩
abbrev main_v114 : Ref sig .tc := ⟨.hbm, 185, rfl⟩
abbrev main_cst_42 : Ref sig .tc := ⟨.hbm, 186, rfl⟩
abbrev main_v115 : Ref sig .tc := ⟨.hbm, 187, rfl⟩
abbrev main_v116 : Ref sig .tc := ⟨.hbm, 188, rfl⟩
abbrev main_v117 : Ref sig .tc := ⟨.hbm, 189, rfl⟩
abbrev main_cst_43 : Ref sig .tc := ⟨.hbm, 190, rfl⟩
abbrev main_v118 : Ref sig .tc := ⟨.hbm, 191, rfl⟩
abbrev main_v119 : Ref sig .tc := ⟨.hbm, 192, rfl⟩
abbrev main_cst_44 : Ref sig .tc := ⟨.hbm, 193, rfl⟩
abbrev main_v120 : Ref sig .tc := ⟨.hbm, 194, rfl⟩
abbrev main_v121 : Ref sig .tc := ⟨.hbm, 195, rfl⟩
abbrev main_cst_45 : Ref sig .tc := ⟨.hbm, 196, rfl⟩
abbrev main_v122 : Ref sig .tc := ⟨.hbm, 197, rfl⟩
abbrev main_v123 : Ref sig .tc := ⟨.hbm, 198, rfl⟩
abbrev main_v124 : Ref sig .tc := ⟨.hbm, 199, rfl⟩
abbrev main_cst_46 : Ref sig .tc := ⟨.hbm, 200, rfl⟩
abbrev main_v125 : Ref sig .tc := ⟨.hbm, 201, rfl⟩
abbrev main_v126 : Ref sig .tc := ⟨.hbm, 202, rfl⟩
abbrev main_v127 : Ref sig .tc := ⟨.hbm, 203, rfl⟩
abbrev main_cst_47 : Ref sig .tc := ⟨.hbm, 204, rfl⟩
abbrev main_v128 : Ref sig .tc := ⟨.hbm, 205, rfl⟩
abbrev main_v129 : Ref sig .tc := ⟨.hbm, 206, rfl⟩
abbrev main_v130 : Ref sig .tc := ⟨.hbm, 207, rfl⟩
abbrev main_cst_48 : Ref sig .tc := ⟨.hbm, 208, rfl⟩
abbrev main_v131 : Ref sig .tc := ⟨.hbm, 209, rfl⟩
abbrev main_v132 : Ref sig .tc := ⟨.hbm, 210, rfl⟩
abbrev main_cst_49 : Ref sig .tc := ⟨.hbm, 211, rfl⟩
abbrev main_v133 : Ref sig .tc := ⟨.hbm, 212, rfl⟩
abbrev main_v134 : Ref sig .tc := ⟨.hbm, 213, rfl⟩
abbrev main_v135 : Ref sig .tc := ⟨.hbm, 214, rfl⟩
abbrev main_cst_50 : Ref sig .tc := ⟨.hbm, 215, rfl⟩
abbrev main_v136 : Ref sig .tc := ⟨.hbm, 216, rfl⟩
abbrev main_v137 : Ref sig .tc := ⟨.hbm, 217, rfl⟩
abbrev main_v138 : Ref sig .tc := ⟨.hbm, 218, rfl⟩
abbrev main_cst_51 : Ref sig .tc := ⟨.hbm, 219, rfl⟩
abbrev main_v139 : Ref sig .tc := ⟨.hbm, 220, rfl⟩
abbrev main_v140 : Ref sig .tc := ⟨.hbm, 221, rfl⟩
abbrev main_v141 : Ref sig .tc := ⟨.hbm, 222, rfl⟩
abbrev main_cst_52 : Ref sig .tc := ⟨.hbm, 223, rfl⟩
abbrev main_v142 : Ref sig .tc := ⟨.hbm, 224, rfl⟩
abbrev main_v143 : Ref sig .tc := ⟨.hbm, 225, rfl⟩
abbrev main_cst_53 : Ref sig .tc := ⟨.hbm, 226, rfl⟩
abbrev main_v144 : Ref sig .tc := ⟨.hbm, 227, rfl⟩
abbrev main_v145 : Ref sig .tc := ⟨.hbm, 228, rfl⟩
abbrev main_cst_54 : Ref sig .tc := ⟨.hbm, 229, rfl⟩
abbrev main_v146 : Ref sig .tc := ⟨.hbm, 230, rfl⟩
abbrev main_v147 : Ref sig .tc := ⟨.hbm, 231, rfl⟩
abbrev main_v148 : Ref sig .tc := ⟨.hbm, 232, rfl⟩
abbrev main_cst_55 : Ref sig .tc := ⟨.hbm, 233, rfl⟩
abbrev main_v149 : Ref sig .tc := ⟨.hbm, 234, rfl⟩
abbrev main_v150 : Ref sig .tc := ⟨.hbm, 235, rfl⟩
abbrev main_v151 : Ref sig .tc := ⟨.hbm, 236, rfl⟩
abbrev main_cst_56 : Ref sig .tc := ⟨.hbm, 237, rfl⟩
abbrev main_v152 : Ref sig .tc := ⟨.hbm, 238, rfl⟩
abbrev main_v153 : Ref sig .tc := ⟨.hbm, 239, rfl⟩
abbrev main_v154 : Ref sig .tc := ⟨.hbm, 240, rfl⟩
abbrev main_cst_57 : Ref sig .tc := ⟨.hbm, 241, rfl⟩
abbrev main_v155 : Ref sig .tc := ⟨.hbm, 242, rfl⟩
abbrev main_v156 : Ref sig .tc := ⟨.hbm, 243, rfl⟩
abbrev main_cst_58 : Ref sig .tc := ⟨.hbm, 244, rfl⟩
abbrev main_v157 : Ref sig .tc := ⟨.hbm, 245, rfl⟩
abbrev main_v158 : Ref sig .tc := ⟨.hbm, 246, rfl⟩
abbrev main_v159 : Ref sig .tc := ⟨.hbm, 247, rfl⟩
abbrev main_cst_59 : Ref sig .tc := ⟨.hbm, 248, rfl⟩
abbrev main_v160 : Ref sig .tc := ⟨.hbm, 249, rfl⟩
abbrev main_v161 : Ref sig .tc := ⟨.hbm, 250, rfl⟩
abbrev main_v162 : Ref sig .tc := ⟨.hbm, 251, rfl⟩
abbrev main_cst_60 : Ref sig .tc := ⟨.hbm, 252, rfl⟩
abbrev main_v163 : Ref sig .tc := ⟨.hbm, 253, rfl⟩
abbrev main_v164 : Ref sig .tc := ⟨.hbm, 254, rfl⟩
abbrev main_v165 : Ref sig .tc := ⟨.hbm, 255, rfl⟩
abbrev main_cst_61 : Ref sig .tc := ⟨.hbm, 256, rfl⟩
abbrev main_v166 : Ref sig .tc := ⟨.hbm, 257, rfl⟩
abbrev main_v167 : Ref sig .tc := ⟨.hbm, 258, rfl⟩

abbrev nD : Nat := 1
abbrev τ : Topo := Topo.v7x

variable {F : FTy → Type} [FloatOps F]
-- ==== Proof.Run.lean ====
module
public import proofs.«01_k».proof.Proof.Gen.KernelIdeal.Frame
@[expose] public section
set_option maxRecDepth 16384
noncomputable section
namespace Cert.KernelIdeal.Att
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ
variable (m : (ℓ : Loc nD τ sig) → Buf (Elt F) ℓ) (ρ : Dev nD → PrngReg)

-- plain definitions in a metavariable's type
set_option backward.isDefEq.respectTransparency.types false in
/-- Every execution of the two calls and the host operations around them ends, and every buffer of a TensorCore then holds what
    the fold over the segments, `W4`, gives it. -/
theorem run : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => h)

end Cert.KernelIdeal.Att
end
end
-- ==== Proof.FwdBlock.lean ====
module
public import proofs.«01_k».proof.Proof.Gen.KernelIdeal.Frame
public import Idealize.ShloMosaic.Lib.Pipeline.Value

/-!
The forward call's body at one grid point as eight steps of the running softmax, written once as a recursion on the
number of key blocks taken: `fMax` the new row maxima, `fAcc` the new accumulator, `fSt` the state after `n` blocks.
-/

@[expose] public section

set_option maxRecDepth 16384

noncomputable section

namespace Cert.KernelIdeal.Att

open Cert.KernelIdeal Cert.KernelIdeal.Gen
open Idealize.ShloMosaic Idealize.ShloMosaic.TcCoe Idealize.ShloMosaic.Tactic Idealize.SL.Sem

variable {F : FTy → Type} [FloatOps F]

/-- The scores of a block of 2048 keys against the 1024 stacked query rows. -/
def fScore (q : FVec F S1024x128 .bf16) (b : Vec F S1x2048x128 .bf16) : FVec F S1024x2048 .f32 :=
  matmul dot_S1024x128_S2048x128_S1024x2048_1_1_0_0_n_n none q
    (shapeCast S2048x128 b shapeCasts_S1x2048x128_S2048x128 : FVec F S2048x128 .bf16)
    (constant S1024x2048 .f32 0x00000000#32)

/-- The row maxima after a block. -/
def fMax (q : FVec F S1024x128 .bf16) (m : FVec F S1024x1 .f32) (b : Vec F S1x2048x128 .bf16) : FVec F S1024x1 .f32 :=
  maximumf m (shapeCast S1024x1 (multiReduction .maximumf [1] S1024 (fScore q b) 0xFF800000#32
    reduces_S1024x2048_S1024 (.inl rfl) rfl : FVec F S1024 .f32) shapeCasts_S1024_S1024x1)

/-- The accumulator after a block: rescaled, plus the block's exponentials times ones and values. -/
def fAcc (q : FVec F S1024x128 .bf16) (m : FVec F S1024x1 .f32) (acc : FVec F S1024x128 .f32)
    (b : Vec F S1x2048x128 .bf16) : FVec F S1024x128 .f32 :=
  addf (mulf (broadcastTo S1024x128 (exp (subf m (fMax q m b))) broadcasts_S1024x1_S1024x128) acc)
    (matmul dot_S1024x2048_S2048x128_S1024x128_1_0_0_1_n_n none
      (truncf .bf16 (exp (subf (fScore q b) (broadcastTo S1024x2048 (fMax q m b) broadcasts_S1024x1_S1024x2048)))
        bitsLt_bf16_f32)
      (select k0_pay5 (broadcast S2048x128 (Scalar.ofBits .bf16 0x3F80#16))
        (shapeCast S2048x128 b shapeCasts_S1x2048x128_S2048x128 : FVec F S2048x128 .bf16))
      (constant S1024x128 .f32 0x00000000#32))

/-- The state (row maxima, accumulator) after the first `n` blocks of keys. -/
def fSt (q : FVec F S1024x128 .bf16) (blk : ℕ → Vec F S1x2048x128 .bf16) : ℕ → FVec F S1024x1 .f32 × FVec F S1024x128 .f32
  | 0 => (k0_pay7, k0_pay8)
  | n + 1 => (fMax q (fSt q blk n).1 (blk n), fAcc q (fSt q blk n).1 (fSt q blk n).2 (blk n))

theorem fblk_inb {n : ℕ} (h : n < 8) : ∀ a, (![0, 2048 * n, 0] : Fin 3 → ℕ) a + (![1, 2048, 128] : Fin 3 → ℕ) a ≤ S1x16384x128.size a := by
  intro a
  match a with
  | ⟨0, _⟩ => simp
  | ⟨1, _⟩ => simp; omega
  | ⟨2, _⟩ => simp

/-- Block `n` of the keys and values of a group. -/
def fblk (x : Vec F S1x16384x128 .bf16) (n : ℕ) : Vec F S1x2048x128 .bf16 :=
  if h : n < 8 then View.ld x (Rect.unit (s := S1x16384x128) ![0, 2048 * n, 0] ![1, 2048, 128] (fblk_inb h)) else fun _ => Scalar.ofBits .bf16 0#16

section payloads
variable (v6 : Vec F S256x256 .bf16) (q : FVec F S1024x128 .bf16) (m : FVec F S1024x1 .f32) (acc : FVec F S1024x128 .f32)
  (b b' : Vec F S1x2048x128 .bf16)

theorem pay11_eq : k0_pay11 v6 b = fMax (k0_pay6 v6) k0_pay7 b := rfl
theorem pay15_eq : k0_pay15 q m b = fMax q m b := rfl
theorem pay23_eq : k0_pay23 q m (k0_pay19 q b) b' = fMax q (fMax q m b) b' := rfl
theorem pay30_eq : k0_pay30 q m (k0_pay25 b) b' = fMax q (fMax q m b) b' := rfl
theorem pay37_eq : k0_pay37 q m b b' = fMax q (fMax q m b) b' := rfl
theorem pay16_eq : k0_pay16 k0_pay5 (k0_pay6 v6) k0_pay7 k0_pay8 (k0_pay9 b) (fMax (k0_pay6 v6) k0_pay7 b) (k0_pay12 v6 b) b'
    = fAcc (k0_pay6 v6) (fMax (k0_pay6 v6) k0_pay7 b) (fAcc (k0_pay6 v6) k0_pay7 k0_pay8 b) b' := rfl
theorem pay24_eq : k0_pay24 k0_pay5 q m acc (k0_pay17 b) (k0_pay18 q b) (k0_pay19 q b) b'
    = fAcc q (fMax q m b) (fAcc q m acc b) b' := rfl
theorem pay31_eq : k0_pay31 k0_pay5 q m acc (k0_pay25 b) b' = fAcc q (fMax q m b) (fAcc q m acc b) b' := rfl
theorem pay38_eq : k0_pay38 k0_pay5 q m acc b b' = fAcc q (fMax q m b) (fAcc q m acc b) b' := rfl
/-- The quotient of the accumulator by its lanes turned by 64. -/
def fQuot (acc : FVec F S1024x128 .f32) : FVec F S1024x128 .f32 :=
  divf acc (dynamicRotate 1 64#32 none acc rotates_S1024x128_d1)
theorem pay39_eq : k0_pay39 k0_pay5 q m acc b b' = fQuot (fAcc q (fMax q m b) (fAcc q m acc b) b') := rfl
end payloads

variable (c : Dev nD) (i : grid0.Coords) (arg2 : Memref sig .tc .vmem S256x256 .bf16) (harg2 : arg2.IsWhole)
  (arg3 : Memref sig .tc .vmem S1x16384x128 .bf16) (harg3 : arg3.IsWhole) (arg4 : Memref sig .tc .vmem S256x256 .f32)
  (harg4 : arg4.IsWhole) (arg5 : Memref sig .tc .vmem S4x256x1 .f32) (harg5 : arg5.IsWhole)
  (x0 : Vec F S256x256 .bf16) (x1 : Vec F S1x16384x128 .bf16)

/-- The output block of a grid point: the two lane chunks of the unstacked quotient. -/
theorem out0_2_eq : out0_A_2 c i arg2 harg2 arg3 harg3 arg4 harg4 arg5 harg5 x0 x1 =
    View.canon [⟨Rect.unit (s := S256x256) ![0, 128] ![256, 128] inb_S256x256_S256x128_0_128,
        k0_pay2 k0_pay4 (fQuot (fSt (k0_pay6 x0) (fblk x1) 8).2)⟩,
      ⟨Rect.unit (s := S256x256) ![0, 0] ![256, 128] inb_S256x256_S256x128_0_0,
        k0_pay1 k0_pay4 (fQuot (fSt (k0_pay6 x0) (fblk x1) 8).2)⟩] := by
  unfold out0_A_2
  rw [View.read_writes_eq_canon _ _ _ (cover0_A_2 c i arg2 harg2 arg3 harg3 arg4 harg4 arg5 harg5 x0 x1)]
  unfold kernelRun0_A
  dsimp only
  sl_unfold_words
  simp only [View.readAt_eq_ld, harg2.read_unread, harg3.read_unread, View.ld_unit_zero, shapeCast_self]
  have e : View.ld x0 (Rect.unit (s := S256x256) ![0, 0] ![256, 256] inb_S256x256_S256x256_0_0) = x0 := by
    exact View.ld_unit_zero (S := S256x256) (by funext a; fin_cases a <;> rfl) _ _
  rw [e]
  simp only [pay11_eq, pay15_eq, pay23_eq, pay30_eq, pay37_eq, pay16_eq, pay24_eq, pay31_eq, pay39_eq]
  rfl

/-- The logarithms of the row sums that a grid point leaves. -/
theorem out0_3_eq : out0_A_3 c i arg2 harg2 arg3 harg3 arg4 harg4 arg5 harg5 x0 x1 =
    k0_pay3 (fSt (k0_pay6 x0) (fblk x1) 8).1 (fSt (k0_pay6 x0) (fblk x1) 8).2 := by
  unfold out0_A_3
  rw [View.read_writes_eq_canon _ _ _ (cover0_A_3 c i arg2 harg2 arg3 harg3 arg4 harg4 arg5 harg5 x0 x1)]
  unfold kernelRun0_A
  dsimp only
  sl_unfold_words
  simp only [View.readAt_eq_ld, harg2.read_unread, harg3.read_unread, View.ld_unit_zero, shapeCast_self]
  have e : View.ld x0 (Rect.unit (s := S256x256) ![0, 0] ![256, 256] inb_S256x256_S256x256_0_0) = x0 := by
    exact View.ld_unit_zero (S := S256x256) (by funext a; fin_cases a <;> rfl) _ _
  rw [e]
  simp only [pay11_eq, pay15_eq, pay23_eq, pay30_eq, pay37_eq, pay16_eq, pay24_eq, pay31_eq, pay38_eq]
  refine (View.canon_unit_zero (S := S4x256x1) (by funext a; fin_cases a <;> rfl) _ _).trans ?_
  rfl

end Cert.KernelIdeal.Att
end
-- ==== Proof.FwdRead.lean ====
module
public import proofs.«01_k».proof.Proof.FwdBlock
public import Idealize.ShloMosaic.Lib.Pointwise

@[expose] public section

set_option maxRecDepth 16384

noncomputable section

namespace Cert.KernelIdeal.Att

open Cert.KernelIdeal Cert.KernelIdeal.Gen
open Idealize.ShloMosaic Idealize.ShloMosaic.TcCoe Idealize.ShloMosaic.Tactic Idealize.SL.Sem

/-- The literal of the running maximum's start is the least extended real. -/
theorem ofBits_neg_inf : Ideal.ofBits FTy.f32 0xFF800000#32 = ⊥ := by
  simp [Ideal.ofBits, Ideal.ieee]

/-- Two reads of a matrix agree when row and column agree as numbers. -/
theorem at2 {α : Type} {m n : ℕ} (x : Shape.Idx ⟨2, ![m, n]⟩ → α) {a a' : Fin m} {b b' : Fin n}
    (ha : a.val = a'.val) (hb : b.val = b'.val) : x (ix2 a b) = x (ix2 a' b') := by
  rw [Fin.ext ha, Fin.ext hb]

/-- The word comparing a lane with the middle lane is one exactly on the lower half. -/
theorem low_lane (c : Fin 128) :
    IntOp.cmpi CmpIPredicate.slt (BitVec.ofNat 32 c.val) 64#32 = if c.val < 64 then 1#1 else 0#1 := by
  revert c; decide

/-- A selection by the lane mask is a case split on the lane. -/
theorem select_low (c : Fin 128) {α : Type} (x y : α) :
    Scalar.select (IntOp.cmpi CmpIPredicate.slt (BitVec.ofNat 32 c.val) 64#32) x y = if c.val < 64 then x else y := by
  rw [low_lane]
  by_cases h : c.val < 64
  · simp [Scalar.select, h]
  · simp [Scalar.select, h]

theorem fScore_apply (q : FVec Ideal S1024x128 .bf16) (b : Vec Ideal S1x2048x128 .bf16) (R : Fin 1024) (t : Fin 2048) :
    fScore q b (ix2 R t) = ∑ d : Fin 128, q (ix2 R d) * b (ix3 0 t d) := by
  pointwise [fScore]

/-- The maximum of real numbers over a finite set, from −∞, is real unless the set is empty. -/
theorem fold_max_real {ι : Type} (f : ι → EReal) (hf : ∀ i, ∃ r : ℝ, f i = r) (s : Finset ι) :
    (s = ∅ ∧ s.fold max (⊥ : EReal) f = ⊥) ∨ ∃ r : ℝ, s.fold max (⊥ : EReal) f = r := by
  classical
  induction s using Finset.induction_on with
  | empty => exact .inl ⟨rfl, rfl⟩
  | insert a s ha ih =>
    right
    obtain ⟨r, hr⟩ := hf a
    rw [Finset.fold_insert ha, hr]
    rcases ih with ⟨_, h⟩ | ⟨r', h⟩
    · exact ⟨r, by rw [h]; simp⟩
    · exact ⟨max r r', by rw [h]; exact (EReal.coe_strictMono.monotone.map_max).symm⟩

/-- The row maxima of a score block. -/
def rowMax (v : FVec Ideal S1024x2048 .f32) : FVec Ideal S1024 .f32 :=
  multiReduction .maximumf [1] S1024 v 0xFF800000#32 reduces_S1024x2048_S1024 (.inl rfl) rfl

/-- Row maxima of real scores are real. -/
theorem rowMax_real (v : FVec Ideal S1024x2048 .f32) (hv : ∀ y, ∃ r : ℝ, v y = (r : EReal)) (z : S1024.Idx) :
    ∃ r : ℝ, rowMax v z = (r : EReal) := by
  have e : rowMax v z = Finset.univ.fold max (FloatOps.ofBits (F := Ideal) .f32 0xFF800000#32) (v ∘ reduces_S1024x2048_S1024.lift z) :=
    Ideal.multiReduction_maximumf_single v _ reduces_S1024x2048_S1024 _ _ z
  rw [e, Ideal.ofBits_def, ofBits_neg_inf]
  rcases fold_max_real (v ∘ reduces_S1024x2048_S1024.lift z) (fun k => hv _) Finset.univ with ⟨h, _⟩ | ⟨r, h⟩
  · exact absurd h (Finset.univ_nonempty (α := Fin 2048)).ne_empty
  · exact ⟨r, h⟩

theorem max_shape_apply (m : FVec Ideal S1024x1 .f32) (v : FVec Ideal S1024 .f32) (y : S1024x1.Idx) :
    maximumf m (shapeCast S1024x1 v shapeCasts_S1024_S1024x1) y = max (m y) (v (Shape.reshapeEquiv shapeCasts_S1024_S1024x1 y)) := rfl

theorem fMax_eq (q : FVec Ideal S1024x128 .bf16) (m : FVec Ideal S1024x1 .f32) (b : Vec Ideal S1x2048x128 .bf16) :
    fMax q m b = maximumf m (shapeCast S1024x1 (rowMax (fScore q b)) shapeCasts_S1024_S1024x1) := rfl

/-- Where the scores are real and the running maximum is real or −∞, the next running maximum is real. -/
theorem fMax_real (q : FVec Ideal S1024x128 .bf16) (m : FVec Ideal S1024x1 .f32) (b : Vec Ideal S1x2048x128 .bf16)
    (hs : ∀ y, ∃ r : ℝ, fScore q b y = (r : EReal)) (y : S1024x1.Idx)
    (hm : m y = (⊥ : EReal) ∨ ∃ r : ℝ, m y = (r : EReal)) : ∃ r : ℝ, fMax q m b y = (r : EReal) := by
  obtain ⟨r, hr⟩ := rowMax_real _ hs (Shape.reshapeEquiv shapeCasts_S1024_S1024x1 y)
  rw [fMax_eq, max_shape_apply, hr]
  rcases hm with h | ⟨r', h⟩
  · exact ⟨r, by rw [h]; simp⟩
  · exact ⟨max r' r, by rw [h]; exact (EReal.coe_strictMono.monotone.map_max).symm⟩

theorem fAcc_apply (q : FVec Ideal S1024x128 .bf16) (m : FVec Ideal S1024x1 .f32) (acc : FVec Ideal S1024x128 .f32)
    (b : Vec Ideal S1x2048x128 .bf16) (R : Fin 1024) (c : Fin 128) :
    fAcc q m acc b (ix2 R c) = Ideal.exp (m (ix2 R 0) - fMax q m b (ix2 R 0)) * acc (ix2 R c)
      + ∑ t : Fin 2048, Ideal.exp (fScore q b (ix2 R t) - fMax q m b (ix2 R 0)) * (if c.val < 64 then 1 else b (ix3 0 t c)) := by
  unfold fAcc
  generalize fScore q b = s
  generalize fMax q m b = mm
  pointwise [k0_pay5]
  simp only [select_low]

theorem pay6_apply (x : Vec Ideal S256x256 .bf16) (R : Fin 1024) (d : Fin 128) :
    k0_pay6 x (ix2 R d) = if h : d.val < 64 then x (ix2 ⟨R.val % 256, by omega⟩ ⟨64 * (R.val / 256) + d.val, by omega⟩) else 0 := by
  pointwise [k0_pay6, k0_pay4]
  simp only [select_low]
  have hR := R.isLt
  by_cases hd : d.val < 64
  · simp only [hd, if_true, dif_pos]
    split_ifs <;> exact at2 x (by dsimp only; omega) (by dsimp only; omega)
  · simp only [hd, if_false, dif_neg, not_false_eq_true]
    split_ifs <;> rfl

theorem pay1_apply (v : FVec Ideal S1024x128 .f32) (r : Fin 256) (c : Fin 128) :
    k0_pay1 k0_pay4 v (ix2 r c) = if h : c.val < 64 then v (ix2 ⟨r.val, by omega⟩ ⟨64 + c.val, by omega⟩) else v (ix2 ⟨256 + r.val, by omega⟩ c) := by
  pointwise [k0_pay1, k0_pay4]
  simp only [select_low]
  have hr := r.isLt
  by_cases hc : c.val < 64
  · simp only [hc, if_true, dif_pos]
    exact at2 v (by dsimp only) (by dsimp only; omega)
  · simp only [hc, if_false, dif_neg, not_false_eq_true]

theorem pay2_apply (v : FVec Ideal S1024x128 .f32) (r : Fin 256) (c : Fin 128) :
    k0_pay2 k0_pay4 v (ix2 r c) = if h : c.val < 64 then v (ix2 ⟨512 + r.val, by omega⟩ ⟨64 + c.val, by omega⟩) else v (ix2 ⟨768 + r.val, by omega⟩ c) := by
  pointwise [k0_pay2, k0_pay4]
  simp only [select_low]
  have hr := r.isLt
  by_cases hc : c.val < 64
  · simp only [hc, if_true, dif_pos]
    exact at2 v (by dsimp only) (by dsimp only; omega)
  · simp only [hc, if_false, dif_neg, not_false_eq_true]

theorem pay3_apply (m : FVec Ideal S1024x1 .f32) (acc : FVec Ideal S1024x128 .f32) (hh : Fin 4) (r : Fin 256) :
    k0_pay3 m acc (ix3 hh r 0) = m (ix2 ⟨256 * hh.val + r.val, by omega⟩ 0) + Ideal.log (acc (ix2 ⟨256 * hh.val + r.val, by omega⟩ 0)) := by
  pointwise [k0_pay3]
  have e : hh.val * 256 + r.val = 256 * hh.val + r.val := by omega
  simp only [e]

theorem fQuot_apply (acc : FVec Ideal S1024x128 .f32) (R : Fin 1024) (c : Fin 128) :
    fQuot acc (ix2 R c) = Ideal.div (acc (ix2 R c)) (acc (ix2 R ⟨(c.val + 64) % 128, by omega⟩)) := by
  pointwise [fQuot]
  have e : (c.val + 128 - 64) % 128 = (c.val + 64) % 128 := by omega
  simp only [e]

theorem fblk_apply (x : Vec Ideal S1x16384x128 .bf16) (n : ℕ) (h : n < 8) (t : Fin 2048) (d : Fin 128) :
    fblk x n (ix3 0 t d) = x (ix3 0 ⟨2048 * n + t.val, by omega⟩ d) := by
  unfold fblk
  rw [dif_pos h]
  pointwise

end Cert.KernelIdeal.Att
end
-- ==== Proof.BwdRead.lean ====
module
public import proofs.«01_k».proof.Proof.FwdRead

@[expose] public section

set_option maxRecDepth 16384

noncomputable section

namespace Cert.KernelIdeal.Att

open Cert.KernelIdeal Cert.KernelIdeal.Gen
open Idealize.ShloMosaic Idealize.ShloMosaic.TcCoe Idealize.ShloMosaic.Tactic Idealize.SL.Sem

section blocks
variable (q d0 : FVec Ideal S2048x128 .bf16) (l dl : FVec Ideal S2048x1 .f32) (b : Vec Ideal S1x512x128 .bf16)

/-- The probabilities of a block of keys: the exponentials of the scores less the rows' logarithms of sums. -/
theorem bpay10_apply (R : Fin 2048) (t : Fin 512) :
    k1_pay10 q l b (ix2 R t) = Ideal.exp ((∑ d : Fin 128, q (ix2 R d) * b (ix3 0 t d)) - l (ix2 R 0)) := by
  pointwise [k1_pay10, k1_pay9]

/-- The scores' gradient of a block of keys. -/
theorem bpay11_apply (R : Fin 2048) (t : Fin 512) :
    k1_pay11 q d0 l dl b (ix2 R t)
      = k1_pay10 q l b (ix2 R t) * ((∑ d : Fin 128, d0 (ix2 R d) * b (ix3 0 t d)) - dl (ix2 R 0)) := by
  unfold k1_pay11
  generalize k1_pay10 q l b = p
  pointwise [k1_pay9]

/-- What a block adds to its span of the keys' and values' gradient. -/
theorem bpay12_apply (old : Vec Ideal S1x128x512 .f32) (c : Fin 128) (t : Fin 512) :
    k1_pay12 q d0 l dl (k1_pay3 q) (k1_pay4 d0) b old (ix3 0 c t)
      = old (ix3 0 c t) + ((∑ R : Fin 2048, q (ix2 R c) * k1_pay11 q d0 l dl b (ix2 R t))
          + ∑ R : Fin 2048, d0 (ix2 R c) * k1_pay10 q l b (ix2 R t)) := by
  unfold k1_pay12
  generalize k1_pay10 q l b = p
  generalize k1_pay11 q d0 l dl b = ds
  pointwise [k1_pay3, k1_pay4]

/-- What a block adds to the queries' gradient. -/
theorem bpay13_apply (acc : FVec Ideal S2048x128 .f32) (R : Fin 2048) (c : Fin 128) :
    k1_pay13 q d0 l dl acc b (ix2 R c)
      = acc (ix2 R c) + ∑ t : Fin 512, k1_pay11 q d0 l dl b (ix2 R t) * b (ix3 0 t c) := by
  unfold k1_pay13
  generalize k1_pay11 q d0 l dl b = ds
  pointwise [k1_pay9]

end blocks

theorem bpay1_apply (v : Vec Ideal S4x512x1 .f32) (R : Fin 2048) :
    k1_pay1 v (ix2 R 0) = v (ix3 ⟨R.val / 512, by omega⟩ ⟨R.val % 512, by omega⟩ 0) := by
  pointwise [k1_pay1]

theorem bpay2_apply (v : Vec Ideal S4x512x1 .f32) (R : Fin 2048) :
    k1_pay2 v (ix2 R 0) = v (ix3 ⟨R.val / 512, by omega⟩ ⟨R.val % 512, by omega⟩ 0) := by
  pointwise [k1_pay2]

theorem bpay55_apply (x : Vec Ideal S512x256 .bf16) (R : Fin 2048) (d : Fin 128) :
    k1_pay55 x (ix2 R d) = if h : d.val < 64 then x (ix2 ⟨R.val % 512, by omega⟩ ⟨64 * (R.val / 512) + d.val, by omega⟩) else 0 := by
  pointwise [k1_pay55, k1_pay54]
  simp only [select_low]
  have hR := R.isLt
  by_cases hd : d.val < 64
  · simp only [hd, if_true, dif_pos]
    split_ifs <;> exact at2 x (by dsimp only; omega) (by dsimp only; omega)
  · simp only [hd, if_false, dif_neg, not_false_eq_true]
    split_ifs <;> rfl

theorem bpay56_apply (x : Vec Ideal S512x256 .f32) (R : Fin 2048) (d : Fin 128) :
    k1_pay56 x (ix2 R d) = if h : d.val < 64 then 0 else x (ix2 ⟨R.val % 512, by omega⟩ ⟨64 * (R.val / 512) + (d.val - 64), by omega⟩) := by
  pointwise [k1_pay56, k1_pay54]
  simp only [select_low]
  have hR := R.isLt
  by_cases hd : d.val < 64
  · simp only [hd, if_true, dif_pos]
    split_ifs <;> rfl
  · simp only [hd, if_false, dif_neg, not_false_eq_true]
    split_ifs <;> exact at2 x (by dsimp only; omega) (by dsimp only; omega)

theorem bpay7_apply (v : FVec Ideal S2048x128 .f32) (r : Fin 512) (c : Fin 128) :
    k1_pay7 k1_pay54 v (ix2 r c) = if h : c.val < 64 then v (ix2 ⟨r.val, by omega⟩ c) else v (ix2 ⟨512 + r.val, by omega⟩ ⟨c.val - 64, by omega⟩) := by
  pointwise [k1_pay7, k1_pay54]
  simp only [select_low]
  have hr := r.isLt
  by_cases hc : c.val < 64
  · simp only [hc, if_true, dif_pos]
  · simp only [hc, if_false, dif_neg, not_false_eq_true]
    exact at2 v (by dsimp only) (by dsimp only; omega)

theorem bpay8_apply (v : FVec Ideal S2048x128 .f32) (r : Fin 512) (c : Fin 128) :
    k1_pay8 k1_pay54 v (ix2 r c) = if h : c.val < 64 then v (ix2 ⟨1024 + r.val, by omega⟩ c) else v (ix2 ⟨1536 + r.val, by omega⟩ ⟨c.val - 64, by omega⟩) := by
  pointwise [k1_pay8, k1_pay54]
  simp only [select_low]
  have hr := r.isLt
  by_cases hc : c.val < 64
  · simp only [hc, if_true, dif_pos]
  · simp only [hc, if_false, dif_neg, not_false_eq_true]
    exact at2 v (by dsimp only) (by dsimp only; omega)

end Cert.KernelIdeal.Att
end
-- ==== Proof.Sums.lean ====
module
public import Idealize.ShloMosaic.Lib.Pointwise

@[expose] public section

noncomputable section

namespace Cert.KernelIdeal.Att

/-- A finite sum of real numbers, read in the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum over `n` blocks of `m` entries each is the sum over all `m * n` entries. -/
theorem sum_blocks {M : Type*} [AddCommMonoid M] (m n : ℕ) (f : ℕ → M) :
    ∑ j ∈ Finset.range n, ∑ t ∈ Finset.range m, f (m * j + t) = ∑ s ∈ Finset.range (m * n), f s := by
  induction n with
  | zero => simp
  | succ n ih => rw [Finset.sum_range_succ, ih, Nat.mul_succ, Finset.sum_range_add]

end Cert.KernelIdeal.Att
end
-- ==== Proof.BwdTrip.lean ====
module
public import proofs.«01_k».proof.Proof.BwdRead
public import proofs.«01_k».proof.Proof.Sums
public import Idealize.ShloMosaic.Lib.WritesUnit
public import Idealize.ShloMosaic.Lib.Pipeline.ValueKit.Tiles

@[expose] public section

set_option maxRecDepth 16384

noncomputable section

namespace Cert.KernelIdeal.Att

open Cert.KernelIdeal Cert.KernelIdeal.Gen
open Idealize.ShloMosaic Idealize.ShloMosaic.TcCoe Idealize.ShloMosaic.Tactic Idealize.SL.Sem

section contr
variable (q d0 : FVec Ideal S2048x128 .bf16) (l dl : FVec Ideal S2048x1 .f32) (x : Vec Ideal S1x16384x128 .bf16)

/-- The probability of key `s` at stacked row `R`. -/
def bp (R : Fin 2048) (s : Fin 16384) : EReal :=
  Ideal.exp ((∑ d : Fin 128, q (ix2 R d) * x (ix3 0 s d)) - l (ix2 R 0))

/-- The gradient of the score of key `s` at stacked row `R`. -/
def bds (R : Fin 2048) (s : Fin 16384) : EReal :=
  bp q l x R s * ((∑ d : Fin 128, d0 (ix2 R d) * x (ix3 0 s d)) - dl (ix2 R 0))

/-- What a grid point adds to the keys' and values' gradient at lane `c` of key `s`. -/
def bcontr (c : Fin 128) (s : Fin 16384) : EReal :=
  (∑ R : Fin 2048, q (ix2 R c) * bds q d0 l dl x R s) + ∑ R : Fin 2048, d0 (ix2 R c) * bp q l x R s

variable (b : Vec Ideal S1x512x128 .bf16) (n : ℕ) (hn : n < 32)
  (hb : ∀ (t : Fin 512) (d : Fin 128), b (ix3 0 t d) = x (ix3 0 ⟨512 * n + t.val, by omega⟩ d))
include hb

theorem bpay10_block (R : Fin 2048) (t : Fin 512) : k1_pay10 q l b (ix2 R t) = bp q l x R ⟨512 * n + t.val, by omega⟩ := by
  rw [bpay10_apply]; unfold bp
  simp only [hb]

theorem bpay11_block (R : Fin 2048) (t : Fin 512) :
    k1_pay11 q d0 l dl b (ix2 R t) = bds q d0 l dl x R ⟨512 * n + t.val, by omega⟩ := by
  rw [bpay11_apply, bpay10_block q l x b n hn hb]; unfold bds
  simp only [hb]

theorem bpay12_block (old : Vec Ideal S1x128x512 .f32) (c : Fin 128) (t : Fin 512) :
    k1_pay12 q d0 l dl (k1_pay3 q) (k1_pay4 d0) b old (ix3 0 c t)
      = old (ix3 0 c t) + bcontr q d0 l dl x c ⟨512 * n + t.val, by omega⟩ := by
  rw [bpay12_apply]; unfold bcontr
  simp only [bpay10_block q l x b n hn hb, bpay11_block q d0 l dl x b n hn hb]

theorem bpay13_block (acc : FVec Ideal S2048x128 .f32) (R : Fin 2048) (c : Fin 128) :
    k1_pay13 q d0 l dl acc b (ix2 R c) = acc (ix2 R c)
      + ∑ t : Fin 512, bds q d0 l dl x R ⟨512 * n + t.val, by omega⟩ * x (ix3 0 ⟨512 * n + t.val, by omega⟩ c) := by
  rw [bpay13_apply]
  simp only [bpay11_block q d0 l dl x b n hn hb, hb]

end contr

/-- A block of keys loaded at its offsets reads the keys from there on. -/
theorem kload_apply (arg4 : Memref sig .tc .vmem S1x16384x128 .bf16) (X : BufTy.Contents (Elt Ideal) arg4.view.ty)
    {off : Fin 3 → ℕ} (inb : ∀ a, off a + (![1, 512, 128] : Fin 3 → ℕ) a ≤ S1x16384x128.size a) (n : ℕ) (hn : n < 32)
    (hoff : off = ![0, 512 * n, 0]) (t : Fin 512) (d : Fin 128) :
    (View.readAt (Elt Ideal) arg4.view (Rect.unit (s := S1x16384x128) off ![1, 512, 128] inb).toLoadRect X : Vec Ideal S1x512x128 .bf16) (ix3 0 t d)
      = (arg4.view.read (Elt Ideal) X : Vec Ideal S1x16384x128 .bf16) (ix3 0 ⟨512 * n + t.val, by omega⟩ d) := by
  subst hoff
  rw [View.readAt_eq_ld]
  refine congrArg (arg4.view.read (Elt Ideal) X : Vec Ideal S1x16384x128 .bf16) (funext fun a => Fin.ext ?_)
  match a with
  | ⟨0, _⟩ => rfl
  | ⟨1, _⟩ => exact congrArg (512 * n + ·) (Nat.one_mul t.val)
  | ⟨2, _⟩ => exact (Nat.zero_add _).trans (Nat.one_mul d.val)

/-- A span of the gradient loaded at its offsets reads the keys from there on. -/
theorem dload_apply (arg8 : Memref sig .tc .vmem S1x128x16384 .f32) (f : BufTy.Contents (Elt Ideal) arg8.view.ty)
    {off : Fin 3 → ℕ} (inb : ∀ a, off a + (![1, 128, 512] : Fin 3 → ℕ) a ≤ S1x128x16384.size a) (n : ℕ) (hn : n < 32)
    (hoff : off = ![0, 0, 512 * n]) (c : Fin 128) (t : Fin 512) :
    (View.readAt (Elt Ideal) arg8.view (Rect.unit (s := S1x128x16384) off ![1, 128, 512] inb).toLoadRect f : Vec Ideal S1x128x512 .f32) (ix3 0 c t)
      = (arg8.view.read (Elt Ideal) f : Vec Ideal S1x128x16384 .f32) (ix3 0 c ⟨512 * n + t.val, by omega⟩) := by
  subst hoff
  rw [View.readAt_eq_ld]
  refine congrArg (arg8.view.read (Elt Ideal) f : Vec Ideal S1x128x16384 .f32) (funext fun a => Fin.ext ?_)
  match a with
  | ⟨0, _⟩ => rfl
  | ⟨1, _⟩ => exact (Nat.zero_add _).trans (Nat.one_mul c.val)
  | ⟨2, _⟩ => exact congrArg (512 * n + ·) (Nat.one_mul t.val)

section step
variable (q d0 : FVec Ideal S2048x128 .bf16) (l dl : FVec Ideal S2048x1 .f32) (x : Vec Ideal S1x16384x128 .bf16)
  (arg8 : Memref sig .tc .vmem S1x128x16384 .f32) (f : BufTy.Contents (Elt Ideal) arg8.view.ty)

/-- The contents `g` are `f`'s with the contribution added to the keys of the blocks from `n0` to before `n`. -/
def Added (n0 n : ℕ) (g : BufTy.Contents (Elt Ideal) arg8.view.ty) : Prop :=
  ∀ (c : Fin 128) (s : Fin 16384), (arg8.view.read (Elt Ideal) g : Vec Ideal S1x128x16384 .f32) (ix3 0 c s)
    = if 512 * n0 ≤ s.val ∧ s.val < 512 * n
      then (arg8.view.read (Elt Ideal) f : Vec Ideal S1x128x16384 .f32) (ix3 0 c s) + bcontr q d0 l dl x c s
      else (arg8.view.read (Elt Ideal) f : Vec Ideal S1x128x16384 .f32) (ix3 0 c s)

theorem added_zero (n0 : ℕ) : Added q d0 l dl x arg8 f n0 n0 f := by
  intro c s
  rw [if_neg (by omega)]

/-- One block: its span receives the contribution. -/
theorem added_step (n0 n : ℕ) (hn0 : n0 ≤ n) (hn : n < 32) (L : List (View.Piece (Elt Ideal) S1x128x16384 .f32))
    (h : Added q d0 l dl x arg8 f n0 n (arg8.view.writes (Elt Ideal) f L))
    (b : Vec Ideal S1x512x128 .bf16)
    (hb : ∀ (t : Fin 512) (d : Fin 128), b (ix3 0 t d) = x (ix3 0 ⟨512 * n + t.val, by omega⟩ d))
    {off : Fin 3 → ℕ} (inb : ∀ a, off a + (![1, 128, 512] : Fin 3 → ℕ) a ≤ S1x128x16384.size a) (hoff : off = ![0, 0, 512 * n])
    (w : Vec Ideal S1x128x512 .f32)
    (hw : w = k1_pay12 q d0 l dl (k1_pay3 q) (k1_pay4 d0) b
      (View.readAt (Elt Ideal) arg8.view (Rect.unit (s := S1x128x16384) off ![1, 128, 512] inb).toLoadRect f)) :
    Added q d0 l dl x arg8 f n0 (n + 1)
      (arg8.view.writes (Elt Ideal) f ((⟨Rect.unit (s := S1x128x16384) off ![1, 128, 512] inb, w⟩ : View.Piece (Elt Ideal) S1x128x16384 .f32) :: L)) := by
  subst hoff
  have hlt : ∀ t : Fin 512, 512 * n + t.val < 16384 := fun t => by omega
  intro c s
  by_cases hm : 512 * n ≤ s.val ∧ s.val < 512 * n + 512
  · rw [if_pos ⟨by omega, by omega⟩]
    obtain ⟨t, rfl⟩ : ∃ t : Fin 512, s = ⟨512 * n + t.val, hlt t⟩ :=
      ⟨⟨s.val - 512 * n, by omega⟩, Fin.ext (by show s.val = 512 * n + (s.val - 512 * n); omega)⟩
    refine (View.read_writes_cons_unit_of_mem arg8.view f inb w L (ix3 0 c _) (ix3 0 c t) rfl (by
      intro a
      match a with
      | ⟨0, _⟩ => rfl
      | ⟨1, _⟩ => exact (Nat.zero_add c.val).symm
      | ⟨2, _⟩ => rfl)).trans ?_
    rw [hw]
    refine (bpay12_block q d0 l dl x b n hn hb _ c t).trans ?_
    exact congrArg (· + bcontr q d0 l dl x c ⟨512 * n + t.val, by omega⟩) (dload_apply arg8 f inb n hn rfl c t)
  · rw [View.read_writes_cons_unit_of_not_mem arg8.view f inb w L (ix3 0 c s) rfl 2 (by
      show s.val < 512 * n ∨ 512 * n + 512 ≤ s.val; omega), h c s]
    by_cases hp : 512 * n0 ≤ s.val ∧ s.val < 512 * n
    · rw [if_pos hp, if_pos ⟨hp.1, by omega⟩]
    · rw [if_neg hp, if_neg (by omega)]

end step

section trip
variable (c : Dev nD) (bd : Option Variants.none.V) (i : grid1.Coords) (arg2 : Memref sig .tc .vmem S512x256 .bf16)
  (harg2 : arg2.IsWhole) (arg3 : Memref sig .tc .vmem S512x256 .f32) (harg3 : arg3.IsWhole)
  (arg4 : Memref sig .tc .vmem S1x16384x128 .bf16) (harg4 : arg4.IsWhole) (arg5 : Memref sig .tc .vmem S4x512x1 .f32)
  (harg5 : arg5.IsWhole) (arg6 : Memref sig .tc .vmem S4x512x1 .f32) (harg6 : arg6.IsWhole)
  (arg7 : Memref sig .tc .vmem S512x256 .f32) (harg7 : arg7.IsWhole) (arg8 : Memref sig .tc .vmem S1x128x16384 .f32)
  (harg8 : arg8.IsWhole) (v22 v37 : FVec Ideal S2048x128 .bf16) (v38 v41 : Vec Ideal S4x512x1 .f32)
  (X : BufTy.Contents (Elt Ideal) arg4.view.ty)

/-- One trip: its eight blocks' spans each receive their contribution. -/
theorem trip_added (k : Fin k1_t1_loop.trips) (acc : FVec Ideal S2048x128 .f32) (f : BufTy.Contents (Elt Ideal) arg8.view.ty) :
    Added v22 v37 (k1_pay1 v38) (k1_pay2 v41) (arg4.view.read (Elt Ideal) X) arg8 f (8 * k.val) (8 * k.val + 8)
      (arg8.view.writes (Elt Ideal) f (tripL_k1_t1 Variants.none c bd i arg2 harg2 arg3 harg3 arg4 harg4 arg5 harg5 arg6 harg6 arg7 harg7 arg8 harg8
        v22 v37 v38 v41 X k acc f)) := by
  have hk : k.val < 4 := Nat.lt_of_lt_of_le k.isLt k1_t1_abs.2.1
  have o1 : ∀ r : Fin 8, k1_off1 k (BitVec.ofNat 32 r.val) = ![0, 512 * (8 * k.val + r.val), 0] := fun r => by
    rw [k1_off1_eq]; congr 2; omega
  have o2 : ∀ r : Fin 8, k1_off2 k (BitVec.ofNat 32 r.val) = ![0, 0, 512 * (8 * k.val + r.val)] := fun r => by
    rw [k1_off2_eq]; congr 3; omega
  unfold tripL_k1_t1 trip_k1_t1
  dsimp only
  refine added_step _ _ _ _ _ _ _ _ (8 * k.val + 7) (by omega) (by omega) _ ?_ _
    (kload_apply arg4 X (k1_off1_inb k 7) (8 * k.val + 7) (by omega) (o1 7)) (k1_off2_inb k 7) (o2 7) _ rfl
  refine added_step _ _ _ _ _ _ _ _ (8 * k.val + 6) (by omega) (by omega) _ ?_ _
    (kload_apply arg4 X (k1_off1_inb k 6) (8 * k.val + 6) (by omega) (o1 6)) (k1_off2_inb k 6) (o2 6) _ rfl
  refine added_step _ _ _ _ _ _ _ _ (8 * k.val + 5) (by omega) (by omega) _ ?_ _
    (kload_apply arg4 X (k1_off1_inb k 5) (8 * k.val + 5) (by omega) (o1 5)) (k1_off2_inb k 5) (o2 5) _ rfl
  refine added_step _ _ _ _ _ _ _ _ (8 * k.val + 4) (by omega) (by omega) _ ?_ _
    (kload_apply arg4 X (k1_off1_inb k 4) (8 * k.val + 4) (by omega) (o1 4)) (k1_off2_inb k 4) (o2 4) _ rfl
  refine added_step _ _ _ _ _ _ _ _ (8 * k.val + 3) (by omega) (by omega) _ ?_ _
    (kload_apply arg4 X (k1_off1_inb k 3) (8 * k.val + 3) (by omega) (o1 3)) (k1_off2_inb k 3) (o2 3) _ rfl
  refine added_step _ _ _ _ _ _ _ _ (8 * k.val + 2) (by omega) (by omega) _ ?_ _
    (kload_apply arg4 X (k1_off1_inb k 2) (8 * k.val + 2) (by omega) (o1 2)) (k1_off2_inb k 2) (o2 2) _ rfl
  refine added_step _ _ _ _ _ _ _ _ (8 * k.val + 1) (by omega) (by omega) _ ?_ _
    (kload_apply arg4 X (k1_off1_inb k 1) (8 * k.val + 1) (by omega) (o1 1)) (k1_off2_inb k 1) (o2 1) _ rfl
  refine added_step _ _ _ _ _ _ _ _ (8 * k.val) (by omega) (by omega) _ ?_ _
    (kload_apply arg4 X (k1_off1_inb k 0) (8 * k.val) (by omega) (o1 0)) (k1_off2_inb k 0) (o2 0) _ rfl
  exact added_zero _ _ _ _ _ _ _ _

/-- The product of the scores' gradient with the keys over the blocks from `n0` on, `m` of them. -/
def bdq (q d0 : FVec Ideal S2048x128 .bf16) (l dl : FVec Ideal S2048x1 .f32) (x : Vec Ideal S1x16384x128 .bf16)
    (n : ℕ) (R : Fin 2048) (c : Fin 128) : EReal :=
  ∑ t : Fin 512, if h : 512 * n + t.val < 16384 then bds q d0 l dl x R ⟨512 * n + t.val, h⟩ * x (ix3 0 ⟨512 * n + t.val, h⟩ c) else 0

theorem bpay13_at (q d0 : FVec Ideal S2048x128 .bf16) (l dl : FVec Ideal S2048x1 .f32) (x : Vec Ideal S1x16384x128 .bf16)
    (b : Vec Ideal S1x512x128 .bf16) (n : ℕ) (hn : n < 32)
    (hb : ∀ (t : Fin 512) (d : Fin 128), b (ix3 0 t d) = x (ix3 0 ⟨512 * n + t.val, by omega⟩ d))
    (acc : FVec Ideal S2048x128 .f32) (R : Fin 2048) (c : Fin 128) :
    k1_pay13 q d0 l dl acc b (ix2 R c) = acc (ix2 R c) + bdq q d0 l dl x n R c := by
  rw [bpay13_block q d0 l dl x b n hn hb]
  unfold bdq
  congr 1
  refine Finset.sum_congr rfl fun t _ => ?_
  rw [dif_pos (by omega)]

/-- One trip: the queries' gradient receives its eight blocks' products. -/
theorem trip_dq (k : Fin k1_t1_loop.trips) (acc : FVec Ideal S2048x128 .f32) (f : BufTy.Contents (Elt Ideal) arg8.view.ty)
    (R : Fin 2048) (c' : Fin 128) :
    tripR_k1_t1 Variants.none c bd i arg2 harg2 arg3 harg3 arg4 harg4 arg5 harg5 arg6 harg6 arg7 harg7 arg8 harg8
        v22 v37 v38 v41 X k acc f (ix2 R c')
      = acc (ix2 R c') + ∑ r ∈ Finset.range 8, bdq v22 v37 (k1_pay1 v38) (k1_pay2 v41) (arg4.view.read (Elt Ideal) X) (8 * k.val + r) R c' := by
  have hk : k.val < 4 := Nat.lt_of_lt_of_le k.isLt k1_t1_abs.2.1
  have o1 : ∀ r : Fin 8, k1_off1 k (BitVec.ofNat 32 r.val) = ![0, 512 * (8 * k.val + r.val), 0] := fun r => by
    rw [k1_off1_eq]; congr 2; omega
  let kb (r : Fin 8) : Vec Ideal S1x512x128 .bf16 :=
    View.readAt (Elt Ideal) arg4.view (Rect.unit (s := S1x16384x128) (k1_off1 k (BitVec.ofNat 32 r.val)) ![1, 512, 128] (k1_off1_inb k r)).toLoadRect X
  let st (a : FVec Ideal S2048x128 .f32) (r : Fin 8) : FVec Ideal S2048x128 .f32 :=
    k1_pay13 v22 v37 (k1_pay1 v38) (k1_pay2 v41) a (kb r)
  have e : tripR_k1_t1 Variants.none c bd i arg2 harg2 arg3 harg3 arg4 harg4 arg5 harg5 arg6 harg6 arg7 harg7 arg8 harg8
        v22 v37 v38 v41 X k acc f = st (st (st (st (st (st (st (st acc 0) 1) 2) 3) 4) 5) 6) 7 := by
    unfold tripR_k1_t1 trip_k1_t1
    rfl
  have hst : ∀ (a : FVec Ideal S2048x128 .f32) (r : Fin 8), st a r (ix2 R c')
      = a (ix2 R c') + bdq v22 v37 (k1_pay1 v38) (k1_pay2 v41) (arg4.view.read (Elt Ideal) X) (8 * k.val + r.val) R c' := fun a r =>
    bpay13_at _ _ _ _ _ (kb r) (8 * k.val + r.val) (by omega) (kload_apply arg4 X (k1_off1_inb k r) _ (by omega) (o1 r)) a R c'
  rw [e]
  simp only [hst, Finset.sum_range_succ, Finset.sum_range_zero, zero_add, add_assoc]
  rfl

end trip

end Cert.KernelIdeal.Att
end
-- ==== Proof.BwdPoint.lean ====
module
public import proofs.«01_k».proof.Proof.BwdTrip

@[expose] public section

set_option maxRecDepth 16384

noncomputable section

namespace Cert.KernelIdeal.Att

open Cert.KernelIdeal Cert.KernelIdeal.Gen
open Idealize.ShloMosaic Idealize.ShloMosaic.TcCoe Idealize.ShloMosaic.Tactic Idealize.SL.Sem

theorem added_trans (q d0 : FVec Ideal S2048x128 .bf16) (l dl : FVec Ideal S2048x1 .f32) (x : Vec Ideal S1x16384x128 .bf16)
    (arg8 : Memref sig .tc .vmem S1x128x16384 .f32) (f g h : BufTy.Contents (Elt Ideal) arg8.view.ty) (a b e : ℕ) (hab : a ≤ b) (hbe : b ≤ e)
    (h₁ : Added q d0 l dl x arg8 f a b g) (h₂ : Added q d0 l dl x arg8 g b e h) : Added q d0 l dl x arg8 f a e h := by
  intro c s
  rw [h₂ c s, h₁ c s]
  by_cases h : 512 * b ≤ s.val ∧ s.val < 512 * e
  · rw [if_pos h, if_neg (by omega), if_pos (by omega)]
  · rw [if_neg h]
    by_cases h' : 512 * a ≤ s.val ∧ s.val < 512 * b
    · rw [if_pos h', if_pos (by omega)]
    · rw [if_neg h', if_neg (by omega)]

section loop
variable (c : Dev nD) (bd : Option Variants.none.V) (i : grid1.Coords) (arg2 : Memref sig .tc .vmem S512x256 .bf16)
  (harg2 : arg2.IsWhole) (arg3 : Memref sig .tc .vmem S512x256 .f32) (harg3 : arg3.IsWhole)
  (arg4 : Memref sig .tc .vmem S1x16384x128 .bf16) (harg4 : arg4.IsWhole) (arg5 : Memref sig .tc .vmem S4x512x1 .f32)
  (harg5 : arg5.IsWhole) (arg6 : Memref sig .tc .vmem S4x512x1 .f32) (harg6 : arg6.IsWhole)
  (arg7 : Memref sig .tc .vmem S512x256 .f32) (harg7 : arg7.IsWhole) (arg8 : Memref sig .tc .vmem S1x128x16384 .f32)
  (harg8 : arg8.IsWhole) (v22 v37 : FVec Ideal S2048x128 .bf16) (v38 v41 : Vec Ideal S4x512x1 .f32)
  (X : BufTy.Contents (Elt Ideal) arg4.view.ty) (G : BufTy.Contents (Elt Ideal) arg8.view.ty) (init : FVec Ideal S2048x128 .f32)

theorem trips_eq : k1_t1_loop.trips = 4 := by decide

/-- Before trip `k` the spans of the first `8 * k` blocks have received their contributions. -/
theorem loop_added (k : ℕ) (hk : k ≤ 4) :
    Added v22 v37 (k1_pay1 v38) (k1_pay2 v41) (arg4.view.read (Elt Ideal) X) arg8 G 0 (8 * k)
      (arg8.view.writes (Elt Ideal) G (st_k1_t1 Variants.none c bd i arg2 harg2 arg3 harg3 arg4 harg4 arg5 harg5 arg6 harg6 arg7 harg7 arg8 harg8
        v22 v37 v38 v41 X G init k).2) := by
  induction k with
  | zero => exact added_zero _ _ _ _ _ _ _ _
  | succ k ih =>
    rw [st_k1_t1_succ Variants.none c bd i arg2 harg2 arg3 harg3 arg4 harg4 arg5 harg5 arg6 harg6 arg7 harg7 arg8 harg8
      v22 v37 v38 v41 X G init ⟨k, by rw [trips_eq]; omega⟩]
    dsimp only
    rw [View.writes_append]
    exact added_trans _ _ _ _ _ _ _ _ _ 0 (8 * k) (8 * (k + 1)) (by omega) (by omega) (ih (by omega))
      (trip_added c bd i arg2 harg2 arg3 harg3 arg4 harg4 arg5 harg5 arg6 harg6 arg7 harg7 arg8 harg8 v22 v37 v38 v41 X
        ⟨k, by rw [trips_eq]; omega⟩ _ _)

/-- Before trip `k` the queries' gradient holds the first `8 * k` blocks' products. -/
theorem loop_dq (k : ℕ) (hk : k ≤ 4) (R : Fin 2048) (c' : Fin 128) :
    (st_k1_t1 Variants.none c bd i arg2 harg2 arg3 harg3 arg4 harg4 arg5 harg5 arg6 harg6 arg7 harg7 arg8 harg8
        v22 v37 v38 v41 X G init k).1 (ix2 R c')
      = init (ix2 R c') + ∑ n ∈ Finset.range (8 * k), bdq v22 v37 (k1_pay1 v38) (k1_pay2 v41) (arg4.view.read (Elt Ideal) X) n R c' := by
  induction k with
  | zero => simp [st_k1_t1]
  | succ k ih =>
    rw [st_k1_t1_succ Variants.none c bd i arg2 harg2 arg3 harg3 arg4 harg4 arg5 harg5 arg6 harg6 arg7 harg7 arg8 harg8
      v22 v37 v38 v41 X G init ⟨k, by rw [trips_eq]; omega⟩]
    dsimp only
    rw [trip_dq c bd i arg2 harg2 arg3 harg3 arg4 harg4 arg5 harg5 arg6 harg6 arg7 harg7 arg8 harg8 v22 v37 v38 v41 X
        ⟨k, by rw [trips_eq]; omega⟩, ih (by omega), add_assoc, Nat.mul_succ, Finset.sum_range_add]

end loop

section point
variable (c : Dev nD) (i : grid1.Coords) (arg2 : Memref sig .tc .vmem S512x256 .bf16)
  (harg2 : arg2.IsWhole) (arg3 : Memref sig .tc .vmem S512x256 .f32) (harg3 : arg3.IsWhole)
  (arg4 : Memref sig .tc .vmem S1x16384x128 .bf16) (harg4 : arg4.IsWhole) (arg5 : Memref sig .tc .vmem S4x512x1 .f32)
  (harg5 : arg5.IsWhole) (arg6 : Memref sig .tc .vmem S4x512x1 .f32) (harg6 : arg6.IsWhole)
  (arg7 : Memref sig .tc .vmem S512x256 .f32) (harg7 : arg7.IsWhole) (arg8 : Memref sig .tc .vmem S1x128x16384 .f32)
  (harg8 : arg8.IsWhole) (x0 : Vec Ideal S512x256 .bf16) (x1 : Vec Ideal S512x256 .f32) (x2 : Vec Ideal S1x16384x128 .bf16)
  (x3 x4 : Vec Ideal S4x512x1 .f32) (xo6 : Vec Ideal S1x128x16384 .f32)

theorem ld0 : (View.readAt (Elt Ideal) arg2.view (Rect.unit (s := S512x256) ![0, 0] S512x256.size inb_S512x256_S512x256_0_0).toLoadRect (harg2.unread x0)) = x0 := by
  rw [View.readAt_eq_ld, harg2.read_unread]
  exact View.ld_unit_zero (S := S512x256) (by funext a; fin_cases a <;> rfl) _ _
theorem ld1 : (View.readAt (Elt Ideal) arg3.view (Rect.unit (s := S512x256) ![0, 0] S512x256.size inb_S512x256_S512x256_0_0).toLoadRect (harg3.unread x1)) = x1 := by
  rw [View.readAt_eq_ld, harg3.read_unread]
  exact View.ld_unit_zero (S := S512x256) (by funext a; fin_cases a <;> rfl) _ _
theorem ld3 : (View.readAt (Elt Ideal) arg5.view (Rect.unit (s := S4x512x1) ![0, 0, 0] ![4, 512, 1] inb_S4x512x1_S4x512x1_0_0_0).toLoadRect (harg5.unread x3)) = x3 := by
  rw [View.readAt_eq_ld, harg5.read_unread]
  exact View.ld_unit_zero (S := S4x512x1) (by funext a; fin_cases a <;> rfl) _ _
theorem ld4 : (View.readAt (Elt Ideal) arg6.view (Rect.unit (s := S4x512x1) ![0, 0, 0] ![4, 512, 1] inb_S4x512x1_S4x512x1_0_0_0).toLoadRect (harg6.unread x4)) = x4 := by
  rw [View.readAt_eq_ld, harg6.read_unread]
  exact View.ld_unit_zero (S := S4x512x1) (by funext a; fin_cases a <;> rfl) _ _

theorem trips_eq' : Scf.trips (0#32) (Scalar.addi 0#32 4#32) 1#32 = 4 := by decide

/-- The whole-block store of zeros reads zero everywhere. -/
theorem zeros_read (f : BufTy.Contents (Elt Ideal) arg8.view.ty) (y : S1x128x16384.Idx) :
    (arg8.view.read (Elt Ideal) (arg8.view.writes (Elt Ideal) f
      [⟨Rect.unit (s := S1x128x16384) ![0, 0, 0] S1x128x16384.size inb_S1x128x16384_S1x128x16384_0_0_0, k1_pay53 (F := Ideal)⟩]) : Vec Ideal S1x128x16384 .f32) y = (0 : EReal) := by
  refine (View.read_writes_cons_unit_of_mem arg8.view f _ _ [] y y rfl (by
    intro a
    match a with
    | ⟨0, _⟩ => exact (Nat.zero_add _).symm
    | ⟨1, _⟩ => exact (Nat.zero_add _).symm
    | ⟨2, _⟩ => exact (Nat.zero_add _).symm)).trans ?_
  exact Ideal.ofBits_zero_f32

/-- At the first point of a group the keys' and values' gradient is the point's contribution. -/
theorem out1_A_6_apply (hc0 : cond1_0 i) (c' : Fin 128) (s : Fin 16384) :
    out1_A_6 c i arg2 harg2 arg3 harg3 arg4 harg4 arg5 harg5 arg6 harg6 arg7 harg7 arg8 harg8 hc0 x0 x1 x2 x3 x4 (ix3 0 c' s)
      = bcontr (k1_pay55 x0) (k1_pay56 x1) (k1_pay1 x3) (k1_pay2 x4) x2 c' s := by
  have hcov := cover1_A_6 c i arg2 harg2 arg3 harg3 arg4 harg4 arg5 harg5 arg6 harg6 arg7 harg7 arg8 harg8 hc0 x0 x1 x2 x3 x4
  unfold out1_A_6
  rw [View.read_writes_eq_canon _ _ _ hcov, ← View.read_writes_eq_canon arg8.view arg8.view.junk _ hcov]
  unfold kernelRun1_A
  dsimp only
  sl_unfold_words
  rw [View.writes_append, trips_eq', ld0, ld1, ld3, ld4]
  have h := loop_added c none i arg2 harg2 arg3 harg3 arg4 harg4 arg5 harg5 arg6 harg6 arg7 harg7 arg8 harg8
    (k1_pay55 x0) (k1_pay56 x1) x3 x4 (harg4.unread x2)
    (arg8.view.writes (Elt Ideal) arg8.view.junk [⟨Rect.unit (s := S1x128x16384) ![0, 0, 0] S1x128x16384.size inb_S1x128x16384_S1x128x16384_0_0_0, k1_pay53 (F := Ideal)⟩])
    k1_pay5 4 le_rfl c' s
  rw [if_pos ⟨by omega, by have := s.isLt; omega⟩, zeros_read, zero_add, harg4.read_unread] at h
  exact h

/-- At a later point of a group the keys' and values' gradient grows by the point's contribution. -/
theorem out1_B_6_apply (hc0 : ¬cond1_0 i) (c' : Fin 128) (s : Fin 16384) :
    out1_B_6 c i arg2 harg2 arg3 harg3 arg4 harg4 arg5 harg5 arg6 harg6 arg7 harg7 arg8 harg8 hc0 x0 x1 x2 x3 x4 xo6 (ix3 0 c' s)
      = xo6 (ix3 0 c' s) + bcontr (k1_pay55 x0) (k1_pay56 x1) (k1_pay1 x3) (k1_pay2 x4) x2 c' s := by
  unfold out1_B_6
  unfold kernelRun1_B
  dsimp only
  sl_unfold_words
  rw [trips_eq', ld0, ld1, ld3, ld4]
  have h := loop_added c none i arg2 harg2 arg3 harg3 arg4 harg4 arg5 harg5 arg6 harg6 arg7 harg7 arg8 harg8
    (k1_pay55 x0) (k1_pay56 x1) x3 x4 (harg4.unread x2) (harg8.unread xo6) k1_pay5 4 le_rfl c' s
  rw [if_pos ⟨by omega, by have := s.isLt; omega⟩, harg8.read_unread, harg4.read_unread] at h
  exact h

/-- The queries' gradient at the stacked rows of a grid point, after all the keys. -/
def bdqAll (R : Fin 2048) (d : Fin 128) : EReal :=
  ∑ n ∈ Finset.range 32, bdq (k1_pay55 x0) (k1_pay56 x1) (k1_pay1 x3) (k1_pay2 x4) x2 n R d

/-- Two stores of half the lanes each, read at an index: the store its lane lies in. -/
theorem canon_halves (w1 w0 : Vec Ideal S512x128 .f32) (r : Fin 512) (d : Fin 256) :
    View.canon (Val := Elt Ideal) (s := S512x256) (e := .f32) [⟨Rect.unit (s := S512x256) ![0, 128] ![512, 128] inb_S512x256_S512x128_0_128, w1⟩,
      ⟨Rect.unit (s := S512x256) ![0, 0] ![512, 128] inb_S512x256_S512x128_0_0, w0⟩] (ix2 r d)
    = if h : d.val < 128 then w0 (ix2 r ⟨d.val, h⟩) else w1 (ix2 r ⟨d.val - 128, by omega⟩) := by
  by_cases h : d.val < 128
  · rw [dif_pos h, View.canon_cons_of_not_mem _ _ (by
      rw [Rect.mem_set_unit]
      intro hall
      have h1 := (hall 1).1
      have : (128 : ℕ) ≤ d.val := h1
      omega)]
    have e : (Rect.unit (s := S512x256) ![0, 0] ![512, 128] inb_S512x256_S512x128_0_0).emb (ix2 r ⟨d.val, h⟩) = ix2 r d := funext fun a => Fin.ext (by
      match a with
      | ⟨0, _⟩ => exact (Nat.zero_add _).trans (Nat.one_mul r.val)
      | ⟨1, _⟩ => exact (Nat.zero_add _).trans (Nat.one_mul d.val))
    rw [← e]
    exact View.canon_cons_emb _ _ _ _
  · rw [dif_neg h]
    have e : (Rect.unit (s := S512x256) ![0, 128] ![512, 128] inb_S512x256_S512x128_0_128).emb (ix2 r ⟨d.val - 128, by omega⟩) = ix2 r d := funext fun a => Fin.ext (by
      match a with
      | ⟨0, _⟩ => exact (Nat.zero_add _).trans (Nat.one_mul r.val)
      | ⟨1, _⟩ => show 128 + 1 * (d.val - 128) = d.val; omega)
    rw [← e]
    exact View.canon_cons_emb _ _ _ _

/-- The two stores of the unstacked gradient, read at an index. -/
theorem halves_dq (a : FVec Ideal S2048x128 .f32)
    (ha : ∀ (R : Fin 2048) (d : Fin 128), a (ix2 R d) = bdqAll x0 x1 x2 x3 x4 R d) (r : Fin 512) (d : Fin 256) :
    View.canon (Val := Elt Ideal) (s := S512x256) (e := .f32) [⟨Rect.unit (s := S512x256) ![0, 128] ![512, 128] inb_S512x256_S512x128_0_128, k1_pay8 k1_pay54 a⟩,
      ⟨Rect.unit (s := S512x256) ![0, 0] ![512, 128] inb_S512x256_S512x128_0_0, k1_pay7 k1_pay54 a⟩] (ix2 r d)
    = bdqAll x0 x1 x2 x3 x4 ⟨512 * (d.val / 64) + r.val, by omega⟩ ⟨d.val % 64, by omega⟩ := by
  have hd := d.isLt
  have hr := r.isLt
  rw [canon_halves]
  simp only [bpay7_apply, bpay8_apply]
  simp only [← ha]
  split_ifs <;> exact at2 a (by dsimp only; omega) (by dsimp only; omega)

theorem out1_A_5_apply (hc0 : cond1_0 i) (r : Fin 512) (d : Fin 256) :
    out1_A_5 c i arg2 harg2 arg3 harg3 arg4 harg4 arg5 harg5 arg6 harg6 arg7 harg7 arg8 harg8 hc0 x0 x1 x2 x3 x4 (ix2 r d)
      = bdqAll x0 x1 x2 x3 x4 ⟨512 * (d.val / 64) + r.val, by omega⟩ ⟨d.val % 64, by omega⟩ := by
  unfold out1_A_5
  rw [View.read_writes_eq_canon _ _ _ (cover1_A_5 c i arg2 harg2 arg3 harg3 arg4 harg4 arg5 harg5 arg6 harg6 arg7 harg7 arg8 harg8 hc0 x0 x1 x2 x3 x4)]
  unfold kernelRun1_A
  dsimp only
  sl_unfold_words
  rw [trips_eq', ld0, ld1, ld3, ld4]
  have h := loop_dq c none i arg2 harg2 arg3 harg3 arg4 harg4 arg5 harg5 arg6 harg6 arg7 harg7 arg8 harg8
    (k1_pay55 x0) (k1_pay56 x1) x3 x4 (harg4.unread x2)
    (arg8.view.writes (Elt Ideal) arg8.view.junk [⟨Rect.unit (s := S1x128x16384) ![0, 0, 0] S1x128x16384.size inb_S1x128x16384_S1x128x16384_0_0_0, k1_pay53 (F := Ideal)⟩])
    k1_pay5 4 le_rfl
  generalize (st_k1_t1 (F := Ideal) Variants.none _ _ _ _ _ _ _ _ _ _ _ _ _ _ _ _ _ _ _ _ _ _ _ _ _).1 = a at h ⊢
  exact halves_dq _ _ _ _ _ _ (fun R c => by rw [h R c, harg4.read_unread, show (k1_pay5 (F := Ideal)) (ix2 R c) = (0 : EReal) from Ideal.ofBits_zero_f32, zero_add]; rfl) r d

theorem out1_B_5_apply (hc0 : ¬cond1_0 i) (r : Fin 512) (d : Fin 256) :
    out1_B_5 c i arg2 harg2 arg3 harg3 arg4 harg4 arg5 harg5 arg6 harg6 arg7 harg7 arg8 harg8 hc0 x0 x1 x2 x3 x4 xo6 (ix2 r d)
      = bdqAll x0 x1 x2 x3 x4 ⟨512 * (d.val / 64) + r.val, by omega⟩ ⟨d.val % 64, by omega⟩ := by
  unfold out1_B_5
  rw [View.read_writes_eq_canon _ _ _ (cover1_B_5 c i arg2 harg2 arg3 harg3 arg4 harg4 arg5 harg5 arg6 harg6 arg7 harg7 arg8 harg8 hc0 x0 x1 x2 x3 x4 xo6)]
  unfold kernelRun1_B
  dsimp only
  sl_unfold_words
  rw [trips_eq', ld0, ld1, ld3, ld4]
  have h := loop_dq c none i arg2 harg2 arg3 harg3 arg4 harg4 arg5 harg5 arg6 harg6 arg7 harg7 arg8 harg8
    (k1_pay55 x0) (k1_pay56 x1) x3 x4 (harg4.unread x2) (harg8.unread xo6) k1_pay5 4 le_rfl
  generalize (st_k1_t1 (F := Ideal) Variants.none _ _ _ _ _ _ _ _ _ _ _ _ _ _ _ _ _ _ _ _ _ _ _ _ _).1 = a at h ⊢
  exact halves_dq _ _ _ _ _ _ (fun R c => by rw [h R c, harg4.read_unread, show (k1_pay5 (F := Ideal)) (ix2 R c) = (0 : EReal) from Ideal.ofBits_zero_f32, zero_add]; rfl) r d

end point

end Cert.KernelIdeal.Att
end
-- ==== Proof.FwdRow.lean ====
module
public import proofs.«01_k».proof.Proof.FwdRead
public import proofs.«01_k».proof.Proof.Sums

@[expose] public section

set_option maxRecDepth 16384

noncomputable section

namespace Cert.KernelIdeal.Att

open Cert.KernelIdeal Cert.KernelIdeal.Gen
open Idealize.ShloMosaic Idealize.ShloMosaic.TcCoe Idealize.ShloMosaic.Tactic Idealize.SL.Sem

theorem pay7_apply (y : S1024x1.Idx) : (k0_pay7 (F := Ideal)) y = (⊥ : EReal) := ofBits_neg_inf
theorem pay8_apply (y : S1024x128.Idx) : (k0_pay8 (F := Ideal)) y = (0 : EReal) := Ideal.ofBits_zero_f32

section rows
variable (q : FVec Ideal S1024x128 .bf16) (blk : ℕ → Vec Ideal S1x2048x128 .bf16)
  (σ : Fin 1024 → ℕ → ℕ → ℝ) (w : ℕ → ℕ → ℕ → ℝ)

/-- After the first blocks a row's maximum is real, and its accumulator holds, per lane, the sum of the exponentials of
    the scores less that maximum, times the lane's weights. -/
theorem fSt_row (hσ : ∀ j, j < 8 → ∀ (R : Fin 1024) (t : Fin 2048), fScore q (blk j) (ix2 R t) = ((σ R j t.val : ℝ) : EReal))
    (hw : ∀ j, j < 8 → ∀ (t : Fin 2048) (c : Fin 128), (if c.val < 64 then (1 : EReal) else blk j (ix3 0 t c)) = ((w j t.val c.val : ℝ) : EReal))
    (R : Fin 1024) : ∀ n, n < 8 → ∃ r : ℝ, (fSt q blk (n + 1)).1 (ix2 R 0) = (r : EReal) ∧
      ∀ c : Fin 128, (fSt q blk (n + 1)).2 (ix2 R c)
        = ((∑ j ∈ Finset.range (n + 1), ∑ t ∈ Finset.range 2048, Real.exp (σ R j t - r) * w j t c.val : ℝ) : EReal) := by
  have hreal : ∀ j, j < 8 → ∀ y, ∃ r : ℝ, fScore q (blk j) y = (r : EReal) := by
    intro j hj y
    rw [eq_ix2 y]
    exact ⟨_, hσ j hj _ _⟩
  have hstep : ∀ (n : ℕ) (hn : n < 8) (r : ℝ) (c : Fin 128),
      ∑ t : Fin 2048, Ideal.exp (fScore q (blk n) (ix2 R t) - (r : EReal)) * (if c.val < 64 then 1 else blk n (ix3 0 t c))
        = ((∑ t ∈ Finset.range 2048, Real.exp (σ R n t - r) * w n t c.val : ℝ) : EReal) := by
    intro n hn r c
    rw [coe_sum, Finset.sum_range]
    refine Finset.sum_congr rfl fun t _ => ?_
    rw [hσ n hn, hw n hn, ← EReal.coe_sub, Ideal.exp_coe, EReal.coe_mul]
  intro n
  induction n with
  | zero =>
    intro _
    obtain ⟨r, hr⟩ := fMax_real q k0_pay7 (blk 0) (hreal 0 (by omega)) (ix2 R 0) (.inl (pay7_apply _))
    refine ⟨r, hr, fun c => ?_⟩
    show fAcc q k0_pay7 k0_pay8 (blk 0) (ix2 R c) = _
    rw [fAcc_apply, hr, pay7_apply, pay8_apply, hstep 0 (by omega)]
    simp
  | succ n ih =>
    intro hn
    obtain ⟨r, hr, ha⟩ := ih (by omega)
    obtain ⟨r', hr'⟩ := fMax_real q (fSt q blk (n + 1)).1 (blk (n + 1)) (hreal (n + 1) (by omega)) (ix2 R 0) (.inr ⟨r, hr⟩)
    refine ⟨r', hr', fun c => ?_⟩
    show fAcc q (fSt q blk (n + 1)).1 (fSt q blk (n + 1)).2 (blk (n + 1)) (ix2 R c) = _
    rw [fAcc_apply, hr', hr, ha, hstep (n + 1) hn, ← EReal.coe_sub, Ideal.exp_coe, ← EReal.coe_mul, ← EReal.coe_add,
      Finset.sum_range_succ _ (n + 1)]
    congr 2
    rw [Finset.mul_sum]
    refine Finset.sum_congr rfl fun j _ => ?_
    rw [Finset.mul_sum]
    refine Finset.sum_congr rfl fun t _ => ?_
    rw [← mul_assoc, ← Real.exp_add]
    congr 2
    ring

end rows

end Cert.KernelIdeal.Att
end
-- ==== Proof.FwdValue.lean ====
module
public import proofs.«01_k».proof.Proof.FwdRow

@[expose] public section

set_option maxRecDepth 16384

noncomputable section

namespace Cert.KernelIdeal.Att

open Cert.KernelIdeal Cert.KernelIdeal.Gen
open Idealize.ShloMosaic Idealize.ShloMosaic.TcCoe Idealize.ShloMosaic.Tactic Idealize.SL.Sem

/-- The score of row `r`, head `hh` of a block against key `s`: the first 64 lanes of the packed row are the key. -/
def sc (X B : ℕ → ℕ → ℝ) (hh r s : ℕ) : ℝ := ∑ d ∈ Finset.range 64, X r (64 * hh + d) * B s d
/-- The sum over the keys of the exponentials of the scores. -/
def sz (X B : ℕ → ℕ → ℝ) (hh r : ℕ) : ℝ := ∑ s ∈ Finset.range 16384, Real.exp (sc X B hh r s)
/-- The attention weight. -/
def sp (X B : ℕ → ℕ → ℝ) (hh r s : ℕ) : ℝ := Real.exp (sc X B hh r s) / sz X B hh r

theorem sz_pos (X B : ℕ → ℕ → ℝ) (hh r : ℕ) : 0 < sz X B hh r :=
  Finset.sum_pos (fun _ _ => Real.exp_pos _) ⟨0, by simp⟩

/-- A sum over 128 lanes whose upper 64 entries vanish is the sum over the lower 64. -/
theorem sum_low {M : Type} [AddCommMonoid M] (f : ℕ → M) (h : ∀ d, 64 ≤ d → d < 128 → f d = 0) :
    ∑ d ∈ Finset.range 128, f d = ∑ d ∈ Finset.range 64, f d := by
  rw [Finset.range_eq_Ico, ← Finset.sum_Ico_consecutive f (Nat.zero_le 64) (by norm_num : 64 ≤ 128)]
  rw [Finset.sum_eq_zero (s := Finset.Ico 64 128) fun d hd => by
    rw [Finset.mem_Ico] at hd; exact h d hd.1 hd.2, add_zero, ← Finset.range_eq_Ico]

/-- A sum over 128 lanes whose lower 64 entries vanish is the sum over the upper 64. -/
theorem sum_high {M : Type} [AddCommMonoid M] (f : ℕ → M) (h : ∀ d, d < 64 → f d = 0) :
    ∑ d ∈ Finset.range 128, f d = ∑ d ∈ Finset.range 64, f (64 + d) := by
  rw [Finset.range_eq_Ico, ← Finset.sum_Ico_consecutive f (Nat.zero_le 64) (by norm_num : 64 ≤ 128)]
  rw [Finset.sum_eq_zero (s := Finset.Ico 0 64) fun d hd => by
    rw [Finset.mem_Ico] at hd; exact h d hd.2, zero_add, Finset.sum_Ico_eq_sum_range]

/-- Two stores of the halves of a block's lanes, read at an index. -/
theorem canon_halves256 (w1 w0 : Vec Ideal S256x128 .f32) (r x : Fin 256) :
    View.canon (Val := Elt Ideal) (s := S256x256) (e := .f32) [⟨Rect.unit (s := S256x256) ![0, 128] ![256, 128] inb_S256x256_S256x128_0_128, w1⟩,
      ⟨Rect.unit (s := S256x256) ![0, 0] ![256, 128] inb_S256x256_S256x128_0_0, w0⟩] (ix2 r x)
    = if h : x.val < 128 then w0 (ix2 r ⟨x.val, h⟩) else w1 (ix2 r ⟨x.val - 128, by omega⟩) := by
  by_cases h : x.val < 128
  · rw [dif_pos h, View.canon_cons_of_not_mem _ _ (by
      rw [Rect.mem_set_unit]
      intro hall
      have h1 : (128 : ℕ) ≤ x.val := (hall 1).1
      omega)]
    have e : (Rect.unit (s := S256x256) ![0, 0] ![256, 128] inb_S256x256_S256x128_0_0).emb (ix2 r ⟨x.val, h⟩) = ix2 r x := funext fun a => Fin.ext (by
      match a with
      | ⟨0, _⟩ => exact (Nat.zero_add _).trans (Nat.one_mul r.val)
      | ⟨1, _⟩ => exact (Nat.zero_add _).trans (Nat.one_mul x.val))
    rw [← e]
    exact View.canon_cons_emb _ _ _ _
  · rw [dif_neg h]
    have e : (Rect.unit (s := S256x256) ![0, 128] ![256, 128] inb_S256x256_S256x128_0_128).emb (ix2 r ⟨x.val - 128, by omega⟩) = ix2 r x := funext fun a => Fin.ext (by
      match a with
      | ⟨0, _⟩ => exact (Nat.zero_add _).trans (Nat.one_mul r.val)
      | ⟨1, _⟩ => show 128 + 1 * (x.val - 128) = x.val; omega)
    rw [← e]
    exact View.canon_cons_emb _ _ _ _

section point
variable (x0 : Vec Ideal S256x256 .bf16) (x1 : Vec Ideal S1x16384x128 .bf16) (X B : ℕ → ℕ → ℝ)

/-- The scores of a block of keys, in real numbers. -/
theorem fScore_real (hX : ∀ (r c : Fin 256), x0 (ix2 r c) = ((X r c : ℝ) : EReal))
    (hB : ∀ (t : Fin 16384) (c : Fin 128), x1 (ix3 0 t c) = ((B t c : ℝ) : EReal)) (j : ℕ) (hj : j < 8) (R : Fin 1024) (t : Fin 2048) :
    fScore (k0_pay6 x0) (fblk x1 j) (ix2 R t) = ((sc X B (R.val / 256) (R.val % 256) (2048 * j + t.val) : ℝ) : EReal) := by
  rw [fScore_apply]
  have h1 : ∀ d : Fin 128, (k0_pay6 x0) (ix2 R d) * fblk x1 j (ix3 0 t d)
      = (((if d.val < 64 then X (R.val % 256) (64 * (R.val / 256) + d.val) else 0) * B (2048 * j + t.val) d.val : ℝ) : EReal) := by
    intro d
    rw [pay6_apply, fblk_apply x1 j hj t d, hB, EReal.coe_mul]
    split_ifs with h
    · rw [hX]
    · rfl
  rw [Finset.sum_congr rfl fun d _ => h1 d, ← coe_sum]
  refine congrArg Real.toEReal ?_
  rw [Finset.sum_range (n := 128) (f := fun d => (if d < 64 then X (R.val % 256) (64 * (R.val / 256) + d) else 0) * B (2048 * j + t.val) d) |>.symm]
  rw [sum_low _ fun d h _ => by rw [if_neg (by omega), zero_mul]]
  unfold sc
  exact Finset.sum_congr rfl fun d hd => by rw [if_pos (Finset.mem_range.mp hd)]

/-- After all the keys: a row's maximum is a real number and its accumulator is the sum of the exponentials of the scores
    less it, times the lane's weight. -/
theorem fSt_real (hX : ∀ (r c : Fin 256), x0 (ix2 r c) = ((X r c : ℝ) : EReal))
    (hB : ∀ (t : Fin 16384) (c : Fin 128), x1 (ix3 0 t c) = ((B t c : ℝ) : EReal)) (R : Fin 1024) :
    ∃ r : ℝ, (fSt (k0_pay6 x0) (fblk x1) 8).1 (ix2 R 0) = (r : EReal) ∧
      ∀ c : Fin 128, (fSt (k0_pay6 x0) (fblk x1) 8).2 (ix2 R c)
        = ((∑ s ∈ Finset.range 16384, Real.exp (sc X B (R.val / 256) (R.val % 256) s - r) * (if c.val < 64 then 1 else B s c.val) : ℝ) : EReal) := by
  obtain ⟨r, h1, h2⟩ := fSt_row (k0_pay6 x0) (fblk x1) (fun R j t => sc X B (R.val / 256) (R.val % 256) (2048 * j + t))
    (fun j t c => if c < 64 then 1 else B (2048 * j + t) c) (fun j hj R t => fScore_real x0 x1 X B hX hB j hj R t)
    (fun j hj t c => by
      rw [fblk_apply x1 j hj t c, hB]
      split_ifs <;> rfl) R 7 (by norm_num)
  refine ⟨r, h1, fun c => (h2 c).trans ?_⟩
  refine congrArg Real.toEReal ?_
  exact sum_blocks 2048 8 (fun s => Real.exp (sc X B (R.val / 256) (R.val % 256) s - r) * (if c.val < 64 then 1 else B s c.val))

theorem sum_exp_sub (X B : ℕ → ℕ → ℝ) (hh r : ℕ) (m : ℝ) :
    ∑ s ∈ Finset.range 16384, Real.exp (sc X B hh r s - m) = sz X B hh r / Real.exp m := by
  unfold sz
  rw [Finset.sum_div]
  exact Finset.sum_congr rfl fun s _ => Real.exp_sub _ _

/-- The quotient in the value lanes: the values weighted by the attention weights. -/
theorem fQuot_real (hX : ∀ (r c : Fin 256), x0 (ix2 r c) = ((X r c : ℝ) : EReal))
    (hB : ∀ (t : Fin 16384) (c : Fin 128), x1 (ix3 0 t c) = ((B t c : ℝ) : EReal)) (R : Fin 1024) (c : Fin 128) (hc : 64 ≤ c.val) :
    fQuot (fSt (k0_pay6 x0) (fblk x1) 8).2 (ix2 R c)
      = ((∑ s ∈ Finset.range 16384, sp X B (R.val / 256) (R.val % 256) s * B s c.val : ℝ) : EReal) := by
  obtain ⟨m, -, h2⟩ := fSt_real x0 x1 X B hX hB R
  rw [fQuot_apply, h2, h2]
  have hl : (c.val + 64) % 128 < 64 := by omega
  simp only [if_neg (not_lt.mpr hc), if_pos hl, mul_one]
  rw [sum_exp_sub]
  have hz := sz_pos X B (R.val / 256) (R.val % 256)
  have he := Real.exp_pos m
  rw [Ideal.div_coe (by positivity), ← EReal.coe_mul]
  refine congrArg Real.toEReal ?_
  rw [Finset.sum_mul]
  refine Finset.sum_congr rfl fun s _ => ?_
  unfold sp
  rw [Real.exp_sub]
  field_simp

/-- The forward's output block at a point: the values weighted by the attention weights. -/
theorem out0_2_real (c : Dev nD) (i : grid0.Coords) (arg2 : Memref sig .tc .vmem S256x256 .bf16) (harg2 : arg2.IsWhole)
    (arg3 : Memref sig .tc .vmem S1x16384x128 .bf16) (harg3 : arg3.IsWhole) (arg4 : Memref sig .tc .vmem S256x256 .f32)
    (harg4 : arg4.IsWhole) (arg5 : Memref sig .tc .vmem S4x256x1 .f32) (harg5 : arg5.IsWhole)
    (hX : ∀ (r c : Fin 256), x0 (ix2 r c) = ((X r c : ℝ) : EReal))
    (hB : ∀ (t : Fin 16384) (c : Fin 128), x1 (ix3 0 t c) = ((B t c : ℝ) : EReal)) (r x : Fin 256) :
    out0_A_2 c i arg2 harg2 arg3 harg3 arg4 harg4 arg5 harg5 x0 x1 (ix2 r x)
      = ((∑ s ∈ Finset.range 16384, sp X B (x.val / 64) r.val s * B s (64 + x.val % 64) : ℝ) : EReal) := by
  have hr := r.isLt
  have hx := x.isLt
  have hq : ∀ (R : Fin 1024) (k : Fin 128), 64 ≤ k.val → R.val / 256 = x.val / 64 → R.val % 256 = r.val → k.val = 64 + x.val % 64 →
      fQuot (fSt (k0_pay6 x0) (fblk x1) 8).2 (ix2 R k)
        = ((∑ s ∈ Finset.range 16384, sp X B (x.val / 64) r.val s * B s (64 + x.val % 64) : ℝ) : EReal) := by
    intro R k h64 h1 h2 h3
    rw [fQuot_real x0 x1 X B hX hB R k h64, h1, h2, h3]
  rw [out0_2_eq, canon_halves256]
  split_ifs with h
  · rw [pay1_apply]
    split_ifs with h'
    · have h'' : x.val < 64 := h'
      exact hq _ _ (by dsimp only; omega) (by dsimp only; omega) (by dsimp only; omega) (by dsimp only; omega)
    · have h'' : ¬ x.val < 64 := h'
      exact hq _ _ (by dsimp only; omega) (by dsimp only; omega) (by dsimp only; omega) (by dsimp only; omega)
  · rw [pay2_apply]
    split_ifs with h'
    · have h'' : x.val - 128 < 64 := h'
      exact hq _ _ (by dsimp only; omega) (by dsimp only; omega) (by dsimp only; omega) (by dsimp only; omega)
    · have h'' : ¬ x.val - 128 < 64 := h'
      exact hq _ _ (by dsimp only; omega) (by dsimp only; omega) (by dsimp only; omega) (by dsimp only; omega)

/-- The forward's second output block at a point: the logarithm of the sum of the exponentials of the scores. -/
theorem out0_3_real (c : Dev nD) (i : grid0.Coords) (arg2 : Memref sig .tc .vmem S256x256 .bf16) (harg2 : arg2.IsWhole)
    (arg3 : Memref sig .tc .vmem S1x16384x128 .bf16) (harg3 : arg3.IsWhole) (arg4 : Memref sig .tc .vmem S256x256 .f32)
    (harg4 : arg4.IsWhole) (arg5 : Memref sig .tc .vmem S4x256x1 .f32) (harg5 : arg5.IsWhole)
    (hX : ∀ (r c : Fin 256), x0 (ix2 r c) = ((X r c : ℝ) : EReal))
    (hB : ∀ (t : Fin 16384) (c : Fin 128), x1 (ix3 0 t c) = ((B t c : ℝ) : EReal)) (hh : Fin 4) (r : Fin 256) :
    out0_A_3 c i arg2 harg2 arg3 harg3 arg4 harg4 arg5 harg5 x0 x1 (ix3 hh r 0)
      = ((Real.log (sz X B hh.val r.val) : ℝ) : EReal) := by
  have hr := r.isLt
  have hhh := hh.isLt
  rw [out0_3_eq, pay3_apply]
  obtain ⟨m, h1, h2⟩ := fSt_real x0 x1 X B hX hB ⟨256 * hh.val + r.val, by omega⟩
  rw [h1, h2]
  simp only [Fin.val_zero, Nat.zero_lt_succ, Nat.ofNat_pos, if_true, mul_one]
  rw [show (256 * hh.val + r.val) / 256 = hh.val by omega, show (256 * hh.val + r.val) % 256 = r.val by omega, sum_exp_sub]
  have hz := sz_pos X B hh.val r.val
  have he := Real.exp_pos m
  rw [Ideal.log_coe, if_neg (not_le.mpr (by positivity)), ← EReal.coe_add]
  refine congrArg Real.toEReal ?_
  rw [Real.log_div (ne_of_gt hz) (ne_of_gt he), Real.log_exp]
  ring

end point

end Cert.KernelIdeal.Att

end

end
-- ==== Proof.Spec.lean ====
module
public import proofs.«01_k».proof.Proof.Sums

@[expose] public section

noncomputable section

namespace AttSpec

/-! The attention of the step, in real numbers: `Q`, `D` are read at (position, column), with head `h`'s columns at
`64 h …`; `KV` is read at (group, position, lane), a group's keys at the lanes below 64 and its values at the lanes above. -/

section spec
variable (Q D : ℕ → ℕ → ℝ) (KV : ℕ → ℕ → ℕ → ℝ)

/-- The score of query `s` against key `t`, head `h`. -/
def aS (h s t : ℕ) : ℝ := ∑ d ∈ Finset.range 64, Q s (64 * h + d) * KV (h / 4) t d
/-- The sum of the exponentials of a query's scores. -/
def aZ (h s : ℕ) : ℝ := ∑ t ∈ Finset.range 16384, Real.exp (aS Q KV h s t)
/-- The attention weight of key `t` for query `s`, head `h`. -/
def aP (h s t : ℕ) : ℝ := Real.exp (aS Q KV h s t) / aZ Q KV h s
/-- The attention's output. -/
def aO (h s d : ℕ) : ℝ := ∑ t ∈ Finset.range 16384, aP Q KV h s t * KV (h / 4) t (64 + d)
/-- The gradient of the attention weight. -/
def aDP (h s t : ℕ) : ℝ := ∑ d ∈ Finset.range 64, D s (64 * h + d) * KV (h / 4) t (64 + d)
/-- The inner product of the output and its gradient. -/
def aDel (h s : ℕ) : ℝ := ∑ d ∈ Finset.range 64, D s (64 * h + d) * aO Q KV h s d
/-- The gradient of the score. -/
def aDS (h s t : ℕ) : ℝ := aP Q KV h s t * (aDP D KV h s t - aDel Q D KV h s)
/-- The gradient of the queries. -/
def aDQ (h s d : ℕ) : ℝ := ∑ t ∈ Finset.range 16384, aDS Q D KV h s t * KV (h / 4) t d
/-- The gradient of the keys. -/
def aDK (g t d : ℕ) : ℝ := ∑ hh ∈ Finset.range 4, ∑ s ∈ Finset.range 16384, aDS Q D KV (4 * g + hh) s t * Q s (64 * (4 * g + hh) + d)
/-- The gradient of the values. -/
def aDV (g t d : ℕ) : ℝ := ∑ hh ∈ Finset.range 4, ∑ s ∈ Finset.range 16384, aP Q KV (4 * g + hh) s t * D s (64 * (4 * g + hh) + d)

theorem aZ_pos (h s : ℕ) : 0 < aZ Q KV h s := Finset.sum_pos (fun _ _ => Real.exp_pos _) ⟨0, by simp⟩

theorem sum_aP (h s : ℕ) : ∑ t ∈ Finset.range 16384, aP Q KV h s t = 1 := by
  unfold aP
  rw [← Finset.sum_div]
  exact div_self (ne_of_gt (aZ_pos Q KV h s))

/-- The inner product of the output and its gradient is the weighted sum of the weights' gradients. -/
theorem aDel_eq (h s : ℕ) : aDel Q D KV h s = ∑ t ∈ Finset.range 16384, aP Q KV h s t * aDP D KV h s t := by
  unfold aDel aO aDP
  simp only [Finset.mul_sum]
  rw [Finset.sum_comm]
  exact Finset.sum_congr rfl fun t _ => Finset.sum_congr rfl fun d _ => by ring

end spec

end AttSpec

end

end
-- ==== Proof.BwdValue.lean ====
module
public import proofs.«01_k».proof.Proof.BwdPoint
public import proofs.«01_k».proof.Proof.FwdValue
public import proofs.«01_k».proof.Proof.Spec

@[expose] public section

set_option maxRecDepth 16384

noncomputable section

namespace Cert.KernelIdeal.Att

open Cert.KernelIdeal Cert.KernelIdeal.Gen AttSpec
open Idealize.ShloMosaic Idealize.ShloMosaic.TcCoe Idealize.ShloMosaic.Tactic Idealize.SL.Sem

/-- What the rows of block `i` of group `g` contribute to the gradient at lane `c` of key `s`. -/
def contr (Q D : ℕ → ℕ → ℝ) (KV : ℕ → ℕ → ℕ → ℝ) (g i c s : ℕ) : ℝ :=
  ∑ hh ∈ Finset.range 4, ∑ r ∈ Finset.range 512,
    if c < 64 then aDS Q D KV (4 * g + hh) (512 * i + r) s * Q (512 * i + r) (64 * (4 * g + hh) + c)
    else aP Q KV (4 * g + hh) (512 * i + r) s * D (512 * i + r) (64 * (4 * g + hh) + (c - 64))

/-- The contributions of all the blocks are the gradients of the keys and the values. -/
theorem sum_contr (Q D : ℕ → ℕ → ℝ) (KV : ℕ → ℕ → ℕ → ℝ) (g c s : ℕ) :
    ∑ i ∈ Finset.range 32, contr Q D KV g i c s = if c < 64 then aDK Q D KV g s c else aDV Q D KV g s (c - 64) := by
  unfold contr aDK aDV
  rw [Finset.sum_comm]
  split_ifs with h
  · exact Finset.sum_congr rfl fun hh _ => sum_blocks 512 32 fun r => aDS Q D KV (4 * g + hh) r s * Q r (64 * (4 * g + hh) + c)
  · exact Finset.sum_congr rfl fun hh _ => sum_blocks 512 32 fun r => aP Q KV (4 * g + hh) r s * D r (64 * (4 * g + hh) + (c - 64))

section point
variable (Q D : ℕ → ℕ → ℝ) (KV : ℕ → ℕ → ℕ → ℝ) (g i : ℕ) (x0 : Vec Ideal S512x256 .bf16) (x1 : Vec Ideal S512x256 .f32)
  (x2 : Vec Ideal S1x16384x128 .bf16) (x3 x4 : Vec Ideal S4x512x1 .f32)
  (h0 : ∀ (r : Fin 512) (x : Fin 256), x0 (ix2 r x) = ((Q (512 * i + r.val) (256 * g + x.val) : ℝ) : EReal))
  (h1 : ∀ (r : Fin 512) (x : Fin 256), x1 (ix2 r x) = ((D (512 * i + r.val) (256 * g + x.val) : ℝ) : EReal))
  (h2 : ∀ (s : Fin 16384) (d : Fin 128), x2 (ix3 0 s d) = ((KV g s.val d.val : ℝ) : EReal))
  (h3 : ∀ (hh : Fin 4) (r : Fin 512), x3 (ix3 hh r 0) = ((Real.log (aZ Q KV (4 * g + hh.val) (512 * i + r.val)) : ℝ) : EReal))
  (h4 : ∀ (hh : Fin 4) (r : Fin 512), x4 (ix3 hh r 0) = ((aDel Q D KV (4 * g + hh.val) (512 * i + r.val) : ℝ) : EReal))

include h0 in
theorem qrow_real (R : Fin 2048) (d : Fin 128) : k1_pay55 x0 (ix2 R d)
    = ((if d.val < 64 then Q (512 * i + R.val % 512) (64 * (4 * g + R.val / 512) + d.val) else 0 : ℝ) : EReal) := by
  rw [bpay55_apply]
  split_ifs with h
  · rw [h0]
    dsimp only
    rw [show 256 * g + (64 * (R.val / 512) + d.val) = 64 * (4 * g + R.val / 512) + d.val by omega]
  · rfl

include h1 in
theorem drow_real (R : Fin 2048) (d : Fin 128) : k1_pay56 x1 (ix2 R d)
    = ((if d.val < 64 then 0 else D (512 * i + R.val % 512) (64 * (4 * g + R.val / 512) + (d.val - 64)) : ℝ) : EReal) := by
  rw [bpay56_apply]
  split_ifs with h
  · rfl
  · rw [h1]
    dsimp only
    rw [show 256 * g + (64 * (R.val / 512) + (d.val - 64)) = 64 * (4 * g + R.val / 512) + (d.val - 64) by omega]

include h0 h2 in
theorem score_real (R : Fin 2048) (s : Fin 16384) : ∑ d : Fin 128, k1_pay55 x0 (ix2 R d) * x2 (ix3 0 s d)
    = ((aS Q KV (4 * g + R.val / 512) (512 * i + R.val % 512) s.val : ℝ) : EReal) := by
  have hR := R.isLt
  have e : ∀ d : Fin 128, k1_pay55 x0 (ix2 R d) * x2 (ix3 0 s d)
      = (((if d.val < 64 then Q (512 * i + R.val % 512) (64 * (4 * g + R.val / 512) + d.val) else 0) * KV g s.val d.val : ℝ) : EReal) := fun d => by
    rw [qrow_real Q g i x0 h0, h2, ← EReal.coe_mul]
  rw [Finset.sum_congr rfl fun d _ => e d, ← coe_sum]
  refine congrArg Real.toEReal ?_
  rw [← Finset.sum_range (n := 128) (f := fun d => (if d < 64 then Q (512 * i + R.val % 512) (64 * (4 * g + R.val / 512) + d) else 0) * KV g s.val d)]
  rw [sum_low _ fun d h _ => by rw [if_neg (by omega), zero_mul]]
  unfold aS
  rw [show (4 * g + R.val / 512) / 4 = g by omega]
  exact Finset.sum_congr rfl fun d hd => by rw [if_pos (Finset.mem_range.mp hd)]

include h1 h2 in
theorem dscore_real (R : Fin 2048) (s : Fin 16384) : ∑ d : Fin 128, k1_pay56 x1 (ix2 R d) * x2 (ix3 0 s d)
    = ((aDP D KV (4 * g + R.val / 512) (512 * i + R.val % 512) s.val : ℝ) : EReal) := by
  have hR := R.isLt
  have e : ∀ d : Fin 128, k1_pay56 x1 (ix2 R d) * x2 (ix3 0 s d)
      = (((if d.val < 64 then 0 else D (512 * i + R.val % 512) (64 * (4 * g + R.val / 512) + (d.val - 64))) * KV g s.val d.val : ℝ) : EReal) := fun d => by
    rw [drow_real D g i x1 h1, h2, ← EReal.coe_mul]
  rw [Finset.sum_congr rfl fun d _ => e d, ← coe_sum]
  refine congrArg Real.toEReal ?_
  rw [← Finset.sum_range (n := 128) (f := fun d => (if d < 64 then 0 else D (512 * i + R.val % 512) (64 * (4 * g + R.val / 512) + (d - 64))) * KV g s.val d)]
  rw [sum_high _ fun d h => by rw [if_pos h, zero_mul]]
  unfold aDP
  rw [show (4 * g + R.val / 512) / 4 = g by omega]
  exact Finset.sum_congr rfl fun d hd => by rw [if_neg (by omega), Nat.add_sub_cancel_left]

include h0 h2 h3 in
theorem bp_real (R : Fin 2048) (s : Fin 16384) : bp (k1_pay55 x0) (k1_pay1 x3) x2 R s
    = ((aP Q KV (4 * g + R.val / 512) (512 * i + R.val % 512) s.val : ℝ) : EReal) := by
  unfold bp
  rw [score_real Q KV g i x0 x2 h0 h2, bpay1_apply, h3, ← EReal.coe_sub, Ideal.exp_coe]
  refine congrArg Real.toEReal ?_
  unfold aP
  rw [Real.exp_sub, Real.exp_log (aZ_pos _ _ _ _)]

include h0 h1 h2 h3 h4 in
theorem bds_real (R : Fin 2048) (s : Fin 16384) : bds (k1_pay55 x0) (k1_pay56 x1) (k1_pay1 x3) (k1_pay2 x4) x2 R s
    = ((aDS Q D KV (4 * g + R.val / 512) (512 * i + R.val % 512) s.val : ℝ) : EReal) := by
  unfold bds
  rw [bp_real Q KV g i x0 x2 x3 h0 h2 h3, dscore_real D KV g i x1 x2 h1 h2, bpay2_apply, h4, ← EReal.coe_sub, ← EReal.coe_mul]
  rfl

/-- A sum over the stacked rows, head by head. -/
theorem sum_stacked (f : ℕ → ℕ → ℝ) :
    ∑ R : Fin 2048, f (R.val / 512) (R.val % 512) = ∑ hh ∈ Finset.range 4, ∑ r ∈ Finset.range 512, f hh r := by
  rw [← Finset.sum_range (n := 2048) (f := fun R => f (R / 512) (R % 512)), show (2048 : ℕ) = 512 * 4 from rfl, ← sum_blocks 512 4]
  refine Finset.sum_congr rfl fun hh _ => Finset.sum_congr rfl fun r hr => ?_
  have hr' := Finset.mem_range.mp hr
  rw [show (512 * hh + r) / 512 = hh by omega, show (512 * hh + r) % 512 = r by omega]

include h0 h1 h2 h3 h4 in
/-- What a grid point adds to the keys' and values' gradient, in real numbers. -/
theorem bcontr_real (c : Fin 128) (s : Fin 16384) : bcontr (k1_pay55 x0) (k1_pay56 x1) (k1_pay1 x3) (k1_pay2 x4) x2 c s
    = ((contr Q D KV g i c.val s.val : ℝ) : EReal) := by
  unfold bcontr
  simp only [bds_real Q D KV g i x0 x1 x2 x3 x4 h0 h1 h2 h3 h4, bp_real Q KV g i x0 x2 x3 h0 h2 h3,
    qrow_real Q g i x0 h0, drow_real D g i x1 h1, ← EReal.coe_mul, ← coe_sum, ← EReal.coe_add, ← Finset.sum_add_distrib]
  refine congrArg Real.toEReal ?_
  unfold contr
  rw [← sum_stacked fun hh r => if c.val < 64 then aDS Q D KV (4 * g + hh) (512 * i + r) s.val * Q (512 * i + r) (64 * (4 * g + hh) + c.val)
    else aP Q KV (4 * g + hh) (512 * i + r) s.val * D (512 * i + r) (64 * (4 * g + hh) + (c.val - 64))]
  refine Finset.sum_congr rfl fun R _ => ?_
  split_ifs
  · rw [zero_mul, add_zero, mul_comm]
  · rw [zero_mul, zero_add, mul_comm]

include h0 h1 h2 h3 h4 in
/-- The queries' gradient at a stacked row of a grid point, in real numbers. -/
theorem bdqAll_real (R : Fin 2048) (d : Fin 128) : bdqAll x0 x1 x2 x3 x4 R d
    = ((aDQ Q D KV (4 * g + R.val / 512) (512 * i + R.val % 512) d.val : ℝ) : EReal) := by
  have hR := R.isLt
  unfold bdqAll
  have e : ∀ n ∈ Finset.range 32, bdq (k1_pay55 x0) (k1_pay56 x1) (k1_pay1 x3) (k1_pay2 x4) x2 n R d
      = ((∑ t ∈ Finset.range 512, aDS Q D KV (4 * g + R.val / 512) (512 * i + R.val % 512) (512 * n + t) * KV g (512 * n + t) d.val : ℝ) : EReal) := by
    intro n hn
    have hn' := Finset.mem_range.mp hn
    unfold bdq
    rw [Finset.sum_range, coe_sum]
    refine Finset.sum_congr rfl fun t _ => ?_
    have ht := t.isLt
    rw [dif_pos (by omega), bds_real Q D KV g i x0 x1 x2 x3 x4 h0 h1 h2 h3 h4, h2, ← EReal.coe_mul]
  rw [Finset.sum_congr rfl e, ← coe_sum]
  refine congrArg Real.toEReal ?_
  unfold aDQ
  rw [show (4 * g + R.val / 512) / 4 = g by omega]
  exact sum_blocks 512 32 fun t => aDS Q D KV (4 * g + R.val / 512) (512 * i + R.val % 512) t * KV g t d.val

end point

end Cert.KernelIdeal.Att

end

end
-- ==== Proof.BwdArr.lean ====
module
public import proofs.«01_k».proof.Proof.BwdValue
public import proofs.«01_k».proof.Proof.Gen.KernelIdeal.Frame
public import Idealize.ShloMosaic.Lib.Pipeline.ValueKit.Geometry

@[expose] public section

set_option maxRecDepth 16384

noncomputable section

namespace Cert.KernelIdeal.Att

open Cert.KernelIdeal Cert.KernelIdeal.Gen AttSpec
open Idealize.ShloMosaic Idealize.ShloMosaic.TcCoe Idealize.ShloMosaic.Tactic Idealize.SL.Sem

theorem ix1_0 : ∀ t : Fin cfg1.N, win1_0.index t = ![t.val % 32, t.val / 32] :=
  (by decide +kernel : ∀ t : Fin grid1.N, _)
theorem ix1_1 : ∀ t : Fin cfg1.N, win1_1.index t = ![t.val % 32, t.val / 32] :=
  (by decide +kernel : ∀ t : Fin grid1.N, _)
theorem ix1_2 : ∀ t : Fin cfg1.N, win1_2.index t = ![t.val / 32, 0, 0] :=
  (by decide +kernel : ∀ t : Fin grid1.N, _)
theorem ix1_3 : ∀ t : Fin cfg1.N, win1_3.index t = ![t.val / 32, t.val % 32, 0] :=
  (by decide +kernel : ∀ t : Fin grid1.N, _)
theorem ix1_4 : ∀ t : Fin cfg1.N, win1_4.index t = ![t.val / 32, t.val % 32, 0] :=
  (by decide +kernel : ∀ t : Fin grid1.N, _)
theorem ix1_5 : ∀ t : Fin cfg1.N, win1_5.index t = ![t.val % 32, t.val / 32] :=
  (by decide +kernel : ∀ t : Fin grid1.N, _)
theorem ix1_6 : ∀ t : Fin cfg1.N, win1_6.index t = ![t.val / 32, 0, 0] :=
  (by decide +kernel : ∀ t : Fin grid1.N, _)

section arr
variable (V : (c : Dev nD) → (b : Ref sig .tc) → Buf (Elt Ideal) ((c : Thread nD τ).loc b)) (c : Dev nD)
  (Q D : ℕ → ℕ → ℝ) (KV : ℕ → ℕ → ℕ → ℝ) (t : Fin cfg1.N)
  (hQ : ∀ (s : Fin 16384) (x : Fin 512), V c main_v2 (ix2 s x) = ((Q s x : ℝ) : EReal))
  (hD : ∀ (s : Fin 16384) (x : Fin 512), V c main_arg3 (ix2 s x) = ((D s x : ℝ) : EReal))
  (hKV : ∀ (g : Fin 2) (s : Fin 16384) (d : Fin 128), V c main_v12 (ix3 g s d) = ((KV g s d : ℝ) : EReal))
  (hL : ∀ (h : Fin 8) (s : Fin 16384), V c main_v13_1 (ix3 h s 0) = ((Real.log (aZ Q KV h s) : ℝ) : EReal))
  (hDel : ∀ (h : Fin 8) (s : Fin 16384), V c main_v18 (ix3 h s 0) = ((aDel Q D KV h s : ℝ) : EReal))

include hQ in
theorem iblk1_0_apply (r : Fin 512) (x : Fin 256) :
    iblk1 V c 0 t (ix2 r x) = ((Q (512 * (t.val % 32) + r.val) (256 * (t.val / 32) + x.val) : ℝ) : EReal) := by
  have ht : t.val < 64 := t.isLt
  rw [← hQ ⟨512 * (t.val % 32) + r.val, by omega⟩ ⟨256 * (t.val / 32) + x.val, by omega⟩]
  blk_simp [iblk1]
  refine congrArg (V c main_v2) (funext fun a => Fin.ext ?_)
  match a with
  | ⟨0, _⟩ => blk_simp [ix1_0]; simp [ix2]; omega
  | ⟨1, _⟩ => blk_simp [ix1_0]; simp [ix2]; omega

include hD in
theorem iblk1_1_apply (r : Fin 512) (x : Fin 256) :
    iblk1 V c 1 t (ix2 r x) = ((D (512 * (t.val % 32) + r.val) (256 * (t.val / 32) + x.val) : ℝ) : EReal) := by
  have ht : t.val < 64 := t.isLt
  rw [← hD ⟨512 * (t.val % 32) + r.val, by omega⟩ ⟨256 * (t.val / 32) + x.val, by omega⟩]
  blk_simp [iblk1]
  refine congrArg (V c main_arg3) (funext fun a => Fin.ext ?_)
  match a with
  | ⟨0, _⟩ => blk_simp [ix1_1]; simp [ix2]; omega
  | ⟨1, _⟩ => blk_simp [ix1_1]; simp [ix2]; omega

include hKV in
theorem iblk1_2_apply (s : Fin 16384) (d : Fin 128) :
    iblk1 V c 2 t (ix3 0 s d) = ((KV (t.val / 32) s.val d.val : ℝ) : EReal) := by
  have ht : t.val < 64 := t.isLt
  rw [← hKV ⟨t.val / 32, by omega⟩ s d]
  blk_simp [iblk1]
  refine congrArg (V c main_v12) (funext fun a => Fin.ext ?_)
  match a with
  | ⟨0, _⟩ => blk_simp [ix1_2]; simp [ix3]
  | ⟨1, _⟩ => blk_simp [ix1_2]
  | ⟨2, _⟩ => blk_simp [ix1_2]

include hL in
theorem iblk1_3_apply (hh : Fin 4) (r : Fin 512) :
    iblk1 V c 3 t (ix3 hh r 0) = ((Real.log (aZ Q KV (4 * (t.val / 32) + hh.val) (512 * (t.val % 32) + r.val)) : ℝ) : EReal) := by
  have ht : t.val < 64 := t.isLt
  have hh' := hh.isLt
  refine Eq.trans ?_ (hL ⟨4 * (t.val / 32) + hh.val, by omega⟩ ⟨512 * (t.val % 32) + r.val, by omega⟩)
  blk_simp [iblk1]
  refine congrArg (V c main_v13_1) (funext fun a => Fin.ext ?_)
  match a with
  | ⟨0, _⟩ => blk_simp [ix1_3]; simp [ix3]; omega
  | ⟨1, _⟩ => blk_simp [ix1_3]; simp [ix3]; omega
  | ⟨2, _⟩ => blk_simp [ix1_3]

include hDel in
theorem iblk1_4_apply (hh : Fin 4) (r : Fin 512) :
    iblk1 V c 4 t (ix3 hh r 0) = ((aDel Q D KV (4 * (t.val / 32) + hh.val) (512 * (t.val % 32) + r.val) : ℝ) : EReal) := by
  have ht : t.val < 64 := t.isLt
  have hh' := hh.isLt
  refine Eq.trans ?_ (hDel ⟨4 * (t.val / 32) + hh.val, by omega⟩ ⟨512 * (t.val % 32) + r.val, by omega⟩)
  blk_simp [iblk1]
  refine congrArg (V c main_v18) (funext fun a => Fin.ext ?_)
  match a with
  | ⟨0, _⟩ => blk_simp [ix1_4]; simp [ix3]; omega
  | ⟨1, _⟩ => blk_simp [ix1_4]; simp [ix3]; omega
  | ⟨2, _⟩ => blk_simp [ix1_4]

include hQ hD hKV hL hDel

/-- What a grid point leaves in the queries' gradient's block. -/
theorem outs1_dq (r : Fin 512) (x : Fin 256) : (outsAt1 V c t.val t.isLt).1 (ix2 r x)
    = ((aDQ Q D KV (4 * (t.val / 32) + x.val / 64) (512 * (t.val % 32) + r.val) (x.val % 64) : ℝ) : EReal) := by
  have hx := x.isLt
  have hr := r.isLt
  have key : bdqAll (iblk1 V c 0 t) (iblk1 V c 1 t) (iblk1 V c 2 t) (iblk1 V c 3 t) (iblk1 V c 4 t)
      ⟨512 * (x.val / 64) + r.val, by omega⟩ ⟨x.val % 64, by omega⟩
      = ((aDQ Q D KV (4 * (t.val / 32) + x.val / 64) (512 * (t.val % 32) + r.val) (x.val % 64) : ℝ) : EReal) := by
    refine (bdqAll_real Q D KV (t.val / 32) (t.val % 32) (iblk1 V c 0 t) (iblk1 V c 1 t) (iblk1 V c 2 t) (iblk1 V c 3 t) (iblk1 V c 4 t)
      (iblk1_0_apply V c Q t hQ) (iblk1_1_apply V c D t hD) (iblk1_2_apply V c KV t hKV) (iblk1_3_apply V c Q KV t hL)
      (iblk1_4_apply V c Q D KV t hDel) _ _).trans ?_
    dsimp only
    rw [show (512 * (x.val / 64) + r.val) / 512 = x.val / 64 by omega, show (512 * (x.val / 64) + r.val) % 512 = r.val by omega]
  by_cases h0 : t.val % 32 = 0
  · rw [outsAt1_A V c t h0]
    dsimp only
    rw [out1_A_5_apply]
    exact key
  · rw [outsAt1_B V c t h0]
    dsimp only
    rw [out1_B_5_apply]
    exact key

/-- What a grid point leaves in the keys' and values' gradient's block: the contributions of the group's points so far. -/
theorem outs1_dkv (d : Fin 128) (s : Fin 16384) : ∀ (n : ℕ) (hn : n < cfg1.N), (outsAt1 V c n hn).2 (ix3 0 d s)
    = ((∑ i ∈ Finset.range (n % 32 + 1), contr Q D KV (n / 32) i d.val s.val : ℝ) : EReal) := by
  have key : ∀ t : Fin cfg1.N, bcontr (k1_pay55 (iblk1 V c 0 t)) (k1_pay56 (iblk1 V c 1 t)) (k1_pay1 (iblk1 V c 3 t)) (k1_pay2 (iblk1 V c 4 t)) (iblk1 V c 2 t) d s
      = ((contr Q D KV (t.val / 32) (t.val % 32) d.val s.val : ℝ) : EReal) := fun t =>
    bcontr_real Q D KV (t.val / 32) (t.val % 32) (iblk1 V c 0 t) (iblk1 V c 1 t) (iblk1 V c 2 t) (iblk1 V c 3 t) (iblk1 V c 4 t)
      (iblk1_0_apply V c Q t hQ) (iblk1_1_apply V c D t hD) (iblk1_2_apply V c KV t hKV) (iblk1_3_apply V c Q KV t hL)
      (iblk1_4_apply V c Q D KV t hDel) d s
  intro n
  induction n with
  | zero =>
    intro hn
    have e := outsAt1_A V c ⟨0, hn⟩ (Nat.zero_mod 32)
    dsimp only at e
    rw [e]
    dsimp only
    rw [out1_A_6_apply, key ⟨0, hn⟩]
    simp
  | succ n ih =>
    intro hn
    have hn' : n + 1 < 64 := hn
    by_cases h0 : (n + 1) % 32 = 0
    · have e := outsAt1_A V c ⟨n + 1, hn⟩ h0
      dsimp only at e
      rw [e]
      dsimp only
      rw [out1_A_6_apply, key ⟨n + 1, hn⟩]
      dsimp only
      rw [h0]
      simp
    · have e := outsAt1_B V c ⟨n + 1, hn⟩ h0
      dsimp only at e
      rw [e]
      dsimp only
      rw [out1_B_6_apply, key ⟨n + 1, hn⟩]
      dsimp only
      have e2 := ih (Nat.lt_of_succ_lt hn)
      have e3 : (outsAt1 V c (n + 1 - 1) (Nat.lt_of_le_of_lt (Nat.sub_le _ _) hn)).2 (ix3 0 d s)
          = ((∑ i ∈ Finset.range (n % 32 + 1), contr Q D KV (n / 32) i d.val s.val : ℝ) : EReal) := e2
      rw [e3, ← EReal.coe_add, show (n + 1) % 32 = n % 32 + 1 by omega, show (n + 1) / 32 = n / 32 by omega,
        Finset.sum_range_succ _ (n % 32 + 1)]

/-- The queries' gradient's array after the run. -/
theorem arr_dq : (dat1 V c).arrAt 5 cfg1.N = fun y : S16384x512.Idx => ((aDQ Q D KV ((y 1).val / 64) (y 0).val ((y 1).val % 64) : ℝ) : EReal) := by
  refine (dat1 V c).arrAt_eq_of_covers 5 _ (by decide +kernel) fun t hf y => ?_
  have ht : t.val < 64 := t.isLt
  blk_simp [ix1_5]
  rw [after1_5]
  obtain ⟨r, x, rfl⟩ : ∃ (r : Fin 512) (x : Fin 256), y = ix2 r x := ⟨y 0, y 1, eq_ix2 y⟩
  refine (outs1_dq V c Q D KV t hQ hD hKV hL hDel r x).trans ?_
  have h0 : (ix2 r x 0 : Fin 512).val = r.val := rfl
  have h1 : (ix2 r x 1 : Fin 256).val = x.val := rfl
  rw [h0, h1, show (t.val / 32 * 256 + x.val) / 64 = 4 * (t.val / 32) + x.val / 64 by omega,
    show (t.val / 32 * 256 + x.val) % 64 = x.val % 64 by omega, Nat.mul_comm (t.val % 32) 512]

/-- The keys' and values' gradient's array after the run. -/
theorem arr_dkv : (dat1 V c).arrAt 6 cfg1.N = fun y : S2x128x16384.Idx =>
    ((if (y 1).val < 64 then aDK Q D KV (y 0).val (y 2).val (y 1).val else aDV Q D KV (y 0).val (y 2).val ((y 1).val - 64) : ℝ) : EReal) := by
  refine (dat1 V c).arrAt_eq_of_covers 6 _ (by decide +kernel) fun t hf y => ?_
  have ht : t.val < 64 := t.isLt
  have hf' := (flush1_6 t).mp hf
  blk_simp [ix1_6]
  rw [after1_6]
  obtain ⟨d, s, rfl⟩ : ∃ (d : Fin 128) (s : Fin 16384), y = ix3 0 d s := ⟨y 1, y 2, by
    rw [eq_ix3 y]
    exact congrArg (fun z => ix3 z (y 1) (y 2)) (Subsingleton.elim (α := Fin 1) _ _)⟩
  refine (outs1_dkv V c Q D KV hQ hD hKV hL hDel d s t.val t.isLt).trans ?_
  have h0 : (ix3 (0 : Fin 1) d s 0 : Fin 1).val = 0 := rfl
  have h1 : (ix3 (0 : Fin 1) d s 1 : Fin 128).val = d.val := rfl
  have h2 : (ix3 (0 : Fin 1) d s 2 : Fin 16384).val = s.val := rfl
  rw [hf', sum_contr]
  simp only [h0, h1, h2]

end arr

end Cert.KernelIdeal.Att

end

end
-- ==== Proof.FwdArr.lean ====
module
public import proofs.«01_k».proof.Proof.FwdValue
public import proofs.«01_k».proof.Proof.Spec
public import proofs.«01_k».proof.Proof.Gen.KernelIdeal.Frame
public import Idealize.ShloMosaic.Lib.Pipeline.ValueKit.Geometry

@[expose] public section

set_option maxRecDepth 16384

noncomputable section

namespace Cert.KernelIdeal.Att

open Cert.KernelIdeal Cert.KernelIdeal.Gen AttSpec
open Idealize.ShloMosaic Idealize.ShloMosaic.TcCoe Idealize.ShloMosaic.Tactic Idealize.SL.Sem

theorem ix0_0 : ∀ t : Fin cfg0.N, win0_0.index t = ![t.val % 64, t.val / 64] :=
  (by decide +kernel : ∀ t : Fin grid0.N, _)
theorem ix0_1 : ∀ t : Fin cfg0.N, win0_1.index t = ![t.val / 64, 0, 0] :=
  (by decide +kernel : ∀ t : Fin grid0.N, _)
theorem ix0_2 : ∀ t : Fin cfg0.N, win0_2.index t = ![t.val % 64, t.val / 64] :=
  (by decide +kernel : ∀ t : Fin grid0.N, _)
theorem ix0_3 : ∀ t : Fin cfg0.N, win0_3.index t = ![t.val / 64, t.val % 64, 0] :=
  (by decide +kernel : ∀ t : Fin grid0.N, _)

section arr
variable (V : (c : Dev nD) → (b : Ref sig .tc) → Buf (Elt Ideal) ((c : Thread nD τ).loc b)) (c : Dev nD)
  (Q : ℕ → ℕ → ℝ) (KV : ℕ → ℕ → ℕ → ℝ)

theorem sc_block (g i hh r s : ℕ) (hg : hh < 4) :
    sc (fun r x => Q (256 * i + r) (256 * g + x)) (KV g) hh r s = aS Q KV (4 * g + hh) (256 * i + r) s := by
  unfold sc aS
  rw [show (4 * g + hh) / 4 = g by omega]
  exact Finset.sum_congr rfl fun d _ => by
    dsimp only
    rw [show 256 * g + (64 * hh + d) = 64 * (4 * g + hh) + d by omega]

theorem sz_block (g i hh r : ℕ) (hg : hh < 4) :
    sz (fun r x => Q (256 * i + r) (256 * g + x)) (KV g) hh r = aZ Q KV (4 * g + hh) (256 * i + r) := by
  unfold sz aZ
  exact Finset.sum_congr rfl fun s _ => by rw [sc_block Q KV g i hh r s hg]

theorem iblk0_0_apply (hQ : ∀ (s : Fin 16384) (x : Fin 512), V c main_v2 (ix2 s x) = ((Q s x : ℝ) : EReal)) (t : Fin cfg0.N) (r x : Fin 256) :
    iblk0 V c 0 t (ix2 r x) = ((Q (256 * (t.val % 64) + r.val) (256 * (t.val / 64) + x.val) : ℝ) : EReal) := by
  have ht : t.val < 128 := t.isLt
  rw [← hQ ⟨256 * (t.val % 64) + r.val, by omega⟩ ⟨256 * (t.val / 64) + x.val, by omega⟩]
  blk_simp [iblk0]
  refine congrArg (V c main_v2) (funext fun a => Fin.ext ?_)
  match a with
  | ⟨0, _⟩ => blk_simp [ix0_0]; simp [ix2]; omega
  | ⟨1, _⟩ => blk_simp [ix0_0]; simp [ix2]; omega

theorem iblk0_1_apply (hKV : ∀ (g : Fin 2) (s : Fin 16384) (d : Fin 128), V c main_v12 (ix3 g s d) = ((KV g s d : ℝ) : EReal)) (t : Fin cfg0.N) (s : Fin 16384) (d : Fin 128) :
    iblk0 V c 1 t (ix3 0 s d) = ((KV (t.val / 64) s.val d.val : ℝ) : EReal) := by
  have ht : t.val < 128 := t.isLt
  rw [← hKV ⟨t.val / 64, by omega⟩ s d]
  blk_simp [iblk0]
  refine congrArg (V c main_v12) (funext fun a => Fin.ext ?_)
  match a with
  | ⟨0, _⟩ => blk_simp [ix0_1]; simp [ix3]
  | ⟨1, _⟩ => blk_simp [ix0_1]
  | ⟨2, _⟩ => blk_simp [ix0_1]

theorem outsAt0_snd (t : Fin cfg0.N) : (outsAt0 V c t).2 = out0_A_3 c (grid0.coords t) (ms0_0 t) (hs0_0 t) (ms0_1 t) (hs0_1 t) (ms0_2 t) (hs0_2 t) (ms0_3 t) (hs0_3 t) (iblk0 V c 0 t) (iblk0 V c 1 t) := by
  unfold outsAt0; dsimp only

variable (hQ : ∀ (s : Fin 16384) (x : Fin 512), V c main_v2 (ix2 s x) = ((Q s x : ℝ) : EReal))
  (hKV : ∀ (g : Fin 2) (s : Fin 16384) (d : Fin 128), V c main_v12 (ix3 g s d) = ((KV g s d : ℝ) : EReal))
include hQ hKV

/-- What a grid point leaves in the output's block. -/
theorem outs0_o (t : Fin cfg0.N) (r x : Fin 256) : (outsAt0 V c t).1 (ix2 r x)
    = ((aO Q KV (4 * (t.val / 64) + x.val / 64) (256 * (t.val % 64) + r.val) (x.val % 64) : ℝ) : EReal) := by
  have hx := x.isLt
  refine (out0_2_real (iblk0 V c 0 t) (iblk0 V c 1 t) (fun r x => Q (256 * (t.val % 64) + r) (256 * (t.val / 64) + x)) (KV (t.val / 64))
    c (grid0.coords t) (ms0_0 t) (hs0_0 t) (ms0_1 t) (hs0_1 t) (ms0_2 t) (hs0_2 t) (ms0_3 t) (hs0_3 t)
    (fun s d => iblk0_0_apply V c Q hQ t s d) (fun s d => iblk0_1_apply V c KV hKV t s d) r x).trans ?_
  refine congrArg Real.toEReal ?_
  unfold aO
  rw [show (4 * (t.val / 64) + x.val / 64) / 4 = t.val / 64 by omega]
  refine Finset.sum_congr rfl fun s _ => ?_
  unfold sp aP
  rw [sc_block Q KV _ _ _ _ _ (by omega), sz_block Q KV _ _ _ _ (by omega)]

/-- What a grid point leaves in the second output's block. -/
theorem outs0_lse (t : Fin cfg0.N) (hh : Fin 4) (r : Fin 256) : (outsAt0 V c t).2 (ix3 hh r 0)
    = ((Real.log (aZ Q KV (4 * (t.val / 64) + hh.val) (256 * (t.val % 64) + r.val)) : ℝ) : EReal) := by
  have hx := hh.isLt
  rw [outsAt0_snd V c t]
  refine (out0_3_real (iblk0 V c 0 t) (iblk0 V c 1 t) (fun r x => Q (256 * (t.val % 64) + r) (256 * (t.val / 64) + x)) (KV (t.val / 64))
    c (grid0.coords t) (ms0_0 t) (hs0_0 t) (ms0_1 t) (hs0_1 t) (ms0_2 t) (hs0_2 t) (ms0_3 t) (hs0_3 t)
    (fun s d => iblk0_0_apply V c Q hQ t s d) (fun s d => iblk0_1_apply V c KV hKV t s d) hh r).trans ?_
  exact congrArg (fun z : ℝ => Real.toEReal (Real.log z)) (sz_block Q KV (t.val / 64) (t.val % 64) hh.val r.val hx)

/-- The forward's output array after the run: the attention's output. -/
theorem arr_o : (dat0 V c).arrAt 2 cfg0.N = fun y : S16384x512.Idx => ((aO Q KV ((y 1).val / 64) (y 0).val ((y 1).val % 64) : ℝ) : EReal) := by
  refine (dat0 V c).arrAt_eq_of_covers 2 _ (by decide +kernel) fun t hf y => ?_
  have ht : t.val < 128 := t.isLt
  blk_simp [ix0_2]
  rw [after0_2]
  obtain ⟨r, x, rfl⟩ : ∃ (r x : Fin 256), y = ix2 r x := ⟨y 0, y 1, eq_ix2 y⟩
  refine (outs0_o V c Q KV hQ hKV t r x).trans ?_
  have h0 : (ix2 r x 0 : Fin 256).val = r.val := rfl
  have h1 : (ix2 r x 1 : Fin 256).val = x.val := rfl
  rw [h0, h1, show (t.val / 64 * 256 + x.val) / 64 = 4 * (t.val / 64) + x.val / 64 by omega,
    show (t.val / 64 * 256 + x.val) % 64 = x.val % 64 by omega, Nat.mul_comm (t.val % 64) 256]

/-- The forward's second output array after the run: the logarithm of the sum of the exponentials. -/
theorem arr_lse : (dat0 V c).arrAt 3 cfg0.N = fun y : S8x16384x1.Idx => ((Real.log (aZ Q KV (y 0).val (y 1).val) : ℝ) : EReal) := by
  refine (dat0 V c).arrAt_eq_of_covers 3 _ (by decide +kernel) fun t hf y => ?_
  have ht : t.val < 128 := t.isLt
  blk_simp [ix0_3]
  rw [after0_3]
  obtain ⟨hh, r, rfl⟩ : ∃ (hh : Fin 4) (r : Fin 256), y = ix3 hh r 0 := ⟨y 0, y 1, by
    rw [eq_ix3 y]
    exact congrArg (ix3 (y 0) (y 1)) (Subsingleton.elim (α := Fin 1) _ _)⟩
  refine (outs0_lse V c Q KV hQ hKV t hh r).trans ?_
  have h0 : (ix3 hh r (0 : Fin 1) 0 : Fin 4).val = hh.val := rfl
  have h1 : (ix3 hh r (0 : Fin 1) 1 : Fin 256).val = r.val := rfl
  rw [h0, h1, Nat.mul_comm (t.val / 64) 4, Nat.mul_comm (t.val % 64) 256]

end arr

end Cert.KernelIdeal.Att

end

end
-- ==== Proof.HostRead.lean ====
module
public import proofs.«01_k».proof.Proof.Gen.KernelIdeal.Frame
public import proofs.«01_k».proof.Proof.BwdArr
public import proofs.«01_k».proof.Proof.FwdArr
public import Idealize.ShloMosaic.Lib.Pointwise
public import Idealize.ShloMosaic.Lib.StableHlo.RunRead
@[expose] public section
set_option maxRecDepth 16384
noncomputable section
namespace Cert.KernelIdeal.Att
open Cert.KernelIdeal Cert.KernelIdeal.Gen AttSpec
open Idealize.ShloMosaic Idealize.ShloMosaic.TcCoe Idealize.ShloMosaic.Tactic Idealize.SL.Sem Idealize.ShloMosaic.StableHlo

section host
variable (V : Valuation τ sig (Elt Ideal))

theorem host_v2 (v : S16384x512.Idx → EReal) (hv : V (Proc.devRef .tc main_arg0) = v) (s : Fin 16384) (x : Fin 512) :
    (after hostOps0 V (Proc.devRef .tc main_v2) (ix2 s x) : EReal) = v (ix2 s x) * FloatOps.ofBits (F := Ideal) .f32 0x3E000000#32 := by
  after_reads_simp
  rw [hv]
  pointwise []

theorem host_v12 (v w : S16384x128.Idx → EReal) (hv : V (Proc.devRef .tc main_arg1) = v) (hw : V (Proc.devRef .tc main_arg2) = w)
    (g : Fin 2) (s : Fin 16384) (d : Fin 128) :
    (after hostOps0 V (Proc.devRef .tc main_v12) (ix3 g s d) : EReal) =
      if h : d.val < 64 then v (ix2 s ⟨64 * g.val + d.val, by omega⟩)
      else w (ix2 s ⟨64 * g.val + (d.val - 64), by omega⟩) := by
  after_reads_simp
  pointwise []
  by_cases hg : g.val < 1
  · rw [dif_pos hg]
    after_reads_simp
    pointwise []
    after_reads_simp
    rw [hv, hw]
    pointwise []
    by_cases hd : d.val < 64
    · rw [dif_pos hd, dif_pos hd]
      exact at2 v rfl (by dsimp only; omega)
    · rw [dif_neg hd, dif_neg hd]
      exact at2 w rfl (by dsimp only; omega)
  · rw [dif_neg hg]
    after_reads_simp
    pointwise []
    after_reads_simp
    rw [hv, hw]
    pointwise []
    by_cases hd : d.val < 64
    · rw [dif_pos hd, dif_pos hd]
      exact at2 v rfl (by dsimp only; omega)
    · rw [dif_neg hd, dif_neg hd]
      exact at2 w rfl (by dsimp only; omega)

theorem host_v18 (v w : S16384x512.Idx → EReal) (hv : V (Proc.devRef .tc main_arg3) = v) (hw : V (Proc.devRef .tc main_v13_0) = w) (h : Fin 8) (s : Fin 16384) :
    @Eq EReal (after hostOps1 V (Proc.devRef .tc main_v18) (ix3 h s 0))
      (∑ d : Fin 64, v (ix2 s ⟨64 * h.val + d.val, by omega⟩) * w (ix2 s ⟨64 * h.val + d.val, by omega⟩)) := by
  after_reads_simp
  rw [hv, hw]
  pointwise []
  exact Finset.sum_congr rfl fun d _ => congrArg₂ _ (at2 v rfl (by dsimp only; omega)) (at2 w rfl (by dsimp only; omega))
end host
end Cert.KernelIdeal.Att
end
end
-- ==== Proof.KerValue.lean ====
module
public import proofs.«01_k».proof.Proof.HostRead
@[expose] public section
set_option maxRecDepth 16384
noncomputable section
namespace Cert.KernelIdeal.Att
open Cert.KernelIdeal Cert.KernelIdeal.Gen AttSpec
open Idealize.ShloMosaic Idealize.ShloMosaic.TcCoe Idealize.ShloMosaic.Tactic Idealize.SL.Sem Idealize.ShloMosaic.StableHlo

section ker
variable (m : (ℓ : Loc nD τ sig) → Buf (Elt Ideal) ℓ) (ρ : Dev nD → PrngReg) (c : Dev nD)
  (x0 : S16384x512.Idx → EReal) (x1 x2 : S16384x128.Idx → EReal) (x3 : S16384x512.Idx → EReal)
  (e0 : m ((c : Thread nD τ).loc main_arg0) = x0) (e1 : m ((c : Thread nD τ).loc main_arg1) = x1)
  (e2 : m ((c : Thread nD τ).loc main_arg2) = x2) (e3 : m ((c : Thread nD τ).loc main_arg3) = x3)
  (Q D : ℕ → ℕ → ℝ) (KV : ℕ → ℕ → ℕ → ℝ)
  (hx0 : ∀ (s : Fin 16384) (x : Fin 512), x0 (ix2 s x) * FloatOps.ofBits (F := Ideal) .f32 0x3E000000#32 = ((Q s.val x.val : ℝ) : EReal))
  (hx1 : ∀ (s : Fin 16384) (x : Fin 128), x1 (ix2 s x) = ((KV (x.val / 64) s.val (x.val % 64) : ℝ) : EReal))
  (hx2 : ∀ (s : Fin 16384) (x : Fin 128), x2 (ix2 s x) = ((KV (x.val / 64) s.val (64 + x.val % 64) : ℝ) : EReal))
  (hx3 : ∀ (s : Fin 16384) (x : Fin 512), x3 (ix2 s x) = ((D s.val x.val : ℝ) : EReal))

include e0 hx0 in
theorem k_q (s : Fin 16384) (x : Fin 512) : V1 m ρ c main_v2 (ix2 s x) = ((Q s x : ℝ) : EReal) :=
  (host_v2 (W0 m ρ c) x0 e0 s x).trans (hx0 s x)
include e1 e2 hx1 hx2 in
theorem k_kv (g : Fin 2) (s : Fin 16384) (d : Fin 128) : V1 m ρ c main_v12 (ix3 g s d) = ((KV g s d : ℝ) : EReal) := by
  refine (host_v12 (W0 m ρ c) x1 x2 e1 e2 g s d).trans ?_
  split_ifs with h
  · refine (hx1 s _).trans ?_
    dsimp only
    rw [show (64 * g.val + d.val) / 64 = g.val by omega, show (64 * g.val + d.val) % 64 = d.val by omega]
  · refine (hx2 s _).trans ?_
    dsimp only
    rw [show (64 * g.val + (d.val - 64)) / 64 = g.val by omega, show 64 + (64 * g.val + (d.val - 64)) % 64 = d.val by omega]
theorem v3_v2 : V3 m ρ c main_v2 = V1 m ρ c main_v2 :=
  (W3_of m ρ c main_v2 (by decide)).trans (W2_of m ρ c main_v2 (by decide))
theorem v3_v12 : V3 m ρ c main_v12 = V1 m ρ c main_v12 :=
  (W3_of m ρ c main_v12 (by decide)).trans (W2_of m ρ c main_v12 (by decide))
include e0 e1 e2 hx0 hx1 hx2
theorem k_o : V3 m ρ c main_v13_0 = fun y : S16384x512.Idx => ((aO Q KV ((y 1).val / 64) (y 0).val ((y 1).val % 64) : ℝ) : EReal) :=
  (W3_of m ρ c main_v13_0 (by decide)).trans ((W2_arr m ρ c 2).trans
    (arr_o (V1 m ρ) c Q KV (k_q m ρ c x0 e0 Q hx0) (k_kv m ρ c x1 x2 e1 e2 KV hx1 hx2)))
theorem k_lse (h : Fin 8) (s : Fin 16384) : V3 m ρ c main_v13_1 (ix3 h s 0) = ((Real.log (aZ Q KV h s) : ℝ) : EReal) :=
  congrFun ((W3_of m ρ c main_v13_1 (by decide)).trans ((W2_arr m ρ c 3).trans
    (arr_lse (V1 m ρ) c Q KV (k_q m ρ c x0 e0 Q hx0) (k_kv m ρ c x1 x2 e1 e2 KV hx1 hx2)))) (ix3 h s 0)
include e3 hx3
omit e0 e1 e2 hx0 hx1 hx2 in
theorem k_d (s : Fin 16384) (x : Fin 512) : V3 m ρ c main_arg3 (ix2 s x) = ((D s x : ℝ) : EReal) :=
  (congrFun ((W3_args m ρ c main_arg3 (by decide)).trans e3) (ix2 s x)).trans (hx3 s x)
theorem k_del (h : Fin 8) (s : Fin 16384) : V3 m ρ c main_v18 (ix3 h s 0) = ((aDel Q D KV h s : ℝ) : EReal) := by
  refine (host_v18 (W2 m ρ c) x3 _ ((W2_args m ρ c main_arg3 (by decide)).trans e3)
    ((W3_of m ρ c main_v13_0 (by decide)).symm.trans (k_o m ρ c x0 x1 x2 e0 e1 e2 Q KV hx0 hx1 hx2)) h s).trans ?_
  rw [aDel, coe_sum, ← Fin.sum_univ_eq_sum_range (n := 64) (f := fun d => ((D s.val (64 * h.val + d) * aO Q KV h.val s.val d : ℝ) : EReal))]
  refine Finset.sum_congr rfl fun d _ => ?_
  rw [hx3, EReal.coe_mul]
  show _ * ((aO Q KV ((64 * h.val + d.val) / 64) s.val ((64 * h.val + d.val) % 64) : ℝ) : EReal) = _
  rw [show (64 * h.val + d.val) / 64 = h.val by omega, show (64 * h.val + d.val) % 64 = d.val by omega]

theorem k_res0 : W4 m ρ c (Proc.devRef .tc main_v19_0) = fun y : S16384x512.Idx => ((aDQ Q D KV ((y 1).val / 64) (y 0).val ((y 1).val % 64) : ℝ) : EReal) :=
  (W4_arr m ρ c 5).trans (arr_dq (V3 m ρ) c Q D KV
    (fun s x => (congrFun (v3_v2 m ρ c) (ix2 s x)).trans (k_q m ρ c x0 e0 Q hx0 s x)) (k_d m ρ c x3 e3 D hx3)
    (fun g s d => (congrFun (v3_v12 m ρ c) (ix3 g s d)).trans (k_kv m ρ c x1 x2 e1 e2 KV hx1 hx2 g s d))
    (k_lse m ρ c x0 x1 x2 e0 e1 e2 Q KV hx0 hx1 hx2) (k_del m ρ c x0 x1 x2 x3 e0 e1 e2 e3 Q D KV hx0 hx1 hx2 hx3))
theorem k_res1 : W4 m ρ c (Proc.devRef .tc main_v19_1) = fun y : S2x128x16384.Idx =>
    ((if (y 1).val < 64 then aDK Q D KV (y 0).val (y 2).val (y 1).val else aDV Q D KV (y 0).val (y 2).val ((y 1).val - 64) : ℝ) : EReal) :=
  (W4_arr m ρ c 6).trans (arr_dkv (V3 m ρ) c Q D KV
    (fun s x => (congrFun (v3_v2 m ρ c) (ix2 s x)).trans (k_q m ρ c x0 e0 Q hx0 s x)) (k_d m ρ c x3 e3 D hx3)
    (fun g s d => (congrFun (v3_v12 m ρ c) (ix3 g s d)).trans (k_kv m ρ c x1 x2 e1 e2 KV hx1 hx2 g s d))
    (k_lse m ρ c x0 x1 x2 e0 e1 e2 Q KV hx0 hx1 hx2) (k_del m ρ c x0 x1 x2 x3 e0 e1 e2 e3 Q D KV hx0 hx1 hx2 hx3))
omit e3 hx3 in
theorem k_res2 : W4 m ρ c (Proc.devRef .tc main_v13_0) = fun y : S16384x512.Idx => ((aO Q KV ((y 1).val / 64) (y 0).val ((y 1).val % 64) : ℝ) : EReal) :=
  (W4_of m ρ c main_v13_0 (by decide)).trans (k_o m ρ c x0 x1 x2 e0 e1 e2 Q KV hx0 hx1 hx2)
end ker
end Cert.KernelIdeal.Att
end
end
-- ==== Proof.RefRead.lean ====
module
public import proofs.«01_k».proof.Proof.Gen.ReferenceIdeal.Read
public import proofs.«01_k».proof.Proof.Spec
public import proofs.«01_k».proof.Proof.FwdRow
public import Idealize.ShloMosaic.Lib.Pointwise
@[expose] public section
set_option maxRecDepth 16384
noncomputable section
namespace Cert.KernelIdeal.Att
open Idealize.ShloMosaic Idealize.ShloMosaic.TcCoe Idealize.ShloMosaic.Tactic Idealize.SL.Sem
open Cert.ReferenceIdeal Cert.ReferenceIdeal.Gen Cert.ReferenceIdeal.Read AttSpec

/-- Two reads of a rank-three array agree when their indices agree as numbers. -/
theorem at3 {α : Type} {m n p : ℕ} (x : Shape.Idx ⟨3, ![m, n, p]⟩ → α) {a a' : Fin m} {b b' : Fin n} {c c' : Fin p}
    (ha : a.val = a'.val) (hb : b.val = b'.val) (hc : c.val = c'.val) : x (ix3 a b c) = x (ix3 a' b' c') := by
  rw [Fin.ext ha, Fin.ext hb, Fin.ext hc]
theorem at4 {α : Type} {m n p q : ℕ} (x : Shape.Idx ⟨4, ![m, n, p, q]⟩ → α) {a a' : Fin m} {b b' : Fin n} {c c' : Fin p} {d d' : Fin q}
    (ha : a.val = a'.val) (hb : b.val = b'.val) (hc : c.val = c'.val) (hd : d.val = d'.val) : x (ix4 a b c d) = x (ix4 a' b' c' d') := by
  rw [Fin.ext ha, Fin.ext hb, Fin.ext hc, Fin.ext hd]

variable (x0 : (⟨S16384x512, .f32⟩ : BufTy).Contents (Elt Ideal)) (x1 x2 : (⟨S16384x128, .f32⟩ : BufTy).Contents (Elt Ideal))
  (x3 : (⟨S16384x512, .f32⟩ : BufTy).Contents (Elt Ideal))

theorem p1 (s : Fin 16384) (x : Fin 512) : val_main_v1 (F := Ideal) x0 (ix2 s x) = x0 (ix2 s x) * FloatOps.ofBits (F := Ideal) .f32 0x3E000000#32 := by
  pointwise [val_main_v1, val_main_v0, val_main_cst]
theorem p2 (s : Fin 16384) (g : Fin 2) (hh : Fin 4) (d : Fin 64) : val_main_v2 (F := Ideal) x0 (ix4 s g hh d) =
    val_main_v1 (F := Ideal) x0 (ix2 s ⟨64 * (4 * g.val + hh.val) + d.val, by omega⟩) := by
  unfold val_main_v2
  generalize val_main_v1 (F := Ideal) x0 = v
  pointwise []
  exact at2 v rfl (by dsimp only; omega)
theorem p3 (s : Fin 16384) (g : Fin 2) (d : Fin 64) : val_main_v3 (F := Ideal) x1 (ix3 s g d) = x1 (ix2 s ⟨64 * g.val + d.val, by omega⟩) := by
  unfold val_main_v3
  pointwise []
  exact at2 x1 rfl (by dsimp only; omega)
theorem p4 (s : Fin 16384) (g : Fin 2) (d : Fin 64) : val_main_v4 (F := Ideal) x2 (ix3 s g d) = x2 (ix2 s ⟨64 * g.val + d.val, by omega⟩) := by
  unfold val_main_v4
  pointwise []
  exact at2 x2 rfl (by dsimp only; omega)
theorem p6 (g : Fin 2) (hh : Fin 4) (s t : Fin 16384) : val_main_v6 (F := Ideal) x0 x1 (ix4 g hh s t) =
    ∑ d : Fin 64, val_main_v3 (F := Ideal) x1 (ix3 t g d) * val_main_v2 (F := Ideal) x0 (ix4 s g hh d) := by
  unfold val_main_v6 val_main_v5
  generalize val_main_v3 (F := Ideal) x1 = v
  generalize val_main_v2 (F := Ideal) x0 = w
  pointwise []
theorem drop_ix (g : Fin 2) (hh : Fin 4) (s t : Fin 16384) : reducesTo_S2x4x16384x16384_S2x4x16384_d3.drop (ix4 g hh s t) = ix3 g hh s := by
  funext a
  fin_cases a <;> rfl
theorem p25 (g : Fin 2) (hh : Fin 4) (s t : Fin 16384) : val_main_v25 (F := Ideal) x0 x1 (ix4 g hh s t) = val_main_v14 (F := Ideal) x0 x1 (ix3 g hh s) := by
  unfold val_main_v25 val_main_v24
  generalize val_main_v14 (F := Ideal) x0 x1 = w
  pointwise []
theorem p28 (g : Fin 2) (hh : Fin 4) (s : Fin 16384) : val_main_v28 (F := Ideal) x0 x1 (ix3 g hh s) = ∑ t : Fin 16384, val_main_v27 (F := Ideal) x0 x1 (ix4 g hh s t) := by
  unfold val_main_v28
  generalize val_main_v27 (F := Ideal) x0 x1 = w
  pointwise [val_main_cst_8]
theorem p31 (g : Fin 2) (hh : Fin 4) (s t : Fin 16384) : val_main_v31 (F := Ideal) x0 x1 (ix4 g hh s t) =
    Ideal.div (val_main_v27 (F := Ideal) x0 x1 (ix4 g hh s t)) (val_main_v28 (F := Ideal) x0 x1 (ix3 g hh s)) := by
  unfold val_main_v31 val_main_v30 val_main_v29
  generalize val_main_v27 (F := Ideal) x0 x1 = v
  generalize val_main_v28 (F := Ideal) x0 x1 = w
  pointwise []
theorem p43 (g : Fin 2) (hh : Fin 4) (s t : Fin 16384) : val_main_v43 (F := Ideal) x0 x1 (ix4 g hh s t) =
    Ideal.div (FloatOps.ofBits (F := Ideal) .f32 0x3F800000#32) (val_main_v28 (F := Ideal) x0 x1 (ix3 g hh s) * val_main_v28 (F := Ideal) x0 x1 (ix3 g hh s)) := by
  unfold val_main_v43 val_main_v34 val_main_v33 val_main_v32 val_main_v29
  generalize val_main_v28 (F := Ideal) x0 x1 = w
  pointwise [val_main_cst_9]
theorem p37 (s : Fin 16384) (x : Fin 512) : val_main_v37 (F := Ideal) x0 x1 x2 (ix2 s x) =
    ∑ t : Fin 16384, val_main_v4 (F := Ideal) x2 (ix3 t ⟨x.val / 64 / 4, by omega⟩ ⟨x.val % 64, by omega⟩) *
      val_main_v31 (F := Ideal) x0 x1 (ix4 ⟨x.val / 64 / 4, by omega⟩ ⟨x.val / 64 % 4, by omega⟩ s t) := by
  unfold val_main_v37 val_main_v36 val_main_v35
  generalize val_main_v4 (F := Ideal) x2 = v
  generalize val_main_v31 (F := Ideal) x0 x1 = w
  pointwise []
  refine Finset.sum_congr rfl fun t _ => congrArg₂ _ (at3 v ?_ ?_ ?_) (at4 w ?_ ?_ ?_ ?_) <;> dsimp only <;> omega
theorem p39 (g : Fin 2) (hh : Fin 4) (d : Fin 64) (s : Fin 16384) : val_main_v39 (F := Ideal) x3 (ix4 g d hh s) =
    x3 (ix2 s ⟨64 * (4 * g.val + hh.val) + d.val, by omega⟩) := by
  unfold val_main_v39 val_main_v38
  pointwise []
  exact at2 x3 rfl (by dsimp only; omega)
theorem p40 (g : Fin 2) (hh : Fin 4) (s t : Fin 16384) : val_main_v40 (F := Ideal) x2 x3 (ix4 g hh s t) =
    ∑ d : Fin 64, val_main_v39 (F := Ideal) x3 (ix4 g d hh s) * val_main_v4 (F := Ideal) x2 (ix3 t g d) := by
  unfold val_main_v40
  generalize val_main_v39 (F := Ideal) x3 = v
  generalize val_main_v4 (F := Ideal) x2 = w
  pointwise []
theorem p41 (t : Fin 16384) (g : Fin 2) (d : Fin 64) : val_main_v41 (F := Ideal) x0 x1 x3 (ix3 g d t) =
    ∑ hh : Fin 4, ∑ s : Fin 16384, val_main_v39 (F := Ideal) x3 (ix4 g d hh s) * val_main_v31 (F := Ideal) x0 x1 (ix4 g hh s t) := by
  unfold val_main_v41
  generalize val_main_v39 (F := Ideal) x3 = v
  generalize val_main_v31 (F := Ideal) x0 x1 = w
  pointwise []
theorem p52 (g : Fin 2) (hh : Fin 4) (s t : Fin 16384) : val_main_v52 (F := Ideal) x0 x1 x2 x3 (ix4 g hh s t) =
    -∑ t : Fin 16384, val_main_v45 (F := Ideal) x0 x1 x2 x3 (ix4 g hh s t) := by
  unfold val_main_v52 val_main_v51 val_main_v48 val_main_v47 val_main_v46
  generalize val_main_v45 (F := Ideal) x0 x1 x2 x3 = v
  pointwise [val_main_cst_10, val_main_cst_11]
  exact Fin.sum_univ_one _
theorem p45 (g : Fin 2) (hh : Fin 4) (s t : Fin 16384) : val_main_v45 (F := Ideal) x0 x1 x2 x3 (ix4 g hh s t) =
    val_main_v40 (F := Ideal) x2 x3 (ix4 g hh s t) * val_main_v43 (F := Ideal) x0 x1 (ix4 g hh s t) * val_main_v27 (F := Ideal) x0 x1 (ix4 g hh s t) := by
  unfold val_main_v45 val_main_v44
  generalize val_main_v40 (F := Ideal) x2 x3 = v
  generalize val_main_v43 (F := Ideal) x0 x1 = w
  generalize val_main_v27 (F := Ideal) x0 x1 = u
  pointwise []
theorem p54 (g : Fin 2) (hh : Fin 4) (s t : Fin 16384) : val_main_v54 (F := Ideal) x0 x1 x2 x3 (ix4 g hh s t) =
    (Ideal.div (val_main_v40 (F := Ideal) x2 x3 (ix4 g hh s t)) (val_main_v28 (F := Ideal) x0 x1 (ix3 g hh s)) +
      val_main_v52 (F := Ideal) x0 x1 x2 x3 (ix4 g hh s t)) * val_main_v27 (F := Ideal) x0 x1 (ix4 g hh s t) := by
  unfold val_main_v54 val_main_v53 val_main_v50 val_main_v49 val_main_v29
  generalize val_main_v40 (F := Ideal) x2 x3 = v
  generalize val_main_v28 (F := Ideal) x0 x1 = w
  generalize val_main_v27 (F := Ideal) x0 x1 = u
  generalize val_main_v52 (F := Ideal) x0 x1 x2 x3 = z
  pointwise []
theorem p62 (s : Fin 16384) (x : Fin 512) : val_main_v62 (F := Ideal) x0 x1 x2 x3 (ix2 s x) =
    ∑ t : Fin 16384, val_main_v54 (F := Ideal) x0 x1 x2 x3 (ix4 ⟨x.val / 64 / 4, by omega⟩ ⟨x.val / 64 % 4, by omega⟩ s t) *
      val_main_v3 (F := Ideal) x1 (ix3 t ⟨x.val / 64 / 4, by omega⟩ ⟨x.val % 64, by omega⟩) := by
  unfold val_main_v62 val_main_v57 val_main_v56 val_main_v55
  generalize val_main_v54 (F := Ideal) x0 x1 x2 x3 = v
  generalize val_main_v3 (F := Ideal) x1 = w
  pointwise []
  refine Finset.sum_congr rfl fun t _ => congrArg₂ _ (at4 v ?_ ?_ ?_ ?_) (at3 w ?_ ?_ ?_) <;> dsimp only <;> omega
theorem p58 (t : Fin 16384) (g : Fin 2) (d : Fin 64) : val_main_v58 (F := Ideal) x0 x1 x2 x3 (ix3 g t d) =
    ∑ s : Fin 16384, ∑ hh : Fin 4, val_main_v54 (F := Ideal) x0 x1 x2 x3 (ix4 g hh s t) * val_main_v2 (F := Ideal) x0 (ix4 s g hh d) := by
  unfold val_main_v58 val_main_v55
  generalize val_main_v54 (F := Ideal) x0 x1 x2 x3 = v
  generalize val_main_v2 (F := Ideal) x0 = w
  pointwise []
theorem p66 (g : Fin 2) (c : Fin 128) (t : Fin 16384) : val_main_v66 (F := Ideal) x0 x1 x2 x3 (ix3 g c t) =
    if h : c.val < 64 then val_main_v58 (F := Ideal) x0 x1 x2 x3 (ix3 g t ⟨c.val, h⟩)
    else val_main_v41 (F := Ideal) x0 x1 x3 (ix3 g ⟨c.val - 64, by omega⟩ t) := by
  unfold val_main_v66 val_main_v65 val_main_v63 val_main_v64 val_main_v61 val_main_v60 val_main_v59 val_main_v42
  generalize val_main_v58 (F := Ideal) x0 x1 x2 x3 = v
  generalize val_main_v41 (F := Ideal) x0 x1 x3 = w
  pointwise []
end Cert.KernelIdeal.Att
end
end
-- ==== Proof.RefValue.lean ====
module
public import proofs.«01_k».proof.Proof.RefRead
@[expose] public section
set_option maxRecDepth 16384
noncomputable section
namespace Cert.KernelIdeal.Att
open Idealize.ShloMosaic Idealize.ShloMosaic.TcCoe Idealize.ShloMosaic.Tactic Idealize.SL.Sem
open Cert.ReferenceIdeal Cert.ReferenceIdeal.Gen Cert.ReferenceIdeal.Read AttSpec

/-- A left fold of `max` from −∞ over real numbers is −∞ on the empty list and a real number otherwise. -/
theorem foldl_max_real {ι : Type} (f : ι → EReal) (hf : ∀ i, ∃ r : ℝ, f i = r) (l : List ι) (b : EReal)
    (hb : b = ⊥ ∧ l ≠ [] ∨ ∃ r : ℝ, b = r) : ∃ r : ℝ, l.foldl (fun r n => max r (f n)) b = r := by
  induction l generalizing b with
  | nil =>
    rcases hb with ⟨_, h⟩ | h
    · exact absurd rfl h
    · exact h
  | cons a l ih =>
    rw [List.foldl_cons]
    refine ih _ (.inr ?_)
    obtain ⟨r, hr⟩ := hf a
    rcases hb with ⟨h, _⟩ | ⟨r', h⟩
    · exact ⟨r, by rw [h, hr]; simp⟩
    · exact ⟨max r' r, by rw [h, hr]; exact (EReal.coe_strictMono.monotone.map_max).symm⟩

section value
variable (x0 : (⟨S16384x512, .f32⟩ : BufTy).Contents (Elt Ideal)) (x1 x2 : (⟨S16384x128, .f32⟩ : BufTy).Contents (Elt Ideal))
  (x3 : (⟨S16384x512, .f32⟩ : BufTy).Contents (Elt Ideal))
  (Q D : ℕ → ℕ → ℝ) (KV : ℕ → ℕ → ℕ → ℝ)
  (hx0 : ∀ (s : Fin 16384) (x : Fin 512), x0 (ix2 s x) * FloatOps.ofBits (F := Ideal) .f32 0x3E000000#32 = ((Q s.val x.val : ℝ) : EReal))
  (hx1 : ∀ (g : Fin 2) (s : Fin 16384) (d : Fin 64), x1 (ix2 s ⟨64 * g.val + d.val, by omega⟩) = ((KV g.val s.val d.val : ℝ) : EReal))
  (hx2 : ∀ (g : Fin 2) (s : Fin 16384) (d : Fin 64), x2 (ix2 s ⟨64 * g.val + d.val, by omega⟩) = ((KV g.val s.val (64 + d.val) : ℝ) : EReal))
  (hx3 : ∀ (s : Fin 16384) (x : Fin 512), x3 (ix2 s x) = ((D s.val x.val : ℝ) : EReal))
include hx0 hx1

omit hx0 hx1 in
theorem div4 (g : Fin 2) (hh : Fin 4) : (4 * g.val + hh.val) / 4 = g.val := by omega

theorem r6 (g : Fin 2) (hh : Fin 4) (s t : Fin 16384) :
    val_main_v6 (F := Ideal) x0 x1 (ix4 g hh s t) = ((aS Q KV (4 * g.val + hh.val) s.val t.val : ℝ) : EReal) := by
  rw [p6]
  unfold aS
  rw [coe_sum, ← Fin.sum_univ_eq_sum_range (n := 64) (f := fun d => ((Q s.val (64 * (4 * g.val + hh.val) + d) * KV ((4 * g.val + hh.val) / 4) t.val d : ℝ) : EReal))]
  refine Finset.sum_congr rfl fun d _ => ?_
  rw [p3, hx1, p2, p1, hx0, div4, mul_comm, EReal.coe_mul]

theorem r14 (g : Fin 2) (hh : Fin 4) (s : Fin 16384) : ∃ r : ℝ, val_main_v14 (F := Ideal) x0 x1 (ix3 g hh s) = r := by
  obtain ⟨r, hr⟩ : ∃ r : ℝ, val_main_v7 (F := Ideal) x0 x1 (ix3 g hh s) = r := by
    unfold val_main_v7 Host.reduce
    refine foldl_max_real (fun n => val_main_v6 (F := Ideal) x0 x1 (S2x4x16384x16384.rowMajor.symm n)) (fun n => ?_) _ _ (.inl ⟨ofBits_neg_inf, ?_⟩)
    · rw [eq_ix4 (S2x4x16384x16384.rowMajor.symm n)]
      exact ⟨_, r6 x0 x1 Q KV hx0 hx1 _ _ _ _⟩
    · refine List.ne_nil_of_mem (a := S2x4x16384x16384.rowMajor (ix4 g hh s ⟨0, by decide⟩)) (List.mem_filter.2 ⟨List.mem_finRange _, ?_⟩)
      rw [Equiv.symm_apply_apply]
      exact decide_eq_true (drop_ix g hh s _)
  refine ⟨r, ?_⟩
  rw [val_main_v14_apply, hr, val_main_v13_apply]
  show max (FloatOps.ofBits (F := Ideal) .f32 0xFF800000#32) (r : EReal) = r
  rw [Ideal.ofBits_def, ofBits_neg_inf]
  simp

/-- The reference's row maximum, as a real number. -/
def mx (x0 : (⟨S16384x512, .f32⟩ : BufTy).Contents (Elt Ideal)) (x1 : (⟨S16384x128, .f32⟩ : BufTy).Contents (Elt Ideal)) (g : Fin 2) (hh : Fin 4) (s : Fin 16384) : ℝ :=
  (val_main_v14 (F := Ideal) x0 x1 (ix3 g hh s)).toReal

theorem r27 (g : Fin 2) (hh : Fin 4) (s t : Fin 16384) :
    val_main_v27 (F := Ideal) x0 x1 (ix4 g hh s t) = ((Real.exp (aS Q KV (4 * g.val + hh.val) s.val t.val) / Real.exp (mx x0 x1 g hh s) : ℝ) : EReal) := by
  obtain ⟨r, hr⟩ := r14 x0 x1 Q KV hx0 hx1 g hh s
  rw [val_main_v27_apply, val_main_v26_apply, r6 x0 x1 Q KV hx0 hx1, p25, hr, mx, hr, EReal.toReal_coe, ← Real.exp_sub]
  show Ideal.exp (((_ : ℝ) : EReal) - ((_ : ℝ) : EReal)) = _
  rw [← EReal.coe_sub, Ideal.exp_coe]

theorem r28 (g : Fin 2) (hh : Fin 4) (s : Fin 16384) :
    val_main_v28 (F := Ideal) x0 x1 (ix3 g hh s) = ((aZ Q KV (4 * g.val + hh.val) s.val / Real.exp (mx x0 x1 g hh s) : ℝ) : EReal) := by
  rw [p28, aZ, Finset.sum_div, coe_sum, ← Fin.sum_univ_eq_sum_range (n := 16384) (f := fun t => ((Real.exp (aS Q KV (4 * g.val + hh.val) s.val t) / Real.exp (mx x0 x1 g hh s) : ℝ) : EReal))]
  exact Finset.sum_congr rfl fun t _ => r27 x0 x1 Q KV hx0 hx1 g hh s t

omit hx0 hx1 in
theorem rL_ne (g : Fin 2) (hh : Fin 4) (s : Fin 16384) : aZ Q KV (4 * g.val + hh.val) s.val / Real.exp (mx x0 x1 g hh s) ≠ 0 :=
  ne_of_gt (div_pos (aZ_pos Q KV _ _) (Real.exp_pos _))

theorem r31 (g : Fin 2) (hh : Fin 4) (s t : Fin 16384) :
    val_main_v31 (F := Ideal) x0 x1 (ix4 g hh s t) = ((aP Q KV (4 * g.val + hh.val) s.val t.val : ℝ) : EReal) := by
  rw [p31, r27 x0 x1 Q KV hx0 hx1, r28 x0 x1 Q KV hx0 hx1, Ideal.div_coe (rL_ne x0 x1 Q KV g hh s), ← EReal.coe_mul]
  refine congrArg Real.toEReal ?_
  unfold aP
  have h1 := ne_of_gt (aZ_pos Q KV (4 * g.val + hh.val) s.val)
  have h2 := ne_of_gt (Real.exp_pos (mx x0 x1 g hh s))
  field_simp

theorem r43 (g : Fin 2) (hh : Fin 4) (s t : Fin 16384) :
    val_main_v43 (F := Ideal) x0 x1 (ix4 g hh s t) = ((Real.exp (mx x0 x1 g hh s) ^ 2 / aZ Q KV (4 * g.val + hh.val) s.val ^ 2 : ℝ) : EReal) := by
  have h1 := ne_of_gt (aZ_pos Q KV (4 * g.val + hh.val) s.val)
  have h2 := ne_of_gt (Real.exp_pos (mx x0 x1 g hh s))
  rw [p43, r28 x0 x1 Q KV hx0 hx1, ← EReal.coe_mul, Ideal.div_coe (mul_ne_zero (rL_ne x0 x1 Q KV g hh s) (rL_ne x0 x1 Q KV g hh s)),
    Ideal.ofBits_def, Ideal.ofBits_one_f32, one_mul]
  refine congrArg Real.toEReal ?_
  field_simp

include hx2
theorem r37 (s : Fin 16384) (x : Fin 512) :
    val_main_v37 (F := Ideal) x0 x1 x2 (ix2 s x) = ((aO Q KV (x.val / 64) s.val (x.val % 64) : ℝ) : EReal) := by
  rw [p37, aO, coe_sum, ← Fin.sum_univ_eq_sum_range (n := 16384) (f := fun t => ((aP Q KV (x.val / 64) s.val t * KV (x.val / 64 / 4) t (64 + x.val % 64) : ℝ) : EReal))]
  refine Finset.sum_congr rfl fun t _ => ?_
  rw [p4, hx2, r31 x0 x1 Q KV hx0 hx1, mul_comm, ← EReal.coe_mul, show 4 * (x.val / 64 / 4) + x.val / 64 % 4 = x.val / 64 by omega]

include hx3
omit hx0 hx1 in
theorem r40 (g : Fin 2) (hh : Fin 4) (s t : Fin 16384) :
    val_main_v40 (F := Ideal) x2 x3 (ix4 g hh s t) = ((aDP D KV (4 * g.val + hh.val) s.val t.val : ℝ) : EReal) := by
  rw [p40, aDP, coe_sum, ← Fin.sum_univ_eq_sum_range (n := 64) (f := fun d => ((D s.val (64 * (4 * g.val + hh.val) + d) * KV ((4 * g.val + hh.val) / 4) t.val (64 + d) : ℝ) : EReal))]
  refine Finset.sum_congr rfl fun d _ => ?_
  rw [p39, p4, hx2, hx3, div4, EReal.coe_mul]

theorem r45 (g : Fin 2) (hh : Fin 4) (s t : Fin 16384) :
    val_main_v45 (F := Ideal) x0 x1 x2 x3 (ix4 g hh s t) =
      ((aP Q KV (4 * g.val + hh.val) s.val t.val * aDP D KV (4 * g.val + hh.val) s.val t.val * (Real.exp (mx x0 x1 g hh s) / aZ Q KV (4 * g.val + hh.val) s.val) : ℝ) : EReal) := by
  rw [p45, r40 x2 x3 D KV hx2 hx3, r43 x0 x1 Q KV hx0 hx1, r27 x0 x1 Q KV hx0 hx1, ← EReal.coe_mul, ← EReal.coe_mul]
  refine congrArg Real.toEReal ?_
  unfold aP
  have h1 := ne_of_gt (aZ_pos Q KV (4 * g.val + hh.val) s.val)
  have h2 := ne_of_gt (Real.exp_pos (mx x0 x1 g hh s))
  field_simp

theorem r52 (g : Fin 2) (hh : Fin 4) (s t : Fin 16384) :
    val_main_v52 (F := Ideal) x0 x1 x2 x3 (ix4 g hh s t) =
      ((-(aDel Q D KV (4 * g.val + hh.val) s.val * (Real.exp (mx x0 x1 g hh s) / aZ Q KV (4 * g.val + hh.val) s.val)) : ℝ) : EReal) := by
  rw [p52, EReal.coe_neg, aDel_eq, Finset.sum_mul, coe_sum, ← Fin.sum_univ_eq_sum_range (n := 16384) (f := fun t => ((aP Q KV (4 * g.val + hh.val) s.val t * aDP D KV (4 * g.val + hh.val) s.val t * (Real.exp (mx x0 x1 g hh s) / aZ Q KV (4 * g.val + hh.val) s.val) : ℝ) : EReal))]
  exact congrArg Neg.neg (Finset.sum_congr rfl fun t _ => r45 x0 x1 x2 x3 Q D KV hx0 hx1 hx2 hx3 g hh s t)

theorem r54 (g : Fin 2) (hh : Fin 4) (s t : Fin 16384) :
    val_main_v54 (F := Ideal) x0 x1 x2 x3 (ix4 g hh s t) = ((aDS Q D KV (4 * g.val + hh.val) s.val t.val : ℝ) : EReal) := by
  rw [p54, r40 x2 x3 D KV hx2 hx3, r28 x0 x1 Q KV hx0 hx1, r52 x0 x1 x2 x3 Q D KV hx0 hx1 hx2 hx3, r27 x0 x1 Q KV hx0 hx1, Ideal.div_coe (rL_ne x0 x1 Q KV g hh s),
    ← EReal.coe_mul, ← EReal.coe_add, ← EReal.coe_mul]
  refine congrArg Real.toEReal ?_
  unfold aDS aP
  have h1 := ne_of_gt (aZ_pos Q KV (4 * g.val + hh.val) s.val)
  have h2 := ne_of_gt (Real.exp_pos (mx x0 x1 g hh s))
  field_simp
  try ring

theorem r62 (s : Fin 16384) (x : Fin 512) :
    val_main_v62 (F := Ideal) x0 x1 x2 x3 (ix2 s x) = ((aDQ Q D KV (x.val / 64) s.val (x.val % 64) : ℝ) : EReal) := by
  rw [p62, aDQ, coe_sum, ← Fin.sum_univ_eq_sum_range (n := 16384) (f := fun t => ((aDS Q D KV (x.val / 64) s.val t * KV (x.val / 64 / 4) t (x.val % 64) : ℝ) : EReal))]
  refine Finset.sum_congr rfl fun t _ => ?_
  rw [p3, hx1, r54 x0 x1 x2 x3 Q D KV hx0 hx1 hx2 hx3, ← EReal.coe_mul, show 4 * (x.val / 64 / 4) + x.val / 64 % 4 = x.val / 64 by omega]

theorem r58 (t : Fin 16384) (g : Fin 2) (d : Fin 64) :
    val_main_v58 (F := Ideal) x0 x1 x2 x3 (ix3 g t d) = ((aDK Q D KV g.val t.val d.val : ℝ) : EReal) := by
  rw [p58, Finset.sum_comm, aDK, coe_sum, ← Fin.sum_univ_eq_sum_range (n := 4) (f := fun hh => ((∑ s ∈ Finset.range 16384, aDS Q D KV (4 * g.val + hh) s t.val * Q s (64 * (4 * g.val + hh) + d.val) : ℝ) : EReal))]
  refine Finset.sum_congr rfl fun hh _ => ?_
  rw [coe_sum, ← Fin.sum_univ_eq_sum_range (n := 16384) (f := fun s => ((aDS Q D KV (4 * g.val + hh.val) s t.val * Q s (64 * (4 * g.val + hh.val) + d.val) : ℝ) : EReal))]
  refine Finset.sum_congr rfl fun s _ => ?_
  rw [r54 x0 x1 x2 x3 Q D KV hx0 hx1 hx2 hx3, p2, p1, hx0, ← EReal.coe_mul]

omit hx2 in
theorem r41 (t : Fin 16384) (g : Fin 2) (d : Fin 64) :
    val_main_v41 (F := Ideal) x0 x1 x3 (ix3 g d t) = ((aDV Q D KV g.val t.val d.val : ℝ) : EReal) := by
  rw [p41, aDV, coe_sum, ← Fin.sum_univ_eq_sum_range (n := 4) (f := fun hh => ((∑ s ∈ Finset.range 16384, aP Q KV (4 * g.val + hh) s t.val * D s (64 * (4 * g.val + hh) + d.val) : ℝ) : EReal))]
  refine Finset.sum_congr rfl fun hh _ => ?_
  rw [coe_sum, ← Fin.sum_univ_eq_sum_range (n := 16384) (f := fun s => ((aP Q KV (4 * g.val + hh.val) s t.val * D s (64 * (4 * g.val + hh.val) + d.val) : ℝ) : EReal))]
  refine Finset.sum_congr rfl fun s _ => ?_
  rw [r31 x0 x1 Q KV hx0 hx1, p39, hx3, mul_comm, ← EReal.coe_mul]

theorem r66 (g : Fin 2) (c : Fin 128) (t : Fin 16384) :
    val_main_v66 (F := Ideal) x0 x1 x2 x3 (ix3 g c t) =
      ((if c.val < 64 then aDK Q D KV g.val t.val c.val else aDV Q D KV g.val t.val (c.val - 64) : ℝ) : EReal) := by
  rw [p66]
  split_ifs with h
  · rw [r58 x0 x1 x2 x3 Q D KV hx0 hx1 hx2 hx3]
  · rw [r41 x0 x1 x3 Q D KV hx0 hx1 hx3]
end value

section clean
variable (x0 : Shape.Idx ⟨2, ![16384, 512]⟩ → EReal) (x1 x2 : Shape.Idx ⟨2, ![16384, 128]⟩ → EReal) (x3 : Shape.Idx ⟨2, ![16384, 512]⟩ → EReal)
  (Q D : ℕ → ℕ → ℝ) (KV : ℕ → ℕ → ℕ → ℝ)
  (hx0 : ∀ (s : Fin 16384) (x : Fin 512), x0 (ix2 s x) * FloatOps.ofBits (F := Ideal) .f32 0x3E000000#32 = ((Q s.val x.val : ℝ) : EReal))
  (hx1 : ∀ (s : Fin 16384) (x : Fin 128), x1 (ix2 s x) = ((KV (x.val / 64) s.val (x.val % 64) : ℝ) : EReal))
  (hx2 : ∀ (s : Fin 16384) (x : Fin 128), x2 (ix2 s x) = ((KV (x.val / 64) s.val (64 + x.val % 64) : ℝ) : EReal))
  (hx3 : ∀ (s : Fin 16384) (x : Fin 512), x3 (ix2 s x) = ((D s.val x.val : ℝ) : EReal))
include hx1 in
theorem keys_real (g : Fin 2) (s : Fin 16384) (d : Fin 64) : x1 (ix2 s ⟨64 * g.val + d.val, by omega⟩) = ((KV g.val s.val d.val : ℝ) : EReal) := by
  rw [hx1]
  dsimp only
  rw [show (64 * g.val + d.val) / 64 = g.val by omega, show (64 * g.val + d.val) % 64 = d.val by omega]
include hx2 in
theorem vals_real (g : Fin 2) (s : Fin 16384) (d : Fin 64) : x2 (ix2 s ⟨64 * g.val + d.val, by omega⟩) = ((KV g.val s.val (64 + d.val) : ℝ) : EReal) := by
  rw [hx2]
  dsimp only
  rw [show (64 * g.val + d.val) / 64 = g.val by omega, show (64 * g.val + d.val) % 64 = d.val by omega]
include hx0 hx1 hx2
/-- The reference's attention is the specification's. -/
theorem ref_o (s : Fin 16384) (x : Fin 512) : val_main_v37 (F := Ideal) x0 x1 x2 (ix2 s x) = ((aO Q KV (x.val / 64) s.val (x.val % 64) : ℝ) : EReal) :=
  r37 x0 x1 x2 Q KV hx0 (keys_real x1 KV hx1) (vals_real x2 KV hx2) s x
include hx3
/-- The reference's gradient of the queries is the specification's. -/
theorem ref_dq (s : Fin 16384) (x : Fin 512) : val_main_v62 (F := Ideal) x0 x1 x2 x3 (ix2 s x) = ((aDQ Q D KV (x.val / 64) s.val (x.val % 64) : ℝ) : EReal) :=
  r62 x0 x1 x2 x3 Q D KV hx0 (keys_real x1 KV hx1) (vals_real x2 KV hx2) hx3 s x
/-- The reference's gradients of the keys and values are the specification's. -/
theorem ref_dkv (g : Fin 2) (c : Fin 128) (t : Fin 16384) : val_main_v66 (F := Ideal) x0 x1 x2 x3 (ix3 g c t) =
    ((if c.val < 64 then aDK Q D KV g.val t.val c.val else aDV Q D KV g.val t.val (c.val - 64) : ℝ) : EReal) :=
  r66 x0 x1 x2 x3 Q D KV hx0 (keys_real x1 KV hx1) (vals_real x2 KV hx2) hx3 g c t
end clean
end Cert.KernelIdeal.Att
end
end
-- ==== Proof.Finite.lean ====
module
public import proofs.«01_k».proof.Pre_finite
public import Idealize.ShloMosaic.PureOps.Ideal
public import Idealize.ShloMosaic.Lib.Pointwise
@[expose] public section
set_option maxRecDepth 16384
noncomputable section
namespace Cert.Pre_finite
open Idealize.ShloMosaic Idealize.ShloMosaic.Tactic

/-- The side conditions of the precondition hold. -/
theorem facts : Facts := ⟨by decide, by decide⟩

theorem top_f32 : Ideal.ofBits FTy.f32 0x7F800000#32 = ⊤ := by
  simp [Ideal.ofBits, Ideal.ieee]

/-- An extended real whose absolute value is below +∞ is a real number. -/
theorem real_of_lt (x : EReal) (h : BitVec.ofBool (decide (FloatOps.absf (F := Ideal) (φ := .f32) x < Ideal.ofBits FTy.f32 0x7F800000#32)) = 1#1) :
    x = ((x.toReal : ℝ) : EReal) := by
  rw [top_f32] at h
  have h1 : max x (-x) < (⊤ : EReal) := by
    by_contra hc
    rw [show decide (FloatOps.absf (F := Ideal) (φ := .f32) x < (⊤ : EReal)) = false from decide_eq_false hc] at h
    exact absurd h (by decide)
  have h2 := max_lt_iff.1 h1
  refine (EReal.coe_toReal (ne_of_lt h2.1) fun hb => ?_).symm
  rw [hb] at h2
  exact absurd h2.2 (by simp)

/-- Where the precondition's comparison is all ones, the array is real. -/
theorem real512 (x : FVec Ideal S16384x512 .f32) (h : S_.BroadcastsInDim S16384x512 (![] : Fin 0 → Fin S16384x512.rank))
    (e : cmpf .olt (Host.absf x) (broadcastInDim S16384x512 ![] h (constant S_ .f32 0x7F800000#32)) = fun _ => 1#1) (y : S16384x512.Idx) :
    x y = (((x y : EReal).toReal : ℝ) : EReal) := by
  have e' := congrFun e y
  pointwise [] at e'
  exact real_of_lt _ e'
theorem real128 (x : FVec Ideal S16384x128 .f32) (h : S_.BroadcastsInDim S16384x128 (![] : Fin 0 → Fin S16384x128.rank))
    (e : cmpf .olt (Host.absf x) (broadcastInDim S16384x128 ![] h (constant S_ .f32 0x7F800000#32)) = fun _ => 1#1) (y : S16384x128.Idx) :
    x y = (((x y : EReal).toReal : ℝ) : EReal) := by
  have e' := congrFun e y
  pointwise [] at e'
  exact real_of_lt _ e'
end Cert.Pre_finite
end
end
-- ==== Proof.Algebraic.lean ====
module
public import proofs.«01_k».proof.Defs
public import proofs.«01_k».proof.Proof.Run
public import proofs.«01_k».proof.Proof.KerValue
public import proofs.«01_k».proof.Proof.RefValue
public import proofs.«01_k».proof.Proof.Finite
public import proofs.«01_k».proof.Proof.Gen.ReferenceIdeal.Run
@[expose] public section
set_option maxRecDepth 16384
noncomputable section
namespace Cert.KernelIdeal.Att
open AttSpec
open Idealize.ShloMosaic Idealize.ShloMosaic.TcCoe Idealize.ShloMosaic.Tactic Idealize.SL.Sem Idealize.ShloMosaic.StableHlo

/-- A matrix of extended reals read at natural numbers, as a real number. -/
def rd {m n : ℕ} (x : Shape.Idx ⟨2, ![m, n]⟩ → EReal) (i j : ℕ) : ℝ :=
  if h : i < m ∧ j < n then (x (ix2 ⟨i, h.1⟩ ⟨j, h.2⟩)).toReal else 0

theorem rd_eq {m n : ℕ} (x : Shape.Idx ⟨2, ![m, n]⟩ → EReal) (a : Fin m) (b : Fin n) (i j : ℕ) (hi : i = a.val) (hj : j = b.val) :
    rd x i j = (x (ix2 a b)).toReal := by
  subst hi hj
  unfold rd
  rw [dif_pos ⟨a.isLt, b.isLt⟩]

/-- The keys and values side by side, as the step's arrays give them. -/
def kvOf (x1 x2 : Shape.Idx ⟨2, ![16384, 128]⟩ → EReal) (g t d : ℕ) : ℝ := if d < 64 then rd x1 t (64 * g + d) else rd x2 t (64 * g + (d - 64))

/-- The scaled queries, as the step's array gives them. -/
def qOf (x0 : Shape.Idx ⟨2, ![16384, 512]⟩ → EReal) : ℕ → ℕ → ℝ := rd fun y => x0 y * FloatOps.ofBits (F := Ideal) .f32 0x3E000000#32

theorem eighth : FloatOps.ofBits (F := Ideal) .f32 0x3E000000#32 = ((1 / 8 : ℝ) : EReal) := by
  rw [Ideal.ofBits_def]
  simp [Ideal.ofBits, Ideal.ieee]
  refine congrArg Real.toEReal ?_
  norm_num

section reals
variable (x0 : Shape.Idx ⟨2, ![16384, 512]⟩ → EReal) (x1 x2 : Shape.Idx ⟨2, ![16384, 128]⟩ → EReal) (x3 : Shape.Idx ⟨2, ![16384, 512]⟩ → EReal)
theorem q_real (h : ∀ y, x0 y = (((x0 y).toReal : ℝ) : EReal)) (s : Fin 16384) (x : Fin 512) :
    x0 (ix2 s x) * FloatOps.ofBits (F := Ideal) .f32 0x3E000000#32 = ((qOf x0 s.val x.val : ℝ) : EReal) := by
  rw [qOf, rd_eq _ s x _ _ rfl rfl, h, eighth, ← EReal.coe_mul, EReal.toReal_coe]
theorem d_real (h : ∀ y, x3 y = (((x3 y).toReal : ℝ) : EReal)) (s : Fin 16384) (x : Fin 512) : x3 (ix2 s x) = ((rd x3 s.val x.val : ℝ) : EReal) := by
  rw [rd_eq _ s x _ _ rfl rfl, ← h]
theorem k_real (h : ∀ y, x1 y = (((x1 y).toReal : ℝ) : EReal)) (s : Fin 16384) (x : Fin 128) :
    x1 (ix2 s x) = ((kvOf x1 x2 (x.val / 64) s.val (x.val % 64) : ℝ) : EReal) := by
  rw [kvOf, if_pos (by omega), rd_eq x1 s x _ _ rfl (by omega), ← h]
theorem v_real (h : ∀ y, x2 y = (((x2 y).toReal : ℝ) : EReal)) (s : Fin 16384) (x : Fin 128) :
    x2 (ix2 s x) = ((kvOf x1 x2 (x.val / 64) s.val (64 + x.val % 64) : ℝ) : EReal) := by
  rw [kvOf, if_neg (by omega), rd_eq x2 s x _ _ rfl (by omega), ← h]
end reals

/-- From finite arguments, the two attention calls and the reference's plain attention with its derivative end with the same
    arrays: the gradient of the queries, the gradients of the keys and values, and the attention's output. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.facts) := by
  intro m g m' g' hpre hm
  have hr : ∀ c : Dev Cert.KernelIdeal.nD, _ := fun c => by
    obtain ⟨p0, p1, p2, p3⟩ := hpre c
    exact And.intro (Cert.Pre_finite.real512 _ _ p0) (And.intro (Cert.Pre_finite.real128 _ _ p1) (And.intro (Cert.Pre_finite.real128 _ _ p2) (Cert.Pre_finite.real512 _ _ p3)))
  refine ⟨fun c => Cert.KernelIdeal.Gen.W4 m g c (Proc.devRef .tc Cert.KernelIdeal.main_v19_0), fun c => Cert.KernelIdeal.Gen.W4 m g c (Proc.devRef .tc Cert.KernelIdeal.main_v19_1),
    fun c => Cert.KernelIdeal.Gen.W4 m g c (Proc.devRef .tc Cert.KernelIdeal.main_v13_0), ?_, ?_⟩
  · refine (θ_run _ _ _).mono (fun r h c => ?_) (run (F := Ideal) m g)
    exact ⟨h c _ (Cert.KernelIdeal.Gen.mem_uc Cert.KernelIdeal.main_v19_0 (by decide)), h c _ (Cert.KernelIdeal.Gen.mem_uc Cert.KernelIdeal.main_v19_1 (by decide)),
      h c _ (Cert.KernelIdeal.Gen.mem_uc Cert.KernelIdeal.main_v13_0 (by decide)),
      (h c _ (Cert.KernelIdeal.Gen.mem_uc Cert.KernelIdeal.main_arg0 (by decide))).trans (Cert.KernelIdeal.Gen.W4_main_arg0 m g c),
      (h c _ (Cert.KernelIdeal.Gen.mem_uc Cert.KernelIdeal.main_arg1 (by decide))).trans (Cert.KernelIdeal.Gen.W4_main_arg1 m g c),
      (h c _ (Cert.KernelIdeal.Gen.mem_uc Cert.KernelIdeal.main_arg2 (by decide))).trans (Cert.KernelIdeal.Gen.W4_main_arg2 m g c),
      (h c _ (Cert.KernelIdeal.Gen.mem_uc Cert.KernelIdeal.main_arg3 (by decide))).trans (Cert.KernelIdeal.Gen.W4_main_arg3 m g c)⟩
  · refine (θ_run _ _ _).mono (fun r h c => ?_) (Cert.ReferenceIdeal.Value.run (F := Ideal) m' g')
    obtain ⟨h62, h66, h37, a⟩ := h c
    obtain ⟨f0, f1, f2, f3⟩ := hr c
    obtain ⟨m0, m1, m2, m3⟩ := hm c
    have q := q_real _ f0
    have k := k_real _ (m ((c : Thread Cert.KernelIdeal.nD Cert.KernelIdeal.τ).loc Cert.KernelIdeal.main_arg2)) f1
    have v := v_real (m ((c : Thread Cert.KernelIdeal.nD Cert.KernelIdeal.τ).loc Cert.KernelIdeal.main_arg1)) _ f2
    have d := d_real _ f3
    refine ⟨(h62.trans (Cert.ReferenceIdeal.Read.val_main_v62_eq m' c)).trans ?_, (h66.trans (Cert.ReferenceIdeal.Read.val_main_v66_eq m' c)).trans ?_,
      (h37.trans (Cert.ReferenceIdeal.Read.val_main_v37_eq _ _ _)).trans ?_, a⟩
    · rw [m0, m1, m2, m3]
      refine Eq.trans ?_ (k_res0 m g c _ _ _ _ rfl rfl rfl rfl _ _ _ q k v d).symm
      funext y
      rw [eq_ix2 y]
      exact ref_dq _ _ _ _ _ _ _ q k v d (y 0) (y 1)
    · rw [m0, m1, m2, m3]
      refine Eq.trans ?_ (k_res1 m g c _ _ _ _ rfl rfl rfl rfl _ _ _ q k v d).symm
      funext y
      rw [eq_ix3 y]
      exact ref_dkv _ _ _ _ _ _ _ q k v d (y 0) (y 1) (y 2)
    · rw [m0, m1, m2]
      refine Eq.trans ?_ (k_res2 m g c _ _ _ rfl rfl rfl _ _ q k v).symm
      funext y
      rw [eq_ix2 y]
      exact ref_o _ _ _ _ _ q k v (y 0) (y 1)

end Cert.KernelIdeal.Att
end
end
-- ==== Proof.TailRun.lean ====
module
public import proofs.«01_k».proof.Proof.Gen.Kernel2Ideal.Frame
@[expose] public section
set_option maxRecDepth 16384
noncomputable section
namespace Cert.Tail
open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ
variable (m : (ℓ : Loc nD τ sig) → Buf (Elt F) ℓ) (ρ : Dev nD → PrngReg)

-- plain definitions in a metavariable's type
set_option backward.isDefEq.respectTransparency.types false in
/-- Every execution of the twelve calls and the host operations around them ends, and every buffer of a TensorCore then holds what
    the fold over the segments, `W15`, gives it. -/
theorem run : θ_run defs (onTc (τ := τ) (main (F := F))) ⟨m, fun _ => 0, ρ⟩ (fun r => ∀ c : Dev nD,
      ∀ b ∈ Pipeline.ucRefs τ sig, r.2.mem (((c : Thread nD τ)).1, b) = W15 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]
        · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h hz => h)

end Cert.Tail
end
end
-- ==== Proof.TailSpec.lean ====
module
public import proofs.«01_k».proof.Proof.Sums
public import Idealize.ShloMosaic.Lib.StableHlo.RunRead

@[expose] public section

set_option maxRecDepth 16384

noncomputable section

namespace Cert.Tail

open Idealize.ShloMosaic

/-! The layers after the attention, in real numbers: matrices are functions of a row and a column. -/

/-- A matrix of real numbers. -/
abbrev Mat (m n : ℕ) := Fin m → Fin n → ℝ

/-- The small constant under the root of the normalisation. -/
def eps : ℝ := 8796093 / 2 ^ 43

section spec
variable {l m n k : ℕ}

/-- The inverse root of a row's mean square. -/
def rs (x : Fin n → ℝ) : ℝ := (√((∑ k, x k * x k) / (n : ℝ) + eps))⁻¹
/-- The normalised rows. -/
def nr (x : Mat m n) : Mat m n := fun i j => x i j * rs (x i)
/-- The normalised rows, scaled by column. -/
def nrm (x : Mat m n) (g : Mat 1 n) : Mat m n := fun i j => nr x i j * g 0 j
/-- The gradient of the scaled normalisation with respect to its argument. -/
def nrx (dy x : Mat m n) (g : Mat 1 n) : Mat m n := fun i j =>
  rs (x i) * (dy i j * g 0 j - nr x i j * ((∑ k, dy i k * g 0 k * nr x i k) / (n : ℝ)))
/-- The gradient of the scaled normalisation with respect to its scale. -/
def nrg (dy x : Mat m n) : Mat 1 n := fun _ j => ∑ i, dy i j * nr x i j
/-- The product of two matrices. -/
def mm (a : Mat m k) (b : Mat k n) : Mat m n := fun i j => ∑ c, a i c * b c j
/-- The product of a matrix with the transpose of another. -/
def nt (a : Mat m k) (b : Mat n k) : Mat m n := fun i j => ∑ c, a i c * b j c
/-- The product of the transpose of a matrix with another. -/
def tn (a : Mat k m) (b : Mat k n) : Mat m n := fun i j => ∑ c, a c i * b c j
/-- Two matrices of 512 columns side by side. -/
def cat (a b : Mat m 512) : Mat m 1024 := fun i j =>
  if h : j.val < 512 then a i ⟨j.val, h⟩ else b i ⟨j.val - 512, by omega⟩
/-- The first 512 columns. -/
def lo (a : Mat m 1024) : Mat m 512 := fun i j => a i ⟨j.val, by omega⟩
/-- The last 512 columns. -/
def hi (a : Mat m 1024) : Mat m 512 := fun i j => a i ⟨512 + j.val, by omega⟩
/-- The square of the positive part. -/
def rel2 (u : Mat m n) : Mat m n := fun i j => max (u i j) 0 * max (u i j) 0
/-- A matrix plus a scaled normalisation. -/
def res (x y : Mat m n) (g : Mat 1 n) : Mat m n := fun i j => x i j + nrm y g i j
/-- The gradient of `rel2`. -/
def drel2 (df u : Mat m n) : Mat m n := fun i j => df i j * (2 * max (u i j) 0)
/-- The difference between the last layer's output and the target. -/
def err (h2 gate pp t : Mat m n) : Mat m n := fun i j => h2 i j + gate i j * pp i j - t i j
/-- The gradient of the gate's logits. -/
def dlog (d pp gate : Mat m n) : Mat m n := fun i j => d i j * pp i j * gate i j * (1 - gate i j)
/-- The product entry by entry. -/
def had (a b : Mat m n) : Mat m n := fun i j => a i j * b i j
/-- The sum entry by entry. -/
def plus (a b : Mat m n) : Mat m n := fun i j => a i j + b i j
/-- A matrix times a number. -/
def scl (a : Mat m n) (c : ℝ) : Mat m n := fun i j => a i j * c
/-- The sum of the squares of all entries. -/
def ssq (e : Mat m n) : ℝ := ∑ i, ∑ j, e i j * e i j
/-- The logistic function of every entry. -/
def sg (u : Mat m n) : Mat m n := fun i j => (1 + Real.exp (-(u i j)))⁻¹
end spec

theorem eps_pos : 0 < eps := by unfold eps; norm_num

theorem eps_bits : Ideal.ofBits .f32 0x358637BD#32 = ((eps : ℝ) : EReal) := by
  simp [Ideal.ofBits, Ideal.ieee]
  refine congrArg Real.toEReal ?_
  unfold eps
  norm_num

theorem k1024 : Ideal.ofBits .f32 0x44800000#32 = ((1024 : ℝ) : EReal) := by
  simp [Ideal.ofBits, Ideal.ieee]
  refine congrArg Real.toEReal ?_
  norm_num

theorem k512 : Ideal.ofBits .f32 0x44000000#32 = ((512 : ℝ) : EReal) := by
  simp [Ideal.ofBits, Ideal.ieee]
  refine congrArg Real.toEReal ?_
  norm_num

theorem div1024 (a : ℝ) : Ideal.div (a : EReal) ((1024 : ℝ) : EReal) = ((a / ((1024 : ℕ) : ℝ) : ℝ) : EReal) := by
  rw [Ideal.div_coe (by norm_num), ← EReal.coe_mul]
  refine congrArg Real.toEReal ?_
  push_cast
  ring

theorem div512 (a : ℝ) : Ideal.div (a : EReal) ((512 : ℝ) : EReal) = ((a / ((512 : ℕ) : ℝ) : ℝ) : EReal) := by
  rw [Ideal.div_coe (by norm_num), ← EReal.coe_mul]
  refine congrArg Real.toEReal ?_
  push_cast
  ring

theorem ms_pos {n : ℕ} (f : Fin n → ℝ) : 0 < (∑ k, f k * f k) / (n : ℝ) + eps :=
  add_pos_of_nonneg_of_pos (div_nonneg (Finset.sum_nonneg fun k _ => mul_self_nonneg _) (Nat.cast_nonneg _)) eps_pos

theorem rsq {n : ℕ} (f : Fin n → ℝ) : Ideal.rsqrt (((∑ k, f k * f k) / (n : ℝ) + eps : ℝ) : EReal) = ((rs f : ℝ) : EReal) := by
  have h := ms_pos f
  show (if _ < 0 then ⊥ else if _ = 0 then ⊤ else _) = _
  rw [if_neg (by linarith), if_neg (by linarith)]
  rfl

theorem esum {n : ℕ} (f : Fin n → ℝ) : ∑ i, (f i : EReal) = ((∑ i, f i : ℝ) : EReal) := (KernelIdeal.Att.coe_sum _ _).symm
theorem esub (a b : ℝ) : (a : EReal) - (b : EReal) = ((a - b : ℝ) : EReal) := (EReal.coe_sub _ _).symm
theorem eadd (a b : ℝ) : (a : EReal) + (b : EReal) = ((a + b : ℝ) : EReal) := (EReal.coe_add _ _).symm
theorem emul (a b : ℝ) : (a : EReal) * (b : EReal) = ((a * b : ℝ) : EReal) := (EReal.coe_mul _ _).symm
theorem emax (a b : ℝ) : max (a : EReal) (b : EReal) = ((max a b : ℝ) : EReal) := EReal.coe_strictMono.monotone.map_max.symm
theorem emax0 (a : ℝ) : max (a : EReal) 0 = ((max a 0 : ℝ) : EReal) := emax a 0

theorem elog (a : ℝ) : Ideal.logistic (a : EReal) = (((1 + Real.exp (-a))⁻¹ : ℝ) : EReal) := by
  unfold Ideal.logistic
  rw [← EReal.coe_neg, Ideal.exp_coe]
  have h : (1 : EReal) + ((Real.exp (-a) : ℝ) : EReal) = ((1 + Real.exp (-a) : ℝ) : EReal) := by
    rw [EReal.coe_add]; rfl
  rw [h, Ideal.div_coe (by positivity), one_mul, one_div]
theorem k2 : Ideal.ofBits .f32 0x40000000#32 = ((2 : ℝ) : EReal) := by
  simp [Ideal.ofBits, Ideal.ieee]
  rw [← EReal.coe_mul]
  refine congrArg Real.toEReal ?_
  norm_num
theorem kInv1024 : Ideal.ofBits .f32 0x3A800000#32 = ((1 / 1024 : ℝ) : EReal) := by
  simp [Ideal.ofBits, Ideal.ieee]
  refine congrArg Real.toEReal ?_
  norm_num
theorem kInv2048 : Ideal.ofBits .f32 0x3A000000#32 = ((1 / 2048 : ℝ) : EReal) := by
  simp [Ideal.ofBits, Ideal.ieee]
  refine congrArg Real.toEReal ?_
  norm_num
theorem e1 (a : ℝ) : (1 : EReal) - (a : EReal) = ((1 - a : ℝ) : EReal) := by rw [EReal.coe_sub]; rfl
theorem e1s (a : ℝ) : Ideal.ofBits .f32 0x3F800000#32 - (a : EReal) = ((1 - a : ℝ) : EReal) := by
  rw [Ideal.ofBits_one_f32]; exact e1 a

/-- The vector is the matrix of real numbers. -/
abbrev Re {m n : ℕ} (v : (⟨2, ![m, n]⟩ : Shape).Idx → EReal) (f : Mat m n) : Prop := ∀ i j, v (ix2 i j) = ((f i j : ℝ) : EReal)

/-- The entries of a matrix of real numbers. -/
def Arr {m n : ℕ} (f : Mat m n) : (⟨2, ![m, n]⟩ : Shape).Idx → EReal := fun y => ((f (y 0) (y 1) : ℝ) : EReal)

theorem arr_re {m n : ℕ} (f : Mat m n) : Re (Arr f) f := fun _ _ => rfl

/-- The row of the whole array that is row `r` of block `k`, in blocks of 512 rows. -/
def row (k : ℕ) (r : Fin 512) : Fin 16384 := ⟨(512 * k + r.val) % 16384, Nat.mod_lt _ (by norm_num)⟩
/-- The row of the whole array that is row `r` of block `k`, in blocks of 2048 rows. -/
def row8 (k : ℕ) (r : Fin 2048) : Fin 16384 := ⟨(2048 * k + r.val) % 16384, Nat.mod_lt _ (by norm_num)⟩
/-- Block `k` of 512 rows. -/
def blk {n : ℕ} (k : ℕ) (f : Mat 16384 n) : Mat 512 n := fun r j => f (row k r) j
/-- Block `k` of 2048 rows. -/
def blk8 {n : ℕ} (k : ℕ) (f : Mat 16384 n) : Mat 2048 n := fun r j => f (row8 k r) j

theorem sum_row (f : Fin 16384 → ℝ) : ∑ k ∈ Finset.range 32, ∑ r : Fin 512, f (row k r) = ∑ s, f s := by
  have h := KernelIdeal.Att.sum_blocks (M := ℝ) 512 32 (fun s => f ⟨s % 16384, Nat.mod_lt _ (by norm_num)⟩)
  rw [Finset.sum_range (n := 512 * 32)] at h
  have h2 : ∀ k, ∑ r ∈ Finset.range 512, f ⟨(512 * k + r) % 16384, Nat.mod_lt _ (by norm_num)⟩ = ∑ r : Fin 512, f (row k r) :=
    fun k => Finset.sum_range (fun r => f ⟨(512 * k + r) % 16384, Nat.mod_lt _ (by norm_num)⟩)
  simp only [h2] at h
  rw [h]
  exact Finset.sum_congr rfl fun s _ => congrArg f (Fin.ext (Nat.mod_eq_of_lt s.isLt))

theorem sum_row8 (f : Fin 16384 → ℝ) : ∑ k ∈ Finset.range 8, ∑ r : Fin 2048, f (row8 k r) = ∑ s, f s := by
  have h := KernelIdeal.Att.sum_blocks (M := ℝ) 2048 8 (fun s => f ⟨s % 16384, Nat.mod_lt _ (by norm_num)⟩)
  rw [Finset.sum_range (n := 2048 * 8)] at h
  have h2 : ∀ k, ∑ r ∈ Finset.range 2048, f ⟨(2048 * k + r) % 16384, Nat.mod_lt _ (by norm_num)⟩ = ∑ r : Fin 2048, f (row8 k r) :=
    fun k => Finset.sum_range (fun r => f ⟨(2048 * k + r) % 16384, Nat.mod_lt _ (by norm_num)⟩)
  simp only [h2] at h
  rw [h]
  exact Finset.sum_congr rfl fun s _ => congrArg f (Fin.ext (Nat.mod_eq_of_lt s.isLt))

end Cert.Tail
end
-- ==== Proof.TailSteps.lean ====
module
public import proofs.«01_k».proof.Proof.TailSpec

@[expose] public section

noncomputable section

namespace Cert.Tail

/-- The inputs of the step after the attention, as matrices of real numbers. -/
structure Inp where
  ya : Mat 16384 512
  yb : Mat 16384 512
  x : Mat 16384 1024
  p : Mat 16384 256
  tg : Mat 16384 1024
  ga : Mat 1 512
  gb : Mat 1 512
  wo : Mat 1024 1024
  gp : Mat 1 1024
  gm : Mat 1 1024
  w1 : Mat 1024 4096
  w2 : Mat 4096 1024
  gq : Mat 1 1024
  gl : Mat 1 1024
  wg : Mat 1024 1024
  wp : Mat 256 1024

namespace Inp
variable (I : Inp)

/-- The two branches of the attention, normalised and side by side. -/
def yc : Mat 16384 1024 := cat (nrm I.ya I.ga) (nrm I.yb I.gb)
/-- The output projection. -/
def y2 : Mat 16384 1024 := mm I.yc I.wo
/-- The residual after the attention. -/
def h1 : Mat 16384 1024 := res I.x I.y2 I.gp
/-- The input of the feed-forward layer. -/
def xn2 : Mat 16384 1024 := nrm I.h1 I.gm
/-- The first product of the feed-forward layer. -/
def u : Mat 16384 4096 := mm I.xn2 I.w1
/-- The output of the feed-forward layer. -/
def f2 : Mat 16384 1024 := mm (rel2 I.u) I.w2
/-- The residual after the feed-forward layer. -/
def h2 : Mat 16384 1024 := res I.h1 I.f2 I.gq
/-- The input of the gate. -/
def xn3 : Mat 16384 1024 := nrm I.h2 I.gl
/-- The gate. -/
def gate : Mat 16384 1024 := sg (mm I.xn3 I.wg)
/-- The projected extra input. -/
def pp : Mat 16384 1024 := mm I.p I.wp
/-- The error. -/
def er : Mat 16384 1024 := err I.h2 I.gate I.pp I.tg
/-- The loss. -/
def loss : Mat 1 1 := fun _ _ => ssq I.er * (1 / 2048)
/-- The gradient of the last residual. -/
def dh3 : Mat 16384 1024 := scl I.er (1 / 1024)
/-- The gradient of the gate before the logistic function. -/
def dgt : Mat 16384 1024 := dlog I.dh3 I.pp I.gate
/-- The gradient of the projected extra input. -/
def dpp : Mat 16384 1024 := had I.dh3 I.gate
/-- The gradient of the gate's input. -/
def dx3 : Mat 16384 1024 := nt I.dgt I.wg
/-- The gradient of the residual after the feed-forward layer. -/
def dh2 : Mat 16384 1024 := plus I.dh3 (nrx I.dx3 I.h2 I.gl)
/-- The gradient of the feed-forward layer's output. -/
def df2 : Mat 16384 1024 := nrx I.dh2 I.f2 I.gq
/-- The gradient of the first product. -/
def du : Mat 16384 4096 := drel2 (nt I.df2 I.w2) I.u
/-- The gradient of the feed-forward layer's input. -/
def dx2 : Mat 16384 1024 := nt I.du I.w1
/-- The gradient of the residual after the attention. -/
def dh1 : Mat 16384 1024 := plus I.dh2 (nrx I.dx2 I.h1 I.gm)
/-- The gradient of the output projection. -/
def dy2 : Mat 16384 1024 := nrx I.dh1 I.y2 I.gp
/-- The gradient of the two branches. -/
def dyc : Mat 16384 1024 := nt I.dy2 I.wo
/-- The gradient of the first branch. -/
def dya : Mat 16384 512 := nrx (lo I.dyc) I.ya I.ga
/-- The gradient of the second branch. -/
def dyb : Mat 16384 512 := nrx (hi I.dyc) I.yb I.gb
/-- The gradient of the first branch's scale. -/
def dga : Mat 1 512 := nrg (lo I.dyc) I.ya
/-- The gradient of the second branch's scale. -/
def dgb : Mat 1 512 := nrg (hi I.dyc) I.yb
/-- The gradient of the output projection's weights. -/
def dwo : Mat 1024 1024 := tn I.yc I.dy2
/-- The gradient of the scale after the attention. -/
def dgp : Mat 1 1024 := nrg I.dh1 I.y2
/-- The gradient of the scale before the feed-forward layer. -/
def dgm : Mat 1 1024 := nrg I.dx2 I.h1
/-- The gradient of the first feed-forward weights. -/
def dw1 : Mat 1024 4096 := tn I.xn2 I.du
/-- The gradient of the second feed-forward weights. -/
def dw2 : Mat 4096 1024 := tn (rel2 I.u) I.df2
/-- The gradient of the scale after the feed-forward layer. -/
def dgq : Mat 1 1024 := nrg I.dh2 I.f2
/-- The gradient of the scale before the gate. -/
def dgl : Mat 1 1024 := nrg I.dx3 I.h2
/-- The gradient of the gate's weights. -/
def dwg : Mat 1024 1024 := tn I.xn3 I.dgt
/-- The gradient of the extra input's weights. -/
def dwp : Mat 256 1024 := tn I.p I.dpp

end Inp

end Cert.Tail

end

end
-- ==== Proof.TailPay.lean ====
module
public import proofs.«01_k».proof.Proof.TailSpec
public import proofs.«01_k».proof.Proof.Gen.Kernel2Ideal.Skeleton

@[expose] public section

set_option maxRecDepth 16384

noncomputable section

namespace Cert.Tail

open Cert.Kernel2Ideal Cert.Kernel2Ideal.Gen
open Idealize.ShloMosaic Idealize.ShloMosaic.TcCoe Idealize.ShloMosaic.Tactic Idealize.SL.Sem

/-! What each value of the kernels' bodies is, at real inputs. -/

theorem p0_3 {v0 : FVec Ideal S512x512 .f32} {v11 : FVec Ideal S512x512 .f32} {v22 : FVec Ideal S1x512 .f32} {v25 : FVec Ideal S1x512 .f32} {a : Mat 512 512} {b : Mat 512 512} {ga : Mat 1 512} {gb : Mat 1 512} (hv0 : Re v0 a) (hv11 : Re v11 b) (hv22 : Re v22 ga) (hv25 : Re v25 gb) : Re (k0_pay3 (F := Ideal) v0 v11 v22 v25) (cat (nrm a ga) (nrm b gb)) := by
  intro i j
  unfold k0_pay3
  pointwise
  unfold cat
  by_cases h : j.val < 512
  · rw [dif_pos h, dif_pos h]
    simp only [hv0, hv22, emul, eadd, esub, esum, emax0, e1, e1s, elog, k2, k512, k1024, kInv1024, kInv2048, div512, div1024, eps_bits, Ideal.ofBits_def, rsq]
    rfl
  · rw [dif_neg h, dif_neg h]
    simp only [hv11, hv25, emul, eadd, esub, esum, emax0, e1, e1s, elog, k2, k512, k1024, kInv1024, kInv2048, div512, div1024, eps_bits, Ideal.ofBits_def, rsq]
    rfl

theorem p0_4 {v0 : FVec Ideal S512x512 .f32} {v11 : FVec Ideal S512x512 .f32} {v22 : FVec Ideal S1x512 .f32} {v25 : FVec Ideal S1x512 .f32} {v31 : FVec Ideal S1024x1024 .bf16} {a : Mat 512 512} {b : Mat 512 512} {ga : Mat 1 512} {gb : Mat 1 512} {w : Mat 1024 1024} (hv0 : Re v0 a) (hv11 : Re v11 b) (hv22 : Re v22 ga) (hv25 : Re v25 gb) (hv31 : Re v31 w) : Re (k0_pay4 (F := Ideal) v0 v11 v22 v25 v31) (mm (cat (nrm a ga) (nrm b gb)) w) := by
  intro i j
  unfold k0_pay4
  have q0 := p0_3 hv0 hv11 hv22 hv25
  generalize k0_pay3 (F := Ideal) v0 v11 v22 v25 = y0 at *
  pointwise
  simp only [hv0, hv11, hv22, hv25, hv31, q0, emul, eadd, esub, esum, emax0, e1, e1s, elog, k2, k512, k1024, kInv1024, kInv2048, div512, div1024, eps_bits, Ideal.ofBits_def, rsq]
  rfl

theorem p0_5 {v0 : FVec Ideal S512x512 .f32} {v11 : FVec Ideal S512x512 .f32} {v22 : FVec Ideal S1x512 .f32} {v25 : FVec Ideal S1x512 .f32} {v31 : FVec Ideal S1024x1024 .bf16} {a : Mat 512 512} {b : Mat 512 512} {ga : Mat 1 512} {gb : Mat 1 512} {w : Mat 1024 1024} (hv0 : Re v0 a) (hv11 : Re v11 b) (hv22 : Re v22 ga) (hv25 : Re v25 gb) (hv31 : Re v31 w) : Re (k0_pay5 (F := Ideal) v0 v11 v22 v25 v31) (had (mm (cat (nrm a ga) (nrm b gb)) w) (mm (cat (nrm a ga) (nrm b gb)) w)) := by
  intro i j
  unfold k0_pay5
  have q0 := p0_4 hv0 hv11 hv22 hv25 hv31
  generalize k0_pay4 (F := Ideal) v0 v11 v22 v25 v31 = y0 at *
  pointwise
  simp only [hv0, hv11, hv22, hv25, hv31, q0, emul, eadd, esub, esum, emax0, e1, e1s, elog, k2, k512, k1024, kInv1024, kInv2048, div512, div1024, eps_bits, Ideal.ofBits_def, rsq]
  rfl

theorem p0_1 {v33 : FVec Ideal S512x1024 .f32} {v35 : FVec Ideal S512x1024 .f32} {v45 : FVec Ideal S512x1024 .f32} {v46 : FVec Ideal S1x1024 .f32} {y : Mat 512 1024} {x : Mat 512 1024} {g : Mat 1 1024} (hv33 : Re v33 y) (hv35 : Re v35 (had y y)) (hv45 : Re v45 x) (hv46 : Re v46 g) : Re (k0_pay1 (F := Ideal) v33 v35 v45 v46) (res x y g) := by
  intro i j
  unfold k0_pay1
  pointwise
  simp only [hv33, hv35, hv45, hv46, had, emul, eadd, esub, esum, emax0, e1, e1s, elog, k2, k512, k1024, kInv1024, kInv2048, div512, div1024, eps_bits, Ideal.ofBits_def, rsq]
  rfl

theorem p0_2 {v33 : FVec Ideal S512x1024 .f32} {v35 : FVec Ideal S512x1024 .f32} {v45 : FVec Ideal S512x1024 .f32} {v46 : FVec Ideal S1x1024 .f32} {v61 : FVec Ideal S1x1024 .f32} {y : Mat 512 1024} {x : Mat 512 1024} {g : Mat 1 1024} {gm : Mat 1 1024} (hv33 : Re v33 y) (hv35 : Re v35 (had y y)) (hv45 : Re v45 x) (hv46 : Re v46 g) (hv61 : Re v61 gm) : Re (k0_pay2 (F := Ideal) v33 v35 v45 v46 v61) (nrm (res x y g) gm) := by
  intro i j
  unfold k0_pay2
  have q0 := p0_1 hv33 hv35 hv45 hv46
  generalize k0_pay1 (F := Ideal) v33 v35 v45 v46 = y0 at *
  pointwise
  simp only [hv33, hv35, hv45, hv46, hv61, q0, emul, eadd, esub, esum, emax0, e1, e1s, elog, k2, k512, k1024, kInv1024, kInv2048, div512, div1024, eps_bits, Ideal.ofBits_def, rsq]
  rfl

theorem p1_1 {v0 : FVec Ideal S512x1024 .bf16} {v2 : FVec Ideal S1024x4096 .bf16} {x : Mat 512 1024} {w : Mat 1024 4096} (hv0 : Re v0 x) (hv2 : Re v2 w) : Re (k1_pay1 (F := Ideal) v0 v2) (mm x w) := by
  intro i j
  unfold k1_pay1
  pointwise
  simp only [hv0, hv2, emul, eadd, esub, esum, emax0, e1, e1s, elog, k2, k512, k1024, kInv1024, kInv2048, div512, div1024, eps_bits, Ideal.ofBits_def, rsq]
  rfl

theorem p2_2 {v0 : FVec Ideal S512x4096 .f32} {v6 : FVec Ideal S4096x1024 .bf16} {u : Mat 512 4096} {w : Mat 4096 1024} (hv0 : Re v0 u) (hv6 : Re v6 w) : Re (k2_pay2 (F := Ideal) v0 v6) (mm (rel2 u) w) := by
  intro i j
  unfold k2_pay2
  pointwise
  simp only [hv0, hv6, emul, eadd, esub, esum, emax0, e1, e1s, elog, k2, k512, k1024, kInv1024, kInv2048, div512, div1024, eps_bits, Ideal.ofBits_def, rsq]
  rfl

theorem p2_3 {v0 : FVec Ideal S512x4096 .f32} {v6 : FVec Ideal S4096x1024 .bf16} {v20 : FVec Ideal S512x1024 .f32} {v22 : FVec Ideal S1x1024 .f32} {u : Mat 512 4096} {w : Mat 4096 1024} {h : Mat 512 1024} {g : Mat 1 1024} (hv0 : Re v0 u) (hv6 : Re v6 w) (hv20 : Re v20 h) (hv22 : Re v22 g) : Re (k2_pay3 (F := Ideal) v0 v6 v20 v22) (res h (mm (rel2 u) w) g) := by
  intro i j
  unfold k2_pay3
  have q0 := p2_2 hv0 hv6
  generalize k2_pay2 (F := Ideal) v0 v6 = y0 at *
  pointwise
  simp only [hv0, hv6, hv20, hv22, q0, emul, eadd, esub, esum, emax0, e1, e1s, elog, k2, k512, k1024, kInv1024, kInv2048, div512, div1024, eps_bits, Ideal.ofBits_def, rsq]
  rfl

theorem p2_4 {v0 : FVec Ideal S512x4096 .f32} {v6 : FVec Ideal S4096x1024 .bf16} {v20 : FVec Ideal S512x1024 .f32} {v22 : FVec Ideal S1x1024 .f32} {u : Mat 512 4096} {w : Mat 4096 1024} {h : Mat 512 1024} {g : Mat 1 1024} (hv0 : Re v0 u) (hv6 : Re v6 w) (hv20 : Re v20 h) (hv22 : Re v22 g) : Re (k2_pay4 (F := Ideal) v0 v6 v20 v22) (nr (res h (mm (rel2 u) w) g)) := by
  intro i j
  unfold k2_pay4
  have q0 := p2_3 hv0 hv6 hv20 hv22
  generalize k2_pay3 (F := Ideal) v0 v6 v20 v22 = y0 at *
  pointwise
  simp only [hv0, hv6, hv20, hv22, q0, emul, eadd, esub, esum, emax0, e1, e1s, elog, k2, k512, k1024, kInv1024, kInv2048, div512, div1024, eps_bits, Ideal.ofBits_def, rsq]
  rfl

theorem p2_1 {v36 : FVec Ideal S512x1024 .f32} {v37 : FVec Ideal S1x1024 .f32} {x : Mat 512 1024} {g : Mat 1 1024} (hv36 : Re v36 (nr x)) (hv37 : Re v37 g) : Re (k2_pay1 (F := Ideal) v36 v37) (nrm x g) := by
  intro i j
  unfold k2_pay1
  pointwise
  simp only [hv36, hv37, emul, eadd, esub, esum, emax0, e1, e1s, elog, k2, k512, k1024, kInv1024, kInv2048, div512, div1024, eps_bits, Ideal.ofBits_def, rsq]
  rfl

theorem p3_4 {v0 : FVec Ideal S512x1024 .bf16} {v2 : FVec Ideal S1024x1024 .bf16} {x : Mat 512 1024} {w : Mat 1024 1024} (hv0 : Re v0 x) (hv2 : Re v2 w) : Re (k3_pay4 (F := Ideal) v0 v2) (sg (mm x w)) := by
  intro i j
  unfold k3_pay4
  pointwise
  simp only [hv0, hv2, emul, eadd, esub, esum, emax0, e1, e1s, elog, k2, k512, k1024, kInv1024, kInv2048, div512, div1024, eps_bits, Ideal.ofBits_def, rsq]
  rfl

theorem p3_5 {v6 : FVec Ideal S512x256 .f32} {v8 : FVec Ideal S256x1024 .bf16} {p : Mat 512 256} {w : Mat 256 1024} (hv6 : Re v6 p) (hv8 : Re v8 w) : Re (k3_pay5 (F := Ideal) v6 v8) (mm p w) := by
  intro i j
  unfold k3_pay5
  pointwise
  simp only [hv6, hv8, emul, eadd, esub, esum, emax0, e1, e1s, elog, k2, k512, k1024, kInv1024, kInv2048, div512, div1024, eps_bits, Ideal.ofBits_def, rsq]
  rfl

theorem p3_6 {v11 : FVec Ideal S512x1024 .f32} {h : Mat 512 1024} (hv11 : Re v11 h) : Re (k3_pay6 (F := Ideal) v11) h := by
  intro i j
  unfold k3_pay6
  pointwise
  simp only [hv11, emul, eadd, esub, esum, emax0, e1, e1s, elog, k2, k512, k1024, kInv1024, kInv2048, div512, div1024, eps_bits, Ideal.ofBits_def, rsq]

theorem p3_7 {v0 : FVec Ideal S512x1024 .bf16} {v2 : FVec Ideal S1024x1024 .bf16} {v6 : FVec Ideal S512x256 .f32} {v8 : FVec Ideal S256x1024 .bf16} {v11 : FVec Ideal S512x1024 .f32} {v15 : FVec Ideal S512x1024 .f32} {x : Mat 512 1024} {wg : Mat 1024 1024} {p : Mat 512 256} {wp : Mat 256 1024} {h : Mat 512 1024} {t : Mat 512 1024} (hv0 : Re v0 x) (hv2 : Re v2 wg) (hv6 : Re v6 p) (hv8 : Re v8 wp) (hv11 : Re v11 h) (hv15 : Re v15 t) : Re (k3_pay7 (F := Ideal) v0 v2 v6 v8 v11 v15) (err h (sg (mm x wg)) (mm p wp) t) := by
  intro i j
  unfold k3_pay7
  have q0 := p3_4 hv0 hv2
  have q1 := p3_5 hv6 hv8
  have q2 := p3_6 hv11
  generalize k3_pay4 (F := Ideal) v0 v2 = y0 at *
  generalize k3_pay5 (F := Ideal) v6 v8 = y1 at *
  generalize k3_pay6 (F := Ideal) v11 = y2 at *
  pointwise
  simp only [hv0, hv2, hv6, hv8, hv11, hv15, q0, q1, q2, emul, eadd, esub, esum, emax0, e1, e1s, elog, k2, k512, k1024, kInv1024, kInv2048, div512, div1024, eps_bits, Ideal.ofBits_def, rsq]
  rfl

theorem p3_9 {v0 : FVec Ideal S512x1024 .bf16} {v2 : FVec Ideal S1024x1024 .bf16} {v6 : FVec Ideal S512x256 .f32} {v8 : FVec Ideal S256x1024 .bf16} {v11 : FVec Ideal S512x1024 .f32} {v15 : FVec Ideal S512x1024 .f32} {v27 : FVec Ideal S1x1 .f32} {x : Mat 512 1024} {wg : Mat 1024 1024} {p : Mat 512 256} {wp : Mat 256 1024} {h : Mat 512 1024} {t : Mat 512 1024} {acc : Mat 1 1} (hv0 : Re v0 x) (hv2 : Re v2 wg) (hv6 : Re v6 p) (hv8 : Re v8 wp) (hv11 : Re v11 h) (hv15 : Re v15 t) (hv27 : Re v27 acc) : Re (k3_pay9 (F := Ideal) v0 v2 v6 v8 v11 v15 v27) (plus acc fun _ _ => ssq (err h (sg (mm x wg)) (mm p wp) t) * (1 / 2048)) := by
  intro i j
  unfold k3_pay9
  have q0 := p3_7 hv0 hv2 hv6 hv8 hv11 hv15
  generalize k3_pay7 (F := Ideal) v0 v2 v6 v8 v11 v15 = y0 at *
  pointwise
  simp only [hv0, hv2, hv6, hv8, hv11, hv15, hv27, q0, emul, eadd, esub, esum, emax0, e1, e1s, elog, k2, k512, k1024, kInv1024, kInv2048, div512, div1024, eps_bits, Ideal.ofBits_def, rsq]
  rfl

theorem p3_10 {v0 : FVec Ideal S512x1024 .bf16} {v2 : FVec Ideal S1024x1024 .bf16} {v6 : FVec Ideal S512x256 .f32} {v8 : FVec Ideal S256x1024 .bf16} {v11 : FVec Ideal S512x1024 .f32} {v15 : FVec Ideal S512x1024 .f32} {x : Mat 512 1024} {wg : Mat 1024 1024} {p : Mat 512 256} {wp : Mat 256 1024} {h : Mat 512 1024} {t : Mat 512 1024} (hv0 : Re v0 x) (hv2 : Re v2 wg) (hv6 : Re v6 p) (hv8 : Re v8 wp) (hv11 : Re v11 h) (hv15 : Re v15 t) : Re (k3_pay10 (F := Ideal) v0 v2 v6 v8 v11 v15) (scl (err h (sg (mm x wg)) (mm p wp) t) (1 / 1024)) := by
  intro i j
  unfold k3_pay10
  have q0 := p3_7 hv0 hv2 hv6 hv8 hv11 hv15
  generalize k3_pay7 (F := Ideal) v0 v2 v6 v8 v11 v15 = y0 at *
  pointwise
  simp only [hv0, hv2, hv6, hv8, hv11, hv15, q0, emul, eadd, esub, esum, emax0, e1, e1s, elog, k2, k512, k1024, kInv1024, kInv2048, div512, div1024, eps_bits, Ideal.ofBits_def, rsq]
  rfl

theorem p3_11 {v5 : FVec Ideal S512x1024 .f32} {v10 : FVec Ideal S512x1024 .f32} {v32 : FVec Ideal S512x1024 .f32} {gate : Mat 512 1024} {pp : Mat 512 1024} {d : Mat 512 1024} (hv5 : Re v5 gate) (hv10 : Re v10 pp) (hv32 : Re v32 d) : Re (k3_pay11 (F := Ideal) v5 v10 v32) (dlog d pp gate) := by
  intro i j
  unfold k3_pay11
  pointwise
  simp only [hv5, hv10, hv32, emul, eadd, esub, esum, emax0, e1, e1s, elog, k2, k512, k1024, kInv1024, kInv2048, div512, div1024, eps_bits, Ideal.ofBits_def, rsq]
  rfl

theorem p3_12 {v5 : FVec Ideal S512x1024 .f32} {v32 : FVec Ideal S512x1024 .f32} {gate : Mat 512 1024} {d : Mat 512 1024} (hv5 : Re v5 gate) (hv32 : Re v32 d) : Re (k3_pay12 (F := Ideal) v5 v32) (had d gate) := by
  intro i j
  unfold k3_pay12
  pointwise
  simp only [hv5, hv32, emul, eadd, esub, esum, emax0, e1, e1s, elog, k2, k512, k1024, kInv1024, kInv2048, div512, div1024, eps_bits, Ideal.ofBits_def, rsq]
  rfl

theorem p3_13 {v5 : FVec Ideal S512x1024 .f32} {v10 : FVec Ideal S512x1024 .f32} {v32 : FVec Ideal S512x1024 .f32} {v43 : FVec Ideal S1024x1024 .bf16} {gate : Mat 512 1024} {pp : Mat 512 1024} {d : Mat 512 1024} {w : Mat 1024 1024} (hv5 : Re v5 gate) (hv10 : Re v10 pp) (hv32 : Re v32 d) (hv43 : Re v43 w) : Re (k3_pay13 (F := Ideal) v5 v10 v32 v43) (nt (dlog d pp gate) w) := by
  intro i j
  unfold k3_pay13
  have q0 := p3_11 hv5 hv10 hv32
  generalize k3_pay11 (F := Ideal) v5 v10 v32 = y0 at *
  pointwise
  simp only [hv5, hv10, hv32, hv43, q0, emul, eadd, esub, esum, emax0, e1, e1s, elog, k2, k512, k1024, kInv1024, kInv2048, div512, div1024, eps_bits, Ideal.ofBits_def, rsq]
  rfl

theorem p3_14 {v12 : FVec Ideal S512x1024 .f32} {x : Mat 512 1024} (hv12 : Re v12 x) :
    Re (k3_pay14 (F := Ideal) v12) (fun i _ => rs (x i)) := by
  intro i j
  unfold k3_pay14
  pointwise
  simp only [hv12, emul, eadd, esub, esum, emax0, e1, e1s, elog, k2, k512, k1024, kInv1024, kInv2048, div512, div1024, eps_bits, Ideal.ofBits_def, rsq]

theorem p3_15 {v12 : FVec Ideal S512x1024 .f32} {x : Mat 512 1024} (hv12 : Re v12 x) : Re (k3_pay15 (F := Ideal) v12) (nr x) := by
  intro i j
  unfold k3_pay15
  have q0 := p3_14 hv12
  generalize k3_pay14 (F := Ideal) v12 = y0 at *
  pointwise
  simp only [hv12, q0, emul, eadd, esub, esum, emax0, e1, e1s, elog, k2, k512, k1024, kInv1024, kInv2048, div512, div1024, eps_bits, Ideal.ofBits_def, rsq]
  rfl

theorem p3_16 {v5 : FVec Ideal S512x1024 .f32} {v10 : FVec Ideal S512x1024 .f32} {v12 : FVec Ideal S512x1024 .f32} {v32 : FVec Ideal S512x1024 .f32} {v43 : FVec Ideal S1024x1024 .bf16} {v56 : FVec Ideal S1x1024 .f32} {gate : Mat 512 1024} {pp : Mat 512 1024} {x : Mat 512 1024} {d : Mat 512 1024} {w : Mat 1024 1024} {g : Mat 1 1024} (hv5 : Re v5 gate) (hv10 : Re v10 pp) (hv12 : Re v12 x) (hv32 : Re v32 d) (hv43 : Re v43 w) (hv56 : Re v56 g) : Re (k3_pay16 (F := Ideal) v5 v10 v12 v32 v43 v56) (nrx (nt (dlog d pp gate) w) x g) := by
  intro i j
  unfold k3_pay16
  have q0 := p3_13 hv5 hv10 hv32 hv43
  have q1 := p3_15 hv12
  have q2 := p3_14 hv12
  generalize k3_pay13 (F := Ideal) v5 v10 v32 v43 = y0 at *
  generalize k3_pay15 (F := Ideal) v12 = y1 at *
  generalize k3_pay14 (F := Ideal) v12 = y2 at *
  pointwise
  simp only [hv5, hv10, hv12, hv32, hv43, hv56, q0, q1, q2, emul, eadd, esub, esum, emax0, e1, e1s, elog, k2, k512, k1024, kInv1024, kInv2048, div512, div1024, eps_bits, Ideal.ofBits_def, rsq]
  rfl

theorem p3_17 {v5 : FVec Ideal S512x1024 .f32} {v10 : FVec Ideal S512x1024 .f32} {v12 : FVec Ideal S512x1024 .f32} {v32 : FVec Ideal S512x1024 .f32} {v43 : FVec Ideal S1024x1024 .bf16} {gate : Mat 512 1024} {pp : Mat 512 1024} {x : Mat 512 1024} {d : Mat 512 1024} {w : Mat 1024 1024} (hv5 : Re v5 gate) (hv10 : Re v10 pp) (hv12 : Re v12 x) (hv32 : Re v32 d) (hv43 : Re v43 w) : Re (k3_pay17 (F := Ideal) v5 v10 v12 v32 v43) (nrg (nt (dlog d pp gate) w) x) := by
  intro i j
  unfold k3_pay17
  have q0 := p3_13 hv5 hv10 hv32 hv43
  have q1 := p3_15 hv12
  generalize k3_pay13 (F := Ideal) v5 v10 v32 v43 = y0 at *
  generalize k3_pay15 (F := Ideal) v12 = y1 at *
  pointwise
  simp only [hv5, hv10, hv12, hv32, hv43, q0, q1, emul, eadd, esub, esum, emax0, e1, e1s, elog, k2, k512, k1024, kInv1024, kInv2048, div512, div1024, eps_bits, Ideal.ofBits_def, rsq]
  rfl

theorem p3_19 {v71 : FVec Ideal S1x1024 .f32} {v75 : FVec Ideal S1x1024 .f32} {a : Mat 1 1024} {acc : Mat 1 1024} (hv71 : Re v71 a) (hv75 : Re v75 acc) : Re (k3_pay19 (F := Ideal) v71 v75) (plus acc a) := by
  intro i j
  unfold k3_pay19
  pointwise
  simp only [hv71, hv75, emul, eadd, esub, esum, emax0, e1, e1s, elog, k2, k512, k1024, kInv1024, kInv2048, div512, div1024, eps_bits, Ideal.ofBits_def, rsq]
  rfl

theorem p3_2 {v108 : FVec Ideal S1x1024 .f32} {v112 : FVec Ideal S1x1024 .f32} {a : Mat 1 1024} {acc : Mat 1 1024} (hv108 : Re v108 a) (hv112 : Re v112 acc) : Re (k3_pay2 (F := Ideal) v108 v112) (plus acc a) := by
  intro i j
  unfold k3_pay2
  pointwise
  simp only [hv108, hv112, emul, eadd, esub, esum, emax0, e1, e1s, elog, k2, k512, k1024, kInv1024, kInv2048, div512, div1024, eps_bits, Ideal.ofBits_def, rsq]
  rfl

theorem p9_1 {v71 : FVec Ideal S1x1024 .f32} {v75 : FVec Ideal S1x1024 .f32} {a : Mat 1 1024} {acc : Mat 1 1024} (hv71 : Re v71 a) (hv75 : Re v75 acc) : Re (k9_pay1 (F := Ideal) v71 v75) (plus acc a) := by
  intro i j
  unfold k9_pay1
  pointwise
  simp only [hv71, hv75, emul, eadd, esub, esum, emax0, e1, e1s, elog, k2, k512, k1024, kInv1024, kInv2048, div512, div1024, eps_bits, Ideal.ofBits_def, rsq]
  rfl

theorem p3_3 {v105 : FVec Ideal S512x1024 .f32} {x : Mat 512 1024} (hv105 : Re v105 x) : Re (k3_pay3 (F := Ideal) v105) x := by
  intro i j
  unfold k3_pay3
  pointwise
  simp only [hv105, emul, eadd, esub, esum, emax0, e1, e1s, elog, k2, k512, k1024, kInv1024, kInv2048, div512, div1024, eps_bits, Ideal.ofBits_def, rsq]

theorem p3_20 {v32 : FVec Ideal S512x1024 .f32} {v68 : FVec Ideal S512x1024 .f32} {a : Mat 512 1024} {b : Mat 512 1024} (hv32 : Re v32 a) (hv68 : Re v68 b) : Re (k3_pay20 (F := Ideal) v32 v68) (plus a b) := by
  intro i j
  unfold k3_pay20
  pointwise
  simp only [hv32, hv68, emul, eadd, esub, esum, emax0, e1, e1s, elog, k2, k512, k1024, kInv1024, kInv2048, div512, div1024, eps_bits, Ideal.ofBits_def, rsq]
  rfl

theorem p3_21 {v81 : FVec Ideal S512x1024 .f32} {x : Mat 512 1024} (hv81 : Re v81 x) : Re (k3_pay21 (F := Ideal) v81) x := by
  intro i j
  unfold k3_pay21
  pointwise
  simp only [hv81, emul, eadd, esub, esum, emax0, e1, e1s, elog, k2, k512, k1024, kInv1024, kInv2048, div512, div1024, eps_bits, Ideal.ofBits_def, rsq]

theorem p3_22 {v81 : FVec Ideal S512x1024 .f32} {x : Mat 512 1024} (hv81 : Re v81 x) :
    Re (k3_pay22 (F := Ideal) v81) (fun i _ => rs (x i)) := by
  intro i j
  unfold k3_pay22
  have q0 := p3_21 hv81
  generalize k3_pay21 (F := Ideal) v81 = y0 at *
  pointwise
  simp only [hv81, q0, emul, eadd, esub, esum, emax0, e1, e1s, elog, k2, k512, k1024, kInv1024, kInv2048, div512, div1024, eps_bits, Ideal.ofBits_def, rsq]

theorem p3_23 {v81 : FVec Ideal S512x1024 .f32} {x : Mat 512 1024} (hv81 : Re v81 x) : Re (k3_pay23 (F := Ideal) v81) (nr x) := by
  intro i j
  unfold k3_pay23
  have q0 := p3_21 hv81
  have q1 := p3_22 hv81
  generalize k3_pay21 (F := Ideal) v81 = y0 at *
  generalize k3_pay22 (F := Ideal) v81 = y1 at *
  pointwise
  simp only [hv81, q0, q1, emul, eadd, esub, esum, emax0, e1, e1s, elog, k2, k512, k1024, kInv1024, kInv2048, div512, div1024, eps_bits, Ideal.ofBits_def, rsq]
  rfl

theorem p3_24 {v32 : FVec Ideal S512x1024 .f32} {v68 : FVec Ideal S512x1024 .f32} {v81 : FVec Ideal S512x1024 .f32} {v93 : FVec Ideal S1x1024 .f32} {a : Mat 512 1024} {b : Mat 512 1024} {x : Mat 512 1024} {g : Mat 1 1024} (hv32 : Re v32 a) (hv68 : Re v68 b) (hv81 : Re v81 x) (hv93 : Re v93 g) : Re (k3_pay24 (F := Ideal) v32 v68 v81 v93) (nrx (plus a b) x g) := by
  intro i j
  unfold k3_pay24
  have q0 := p3_20 hv32 hv68
  have q1 := p3_23 hv81
  have q2 := p3_22 hv81
  generalize k3_pay20 (F := Ideal) v32 v68 = y0 at *
  generalize k3_pay23 (F := Ideal) v81 = y1 at *
  generalize k3_pay22 (F := Ideal) v81 = y2 at *
  pointwise
  simp only [hv32, hv68, hv81, hv93, q0, q1, q2, emul, eadd, esub, esum, emax0, e1, e1s, elog, k2, k512, k1024, kInv1024, kInv2048, div512, div1024, eps_bits, Ideal.ofBits_def, rsq]
  rfl

theorem p3_25 {v32 : FVec Ideal S512x1024 .f32} {v68 : FVec Ideal S512x1024 .f32} {v81 : FVec Ideal S512x1024 .f32} {a : Mat 512 1024} {b : Mat 512 1024} {x : Mat 512 1024} (hv32 : Re v32 a) (hv68 : Re v68 b) (hv81 : Re v81 x) : Re (k3_pay25 (F := Ideal) v32 v68 v81) (nrg (plus a b) x) := by
  intro i j
  unfold k3_pay25
  have q0 := p3_20 hv32 hv68
  have q1 := p3_23 hv81
  generalize k3_pay20 (F := Ideal) v32 v68 = y0 at *
  generalize k3_pay23 (F := Ideal) v81 = y1 at *
  pointwise
  simp only [hv32, hv68, hv81, q0, q1, emul, eadd, esub, esum, emax0, e1, e1s, elog, k2, k512, k1024, kInv1024, kInv2048, div512, div1024, eps_bits, Ideal.ofBits_def, rsq]
  rfl

theorem p4_2 {v3 : FVec Ideal S2048x1024 .bf16} {v5 : FVec Ideal S1024x1024 .f32} {v7 : FVec Ideal S2048x1024 .bf16} {a : Mat 2048 1024} {acc : Mat 1024 1024} {b : Mat 2048 1024} (hv3 : Re v3 a) (hv5 : Re v5 acc) (hv7 : Re v7 b) : Re (k4_pay2 (F := Ideal) v3 v5 v7) (plus acc (tn a b)) := by
  intro i j
  unfold k4_pay2
  pointwise
  simp only [hv3, hv5, hv7, emul, eadd, esub, esum, emax0, e1, e1s, elog, k2, k512, k1024, kInv1024, kInv2048, div512, div1024, eps_bits, Ideal.ofBits_def, rsq]
  rfl

theorem p8_2 {v3 : FVec Ideal S2048x1024 .bf16} {v5 : FVec Ideal S1024x1024 .f32} {v7 : FVec Ideal S2048x1024 .bf16} {a : Mat 2048 1024} {acc : Mat 1024 1024} {b : Mat 2048 1024} (hv3 : Re v3 a) (hv5 : Re v5 acc) (hv7 : Re v7 b) : Re (k8_pay2 (F := Ideal) v3 v5 v7) (plus acc (tn a b)) := by
  intro i j
  unfold k8_pay2
  pointwise
  simp only [hv3, hv5, hv7, emul, eadd, esub, esum, emax0, e1, e1s, elog, k2, k512, k1024, kInv1024, kInv2048, div512, div1024, eps_bits, Ideal.ofBits_def, rsq]
  rfl

theorem p10_2 {v3 : FVec Ideal S2048x1024 .bf16} {v5 : FVec Ideal S1024x1024 .f32} {v7 : FVec Ideal S2048x1024 .bf16} {a : Mat 2048 1024} {acc : Mat 1024 1024} {b : Mat 2048 1024} (hv3 : Re v3 a) (hv5 : Re v5 acc) (hv7 : Re v7 b) : Re (k10_pay2 (F := Ideal) v3 v5 v7) (plus acc (tn a b)) := by
  intro i j
  unfold k10_pay2
  pointwise
  simp only [hv3, hv5, hv7, emul, eadd, esub, esum, emax0, e1, e1s, elog, k2, k512, k1024, kInv1024, kInv2048, div512, div1024, eps_bits, Ideal.ofBits_def, rsq]
  rfl

theorem p5_2 {v3 : FVec Ideal S2048x256 .f32} {v4 : FVec Ideal S256x1024 .f32} {v7 : FVec Ideal S2048x1024 .bf16} {a : Mat 2048 256} {acc : Mat 256 1024} {b : Mat 2048 1024} (hv3 : Re v3 a) (hv4 : Re v4 acc) (hv7 : Re v7 b) : Re (k5_pay2 (F := Ideal) v3 v4 v7) (plus acc (tn a b)) := by
  intro i j
  unfold k5_pay2
  pointwise
  simp only [hv3, hv4, hv7, emul, eadd, esub, esum, emax0, e1, e1s, elog, k2, k512, k1024, kInv1024, kInv2048, div512, div1024, eps_bits, Ideal.ofBits_def, rsq]
  rfl

theorem p6_2 {v3 : FVec Ideal S2048x1024 .f32} {v8 : FVec Ideal S1024x1024 .f32} {v11 : FVec Ideal S2048x1024 .bf16} {u : Mat 2048 1024} {acc : Mat 1024 1024} {b : Mat 2048 1024} (hv3 : Re v3 u) (hv8 : Re v8 acc) (hv11 : Re v11 b) : Re (k6_pay2 (F := Ideal) v3 v8 v11) (plus acc (tn (rel2 u) b)) := by
  intro i j
  unfold k6_pay2
  pointwise
  simp only [hv3, hv8, hv11, emul, eadd, esub, esum, emax0, e1, e1s, elog, k2, k512, k1024, kInv1024, kInv2048, div512, div1024, eps_bits, Ideal.ofBits_def, rsq]
  rfl

theorem p7_1 {v0 : FVec Ideal S512x1024 .bf16} {v2 : FVec Ideal S1024x4096 .bf16} {v5 : FVec Ideal S512x4096 .f32} {d : Mat 512 1024} {w : Mat 1024 4096} {u : Mat 512 4096} (hv0 : Re v0 d) (hv2 : Re v2 w) (hv5 : Re v5 u) : Re (k7_pay1 (F := Ideal) v0 v2 v5) (drel2 (mm d w) u) := by
  intro i j
  unfold k7_pay1
  pointwise
  simp only [hv0, hv2, hv5, emul, eadd, esub, esum, emax0, e1, e1s, elog, k2, k512, k1024, kInv1024, kInv2048, div512, div1024, eps_bits, Ideal.ofBits_def, rsq]
  rfl

theorem p9_3 {v0 : FVec Ideal S512x4096 .bf16} {v2 : FVec Ideal S1024x4096 .bf16} {du : Mat 512 4096} {w : Mat 1024 4096} (hv0 : Re v0 du) (hv2 : Re v2 w) : Re (k9_pay3 (F := Ideal) v0 v2) (nt du w) := by
  intro i j
  unfold k9_pay3
  pointwise
  simp only [hv0, hv2, emul, eadd, esub, esum, emax0, e1, e1s, elog, k2, k512, k1024, kInv1024, kInv2048, div512, div1024, eps_bits, Ideal.ofBits_def, rsq]
  rfl

theorem p9_4 {v5 : FVec Ideal S512x1024 .f32} {x : Mat 512 1024} (hv5 : Re v5 x) : Re (k9_pay4 (F := Ideal) v5) x := by
  intro i j
  unfold k9_pay4
  pointwise
  simp only [hv5, emul, eadd, esub, esum, emax0, e1, e1s, elog, k2, k512, k1024, kInv1024, kInv2048, div512, div1024, eps_bits, Ideal.ofBits_def, rsq]

theorem p9_5 {v5 : FVec Ideal S512x1024 .f32} {x : Mat 512 1024} (hv5 : Re v5 x) :
    Re (k9_pay5 (F := Ideal) v5) (fun i _ => rs (x i)) := by
  intro i j
  unfold k9_pay5
  have q0 := p9_4 hv5
  generalize k9_pay4 (F := Ideal) v5 = y0 at *
  pointwise
  simp only [hv5, q0, emul, eadd, esub, esum, emax0, e1, e1s, elog, k2, k512, k1024, kInv1024, kInv2048, div512, div1024, eps_bits, Ideal.ofBits_def, rsq]

theorem p9_6 {v5 : FVec Ideal S512x1024 .f32} {x : Mat 512 1024} (hv5 : Re v5 x) : Re (k9_pay6 (F := Ideal) v5) (nr x) := by
  intro i j
  unfold k9_pay6
  have q0 := p9_4 hv5
  have q1 := p9_5 hv5
  generalize k9_pay4 (F := Ideal) v5 = y0 at *
  generalize k9_pay5 (F := Ideal) v5 = y1 at *
  pointwise
  simp only [hv5, q0, q1, emul, eadd, esub, esum, emax0, e1, e1s, elog, k2, k512, k1024, kInv1024, kInv2048, div512, div1024, eps_bits, Ideal.ofBits_def, rsq]
  rfl

theorem p9_7 {v0 : FVec Ideal S512x4096 .bf16} {v2 : FVec Ideal S1024x4096 .bf16} {v5 : FVec Ideal S512x1024 .f32} {v17 : FVec Ideal S1x1024 .f32} {du : Mat 512 4096} {w : Mat 1024 4096} {x : Mat 512 1024} {g : Mat 1 1024} (hv0 : Re v0 du) (hv2 : Re v2 w) (hv5 : Re v5 x) (hv17 : Re v17 g) : Re (k9_pay7 (F := Ideal) v0 v2 v5 v17) (nrx (nt du w) x g) := by
  intro i j
  unfold k9_pay7
  have q0 := p9_3 hv0 hv2
  have q1 := p9_6 hv5
  have q2 := p9_5 hv5
  generalize k9_pay3 (F := Ideal) v0 v2 = y0 at *
  generalize k9_pay6 (F := Ideal) v5 = y1 at *
  generalize k9_pay5 (F := Ideal) v5 = y2 at *
  pointwise
  simp only [hv0, hv2, hv5, hv17, q0, q1, q2, emul, eadd, esub, esum, emax0, e1, e1s, elog, k2, k512, k1024, kInv1024, kInv2048, div512, div1024, eps_bits, Ideal.ofBits_def, rsq]
  rfl

theorem p9_9 {v0 : FVec Ideal S512x4096 .bf16} {v2 : FVec Ideal S1024x4096 .bf16} {v5 : FVec Ideal S512x1024 .f32} {v36 : FVec Ideal S1x1024 .f32} {du : Mat 512 4096} {w : Mat 1024 4096} {x : Mat 512 1024} {acc : Mat 1 1024} (hv0 : Re v0 du) (hv2 : Re v2 w) (hv5 : Re v5 x) (hv36 : Re v36 acc) : Re (k9_pay9 (F := Ideal) v0 v2 v5 v36) (plus acc (nrg (nt du w) x)) := by
  intro i j
  unfold k9_pay9
  have q0 := p9_3 hv0 hv2
  have q1 := p9_6 hv5
  generalize k9_pay3 (F := Ideal) v0 v2 = y0 at *
  generalize k9_pay6 (F := Ideal) v5 = y1 at *
  pointwise
  simp only [hv0, hv2, hv5, hv36, q0, q1, emul, eadd, esub, esum, emax0, e1, e1s, elog, k2, k512, k1024, kInv1024, kInv2048, div512, div1024, eps_bits, Ideal.ofBits_def, rsq]
  rfl

theorem p9_10 {v29 : FVec Ideal S512x1024 .f32} {v40 : FVec Ideal S512x1024 .f32} {a : Mat 512 1024} {b : Mat 512 1024} (hv29 : Re v29 a) (hv40 : Re v40 b) : Re (k9_pay10 (F := Ideal) v29 v40) (plus b a) := by
  intro i j
  unfold k9_pay10
  pointwise
  simp only [hv29, hv40, emul, eadd, esub, esum, emax0, e1, e1s, elog, k2, k512, k1024, kInv1024, kInv2048, div512, div1024, eps_bits, Ideal.ofBits_def, rsq]
  rfl

theorem p9_11 {v44 : FVec Ideal S512x1024 .f32} {x : Mat 512 1024} (hv44 : Re v44 x) : Re (k9_pay11 (F := Ideal) v44) x := by
  intro i j
  unfold k9_pay11
  pointwise
  simp only [hv44, emul, eadd, esub, esum, emax0, e1, e1s, elog, k2, k512, k1024, kInv1024, kInv2048, div512, div1024, eps_bits, Ideal.ofBits_def, rsq]

theorem p9_12 {v44 : FVec Ideal S512x1024 .f32} {x : Mat 512 1024} (hv44 : Re v44 x) :
    Re (k9_pay12 (F := Ideal) v44) (fun i _ => rs (x i)) := by
  intro i j
  unfold k9_pay12
  have q0 := p9_11 hv44
  generalize k9_pay11 (F := Ideal) v44 = y0 at *
  pointwise
  simp only [hv44, q0, emul, eadd, esub, esum, emax0, e1, e1s, elog, k2, k512, k1024, kInv1024, kInv2048, div512, div1024, eps_bits, Ideal.ofBits_def, rsq]

theorem p9_13 {v44 : FVec Ideal S512x1024 .f32} {x : Mat 512 1024} (hv44 : Re v44 x) : Re (k9_pay13 (F := Ideal) v44) (nr x) := by
  intro i j
  unfold k9_pay13
  have q0 := p9_11 hv44
  have q1 := p9_12 hv44
  generalize k9_pay11 (F := Ideal) v44 = y0 at *
  generalize k9_pay12 (F := Ideal) v44 = y1 at *
  pointwise
  simp only [hv44, q0, q1, emul, eadd, esub, esum, emax0, e1, e1s, elog, k2, k512, k1024, kInv1024, kInv2048, div512, div1024, eps_bits, Ideal.ofBits_def, rsq]
  rfl

theorem p9_14 {v29 : FVec Ideal S512x1024 .f32} {v40 : FVec Ideal S512x1024 .f32} {v44 : FVec Ideal S512x1024 .f32} {v56 : FVec Ideal S1x1024 .f32} {a : Mat 512 1024} {b : Mat 512 1024} {x : Mat 512 1024} {g : Mat 1 1024} (hv29 : Re v29 a) (hv40 : Re v40 b) (hv44 : Re v44 x) (hv56 : Re v56 g) : Re (k9_pay14 (F := Ideal) v29 v40 v44 v56) (nrx (plus b a) x g) := by
  intro i j
  unfold k9_pay14
  have q0 := p9_10 hv29 hv40
  have q1 := p9_13 hv44
  have q2 := p9_12 hv44
  generalize k9_pay10 (F := Ideal) v29 v40 = y0 at *
  generalize k9_pay13 (F := Ideal) v44 = y1 at *
  generalize k9_pay12 (F := Ideal) v44 = y2 at *
  pointwise
  simp only [hv29, hv40, hv44, hv56, q0, q1, q2, emul, eadd, esub, esum, emax0, e1, e1s, elog, k2, k512, k1024, kInv1024, kInv2048, div512, div1024, eps_bits, Ideal.ofBits_def, rsq]
  rfl

theorem p9_15 {v29 : FVec Ideal S512x1024 .f32} {v40 : FVec Ideal S512x1024 .f32} {v44 : FVec Ideal S512x1024 .f32} {a : Mat 512 1024} {b : Mat 512 1024} {x : Mat 512 1024} (hv29 : Re v29 a) (hv40 : Re v40 b) (hv44 : Re v44 x) : Re (k9_pay15 (F := Ideal) v29 v40 v44) (nrg (plus b a) x) := by
  intro i j
  unfold k9_pay15
  have q0 := p9_10 hv29 hv40
  have q1 := p9_13 hv44
  generalize k9_pay10 (F := Ideal) v29 v40 = y0 at *
  generalize k9_pay13 (F := Ideal) v44 = y1 at *
  pointwise
  simp only [hv29, hv40, hv44, q0, q1, emul, eadd, esub, esum, emax0, e1, e1s, elog, k2, k512, k1024, kInv1024, kInv2048, div512, div1024, eps_bits, Ideal.ofBits_def, rsq]
  rfl

theorem p9_2 {v68 : FVec Ideal S512x1024 .f32} {x : Mat 512 1024} (hv68 : Re v68 x) : Re (k9_pay2 (F := Ideal) v68) x := by
  intro i j
  unfold k9_pay2
  pointwise
  simp only [hv68, emul, eadd, esub, esum, emax0, e1, e1s, elog, k2, k512, k1024, kInv1024, kInv2048, div512, div1024, eps_bits, Ideal.ofBits_def, rsq]

theorem p11_2 {v0 : FVec Ideal S512x1024 .bf16} {v2 : FVec Ideal S1024x1024 .bf16} {d : Mat 512 1024} {w : Mat 1024 1024} (hv0 : Re v0 d) (hv2 : Re v2 w) : Re (k11_pay2 (F := Ideal) v0 v2) (nt d w) := by
  intro i j
  unfold k11_pay2
  pointwise
  simp only [hv0, hv2, emul, eadd, esub, esum, emax0, e1, e1s, elog, k2, k512, k1024, kInv1024, kInv2048, div512, div1024, eps_bits, Ideal.ofBits_def, rsq]
  rfl

theorem p11_7 {v0 : FVec Ideal S512x1024 .bf16} {v2 : FVec Ideal S1024x1024 .bf16} {d : Mat 512 1024} {w : Mat 1024 1024} (hv0 : Re v0 d) (hv2 : Re v2 w) : Re (k11_pay7 (F := Ideal) v0 v2) (lo (nt d w)) := by
  intro i j
  unfold k11_pay7
  have q0 := p11_2 hv0 hv2
  generalize k11_pay2 (F := Ideal) v0 v2 = y0 at *
  pointwise
  simp only [hv0, hv2, q0, emul, eadd, esub, esum, emax0, e1, e1s, elog, k2, k512, k1024, kInv1024, kInv2048, div512, div1024, eps_bits, Ideal.ofBits_def, rsq]
  rfl

theorem p11_27 {v4 : FVec Ideal S512x1024 .f32} {d : Mat 512 1024} (hv4 : Re v4 d) : Re (k11_pay27 (F := Ideal) v4) (hi d) := by
  intro i j
  unfold k11_pay27
  pointwise
  simp only [hv4, emul, eadd, esub, esum, emax0, e1, e1s, elog, k2, k512, k1024, kInv1024, kInv2048, div512, div1024, eps_bits, Ideal.ofBits_def, rsq]
  rfl

theorem p11_5 {v26 : FVec Ideal S512x512 .f32} {x : Mat 512 512} (hv26 : Re v26 x) :
    Re (k11_pay5 (F := Ideal) v26) (fun i _ => rs (x i)) := by
  intro i j
  unfold k11_pay5
  pointwise
  simp only [hv26, emul, eadd, esub, esum, emax0, e1, e1s, elog, k2, k512, k1024, kInv1024, kInv2048, div512, div1024, eps_bits, Ideal.ofBits_def, rsq]

theorem p11_6 {v26 : FVec Ideal S512x512 .f32} {x : Mat 512 512} (hv26 : Re v26 x) : Re (k11_pay6 (F := Ideal) v26) (nr x) := by
  intro i j
  unfold k11_pay6
  have q0 := p11_5 hv26
  generalize k11_pay5 (F := Ideal) v26 = y0 at *
  pointwise
  simp only [hv26, q0, emul, eadd, esub, esum, emax0, e1, e1s, elog, k2, k512, k1024, kInv1024, kInv2048, div512, div1024, eps_bits, Ideal.ofBits_def, rsq]
  rfl

theorem p11_25 {v123 : FVec Ideal S512x512 .f32} {x : Mat 512 512} (hv123 : Re v123 x) :
    Re (k11_pay25 (F := Ideal) v123) (fun i _ => rs (x i)) := by
  intro i j
  unfold k11_pay25
  pointwise
  simp only [hv123, emul, eadd, esub, esum, emax0, e1, e1s, elog, k2, k512, k1024, kInv1024, kInv2048, div512, div1024, eps_bits, Ideal.ofBits_def, rsq]

theorem p11_26 {v123 : FVec Ideal S512x512 .f32} {x : Mat 512 512} (hv123 : Re v123 x) : Re (k11_pay26 (F := Ideal) v123) (nr x) := by
  intro i j
  unfold k11_pay26
  have q0 := p11_25 hv123
  generalize k11_pay25 (F := Ideal) v123 = y0 at *
  pointwise
  simp only [hv123, q0, emul, eadd, esub, esum, emax0, e1, e1s, elog, k2, k512, k1024, kInv1024, kInv2048, div512, div1024, eps_bits, Ideal.ofBits_def, rsq]
  rfl

theorem p11_8 {v34 : FVec Ideal S512x1 .f32} {v36 : FVec Ideal S512x512 .f32} {v37 : FVec Ideal S512x512 .f32} {v38 : FVec Ideal S1x512 .f32} {x : Mat 512 512} {d : Mat 512 512} {g : Mat 1 512} (hv34 : Re v34 (fun i _ => rs (x i))) (hv36 : Re v36 (nr x)) (hv37 : Re v37 d) (hv38 : Re v38 g) : Re (k11_pay8 (F := Ideal) v34 v36 v37 v38) (nrx d x g) := by
  intro i j
  unfold k11_pay8
  pointwise
  simp only [hv34, hv36, hv37, hv38, emul, eadd, esub, esum, emax0, e1, e1s, elog, k2, k512, k1024, kInv1024, kInv2048, div512, div1024, eps_bits, Ideal.ofBits_def, rsq]
  rfl

theorem p11_10 {v36 : FVec Ideal S512x512 .f32} {v37 : FVec Ideal S512x512 .f32} {v57 : FVec Ideal S1x512 .f32} {x : Mat 512 512} {d : Mat 512 512} {acc : Mat 1 512} (hv36 : Re v36 (nr x)) (hv37 : Re v37 d) (hv57 : Re v57 acc) : Re (k11_pay10 (F := Ideal) v36 v37 v57) (plus acc (nrg d x)) := by
  intro i j
  unfold k11_pay10
  pointwise
  simp only [hv36, hv37, hv57, emul, eadd, esub, esum, emax0, e1, e1s, elog, k2, k512, k1024, kInv1024, kInv2048, div512, div1024, eps_bits, Ideal.ofBits_def, rsq]
  rfl

theorem p11_28 {v4 : FVec Ideal S512x1024 .f32} {v123 : FVec Ideal S512x512 .f32} {v135 : FVec Ideal S1x512 .f32} {d : Mat 512 1024} {x : Mat 512 512} {g : Mat 1 512} (hv4 : Re v4 d) (hv123 : Re v123 x) (hv135 : Re v135 g) : Re (k11_pay28 (F := Ideal) v4 v123 v135) (nrx (hi d) x g) := by
  intro i j
  unfold k11_pay28
  have q0 := p11_27 hv4
  have q1 := p11_26 hv123
  have q2 := p11_25 hv123
  generalize k11_pay27 (F := Ideal) v4 = y0 at *
  generalize k11_pay26 (F := Ideal) v123 = y1 at *
  generalize k11_pay25 (F := Ideal) v123 = y2 at *
  pointwise
  simp only [hv4, hv123, hv135, q0, q1, q2, emul, eadd, esub, esum, emax0, e1, e1s, elog, k2, k512, k1024, kInv1024, kInv2048, div512, div1024, eps_bits, Ideal.ofBits_def, rsq]
  rfl

theorem p11_30 {v133 : FVec Ideal S512x512 .f32} {v134 : FVec Ideal S512x512 .f32} {v154 : FVec Ideal S1x512 .f32} {x : Mat 512 512} {d : Mat 512 512} {acc : Mat 1 512} (hv133 : Re v133 (nr x)) (hv134 : Re v134 d) (hv154 : Re v154 acc) : Re (k11_pay30 (F := Ideal) v133 v134 v154) (plus acc (nrg d x)) := by
  intro i j
  unfold k11_pay30
  pointwise
  simp only [hv133, hv134, hv154, emul, eadd, esub, esum, emax0, e1, e1s, elog, k2, k512, k1024, kInv1024, kInv2048, div512, div1024, eps_bits, Ideal.ofBits_def, rsq]
  rfl

theorem p11_31 {v147 : FVec Ideal S512x512 .f32} {x : Mat 512 512} (hv147 : Re v147 x) : Re (k11_pay31 (F := Ideal) v147) x := by
  intro i j
  unfold k11_pay31
  pointwise
  simp only [hv147, emul, eadd, esub, esum, emax0, e1, e1s, elog, k2, k512, k1024, kInv1024, kInv2048, div512, div1024, eps_bits, Ideal.ofBits_def, rsq]

theorem z_k3_pay1 : Re (k3_pay1 (F := Ideal)) (fun _ _ => 0 : Mat 1 1024) := fun _ _ => Ideal.ofBits_zero_f32

theorem z_k3_pay8 : Re (k3_pay8 (F := Ideal)) (fun _ _ => 0 : Mat 1 1) := fun _ _ => Ideal.ofBits_zero_f32

theorem z_k3_pay18 : Re (k3_pay18 (F := Ideal)) (fun _ _ => 0 : Mat 1 1024) := fun _ _ => Ideal.ofBits_zero_f32

theorem z_k4_pay1 : Re (k4_pay1 (F := Ideal)) (fun _ _ => 0 : Mat 1024 1024) := fun _ _ => Ideal.ofBits_zero_f32

theorem z_k5_pay1 : Re (k5_pay1 (F := Ideal)) (fun _ _ => 0 : Mat 256 1024) := fun _ _ => Ideal.ofBits_zero_f32

theorem z_k6_pay1 : Re (k6_pay1 (F := Ideal)) (fun _ _ => 0 : Mat 1024 1024) := fun _ _ => Ideal.ofBits_zero_f32

theorem z_k8_pay1 : Re (k8_pay1 (F := Ideal)) (fun _ _ => 0 : Mat 1024 1024) := fun _ _ => Ideal.ofBits_zero_f32

theorem z_k9_pay8 : Re (k9_pay8 (F := Ideal)) (fun _ _ => 0 : Mat 1 1024) := fun _ _ => Ideal.ofBits_zero_f32

theorem z_k9_pay16 : Re (k9_pay16 (F := Ideal)) (fun _ _ => 0 : Mat 1 1024) := fun _ _ => Ideal.ofBits_zero_f32

theorem z_k10_pay1 : Re (k10_pay1 (F := Ideal)) (fun _ _ => 0 : Mat 1024 1024) := fun _ _ => Ideal.ofBits_zero_f32

theorem z_k11_pay9 : Re (k11_pay9 (F := Ideal)) (fun _ _ => 0 : Mat 1 512) := fun _ _ => Ideal.ofBits_zero_f32

theorem z_k11_pay29 : Re (k11_pay29 (F := Ideal)) (fun _ _ => 0 : Mat 1 512) := fun _ _ => Ideal.ofBits_zero_f32

end Cert.Tail
end
end
-- ==== Proof.TailAcc.lean ====
module
public import proofs.«01_k».proof.Proof.TailSpec

@[expose] public section

noncomputable section

namespace Cert.Tail

open Idealize.ShloMosaic Idealize.ShloMosaic.TcCoe Idealize.ShloMosaic.Tactic Idealize.SL.Sem

/-- A matrix that starts afresh at every multiple of `J` and otherwise gains the point's term is the
sum of the terms since the last multiple. -/
theorem acc_re {m n N J : ℕ} (hJ : 0 < J) (f : (k : ℕ) → k < N → (⟨2, ![m, n]⟩ : Shape).Idx → EReal) (term : ℕ → Mat m n)
    (h0 : ∀ t : Fin N, t.val % J = 0 → Re (f t.val t.isLt) (plus (fun _ _ => 0) (term t.val)))
    (hs : ∀ t : Fin N, ¬ t.val % J = 0 → ∀ a, (∀ h', Re (f (t.val - 1) h') a) → Re (f t.val t.isLt) (plus a (term t.val)))
    (t : ℕ) (h : t < N) : Re (f t h) (fun i j => ∑ k ∈ Finset.range (t % J + 1), term (J * (t / J) + k) i j) := by
  induction t with
  | zero =>
    intro i j
    refine (h0 ⟨0, h⟩ (Nat.zero_mod J) i j).trans (congrArg Real.toEReal ?_)
    simp [plus, Nat.zero_mod, Nat.zero_div]
  | succ t ih =>
    intro i j
    by_cases hm : (t + 1) % J = 0
    · refine (h0 ⟨t + 1, h⟩ hm i j).trans (congrArg Real.toEReal ?_)
      have e : J * ((t + 1) / J) = t + 1 := by have := Nat.mod_add_div (t + 1) J; omega
      simp [plus, hm, e]
    · have hd : (t + 1) / J = t / J := by
        rw [Nat.succ_div, if_neg fun hh => hm (Nat.mod_eq_zero_of_dvd hh)]; rfl
      have h1 : (t + 1) % J = t % J + 1 := by
        have a1 := Nat.mod_add_div (t + 1) J
        have a2 := Nat.mod_add_div t J
        rw [hd] at a1
        omega
      refine (hs ⟨t + 1, h⟩ hm _ (fun h' => ih h') i j).trans (congrArg Real.toEReal ?_)
      have e : J * (t / J) + (t % J + 1) = t + 1 := by have := Nat.mod_add_div t J; omega
      rw [h1, hd]
      refine Eq.trans ?_ (Finset.sum_range_succ (fun k => term (J * (t / J) + k) i j) (t % J + 1)).symm
      rw [e]
      rfl

/-- At the last of 32 points the sum of the points' terms is the whole sum. -/
theorem last32 {m n : ℕ} {t : ℕ} (ht : t < 32) (hf : t % 32 = 31) (term : ℕ → Mat m n) (g : Mat m n)
    (hg : ∀ i j, ∑ k ∈ Finset.range 32, term k i j = g i j) :
    (fun i j => ∑ k ∈ Finset.range (t % 32 + 1), term (32 * (t / 32) + k) i j) = g := by
  obtain rfl : t = 31 := by omega
  funext i j
  rw [← hg i j]
  exact Finset.sum_congr rfl fun k _ => congrArg (fun z => term z i j) (by omega)

/-- At the last of 8 points the sum of the points' terms is the sum over a whole column of tiles. -/
theorem last8 {m n : ℕ} {t : ℕ} (hf : t % 8 = 7) (term : ℕ → ℕ → Mat m n) (g : Mat m n)
    (hg : ∀ i j, ∑ k ∈ Finset.range 8, term (t / 8) k i j = g i j) :
    (fun i j => ∑ k ∈ Finset.range (t % 8 + 1), term ((8 * (t / 8) + k) / 8) ((8 * (t / 8) + k) % 8) i j) = g := by
  funext i j
  rw [← hg i j, hf]
  refine Finset.sum_congr rfl fun k hk => ?_
  have hk := Finset.mem_range.mp hk
  rw [show (8 * (t / 8) + k) / 8 = t / 8 by omega, show (8 * (t / 8) + k) % 8 = k by omega]

section rows
variable {m n : ℕ} (k : ℕ)
theorem blk_mm (a : Mat 16384 m) (b : Mat m n) : blk k (mm a b) = mm (blk k a) b := rfl
theorem blk_cat (a b : Mat 16384 512) : blk k (cat a b) = cat (blk k a) (blk k b) := rfl
theorem blk_nrm (a : Mat 16384 n) (g : Mat 1 n) : blk k (nrm a g) = nrm (blk k a) g := rfl
theorem blk_res (x y : Mat 16384 n) (g : Mat 1 n) : blk k (res x y g) = res (blk k x) (blk k y) g := rfl
end rows

/-- Column `j` of tile `q` of 1024 columns. -/
def col (q : ℕ) (j : Fin 1024) : Fin 4096 := ⟨(1024 * q + j.val) % 4096, Nat.mod_lt _ (by norm_num)⟩
/-- Tile `q` of 1024 columns. -/
def colt {m : ℕ} (q : ℕ) (f : Mat m 4096) : Mat m 1024 := fun r j => f r (col q j)
/-- Tile `q` of 1024 rows. -/
def rowt {n : ℕ} (q : ℕ) (f : Mat 4096 n) : Mat 1024 n := fun r j => f (col q r) j

theorem nrg_sum {n : ℕ} (dy x : Mat 16384 n) (i : Fin 1) (j : Fin n) :
    ∑ k ∈ Finset.range 32, nrg (blk k dy) (blk k x) i j = nrg dy x i j :=
  sum_row fun s => dy s j * nr x s j

theorem ssq_sum {n : ℕ} (e : Mat 16384 n) (c : ℝ) :
    ∑ k ∈ Finset.range 32, ssq (blk k e) * c = ssq e * c := by
  rw [← Finset.sum_mul]
  exact congrArg (· * c) (sum_row fun s => ∑ j, e s j * e s j)

theorem tn_sum {m n : ℕ} (a : Mat 16384 m) (b : Mat 16384 n) (i : Fin m) (j : Fin n) :
    ∑ k ∈ Finset.range 8, tn (blk8 k a) (blk8 k b) i j = tn a b i j :=
  sum_row8 fun s => a s i * b s j

end Cert.Tail

end

end
-- ==== Proof.TailArr0.lean ====
module
public import proofs.«01_k».proof.Proof.TailPay
public import proofs.«01_k».proof.Proof.TailAcc
public import proofs.«01_k».proof.Proof.Gen.Kernel2Ideal.Frame.Region0
public import Idealize.ShloMosaic.Lib.Pipeline.ValueKit

@[expose] public section

set_option maxRecDepth 16384

noncomputable section

namespace Cert.Tail

open Cert.Kernel2Ideal Cert.Kernel2Ideal.Gen
open Idealize.ShloMosaic Idealize.ShloMosaic.TcCoe Idealize.ShloMosaic.Tactic Idealize.SL.Sem

section arr
variable (V : (c : Dev nD) → (b : Ref sig .tc) → Buf (Elt Ideal) ((c : Thread nD τ).loc b)) (c : Dev nD)

theorem ix0_0 : ∀ t : Fin cfg0.N, win0_0.index t = ![t.val, 0] := (by decide +kernel : ∀ t : Fin grid0.N, _)
theorem ix0_1 : ∀ t : Fin cfg0.N, win0_1.index t = ![t.val, 0] := (by decide +kernel : ∀ t : Fin grid0.N, _)
theorem ix0_2 : ∀ t : Fin cfg0.N, win0_2.index t = ![t.val, 0] := (by decide +kernel : ∀ t : Fin grid0.N, _)
theorem ix0_3 : ∀ t : Fin cfg0.N, win0_3.index t = ![0, 0] := (by decide +kernel : ∀ t : Fin grid0.N, _)
theorem ix0_4 : ∀ t : Fin cfg0.N, win0_4.index t = ![0, 0] := (by decide +kernel : ∀ t : Fin grid0.N, _)
theorem ix0_5 : ∀ t : Fin cfg0.N, win0_5.index t = ![0, 0] := (by decide +kernel : ∀ t : Fin grid0.N, _)
theorem ix0_6 : ∀ t : Fin cfg0.N, win0_6.index t = ![0, 0] := (by decide +kernel : ∀ t : Fin grid0.N, _)
theorem ix0_7 : ∀ t : Fin cfg0.N, win0_7.index t = ![0, 0] := (by decide +kernel : ∀ t : Fin grid0.N, _)
theorem ix0_8 : ∀ t : Fin cfg0.N, win0_8.index t = ![t.val, 0] := (by decide +kernel : ∀ t : Fin grid0.N, _)
theorem ix0_9 : ∀ t : Fin cfg0.N, win0_9.index t = ![t.val, 0] := (by decide +kernel : ∀ t : Fin grid0.N, _)
theorem ix0_10 : ∀ t : Fin cfg0.N, win0_10.index t = ![t.val, 0] := (by decide +kernel : ∀ t : Fin grid0.N, _)
theorem ix0_11 : ∀ t : Fin cfg0.N, win0_11.index t = ![t.val, 0] := (by decide +kernel : ∀ t : Fin grid0.N, _)

theorem b0_0 {f : Mat 16384 512} (h : Re (V c main_arg0) f) (t : Fin cfg0.N) : Re (iblk0 V c 0 t) (blk t.val f) := by
  have ht : t.val < 32 := t.isLt
  intro i j
  refine Eq.trans ?_ (h (row t.val i) j)
  blk_simp [iblk0]
  refine congrArg (V c main_arg0) (funext fun a => Fin.ext ?_)
  match a with
  | ⟨0, _⟩ => blk_simp [ix0_0]; simp [ix2, row]; omega
  | ⟨1, _⟩ => blk_simp [ix0_0]

theorem b0_1 {f : Mat 16384 512} (h : Re (V c main_arg1) f) (t : Fin cfg0.N) : Re (iblk0 V c 1 t) (blk t.val f) := by
  have ht : t.val < 32 := t.isLt
  intro i j
  refine Eq.trans ?_ (h (row t.val i) j)
  blk_simp [iblk0]
  refine congrArg (V c main_arg1) (funext fun a => Fin.ext ?_)
  match a with
  | ⟨0, _⟩ => blk_simp [ix0_1]; simp [ix2, row]; omega
  | ⟨1, _⟩ => blk_simp [ix0_1]

theorem b0_2 {f : Mat 16384 1024} (h : Re (V c main_arg2) f) (t : Fin cfg0.N) : Re (iblk0 V c 2 t) (blk t.val f) := by
  have ht : t.val < 32 := t.isLt
  intro i j
  refine Eq.trans ?_ (h (row t.val i) j)
  blk_simp [iblk0]
  refine congrArg (V c main_arg2) (funext fun a => Fin.ext ?_)
  match a with
  | ⟨0, _⟩ => blk_simp [ix0_2]; simp [ix2, row]; omega
  | ⟨1, _⟩ => blk_simp [ix0_2]

theorem b0_3 {f : Mat 1 512} (h : Re (V c main_arg6) f) (t : Fin cfg0.N) : Re (iblk0 V c 3 t) f := by
  have ht : t.val < 32 := t.isLt
  intro i j
  refine Eq.trans ?_ (h i j)
  blk_simp [iblk0]
  refine congrArg (V c main_arg6) (funext fun a => Fin.ext ?_)
  match a with
  | ⟨0, _⟩ => blk_simp [ix0_3]
  | ⟨1, _⟩ => blk_simp [ix0_3]

theorem b0_4 {f : Mat 1 512} (h : Re (V c main_arg7) f) (t : Fin cfg0.N) : Re (iblk0 V c 4 t) f := by
  have ht : t.val < 32 := t.isLt
  intro i j
  refine Eq.trans ?_ (h i j)
  blk_simp [iblk0]
  refine congrArg (V c main_arg7) (funext fun a => Fin.ext ?_)
  match a with
  | ⟨0, _⟩ => blk_simp [ix0_4]
  | ⟨1, _⟩ => blk_simp [ix0_4]

theorem b0_5 {f : Mat 1024 1024} (h : Re (V c main_v0) f) (t : Fin cfg0.N) : Re (iblk0 V c 5 t) f := by
  have ht : t.val < 32 := t.isLt
  intro i j
  refine Eq.trans ?_ (h i j)
  blk_simp [iblk0]
  refine congrArg (V c main_v0) (funext fun a => Fin.ext ?_)
  match a with
  | ⟨0, _⟩ => blk_simp [ix0_5]
  | ⟨1, _⟩ => blk_simp [ix0_5]

theorem b0_6 {f : Mat 1 1024} (h : Re (V c main_arg9) f) (t : Fin cfg0.N) : Re (iblk0 V c 6 t) f := by
  have ht : t.val < 32 := t.isLt
  intro i j
  refine Eq.trans ?_ (h i j)
  blk_simp [iblk0]
  refine congrArg (V c main_arg9) (funext fun a => Fin.ext ?_)
  match a with
  | ⟨0, _⟩ => blk_simp [ix0_6]
  | ⟨1, _⟩ => blk_simp [ix0_6]

theorem b0_7 {f : Mat 1 1024} (h : Re (V c main_arg10) f) (t : Fin cfg0.N) : Re (iblk0 V c 7 t) f := by
  have ht : t.val < 32 := t.isLt
  intro i j
  refine Eq.trans ?_ (h i j)
  blk_simp [iblk0]
  refine congrArg (V c main_arg10) (funext fun a => Fin.ext ?_)
  match a with
  | ⟨0, _⟩ => blk_simp [ix0_7]
  | ⟨1, _⟩ => blk_simp [ix0_7]

theorem a0_8 (g : Mat 16384 1024) (h : ∀ t : Fin cfg0.N, Re ((dat0 V c).after 8 t) (blk t.val g)) :
    (dat0 V c).arrAt 8 cfg0.N = Arr g := by
  refine (dat0 V c).arrAt_eq_of_covers 8 _ (by decide +kernel) fun t hf y => ?_
  have ht : t.val < 32 := t.isLt
  obtain ⟨r, x, rfl⟩ : ∃ (r : Fin 512) (x : Fin 1024), y = ix2 r x := ⟨y 0, y 1, eq_ix2 y⟩
  refine (h t r x).trans ?_
  refine congrArg (Arr g) (funext fun a => Fin.ext ?_ : ix2 (row t.val r) x = _)
  match a with
  | ⟨0, _⟩ => blk_simp [ix0_8]; simp [ix2, row]; omega
  | ⟨1, _⟩ => blk_simp [ix0_8]

theorem a0_9 (g : Mat 16384 1024) (h : ∀ t : Fin cfg0.N, Re ((dat0 V c).after 9 t) (blk t.val g)) :
    (dat0 V c).arrAt 9 cfg0.N = Arr g := by
  refine (dat0 V c).arrAt_eq_of_covers 9 _ (by decide +kernel) fun t hf y => ?_
  have ht : t.val < 32 := t.isLt
  obtain ⟨r, x, rfl⟩ : ∃ (r : Fin 512) (x : Fin 1024), y = ix2 r x := ⟨y 0, y 1, eq_ix2 y⟩
  refine (h t r x).trans ?_
  refine congrArg (Arr g) (funext fun a => Fin.ext ?_ : ix2 (row t.val r) x = _)
  match a with
  | ⟨0, _⟩ => blk_simp [ix0_9]; simp [ix2, row]; omega
  | ⟨1, _⟩ => blk_simp [ix0_9]

theorem a0_10 (g : Mat 16384 1024) (h : ∀ t : Fin cfg0.N, Re ((dat0 V c).after 10 t) (blk t.val g)) :
    (dat0 V c).arrAt 10 cfg0.N = Arr g := by
  refine (dat0 V c).arrAt_eq_of_covers 10 _ (by decide +kernel) fun t hf y => ?_
  have ht : t.val < 32 := t.isLt
  obtain ⟨r, x, rfl⟩ : ∃ (r : Fin 512) (x : Fin 1024), y = ix2 r x := ⟨y 0, y 1, eq_ix2 y⟩
  refine (h t r x).trans ?_
  refine congrArg (Arr g) (funext fun a => Fin.ext ?_ : ix2 (row t.val r) x = _)
  match a with
  | ⟨0, _⟩ => blk_simp [ix0_10]; simp [ix2, row]; omega
  | ⟨1, _⟩ => blk_simp [ix0_10]

theorem a0_11 (g : Mat 16384 1024) (h : ∀ t : Fin cfg0.N, Re ((dat0 V c).after 11 t) (blk t.val g)) :
    (dat0 V c).arrAt 11 cfg0.N = Arr g := by
  refine (dat0 V c).arrAt_eq_of_covers 11 _ (by decide +kernel) fun t hf y => ?_
  have ht : t.val < 32 := t.isLt
  obtain ⟨r, x, rfl⟩ : ∃ (r : Fin 512) (x : Fin 1024), y = ix2 r x := ⟨y 0, y 1, eq_ix2 y⟩
  refine (h t r x).trans ?_
  refine congrArg (Arr g) (funext fun a => Fin.ext ?_ : ix2 (row t.val r) x = _)
  match a with
  | ⟨0, _⟩ => blk_simp [ix0_11]; simp [ix2, row]; omega
  | ⟨1, _⟩ => blk_simp [ix0_11]

variable {ya : Mat 16384 512} (h0 : Re (V c main_arg0) ya) {yb : Mat 16384 512} (h1 : Re (V c main_arg1) yb) {x : Mat 16384 1024} (h2 : Re (V c main_arg2) x) {ga : Mat 1 512} (h3 : Re (V c main_arg6) ga) {gb : Mat 1 512} (h4 : Re (V c main_arg7) gb) {w : Mat 1024 1024} (h5 : Re (V c main_v0) w) {gp : Mat 1 1024} (h6 : Re (V c main_arg9) gp) {gm : Mat 1 1024} (h7 : Re (V c main_arg10) gm)
include h0 h1 h2 h3 h4 h5 h6 h7

/-- What result 8 of this call holds when it has run. -/
theorem r0_8 : (dat0 V c).arrAt 8 cfg0.N = Arr (cat (nrm ya ga) (nrm yb gb)) := by
  refine a0_8 V c _ fun t => ?_
  have H0 := b0_0 V c h0 t
  have H1 := b0_1 V c h1 t
  have H2 := b0_2 V c h2 t
  have H3 := b0_3 V c h3 t
  have H4 := b0_4 V c h4 t
  have H5 := b0_5 V c h5 t
  have H6 := b0_6 V c h6 t
  have H7 := b0_7 V c h7 t
  rw [after0_8]
  have q := p0_3 H0 H1 H3 H4
  frame_out
  exact q

/-- What result 9 of this call holds when it has run. -/
theorem r0_9 : (dat0 V c).arrAt 9 cfg0.N = Arr (mm (cat (nrm ya ga) (nrm yb gb)) w) := by
  refine a0_9 V c _ fun t => ?_
  have H0 := b0_0 V c h0 t
  have H1 := b0_1 V c h1 t
  have H2 := b0_2 V c h2 t
  have H3 := b0_3 V c h3 t
  have H4 := b0_4 V c h4 t
  have H5 := b0_5 V c h5 t
  have H6 := b0_6 V c h6 t
  have H7 := b0_7 V c h7 t
  rw [after0_9]
  have q := p0_4 H0 H1 H3 H4 H5
  frame_out
  exact q

/-- What result 10 of this call holds when it has run. -/
theorem r0_10 : (dat0 V c).arrAt 10 cfg0.N = Arr (res x (mm (cat (nrm ya ga) (nrm yb gb)) w) gp) := by
  refine a0_10 V c _ fun t => ?_
  rw [blk_res, blk_mm, blk_cat, blk_nrm, blk_nrm]
  have H0 := b0_0 V c h0 t
  have H1 := b0_1 V c h1 t
  have H2 := b0_2 V c h2 t
  have H3 := b0_3 V c h3 t
  have H4 := b0_4 V c h4 t
  have H5 := b0_5 V c h5 t
  have H6 := b0_6 V c h6 t
  have H7 := b0_7 V c h7 t
  rw [after0_10]
  have q := p0_1 (p0_4 H0 H1 H3 H4 H5) (p0_5 H0 H1 H3 H4 H5) H2 H6
  frame_out
  unfold k0_pay6 k0_pay7
  simp (disch := decide) only [View.canon_cons_unit_lit', View.ld_unit_lit']
  exact q

/-- What result 11 of this call holds when it has run. -/
theorem r0_11 : (dat0 V c).arrAt 11 cfg0.N = Arr (nrm (res x (mm (cat (nrm ya ga) (nrm yb gb)) w) gp) gm) := by
  refine a0_11 V c _ fun t => ?_
  rw [blk_nrm, blk_res, blk_mm, blk_cat, blk_nrm, blk_nrm]
  have H0 := b0_0 V c h0 t
  have H1 := b0_1 V c h1 t
  have H2 := b0_2 V c h2 t
  have H3 := b0_3 V c h3 t
  have H4 := b0_4 V c h4 t
  have H5 := b0_5 V c h5 t
  have H6 := b0_6 V c h6 t
  have H7 := b0_7 V c h7 t
  rw [after0_11]
  have q := p0_2 (p0_4 H0 H1 H3 H4 H5) (p0_5 H0 H1 H3 H4 H5) H2 H6 H7
  frame_out
  unfold k0_pay6 k0_pay7
  simp (disch := decide) only [View.canon_cons_unit_lit', View.ld_unit_lit']
  exact q

end arr

end Cert.Tail

end

end
-- ==== Proof.TailArr1.lean ====
module
public import proofs.«01_k».proof.Proof.TailPay
public import proofs.«01_k».proof.Proof.TailAcc
public import proofs.«01_k».proof.Proof.Gen.Kernel2Ideal.Frame.Region1
public import Idealize.ShloMosaic.Lib.Pipeline.ValueKit

@[expose] public section

set_option maxRecDepth 16384

noncomputable section

namespace Cert.Tail

open Cert.Kernel2Ideal Cert.Kernel2Ideal.Gen
open Idealize.ShloMosaic Idealize.ShloMosaic.TcCoe Idealize.ShloMosaic.Tactic Idealize.SL.Sem

section arr
variable (V : (c : Dev nD) → (b : Ref sig .tc) → Buf (Elt Ideal) ((c : Thread nD τ).loc b)) (c : Dev nD)

theorem ix1_0 : ∀ t : Fin cfg1.N, win1_0.index t = ![t.val, 0] := (by decide +kernel : ∀ t : Fin grid1.N, _)
theorem ix1_1 : ∀ t : Fin cfg1.N, win1_1.index t = ![0, 0] := (by decide +kernel : ∀ t : Fin grid1.N, _)
theorem ix1_2 : ∀ t : Fin cfg1.N, win1_2.index t = ![t.val, 0] := (by decide +kernel : ∀ t : Fin grid1.N, _)

theorem b1_0 {f : Mat 16384 1024} (h : Re (V c main_v5_3) f) (t : Fin cfg1.N) : Re (iblk1 V c 0 t) (blk t.val f) := by
  have ht : t.val < 32 := t.isLt
  intro i j
  refine Eq.trans ?_ (h (row t.val i) j)
  blk_simp [iblk1]
  refine congrArg (V c main_v5_3) (funext fun a => Fin.ext ?_)
  match a with
  | ⟨0, _⟩ => blk_simp [ix1_0]; simp [ix2, row]; omega
  | ⟨1, _⟩ => blk_simp [ix1_0]

theorem b1_1 {f : Mat 1024 4096} (h : Re (V c main_v1) f) (t : Fin cfg1.N) : Re (iblk1 V c 1 t) f := by
  have ht : t.val < 32 := t.isLt
  intro i j
  refine Eq.trans ?_ (h i j)
  blk_simp [iblk1]
  refine congrArg (V c main_v1) (funext fun a => Fin.ext ?_)
  match a with
  | ⟨0, _⟩ => blk_simp [ix1_1]
  | ⟨1, _⟩ => blk_simp [ix1_1]

theorem a1_2 (g : Mat 16384 4096) (h : ∀ t : Fin cfg1.N, Re ((dat1 V c).after 2 t) (blk t.val g)) :
    (dat1 V c).arrAt 2 cfg1.N = Arr g := by
  refine (dat1 V c).arrAt_eq_of_covers 2 _ (by decide +kernel) fun t hf y => ?_
  have ht : t.val < 32 := t.isLt
  obtain ⟨r, x, rfl⟩ : ∃ (r : Fin 512) (x : Fin 4096), y = ix2 r x := ⟨y 0, y 1, eq_ix2 y⟩
  refine (h t r x).trans ?_
  refine congrArg (Arr g) (funext fun a => Fin.ext ?_ : ix2 (row t.val r) x = _)
  match a with
  | ⟨0, _⟩ => blk_simp [ix1_2]; simp [ix2, row]; omega
  | ⟨1, _⟩ => blk_simp [ix1_2]

variable {x : Mat 16384 1024} (h0 : Re (V c main_v5_3) x) {w : Mat 1024 4096} (h1 : Re (V c main_v1) w)
include h0 h1

/-- What result 2 of this call holds when it has run. -/
theorem r1_2 : (dat1 V c).arrAt 2 cfg1.N = Arr (mm x w) := by
  refine a1_2 V c _ fun t => ?_
  have H0 := b1_0 V c h0 t
  have H1 := b1_1 V c h1 t
  rw [after1_2]
  have q := p1_1 H0 H1
  frame_out
  exact q

end arr

end Cert.Tail

end

end
-- ==== Proof.TailArr2.lean ====
module
public import proofs.«01_k».proof.Proof.TailPay
public import proofs.«01_k».proof.Proof.TailAcc
public import proofs.«01_k».proof.Proof.Gen.Kernel2Ideal.Frame.Region2
public import Idealize.ShloMosaic.Lib.Pipeline.ValueKit

@[expose] public section

set_option maxRecDepth 16384

noncomputable section

namespace Cert.Tail

open Cert.Kernel2Ideal Cert.Kernel2Ideal.Gen
open Idealize.ShloMosaic Idealize.ShloMosaic.TcCoe Idealize.ShloMosaic.Tactic Idealize.SL.Sem

section arr
variable (V : (c : Dev nD) → (b : Ref sig .tc) → Buf (Elt Ideal) ((c : Thread nD τ).loc b)) (c : Dev nD)

theorem ix2_0 : ∀ t : Fin cfg2.N, win2_0.index t = ![t.val, 0] := (by decide +kernel : ∀ t : Fin grid2.N, _)
theorem ix2_1 : ∀ t : Fin cfg2.N, win2_1.index t = ![0, 0] := (by decide +kernel : ∀ t : Fin grid2.N, _)
theorem ix2_2 : ∀ t : Fin cfg2.N, win2_2.index t = ![t.val, 0] := (by decide +kernel : ∀ t : Fin grid2.N, _)
theorem ix2_3 : ∀ t : Fin cfg2.N, win2_3.index t = ![0, 0] := (by decide +kernel : ∀ t : Fin grid2.N, _)
theorem ix2_4 : ∀ t : Fin cfg2.N, win2_4.index t = ![0, 0] := (by decide +kernel : ∀ t : Fin grid2.N, _)
theorem ix2_5 : ∀ t : Fin cfg2.N, win2_5.index t = ![t.val, 0] := (by decide +kernel : ∀ t : Fin grid2.N, _)
theorem ix2_6 : ∀ t : Fin cfg2.N, win2_6.index t = ![t.val, 0] := (by decide +kernel : ∀ t : Fin grid2.N, _)
theorem ix2_7 : ∀ t : Fin cfg2.N, win2_7.index t = ![t.val, 0] := (by decide +kernel : ∀ t : Fin grid2.N, _)

theorem b2_0 {f : Mat 16384 4096} (h : Re (V c main_v6) f) (t : Fin cfg2.N) : Re (iblk2 V c 0 t) (blk t.val f) := by
  have ht : t.val < 32 := t.isLt
  intro i j
  refine Eq.trans ?_ (h (row t.val i) j)
  blk_simp [iblk2]
  refine congrArg (V c main_v6) (funext fun a => Fin.ext ?_)
  match a with
  | ⟨0, _⟩ => blk_simp [ix2_0]; simp [ix2, row]; omega
  | ⟨1, _⟩ => blk_simp [ix2_0]

theorem b2_1 {f : Mat 4096 1024} (h : Re (V c main_v2) f) (t : Fin cfg2.N) : Re (iblk2 V c 1 t) f := by
  have ht : t.val < 32 := t.isLt
  intro i j
  refine Eq.trans ?_ (h i j)
  blk_simp [iblk2]
  refine congrArg (V c main_v2) (funext fun a => Fin.ext ?_)
  match a with
  | ⟨0, _⟩ => blk_simp [ix2_1]
  | ⟨1, _⟩ => blk_simp [ix2_1]

theorem b2_2 {f : Mat 16384 1024} (h : Re (V c main_v5_2) f) (t : Fin cfg2.N) : Re (iblk2 V c 2 t) (blk t.val f) := by
  have ht : t.val < 32 := t.isLt
  intro i j
  refine Eq.trans ?_ (h (row t.val i) j)
  blk_simp [iblk2]
  refine congrArg (V c main_v5_2) (funext fun a => Fin.ext ?_)
  match a with
  | ⟨0, _⟩ => blk_simp [ix2_2]; simp [ix2, row]; omega
  | ⟨1, _⟩ => blk_simp [ix2_2]

theorem b2_3 {f : Mat 1 1024} (h : Re (V c main_arg13) f) (t : Fin cfg2.N) : Re (iblk2 V c 3 t) f := by
  have ht : t.val < 32 := t.isLt
  intro i j
  refine Eq.trans ?_ (h i j)
  blk_simp [iblk2]
  refine congrArg (V c main_arg13) (funext fun a => Fin.ext ?_)
  match a with
  | ⟨0, _⟩ => blk_simp [ix2_3]
  | ⟨1, _⟩ => blk_simp [ix2_3]

theorem b2_4 {f : Mat 1 1024} (h : Re (V c main_arg14) f) (t : Fin cfg2.N) : Re (iblk2 V c 4 t) f := by
  have ht : t.val < 32 := t.isLt
  intro i j
  refine Eq.trans ?_ (h i j)
  blk_simp [iblk2]
  refine congrArg (V c main_arg14) (funext fun a => Fin.ext ?_)
  match a with
  | ⟨0, _⟩ => blk_simp [ix2_4]
  | ⟨1, _⟩ => blk_simp [ix2_4]

theorem a2_5 (g : Mat 16384 1024) (h : ∀ t : Fin cfg2.N, Re ((dat2 V c).after 5 t) (blk t.val g)) :
    (dat2 V c).arrAt 5 cfg2.N = Arr g := by
  refine (dat2 V c).arrAt_eq_of_covers 5 _ (by decide +kernel) fun t hf y => ?_
  have ht : t.val < 32 := t.isLt
  obtain ⟨r, x, rfl⟩ : ∃ (r : Fin 512) (x : Fin 1024), y = ix2 r x := ⟨y 0, y 1, eq_ix2 y⟩
  refine (h t r x).trans ?_
  refine congrArg (Arr g) (funext fun a => Fin.ext ?_ : ix2 (row t.val r) x = _)
  match a with
  | ⟨0, _⟩ => blk_simp [ix2_5]; simp [ix2, row]; omega
  | ⟨1, _⟩ => blk_simp [ix2_5]

theorem a2_6 (g : Mat 16384 1024) (h : ∀ t : Fin cfg2.N, Re ((dat2 V c).after 6 t) (blk t.val g)) :
    (dat2 V c).arrAt 6 cfg2.N = Arr g := by
  refine (dat2 V c).arrAt_eq_of_covers 6 _ (by decide +kernel) fun t hf y => ?_
  have ht : t.val < 32 := t.isLt
  obtain ⟨r, x, rfl⟩ : ∃ (r : Fin 512) (x : Fin 1024), y = ix2 r x := ⟨y 0, y 1, eq_ix2 y⟩
  refine (h t r x).trans ?_
  refine congrArg (Arr g) (funext fun a => Fin.ext ?_ : ix2 (row t.val r) x = _)
  match a with
  | ⟨0, _⟩ => blk_simp [ix2_6]; simp [ix2, row]; omega
  | ⟨1, _⟩ => blk_simp [ix2_6]

theorem a2_7 (g : Mat 16384 1024) (h : ∀ t : Fin cfg2.N, Re ((dat2 V c).after 7 t) (blk t.val g)) :
    (dat2 V c).arrAt 7 cfg2.N = Arr g := by
  refine (dat2 V c).arrAt_eq_of_covers 7 _ (by decide +kernel) fun t hf y => ?_
  have ht : t.val < 32 := t.isLt
  obtain ⟨r, x, rfl⟩ : ∃ (r : Fin 512) (x : Fin 1024), y = ix2 r x := ⟨y 0, y 1, eq_ix2 y⟩
  refine (h t r x).trans ?_
  refine congrArg (Arr g) (funext fun a => Fin.ext ?_ : ix2 (row t.val r) x = _)
  match a with
  | ⟨0, _⟩ => blk_simp [ix2_7]; simp [ix2, row]; omega
  | ⟨1, _⟩ => blk_simp [ix2_7]

variable {u : Mat 16384 4096} (h0 : Re (V c main_v6) u) {w : Mat 4096 1024} (h1 : Re (V c main_v2) w) {h : Mat 16384 1024} (h2 : Re (V c main_v5_2) h) {g : Mat 1 1024} (h3 : Re (V c main_arg13) g) {gl : Mat 1 1024} (h4 : Re (V c main_arg14) gl)
include h0 h1 h2 h3 h4

/-- What result 5 of this call holds when it has run. -/
theorem r2_5 : (dat2 V c).arrAt 5 cfg2.N = Arr (mm (rel2 u) w) := by
  refine a2_5 V c _ fun t => ?_
  have H0 := b2_0 V c h0 t
  have H1 := b2_1 V c h1 t
  have H2 := b2_2 V c h2 t
  have H3 := b2_3 V c h3 t
  have H4 := b2_4 V c h4 t
  rw [after2_5]
  have q := p2_2 H0 H1
  frame_out
  exact q

/-- What result 6 of this call holds when it has run. -/
theorem r2_6 : (dat2 V c).arrAt 6 cfg2.N = Arr (res h (mm (rel2 u) w) g) := by
  refine a2_6 V c _ fun t => ?_
  have H0 := b2_0 V c h0 t
  have H1 := b2_1 V c h1 t
  have H2 := b2_2 V c h2 t
  have H3 := b2_3 V c h3 t
  have H4 := b2_4 V c h4 t
  rw [after2_6]
  have q := p2_3 H0 H1 H2 H3
  frame_out
  exact q

/-- What result 7 of this call holds when it has run. -/
theorem r2_7 : (dat2 V c).arrAt 7 cfg2.N = Arr (nrm (res h (mm (rel2 u) w) g) gl) := by
  refine a2_7 V c _ fun t => ?_
  have H0 := b2_0 V c h0 t
  have H1 := b2_1 V c h1 t
  have H2 := b2_2 V c h2 t
  have H3 := b2_3 V c h3 t
  have H4 := b2_4 V c h4 t
  rw [after2_7]
  have q := p2_1 (p2_4 H0 H1 H2 H3) H4
  frame_out
  exact q

end arr

end Cert.Tail

end

end
-- ==== Proof.TailArr3.lean ====
module
public import proofs.«01_k».proof.Proof.TailPay
public import proofs.«01_k».proof.Proof.TailAcc
public import proofs.«01_k».proof.Proof.Gen.Kernel2Ideal.Frame.Region3
public import Idealize.ShloMosaic.Lib.Pipeline.ValueKit

@[expose] public section

set_option maxRecDepth 16384

noncomputable section

namespace Cert.Tail

open Cert.Kernel2Ideal Cert.Kernel2Ideal.Gen
open Idealize.ShloMosaic Idealize.ShloMosaic.TcCoe Idealize.ShloMosaic.Tactic Idealize.SL.Sem

section arr
variable (V : (c : Dev nD) → (b : Ref sig .tc) → Buf (Elt Ideal) ((c : Thread nD τ).loc b)) (c : Dev nD)

theorem ix3_0 : ∀ t : Fin cfg3.N, win3_0.index t = ![t.val, 0] := (by decide +kernel : ∀ t : Fin grid3.N, _)
theorem ix3_1 : ∀ t : Fin cfg3.N, win3_1.index t = ![t.val, 0] := (by decide +kernel : ∀ t : Fin grid3.N, _)
theorem ix3_2 : ∀ t : Fin cfg3.N, win3_2.index t = ![t.val, 0] := (by decide +kernel : ∀ t : Fin grid3.N, _)
theorem ix3_3 : ∀ t : Fin cfg3.N, win3_3.index t = ![t.val, 0] := (by decide +kernel : ∀ t : Fin grid3.N, _)
theorem ix3_4 : ∀ t : Fin cfg3.N, win3_4.index t = ![t.val, 0] := (by decide +kernel : ∀ t : Fin grid3.N, _)
theorem ix3_5 : ∀ t : Fin cfg3.N, win3_5.index t = ![0, 0] := (by decide +kernel : ∀ t : Fin grid3.N, _)
theorem ix3_6 : ∀ t : Fin cfg3.N, win3_6.index t = ![0, 0] := (by decide +kernel : ∀ t : Fin grid3.N, _)
theorem ix3_7 : ∀ t : Fin cfg3.N, win3_7.index t = ![0, 0] := (by decide +kernel : ∀ t : Fin grid3.N, _)
theorem ix3_8 : ∀ t : Fin cfg3.N, win3_8.index t = ![0, 0] := (by decide +kernel : ∀ t : Fin grid3.N, _)
theorem ix3_9 : ∀ t : Fin cfg3.N, win3_9.index t = ![t.val, 0] := (by decide +kernel : ∀ t : Fin grid3.N, _)
theorem ix3_10 : ∀ t : Fin cfg3.N, win3_10.index t = ![t.val, 0] := (by decide +kernel : ∀ t : Fin grid3.N, _)
theorem ix3_11 : ∀ t : Fin cfg3.N, win3_11.index t = ![t.val, 0] := (by decide +kernel : ∀ t : Fin grid3.N, _)
theorem ix3_12 : ∀ t : Fin cfg3.N, win3_12.index t = ![t.val, 0] := (by decide +kernel : ∀ t : Fin grid3.N, _)
theorem ix3_13 : ∀ t : Fin cfg3.N, win3_13.index t = ![0, 0] := (by decide +kernel : ∀ t : Fin grid3.N, _)
theorem ix3_14 : ∀ t : Fin cfg3.N, win3_14.index t = ![0, 0] := (by decide +kernel : ∀ t : Fin grid3.N, _)
theorem ix3_15 : ∀ t : Fin cfg3.N, win3_15.index t = ![0, 0] := (by decide +kernel : ∀ t : Fin grid3.N, _)

theorem b3_0 {f : Mat 16384 1024} (h : Re (V c main_v7_2) f) (t : Fin cfg3.N) : Re (iblk3 V c 0 t) (blk t.val f) := by
  have ht : t.val < 32 := t.isLt
  intro i j
  refine Eq.trans ?_ (h (row t.val i) j)
  blk_simp [iblk3]
  refine congrArg (V c main_v7_2) (funext fun a => Fin.ext ?_)
  match a with
  | ⟨0, _⟩ => blk_simp [ix3_0]; simp [ix2, row]; omega
  | ⟨1, _⟩ => blk_simp [ix3_0]

theorem b3_1 {f : Mat 16384 256} (h : Re (V c main_arg3) f) (t : Fin cfg3.N) : Re (iblk3 V c 1 t) (blk t.val f) := by
  have ht : t.val < 32 := t.isLt
  intro i j
  refine Eq.trans ?_ (h (row t.val i) j)
  blk_simp [iblk3]
  refine congrArg (V c main_arg3) (funext fun a => Fin.ext ?_)
  match a with
  | ⟨0, _⟩ => blk_simp [ix3_1]; simp [ix2, row]; omega
  | ⟨1, _⟩ => blk_simp [ix3_1]

theorem b3_2 {f : Mat 16384 1024} (h : Re (V c main_v7_1) f) (t : Fin cfg3.N) : Re (iblk3 V c 2 t) (blk t.val f) := by
  have ht : t.val < 32 := t.isLt
  intro i j
  refine Eq.trans ?_ (h (row t.val i) j)
  blk_simp [iblk3]
  refine congrArg (V c main_v7_1) (funext fun a => Fin.ext ?_)
  match a with
  | ⟨0, _⟩ => blk_simp [ix3_2]; simp [ix2, row]; omega
  | ⟨1, _⟩ => blk_simp [ix3_2]

theorem b3_3 {f : Mat 16384 1024} (h : Re (V c main_v7_0) f) (t : Fin cfg3.N) : Re (iblk3 V c 3 t) (blk t.val f) := by
  have ht : t.val < 32 := t.isLt
  intro i j
  refine Eq.trans ?_ (h (row t.val i) j)
  blk_simp [iblk3]
  refine congrArg (V c main_v7_0) (funext fun a => Fin.ext ?_)
  match a with
  | ⟨0, _⟩ => blk_simp [ix3_3]; simp [ix2, row]; omega
  | ⟨1, _⟩ => blk_simp [ix3_3]

theorem b3_4 {f : Mat 16384 1024} (h : Re (V c main_arg4) f) (t : Fin cfg3.N) : Re (iblk3 V c 4 t) (blk t.val f) := by
  have ht : t.val < 32 := t.isLt
  intro i j
  refine Eq.trans ?_ (h (row t.val i) j)
  blk_simp [iblk3]
  refine congrArg (V c main_arg4) (funext fun a => Fin.ext ?_)
  match a with
  | ⟨0, _⟩ => blk_simp [ix3_4]; simp [ix2, row]; omega
  | ⟨1, _⟩ => blk_simp [ix3_4]

theorem b3_5 {f : Mat 1024 1024} (h : Re (V c main_v3) f) (t : Fin cfg3.N) : Re (iblk3 V c 5 t) f := by
  have ht : t.val < 32 := t.isLt
  intro i j
  refine Eq.trans ?_ (h i j)
  blk_simp [iblk3]
  refine congrArg (V c main_v3) (funext fun a => Fin.ext ?_)
  match a with
  | ⟨0, _⟩ => blk_simp [ix3_5]
  | ⟨1, _⟩ => blk_simp [ix3_5]

theorem b3_6 {f : Mat 256 1024} (h : Re (V c main_v4) f) (t : Fin cfg3.N) : Re (iblk3 V c 6 t) f := by
  have ht : t.val < 32 := t.isLt
  intro i j
  refine Eq.trans ?_ (h i j)
  blk_simp [iblk3]
  refine congrArg (V c main_v4) (funext fun a => Fin.ext ?_)
  match a with
  | ⟨0, _⟩ => blk_simp [ix3_6]
  | ⟨1, _⟩ => blk_simp [ix3_6]

theorem b3_7 {f : Mat 1 1024} (h : Re (V c main_arg14) f) (t : Fin cfg3.N) : Re (iblk3 V c 7 t) f := by
  have ht : t.val < 32 := t.isLt
  intro i j
  refine Eq.trans ?_ (h i j)
  blk_simp [iblk3]
  refine congrArg (V c main_arg14) (funext fun a => Fin.ext ?_)
  match a with
  | ⟨0, _⟩ => blk_simp [ix3_7]
  | ⟨1, _⟩ => blk_simp [ix3_7]

theorem b3_8 {f : Mat 1 1024} (h : Re (V c main_arg13) f) (t : Fin cfg3.N) : Re (iblk3 V c 8 t) f := by
  have ht : t.val < 32 := t.isLt
  intro i j
  refine Eq.trans ?_ (h i j)
  blk_simp [iblk3]
  refine congrArg (V c main_arg13) (funext fun a => Fin.ext ?_)
  match a with
  | ⟨0, _⟩ => blk_simp [ix3_8]
  | ⟨1, _⟩ => blk_simp [ix3_8]

theorem a3_9 (g : Mat 16384 1024) (h : ∀ t : Fin cfg3.N, Re ((dat3 V c).after 9 t) (blk t.val g)) :
    (dat3 V c).arrAt 9 cfg3.N = Arr g := by
  refine (dat3 V c).arrAt_eq_of_covers 9 _ (by decide +kernel) fun t hf y => ?_
  have ht : t.val < 32 := t.isLt
  obtain ⟨r, x, rfl⟩ : ∃ (r : Fin 512) (x : Fin 1024), y = ix2 r x := ⟨y 0, y 1, eq_ix2 y⟩
  refine (h t r x).trans ?_
  refine congrArg (Arr g) (funext fun a => Fin.ext ?_ : ix2 (row t.val r) x = _)
  match a with
  | ⟨0, _⟩ => blk_simp [ix3_9]; simp [ix2, row]; omega
  | ⟨1, _⟩ => blk_simp [ix3_9]

theorem a3_10 (g : Mat 16384 1024) (h : ∀ t : Fin cfg3.N, Re ((dat3 V c).after 10 t) (blk t.val g)) :
    (dat3 V c).arrAt 10 cfg3.N = Arr g := by
  refine (dat3 V c).arrAt_eq_of_covers 10 _ (by decide +kernel) fun t hf y => ?_
  have ht : t.val < 32 := t.isLt
  obtain ⟨r, x, rfl⟩ : ∃ (r : Fin 512) (x : Fin 1024), y = ix2 r x := ⟨y 0, y 1, eq_ix2 y⟩
  refine (h t r x).trans ?_
  refine congrArg (Arr g) (funext fun a => Fin.ext ?_ : ix2 (row t.val r) x = _)
  match a with
  | ⟨0, _⟩ => blk_simp [ix3_10]; simp [ix2, row]; omega
  | ⟨1, _⟩ => blk_simp [ix3_10]

theorem a3_11 (g : Mat 16384 1024) (h : ∀ t : Fin cfg3.N, Re ((dat3 V c).after 11 t) (blk t.val g)) :
    (dat3 V c).arrAt 11 cfg3.N = Arr g := by
  refine (dat3 V c).arrAt_eq_of_covers 11 _ (by decide +kernel) fun t hf y => ?_
  have ht : t.val < 32 := t.isLt
  obtain ⟨r, x, rfl⟩ : ∃ (r : Fin 512) (x : Fin 1024), y = ix2 r x := ⟨y 0, y 1, eq_ix2 y⟩
  refine (h t r x).trans ?_
  refine congrArg (Arr g) (funext fun a => Fin.ext ?_ : ix2 (row t.val r) x = _)
  match a with
  | ⟨0, _⟩ => blk_simp [ix3_11]; simp [ix2, row]; omega
  | ⟨1, _⟩ => blk_simp [ix3_11]

theorem a3_12 (g : Mat 16384 1024) (h : ∀ t : Fin cfg3.N, Re ((dat3 V c).after 12 t) (blk t.val g)) :
    (dat3 V c).arrAt 12 cfg3.N = Arr g := by
  refine (dat3 V c).arrAt_eq_of_covers 12 _ (by decide +kernel) fun t hf y => ?_
  have ht : t.val < 32 := t.isLt
  obtain ⟨r, x, rfl⟩ : ∃ (r : Fin 512) (x : Fin 1024), y = ix2 r x := ⟨y 0, y 1, eq_ix2 y⟩
  refine (h t r x).trans ?_
  refine congrArg (Arr g) (funext fun a => Fin.ext ?_ : ix2 (row t.val r) x = _)
  match a with
  | ⟨0, _⟩ => blk_simp [ix3_12]; simp [ix2, row]; omega
  | ⟨1, _⟩ => blk_simp [ix3_12]

theorem a3_13 (g : Mat 1 1) (h : ∀ t : Fin cfg3.N, t.val % 32 = 31 → Re ((dat3 V c).after 13 t) g) :
    (dat3 V c).arrAt 13 cfg3.N = Arr g := by
  refine (dat3 V c).arrAt_eq_of_covers 13 _ (by decide +kernel) fun t hf y => ?_
  have ht : t.val < 32 := t.isLt
  obtain ⟨r, x, rfl⟩ : ∃ (r : Fin 1) (x : Fin 1), y = ix2 r x := ⟨y 0, y 1, eq_ix2 y⟩
  refine (h t ((flush3_13 t).mp hf) r x).trans ?_
  refine congrArg (Arr g) (funext fun a => Fin.ext ?_ : ix2 r x = _)
  match a with
  | ⟨0, _⟩ => blk_simp [ix3_13]
  | ⟨1, _⟩ => blk_simp [ix3_13]

theorem a3_14 (g : Mat 1 1024) (h : ∀ t : Fin cfg3.N, t.val % 32 = 31 → Re ((dat3 V c).after 14 t) g) :
    (dat3 V c).arrAt 14 cfg3.N = Arr g := by
  refine (dat3 V c).arrAt_eq_of_covers 14 _ (by decide +kernel) fun t hf y => ?_
  have ht : t.val < 32 := t.isLt
  obtain ⟨r, x, rfl⟩ : ∃ (r : Fin 1) (x : Fin 1024), y = ix2 r x := ⟨y 0, y 1, eq_ix2 y⟩
  refine (h t ((flush3_14 t).mp hf) r x).trans ?_
  refine congrArg (Arr g) (funext fun a => Fin.ext ?_ : ix2 r x = _)
  match a with
  | ⟨0, _⟩ => blk_simp [ix3_14]
  | ⟨1, _⟩ => blk_simp [ix3_14]

theorem a3_15 (g : Mat 1 1024) (h : ∀ t : Fin cfg3.N, t.val % 32 = 31 → Re ((dat3 V c).after 15 t) g) :
    (dat3 V c).arrAt 15 cfg3.N = Arr g := by
  refine (dat3 V c).arrAt_eq_of_covers 15 _ (by decide +kernel) fun t hf y => ?_
  have ht : t.val < 32 := t.isLt
  obtain ⟨r, x, rfl⟩ : ∃ (r : Fin 1) (x : Fin 1024), y = ix2 r x := ⟨y 0, y 1, eq_ix2 y⟩
  refine (h t ((flush3_15 t).mp hf) r x).trans ?_
  refine congrArg (Arr g) (funext fun a => Fin.ext ?_ : ix2 r x = _)
  match a with
  | ⟨0, _⟩ => blk_simp [ix3_15]
  | ⟨1, _⟩ => blk_simp [ix3_15]

variable {xn : Mat 16384 1024} (h0 : Re (V c main_v7_2) xn) {p : Mat 16384 256} (h1 : Re (V c main_arg3) p) {h : Mat 16384 1024} (h2 : Re (V c main_v7_1) h) {f : Mat 16384 1024} (h3 : Re (V c main_v7_0) f) {tg : Mat 16384 1024} (h4 : Re (V c main_arg4) tg) {wg : Mat 1024 1024} (h5 : Re (V c main_v3) wg) {wp : Mat 256 1024} (h6 : Re (V c main_v4) wp) {gl : Mat 1 1024} (h7 : Re (V c main_arg14) gl) {gp : Mat 1 1024} (h8 : Re (V c main_arg13) gp)
include h0 h1 h2 h3 h4 h5 h6 h7 h8

/-- What result 9 of this call holds when it has run. -/
theorem r3_9 : (dat3 V c).arrAt 9 cfg3.N = Arr ((plus (scl (err h (sg (mm xn wg)) (mm p wp) tg) (1 / 1024)) (nrx (nt (dlog (scl (err h (sg (mm xn wg)) (mm p wp) tg) (1 / 1024)) (mm p wp) (sg (mm xn wg))) wg) h gl))) := by
  refine a3_9 V c _ fun t => ?_
  have H0 := b3_0 V c h0 t
  have H1 := b3_1 V c h1 t
  have H2 := b3_2 V c h2 t
  have H3 := b3_3 V c h3 t
  have H4 := b3_4 V c h4 t
  have H5 := b3_5 V c h5 t
  have H6 := b3_6 V c h6 t
  have H7 := b3_7 V c h7 t
  have H8 := b3_8 V c h8 t
  rw [after3_9]
  have q := p3_20 (p3_10 H0 H5 H1 H6 H2 H4) (p3_16 (p3_4 H0 H5) (p3_5 H1 H6) (p3_6 H2) (p3_10 H0 H5 H1 H6 H2 H4) H5 H7)
  by_cases h : t.val % 32 = 0
  · rw [outsAt3_A V c t h h h]; frame_out
    exact q
  · rw [outsAt3_B V c t h h h]; frame_out
    exact q

/-- What result 10 of this call holds when it has run. -/
theorem r3_10 : (dat3 V c).arrAt 10 cfg3.N = Arr (nrx (plus (scl (err h (sg (mm xn wg)) (mm p wp) tg) (1 / 1024)) (nrx (nt (dlog (scl (err h (sg (mm xn wg)) (mm p wp) tg) (1 / 1024)) (mm p wp) (sg (mm xn wg))) wg) h gl)) f gp) := by
  refine a3_10 V c _ fun t => ?_
  have H0 := b3_0 V c h0 t
  have H1 := b3_1 V c h1 t
  have H2 := b3_2 V c h2 t
  have H3 := b3_3 V c h3 t
  have H4 := b3_4 V c h4 t
  have H5 := b3_5 V c h5 t
  have H6 := b3_6 V c h6 t
  have H7 := b3_7 V c h7 t
  have H8 := b3_8 V c h8 t
  rw [after3_10]
  have q := p3_3 (p3_24 (p3_10 H0 H5 H1 H6 H2 H4) (p3_16 (p3_4 H0 H5) (p3_5 H1 H6) (p3_6 H2) (p3_10 H0 H5 H1 H6 H2 H4) H5 H7) H3 H8)
  by_cases h : t.val % 32 = 0
  · rw [outsAt3_A V c t h h h]; frame_out
    exact q
  · rw [outsAt3_B V c t h h h]; frame_out
    exact q

/-- What result 11 of this call holds when it has run. -/
theorem r3_11 : (dat3 V c).arrAt 11 cfg3.N = Arr ((dlog (scl (err h (sg (mm xn wg)) (mm p wp) tg) (1 / 1024)) (mm p wp) (sg (mm xn wg)))) := by
  refine a3_11 V c _ fun t => ?_
  have H0 := b3_0 V c h0 t
  have H1 := b3_1 V c h1 t
  have H2 := b3_2 V c h2 t
  have H3 := b3_3 V c h3 t
  have H4 := b3_4 V c h4 t
  have H5 := b3_5 V c h5 t
  have H6 := b3_6 V c h6 t
  have H7 := b3_7 V c h7 t
  have H8 := b3_8 V c h8 t
  rw [after3_11]
  have q := p3_11 (p3_4 H0 H5) (p3_5 H1 H6) (p3_10 H0 H5 H1 H6 H2 H4)
  by_cases h : t.val % 32 = 0
  · rw [outsAt3_A V c t h h h]; frame_out
    exact q
  · rw [outsAt3_B V c t h h h]; frame_out
    exact q

/-- What result 12 of this call holds when it has run. -/
theorem r3_12 : (dat3 V c).arrAt 12 cfg3.N = Arr (had (scl (err h (sg (mm xn wg)) (mm p wp) tg) (1 / 1024)) (sg (mm xn wg))) := by
  refine a3_12 V c _ fun t => ?_
  have H0 := b3_0 V c h0 t
  have H1 := b3_1 V c h1 t
  have H2 := b3_2 V c h2 t
  have H3 := b3_3 V c h3 t
  have H4 := b3_4 V c h4 t
  have H5 := b3_5 V c h5 t
  have H6 := b3_6 V c h6 t
  have H7 := b3_7 V c h7 t
  have H8 := b3_8 V c h8 t
  rw [after3_12]
  have q := p3_12 (p3_4 H0 H5) (p3_10 H0 H5 H1 H6 H2 H4)
  by_cases h : t.val % 32 = 0
  · rw [outsAt3_A V c t h h h]; frame_out
    exact q
  · rw [outsAt3_B V c t h h h]; frame_out
    exact q

/-- What result 13 of this call, which gathers over the points, holds when it has run. -/
theorem r3_13 : (dat3 V c).arrAt 13 cfg3.N = Arr (fun _ _ => ssq (err h (sg (mm xn wg)) (mm p wp) tg) * (1 / 2048)) := by
  refine a3_13 V c _ fun t hf => ?_
  have ht : t.val < 32 := t.isLt
  have q := acc_re (J := 32) (by decide) (fun n h => (outsAt3 V c n h).2.2.2.2.1) (fun k => fun _ _ => ssq (err (blk k h) (sg (mm (blk k xn) wg)) (mm (blk k p) wp) (blk k tg)) * (1 / 2048))
    (fun t h => by
      have H0 := b3_0 V c h0 t
      have H1 := b3_1 V c h1 t
      have H2 := b3_2 V c h2 t
      have H3 := b3_3 V c h3 t
      have H4 := b3_4 V c h4 t
      have H5 := b3_5 V c h5 t
      have H6 := b3_6 V c h6 t
      have H7 := b3_7 V c h7 t
      have H8 := b3_8 V c h8 t
      show Re (outsAt3 V c t.val t.isLt).2.2.2.2.1 _
      rw [outsAt3_A V c t h h h]; frame_out
      exact p3_9 H0 H5 H1 H6 H2 H4 z_k3_pay8)
    (fun t h acc ha => by
      have H0 := b3_0 V c h0 t
      have H1 := b3_1 V c h1 t
      have H2 := b3_2 V c h2 t
      have H3 := b3_3 V c h3 t
      have H4 := b3_4 V c h4 t
      have H5 := b3_5 V c h5 t
      have H6 := b3_6 V c h6 t
      have H7 := b3_7 V c h7 t
      have H8 := b3_8 V c h8 t
      show Re (outsAt3 V c t.val t.isLt).2.2.2.2.1 _
      rw [outsAt3_B V c t h h h]; frame_out
      exact p3_9 H0 H5 H1 H6 H2 H4 (ha _)) t.val t.isLt
  have e := last32 (m := 1) (n := 1) (t := t.val) ht hf (fun k => fun _ _ => ssq (err (blk k h) (sg (mm (blk k xn) wg)) (mm (blk k p) wp) (blk k tg)) * (1 / 2048)) (fun _ _ => ssq (err h (sg (mm xn wg)) (mm p wp) tg) * (1 / 2048)) (fun _ _ => ssq_sum (err h (sg (mm xn wg)) (mm p wp) tg) (1 / 2048))
  rw [e] at q
  rw [after3_13]
  exact q

/-- What result 14 of this call, which gathers over the points, holds when it has run. -/
theorem r3_14 : (dat3 V c).arrAt 14 cfg3.N = Arr (nrg (nt (dlog (scl (err h (sg (mm xn wg)) (mm p wp) tg) (1 / 1024)) (mm p wp) (sg (mm xn wg))) wg) h) := by
  refine a3_14 V c _ fun t hf => ?_
  have ht : t.val < 32 := t.isLt
  have q := acc_re (J := 32) (by decide) (fun n h => (outsAt3 V c n h).2.2.2.2.2.1) (fun k => nrg (nt (dlog (scl (err (blk k h) (sg (mm (blk k xn) wg)) (mm (blk k p) wp) (blk k tg)) (1 / 1024)) (mm (blk k p) wp) (sg (mm (blk k xn) wg))) wg) (blk k h))
    (fun t h => by
      have H0 := b3_0 V c h0 t
      have H1 := b3_1 V c h1 t
      have H2 := b3_2 V c h2 t
      have H3 := b3_3 V c h3 t
      have H4 := b3_4 V c h4 t
      have H5 := b3_5 V c h5 t
      have H6 := b3_6 V c h6 t
      have H7 := b3_7 V c h7 t
      have H8 := b3_8 V c h8 t
      show Re (outsAt3 V c t.val t.isLt).2.2.2.2.2.1 _
      rw [outsAt3_A V c t h h h]; frame_out
      exact p3_19 (p3_17 (p3_4 H0 H5) (p3_5 H1 H6) (p3_6 H2) (p3_10 H0 H5 H1 H6 H2 H4) H5) z_k3_pay18)
    (fun t h acc ha => by
      have H0 := b3_0 V c h0 t
      have H1 := b3_1 V c h1 t
      have H2 := b3_2 V c h2 t
      have H3 := b3_3 V c h3 t
      have H4 := b3_4 V c h4 t
      have H5 := b3_5 V c h5 t
      have H6 := b3_6 V c h6 t
      have H7 := b3_7 V c h7 t
      have H8 := b3_8 V c h8 t
      show Re (outsAt3 V c t.val t.isLt).2.2.2.2.2.1 _
      rw [outsAt3_B V c t h h h]; frame_out
      exact p3_19 (p3_17 (p3_4 H0 H5) (p3_5 H1 H6) (p3_6 H2) (p3_10 H0 H5 H1 H6 H2 H4) H5) (ha _)) t.val t.isLt
  have e := last32 (m := 1) (n := 1024) (t := t.val) ht hf (fun k => nrg (nt (dlog (scl (err (blk k h) (sg (mm (blk k xn) wg)) (mm (blk k p) wp) (blk k tg)) (1 / 1024)) (mm (blk k p) wp) (sg (mm (blk k xn) wg))) wg) (blk k h)) (nrg (nt (dlog (scl (err h (sg (mm xn wg)) (mm p wp) tg) (1 / 1024)) (mm p wp) (sg (mm xn wg))) wg) h) (nrg_sum (nt (dlog (scl (err h (sg (mm xn wg)) (mm p wp) tg) (1 / 1024)) (mm p wp) (sg (mm xn wg))) wg) h)
  rw [e] at q
  rw [after3_14]
  exact q

/-- What result 15 of this call, which gathers over the points, holds when it has run. -/
theorem r3_15 : (dat3 V c).arrAt 15 cfg3.N = Arr (nrg (plus (scl (err h (sg (mm xn wg)) (mm p wp) tg) (1 / 1024)) (nrx (nt (dlog (scl (err h (sg (mm xn wg)) (mm p wp) tg) (1 / 1024)) (mm p wp) (sg (mm xn wg))) wg) h gl)) f) := by
  refine a3_15 V c _ fun t hf => ?_
  have ht : t.val < 32 := t.isLt
  have q := acc_re (J := 32) (by decide) (fun n h => (outsAt3 V c n h).2.2.2.2.2.2) (fun k => nrg (plus (scl (err (blk k h) (sg (mm (blk k xn) wg)) (mm (blk k p) wp) (blk k tg)) (1 / 1024)) (nrx (nt (dlog (scl (err (blk k h) (sg (mm (blk k xn) wg)) (mm (blk k p) wp) (blk k tg)) (1 / 1024)) (mm (blk k p) wp) (sg (mm (blk k xn) wg))) wg) (blk k h) gl)) (blk k f))
    (fun t h => by
      have H0 := b3_0 V c h0 t
      have H1 := b3_1 V c h1 t
      have H2 := b3_2 V c h2 t
      have H3 := b3_3 V c h3 t
      have H4 := b3_4 V c h4 t
      have H5 := b3_5 V c h5 t
      have H6 := b3_6 V c h6 t
      have H7 := b3_7 V c h7 t
      have H8 := b3_8 V c h8 t
      show Re (outsAt3 V c t.val t.isLt).2.2.2.2.2.2 _
      rw [outsAt3_A V c t h h h]; frame_out
      exact p3_2 (p3_25 (p3_10 H0 H5 H1 H6 H2 H4) (p3_16 (p3_4 H0 H5) (p3_5 H1 H6) (p3_6 H2) (p3_10 H0 H5 H1 H6 H2 H4) H5 H7) H3) z_k3_pay1)
    (fun t h acc ha => by
      have H0 := b3_0 V c h0 t
      have H1 := b3_1 V c h1 t
      have H2 := b3_2 V c h2 t
      have H3 := b3_3 V c h3 t
      have H4 := b3_4 V c h4 t
      have H5 := b3_5 V c h5 t
      have H6 := b3_6 V c h6 t
      have H7 := b3_7 V c h7 t
      have H8 := b3_8 V c h8 t
      show Re (outsAt3 V c t.val t.isLt).2.2.2.2.2.2 _
      rw [outsAt3_B V c t h h h]; frame_out
      exact p3_2 (p3_25 (p3_10 H0 H5 H1 H6 H2 H4) (p3_16 (p3_4 H0 H5) (p3_5 H1 H6) (p3_6 H2) (p3_10 H0 H5 H1 H6 H2 H4) H5 H7) H3) (ha _)) t.val t.isLt
  have e := last32 (m := 1) (n := 1024) (t := t.val) ht hf (fun k => nrg (plus (scl (err (blk k h) (sg (mm (blk k xn) wg)) (mm (blk k p) wp) (blk k tg)) (1 / 1024)) (nrx (nt (dlog (scl (err (blk k h) (sg (mm (blk k xn) wg)) (mm (blk k p) wp) (blk k tg)) (1 / 1024)) (mm (blk k p) wp) (sg (mm (blk k xn) wg))) wg) (blk k h) gl)) (blk k f)) (nrg (plus (scl (err h (sg (mm xn wg)) (mm p wp) tg) (1 / 1024)) (nrx (nt (dlog (scl (err h (sg (mm xn wg)) (mm p wp) tg) (1 / 1024)) (mm p wp) (sg (mm xn wg))) wg) h gl)) f) (nrg_sum (plus (scl (err h (sg (mm xn wg)) (mm p wp) tg) (1 / 1024)) (nrx (nt (dlog (scl (err h (sg (mm xn wg)) (mm p wp) tg) (1 / 1024)) (mm p wp) (sg (mm xn wg))) wg) h gl)) f)
  rw [e] at q
  rw [after3_15]
  exact q

end arr

end Cert.Tail

end

end
-- ==== Proof.TailArr4.lean ====
module
public import proofs.«01_k».proof.Proof.TailPay
public import proofs.«01_k».proof.Proof.TailAcc
public import proofs.«01_k».proof.Proof.Gen.Kernel2Ideal.Frame.Region4
public import Idealize.ShloMosaic.Lib.Pipeline.ValueKit

@[expose] public section

set_option maxRecDepth 16384

noncomputable section

namespace Cert.Tail

open Cert.Kernel2Ideal Cert.Kernel2Ideal.Gen
open Idealize.ShloMosaic Idealize.ShloMosaic.TcCoe Idealize.ShloMosaic.Tactic Idealize.SL.Sem

section arr
variable (V : (c : Dev nD) → (b : Ref sig .tc) → Buf (Elt Ideal) ((c : Thread nD τ).loc b)) (c : Dev nD)

theorem ix4_0 : ∀ t : Fin cfg4.N, win4_0.index t = ![t.val % 8, 0] := (by decide +kernel : ∀ t : Fin grid4.N, _)
theorem ix4_1 : ∀ t : Fin cfg4.N, win4_1.index t = ![t.val % 8, 0] := (by decide +kernel : ∀ t : Fin grid4.N, _)
theorem ix4_2 : ∀ t : Fin cfg4.N, win4_2.index t = ![0, 0] := (by decide +kernel : ∀ t : Fin grid4.N, _)

theorem b4_0 {f : Mat 16384 1024} (h : Re (V c main_v7_2) f) (t : Fin cfg4.N) : Re (iblk4 V c 0 t) (blk8 (t.val % 8) f) := by
  have ht : t.val < 8 := t.isLt
  intro i j
  refine Eq.trans ?_ (h (row8 (t.val % 8) i) j)
  blk_simp [iblk4]
  refine congrArg (V c main_v7_2) (funext fun a => Fin.ext ?_)
  match a with
  | ⟨0, _⟩ => blk_simp [ix4_0]; simp [ix2, row8]; omega
  | ⟨1, _⟩ => blk_simp [ix4_0]

theorem b4_1 {f : Mat 16384 1024} (h : Re (V c main_v8_2) f) (t : Fin cfg4.N) : Re (iblk4 V c 1 t) (blk8 (t.val % 8) f) := by
  have ht : t.val < 8 := t.isLt
  intro i j
  refine Eq.trans ?_ (h (row8 (t.val % 8) i) j)
  blk_simp [iblk4]
  refine congrArg (V c main_v8_2) (funext fun a => Fin.ext ?_)
  match a with
  | ⟨0, _⟩ => blk_simp [ix4_1]; simp [ix2, row8]; omega
  | ⟨1, _⟩ => blk_simp [ix4_1]

theorem a4_2 (g : Mat 1024 1024) (h : ∀ t : Fin cfg4.N, t.val % 8 = 7 → Re ((dat4 V c).after 2 t) g) :
    (dat4 V c).arrAt 2 cfg4.N = Arr g := by
  refine (dat4 V c).arrAt_eq_of_covers 2 _ (by decide +kernel) fun t hf y => ?_
  have ht : t.val < 8 := t.isLt
  obtain ⟨r, x, rfl⟩ : ∃ (r : Fin 1024) (x : Fin 1024), y = ix2 r x := ⟨y 0, y 1, eq_ix2 y⟩
  refine (h t ((flush4_2 t).mp hf) r x).trans ?_
  refine congrArg (Arr g) (funext fun a => Fin.ext ?_ : ix2 r x = _)
  match a with
  | ⟨0, _⟩ => blk_simp [ix4_2]
  | ⟨1, _⟩ => blk_simp [ix4_2]

variable {a : Mat 16384 1024} (h0 : Re (V c main_v7_2) a) {b : Mat 16384 1024} (h1 : Re (V c main_v8_2) b)
include h0 h1

/-- The result of this call is the product it is meant to be. -/
theorem r4_2 : (dat4 V c).arrAt 2 cfg4.N = Arr (tn a b) := by
  refine a4_2 V c _ fun t hf => ?_
  have ht : t.val < 8 := t.isLt
  have q := acc_re (J := 8) (by decide) (fun n h => outsAt4 V c n h) (fun n => (fun q r : ℕ => tn (blk8 r a) (blk8 r b)) (n / 8) (n % 8))
    (fun t h => by
      have H0 := b4_0 V c h0 t
      have H1 := b4_1 V c h1 t
      show Re (outsAt4 V c t.val t.isLt) _
      rw [outsAt4_A V c t h]; frame_out
      exact p4_2 H0 z_k4_pay1 H1)
    (fun t h acc ha => by
      have H0 := b4_0 V c h0 t
      have H1 := b4_1 V c h1 t
      show Re (outsAt4 V c t.val t.isLt) _
      rw [outsAt4_B V c t h]; frame_out
      exact p4_2 H0 (ha _) H1) t.val t.isLt
  have e := last8 (t := t.val) hf (fun q r : ℕ => tn (blk8 r a) (blk8 r b)) (tn a b) (tn_sum a b)
  rw [e] at q
  rw [after4_2]
  exact q

end arr

end Cert.Tail

end

end
-- ==== Proof.TailArr5.lean ====
module
public import proofs.«01_k».proof.Proof.TailPay
public import proofs.«01_k».proof.Proof.TailAcc
public import proofs.«01_k».proof.Proof.Gen.Kernel2Ideal.Frame.Region5
public import Idealize.ShloMosaic.Lib.Pipeline.ValueKit

@[expose] public section

set_option maxRecDepth 16384

noncomputable section

namespace Cert.Tail

open Cert.Kernel2Ideal Cert.Kernel2Ideal.Gen
open Idealize.ShloMosaic Idealize.ShloMosaic.TcCoe Idealize.ShloMosaic.Tactic Idealize.SL.Sem

section arr
variable (V : (c : Dev nD) → (b : Ref sig .tc) → Buf (Elt Ideal) ((c : Thread nD τ).loc b)) (c : Dev nD)

theorem ix5_0 : ∀ t : Fin cfg5.N, win5_0.index t = ![t.val % 8, 0] := (by decide +kernel : ∀ t : Fin grid5.N, _)
theorem ix5_1 : ∀ t : Fin cfg5.N, win5_1.index t = ![t.val % 8, 0] := (by decide +kernel : ∀ t : Fin grid5.N, _)
theorem ix5_2 : ∀ t : Fin cfg5.N, win5_2.index t = ![0, 0] := (by decide +kernel : ∀ t : Fin grid5.N, _)

theorem b5_0 {f : Mat 16384 256} (h : Re (V c main_arg3) f) (t : Fin cfg5.N) : Re (iblk5 V c 0 t) (blk8 (t.val % 8) f) := by
  have ht : t.val < 8 := t.isLt
  intro i j
  refine Eq.trans ?_ (h (row8 (t.val % 8) i) j)
  blk_simp [iblk5]
  refine congrArg (V c main_arg3) (funext fun a => Fin.ext ?_)
  match a with
  | ⟨0, _⟩ => blk_simp [ix5_0]; simp [ix2, row8]; omega
  | ⟨1, _⟩ => blk_simp [ix5_0]

theorem b5_1 {f : Mat 16384 1024} (h : Re (V c main_v8_3) f) (t : Fin cfg5.N) : Re (iblk5 V c 1 t) (blk8 (t.val % 8) f) := by
  have ht : t.val < 8 := t.isLt
  intro i j
  refine Eq.trans ?_ (h (row8 (t.val % 8) i) j)
  blk_simp [iblk5]
  refine congrArg (V c main_v8_3) (funext fun a => Fin.ext ?_)
  match a with
  | ⟨0, _⟩ => blk_simp [ix5_1]; simp [ix2, row8]; omega
  | ⟨1, _⟩ => blk_simp [ix5_1]

theorem a5_2 (g : Mat 256 1024) (h : ∀ t : Fin cfg5.N, t.val % 8 = 7 → Re ((dat5 V c).after 2 t) g) :
    (dat5 V c).arrAt 2 cfg5.N = Arr g := by
  refine (dat5 V c).arrAt_eq_of_covers 2 _ (by decide +kernel) fun t hf y => ?_
  have ht : t.val < 8 := t.isLt
  obtain ⟨r, x, rfl⟩ : ∃ (r : Fin 256) (x : Fin 1024), y = ix2 r x := ⟨y 0, y 1, eq_ix2 y⟩
  refine (h t ((flush5_2 t).mp hf) r x).trans ?_
  refine congrArg (Arr g) (funext fun a => Fin.ext ?_ : ix2 r x = _)
  match a with
  | ⟨0, _⟩ => blk_simp [ix5_2]
  | ⟨1, _⟩ => blk_simp [ix5_2]

variable {a : Mat 16384 256} (h0 : Re (V c main_arg3) a) {b : Mat 16384 1024} (h1 : Re (V c main_v8_3) b)
include h0 h1

/-- The result of this call is the product it is meant to be. -/
theorem r5_2 : (dat5 V c).arrAt 2 cfg5.N = Arr (tn a b) := by
  refine a5_2 V c _ fun t hf => ?_
  have ht : t.val < 8 := t.isLt
  have q := acc_re (J := 8) (by decide) (fun n h => outsAt5 V c n h) (fun n => (fun q r : ℕ => tn (blk8 r a) (blk8 r b)) (n / 8) (n % 8))
    (fun t h => by
      have H0 := b5_0 V c h0 t
      have H1 := b5_1 V c h1 t
      show Re (outsAt5 V c t.val t.isLt) _
      rw [outsAt5_A V c t h]; frame_out
      exact p5_2 H0 z_k5_pay1 H1)
    (fun t h acc ha => by
      have H0 := b5_0 V c h0 t
      have H1 := b5_1 V c h1 t
      show Re (outsAt5 V c t.val t.isLt) _
      rw [outsAt5_B V c t h]; frame_out
      exact p5_2 H0 (ha _) H1) t.val t.isLt
  have e := last8 (t := t.val) hf (fun q r : ℕ => tn (blk8 r a) (blk8 r b)) (tn a b) (tn_sum a b)
  rw [e] at q
  rw [after5_2]
  exact q

end arr

end Cert.Tail

end

end
-- ==== Proof.TailArr6.lean ====
module
public import proofs.«01_k».proof.Proof.TailPay
public import proofs.«01_k».proof.Proof.TailAcc
public import proofs.«01_k».proof.Proof.Gen.Kernel2Ideal.Frame.Region6
public import Idealize.ShloMosaic.Lib.Pipeline.ValueKit

@[expose] public section

set_option maxRecDepth 16384

noncomputable section

namespace Cert.Tail

open Cert.Kernel2Ideal Cert.Kernel2Ideal.Gen
open Idealize.ShloMosaic Idealize.ShloMosaic.TcCoe Idealize.ShloMosaic.Tactic Idealize.SL.Sem

section arr
variable (V : (c : Dev nD) → (b : Ref sig .tc) → Buf (Elt Ideal) ((c : Thread nD τ).loc b)) (c : Dev nD)

theorem ix6_0 : ∀ t : Fin cfg6.N, win6_0.index t = ![t.val % 8, t.val / 8] := (by decide +kernel : ∀ t : Fin grid6.N, _)
theorem ix6_1 : ∀ t : Fin cfg6.N, win6_1.index t = ![t.val % 8, 0] := (by decide +kernel : ∀ t : Fin grid6.N, _)
theorem ix6_2 : ∀ t : Fin cfg6.N, win6_2.index t = ![t.val / 8, 0] := (by decide +kernel : ∀ t : Fin grid6.N, _)

theorem b6_0 {f : Mat 16384 4096} (h : Re (V c main_v6) f) (t : Fin cfg6.N) : Re (iblk6 V c 0 t) (blk8 (t.val % 8) (colt (t.val / 8) f)) := by
  have ht : t.val < 32 := t.isLt
  intro i j
  refine Eq.trans ?_ (h (row8 (t.val % 8) i) (col (t.val / 8) j))
  blk_simp [iblk6]
  refine congrArg (V c main_v6) (funext fun a => Fin.ext ?_)
  match a with
  | ⟨0, _⟩ => blk_simp [ix6_0]; simp [ix2, row8]; omega
  | ⟨1, _⟩ => blk_simp [ix6_0]; simp [ix2, col]; omega

theorem b6_1 {f : Mat 16384 1024} (h : Re (V c main_v8_1) f) (t : Fin cfg6.N) : Re (iblk6 V c 1 t) (blk8 (t.val % 8) f) := by
  have ht : t.val < 32 := t.isLt
  intro i j
  refine Eq.trans ?_ (h (row8 (t.val % 8) i) j)
  blk_simp [iblk6]
  refine congrArg (V c main_v8_1) (funext fun a => Fin.ext ?_)
  match a with
  | ⟨0, _⟩ => blk_simp [ix6_1]; simp [ix2, row8]; omega
  | ⟨1, _⟩ => blk_simp [ix6_1]

theorem a6_2 (g : Mat 4096 1024) (h : ∀ t : Fin cfg6.N, t.val % 8 = 7 → Re ((dat6 V c).after 2 t) (rowt (t.val / 8) g)) :
    (dat6 V c).arrAt 2 cfg6.N = Arr g := by
  refine (dat6 V c).arrAt_eq_of_covers 2 _ (by decide +kernel) fun t hf y => ?_
  have ht : t.val < 32 := t.isLt
  obtain ⟨r, x, rfl⟩ : ∃ (r : Fin 1024) (x : Fin 1024), y = ix2 r x := ⟨y 0, y 1, eq_ix2 y⟩
  refine (h t ((flush6_2 t).mp hf) r x).trans ?_
  refine congrArg (Arr g) (funext fun a => Fin.ext ?_ : ix2 (col (t.val / 8) r) x = _)
  match a with
  | ⟨0, _⟩ => blk_simp [ix6_2]; simp [ix2, col]; omega
  | ⟨1, _⟩ => blk_simp [ix6_2]

variable {a : Mat 16384 4096} (h0 : Re (V c main_v6) a) {b : Mat 16384 1024} (h1 : Re (V c main_v8_1) b)
include h0 h1

/-- The result of this call is the product it is meant to be. -/
theorem r6_2 : (dat6 V c).arrAt 2 cfg6.N = Arr (tn (rel2 a) b) := by
  refine a6_2 V c _ fun t hf => ?_
  have ht : t.val < 32 := t.isLt
  have q := acc_re (J := 8) (by decide) (fun n h => outsAt6 V c n h) (fun n => (fun q r : ℕ => tn (rel2 (blk8 r (colt q a))) (blk8 r b)) (n / 8) (n % 8))
    (fun t h => by
      have H0 := b6_0 V c h0 t
      have H1 := b6_1 V c h1 t
      show Re (outsAt6 V c t.val t.isLt) _
      rw [outsAt6_A V c t h]; frame_out
      exact p6_2 H0 z_k6_pay1 H1)
    (fun t h acc ha => by
      have H0 := b6_0 V c h0 t
      have H1 := b6_1 V c h1 t
      show Re (outsAt6 V c t.val t.isLt) _
      rw [outsAt6_B V c t h]; frame_out
      exact p6_2 H0 (ha _) H1) t.val t.isLt
  have e := last8 (t := t.val) hf (fun q r : ℕ => tn (rel2 (blk8 r (colt q a))) (blk8 r b)) (rowt (t.val / 8) (tn (rel2 a) b)) (tn_sum (rel2 (colt (t.val / 8) a)) b)
  rw [e] at q
  rw [after6_2]
  exact q

end arr

end Cert.Tail

end

end
-- ==== Proof.TailArr7.lean ====
module
public import proofs.«01_k».proof.Proof.TailPay
public import proofs.«01_k».proof.Proof.TailAcc
public import proofs.«01_k».proof.Proof.Gen.Kernel2Ideal.Frame.Region7
public import Idealize.ShloMosaic.Lib.Pipeline.ValueKit

@[expose] public section

set_option maxRecDepth 16384

noncomputable section

namespace Cert.Tail

open Cert.Kernel2Ideal Cert.Kernel2Ideal.Gen
open Idealize.ShloMosaic Idealize.ShloMosaic.TcCoe Idealize.ShloMosaic.Tactic Idealize.SL.Sem

section arr
variable (V : (c : Dev nD) → (b : Ref sig .tc) → Buf (Elt Ideal) ((c : Thread nD τ).loc b)) (c : Dev nD)

theorem ix7_0 : ∀ t : Fin cfg7.N, win7_0.index t = ![t.val, 0] := (by decide +kernel : ∀ t : Fin grid7.N, _)
theorem ix7_1 : ∀ t : Fin cfg7.N, win7_1.index t = ![0, 0] := (by decide +kernel : ∀ t : Fin grid7.N, _)
theorem ix7_2 : ∀ t : Fin cfg7.N, win7_2.index t = ![t.val, 0] := (by decide +kernel : ∀ t : Fin grid7.N, _)
theorem ix7_3 : ∀ t : Fin cfg7.N, win7_3.index t = ![t.val, 0] := (by decide +kernel : ∀ t : Fin grid7.N, _)

theorem b7_0 {f : Mat 16384 1024} (h : Re (V c main_v8_1) f) (t : Fin cfg7.N) : Re (iblk7 V c 0 t) (blk t.val f) := by
  have ht : t.val < 32 := t.isLt
  intro i j
  refine Eq.trans ?_ (h (row t.val i) j)
  blk_simp [iblk7]
  refine congrArg (V c main_v8_1) (funext fun a => Fin.ext ?_)
  match a with
  | ⟨0, _⟩ => blk_simp [ix7_0]; simp [ix2, row]; omega
  | ⟨1, _⟩ => blk_simp [ix7_0]

theorem b7_1 {f : Mat 1024 4096} (h : Re (V c main_v12) f) (t : Fin cfg7.N) : Re (iblk7 V c 1 t) f := by
  have ht : t.val < 32 := t.isLt
  intro i j
  refine Eq.trans ?_ (h i j)
  blk_simp [iblk7]
  refine congrArg (V c main_v12) (funext fun a => Fin.ext ?_)
  match a with
  | ⟨0, _⟩ => blk_simp [ix7_1]
  | ⟨1, _⟩ => blk_simp [ix7_1]

theorem b7_2 {f : Mat 16384 4096} (h : Re (V c main_v6) f) (t : Fin cfg7.N) : Re (iblk7 V c 2 t) (blk t.val f) := by
  have ht : t.val < 32 := t.isLt
  intro i j
  refine Eq.trans ?_ (h (row t.val i) j)
  blk_simp [iblk7]
  refine congrArg (V c main_v6) (funext fun a => Fin.ext ?_)
  match a with
  | ⟨0, _⟩ => blk_simp [ix7_2]; simp [ix2, row]; omega
  | ⟨1, _⟩ => blk_simp [ix7_2]

theorem a7_3 (g : Mat 16384 4096) (h : ∀ t : Fin cfg7.N, Re ((dat7 V c).after 3 t) (blk t.val g)) :
    (dat7 V c).arrAt 3 cfg7.N = Arr g := by
  refine (dat7 V c).arrAt_eq_of_covers 3 _ (by decide +kernel) fun t hf y => ?_
  have ht : t.val < 32 := t.isLt
  obtain ⟨r, x, rfl⟩ : ∃ (r : Fin 512) (x : Fin 4096), y = ix2 r x := ⟨y 0, y 1, eq_ix2 y⟩
  refine (h t r x).trans ?_
  refine congrArg (Arr g) (funext fun a => Fin.ext ?_ : ix2 (row t.val r) x = _)
  match a with
  | ⟨0, _⟩ => blk_simp [ix7_3]; simp [ix2, row]; omega
  | ⟨1, _⟩ => blk_simp [ix7_3]

variable {d : Mat 16384 1024} (h0 : Re (V c main_v8_1) d) {w : Mat 1024 4096} (h1 : Re (V c main_v12) w) {u : Mat 16384 4096} (h2 : Re (V c main_v6) u)
include h0 h1 h2

/-- What result 3 of this call holds when it has run. -/
theorem r7_3 : (dat7 V c).arrAt 3 cfg7.N = Arr (drel2 (mm d w) u) := by
  refine a7_3 V c _ fun t => ?_
  have H0 := b7_0 V c h0 t
  have H1 := b7_1 V c h1 t
  have H2 := b7_2 V c h2 t
  rw [after7_3]
  have q := p7_1 H0 H1 H2
  frame_out
  exact q

end arr

end Cert.Tail

end

end
-- ==== Proof.TailArr8.lean ====
module
public import proofs.«01_k».proof.Proof.TailPay
public import proofs.«01_k».proof.Proof.TailAcc
public import proofs.«01_k».proof.Proof.Gen.Kernel2Ideal.Frame.Region8
public import Idealize.ShloMosaic.Lib.Pipeline.ValueKit

@[expose] public section

set_option maxRecDepth 16384

noncomputable section

namespace Cert.Tail

open Cert.Kernel2Ideal Cert.Kernel2Ideal.Gen
open Idealize.ShloMosaic Idealize.ShloMosaic.TcCoe Idealize.ShloMosaic.Tactic Idealize.SL.Sem

section arr
variable (V : (c : Dev nD) → (b : Ref sig .tc) → Buf (Elt Ideal) ((c : Thread nD τ).loc b)) (c : Dev nD)

theorem ix8_0 : ∀ t : Fin cfg8.N, win8_0.index t = ![t.val % 8, 0] := (by decide +kernel : ∀ t : Fin grid8.N, _)
theorem ix8_1 : ∀ t : Fin cfg8.N, win8_1.index t = ![t.val % 8, t.val / 8] := (by decide +kernel : ∀ t : Fin grid8.N, _)
theorem ix8_2 : ∀ t : Fin cfg8.N, win8_2.index t = ![0, t.val / 8] := (by decide +kernel : ∀ t : Fin grid8.N, _)

theorem b8_0 {f : Mat 16384 1024} (h : Re (V c main_v5_3) f) (t : Fin cfg8.N) : Re (iblk8 V c 0 t) (blk8 (t.val % 8) f) := by
  have ht : t.val < 32 := t.isLt
  intro i j
  refine Eq.trans ?_ (h (row8 (t.val % 8) i) j)
  blk_simp [iblk8]
  refine congrArg (V c main_v5_3) (funext fun a => Fin.ext ?_)
  match a with
  | ⟨0, _⟩ => blk_simp [ix8_0]; simp [ix2, row8]; omega
  | ⟨1, _⟩ => blk_simp [ix8_0]

theorem b8_1 {f : Mat 16384 4096} (h : Re (V c main_v13) f) (t : Fin cfg8.N) : Re (iblk8 V c 1 t) (blk8 (t.val % 8) (colt (t.val / 8) f)) := by
  have ht : t.val < 32 := t.isLt
  intro i j
  refine Eq.trans ?_ (h (row8 (t.val % 8) i) (col (t.val / 8) j))
  blk_simp [iblk8]
  refine congrArg (V c main_v13) (funext fun a => Fin.ext ?_)
  match a with
  | ⟨0, _⟩ => blk_simp [ix8_1]; simp [ix2, row8]; omega
  | ⟨1, _⟩ => blk_simp [ix8_1]; simp [ix2, col]; omega

theorem a8_2 (g : Mat 1024 4096) (h : ∀ t : Fin cfg8.N, t.val % 8 = 7 → Re ((dat8 V c).after 2 t) (colt (t.val / 8) g)) :
    (dat8 V c).arrAt 2 cfg8.N = Arr g := by
  refine (dat8 V c).arrAt_eq_of_covers 2 _ (by decide +kernel) fun t hf y => ?_
  have ht : t.val < 32 := t.isLt
  obtain ⟨r, x, rfl⟩ : ∃ (r : Fin 1024) (x : Fin 1024), y = ix2 r x := ⟨y 0, y 1, eq_ix2 y⟩
  refine (h t ((flush8_2 t).mp hf) r x).trans ?_
  refine congrArg (Arr g) (funext fun a => Fin.ext ?_ : ix2 r (col (t.val / 8) x) = _)
  match a with
  | ⟨0, _⟩ => blk_simp [ix8_2]
  | ⟨1, _⟩ => blk_simp [ix8_2]; simp [ix2, col]; omega

variable {a : Mat 16384 1024} (h0 : Re (V c main_v5_3) a) {b : Mat 16384 4096} (h1 : Re (V c main_v13) b)
include h0 h1

/-- The result of this call is the product it is meant to be. -/
theorem r8_2 : (dat8 V c).arrAt 2 cfg8.N = Arr (tn a b) := by
  refine a8_2 V c _ fun t hf => ?_
  have ht : t.val < 32 := t.isLt
  have q := acc_re (J := 8) (by decide) (fun n h => outsAt8 V c n h) (fun n => (fun q r : ℕ => tn (blk8 r a) (blk8 r (colt q b))) (n / 8) (n % 8))
    (fun t h => by
      have H0 := b8_0 V c h0 t
      have H1 := b8_1 V c h1 t
      show Re (outsAt8 V c t.val t.isLt) _
      rw [outsAt8_A V c t h]; frame_out
      exact p8_2 H0 z_k8_pay1 H1)
    (fun t h acc ha => by
      have H0 := b8_0 V c h0 t
      have H1 := b8_1 V c h1 t
      show Re (outsAt8 V c t.val t.isLt) _
      rw [outsAt8_B V c t h]; frame_out
      exact p8_2 H0 (ha _) H1) t.val t.isLt
  have e := last8 (t := t.val) hf (fun q r : ℕ => tn (blk8 r a) (blk8 r (colt q b))) (colt (t.val / 8) (tn a b)) (tn_sum a (colt (t.val / 8) b))
  rw [e] at q
  rw [after8_2]
  exact q

end arr

end Cert.Tail

end

end
-- ==== Proof.TailArr9.lean ====
module
public import proofs.«01_k».proof.Proof.TailPay
public import proofs.«01_k».proof.Proof.TailAcc
public import proofs.«01_k».proof.Proof.Gen.Kernel2Ideal.Frame.Region9
public import Idealize.ShloMosaic.Lib.Pipeline.ValueKit

@[expose] public section

set_option maxRecDepth 16384

noncomputable section

namespace Cert.Tail

open Cert.Kernel2Ideal Cert.Kernel2Ideal.Gen
open Idealize.ShloMosaic Idealize.ShloMosaic.TcCoe Idealize.ShloMosaic.Tactic Idealize.SL.Sem

section arr
variable (V : (c : Dev nD) → (b : Ref sig .tc) → Buf (Elt Ideal) ((c : Thread nD τ).loc b)) (c : Dev nD)

theorem ix9_0 : ∀ t : Fin cfg9.N, win9_0.index t = ![t.val, 0] := (by decide +kernel : ∀ t : Fin grid9.N, _)
theorem ix9_1 : ∀ t : Fin cfg9.N, win9_1.index t = ![0, 0] := (by decide +kernel : ∀ t : Fin grid9.N, _)
theorem ix9_2 : ∀ t : Fin cfg9.N, win9_2.index t = ![t.val, 0] := (by decide +kernel : ∀ t : Fin grid9.N, _)
theorem ix9_3 : ∀ t : Fin cfg9.N, win9_3.index t = ![t.val, 0] := (by decide +kernel : ∀ t : Fin grid9.N, _)
theorem ix9_4 : ∀ t : Fin cfg9.N, win9_4.index t = ![t.val, 0] := (by decide +kernel : ∀ t : Fin grid9.N, _)
theorem ix9_5 : ∀ t : Fin cfg9.N, win9_5.index t = ![0, 0] := (by decide +kernel : ∀ t : Fin grid9.N, _)
theorem ix9_6 : ∀ t : Fin cfg9.N, win9_6.index t = ![0, 0] := (by decide +kernel : ∀ t : Fin grid9.N, _)
theorem ix9_7 : ∀ t : Fin cfg9.N, win9_7.index t = ![t.val, 0] := (by decide +kernel : ∀ t : Fin grid9.N, _)
theorem ix9_8 : ∀ t : Fin cfg9.N, win9_8.index t = ![t.val, 0] := (by decide +kernel : ∀ t : Fin grid9.N, _)
theorem ix9_9 : ∀ t : Fin cfg9.N, win9_9.index t = ![0, 0] := (by decide +kernel : ∀ t : Fin grid9.N, _)
theorem ix9_10 : ∀ t : Fin cfg9.N, win9_10.index t = ![0, 0] := (by decide +kernel : ∀ t : Fin grid9.N, _)

theorem b9_0 {f : Mat 16384 4096} (h : Re (V c main_v13) f) (t : Fin cfg9.N) : Re (iblk9 V c 0 t) (blk t.val f) := by
  have ht : t.val < 32 := t.isLt
  intro i j
  refine Eq.trans ?_ (h (row t.val i) j)
  blk_simp [iblk9]
  refine congrArg (V c main_v13) (funext fun a => Fin.ext ?_)
  match a with
  | ⟨0, _⟩ => blk_simp [ix9_0]; simp [ix2, row]; omega
  | ⟨1, _⟩ => blk_simp [ix9_0]

theorem b9_1 {f : Mat 1024 4096} (h : Re (V c main_v1) f) (t : Fin cfg9.N) : Re (iblk9 V c 1 t) f := by
  have ht : t.val < 32 := t.isLt
  intro i j
  refine Eq.trans ?_ (h i j)
  blk_simp [iblk9]
  refine congrArg (V c main_v1) (funext fun a => Fin.ext ?_)
  match a with
  | ⟨0, _⟩ => blk_simp [ix9_1]
  | ⟨1, _⟩ => blk_simp [ix9_1]

theorem b9_2 {f : Mat 16384 1024} (h : Re (V c main_v8_0) f) (t : Fin cfg9.N) : Re (iblk9 V c 2 t) (blk t.val f) := by
  have ht : t.val < 32 := t.isLt
  intro i j
  refine Eq.trans ?_ (h (row t.val i) j)
  blk_simp [iblk9]
  refine congrArg (V c main_v8_0) (funext fun a => Fin.ext ?_)
  match a with
  | ⟨0, _⟩ => blk_simp [ix9_2]; simp [ix2, row]; omega
  | ⟨1, _⟩ => blk_simp [ix9_2]

theorem b9_3 {f : Mat 16384 1024} (h : Re (V c main_v5_2) f) (t : Fin cfg9.N) : Re (iblk9 V c 3 t) (blk t.val f) := by
  have ht : t.val < 32 := t.isLt
  intro i j
  refine Eq.trans ?_ (h (row t.val i) j)
  blk_simp [iblk9]
  refine congrArg (V c main_v5_2) (funext fun a => Fin.ext ?_)
  match a with
  | ⟨0, _⟩ => blk_simp [ix9_3]; simp [ix2, row]; omega
  | ⟨1, _⟩ => blk_simp [ix9_3]

theorem b9_4 {f : Mat 16384 1024} (h : Re (V c main_v5_1) f) (t : Fin cfg9.N) : Re (iblk9 V c 4 t) (blk t.val f) := by
  have ht : t.val < 32 := t.isLt
  intro i j
  refine Eq.trans ?_ (h (row t.val i) j)
  blk_simp [iblk9]
  refine congrArg (V c main_v5_1) (funext fun a => Fin.ext ?_)
  match a with
  | ⟨0, _⟩ => blk_simp [ix9_4]; simp [ix2, row]; omega
  | ⟨1, _⟩ => blk_simp [ix9_4]

theorem b9_5 {f : Mat 1 1024} (h : Re (V c main_arg10) f) (t : Fin cfg9.N) : Re (iblk9 V c 5 t) f := by
  have ht : t.val < 32 := t.isLt
  intro i j
  refine Eq.trans ?_ (h i j)
  blk_simp [iblk9]
  refine congrArg (V c main_arg10) (funext fun a => Fin.ext ?_)
  match a with
  | ⟨0, _⟩ => blk_simp [ix9_5]
  | ⟨1, _⟩ => blk_simp [ix9_5]

theorem b9_6 {f : Mat 1 1024} (h : Re (V c main_arg9) f) (t : Fin cfg9.N) : Re (iblk9 V c 6 t) f := by
  have ht : t.val < 32 := t.isLt
  intro i j
  refine Eq.trans ?_ (h i j)
  blk_simp [iblk9]
  refine congrArg (V c main_arg9) (funext fun a => Fin.ext ?_)
  match a with
  | ⟨0, _⟩ => blk_simp [ix9_6]
  | ⟨1, _⟩ => blk_simp [ix9_6]

theorem a9_7 (g : Mat 16384 1024) (h : ∀ t : Fin cfg9.N, Re ((dat9 V c).after 7 t) (blk t.val g)) :
    (dat9 V c).arrAt 7 cfg9.N = Arr g := by
  refine (dat9 V c).arrAt_eq_of_covers 7 _ (by decide +kernel) fun t hf y => ?_
  have ht : t.val < 32 := t.isLt
  obtain ⟨r, x, rfl⟩ : ∃ (r : Fin 512) (x : Fin 1024), y = ix2 r x := ⟨y 0, y 1, eq_ix2 y⟩
  refine (h t r x).trans ?_
  refine congrArg (Arr g) (funext fun a => Fin.ext ?_ : ix2 (row t.val r) x = _)
  match a with
  | ⟨0, _⟩ => blk_simp [ix9_7]; simp [ix2, row]; omega
  | ⟨1, _⟩ => blk_simp [ix9_7]

theorem a9_8 (g : Mat 16384 1024) (h : ∀ t : Fin cfg9.N, Re ((dat9 V c).after 8 t) (blk t.val g)) :
    (dat9 V c).arrAt 8 cfg9.N = Arr g := by
  refine (dat9 V c).arrAt_eq_of_covers 8 _ (by decide +kernel) fun t hf y => ?_
  have ht : t.val < 32 := t.isLt
  obtain ⟨r, x, rfl⟩ : ∃ (r : Fin 512) (x : Fin 1024), y = ix2 r x := ⟨y 0, y 1, eq_ix2 y⟩
  refine (h t r x).trans ?_
  refine congrArg (Arr g) (funext fun a => Fin.ext ?_ : ix2 (row t.val r) x = _)
  match a with
  | ⟨0, _⟩ => blk_simp [ix9_8]; simp [ix2, row]; omega
  | ⟨1, _⟩ => blk_simp [ix9_8]

theorem a9_9 (g : Mat 1 1024) (h : ∀ t : Fin cfg9.N, t.val % 32 = 31 → Re ((dat9 V c).after 9 t) g) :
    (dat9 V c).arrAt 9 cfg9.N = Arr g := by
  refine (dat9 V c).arrAt_eq_of_covers 9 _ (by decide +kernel) fun t hf y => ?_
  have ht : t.val < 32 := t.isLt
  obtain ⟨r, x, rfl⟩ : ∃ (r : Fin 1) (x : Fin 1024), y = ix2 r x := ⟨y 0, y 1, eq_ix2 y⟩
  refine (h t ((flush9_9 t).mp hf) r x).trans ?_
  refine congrArg (Arr g) (funext fun a => Fin.ext ?_ : ix2 r x = _)
  match a with
  | ⟨0, _⟩ => blk_simp [ix9_9]
  | ⟨1, _⟩ => blk_simp [ix9_9]

theorem a9_10 (g : Mat 1 1024) (h : ∀ t : Fin cfg9.N, t.val % 32 = 31 → Re ((dat9 V c).after 10 t) g) :
    (dat9 V c).arrAt 10 cfg9.N = Arr g := by
  refine (dat9 V c).arrAt_eq_of_covers 10 _ (by decide +kernel) fun t hf y => ?_
  have ht : t.val < 32 := t.isLt
  obtain ⟨r, x, rfl⟩ : ∃ (r : Fin 1) (x : Fin 1024), y = ix2 r x := ⟨y 0, y 1, eq_ix2 y⟩
  refine (h t ((flush9_10 t).mp hf) r x).trans ?_
  refine congrArg (Arr g) (funext fun a => Fin.ext ?_ : ix2 r x = _)
  match a with
  | ⟨0, _⟩ => blk_simp [ix9_10]
  | ⟨1, _⟩ => blk_simp [ix9_10]

variable {du : Mat 16384 4096} (h0 : Re (V c main_v13) du) {w : Mat 1024 4096} (h1 : Re (V c main_v1) w) {dh : Mat 16384 1024} (h2 : Re (V c main_v8_0) dh) {h : Mat 16384 1024} (h3 : Re (V c main_v5_2) h) {y : Mat 16384 1024} (h4 : Re (V c main_v5_1) y) {gm : Mat 1 1024} (h5 : Re (V c main_arg10) gm) {gp : Mat 1 1024} (h6 : Re (V c main_arg9) gp)
include h0 h1 h2 h3 h4 h5 h6

/-- What result 7 of this call holds when it has run. -/
theorem r9_7 : (dat9 V c).arrAt 7 cfg9.N = Arr ((plus dh (nrx (nt du w) h gm))) := by
  refine a9_7 V c _ fun t => ?_
  have H0 := b9_0 V c h0 t
  have H1 := b9_1 V c h1 t
  have H2 := b9_2 V c h2 t
  have H3 := b9_3 V c h3 t
  have H4 := b9_4 V c h4 t
  have H5 := b9_5 V c h5 t
  have H6 := b9_6 V c h6 t
  rw [after9_7]
  have q := p9_10 (p9_7 H0 H1 H3 H5) H2
  by_cases h : t.val % 32 = 0
  · rw [outsAt9_A V c t h h]; frame_out
    exact q
  · rw [outsAt9_B V c t h h]; frame_out
    exact q

/-- What result 8 of this call holds when it has run. -/
theorem r9_8 : (dat9 V c).arrAt 8 cfg9.N = Arr (nrx (plus dh (nrx (nt du w) h gm)) y gp) := by
  refine a9_8 V c _ fun t => ?_
  have H0 := b9_0 V c h0 t
  have H1 := b9_1 V c h1 t
  have H2 := b9_2 V c h2 t
  have H3 := b9_3 V c h3 t
  have H4 := b9_4 V c h4 t
  have H5 := b9_5 V c h5 t
  have H6 := b9_6 V c h6 t
  rw [after9_8]
  have q := p9_2 (p9_14 (p9_7 H0 H1 H3 H5) H2 H4 H6)
  by_cases h : t.val % 32 = 0
  · rw [outsAt9_A V c t h h]; frame_out
    exact q
  · rw [outsAt9_B V c t h h]; frame_out
    exact q

/-- What result 9 of this call, which gathers over the points, holds when it has run. -/
theorem r9_9 : (dat9 V c).arrAt 9 cfg9.N = Arr (nrg (nt du w) h) := by
  refine a9_9 V c _ fun t hf => ?_
  have ht : t.val < 32 := t.isLt
  have q := acc_re (J := 32) (by decide) (fun n h => (outsAt9 V c n h).2.2.1) (fun k => nrg (nt (blk k du) w) (blk k h))
    (fun t h => by
      have H0 := b9_0 V c h0 t
      have H1 := b9_1 V c h1 t
      have H2 := b9_2 V c h2 t
      have H3 := b9_3 V c h3 t
      have H4 := b9_4 V c h4 t
      have H5 := b9_5 V c h5 t
      have H6 := b9_6 V c h6 t
      show Re (outsAt9 V c t.val t.isLt).2.2.1 _
      rw [outsAt9_A V c t h h]; frame_out
      exact p9_9 H0 H1 H3 z_k9_pay8)
    (fun t h acc ha => by
      have H0 := b9_0 V c h0 t
      have H1 := b9_1 V c h1 t
      have H2 := b9_2 V c h2 t
      have H3 := b9_3 V c h3 t
      have H4 := b9_4 V c h4 t
      have H5 := b9_5 V c h5 t
      have H6 := b9_6 V c h6 t
      show Re (outsAt9 V c t.val t.isLt).2.2.1 _
      rw [outsAt9_B V c t h h]; frame_out
      exact p9_9 H0 H1 H3 (ha _)) t.val t.isLt
  have e := last32 (t := t.val) ht hf (fun k => nrg (nt (blk k du) w) (blk k h)) (nrg (nt du w) h) (nrg_sum (nt du w) h)
  rw [e] at q
  rw [after9_9]
  exact q

/-- What result 10 of this call, which gathers over the points, holds when it has run. -/
theorem r9_10 : (dat9 V c).arrAt 10 cfg9.N = Arr (nrg (plus dh (nrx (nt du w) h gm)) y) := by
  refine a9_10 V c _ fun t hf => ?_
  have ht : t.val < 32 := t.isLt
  have q := acc_re (J := 32) (by decide) (fun n h => (outsAt9 V c n h).2.2.2) (fun k => nrg (plus (blk k dh) (nrx (nt (blk k du) w) (blk k h) gm)) (blk k y))
    (fun t h => by
      have H0 := b9_0 V c h0 t
      have H1 := b9_1 V c h1 t
      have H2 := b9_2 V c h2 t
      have H3 := b9_3 V c h3 t
      have H4 := b9_4 V c h4 t
      have H5 := b9_5 V c h5 t
      have H6 := b9_6 V c h6 t
      show Re (outsAt9 V c t.val t.isLt).2.2.2 _
      rw [outsAt9_A V c t h h]; frame_out
      exact p9_1 (p9_15 (p9_7 H0 H1 H3 H5) H2 H4) z_k9_pay16)
    (fun t h acc ha => by
      have H0 := b9_0 V c h0 t
      have H1 := b9_1 V c h1 t
      have H2 := b9_2 V c h2 t
      have H3 := b9_3 V c h3 t
      have H4 := b9_4 V c h4 t
      have H5 := b9_5 V c h5 t
      have H6 := b9_6 V c h6 t
      show Re (outsAt9 V c t.val t.isLt).2.2.2 _
      rw [outsAt9_B V c t h h]; frame_out
      exact p9_1 (p9_15 (p9_7 H0 H1 H3 H5) H2 H4) (ha _)) t.val t.isLt
  have e := last32 (t := t.val) ht hf (fun k => nrg (plus (blk k dh) (nrx (nt (blk k du) w) (blk k h) gm)) (blk k y)) (nrg (plus dh (nrx (nt du w) h gm)) y) (nrg_sum (plus dh (nrx (nt du w) h gm)) y)
  rw [e] at q
  rw [after9_10]
  exact q

end arr

end Cert.Tail

end

end
-- ==== Proof.TailArr10.lean ====
module
public import proofs.«01_k».proof.Proof.TailPay
public import proofs.«01_k».proof.Proof.TailAcc
public import proofs.«01_k».proof.Proof.Gen.Kernel2Ideal.Frame.Region10
public import Idealize.ShloMosaic.Lib.Pipeline.ValueKit

@[expose] public section

set_option maxRecDepth 16384

noncomputable section

namespace Cert.Tail

open Cert.Kernel2Ideal Cert.Kernel2Ideal.Gen
open Idealize.ShloMosaic Idealize.ShloMosaic.TcCoe Idealize.ShloMosaic.Tactic Idealize.SL.Sem

section arr
variable (V : (c : Dev nD) → (b : Ref sig .tc) → Buf (Elt Ideal) ((c : Thread nD τ).loc b)) (c : Dev nD)

theorem ix10_0 : ∀ t : Fin cfg10.N, win10_0.index t = ![t.val % 8, 0] := (by decide +kernel : ∀ t : Fin grid10.N, _)
theorem ix10_1 : ∀ t : Fin cfg10.N, win10_1.index t = ![t.val % 8, 0] := (by decide +kernel : ∀ t : Fin grid10.N, _)
theorem ix10_2 : ∀ t : Fin cfg10.N, win10_2.index t = ![0, 0] := (by decide +kernel : ∀ t : Fin grid10.N, _)

theorem b10_0 {f : Mat 16384 1024} (h : Re (V c main_v5_0) f) (t : Fin cfg10.N) : Re (iblk10 V c 0 t) (blk8 (t.val % 8) f) := by
  have ht : t.val < 8 := t.isLt
  intro i j
  refine Eq.trans ?_ (h (row8 (t.val % 8) i) j)
  blk_simp [iblk10]
  refine congrArg (V c main_v5_0) (funext fun a => Fin.ext ?_)
  match a with
  | ⟨0, _⟩ => blk_simp [ix10_0]; simp [ix2, row8]; omega
  | ⟨1, _⟩ => blk_simp [ix10_0]

theorem b10_1 {f : Mat 16384 1024} (h : Re (V c main_v15_1) f) (t : Fin cfg10.N) : Re (iblk10 V c 1 t) (blk8 (t.val % 8) f) := by
  have ht : t.val < 8 := t.isLt
  intro i j
  refine Eq.trans ?_ (h (row8 (t.val % 8) i) j)
  blk_simp [iblk10]
  refine congrArg (V c main_v15_1) (funext fun a => Fin.ext ?_)
  match a with
  | ⟨0, _⟩ => blk_simp [ix10_1]; simp [ix2, row8]; omega
  | ⟨1, _⟩ => blk_simp [ix10_1]

theorem a10_2 (g : Mat 1024 1024) (h : ∀ t : Fin cfg10.N, t.val % 8 = 7 → Re ((dat10 V c).after 2 t) g) :
    (dat10 V c).arrAt 2 cfg10.N = Arr g := by
  refine (dat10 V c).arrAt_eq_of_covers 2 _ (by decide +kernel) fun t hf y => ?_
  have ht : t.val < 8 := t.isLt
  obtain ⟨r, x, rfl⟩ : ∃ (r : Fin 1024) (x : Fin 1024), y = ix2 r x := ⟨y 0, y 1, eq_ix2 y⟩
  refine (h t ((flush10_2 t).mp hf) r x).trans ?_
  refine congrArg (Arr g) (funext fun a => Fin.ext ?_ : ix2 r x = _)
  match a with
  | ⟨0, _⟩ => blk_simp [ix10_2]
  | ⟨1, _⟩ => blk_simp [ix10_2]

variable {a : Mat 16384 1024} (h0 : Re (V c main_v5_0) a) {b : Mat 16384 1024} (h1 : Re (V c main_v15_1) b)
include h0 h1

/-- The result of this call is the product it is meant to be. -/
theorem r10_2 : (dat10 V c).arrAt 2 cfg10.N = Arr (tn a b) := by
  refine a10_2 V c _ fun t hf => ?_
  have ht : t.val < 8 := t.isLt
  have q := acc_re (J := 8) (by decide) (fun n h => outsAt10 V c n h) (fun n => (fun q r : ℕ => tn (blk8 r a) (blk8 r b)) (n / 8) (n % 8))
    (fun t h => by
      have H0 := b10_0 V c h0 t
      have H1 := b10_1 V c h1 t
      show Re (outsAt10 V c t.val t.isLt) _
      rw [outsAt10_A V c t h]; frame_out
      exact p10_2 H0 z_k10_pay1 H1)
    (fun t h acc ha => by
      have H0 := b10_0 V c h0 t
      have H1 := b10_1 V c h1 t
      show Re (outsAt10 V c t.val t.isLt) _
      rw [outsAt10_B V c t h]; frame_out
      exact p10_2 H0 (ha _) H1) t.val t.isLt
  have e := last8 (t := t.val) hf (fun q r : ℕ => tn (blk8 r a) (blk8 r b)) (tn a b) (tn_sum a b)
  rw [e] at q
  rw [after10_2]
  exact q

end arr

end Cert.Tail

end

end
-- ==== Proof.TailArr11.lean ====
module
public import proofs.«01_k».proof.Proof.TailPay
public import proofs.«01_k».proof.Proof.TailAcc
public import proofs.«01_k».proof.Proof.Gen.Kernel2Ideal.Frame.Region11
public import Idealize.ShloMosaic.Lib.Pipeline.ValueKit

@[expose] public section

set_option maxRecDepth 16384

noncomputable section

namespace Cert.Tail

open Cert.Kernel2Ideal Cert.Kernel2Ideal.Gen
open Idealize.ShloMosaic Idealize.ShloMosaic.TcCoe Idealize.ShloMosaic.Tactic Idealize.SL.Sem

section arr
variable (V : (c : Dev nD) → (b : Ref sig .tc) → Buf (Elt Ideal) ((c : Thread nD τ).loc b)) (c : Dev nD)

theorem ix11_0 : ∀ t : Fin cfg11.N, win11_0.index t = ![t.val, 0] := (by decide +kernel : ∀ t : Fin grid11.N, _)
theorem ix11_1 : ∀ t : Fin cfg11.N, win11_1.index t = ![0, 0] := (by decide +kernel : ∀ t : Fin grid11.N, _)
theorem ix11_2 : ∀ t : Fin cfg11.N, win11_2.index t = ![t.val, 0] := (by decide +kernel : ∀ t : Fin grid11.N, _)
theorem ix11_3 : ∀ t : Fin cfg11.N, win11_3.index t = ![t.val, 0] := (by decide +kernel : ∀ t : Fin grid11.N, _)
theorem ix11_5 : ∀ t : Fin cfg11.N, win11_5.index t = ![0, 0] := (by decide +kernel : ∀ t : Fin grid11.N, _)
theorem ix11_6 : ∀ t : Fin cfg11.N, win11_6.index t = ![0, 0] := (by decide +kernel : ∀ t : Fin grid11.N, _)
theorem ix11_7 : ∀ t : Fin cfg11.N, win11_7.index t = ![t.val, 0] := (by decide +kernel : ∀ t : Fin grid11.N, _)
theorem ix11_8 : ∀ t : Fin cfg11.N, win11_8.index t = ![t.val, 0] := (by decide +kernel : ∀ t : Fin grid11.N, _)
theorem ix11_11 : ∀ t : Fin cfg11.N, win11_11.index t = ![0, 0] := (by decide +kernel : ∀ t : Fin grid11.N, _)
theorem ix11_12 : ∀ t : Fin cfg11.N, win11_12.index t = ![0, 0] := (by decide +kernel : ∀ t : Fin grid11.N, _)

theorem b11_0 {f : Mat 16384 1024} (h : Re (V c main_v15_1) f) (t : Fin cfg11.N) : Re (iblk11 V c 0 t) (blk t.val f) := by
  have ht : t.val < 32 := t.isLt
  intro i j
  refine Eq.trans ?_ (h (row t.val i) j)
  blk_simp [iblk11]
  refine congrArg (V c main_v15_1) (funext fun a => Fin.ext ?_)
  match a with
  | ⟨0, _⟩ => blk_simp [ix11_0]; simp [ix2, row]; omega
  | ⟨1, _⟩ => blk_simp [ix11_0]

theorem b11_1 {f : Mat 1024 1024} (h : Re (V c main_v0) f) (t : Fin cfg11.N) : Re (iblk11 V c 1 t) f := by
  have ht : t.val < 32 := t.isLt
  intro i j
  refine Eq.trans ?_ (h i j)
  blk_simp [iblk11]
  refine congrArg (V c main_v0) (funext fun a => Fin.ext ?_)
  match a with
  | ⟨0, _⟩ => blk_simp [ix11_1]
  | ⟨1, _⟩ => blk_simp [ix11_1]

theorem b11_2 {f : Mat 16384 512} (h : Re (V c main_arg0) f) (t : Fin cfg11.N) : Re (iblk11 V c 2 t) (blk t.val f) := by
  have ht : t.val < 32 := t.isLt
  intro i j
  refine Eq.trans ?_ (h (row t.val i) j)
  blk_simp [iblk11]
  refine congrArg (V c main_arg0) (funext fun a => Fin.ext ?_)
  match a with
  | ⟨0, _⟩ => blk_simp [ix11_2]; simp [ix2, row]; omega
  | ⟨1, _⟩ => blk_simp [ix11_2]

theorem b11_3 {f : Mat 16384 512} (h : Re (V c main_arg1) f) (t : Fin cfg11.N) : Re (iblk11 V c 3 t) (blk t.val f) := by
  have ht : t.val < 32 := t.isLt
  intro i j
  refine Eq.trans ?_ (h (row t.val i) j)
  blk_simp [iblk11]
  refine congrArg (V c main_arg1) (funext fun a => Fin.ext ?_)
  match a with
  | ⟨0, _⟩ => blk_simp [ix11_3]; simp [ix2, row]; omega
  | ⟨1, _⟩ => blk_simp [ix11_3]

theorem b11_5 {f : Mat 1 512} (h : Re (V c main_arg6) f) (t : Fin cfg11.N) : Re (iblk11 V c 5 t) f := by
  have ht : t.val < 32 := t.isLt
  intro i j
  refine Eq.trans ?_ (h i j)
  blk_simp [iblk11]
  refine congrArg (V c main_arg6) (funext fun a => Fin.ext ?_)
  match a with
  | ⟨0, _⟩ => blk_simp [ix11_5]
  | ⟨1, _⟩ => blk_simp [ix11_5]

theorem b11_6 {f : Mat 1 512} (h : Re (V c main_arg7) f) (t : Fin cfg11.N) : Re (iblk11 V c 6 t) f := by
  have ht : t.val < 32 := t.isLt
  intro i j
  refine Eq.trans ?_ (h i j)
  blk_simp [iblk11]
  refine congrArg (V c main_arg7) (funext fun a => Fin.ext ?_)
  match a with
  | ⟨0, _⟩ => blk_simp [ix11_6]
  | ⟨1, _⟩ => blk_simp [ix11_6]

theorem a11_7 (g : Mat 16384 512) (h : ∀ t : Fin cfg11.N, Re ((dat11 V c).after 7 t) (blk t.val g)) :
    (dat11 V c).arrAt 7 cfg11.N = Arr g := by
  refine (dat11 V c).arrAt_eq_of_covers 7 _ (by decide +kernel) fun t hf y => ?_
  have ht : t.val < 32 := t.isLt
  obtain ⟨r, x, rfl⟩ : ∃ (r : Fin 512) (x : Fin 512), y = ix2 r x := ⟨y 0, y 1, eq_ix2 y⟩
  refine (h t r x).trans ?_
  refine congrArg (Arr g) (funext fun a => Fin.ext ?_ : ix2 (row t.val r) x = _)
  match a with
  | ⟨0, _⟩ => blk_simp [ix11_7]; simp [ix2, row]; omega
  | ⟨1, _⟩ => blk_simp [ix11_7]

theorem a11_8 (g : Mat 16384 512) (h : ∀ t : Fin cfg11.N, Re ((dat11 V c).after 8 t) (blk t.val g)) :
    (dat11 V c).arrAt 8 cfg11.N = Arr g := by
  refine (dat11 V c).arrAt_eq_of_covers 8 _ (by decide +kernel) fun t hf y => ?_
  have ht : t.val < 32 := t.isLt
  obtain ⟨r, x, rfl⟩ : ∃ (r : Fin 512) (x : Fin 512), y = ix2 r x := ⟨y 0, y 1, eq_ix2 y⟩
  refine (h t r x).trans ?_
  refine congrArg (Arr g) (funext fun a => Fin.ext ?_ : ix2 (row t.val r) x = _)
  match a with
  | ⟨0, _⟩ => blk_simp [ix11_8]; simp [ix2, row]; omega
  | ⟨1, _⟩ => blk_simp [ix11_8]

theorem a11_11 (g : Mat 1 512) (h : ∀ t : Fin cfg11.N, t.val % 32 = 31 → Re ((dat11 V c).after 11 t) g) :
    (dat11 V c).arrAt 11 cfg11.N = Arr g := by
  refine (dat11 V c).arrAt_eq_of_covers 11 _ (by decide +kernel) fun t hf y => ?_
  have ht : t.val < 32 := t.isLt
  obtain ⟨r, x, rfl⟩ : ∃ (r : Fin 1) (x : Fin 512), y = ix2 r x := ⟨y 0, y 1, eq_ix2 y⟩
  refine (h t ((flush11_11 t).mp hf) r x).trans ?_
  refine congrArg (Arr g) (funext fun a => Fin.ext ?_ : ix2 r x = _)
  match a with
  | ⟨0, _⟩ => blk_simp [ix11_11]
  | ⟨1, _⟩ => blk_simp [ix11_11]

theorem a11_12 (g : Mat 1 512) (h : ∀ t : Fin cfg11.N, t.val % 32 = 31 → Re ((dat11 V c).after 12 t) g) :
    (dat11 V c).arrAt 12 cfg11.N = Arr g := by
  refine (dat11 V c).arrAt_eq_of_covers 12 _ (by decide +kernel) fun t hf y => ?_
  have ht : t.val < 32 := t.isLt
  obtain ⟨r, x, rfl⟩ : ∃ (r : Fin 1) (x : Fin 512), y = ix2 r x := ⟨y 0, y 1, eq_ix2 y⟩
  refine (h t ((flush11_12 t).mp hf) r x).trans ?_
  refine congrArg (Arr g) (funext fun a => Fin.ext ?_ : ix2 r x = _)
  match a with
  | ⟨0, _⟩ => blk_simp [ix11_12]
  | ⟨1, _⟩ => blk_simp [ix11_12]

variable {d : Mat 16384 1024} (h0 : Re (V c main_v15_1) d) {w : Mat 1024 1024} (h1 : Re (V c main_v0) w) {ya : Mat 16384 512} (h2 : Re (V c main_arg0) ya) {yb : Mat 16384 512} (h3 : Re (V c main_arg1) yb) {ga : Mat 1 512} (h5 : Re (V c main_arg6) ga) {gb : Mat 1 512} (h6 : Re (V c main_arg7) gb)
include h0 h1 h2 h3 h5 h6

/-- What result 7 of this call holds when it has run. -/
theorem r11_7 : (dat11 V c).arrAt 7 cfg11.N = Arr (nrx (lo (nt d w)) ya ga) := by
  refine a11_7 V c _ fun t => ?_
  have H0 := b11_0 V c h0 t
  have H1 := b11_1 V c h1 t
  have H2 := b11_2 V c h2 t
  have H3 := b11_3 V c h3 t
  have H5 := b11_5 V c h5 t
  have H6 := b11_6 V c h6 t
  rw [after11_7]
  have q := p11_8 (p11_5 H2) (p11_6 H2) (p11_7 H0 H1) H5
  by_cases h : t.val % 32 = 0
  · rw [outsAt11_A V c t h h]; frame_out
    exact q
  · rw [outsAt11_B V c t h h]; frame_out
    exact q

/-- What result 8 of this call holds when it has run. -/
theorem r11_8 : (dat11 V c).arrAt 8 cfg11.N = Arr (nrx (hi (nt d w)) yb gb) := by
  refine a11_8 V c _ fun t => ?_
  have H0 := b11_0 V c h0 t
  have H1 := b11_1 V c h1 t
  have H2 := b11_2 V c h2 t
  have H3 := b11_3 V c h3 t
  have H5 := b11_5 V c h5 t
  have H6 := b11_6 V c h6 t
  rw [after11_8]
  have q := p11_31 (p11_28 (p11_2 H0 H1) H3 H6)
  by_cases h : t.val % 32 = 0
  · rw [outsAt11_A V c t h h]; frame_out
    exact q
  · rw [outsAt11_B V c t h h]; frame_out
    exact q

/-- What result 11 of this call, which gathers over the points, holds when it has run. -/
theorem r11_11 : (dat11 V c).arrAt 11 cfg11.N = Arr (nrg (lo (nt d w)) ya) := by
  refine a11_11 V c _ fun t hf => ?_
  have ht : t.val < 32 := t.isLt
  have q := acc_re (J := 32) (by decide) (fun n h => (outsAt11 V c n h).2.2.2.2.1) (fun k => nrg (lo (nt (blk k d) w)) (blk k ya))
    (fun t h => by
      have H0 := b11_0 V c h0 t
      have H1 := b11_1 V c h1 t
      have H2 := b11_2 V c h2 t
      have H3 := b11_3 V c h3 t
      have H5 := b11_5 V c h5 t
      have H6 := b11_6 V c h6 t
      show Re (outsAt11 V c t.val t.isLt).2.2.2.2.1 _
      rw [outsAt11_A V c t h h]; frame_out
      exact p11_10 (p11_6 H2) (p11_7 H0 H1) z_k11_pay9)
    (fun t h acc ha => by
      have H0 := b11_0 V c h0 t
      have H1 := b11_1 V c h1 t
      have H2 := b11_2 V c h2 t
      have H3 := b11_3 V c h3 t
      have H5 := b11_5 V c h5 t
      have H6 := b11_6 V c h6 t
      show Re (outsAt11 V c t.val t.isLt).2.2.2.2.1 _
      rw [outsAt11_B V c t h h]; frame_out
      exact p11_10 (p11_6 H2) (p11_7 H0 H1) (ha _)) t.val t.isLt
  have e := last32 (t := t.val) ht hf (fun k => nrg (lo (nt (blk k d) w)) (blk k ya)) (nrg (lo (nt d w)) ya) (nrg_sum (lo (nt d w)) ya)
  rw [e] at q
  rw [after11_11]
  exact q

/-- What result 12 of this call, which gathers over the points, holds when it has run. -/
theorem r11_12 : (dat11 V c).arrAt 12 cfg11.N = Arr (nrg (hi (nt d w)) yb) := by
  refine a11_12 V c _ fun t hf => ?_
  have ht : t.val < 32 := t.isLt
  have q := acc_re (J := 32) (by decide) (fun n h => (outsAt11 V c n h).2.2.2.2.2) (fun k => nrg (hi (nt (blk k d) w)) (blk k yb))
    (fun t h => by
      have H0 := b11_0 V c h0 t
      have H1 := b11_1 V c h1 t
      have H2 := b11_2 V c h2 t
      have H3 := b11_3 V c h3 t
      have H5 := b11_5 V c h5 t
      have H6 := b11_6 V c h6 t
      show Re (outsAt11 V c t.val t.isLt).2.2.2.2.2 _
      rw [outsAt11_A V c t h h]; frame_out
      exact p11_30 (p11_26 H3) (p11_27 (p11_2 H0 H1)) z_k11_pay29)
    (fun t h acc ha => by
      have H0 := b11_0 V c h0 t
      have H1 := b11_1 V c h1 t
      have H2 := b11_2 V c h2 t
      have H3 := b11_3 V c h3 t
      have H5 := b11_5 V c h5 t
      have H6 := b11_6 V c h6 t
      show Re (outsAt11 V c t.val t.isLt).2.2.2.2.2 _
      rw [outsAt11_B V c t h h]; frame_out
      exact p11_30 (p11_26 H3) (p11_27 (p11_2 H0 H1)) (ha _)) t.val t.isLt
  have e := last32 (t := t.val) ht hf (fun k => nrg (hi (nt (blk k d) w)) (blk k yb)) (nrg (hi (nt d w)) yb) (nrg_sum (hi (nt d w)) yb)
  rw [e] at q
  rw [after11_12]
  exact q

end arr

end Cert.Tail

end

end
-- ==== Proof.TailKer.lean ====
module
public import proofs.«01_k».proof.Proof.Gen.Kernel2Ideal.Frame
public import proofs.«01_k».proof.Proof.TailSteps
public import proofs.«01_k».proof.Proof.TailArr0
public import proofs.«01_k».proof.Proof.TailArr1
public import proofs.«01_k».proof.Proof.TailArr2
public import proofs.«01_k».proof.Proof.TailArr3
public import proofs.«01_k».proof.Proof.TailArr4
public import proofs.«01_k».proof.Proof.TailArr5
public import proofs.«01_k».proof.Proof.TailArr6
public import proofs.«01_k».proof.Proof.TailArr7
public import proofs.«01_k».proof.Proof.TailArr8
public import proofs.«01_k».proof.Proof.TailArr9
public import proofs.«01_k».proof.Proof.TailArr10
public import proofs.«01_k».proof.Proof.TailArr11
public import Idealize.ShloMosaic.Lib.Pointwise
public import Idealize.ShloMosaic.Lib.StableHlo.RunRead

@[expose] public section

set_option maxRecDepth 16384

noncomputable section

namespace Cert.Tail

open Cert.Kernel2Ideal Cert.Kernel2Ideal.Gen
open Idealize.ShloMosaic Idealize.ShloMosaic.TcCoe Idealize.ShloMosaic.Tactic Idealize.SL.Sem Idealize.ShloMosaic.StableHlo

section host
variable (V : Valuation τ sig (Elt Ideal))

theorem host_v0 {f : Mat 1024 1024} (v : (⟨2, ![1024, 1024]⟩ : Shape).Idx → EReal) (hv : V (Proc.devRef .tc main_arg8) = v) (h : Re v f) (i : Fin 1024) (j : Fin 1024) :
    @Eq EReal (after hostOps0 V (Proc.devRef .tc main_v0) (ix2 i j)) ((f i j : ℝ) : EReal) := by
  after_reads_simp
  rw [hv]
  pointwise []
  exact h i j

theorem host_v1 {f : Mat 1024 4096} (v : (⟨2, ![1024, 4096]⟩ : Shape).Idx → EReal) (hv : V (Proc.devRef .tc main_arg11) = v) (h : Re v f) (i : Fin 1024) (j : Fin 4096) :
    @Eq EReal (after hostOps0 V (Proc.devRef .tc main_v1) (ix2 i j)) ((f i j : ℝ) : EReal) := by
  after_reads_simp
  rw [hv]
  pointwise []
  exact h i j

theorem host_v2 {f : Mat 4096 1024} (v : (⟨2, ![4096, 1024]⟩ : Shape).Idx → EReal) (hv : V (Proc.devRef .tc main_arg12) = v) (h : Re v f) (i : Fin 4096) (j : Fin 1024) :
    @Eq EReal (after hostOps0 V (Proc.devRef .tc main_v2) (ix2 i j)) ((f i j : ℝ) : EReal) := by
  after_reads_simp
  rw [hv]
  pointwise []
  exact h i j

theorem host_v3 {f : Mat 1024 1024} (v : (⟨2, ![1024, 1024]⟩ : Shape).Idx → EReal) (hv : V (Proc.devRef .tc main_arg15) = v) (h : Re v f) (i : Fin 1024) (j : Fin 1024) :
    @Eq EReal (after hostOps0 V (Proc.devRef .tc main_v3) (ix2 i j)) ((f i j : ℝ) : EReal) := by
  after_reads_simp
  rw [hv]
  pointwise []
  exact h i j

theorem host_v4 {f : Mat 256 1024} (v : (⟨2, ![256, 1024]⟩ : Shape).Idx → EReal) (hv : V (Proc.devRef .tc main_arg16) = v) (h : Re v f) (i : Fin 256) (j : Fin 1024) :
    @Eq EReal (after hostOps0 V (Proc.devRef .tc main_v4) (ix2 i j)) ((f i j : ℝ) : EReal) := by
  after_reads_simp
  rw [hv]
  pointwise []
  exact h i j

theorem host_v12 {f : Mat 4096 1024} (v : (⟨2, ![4096, 1024]⟩ : Shape).Idx → EReal) (hv : V (Proc.devRef .tc main_v2) = v) (h : Re v f) (i : Fin 1024) (j : Fin 4096) :
    @Eq EReal (after hostOps7 V (Proc.devRef .tc main_v12) (ix2 i j)) ((f j i : ℝ) : EReal) := by
  after_reads_simp
  rw [hv]
  pointwise []
  exact h j i

theorem host_v18 {f : Mat 16384 512} (v : (⟨2, ![16384, 512]⟩ : Shape).Idx → EReal) (hv : V (Proc.devRef .tc main_v17_1) = v) (h : Re v f) (i : Fin 16384) (j : Fin 512) :
    @Eq EReal (after hostOps12 V (Proc.devRef .tc main_v18) (ix2 i j)) ((f i j : ℝ) : EReal) := by
  after_reads_simp
  rw [hv]
  pointwise []
  exact h i j
end host

section ker
variable (m : (ℓ : Loc nD τ sig) → Buf (Elt Ideal) ℓ) (ρ : Dev nD → PrngReg) (c : Dev nD) (I : Inp)
  (e0 : Re (m ((c : Thread nD τ).loc main_arg0)) I.ya)
  (e1 : Re (m ((c : Thread nD τ).loc main_arg1)) I.yb)
  (e2 : Re (m ((c : Thread nD τ).loc main_arg2)) I.x)
  (e3 : Re (m ((c : Thread nD τ).loc main_arg3)) I.p)
  (e4 : Re (m ((c : Thread nD τ).loc main_arg4)) I.tg)
  (e6 : Re (m ((c : Thread nD τ).loc main_arg6)) I.ga)
  (e7 : Re (m ((c : Thread nD τ).loc main_arg7)) I.gb)
  (e8 : Re (m ((c : Thread nD τ).loc main_arg8)) I.wo)
  (e9 : Re (m ((c : Thread nD τ).loc main_arg9)) I.gp)
  (e10 : Re (m ((c : Thread nD τ).loc main_arg10)) I.gm)
  (e11 : Re (m ((c : Thread nD τ).loc main_arg11)) I.w1)
  (e12 : Re (m ((c : Thread nD τ).loc main_arg12)) I.w2)
  (e13 : Re (m ((c : Thread nD τ).loc main_arg13)) I.gq)
  (e14 : Re (m ((c : Thread nD τ).loc main_arg14)) I.gl)
  (e15 : Re (m ((c : Thread nD τ).loc main_arg15)) I.wg)
  (e16 : Re (m ((c : Thread nD τ).loc main_arg16)) I.wp)
include e0 e1 e2 e3 e4 e6 e7 e8 e9 e10 e11 e12 e13 e14 e15 e16

/-- The buffer of the two branches of the attention, normalised and side by side. -/
theorem k_yc : W2 m ρ c (Proc.devRef .tc main_v5_0) = Arr I.yc :=
  (W2_arr m ρ c 8).trans (r0_8 (V1 m ρ) c (fun i j => (congrFun (W1_args m ρ c main_arg0 (by decide)) (ix2 i j)).trans (e0 i j)) (fun i j => (congrFun (W1_args m ρ c main_arg1 (by decide)) (ix2 i j)).trans (e1 i j)) (fun i j => (congrFun (W1_args m ρ c main_arg2 (by decide)) (ix2 i j)).trans (e2 i j)) (fun i j => (congrFun (W1_args m ρ c main_arg6 (by decide)) (ix2 i j)).trans (e6 i j)) (fun i j => (congrFun (W1_args m ρ c main_arg7 (by decide)) (ix2 i j)).trans (e7 i j)) (fun i j => host_v0 (W0 m ρ c) _ rfl e8 i j) (fun i j => (congrFun (W1_args m ρ c main_arg9 (by decide)) (ix2 i j)).trans (e9 i j)) (fun i j => (congrFun (W1_args m ρ c main_arg10 (by decide)) (ix2 i j)).trans (e10 i j)))
/-- The buffer of the output projection. -/
theorem k_y2 : W2 m ρ c (Proc.devRef .tc main_v5_1) = Arr I.y2 :=
  (W2_arr m ρ c 9).trans (r0_9 (V1 m ρ) c (fun i j => (congrFun (W1_args m ρ c main_arg0 (by decide)) (ix2 i j)).trans (e0 i j)) (fun i j => (congrFun (W1_args m ρ c main_arg1 (by decide)) (ix2 i j)).trans (e1 i j)) (fun i j => (congrFun (W1_args m ρ c main_arg2 (by decide)) (ix2 i j)).trans (e2 i j)) (fun i j => (congrFun (W1_args m ρ c main_arg6 (by decide)) (ix2 i j)).trans (e6 i j)) (fun i j => (congrFun (W1_args m ρ c main_arg7 (by decide)) (ix2 i j)).trans (e7 i j)) (fun i j => host_v0 (W0 m ρ c) _ rfl e8 i j) (fun i j => (congrFun (W1_args m ρ c main_arg9 (by decide)) (ix2 i j)).trans (e9 i j)) (fun i j => (congrFun (W1_args m ρ c main_arg10 (by decide)) (ix2 i j)).trans (e10 i j)))
/-- The buffer of the residual after the attention. -/
theorem k_h1 : W2 m ρ c (Proc.devRef .tc main_v5_2) = Arr I.h1 :=
  (W2_arr m ρ c 10).trans (r0_10 (V1 m ρ) c (fun i j => (congrFun (W1_args m ρ c main_arg0 (by decide)) (ix2 i j)).trans (e0 i j)) (fun i j => (congrFun (W1_args m ρ c main_arg1 (by decide)) (ix2 i j)).trans (e1 i j)) (fun i j => (congrFun (W1_args m ρ c main_arg2 (by decide)) (ix2 i j)).trans (e2 i j)) (fun i j => (congrFun (W1_args m ρ c main_arg6 (by decide)) (ix2 i j)).trans (e6 i j)) (fun i j => (congrFun (W1_args m ρ c main_arg7 (by decide)) (ix2 i j)).trans (e7 i j)) (fun i j => host_v0 (W0 m ρ c) _ rfl e8 i j) (fun i j => (congrFun (W1_args m ρ c main_arg9 (by decide)) (ix2 i j)).trans (e9 i j)) (fun i j => (congrFun (W1_args m ρ c main_arg10 (by decide)) (ix2 i j)).trans (e10 i j)))
/-- The buffer of the input of the feed-forward layer. -/
theorem k_xn2 : W2 m ρ c (Proc.devRef .tc main_v5_3) = Arr I.xn2 :=
  (W2_arr m ρ c 11).trans (r0_11 (V1 m ρ) c (fun i j => (congrFun (W1_args m ρ c main_arg0 (by decide)) (ix2 i j)).trans (e0 i j)) (fun i j => (congrFun (W1_args m ρ c main_arg1 (by decide)) (ix2 i j)).trans (e1 i j)) (fun i j => (congrFun (W1_args m ρ c main_arg2 (by decide)) (ix2 i j)).trans (e2 i j)) (fun i j => (congrFun (W1_args m ρ c main_arg6 (by decide)) (ix2 i j)).trans (e6 i j)) (fun i j => (congrFun (W1_args m ρ c main_arg7 (by decide)) (ix2 i j)).trans (e7 i j)) (fun i j => host_v0 (W0 m ρ c) _ rfl e8 i j) (fun i j => (congrFun (W1_args m ρ c main_arg9 (by decide)) (ix2 i j)).trans (e9 i j)) (fun i j => (congrFun (W1_args m ρ c main_arg10 (by decide)) (ix2 i j)).trans (e10 i j)))
/-- The buffer of the first product of the feed-forward layer. -/
theorem k_u : W3 m ρ c (Proc.devRef .tc main_v6) = Arr I.u :=
  (W3_arr m ρ c 2).trans (r1_2 (V2 m ρ) c (fun i j => congrFun (k_xn2 m ρ c I e0 e1 e2 e3 e4 e6 e7 e8 e9 e10 e11 e12 e13 e14 e15 e16) (ix2 i j)) (fun i j => (congrFun (W2_of m ρ c main_v1 (by decide)) (ix2 i j)).trans (host_v1 (W0 m ρ c) _ rfl e11 i j)))
/-- The buffer of the output of the feed-forward layer. -/
theorem k_f2 : W4 m ρ c (Proc.devRef .tc main_v7_0) = Arr I.f2 :=
  (W4_arr m ρ c 5).trans (r2_5 (V3 m ρ) c (fun i j => congrFun (k_u m ρ c I e0 e1 e2 e3 e4 e6 e7 e8 e9 e10 e11 e12 e13 e14 e15 e16) (ix2 i j)) (fun i j => (congrFun ((W3_of m ρ c main_v2 (by decide)).trans (W2_of m ρ c main_v2 (by decide))) (ix2 i j)).trans (host_v2 (W0 m ρ c) _ rfl e12 i j)) (fun i j => congrFun ((W3_of m ρ c main_v5_2 (by decide)).trans (k_h1 m ρ c I e0 e1 e2 e3 e4 e6 e7 e8 e9 e10 e11 e12 e13 e14 e15 e16)) (ix2 i j)) (fun i j => (congrFun (W3_args m ρ c main_arg13 (by decide)) (ix2 i j)).trans (e13 i j)) (fun i j => (congrFun (W3_args m ρ c main_arg14 (by decide)) (ix2 i j)).trans (e14 i j)))
/-- The buffer of the residual after the feed-forward layer. -/
theorem k_h2 : W4 m ρ c (Proc.devRef .tc main_v7_1) = Arr I.h2 :=
  (W4_arr m ρ c 6).trans (r2_6 (V3 m ρ) c (fun i j => congrFun (k_u m ρ c I e0 e1 e2 e3 e4 e6 e7 e8 e9 e10 e11 e12 e13 e14 e15 e16) (ix2 i j)) (fun i j => (congrFun ((W3_of m ρ c main_v2 (by decide)).trans (W2_of m ρ c main_v2 (by decide))) (ix2 i j)).trans (host_v2 (W0 m ρ c) _ rfl e12 i j)) (fun i j => congrFun ((W3_of m ρ c main_v5_2 (by decide)).trans (k_h1 m ρ c I e0 e1 e2 e3 e4 e6 e7 e8 e9 e10 e11 e12 e13 e14 e15 e16)) (ix2 i j)) (fun i j => (congrFun (W3_args m ρ c main_arg13 (by decide)) (ix2 i j)).trans (e13 i j)) (fun i j => (congrFun (W3_args m ρ c main_arg14 (by decide)) (ix2 i j)).trans (e14 i j)))
/-- The buffer of the input of the gate. -/
theorem k_xn3 : W4 m ρ c (Proc.devRef .tc main_v7_2) = Arr I.xn3 :=
  (W4_arr m ρ c 7).trans (r2_7 (V3 m ρ) c (fun i j => congrFun (k_u m ρ c I e0 e1 e2 e3 e4 e6 e7 e8 e9 e10 e11 e12 e13 e14 e15 e16) (ix2 i j)) (fun i j => (congrFun ((W3_of m ρ c main_v2 (by decide)).trans (W2_of m ρ c main_v2 (by decide))) (ix2 i j)).trans (host_v2 (W0 m ρ c) _ rfl e12 i j)) (fun i j => congrFun ((W3_of m ρ c main_v5_2 (by decide)).trans (k_h1 m ρ c I e0 e1 e2 e3 e4 e6 e7 e8 e9 e10 e11 e12 e13 e14 e15 e16)) (ix2 i j)) (fun i j => (congrFun (W3_args m ρ c main_arg13 (by decide)) (ix2 i j)).trans (e13 i j)) (fun i j => (congrFun (W3_args m ρ c main_arg14 (by decide)) (ix2 i j)).trans (e14 i j)))
/-- The buffer of the gradient of the residual after the feed-forward layer. -/
theorem k_dh2 : W5 m ρ c (Proc.devRef .tc main_v8_0) = Arr I.dh2 :=
  (W5_arr m ρ c 9).trans (r3_9 (V4 m ρ) c (fun i j => congrFun (k_xn3 m ρ c I e0 e1 e2 e3 e4 e6 e7 e8 e9 e10 e11 e12 e13 e14 e15 e16) (ix2 i j)) (fun i j => (congrFun (W4_args m ρ c main_arg3 (by decide)) (ix2 i j)).trans (e3 i j)) (fun i j => congrFun (k_h2 m ρ c I e0 e1 e2 e3 e4 e6 e7 e8 e9 e10 e11 e12 e13 e14 e15 e16) (ix2 i j)) (fun i j => congrFun (k_f2 m ρ c I e0 e1 e2 e3 e4 e6 e7 e8 e9 e10 e11 e12 e13 e14 e15 e16) (ix2 i j)) (fun i j => (congrFun (W4_args m ρ c main_arg4 (by decide)) (ix2 i j)).trans (e4 i j)) (fun i j => (congrFun ((W4_of m ρ c main_v3 (by decide)).trans ((W3_of m ρ c main_v3 (by decide)).trans (W2_of m ρ c main_v3 (by decide)))) (ix2 i j)).trans (host_v3 (W0 m ρ c) _ rfl e15 i j)) (fun i j => (congrFun ((W4_of m ρ c main_v4 (by decide)).trans ((W3_of m ρ c main_v4 (by decide)).trans (W2_of m ρ c main_v4 (by decide)))) (ix2 i j)).trans (host_v4 (W0 m ρ c) _ rfl e16 i j)) (fun i j => (congrFun (W4_args m ρ c main_arg14 (by decide)) (ix2 i j)).trans (e14 i j)) (fun i j => (congrFun (W4_args m ρ c main_arg13 (by decide)) (ix2 i j)).trans (e13 i j)))
/-- The buffer of the gradient of the feed-forward layer's output. -/
theorem k_df2 : W5 m ρ c (Proc.devRef .tc main_v8_1) = Arr I.df2 :=
  (W5_arr m ρ c 10).trans (r3_10 (V4 m ρ) c (fun i j => congrFun (k_xn3 m ρ c I e0 e1 e2 e3 e4 e6 e7 e8 e9 e10 e11 e12 e13 e14 e15 e16) (ix2 i j)) (fun i j => (congrFun (W4_args m ρ c main_arg3 (by decide)) (ix2 i j)).trans (e3 i j)) (fun i j => congrFun (k_h2 m ρ c I e0 e1 e2 e3 e4 e6 e7 e8 e9 e10 e11 e12 e13 e14 e15 e16) (ix2 i j)) (fun i j => congrFun (k_f2 m ρ c I e0 e1 e2 e3 e4 e6 e7 e8 e9 e10 e11 e12 e13 e14 e15 e16) (ix2 i j)) (fun i j => (congrFun (W4_args m ρ c main_arg4 (by decide)) (ix2 i j)).trans (e4 i j)) (fun i j => (congrFun ((W4_of m ρ c main_v3 (by decide)).trans ((W3_of m ρ c main_v3 (by decide)).trans (W2_of m ρ c main_v3 (by decide)))) (ix2 i j)).trans (host_v3 (W0 m ρ c) _ rfl e15 i j)) (fun i j => (congrFun ((W4_of m ρ c main_v4 (by decide)).trans ((W3_of m ρ c main_v4 (by decide)).trans (W2_of m ρ c main_v4 (by decide)))) (ix2 i j)).trans (host_v4 (W0 m ρ c) _ rfl e16 i j)) (fun i j => (congrFun (W4_args m ρ c main_arg14 (by decide)) (ix2 i j)).trans (e14 i j)) (fun i j => (congrFun (W4_args m ρ c main_arg13 (by decide)) (ix2 i j)).trans (e13 i j)))
/-- The buffer of the gradient of the gate before the logistic function. -/
theorem k_dgt : W5 m ρ c (Proc.devRef .tc main_v8_2) = Arr I.dgt :=
  (W5_arr m ρ c 11).trans (r3_11 (V4 m ρ) c (fun i j => congrFun (k_xn3 m ρ c I e0 e1 e2 e3 e4 e6 e7 e8 e9 e10 e11 e12 e13 e14 e15 e16) (ix2 i j)) (fun i j => (congrFun (W4_args m ρ c main_arg3 (by decide)) (ix2 i j)).trans (e3 i j)) (fun i j => congrFun (k_h2 m ρ c I e0 e1 e2 e3 e4 e6 e7 e8 e9 e10 e11 e12 e13 e14 e15 e16) (ix2 i j)) (fun i j => congrFun (k_f2 m ρ c I e0 e1 e2 e3 e4 e6 e7 e8 e9 e10 e11 e12 e13 e14 e15 e16) (ix2 i j)) (fun i j => (congrFun (W4_args m ρ c main_arg4 (by decide)) (ix2 i j)).trans (e4 i j)) (fun i j => (congrFun ((W4_of m ρ c main_v3 (by decide)).trans ((W3_of m ρ c main_v3 (by decide)).trans (W2_of m ρ c main_v3 (by decide)))) (ix2 i j)).trans (host_v3 (W0 m ρ c) _ rfl e15 i j)) (fun i j => (congrFun ((W4_of m ρ c main_v4 (by decide)).trans ((W3_of m ρ c main_v4 (by decide)).trans (W2_of m ρ c main_v4 (by decide)))) (ix2 i j)).trans (host_v4 (W0 m ρ c) _ rfl e16 i j)) (fun i j => (congrFun (W4_args m ρ c main_arg14 (by decide)) (ix2 i j)).trans (e14 i j)) (fun i j => (congrFun (W4_args m ρ c main_arg13 (by decide)) (ix2 i j)).trans (e13 i j)))
/-- The buffer of the gradient of the projected extra input. -/
theorem k_dpp : W5 m ρ c (Proc.devRef .tc main_v8_3) = Arr I.dpp :=
  (W5_arr m ρ c 12).trans (r3_12 (V4 m ρ) c (fun i j => congrFun (k_xn3 m ρ c I e0 e1 e2 e3 e4 e6 e7 e8 e9 e10 e11 e12 e13 e14 e15 e16) (ix2 i j)) (fun i j => (congrFun (W4_args m ρ c main_arg3 (by decide)) (ix2 i j)).trans (e3 i j)) (fun i j => congrFun (k_h2 m ρ c I e0 e1 e2 e3 e4 e6 e7 e8 e9 e10 e11 e12 e13 e14 e15 e16) (ix2 i j)) (fun i j => congrFun (k_f2 m ρ c I e0 e1 e2 e3 e4 e6 e7 e8 e9 e10 e11 e12 e13 e14 e15 e16) (ix2 i j)) (fun i j => (congrFun (W4_args m ρ c main_arg4 (by decide)) (ix2 i j)).trans (e4 i j)) (fun i j => (congrFun ((W4_of m ρ c main_v3 (by decide)).trans ((W3_of m ρ c main_v3 (by decide)).trans (W2_of m ρ c main_v3 (by decide)))) (ix2 i j)).trans (host_v3 (W0 m ρ c) _ rfl e15 i j)) (fun i j => (congrFun ((W4_of m ρ c main_v4 (by decide)).trans ((W3_of m ρ c main_v4 (by decide)).trans (W2_of m ρ c main_v4 (by decide)))) (ix2 i j)).trans (host_v4 (W0 m ρ c) _ rfl e16 i j)) (fun i j => (congrFun (W4_args m ρ c main_arg14 (by decide)) (ix2 i j)).trans (e14 i j)) (fun i j => (congrFun (W4_args m ρ c main_arg13 (by decide)) (ix2 i j)).trans (e13 i j)))
/-- The buffer of the loss. -/
theorem k_loss : W5 m ρ c (Proc.devRef .tc main_v8_4) = Arr I.loss :=
  (W5_arr m ρ c 13).trans (r3_13 (V4 m ρ) c (fun i j => congrFun (k_xn3 m ρ c I e0 e1 e2 e3 e4 e6 e7 e8 e9 e10 e11 e12 e13 e14 e15 e16) (ix2 i j)) (fun i j => (congrFun (W4_args m ρ c main_arg3 (by decide)) (ix2 i j)).trans (e3 i j)) (fun i j => congrFun (k_h2 m ρ c I e0 e1 e2 e3 e4 e6 e7 e8 e9 e10 e11 e12 e13 e14 e15 e16) (ix2 i j)) (fun i j => congrFun (k_f2 m ρ c I e0 e1 e2 e3 e4 e6 e7 e8 e9 e10 e11 e12 e13 e14 e15 e16) (ix2 i j)) (fun i j => (congrFun (W4_args m ρ c main_arg4 (by decide)) (ix2 i j)).trans (e4 i j)) (fun i j => (congrFun ((W4_of m ρ c main_v3 (by decide)).trans ((W3_of m ρ c main_v3 (by decide)).trans (W2_of m ρ c main_v3 (by decide)))) (ix2 i j)).trans (host_v3 (W0 m ρ c) _ rfl e15 i j)) (fun i j => (congrFun ((W4_of m ρ c main_v4 (by decide)).trans ((W3_of m ρ c main_v4 (by decide)).trans (W2_of m ρ c main_v4 (by decide)))) (ix2 i j)).trans (host_v4 (W0 m ρ c) _ rfl e16 i j)) (fun i j => (congrFun (W4_args m ρ c main_arg14 (by decide)) (ix2 i j)).trans (e14 i j)) (fun i j => (congrFun (W4_args m ρ c main_arg13 (by decide)) (ix2 i j)).trans (e13 i j)))
/-- The buffer of the gradient of the scale before the gate. -/
theorem k_dgl : W5 m ρ c (Proc.devRef .tc main_v8_5) = Arr I.dgl :=
  (W5_arr m ρ c 14).trans (r3_14 (V4 m ρ) c (fun i j => congrFun (k_xn3 m ρ c I e0 e1 e2 e3 e4 e6 e7 e8 e9 e10 e11 e12 e13 e14 e15 e16) (ix2 i j)) (fun i j => (congrFun (W4_args m ρ c main_arg3 (by decide)) (ix2 i j)).trans (e3 i j)) (fun i j => congrFun (k_h2 m ρ c I e0 e1 e2 e3 e4 e6 e7 e8 e9 e10 e11 e12 e13 e14 e15 e16) (ix2 i j)) (fun i j => congrFun (k_f2 m ρ c I e0 e1 e2 e3 e4 e6 e7 e8 e9 e10 e11 e12 e13 e14 e15 e16) (ix2 i j)) (fun i j => (congrFun (W4_args m ρ c main_arg4 (by decide)) (ix2 i j)).trans (e4 i j)) (fun i j => (congrFun ((W4_of m ρ c main_v3 (by decide)).trans ((W3_of m ρ c main_v3 (by decide)).trans (W2_of m ρ c main_v3 (by decide)))) (ix2 i j)).trans (host_v3 (W0 m ρ c) _ rfl e15 i j)) (fun i j => (congrFun ((W4_of m ρ c main_v4 (by decide)).trans ((W3_of m ρ c main_v4 (by decide)).trans (W2_of m ρ c main_v4 (by decide)))) (ix2 i j)).trans (host_v4 (W0 m ρ c) _ rfl e16 i j)) (fun i j => (congrFun (W4_args m ρ c main_arg14 (by decide)) (ix2 i j)).trans (e14 i j)) (fun i j => (congrFun (W4_args m ρ c main_arg13 (by decide)) (ix2 i j)).trans (e13 i j)))
/-- The buffer of the gradient of the scale after the feed-forward layer. -/
theorem k_dgq : W5 m ρ c (Proc.devRef .tc main_v8_6) = Arr I.dgq :=
  (W5_arr m ρ c 15).trans (r3_15 (V4 m ρ) c (fun i j => congrFun (k_xn3 m ρ c I e0 e1 e2 e3 e4 e6 e7 e8 e9 e10 e11 e12 e13 e14 e15 e16) (ix2 i j)) (fun i j => (congrFun (W4_args m ρ c main_arg3 (by decide)) (ix2 i j)).trans (e3 i j)) (fun i j => congrFun (k_h2 m ρ c I e0 e1 e2 e3 e4 e6 e7 e8 e9 e10 e11 e12 e13 e14 e15 e16) (ix2 i j)) (fun i j => congrFun (k_f2 m ρ c I e0 e1 e2 e3 e4 e6 e7 e8 e9 e10 e11 e12 e13 e14 e15 e16) (ix2 i j)) (fun i j => (congrFun (W4_args m ρ c main_arg4 (by decide)) (ix2 i j)).trans (e4 i j)) (fun i j => (congrFun ((W4_of m ρ c main_v3 (by decide)).trans ((W3_of m ρ c main_v3 (by decide)).trans (W2_of m ρ c main_v3 (by decide)))) (ix2 i j)).trans (host_v3 (W0 m ρ c) _ rfl e15 i j)) (fun i j => (congrFun ((W4_of m ρ c main_v4 (by decide)).trans ((W3_of m ρ c main_v4 (by decide)).trans (W2_of m ρ c main_v4 (by decide)))) (ix2 i j)).trans (host_v4 (W0 m ρ c) _ rfl e16 i j)) (fun i j => (congrFun (W4_args m ρ c main_arg14 (by decide)) (ix2 i j)).trans (e14 i j)) (fun i j => (congrFun (W4_args m ρ c main_arg13 (by decide)) (ix2 i j)).trans (e13 i j)))
/-- The buffer of the gradient of the gate's weights. -/
theorem k_dwg : W6 m ρ c (Proc.devRef .tc main_v9) = Arr I.dwg :=
  (W6_arr m ρ c 2).trans (r4_2 (V5 m ρ) c (fun i j => congrFun ((W5_of m ρ c main_v7_2 (by decide)).trans (k_xn3 m ρ c I e0 e1 e2 e3 e4 e6 e7 e8 e9 e10 e11 e12 e13 e14 e15 e16)) (ix2 i j)) (fun i j => congrFun (k_dgt m ρ c I e0 e1 e2 e3 e4 e6 e7 e8 e9 e10 e11 e12 e13 e14 e15 e16) (ix2 i j)))
/-- The buffer of the gradient of the extra input's weights. -/
theorem k_dwp : W7 m ρ c (Proc.devRef .tc main_v10) = Arr I.dwp :=
  (W7_arr m ρ c 2).trans (r5_2 (V6 m ρ) c (fun i j => (congrFun (W6_args m ρ c main_arg3 (by decide)) (ix2 i j)).trans (e3 i j)) (fun i j => congrFun ((W6_of m ρ c main_v8_3 (by decide)).trans (k_dpp m ρ c I e0 e1 e2 e3 e4 e6 e7 e8 e9 e10 e11 e12 e13 e14 e15 e16)) (ix2 i j)))
/-- The buffer of the gradient of the second feed-forward weights. -/
theorem k_dw2 : W8 m ρ c (Proc.devRef .tc main_v11) = Arr I.dw2 :=
  (W8_arr m ρ c 2).trans (r6_2 (V7 m ρ) c (fun i j => congrFun (((W7_of m ρ c main_v6 (by decide)).trans ((W6_of m ρ c main_v6 (by decide)).trans ((W5_of m ρ c main_v6 (by decide)).trans (W4_of m ρ c main_v6 (by decide))))).trans (k_u m ρ c I e0 e1 e2 e3 e4 e6 e7 e8 e9 e10 e11 e12 e13 e14 e15 e16)) (ix2 i j)) (fun i j => congrFun (((W7_of m ρ c main_v8_1 (by decide)).trans (W6_of m ρ c main_v8_1 (by decide))).trans (k_df2 m ρ c I e0 e1 e2 e3 e4 e6 e7 e8 e9 e10 e11 e12 e13 e14 e15 e16)) (ix2 i j)))
/-- The buffer of the gradient of the first product. -/
theorem k_du : W10 m ρ c (Proc.devRef .tc main_v13) = Arr I.du :=
  (W10_arr m ρ c 3).trans (r7_3 (V9 m ρ) c (fun i j => congrFun (((W9_of m ρ c main_v8_1 (by decide)).trans ((W8_of m ρ c main_v8_1 (by decide)).trans ((W7_of m ρ c main_v8_1 (by decide)).trans (W6_of m ρ c main_v8_1 (by decide))))).trans (k_df2 m ρ c I e0 e1 e2 e3 e4 e6 e7 e8 e9 e10 e11 e12 e13 e14 e15 e16)) (ix2 i j)) (fun i j => host_v12 (W8 m ρ c) _ rfl (fun i j => (congrFun ((W8_of m ρ c main_v2 (by decide)).trans ((W7_of m ρ c main_v2 (by decide)).trans ((W6_of m ρ c main_v2 (by decide)).trans ((W5_of m ρ c main_v2 (by decide)).trans ((W4_of m ρ c main_v2 (by decide)).trans ((W3_of m ρ c main_v2 (by decide)).trans (W2_of m ρ c main_v2 (by decide)))))))) (ix2 i j)).trans (host_v2 (W0 m ρ c) _ rfl e12 i j)) i j) (fun i j => congrFun (((W9_of m ρ c main_v6 (by decide)).trans ((W8_of m ρ c main_v6 (by decide)).trans ((W7_of m ρ c main_v6 (by decide)).trans ((W6_of m ρ c main_v6 (by decide)).trans ((W5_of m ρ c main_v6 (by decide)).trans (W4_of m ρ c main_v6 (by decide))))))).trans (k_u m ρ c I e0 e1 e2 e3 e4 e6 e7 e8 e9 e10 e11 e12 e13 e14 e15 e16)) (ix2 i j)))
/-- The buffer of the gradient of the first feed-forward weights. -/
theorem k_dw1 : W11 m ρ c (Proc.devRef .tc main_v14) = Arr I.dw1 :=
  (W11_arr m ρ c 2).trans (r8_2 (V10 m ρ) c (fun i j => congrFun (((W10_of m ρ c main_v5_3 (by decide)).trans ((W9_of m ρ c main_v5_3 (by decide)).trans ((W8_of m ρ c main_v5_3 (by decide)).trans ((W7_of m ρ c main_v5_3 (by decide)).trans ((W6_of m ρ c main_v5_3 (by decide)).trans ((W5_of m ρ c main_v5_3 (by decide)).trans ((W4_of m ρ c main_v5_3 (by decide)).trans (W3_of m ρ c main_v5_3 (by decide))))))))).trans (k_xn2 m ρ c I e0 e1 e2 e3 e4 e6 e7 e8 e9 e10 e11 e12 e13 e14 e15 e16)) (ix2 i j)) (fun i j => congrFun (k_du m ρ c I e0 e1 e2 e3 e4 e6 e7 e8 e9 e10 e11 e12 e13 e14 e15 e16) (ix2 i j)))
/-- The buffer of the gradient of the residual after the attention. -/
theorem k_dh1 : W12 m ρ c (Proc.devRef .tc main_v15_0) = Arr I.dh1 :=
  (W12_arr m ρ c 7).trans (r9_7 (V11 m ρ) c (fun i j => congrFun ((W11_of m ρ c main_v13 (by decide)).trans (k_du m ρ c I e0 e1 e2 e3 e4 e6 e7 e8 e9 e10 e11 e12 e13 e14 e15 e16)) (ix2 i j)) (fun i j => (congrFun ((W11_of m ρ c main_v1 (by decide)).trans ((W10_of m ρ c main_v1 (by decide)).trans ((W9_of m ρ c main_v1 (by decide)).trans ((W8_of m ρ c main_v1 (by decide)).trans ((W7_of m ρ c main_v1 (by decide)).trans ((W6_of m ρ c main_v1 (by decide)).trans ((W5_of m ρ c main_v1 (by decide)).trans ((W4_of m ρ c main_v1 (by decide)).trans ((W3_of m ρ c main_v1 (by decide)).trans (W2_of m ρ c main_v1 (by decide))))))))))) (ix2 i j)).trans (host_v1 (W0 m ρ c) _ rfl e11 i j)) (fun i j => congrFun (((W11_of m ρ c main_v8_0 (by decide)).trans ((W10_of m ρ c main_v8_0 (by decide)).trans ((W9_of m ρ c main_v8_0 (by decide)).trans ((W8_of m ρ c main_v8_0 (by decide)).trans ((W7_of m ρ c main_v8_0 (by decide)).trans (W6_of m ρ c main_v8_0 (by decide))))))).trans (k_dh2 m ρ c I e0 e1 e2 e3 e4 e6 e7 e8 e9 e10 e11 e12 e13 e14 e15 e16)) (ix2 i j)) (fun i j => congrFun (((W11_of m ρ c main_v5_2 (by decide)).trans ((W10_of m ρ c main_v5_2 (by decide)).trans ((W9_of m ρ c main_v5_2 (by decide)).trans ((W8_of m ρ c main_v5_2 (by decide)).trans ((W7_of m ρ c main_v5_2 (by decide)).trans ((W6_of m ρ c main_v5_2 (by decide)).trans ((W5_of m ρ c main_v5_2 (by decide)).trans ((W4_of m ρ c main_v5_2 (by decide)).trans (W3_of m ρ c main_v5_2 (by decide)))))))))).trans (k_h1 m ρ c I e0 e1 e2 e3 e4 e6 e7 e8 e9 e10 e11 e12 e13 e14 e15 e16)) (ix2 i j)) (fun i j => congrFun (((W11_of m ρ c main_v5_1 (by decide)).trans ((W10_of m ρ c main_v5_1 (by decide)).trans ((W9_of m ρ c main_v5_1 (by decide)).trans ((W8_of m ρ c main_v5_1 (by decide)).trans ((W7_of m ρ c main_v5_1 (by decide)).trans ((W6_of m ρ c main_v5_1 (by decide)).trans ((W5_of m ρ c main_v5_1 (by decide)).trans ((W4_of m ρ c main_v5_1 (by decide)).trans (W3_of m ρ c main_v5_1 (by decide)))))))))).trans (k_y2 m ρ c I e0 e1 e2 e3 e4 e6 e7 e8 e9 e10 e11 e12 e13 e14 e15 e16)) (ix2 i j)) (fun i j => (congrFun (W11_args m ρ c main_arg10 (by decide)) (ix2 i j)).trans (e10 i j)) (fun i j => (congrFun (W11_args m ρ c main_arg9 (by decide)) (ix2 i j)).trans (e9 i j)))
/-- The buffer of the gradient of the output projection. -/
theorem k_dy2 : W12 m ρ c (Proc.devRef .tc main_v15_1) = Arr I.dy2 :=
  (W12_arr m ρ c 8).trans (r9_8 (V11 m ρ) c (fun i j => congrFun ((W11_of m ρ c main_v13 (by decide)).trans (k_du m ρ c I e0 e1 e2 e3 e4 e6 e7 e8 e9 e10 e11 e12 e13 e14 e15 e16)) (ix2 i j)) (fun i j => (congrFun ((W11_of m ρ c main_v1 (by decide)).trans ((W10_of m ρ c main_v1 (by decide)).trans ((W9_of m ρ c main_v1 (by decide)).trans ((W8_of m ρ c main_v1 (by decide)).trans ((W7_of m ρ c main_v1 (by decide)).trans ((W6_of m ρ c main_v1 (by decide)).trans ((W5_of m ρ c main_v1 (by decide)).trans ((W4_of m ρ c main_v1 (by decide)).trans ((W3_of m ρ c main_v1 (by decide)).trans (W2_of m ρ c main_v1 (by decide))))))))))) (ix2 i j)).trans (host_v1 (W0 m ρ c) _ rfl e11 i j)) (fun i j => congrFun (((W11_of m ρ c main_v8_0 (by decide)).trans ((W10_of m ρ c main_v8_0 (by decide)).trans ((W9_of m ρ c main_v8_0 (by decide)).trans ((W8_of m ρ c main_v8_0 (by decide)).trans ((W7_of m ρ c main_v8_0 (by decide)).trans (W6_of m ρ c main_v8_0 (by decide))))))).trans (k_dh2 m ρ c I e0 e1 e2 e3 e4 e6 e7 e8 e9 e10 e11 e12 e13 e14 e15 e16)) (ix2 i j)) (fun i j => congrFun (((W11_of m ρ c main_v5_2 (by decide)).trans ((W10_of m ρ c main_v5_2 (by decide)).trans ((W9_of m ρ c main_v5_2 (by decide)).trans ((W8_of m ρ c main_v5_2 (by decide)).trans ((W7_of m ρ c main_v5_2 (by decide)).trans ((W6_of m ρ c main_v5_2 (by decide)).trans ((W5_of m ρ c main_v5_2 (by decide)).trans ((W4_of m ρ c main_v5_2 (by decide)).trans (W3_of m ρ c main_v5_2 (by decide)))))))))).trans (k_h1 m ρ c I e0 e1 e2 e3 e4 e6 e7 e8 e9 e10 e11 e12 e13 e14 e15 e16)) (ix2 i j)) (fun i j => congrFun (((W11_of m ρ c main_v5_1 (by decide)).trans ((W10_of m ρ c main_v5_1 (by decide)).trans ((W9_of m ρ c main_v5_1 (by decide)).trans ((W8_of m ρ c main_v5_1 (by decide)).trans ((W7_of m ρ c main_v5_1 (by decide)).trans ((W6_of m ρ c main_v5_1 (by decide)).trans ((W5_of m ρ c main_v5_1 (by decide)).trans ((W4_of m ρ c main_v5_1 (by decide)).trans (W3_of m ρ c main_v5_1 (by decide)))))))))).trans (k_y2 m ρ c I e0 e1 e2 e3 e4 e6 e7 e8 e9 e10 e11 e12 e13 e14 e15 e16)) (ix2 i j)) (fun i j => (congrFun (W11_args m ρ c main_arg10 (by decide)) (ix2 i j)).trans (e10 i j)) (fun i j => (congrFun (W11_args m ρ c main_arg9 (by decide)) (ix2 i j)).trans (e9 i j)))
/-- The buffer of the gradient of the scale before the feed-forward layer. -/
theorem k_dgm : W12 m ρ c (Proc.devRef .tc main_v15_2) = Arr I.dgm :=
  (W12_arr m ρ c 9).trans (r9_9 (V11 m ρ) c (fun i j => congrFun ((W11_of m ρ c main_v13 (by decide)).trans (k_du m ρ c I e0 e1 e2 e3 e4 e6 e7 e8 e9 e10 e11 e12 e13 e14 e15 e16)) (ix2 i j)) (fun i j => (congrFun ((W11_of m ρ c main_v1 (by decide)).trans ((W10_of m ρ c main_v1 (by decide)).trans ((W9_of m ρ c main_v1 (by decide)).trans ((W8_of m ρ c main_v1 (by decide)).trans ((W7_of m ρ c main_v1 (by decide)).trans ((W6_of m ρ c main_v1 (by decide)).trans ((W5_of m ρ c main_v1 (by decide)).trans ((W4_of m ρ c main_v1 (by decide)).trans ((W3_of m ρ c main_v1 (by decide)).trans (W2_of m ρ c main_v1 (by decide))))))))))) (ix2 i j)).trans (host_v1 (W0 m ρ c) _ rfl e11 i j)) (fun i j => congrFun (((W11_of m ρ c main_v8_0 (by decide)).trans ((W10_of m ρ c main_v8_0 (by decide)).trans ((W9_of m ρ c main_v8_0 (by decide)).trans ((W8_of m ρ c main_v8_0 (by decide)).trans ((W7_of m ρ c main_v8_0 (by decide)).trans (W6_of m ρ c main_v8_0 (by decide))))))).trans (k_dh2 m ρ c I e0 e1 e2 e3 e4 e6 e7 e8 e9 e10 e11 e12 e13 e14 e15 e16)) (ix2 i j)) (fun i j => congrFun (((W11_of m ρ c main_v5_2 (by decide)).trans ((W10_of m ρ c main_v5_2 (by decide)).trans ((W9_of m ρ c main_v5_2 (by decide)).trans ((W8_of m ρ c main_v5_2 (by decide)).trans ((W7_of m ρ c main_v5_2 (by decide)).trans ((W6_of m ρ c main_v5_2 (by decide)).trans ((W5_of m ρ c main_v5_2 (by decide)).trans ((W4_of m ρ c main_v5_2 (by decide)).trans (W3_of m ρ c main_v5_2 (by decide)))))))))).trans (k_h1 m ρ c I e0 e1 e2 e3 e4 e6 e7 e8 e9 e10 e11 e12 e13 e14 e15 e16)) (ix2 i j)) (fun i j => congrFun (((W11_of m ρ c main_v5_1 (by decide)).trans ((W10_of m ρ c main_v5_1 (by decide)).trans ((W9_of m ρ c main_v5_1 (by decide)).trans ((W8_of m ρ c main_v5_1 (by decide)).trans ((W7_of m ρ c main_v5_1 (by decide)).trans ((W6_of m ρ c main_v5_1 (by decide)).trans ((W5_of m ρ c main_v5_1 (by decide)).trans ((W4_of m ρ c main_v5_1 (by decide)).trans (W3_of m ρ c main_v5_1 (by decide)))))))))).trans (k_y2 m ρ c I e0 e1 e2 e3 e4 e6 e7 e8 e9 e10 e11 e12 e13 e14 e15 e16)) (ix2 i j)) (fun i j => (congrFun (W11_args m ρ c main_arg10 (by decide)) (ix2 i j)).trans (e10 i j)) (fun i j => (congrFun (W11_args m ρ c main_arg9 (by decide)) (ix2 i j)).trans (e9 i j)))
/-- The buffer of the gradient of the scale after the attention. -/
theorem k_dgp : W12 m ρ c (Proc.devRef .tc main_v15_3) = Arr I.dgp :=
  (W12_arr m ρ c 10).trans (r9_10 (V11 m ρ) c (fun i j => congrFun ((W11_of m ρ c main_v13 (by decide)).trans (k_du m ρ c I e0 e1 e2 e3 e4 e6 e7 e8 e9 e10 e11 e12 e13 e14 e15 e16)) (ix2 i j)) (fun i j => (congrFun ((W11_of m ρ c main_v1 (by decide)).trans ((W10_of m ρ c main_v1 (by decide)).trans ((W9_of m ρ c main_v1 (by decide)).trans ((W8_of m ρ c main_v1 (by decide)).trans ((W7_of m ρ c main_v1 (by decide)).trans ((W6_of m ρ c main_v1 (by decide)).trans ((W5_of m ρ c main_v1 (by decide)).trans ((W4_of m ρ c main_v1 (by decide)).trans ((W3_of m ρ c main_v1 (by decide)).trans (W2_of m ρ c main_v1 (by decide))))))))))) (ix2 i j)).trans (host_v1 (W0 m ρ c) _ rfl e11 i j)) (fun i j => congrFun (((W11_of m ρ c main_v8_0 (by decide)).trans ((W10_of m ρ c main_v8_0 (by decide)).trans ((W9_of m ρ c main_v8_0 (by decide)).trans ((W8_of m ρ c main_v8_0 (by decide)).trans ((W7_of m ρ c main_v8_0 (by decide)).trans (W6_of m ρ c main_v8_0 (by decide))))))).trans (k_dh2 m ρ c I e0 e1 e2 e3 e4 e6 e7 e8 e9 e10 e11 e12 e13 e14 e15 e16)) (ix2 i j)) (fun i j => congrFun (((W11_of m ρ c main_v5_2 (by decide)).trans ((W10_of m ρ c main_v5_2 (by decide)).trans ((W9_of m ρ c main_v5_2 (by decide)).trans ((W8_of m ρ c main_v5_2 (by decide)).trans ((W7_of m ρ c main_v5_2 (by decide)).trans ((W6_of m ρ c main_v5_2 (by decide)).trans ((W5_of m ρ c main_v5_2 (by decide)).trans ((W4_of m ρ c main_v5_2 (by decide)).trans (W3_of m ρ c main_v5_2 (by decide)))))))))).trans (k_h1 m ρ c I e0 e1 e2 e3 e4 e6 e7 e8 e9 e10 e11 e12 e13 e14 e15 e16)) (ix2 i j)) (fun i j => congrFun (((W11_of m ρ c main_v5_1 (by decide)).trans ((W10_of m ρ c main_v5_1 (by decide)).trans ((W9_of m ρ c main_v5_1 (by decide)).trans ((W8_of m ρ c main_v5_1 (by decide)).trans ((W7_of m ρ c main_v5_1 (by decide)).trans ((W6_of m ρ c main_v5_1 (by decide)).trans ((W5_of m ρ c main_v5_1 (by decide)).trans ((W4_of m ρ c main_v5_1 (by decide)).trans (W3_of m ρ c main_v5_1 (by decide)))))))))).trans (k_y2 m ρ c I e0 e1 e2 e3 e4 e6 e7 e8 e9 e10 e11 e12 e13 e14 e15 e16)) (ix2 i j)) (fun i j => (congrFun (W11_args m ρ c main_arg10 (by decide)) (ix2 i j)).trans (e10 i j)) (fun i j => (congrFun (W11_args m ρ c main_arg9 (by decide)) (ix2 i j)).trans (e9 i j)))
/-- The buffer of the gradient of the output projection's weights. -/
theorem k_dwo : W13 m ρ c (Proc.devRef .tc main_v16) = Arr I.dwo :=
  (W13_arr m ρ c 2).trans (r10_2 (V12 m ρ) c (fun i j => congrFun (((W12_of m ρ c main_v5_0 (by decide)).trans ((W11_of m ρ c main_v5_0 (by decide)).trans ((W10_of m ρ c main_v5_0 (by decide)).trans ((W9_of m ρ c main_v5_0 (by decide)).trans ((W8_of m ρ c main_v5_0 (by decide)).trans ((W7_of m ρ c main_v5_0 (by decide)).trans ((W6_of m ρ c main_v5_0 (by decide)).trans ((W5_of m ρ c main_v5_0 (by decide)).trans ((W4_of m ρ c main_v5_0 (by decide)).trans (W3_of m ρ c main_v5_0 (by decide))))))))))).trans (k_yc m ρ c I e0 e1 e2 e3 e4 e6 e7 e8 e9 e10 e11 e12 e13 e14 e15 e16)) (ix2 i j)) (fun i j => congrFun (k_dy2 m ρ c I e0 e1 e2 e3 e4 e6 e7 e8 e9 e10 e11 e12 e13 e14 e15 e16) (ix2 i j)))
/-- The buffer of the gradient of the first branch. -/
theorem k_dya : W14 m ρ c (Proc.devRef .tc main_v17_0) = Arr I.dya :=
  (W14_arr m ρ c 7).trans (r11_7 (V13 m ρ) c (fun i j => congrFun ((W13_of m ρ c main_v15_1 (by decide)).trans (k_dy2 m ρ c I e0 e1 e2 e3 e4 e6 e7 e8 e9 e10 e11 e12 e13 e14 e15 e16)) (ix2 i j)) (fun i j => (congrFun ((W13_of m ρ c main_v0 (by decide)).trans ((W12_of m ρ c main_v0 (by decide)).trans ((W11_of m ρ c main_v0 (by decide)).trans ((W10_of m ρ c main_v0 (by decide)).trans ((W9_of m ρ c main_v0 (by decide)).trans ((W8_of m ρ c main_v0 (by decide)).trans ((W7_of m ρ c main_v0 (by decide)).trans ((W6_of m ρ c main_v0 (by decide)).trans ((W5_of m ρ c main_v0 (by decide)).trans ((W4_of m ρ c main_v0 (by decide)).trans ((W3_of m ρ c main_v0 (by decide)).trans (W2_of m ρ c main_v0 (by decide))))))))))))) (ix2 i j)).trans (host_v0 (W0 m ρ c) _ rfl e8 i j)) (fun i j => (congrFun (W13_args m ρ c main_arg0 (by decide)) (ix2 i j)).trans (e0 i j)) (fun i j => (congrFun (W13_args m ρ c main_arg1 (by decide)) (ix2 i j)).trans (e1 i j)) (fun i j => (congrFun (W13_args m ρ c main_arg6 (by decide)) (ix2 i j)).trans (e6 i j)) (fun i j => (congrFun (W13_args m ρ c main_arg7 (by decide)) (ix2 i j)).trans (e7 i j)))
/-- The buffer of the gradient of the second branch. -/
theorem k_dyb : W14 m ρ c (Proc.devRef .tc main_v17_1) = Arr I.dyb :=
  (W14_arr m ρ c 8).trans (r11_8 (V13 m ρ) c (fun i j => congrFun ((W13_of m ρ c main_v15_1 (by decide)).trans (k_dy2 m ρ c I e0 e1 e2 e3 e4 e6 e7 e8 e9 e10 e11 e12 e13 e14 e15 e16)) (ix2 i j)) (fun i j => (congrFun ((W13_of m ρ c main_v0 (by decide)).trans ((W12_of m ρ c main_v0 (by decide)).trans ((W11_of m ρ c main_v0 (by decide)).trans ((W10_of m ρ c main_v0 (by decide)).trans ((W9_of m ρ c main_v0 (by decide)).trans ((W8_of m ρ c main_v0 (by decide)).trans ((W7_of m ρ c main_v0 (by decide)).trans ((W6_of m ρ c main_v0 (by decide)).trans ((W5_of m ρ c main_v0 (by decide)).trans ((W4_of m ρ c main_v0 (by decide)).trans ((W3_of m ρ c main_v0 (by decide)).trans (W2_of m ρ c main_v0 (by decide))))))))))))) (ix2 i j)).trans (host_v0 (W0 m ρ c) _ rfl e8 i j)) (fun i j => (congrFun (W13_args m ρ c main_arg0 (by decide)) (ix2 i j)).trans (e0 i j)) (fun i j => (congrFun (W13_args m ρ c main_arg1 (by decide)) (ix2 i j)).trans (e1 i j)) (fun i j => (congrFun (W13_args m ρ c main_arg6 (by decide)) (ix2 i j)).trans (e6 i j)) (fun i j => (congrFun (W13_args m ρ c main_arg7 (by decide)) (ix2 i j)).trans (e7 i j)))
/-- The buffer of the gradient of the first branch's scale. -/
theorem k_dga : W14 m ρ c (Proc.devRef .tc main_v17_4) = Arr I.dga :=
  (W14_arr m ρ c 11).trans (r11_11 (V13 m ρ) c (fun i j => congrFun ((W13_of m ρ c main_v15_1 (by decide)).trans (k_dy2 m ρ c I e0 e1 e2 e3 e4 e6 e7 e8 e9 e10 e11 e12 e13 e14 e15 e16)) (ix2 i j)) (fun i j => (congrFun ((W13_of m ρ c main_v0 (by decide)).trans ((W12_of m ρ c main_v0 (by decide)).trans ((W11_of m ρ c main_v0 (by decide)).trans ((W10_of m ρ c main_v0 (by decide)).trans ((W9_of m ρ c main_v0 (by decide)).trans ((W8_of m ρ c main_v0 (by decide)).trans ((W7_of m ρ c main_v0 (by decide)).trans ((W6_of m ρ c main_v0 (by decide)).trans ((W5_of m ρ c main_v0 (by decide)).trans ((W4_of m ρ c main_v0 (by decide)).trans ((W3_of m ρ c main_v0 (by decide)).trans (W2_of m ρ c main_v0 (by decide))))))))))))) (ix2 i j)).trans (host_v0 (W0 m ρ c) _ rfl e8 i j)) (fun i j => (congrFun (W13_args m ρ c main_arg0 (by decide)) (ix2 i j)).trans (e0 i j)) (fun i j => (congrFun (W13_args m ρ c main_arg1 (by decide)) (ix2 i j)).trans (e1 i j)) (fun i j => (congrFun (W13_args m ρ c main_arg6 (by decide)) (ix2 i j)).trans (e6 i j)) (fun i j => (congrFun (W13_args m ρ c main_arg7 (by decide)) (ix2 i j)).trans (e7 i j)))
/-- The buffer of the gradient of the second branch's scale. -/
theorem k_dgb : W14 m ρ c (Proc.devRef .tc main_v17_5) = Arr I.dgb :=
  (W14_arr m ρ c 12).trans (r11_12 (V13 m ρ) c (fun i j => congrFun ((W13_of m ρ c main_v15_1 (by decide)).trans (k_dy2 m ρ c I e0 e1 e2 e3 e4 e6 e7 e8 e9 e10 e11 e12 e13 e14 e15 e16)) (ix2 i j)) (fun i j => (congrFun ((W13_of m ρ c main_v0 (by decide)).trans ((W12_of m ρ c main_v0 (by decide)).trans ((W11_of m ρ c main_v0 (by decide)).trans ((W10_of m ρ c main_v0 (by decide)).trans ((W9_of m ρ c main_v0 (by decide)).trans ((W8_of m ρ c main_v0 (by decide)).trans ((W7_of m ρ c main_v0 (by decide)).trans ((W6_of m ρ c main_v0 (by decide)).trans ((W5_of m ρ c main_v0 (by decide)).trans ((W4_of m ρ c main_v0 (by decide)).trans ((W3_of m ρ c main_v0 (by decide)).trans (W2_of m ρ c main_v0 (by decide))))))))))))) (ix2 i j)).trans (host_v0 (W0 m ρ c) _ rfl e8 i j)) (fun i j => (congrFun (W13_args m ρ c main_arg0 (by decide)) (ix2 i j)).trans (e0 i j)) (fun i j => (congrFun (W13_args m ρ c main_arg1 (by decide)) (ix2 i j)).trans (e1 i j)) (fun i j => (congrFun (W13_args m ρ c main_arg6 (by decide)) (ix2 i j)).trans (e6 i j)) (fun i j => (congrFun (W13_args m ρ c main_arg7 (by decide)) (ix2 i j)).trans (e7 i j)))
theorem z_loss : W15 m ρ c (Proc.devRef .tc main_v8_4) = Arr I.loss :=
  ((W15_of m ρ c main_v8_4 (by decide)).trans ((W14_of m ρ c main_v8_4 (by decide)).trans ((W13_of m ρ c main_v8_4 (by decide)).trans ((W12_of m ρ c main_v8_4 (by decide)).trans ((W11_of m ρ c main_v8_4 (by decide)).trans ((W10_of m ρ c main_v8_4 (by decide)).trans ((W9_of m ρ c main_v8_4 (by decide)).trans ((W8_of m ρ c main_v8_4 (by decide)).trans ((W7_of m ρ c main_v8_4 (by decide)).trans (W6_of m ρ c main_v8_4 (by decide))))))))))).trans (k_loss m ρ c I e0 e1 e2 e3 e4 e6 e7 e8 e9 e10 e11 e12 e13 e14 e15 e16)
theorem z_dya : W15 m ρ c (Proc.devRef .tc main_v17_0) = Arr I.dya :=
  (W15_of m ρ c main_v17_0 (by decide)).trans (k_dya m ρ c I e0 e1 e2 e3 e4 e6 e7 e8 e9 e10 e11 e12 e13 e14 e15 e16)
theorem z_dyb : W15 m ρ c (Proc.devRef .tc main_v18) = Arr I.dyb := by
  funext y
  rw [eq_ix2 y]
  exact host_v18 (W14 m ρ c) _ rfl (fun i j => congrFun (k_dyb m ρ c I e0 e1 e2 e3 e4 e6 e7 e8 e9 e10 e11 e12 e13 e14 e15 e16) (ix2 i j)) (y 0) (y 1)
theorem z_dh1 : W15 m ρ c (Proc.devRef .tc main_v15_0) = Arr I.dh1 :=
  ((W15_of m ρ c main_v15_0 (by decide)).trans ((W14_of m ρ c main_v15_0 (by decide)).trans (W13_of m ρ c main_v15_0 (by decide)))).trans (k_dh1 m ρ c I e0 e1 e2 e3 e4 e6 e7 e8 e9 e10 e11 e12 e13 e14 e15 e16)
theorem z_dga : W15 m ρ c (Proc.devRef .tc main_v17_4) = Arr I.dga :=
  (W15_of m ρ c main_v17_4 (by decide)).trans (k_dga m ρ c I e0 e1 e2 e3 e4 e6 e7 e8 e9 e10 e11 e12 e13 e14 e15 e16)
theorem z_dgb : W15 m ρ c (Proc.devRef .tc main_v17_5) = Arr I.dgb :=
  (W15_of m ρ c main_v17_5 (by decide)).trans (k_dgb m ρ c I e0 e1 e2 e3 e4 e6 e7 e8 e9 e10 e11 e12 e13 e14 e15 e16)
theorem z_dwo : W15 m ρ c (Proc.devRef .tc main_v16) = Arr I.dwo :=
  ((W15_of m ρ c main_v16 (by decide)).trans (W14_of m ρ c main_v16 (by decide))).trans (k_dwo m ρ c I e0 e1 e2 e3 e4 e6 e7 e8 e9 e10 e11 e12 e13 e14 e15 e16)
theorem z_dgp : W15 m ρ c (Proc.devRef .tc main_v15_3) = Arr I.dgp :=
  ((W15_of m ρ c main_v15_3 (by decide)).trans ((W14_of m ρ c main_v15_3 (by decide)).trans (W13_of m ρ c main_v15_3 (by decide)))).trans (k_dgp m ρ c I e0 e1 e2 e3 e4 e6 e7 e8 e9 e10 e11 e12 e13 e14 e15 e16)
theorem z_dgm : W15 m ρ c (Proc.devRef .tc main_v15_2) = Arr I.dgm :=
  ((W15_of m ρ c main_v15_2 (by decide)).trans ((W14_of m ρ c main_v15_2 (by decide)).trans (W13_of m ρ c main_v15_2 (by decide)))).trans (k_dgm m ρ c I e0 e1 e2 e3 e4 e6 e7 e8 e9 e10 e11 e12 e13 e14 e15 e16)
theorem z_dw1 : W15 m ρ c (Proc.devRef .tc main_v14) = Arr I.dw1 :=
  ((W15_of m ρ c main_v14 (by decide)).trans ((W14_of m ρ c main_v14 (by decide)).trans ((W13_of m ρ c main_v14 (by decide)).trans (W12_of m ρ c main_v14 (by decide))))).trans (k_dw1 m ρ c I e0 e1 e2 e3 e4 e6 e7 e8 e9 e10 e11 e12 e13 e14 e15 e16)
theorem z_dw2 : W15 m ρ c (Proc.devRef .tc main_v11) = Arr I.dw2 :=
  ((W15_of m ρ c main_v11 (by decide)).trans ((W14_of m ρ c main_v11 (by decide)).trans ((W13_of m ρ c main_v11 (by decide)).trans ((W12_of m ρ c main_v11 (by decide)).trans ((W11_of m ρ c main_v11 (by decide)).trans ((W10_of m ρ c main_v11 (by decide)).trans (W9_of m ρ c main_v11 (by decide)))))))).trans (k_dw2 m ρ c I e0 e1 e2 e3 e4 e6 e7 e8 e9 e10 e11 e12 e13 e14 e15 e16)
theorem z_dgq : W15 m ρ c (Proc.devRef .tc main_v8_6) = Arr I.dgq :=
  ((W15_of m ρ c main_v8_6 (by decide)).trans ((W14_of m ρ c main_v8_6 (by decide)).trans ((W13_of m ρ c main_v8_6 (by decide)).trans ((W12_of m ρ c main_v8_6 (by decide)).trans ((W11_of m ρ c main_v8_6 (by decide)).trans ((W10_of m ρ c main_v8_6 (by decide)).trans ((W9_of m ρ c main_v8_6 (by decide)).trans ((W8_of m ρ c main_v8_6 (by decide)).trans ((W7_of m ρ c main_v8_6 (by decide)).trans (W6_of m ρ c main_v8_6 (by decide))))))))))).trans (k_dgq m ρ c I e0 e1 e2 e3 e4 e6 e7 e8 e9 e10 e11 e12 e13 e14 e15 e16)
theorem z_dgl : W15 m ρ c (Proc.devRef .tc main_v8_5) = Arr I.dgl :=
  ((W15_of m ρ c main_v8_5 (by decide)).trans ((W14_of m ρ c main_v8_5 (by decide)).trans ((W13_of m ρ c main_v8_5 (by decide)).trans ((W12_of m ρ c main_v8_5 (by decide)).trans ((W11_of m ρ c main_v8_5 (by decide)).trans ((W10_of m ρ c main_v8_5 (by decide)).trans ((W9_of m ρ c main_v8_5 (by decide)).trans ((W8_of m ρ c main_v8_5 (by decide)).trans ((W7_of m ρ c main_v8_5 (by decide)).trans (W6_of m ρ c main_v8_5 (by decide))))))))))).trans (k_dgl m ρ c I e0 e1 e2 e3 e4 e6 e7 e8 e9 e10 e11 e12 e13 e14 e15 e16)
theorem z_dwg : W15 m ρ c (Proc.devRef .tc main_v9) = Arr I.dwg :=
  ((W15_of m ρ c main_v9 (by decide)).trans ((W14_of m ρ c main_v9 (by decide)).trans ((W13_of m ρ c main_v9 (by decide)).trans ((W12_of m ρ c main_v9 (by decide)).trans ((W11_of m ρ c main_v9 (by decide)).trans ((W10_of m ρ c main_v9 (by decide)).trans ((W9_of m ρ c main_v9 (by decide)).trans ((W8_of m ρ c main_v9 (by decide)).trans (W7_of m ρ c main_v9 (by decide)))))))))).trans (k_dwg m ρ c I e0 e1 e2 e3 e4 e6 e7 e8 e9 e10 e11 e12 e13 e14 e15 e16)
theorem z_dwp : W15 m ρ c (Proc.devRef .tc main_v10) = Arr I.dwp :=
  ((W15_of m ρ c main_v10 (by decide)).trans ((W14_of m ρ c main_v10 (by decide)).trans ((W13_of m ρ c main_v10 (by decide)).trans ((W12_of m ρ c main_v10 (by decide)).trans ((W11_of m ρ c main_v10 (by decide)).trans ((W10_of m ρ c main_v10 (by decide)).trans ((W9_of m ρ c main_v10 (by decide)).trans (W8_of m ρ c main_v10 (by decide))))))))).trans (k_dwp m ρ c I e0 e1 e2 e3 e4 e6 e7 e8 e9 e10 e11 e12 e13 e14 e15 e16)
end ker

end Cert.Tail

end

end
-- ==== Proof.TailRef.lean ====
module
public import proofs.«01_k».proof.Proof.TailSteps
public import proofs.«01_k».proof.Proof.Gen.Reference2Ideal.Read
public import Idealize.ShloMosaic.Lib.Pointwise

@[expose] public section

set_option maxRecDepth 16384

noncomputable section

namespace Cert.Tail

open Cert.Reference2Ideal Cert.Reference2Ideal.Read
open Idealize.ShloMosaic Idealize.ShloMosaic.TcCoe Idealize.ShloMosaic.Tactic Idealize.SL.Sem

/-- The mean of the squares, with the small constant added. -/
def ms {n : ℕ} (x : Fin n → ℝ) : ℝ := (∑ k, x k * x k) / (n : ℝ) + eps
/-- Half the derivative of the reciprocal root with respect to its argument, with its sign. -/
def hr {n : ℕ} (x : Fin n → ℝ) : ℝ := -(1 / 2) * (rs x * (ms x)⁻¹)
/-- The part of the gradient that the mean of the squares contributes, halved and without the entry. -/
def ge {m n : ℕ} (dy x : Mat m n) (g : Mat 1 n) (i : Fin m) : ℝ := (∑ k, x i k * (dy i k * g 0 k)) * hr (x i) / (n : ℝ)

theorem z32 : Ideal.ofBits .f32 0x00000000#32 = ((0 : ℝ) : EReal) := by
  simp [Ideal.ofBits, Ideal.ieee]
theorem half : Ideal.ofBits .f32 0x3F000000#32 = ((1 / 2 : ℝ) : EReal) := by
  simp [Ideal.ofBits, Ideal.ieee]
  refine congrArg Real.toEReal ?_
  norm_num
theorem neghalf : Ideal.ofBits .f32 0xBF000000#32 = ((-(1 / 2) : ℝ) : EReal) := by
  simp [Ideal.ofBits, Ideal.ieee]
  refine congrArg Real.toEReal ?_
  norm_num
theorem zadd (a : ℝ) : (0 : EReal) + (a : EReal) = ((a : ℝ) : EReal) := zero_add _

theorem hrq {n : ℕ} (x : Fin n → ℝ) : Ideal.div ((rs x : ℝ) : EReal) (((∑ k, x k * x k) / (n : ℝ) + eps : ℝ) : EReal) = ((rs x * (ms x)⁻¹ : ℝ) : EReal) := by
  rw [Ideal.div_coe (ne_of_gt (ms_pos x)), ← EReal.coe_mul, one_div]
  rfl

theorem rs_sq {n : ℕ} (x : Fin n → ℝ) : (ms x)⁻¹ = rs x * rs x := by
  have h := ms_pos x
  unfold rs ms
  rw [← mul_inv, Real.mul_self_sqrt h.le]

theorem ngrad {m n : ℕ} (dy x : Mat m n) (g : Mat 1 n) (i : Fin m) (j : Fin n) :
    dy i j * g 0 j * rs (x i) + x i j * ge dy x g i + ge dy x g i * x i j = nrx dy x g i j := by
  have e : ∑ k, dy i k * g 0 k * nr x i k = (∑ k, x i k * (dy i k * g 0 k)) * rs (x i) := by
    rw [Finset.sum_mul]
    exact Finset.sum_congr rfl fun k _ => by unfold nr; ring
  unfold nrx ge hr
  rw [e, rs_sq]
  unfold nr
  ring

theorem tn_comm {k m n : ℕ} (a : Mat k m) (b : Mat k n) (i : Fin m) (j : Fin n) : ∑ c, b c j * a c i = tn a b i j :=
  Finset.sum_congr rfl fun _ _ => mul_comm _ _

theorem nrg_comm {m n : ℕ} (dy x : Mat m n) (i : Fin 1) (j : Fin n) : ∑ c, nr x c j * dy c j = nrg dy x i j :=
  Finset.sum_congr rfl fun _ _ => mul_comm _ _

theorem loss_eq {m : ℕ} (e : Mat m 1024) : 1 / 2 * ∑ i, (∑ j, e i j * e i j) / ((1024 : ℕ) : ℝ) = ssq e * (1 / 2048) := by
  unfold ssq
  rw [← Finset.sum_div]
  push_cast
  ring

theorem sel_eq (a u : ℝ) : (if (0 : EReal) < (u : EReal) then ((a * (2 * max u 0) : ℝ) : EReal) else 0) = ((a * (2 * max u 0) : ℝ) : EReal) := by
  by_cases h : 0 < u
  · exact if_pos (EReal.coe_pos.mpr h)
  · rw [if_neg fun hh => h (EReal.coe_pos.mp hh), max_eq_right (not_lt.mp h)]
    simp

theorem ngradp {m n : ℕ} (a dy x : Mat m n) (g : Mat 1 n) (i : Fin m) (j : Fin n) :
    a i j + dy i j * g 0 j * rs (x i) + x i j * ge dy x g i + ge dy x g i * x i j = plus a (nrx dy x g) i j := by
  unfold plus
  rw [← ngrad]
  ring

section ref
variable {I : Inp} {x0 : FVec Ideal S16384x512 .f32} {x1 : FVec Ideal S16384x512 .f32} {x2 : FVec Ideal S16384x1024 .f32} {x3 : FVec Ideal S16384x256 .f32} {x4 : FVec Ideal S16384x1024 .f32} {x6 : FVec Ideal S1x512 .f32} {x7 : FVec Ideal S1x512 .f32} {x8 : FVec Ideal S1024x1024 .f32} {x9 : FVec Ideal S1x1024 .f32} {x10 : FVec Ideal S1x1024 .f32} {x11 : FVec Ideal S1024x4096 .f32} {x12 : FVec Ideal S4096x1024 .f32} {x13 : FVec Ideal S1x1024 .f32} {x14 : FVec Ideal S1x1024 .f32} {x15 : FVec Ideal S1024x1024 .f32} {x16 : FVec Ideal S256x1024 .f32}

theorem s7 (h0 : Re x0 I.ya) : Re (val_main_v7 (F := Ideal) x0) (fun i _ => rs (I.ya i)) := by
  intro i j
  unfold val_main_v7 val_main_v6 val_main_v4 val_main_v5 val_main_v2 val_main_v3 val_main_cst_1 val_main_v1 val_main_cst_0 val_main_v0 val_main_cst
  pointwise []
  simp only [h0, emul, eadd, esub, esum, emax, emax0, z32, neghalf, half, k2, k512, k1024, div512, div1024, eps_bits, Ideal.ofBits_def, rsq, hrq, zadd] <;> rfl

theorem s12 (h0 : Re x0 I.ya) : Re (val_main_v12 (F := Ideal) x0) (nr I.ya) := by
  intro i j
  have q0 := s7 h0
  unfold val_main_v12 val_main_v11
  generalize val_main_v7 (F := Ideal) x0 = y0 at *
  pointwise []
  simp only [q0, h0, emul, eadd, esub, esum, emax, emax0, z32, neghalf, half, k2, k512, k1024, div512, div1024, eps_bits, Ideal.ofBits_def, rsq, hrq, zadd] <;> rfl

theorem s10 (h0 : Re x0 I.ya) : Re (val_main_v10 (F := Ideal) x0) (fun i _ => hr (I.ya i)) := by
  intro i j
  have q0 := s7 h0
  unfold val_main_v10 val_main_v9 val_main_v8 val_main_cst_2 val_main_v6 val_main_v4 val_main_v5 val_main_v2 val_main_v3 val_main_cst_1 val_main_v1 val_main_cst_0 val_main_v0 val_main_cst
  generalize val_main_v7 (F := Ideal) x0 = y0 at *
  pointwise []
  simp only [q0, h0, emul, eadd, esub, esum, emax, emax0, z32, neghalf, half, k2, k512, k1024, div512, div1024, eps_bits, Ideal.ofBits_def, rsq, hrq, zadd] <;> rfl

theorem s14 (h0 : Re x0 I.ya) (h6 : Re x6 I.ga) : Re (val_main_v14 (F := Ideal) x0 x6) (nrm I.ya I.ga) := by
  intro i j
  have q0 := s12 h0
  unfold val_main_v14 val_main_v13
  generalize val_main_v12 (F := Ideal) x0 = y0 at *
  pointwise []
  simp only [q0, h0, h6, emul, eadd, esub, esum, emax, emax0, z32, neghalf, half, k2, k512, k1024, div512, div1024, eps_bits, Ideal.ofBits_def, rsq, hrq, zadd] <;> rfl

theorem s22 (h1 : Re x1 I.yb) : Re (val_main_v22 (F := Ideal) x1) (fun i _ => rs (I.yb i)) := by
  intro i j
  unfold val_main_v22 val_main_v21 val_main_v19 val_main_v20 val_main_v17 val_main_v18 val_main_cst_5 val_main_v16 val_main_cst_4 val_main_v15 val_main_cst_3
  pointwise []
  simp only [h1, emul, eadd, esub, esum, emax, emax0, z32, neghalf, half, k2, k512, k1024, div512, div1024, eps_bits, Ideal.ofBits_def, rsq, hrq, zadd] <;> rfl

theorem s27 (h1 : Re x1 I.yb) : Re (val_main_v27 (F := Ideal) x1) (nr I.yb) := by
  intro i j
  have q0 := s22 h1
  unfold val_main_v27 val_main_v26
  generalize val_main_v22 (F := Ideal) x1 = y0 at *
  pointwise []
  simp only [q0, h1, emul, eadd, esub, esum, emax, emax0, z32, neghalf, half, k2, k512, k1024, div512, div1024, eps_bits, Ideal.ofBits_def, rsq, hrq, zadd] <;> rfl

theorem s25 (h1 : Re x1 I.yb) : Re (val_main_v25 (F := Ideal) x1) (fun i _ => hr (I.yb i)) := by
  intro i j
  have q0 := s22 h1
  unfold val_main_v25 val_main_v24 val_main_v23 val_main_cst_6 val_main_v21 val_main_v19 val_main_v20 val_main_v17 val_main_v18 val_main_cst_5 val_main_v16 val_main_cst_4 val_main_v15 val_main_cst_3
  generalize val_main_v22 (F := Ideal) x1 = y0 at *
  pointwise []
  simp only [q0, h1, emul, eadd, esub, esum, emax, emax0, z32, neghalf, half, k2, k512, k1024, div512, div1024, eps_bits, Ideal.ofBits_def, rsq, hrq, zadd] <;> rfl

theorem s29 (h1 : Re x1 I.yb) (h7 : Re x7 I.gb) : Re (val_main_v29 (F := Ideal) x1 x7) (nrm I.yb I.gb) := by
  intro i j
  have q0 := s27 h1
  unfold val_main_v29 val_main_v28
  generalize val_main_v27 (F := Ideal) x1 = y0 at *
  pointwise []
  simp only [q0, h1, h7, emul, eadd, esub, esum, emax, emax0, z32, neghalf, half, k2, k512, k1024, div512, div1024, eps_bits, Ideal.ofBits_def, rsq, hrq, zadd] <;> rfl

theorem s30 (h0 : Re x0 I.ya) (h1 : Re x1 I.yb) (h6 : Re x6 I.ga) (h7 : Re x7 I.gb) : Re (val_main_v30 (F := Ideal) x0 x1 x6 x7) (I.yc) := by
  intro i j
  have q0 := s14 h0 h6
  have q1 := s29 h1 h7
  unfold val_main_v30
  generalize val_main_v14 (F := Ideal) x0 x6 = y0 at *
  generalize val_main_v29 (F := Ideal) x1 x7 = y1 at *
  pointwise []
  simp only [q0, q1, h0, h1, h6, h7, emul, eadd, esub, esum, emax, emax0, z32, neghalf, half, k2, k512, k1024, div512, div1024, eps_bits, Ideal.ofBits_def, rsq, hrq, zadd]
  unfold Inp.yc cat
  split_ifs <;> rfl

theorem s31 (h0 : Re x0 I.ya) (h1 : Re x1 I.yb) (h6 : Re x6 I.ga) (h7 : Re x7 I.gb) (h8 : Re x8 I.wo) : Re (val_main_v31 (F := Ideal) x0 x1 x6 x7 x8) (I.y2) := by
  intro i j
  have q0 := s30 h0 h1 h6 h7
  unfold val_main_v31
  generalize val_main_v30 (F := Ideal) x0 x1 x6 x7 = y0 at *
  pointwise []
  simp only [q0, h0, h1, h6, h7, h8, emul, eadd, esub, esum, emax, emax0, z32, neghalf, half, k2, k512, k1024, div512, div1024, eps_bits, Ideal.ofBits_def, rsq, hrq, zadd] <;> rfl

theorem s39 (h0 : Re x0 I.ya) (h1 : Re x1 I.yb) (h6 : Re x6 I.ga) (h7 : Re x7 I.gb) (h8 : Re x8 I.wo) : Re (val_main_v39 (F := Ideal) x0 x1 x6 x7 x8) (fun i _ => rs (I.y2 i)) := by
  intro i j
  have q0 := s31 h0 h1 h6 h7 h8
  unfold val_main_v39 val_main_v38 val_main_v36 val_main_v37 val_main_v34 val_main_v35 val_main_cst_9 val_main_v33 val_main_cst_8 val_main_v32 val_main_cst_7
  generalize val_main_v31 (F := Ideal) x0 x1 x6 x7 x8 = y0 at *
  pointwise []
  simp only [q0, h0, h1, h6, h7, h8, emul, eadd, esub, esum, emax, emax0, z32, neghalf, half, k2, k512, k1024, div512, div1024, eps_bits, Ideal.ofBits_def, rsq, hrq, zadd] <;> rfl

theorem s44 (h0 : Re x0 I.ya) (h1 : Re x1 I.yb) (h6 : Re x6 I.ga) (h7 : Re x7 I.gb) (h8 : Re x8 I.wo) : Re (val_main_v44 (F := Ideal) x0 x1 x6 x7 x8) (nr I.y2) := by
  intro i j
  have q0 := s31 h0 h1 h6 h7 h8
  have q1 := s39 h0 h1 h6 h7 h8
  unfold val_main_v44 val_main_v43
  generalize val_main_v31 (F := Ideal) x0 x1 x6 x7 x8 = y0 at *
  generalize val_main_v39 (F := Ideal) x0 x1 x6 x7 x8 = y1 at *
  pointwise []
  simp only [q0, q1, h0, h1, h6, h7, h8, emul, eadd, esub, esum, emax, emax0, z32, neghalf, half, k2, k512, k1024, div512, div1024, eps_bits, Ideal.ofBits_def, rsq, hrq, zadd] <;> rfl

theorem s42 (h0 : Re x0 I.ya) (h1 : Re x1 I.yb) (h6 : Re x6 I.ga) (h7 : Re x7 I.gb) (h8 : Re x8 I.wo) : Re (val_main_v42 (F := Ideal) x0 x1 x6 x7 x8) (fun i _ => hr (I.y2 i)) := by
  intro i j
  have q0 := s39 h0 h1 h6 h7 h8
  have q1 := s31 h0 h1 h6 h7 h8
  unfold val_main_v42 val_main_v41 val_main_v40 val_main_cst_10 val_main_v38 val_main_v36 val_main_v37 val_main_v34 val_main_v35 val_main_cst_9 val_main_v33 val_main_cst_8 val_main_v32 val_main_cst_7
  generalize val_main_v39 (F := Ideal) x0 x1 x6 x7 x8 = y0 at *
  generalize val_main_v31 (F := Ideal) x0 x1 x6 x7 x8 = y1 at *
  pointwise []
  simp only [q0, q1, h0, h1, h6, h7, h8, emul, eadd, esub, esum, emax, emax0, z32, neghalf, half, k2, k512, k1024, div512, div1024, eps_bits, Ideal.ofBits_def, rsq, hrq, zadd] <;> rfl

theorem s47 (h0 : Re x0 I.ya) (h1 : Re x1 I.yb) (h2 : Re x2 I.x) (h6 : Re x6 I.ga) (h7 : Re x7 I.gb) (h8 : Re x8 I.wo) (h9 : Re x9 I.gp) : Re (val_main_v47 (F := Ideal) x0 x1 x2 x6 x7 x8 x9) (I.h1) := by
  intro i j
  have q0 := s44 h0 h1 h6 h7 h8
  unfold val_main_v47 val_main_v46 val_main_v45
  generalize val_main_v44 (F := Ideal) x0 x1 x6 x7 x8 = y0 at *
  pointwise []
  simp only [q0, h0, h1, h2, h6, h7, h8, h9, emul, eadd, esub, esum, emax, emax0, z32, neghalf, half, k2, k512, k1024, div512, div1024, eps_bits, Ideal.ofBits_def, rsq, hrq, zadd] <;> rfl

theorem s55 (h0 : Re x0 I.ya) (h1 : Re x1 I.yb) (h2 : Re x2 I.x) (h6 : Re x6 I.ga) (h7 : Re x7 I.gb) (h8 : Re x8 I.wo) (h9 : Re x9 I.gp) : Re (val_main_v55 (F := Ideal) x0 x1 x2 x6 x7 x8 x9) (fun i _ => rs (I.h1 i)) := by
  intro i j
  have q0 := s47 h0 h1 h2 h6 h7 h8 h9
  unfold val_main_v55 val_main_v54 val_main_v52 val_main_v53 val_main_v50 val_main_v51 val_main_cst_13 val_main_v49 val_main_cst_12 val_main_v48 val_main_cst_11
  generalize val_main_v47 (F := Ideal) x0 x1 x2 x6 x7 x8 x9 = y0 at *
  pointwise []
  simp only [q0, h0, h1, h2, h6, h7, h8, h9, emul, eadd, esub, esum, emax, emax0, z32, neghalf, half, k2, k512, k1024, div512, div1024, eps_bits, Ideal.ofBits_def, rsq, hrq, zadd] <;> rfl

theorem s60 (h0 : Re x0 I.ya) (h1 : Re x1 I.yb) (h2 : Re x2 I.x) (h6 : Re x6 I.ga) (h7 : Re x7 I.gb) (h8 : Re x8 I.wo) (h9 : Re x9 I.gp) : Re (val_main_v60 (F := Ideal) x0 x1 x2 x6 x7 x8 x9) (nr I.h1) := by
  intro i j
  have q0 := s47 h0 h1 h2 h6 h7 h8 h9
  have q1 := s55 h0 h1 h2 h6 h7 h8 h9
  unfold val_main_v60 val_main_v59
  generalize val_main_v47 (F := Ideal) x0 x1 x2 x6 x7 x8 x9 = y0 at *
  generalize val_main_v55 (F := Ideal) x0 x1 x2 x6 x7 x8 x9 = y1 at *
  pointwise []
  simp only [q0, q1, h0, h1, h2, h6, h7, h8, h9, emul, eadd, esub, esum, emax, emax0, z32, neghalf, half, k2, k512, k1024, div512, div1024, eps_bits, Ideal.ofBits_def, rsq, hrq, zadd] <;> rfl

theorem s58 (h0 : Re x0 I.ya) (h1 : Re x1 I.yb) (h2 : Re x2 I.x) (h6 : Re x6 I.ga) (h7 : Re x7 I.gb) (h8 : Re x8 I.wo) (h9 : Re x9 I.gp) : Re (val_main_v58 (F := Ideal) x0 x1 x2 x6 x7 x8 x9) (fun i _ => hr (I.h1 i)) := by
  intro i j
  have q0 := s55 h0 h1 h2 h6 h7 h8 h9
  have q1 := s47 h0 h1 h2 h6 h7 h8 h9
  unfold val_main_v58 val_main_v57 val_main_v56 val_main_cst_14 val_main_v54 val_main_v52 val_main_v53 val_main_v50 val_main_v51 val_main_cst_13 val_main_v49 val_main_cst_12 val_main_v48 val_main_cst_11
  generalize val_main_v55 (F := Ideal) x0 x1 x2 x6 x7 x8 x9 = y0 at *
  generalize val_main_v47 (F := Ideal) x0 x1 x2 x6 x7 x8 x9 = y1 at *
  pointwise []
  simp only [q0, q1, h0, h1, h2, h6, h7, h8, h9, emul, eadd, esub, esum, emax, emax0, z32, neghalf, half, k2, k512, k1024, div512, div1024, eps_bits, Ideal.ofBits_def, rsq, hrq, zadd] <;> rfl

theorem s62 (h0 : Re x0 I.ya) (h1 : Re x1 I.yb) (h2 : Re x2 I.x) (h6 : Re x6 I.ga) (h7 : Re x7 I.gb) (h8 : Re x8 I.wo) (h9 : Re x9 I.gp) (h10 : Re x10 I.gm) : Re (val_main_v62 (F := Ideal) x0 x1 x2 x6 x7 x8 x9 x10) (I.xn2) := by
  intro i j
  have q0 := s60 h0 h1 h2 h6 h7 h8 h9
  unfold val_main_v62 val_main_v61
  generalize val_main_v60 (F := Ideal) x0 x1 x2 x6 x7 x8 x9 = y0 at *
  pointwise []
  simp only [q0, h0, h1, h2, h6, h7, h8, h9, h10, emul, eadd, esub, esum, emax, emax0, z32, neghalf, half, k2, k512, k1024, div512, div1024, eps_bits, Ideal.ofBits_def, rsq, hrq, zadd] <;> rfl

theorem s63 (h0 : Re x0 I.ya) (h1 : Re x1 I.yb) (h2 : Re x2 I.x) (h6 : Re x6 I.ga) (h7 : Re x7 I.gb) (h8 : Re x8 I.wo) (h9 : Re x9 I.gp) (h10 : Re x10 I.gm) (h11 : Re x11 I.w1) : Re (val_main_v63 (F := Ideal) x0 x1 x2 x6 x7 x8 x9 x10 x11) (I.u) := by
  intro i j
  have q0 := s62 h0 h1 h2 h6 h7 h8 h9 h10
  unfold val_main_v63
  generalize val_main_v62 (F := Ideal) x0 x1 x2 x6 x7 x8 x9 x10 = y0 at *
  pointwise []
  simp only [q0, h0, h1, h2, h6, h7, h8, h9, h10, h11, emul, eadd, esub, esum, emax, emax0, z32, neghalf, half, k2, k512, k1024, div512, div1024, eps_bits, Ideal.ofBits_def, rsq, hrq, zadd] <;> rfl

theorem s64 (h0 : Re x0 I.ya) (h1 : Re x1 I.yb) (h2 : Re x2 I.x) (h6 : Re x6 I.ga) (h7 : Re x7 I.gb) (h8 : Re x8 I.wo) (h9 : Re x9 I.gp) (h10 : Re x10 I.gm) (h11 : Re x11 I.w1) : Re (val_main_v64 (F := Ideal) x0 x1 x2 x6 x7 x8 x9 x10 x11) (fun i j => max (I.u i j) 0) := by
  intro i j
  have q0 := s63 h0 h1 h2 h6 h7 h8 h9 h10 h11
  unfold val_main_v64 val_main_call0_v0 val_main_call0_cst
  generalize val_main_v63 (F := Ideal) x0 x1 x2 x6 x7 x8 x9 x10 x11 = y0 at *
  pointwise []
  simp only [q0, h0, h1, h2, h6, h7, h8, h9, h10, h11, emul, eadd, esub, esum, emax, emax0, z32, neghalf, half, k2, k512, k1024, div512, div1024, eps_bits, Ideal.ofBits_def, rsq, hrq, zadd] <;> rfl

theorem s68 (h0 : Re x0 I.ya) (h1 : Re x1 I.yb) (h2 : Re x2 I.x) (h6 : Re x6 I.ga) (h7 : Re x7 I.gb) (h8 : Re x8 I.wo) (h9 : Re x9 I.gp) (h10 : Re x10 I.gm) (h11 : Re x11 I.w1) : Re (val_main_v68 (F := Ideal) x0 x1 x2 x6 x7 x8 x9 x10 x11) (rel2 I.u) := by
  intro i j
  have q0 := s64 h0 h1 h2 h6 h7 h8 h9 h10 h11
  unfold val_main_v68
  generalize val_main_v64 (F := Ideal) x0 x1 x2 x6 x7 x8 x9 x10 x11 = y0 at *
  pointwise []
  simp only [q0, h0, h1, h2, h6, h7, h8, h9, h10, h11, emul, eadd, esub, esum, emax, emax0, z32, neghalf, half, k2, k512, k1024, div512, div1024, eps_bits, Ideal.ofBits_def, rsq, hrq, zadd] <;> rfl

theorem s70 (h0 : Re x0 I.ya) (h1 : Re x1 I.yb) (h2 : Re x2 I.x) (h6 : Re x6 I.ga) (h7 : Re x7 I.gb) (h8 : Re x8 I.wo) (h9 : Re x9 I.gp) (h10 : Re x10 I.gm) (h11 : Re x11 I.w1) : Re (val_main_v70 (F := Ideal) x0 x1 x2 x6 x7 x8 x9 x10 x11) (fun i j => 2 * max (I.u i j) 0) := by
  intro i j
  have q0 := s64 h0 h1 h2 h6 h7 h8 h9 h10 h11
  unfold val_main_v70 val_main_v69 val_main_cst_17
  generalize val_main_v64 (F := Ideal) x0 x1 x2 x6 x7 x8 x9 x10 x11 = y0 at *
  pointwise []
  simp only [q0, h0, h1, h2, h6, h7, h8, h9, h10, h11, emul, eadd, esub, esum, emax, emax0, z32, neghalf, half, k2, k512, k1024, div512, div1024, eps_bits, Ideal.ofBits_def, rsq, hrq, zadd] <;> rfl

theorem s71 (h0 : Re x0 I.ya) (h1 : Re x1 I.yb) (h2 : Re x2 I.x) (h6 : Re x6 I.ga) (h7 : Re x7 I.gb) (h8 : Re x8 I.wo) (h9 : Re x9 I.gp) (h10 : Re x10 I.gm) (h11 : Re x11 I.w1) (h12 : Re x12 I.w2) : Re (val_main_v71 (F := Ideal) x0 x1 x2 x6 x7 x8 x9 x10 x11 x12) (I.f2) := by
  intro i j
  have q0 := s68 h0 h1 h2 h6 h7 h8 h9 h10 h11
  unfold val_main_v71
  generalize val_main_v68 (F := Ideal) x0 x1 x2 x6 x7 x8 x9 x10 x11 = y0 at *
  pointwise []
  simp only [q0, h0, h1, h2, h6, h7, h8, h9, h10, h11, h12, emul, eadd, esub, esum, emax, emax0, z32, neghalf, half, k2, k512, k1024, div512, div1024, eps_bits, Ideal.ofBits_def, rsq, hrq, zadd] <;> rfl

theorem s79 (h0 : Re x0 I.ya) (h1 : Re x1 I.yb) (h2 : Re x2 I.x) (h6 : Re x6 I.ga) (h7 : Re x7 I.gb) (h8 : Re x8 I.wo) (h9 : Re x9 I.gp) (h10 : Re x10 I.gm) (h11 : Re x11 I.w1) (h12 : Re x12 I.w2) : Re (val_main_v79 (F := Ideal) x0 x1 x2 x6 x7 x8 x9 x10 x11 x12) (fun i _ => rs (I.f2 i)) := by
  intro i j
  have q0 := s71 h0 h1 h2 h6 h7 h8 h9 h10 h11 h12
  unfold val_main_v79 val_main_v78 val_main_v76 val_main_v77 val_main_v74 val_main_v75 val_main_cst_20 val_main_v73 val_main_cst_19 val_main_v72 val_main_cst_18
  generalize val_main_v71 (F := Ideal) x0 x1 x2 x6 x7 x8 x9 x10 x11 x12 = y0 at *
  pointwise []
  simp only [q0, h0, h1, h2, h6, h7, h8, h9, h10, h11, h12, emul, eadd, esub, esum, emax, emax0, z32, neghalf, half, k2, k512, k1024, div512, div1024, eps_bits, Ideal.ofBits_def, rsq, hrq, zadd] <;> rfl

theorem s84 (h0 : Re x0 I.ya) (h1 : Re x1 I.yb) (h2 : Re x2 I.x) (h6 : Re x6 I.ga) (h7 : Re x7 I.gb) (h8 : Re x8 I.wo) (h9 : Re x9 I.gp) (h10 : Re x10 I.gm) (h11 : Re x11 I.w1) (h12 : Re x12 I.w2) : Re (val_main_v84 (F := Ideal) x0 x1 x2 x6 x7 x8 x9 x10 x11 x12) (nr I.f2) := by
  intro i j
  have q0 := s71 h0 h1 h2 h6 h7 h8 h9 h10 h11 h12
  have q1 := s79 h0 h1 h2 h6 h7 h8 h9 h10 h11 h12
  unfold val_main_v84 val_main_v83
  generalize val_main_v71 (F := Ideal) x0 x1 x2 x6 x7 x8 x9 x10 x11 x12 = y0 at *
  generalize val_main_v79 (F := Ideal) x0 x1 x2 x6 x7 x8 x9 x10 x11 x12 = y1 at *
  pointwise []
  simp only [q0, q1, h0, h1, h2, h6, h7, h8, h9, h10, h11, h12, emul, eadd, esub, esum, emax, emax0, z32, neghalf, half, k2, k512, k1024, div512, div1024, eps_bits, Ideal.ofBits_def, rsq, hrq, zadd] <;> rfl

theorem s82 (h0 : Re x0 I.ya) (h1 : Re x1 I.yb) (h2 : Re x2 I.x) (h6 : Re x6 I.ga) (h7 : Re x7 I.gb) (h8 : Re x8 I.wo) (h9 : Re x9 I.gp) (h10 : Re x10 I.gm) (h11 : Re x11 I.w1) (h12 : Re x12 I.w2) : Re (val_main_v82 (F := Ideal) x0 x1 x2 x6 x7 x8 x9 x10 x11 x12) (fun i _ => hr (I.f2 i)) := by
  intro i j
  have q0 := s79 h0 h1 h2 h6 h7 h8 h9 h10 h11 h12
  have q1 := s71 h0 h1 h2 h6 h7 h8 h9 h10 h11 h12
  unfold val_main_v82 val_main_v81 val_main_v80 val_main_cst_21 val_main_v78 val_main_v76 val_main_v77 val_main_v74 val_main_v75 val_main_cst_20 val_main_v73 val_main_cst_19 val_main_v72 val_main_cst_18
  generalize val_main_v79 (F := Ideal) x0 x1 x2 x6 x7 x8 x9 x10 x11 x12 = y0 at *
  generalize val_main_v71 (F := Ideal) x0 x1 x2 x6 x7 x8 x9 x10 x11 x12 = y1 at *
  pointwise []
  simp only [q0, q1, h0, h1, h2, h6, h7, h8, h9, h10, h11, h12, emul, eadd, esub, esum, emax, emax0, z32, neghalf, half, k2, k512, k1024, div512, div1024, eps_bits, Ideal.ofBits_def, rsq, hrq, zadd] <;> rfl

theorem s87 (h0 : Re x0 I.ya) (h1 : Re x1 I.yb) (h2 : Re x2 I.x) (h6 : Re x6 I.ga) (h7 : Re x7 I.gb) (h8 : Re x8 I.wo) (h9 : Re x9 I.gp) (h10 : Re x10 I.gm) (h11 : Re x11 I.w1) (h12 : Re x12 I.w2) (h13 : Re x13 I.gq) : Re (val_main_v87 (F := Ideal) x0 x1 x2 x6 x7 x8 x9 x10 x11 x12 x13) (I.h2) := by
  intro i j
  have q0 := s47 h0 h1 h2 h6 h7 h8 h9
  have q1 := s84 h0 h1 h2 h6 h7 h8 h9 h10 h11 h12
  unfold val_main_v87 val_main_v86 val_main_v85
  generalize val_main_v47 (F := Ideal) x0 x1 x2 x6 x7 x8 x9 = y0 at *
  generalize val_main_v84 (F := Ideal) x0 x1 x2 x6 x7 x8 x9 x10 x11 x12 = y1 at *
  pointwise []
  simp only [q0, q1, h0, h1, h2, h6, h7, h8, h9, h10, h11, h12, h13, emul, eadd, esub, esum, emax, emax0, z32, neghalf, half, k2, k512, k1024, div512, div1024, eps_bits, Ideal.ofBits_def, rsq, hrq, zadd] <;> rfl

theorem s95 (h0 : Re x0 I.ya) (h1 : Re x1 I.yb) (h2 : Re x2 I.x) (h6 : Re x6 I.ga) (h7 : Re x7 I.gb) (h8 : Re x8 I.wo) (h9 : Re x9 I.gp) (h10 : Re x10 I.gm) (h11 : Re x11 I.w1) (h12 : Re x12 I.w2) (h13 : Re x13 I.gq) : Re (val_main_v95 (F := Ideal) x0 x1 x2 x6 x7 x8 x9 x10 x11 x12 x13) (fun i _ => rs (I.h2 i)) := by
  intro i j
  have q0 := s87 h0 h1 h2 h6 h7 h8 h9 h10 h11 h12 h13
  unfold val_main_v95 val_main_v94 val_main_v92 val_main_v93 val_main_v90 val_main_v91 val_main_cst_24 val_main_v89 val_main_cst_23 val_main_v88 val_main_cst_22
  generalize val_main_v87 (F := Ideal) x0 x1 x2 x6 x7 x8 x9 x10 x11 x12 x13 = y0 at *
  pointwise []
  simp only [q0, h0, h1, h2, h6, h7, h8, h9, h10, h11, h12, h13, emul, eadd, esub, esum, emax, emax0, z32, neghalf, half, k2, k512, k1024, div512, div1024, eps_bits, Ideal.ofBits_def, rsq, hrq, zadd] <;> rfl

theorem s100 (h0 : Re x0 I.ya) (h1 : Re x1 I.yb) (h2 : Re x2 I.x) (h6 : Re x6 I.ga) (h7 : Re x7 I.gb) (h8 : Re x8 I.wo) (h9 : Re x9 I.gp) (h10 : Re x10 I.gm) (h11 : Re x11 I.w1) (h12 : Re x12 I.w2) (h13 : Re x13 I.gq) : Re (val_main_v100 (F := Ideal) x0 x1 x2 x6 x7 x8 x9 x10 x11 x12 x13) (nr I.h2) := by
  intro i j
  have q0 := s87 h0 h1 h2 h6 h7 h8 h9 h10 h11 h12 h13
  have q1 := s95 h0 h1 h2 h6 h7 h8 h9 h10 h11 h12 h13
  unfold val_main_v100 val_main_v99
  generalize val_main_v87 (F := Ideal) x0 x1 x2 x6 x7 x8 x9 x10 x11 x12 x13 = y0 at *
  generalize val_main_v95 (F := Ideal) x0 x1 x2 x6 x7 x8 x9 x10 x11 x12 x13 = y1 at *
  pointwise []
  simp only [q0, q1, h0, h1, h2, h6, h7, h8, h9, h10, h11, h12, h13, emul, eadd, esub, esum, emax, emax0, z32, neghalf, half, k2, k512, k1024, div512, div1024, eps_bits, Ideal.ofBits_def, rsq, hrq, zadd] <;> rfl

theorem s98 (h0 : Re x0 I.ya) (h1 : Re x1 I.yb) (h2 : Re x2 I.x) (h6 : Re x6 I.ga) (h7 : Re x7 I.gb) (h8 : Re x8 I.wo) (h9 : Re x9 I.gp) (h10 : Re x10 I.gm) (h11 : Re x11 I.w1) (h12 : Re x12 I.w2) (h13 : Re x13 I.gq) : Re (val_main_v98 (F := Ideal) x0 x1 x2 x6 x7 x8 x9 x10 x11 x12 x13) (fun i _ => hr (I.h2 i)) := by
  intro i j
  have q0 := s95 h0 h1 h2 h6 h7 h8 h9 h10 h11 h12 h13
  have q1 := s87 h0 h1 h2 h6 h7 h8 h9 h10 h11 h12 h13
  unfold val_main_v98 val_main_v97 val_main_v96 val_main_cst_25 val_main_v94 val_main_v92 val_main_v93 val_main_v90 val_main_v91 val_main_cst_24 val_main_v89 val_main_cst_23 val_main_v88 val_main_cst_22
  generalize val_main_v95 (F := Ideal) x0 x1 x2 x6 x7 x8 x9 x10 x11 x12 x13 = y0 at *
  generalize val_main_v87 (F := Ideal) x0 x1 x2 x6 x7 x8 x9 x10 x11 x12 x13 = y1 at *
  pointwise []
  simp only [q0, q1, h0, h1, h2, h6, h7, h8, h9, h10, h11, h12, h13, emul, eadd, esub, esum, emax, emax0, z32, neghalf, half, k2, k512, k1024, div512, div1024, eps_bits, Ideal.ofBits_def, rsq, hrq, zadd] <;> rfl

theorem s102 (h0 : Re x0 I.ya) (h1 : Re x1 I.yb) (h2 : Re x2 I.x) (h6 : Re x6 I.ga) (h7 : Re x7 I.gb) (h8 : Re x8 I.wo) (h9 : Re x9 I.gp) (h10 : Re x10 I.gm) (h11 : Re x11 I.w1) (h12 : Re x12 I.w2) (h13 : Re x13 I.gq) (h14 : Re x14 I.gl) : Re (val_main_v102 (F := Ideal) x0 x1 x2 x6 x7 x8 x9 x10 x11 x12 x13 x14) (I.xn3) := by
  intro i j
  have q0 := s100 h0 h1 h2 h6 h7 h8 h9 h10 h11 h12 h13
  unfold val_main_v102 val_main_v101
  generalize val_main_v100 (F := Ideal) x0 x1 x2 x6 x7 x8 x9 x10 x11 x12 x13 = y0 at *
  pointwise []
  simp only [q0, h0, h1, h2, h6, h7, h8, h9, h10, h11, h12, h13, h14, emul, eadd, esub, esum, emax, emax0, z32, neghalf, half, k2, k512, k1024, div512, div1024, eps_bits, Ideal.ofBits_def, rsq, hrq, zadd] <;> rfl

theorem s103 (h0 : Re x0 I.ya) (h1 : Re x1 I.yb) (h2 : Re x2 I.x) (h6 : Re x6 I.ga) (h7 : Re x7 I.gb) (h8 : Re x8 I.wo) (h9 : Re x9 I.gp) (h10 : Re x10 I.gm) (h11 : Re x11 I.w1) (h12 : Re x12 I.w2) (h13 : Re x13 I.gq) (h14 : Re x14 I.gl) (h15 : Re x15 I.wg) : Re (val_main_v103 (F := Ideal) x0 x1 x2 x6 x7 x8 x9 x10 x11 x12 x13 x14 x15) (mm I.xn3 I.wg) := by
  intro i j
  have q0 := s102 h0 h1 h2 h6 h7 h8 h9 h10 h11 h12 h13 h14
  unfold val_main_v103
  generalize val_main_v102 (F := Ideal) x0 x1 x2 x6 x7 x8 x9 x10 x11 x12 x13 x14 = y0 at *
  pointwise []
  simp only [q0, h0, h1, h2, h6, h7, h8, h9, h10, h11, h12, h13, h14, h15, emul, eadd, esub, esum, emax, emax0, z32, neghalf, half, k2, k512, k1024, div512, div1024, eps_bits, Ideal.ofBits_def, rsq, hrq, zadd] <;> rfl

theorem s109 (h0 : Re x0 I.ya) (h1 : Re x1 I.yb) (h2 : Re x2 I.x) (h6 : Re x6 I.ga) (h7 : Re x7 I.gb) (h8 : Re x8 I.wo) (h9 : Re x9 I.gp) (h10 : Re x10 I.gm) (h11 : Re x11 I.w1) (h12 : Re x12 I.w2) (h13 : Re x13 I.gq) (h14 : Re x14 I.gl) (h15 : Re x15 I.wg) : Re (val_main_v109 (F := Ideal) x0 x1 x2 x6 x7 x8 x9 x10 x11 x12 x13 x14 x15) (I.gate) := by
  intro i j
  have q0 := s103 h0 h1 h2 h6 h7 h8 h9 h10 h11 h12 h13 h14 h15
  unfold val_main_v109 val_main_v108 val_main_v107 val_main_cst_27 val_main_v106 val_main_v105 val_main_cst_26 val_main_v104
  generalize val_main_v103 (F := Ideal) x0 x1 x2 x6 x7 x8 x9 x10 x11 x12 x13 x14 x15 = y0 at *
  pointwise []
  simp only [q0, h0, h1, h2, h6, h7, h8, h9, h10, h11, h12, h13, h14, h15, emul, eadd, esub, esum, emax, emax0, z32, neghalf, half, k2, k512, k1024, div512, div1024, eps_bits, Ideal.ofBits_def, rsq, hrq, zadd]
  exact elog (mm I.xn3 I.wg i j)

theorem s113 (h3 : Re x3 I.p) (h16 : Re x16 I.wp) : Re (val_main_v113 (F := Ideal) x3 x16) (I.pp) := by
  intro i j
  unfold val_main_v113
  pointwise []
  simp only [h3, h16, emul, eadd, esub, esum, emax, emax0, z32, neghalf, half, k2, k512, k1024, div512, div1024, eps_bits, Ideal.ofBits_def, rsq, hrq, zadd] <;> rfl

theorem s116 (h0 : Re x0 I.ya) (h1 : Re x1 I.yb) (h2 : Re x2 I.x) (h3 : Re x3 I.p) (h4 : Re x4 I.tg) (h6 : Re x6 I.ga) (h7 : Re x7 I.gb) (h8 : Re x8 I.wo) (h9 : Re x9 I.gp) (h10 : Re x10 I.gm) (h11 : Re x11 I.w1) (h12 : Re x12 I.w2) (h13 : Re x13 I.gq) (h14 : Re x14 I.gl) (h15 : Re x15 I.wg) (h16 : Re x16 I.wp) : Re (val_main_v116 (F := Ideal) x0 x1 x2 x3 x4 x6 x7 x8 x9 x10 x11 x12 x13 x14 x15 x16) (I.er) := by
  intro i j
  have q0 := s87 h0 h1 h2 h6 h7 h8 h9 h10 h11 h12 h13
  have q1 := s109 h0 h1 h2 h6 h7 h8 h9 h10 h11 h12 h13 h14 h15
  have q2 := s113 h3 h16
  unfold val_main_v116 val_main_v115 val_main_v114
  generalize val_main_v87 (F := Ideal) x0 x1 x2 x6 x7 x8 x9 x10 x11 x12 x13 = y0 at *
  generalize val_main_v109 (F := Ideal) x0 x1 x2 x6 x7 x8 x9 x10 x11 x12 x13 x14 x15 = y1 at *
  generalize val_main_v113 (F := Ideal) x3 x16 = y2 at *
  pointwise []
  simp only [q0, q1, q2, h0, h1, h2, h3, h4, h6, h7, h8, h9, h10, h11, h12, h13, h14, h15, h16, emul, eadd, esub, esum, emax, emax0, z32, neghalf, half, k2, k512, k1024, div512, div1024, eps_bits, Ideal.ofBits_def, rsq, hrq, zadd] <;> rfl

theorem s125 (h0 : Re x0 I.ya) (h1 : Re x1 I.yb) (h2 : Re x2 I.x) (h3 : Re x3 I.p) (h4 : Re x4 I.tg) (h6 : Re x6 I.ga) (h7 : Re x7 I.gb) (h8 : Re x8 I.wo) (h9 : Re x9 I.gp) (h10 : Re x10 I.gm) (h11 : Re x11 I.w1) (h12 : Re x12 I.w2) (h13 : Re x13 I.gq) (h14 : Re x14 I.gl) (h15 : Re x15 I.wg) (h16 : Re x16 I.wp) : Re (val_main_v125 (F := Ideal) x0 x1 x2 x3 x4 x6 x7 x8 x9 x10 x11 x12 x13 x14 x15 x16) (I.loss) := by
  intro i j
  have q0 := s116 h0 h1 h2 h3 h4 h6 h7 h8 h9 h10 h11 h12 h13 h14 h15 h16
  unfold val_main_v125 val_main_v124 val_main_cst_33 val_main_v123 val_main_v122 val_main_cst_32 val_main_v120 val_main_v121 val_main_v117 val_main_cst_30 val_main_cst_31
  generalize val_main_v116 (F := Ideal) x0 x1 x2 x3 x4 x6 x7 x8 x9 x10 x11 x12 x13 x14 x15 x16 = y0 at *
  pointwise []
  simp only [q0, h0, h1, h2, h3, h4, h6, h7, h8, h9, h10, h11, h12, h13, h14, h15, h16, emul, eadd, esub, esum, emax, emax0, z32, neghalf, half, k2, k512, k1024, div512, div1024, eps_bits, Ideal.ofBits_def, rsq, hrq, zadd]
  exact congrArg Real.toEReal (loss_eq I.er)

theorem s131 (h0 : Re x0 I.ya) (h1 : Re x1 I.yb) (h2 : Re x2 I.x) (h3 : Re x3 I.p) (h4 : Re x4 I.tg) (h6 : Re x6 I.ga) (h7 : Re x7 I.gb) (h8 : Re x8 I.wo) (h9 : Re x9 I.gp) (h10 : Re x10 I.gm) (h11 : Re x11 I.w1) (h12 : Re x12 I.w2) (h13 : Re x13 I.gq) (h14 : Re x14 I.gl) (h15 : Re x15 I.wg) (h16 : Re x16 I.wp) : Re (val_main_v131 (F := Ideal) x0 x1 x2 x3 x4 x6 x7 x8 x9 x10 x11 x12 x13 x14 x15 x16) (I.dh3) := by
  intro i j
  have q0 := s116 h0 h1 h2 h3 h4 h6 h7 h8 h9 h10 h11 h12 h13 h14 h15 h16
  unfold val_main_v131 val_main_v130 val_main_v119 val_main_v129 val_main_v118 val_main_v127 val_main_v128 val_main_cst_29 val_main_v126 val_main_cst_36 val_main_cst_34 val_main_cst_35
  generalize val_main_v116 (F := Ideal) x0 x1 x2 x3 x4 x6 x7 x8 x9 x10 x11 x12 x13 x14 x15 x16 = y0 at *
  pointwise []
  simp only [q0, h0, h1, h2, h3, h4, h6, h7, h8, h9, h10, h11, h12, h13, h14, h15, h16, emul, eadd, esub, esum, emax, emax0, z32, neghalf, half, k2, k512, k1024, div512, div1024, eps_bits, Ideal.ofBits_def, rsq, hrq, zadd]
  exact congrArg Real.toEReal (by unfold Inp.dh3 scl; ring)

theorem s132 (h0 : Re x0 I.ya) (h1 : Re x1 I.yb) (h2 : Re x2 I.x) (h3 : Re x3 I.p) (h4 : Re x4 I.tg) (h6 : Re x6 I.ga) (h7 : Re x7 I.gb) (h8 : Re x8 I.wo) (h9 : Re x9 I.gp) (h10 : Re x10 I.gm) (h11 : Re x11 I.w1) (h12 : Re x12 I.w2) (h13 : Re x13 I.gq) (h14 : Re x14 I.gl) (h15 : Re x15 I.wg) (h16 : Re x16 I.wp) : Re (val_main_v132 (F := Ideal) x0 x1 x2 x3 x4 x6 x7 x8 x9 x10 x11 x12 x13 x14 x15 x16) (I.dpp) := by
  intro i j
  have q0 := s109 h0 h1 h2 h6 h7 h8 h9 h10 h11 h12 h13 h14 h15
  have q1 := s131 h0 h1 h2 h3 h4 h6 h7 h8 h9 h10 h11 h12 h13 h14 h15 h16
  unfold val_main_v132
  generalize val_main_v109 (F := Ideal) x0 x1 x2 x6 x7 x8 x9 x10 x11 x12 x13 x14 x15 = y0 at *
  generalize val_main_v131 (F := Ideal) x0 x1 x2 x3 x4 x6 x7 x8 x9 x10 x11 x12 x13 x14 x15 x16 = y1 at *
  pointwise []
  simp only [q0, q1, h0, h1, h2, h3, h4, h6, h7, h8, h9, h10, h11, h12, h13, h14, h15, h16, emul, eadd, esub, esum, emax, emax0, z32, neghalf, half, k2, k512, k1024, div512, div1024, eps_bits, Ideal.ofBits_def, rsq, hrq, zadd]
  exact congrArg Real.toEReal (mul_comm _ _)

theorem s136 (h0 : Re x0 I.ya) (h1 : Re x1 I.yb) (h2 : Re x2 I.x) (h3 : Re x3 I.p) (h4 : Re x4 I.tg) (h6 : Re x6 I.ga) (h7 : Re x7 I.gb) (h8 : Re x8 I.wo) (h9 : Re x9 I.gp) (h10 : Re x10 I.gm) (h11 : Re x11 I.w1) (h12 : Re x12 I.w2) (h13 : Re x13 I.gq) (h14 : Re x14 I.gl) (h15 : Re x15 I.wg) (h16 : Re x16 I.wp) : Re (val_main_v136 (F := Ideal) x0 x1 x2 x3 x4 x6 x7 x8 x9 x10 x11 x12 x13 x14 x15 x16) (I.dgt) := by
  intro i j
  have q0 := s131 h0 h1 h2 h3 h4 h6 h7 h8 h9 h10 h11 h12 h13 h14 h15 h16
  have q1 := s113 h3 h16
  have q2 := s109 h0 h1 h2 h6 h7 h8 h9 h10 h11 h12 h13 h14 h15
  unfold val_main_v136 val_main_v133 val_main_v112 val_main_v111 val_main_v110 val_main_cst_28
  generalize val_main_v131 (F := Ideal) x0 x1 x2 x3 x4 x6 x7 x8 x9 x10 x11 x12 x13 x14 x15 x16 = y0 at *
  generalize val_main_v113 (F := Ideal) x3 x16 = y1 at *
  generalize val_main_v109 (F := Ideal) x0 x1 x2 x6 x7 x8 x9 x10 x11 x12 x13 x14 x15 = y2 at *
  pointwise []
  simp only [q0, q1, q2, h0, h1, h2, h3, h4, h6, h7, h8, h9, h10, h11, h12, h13, h14, h15, h16, emul, eadd, esub, esum, emax, emax0, z32, neghalf, half, k2, k512, k1024, div512, div1024, eps_bits, Ideal.ofBits_def, rsq, hrq, zadd]
  exact congrArg Real.toEReal (by unfold Inp.dgt dlog; ring)

theorem s135 (h0 : Re x0 I.ya) (h1 : Re x1 I.yb) (h2 : Re x2 I.x) (h3 : Re x3 I.p) (h4 : Re x4 I.tg) (h6 : Re x6 I.ga) (h7 : Re x7 I.gb) (h8 : Re x8 I.wo) (h9 : Re x9 I.gp) (h10 : Re x10 I.gm) (h11 : Re x11 I.w1) (h12 : Re x12 I.w2) (h13 : Re x13 I.gq) (h14 : Re x14 I.gl) (h15 : Re x15 I.wg) (h16 : Re x16 I.wp) : Re (val_main_v135 (F := Ideal) x0 x1 x2 x3 x4 x6 x7 x8 x9 x10 x11 x12 x13 x14 x15 x16) (I.dwp) := by
  intro i j
  have q0 := s132 h0 h1 h2 h3 h4 h6 h7 h8 h9 h10 h11 h12 h13 h14 h15 h16
  unfold val_main_v135 val_main_v134
  generalize val_main_v132 (F := Ideal) x0 x1 x2 x3 x4 x6 x7 x8 x9 x10 x11 x12 x13 x14 x15 x16 = y0 at *
  pointwise []
  simp only [q0, h0, h1, h2, h3, h4, h6, h7, h8, h9, h10, h11, h12, h13, h14, h15, h16, emul, eadd, esub, esum, emax, emax0, z32, neghalf, half, k2, k512, k1024, div512, div1024, eps_bits, Ideal.ofBits_def, rsq, hrq, zadd]
  exact congrArg Real.toEReal (tn_comm I.p I.dpp i j)

theorem s138 (h0 : Re x0 I.ya) (h1 : Re x1 I.yb) (h2 : Re x2 I.x) (h3 : Re x3 I.p) (h4 : Re x4 I.tg) (h6 : Re x6 I.ga) (h7 : Re x7 I.gb) (h8 : Re x8 I.wo) (h9 : Re x9 I.gp) (h10 : Re x10 I.gm) (h11 : Re x11 I.w1) (h12 : Re x12 I.w2) (h13 : Re x13 I.gq) (h14 : Re x14 I.gl) (h15 : Re x15 I.wg) (h16 : Re x16 I.wp) : Re (val_main_v138 (F := Ideal) x0 x1 x2 x3 x4 x6 x7 x8 x9 x10 x11 x12 x13 x14 x15 x16) (I.dwg) := by
  intro i j
  have q0 := s136 h0 h1 h2 h3 h4 h6 h7 h8 h9 h10 h11 h12 h13 h14 h15 h16
  have q1 := s102 h0 h1 h2 h6 h7 h8 h9 h10 h11 h12 h13 h14
  unfold val_main_v138 val_main_v137
  generalize val_main_v136 (F := Ideal) x0 x1 x2 x3 x4 x6 x7 x8 x9 x10 x11 x12 x13 x14 x15 x16 = y0 at *
  generalize val_main_v102 (F := Ideal) x0 x1 x2 x6 x7 x8 x9 x10 x11 x12 x13 x14 = y1 at *
  pointwise []
  simp only [q0, q1, h0, h1, h2, h3, h4, h6, h7, h8, h9, h10, h11, h12, h13, h14, h15, h16, emul, eadd, esub, esum, emax, emax0, z32, neghalf, half, k2, k512, k1024, div512, div1024, eps_bits, Ideal.ofBits_def, rsq, hrq, zadd]
  exact congrArg Real.toEReal (tn_comm I.xn3 I.dgt i j)

theorem s139 (h0 : Re x0 I.ya) (h1 : Re x1 I.yb) (h2 : Re x2 I.x) (h3 : Re x3 I.p) (h4 : Re x4 I.tg) (h6 : Re x6 I.ga) (h7 : Re x7 I.gb) (h8 : Re x8 I.wo) (h9 : Re x9 I.gp) (h10 : Re x10 I.gm) (h11 : Re x11 I.w1) (h12 : Re x12 I.w2) (h13 : Re x13 I.gq) (h14 : Re x14 I.gl) (h15 : Re x15 I.wg) (h16 : Re x16 I.wp) : Re (val_main_v139 (F := Ideal) x0 x1 x2 x3 x4 x6 x7 x8 x9 x10 x11 x12 x13 x14 x15 x16) (I.dx3) := by
  intro i j
  have q0 := s136 h0 h1 h2 h3 h4 h6 h7 h8 h9 h10 h11 h12 h13 h14 h15 h16
  unfold val_main_v139
  generalize val_main_v136 (F := Ideal) x0 x1 x2 x3 x4 x6 x7 x8 x9 x10 x11 x12 x13 x14 x15 x16 = y0 at *
  pointwise []
  simp only [q0, h0, h1, h2, h3, h4, h6, h7, h8, h9, h10, h11, h12, h13, h14, h15, h16, emul, eadd, esub, esum, emax, emax0, z32, neghalf, half, k2, k512, k1024, div512, div1024, eps_bits, Ideal.ofBits_def, rsq, hrq, zadd] <;> rfl

theorem s142 (h0 : Re x0 I.ya) (h1 : Re x1 I.yb) (h2 : Re x2 I.x) (h3 : Re x3 I.p) (h4 : Re x4 I.tg) (h6 : Re x6 I.ga) (h7 : Re x7 I.gb) (h8 : Re x8 I.wo) (h9 : Re x9 I.gp) (h10 : Re x10 I.gm) (h11 : Re x11 I.w1) (h12 : Re x12 I.w2) (h13 : Re x13 I.gq) (h14 : Re x14 I.gl) (h15 : Re x15 I.wg) (h16 : Re x16 I.wp) : Re (val_main_v142 (F := Ideal) x0 x1 x2 x3 x4 x6 x7 x8 x9 x10 x11 x12 x13 x14 x15 x16) (I.dgl) := by
  intro i j
  have q0 := s100 h0 h1 h2 h6 h7 h8 h9 h10 h11 h12 h13
  have q1 := s139 h0 h1 h2 h3 h4 h6 h7 h8 h9 h10 h11 h12 h13 h14 h15 h16
  unfold val_main_v142 val_main_v141 val_main_v140 val_main_cst_37
  generalize val_main_v100 (F := Ideal) x0 x1 x2 x6 x7 x8 x9 x10 x11 x12 x13 = y0 at *
  generalize val_main_v139 (F := Ideal) x0 x1 x2 x3 x4 x6 x7 x8 x9 x10 x11 x12 x13 x14 x15 x16 = y1 at *
  pointwise []
  simp only [q0, q1, h0, h1, h2, h3, h4, h6, h7, h8, h9, h10, h11, h12, h13, h14, h15, h16, emul, eadd, esub, esum, emax, emax0, z32, neghalf, half, k2, k512, k1024, div512, div1024, eps_bits, Ideal.ofBits_def, rsq, hrq, zadd]
  exact congrArg Real.toEReal (nrg_comm I.dx3 I.h2 i j)

theorem s144 (h0 : Re x0 I.ya) (h1 : Re x1 I.yb) (h2 : Re x2 I.x) (h3 : Re x3 I.p) (h4 : Re x4 I.tg) (h6 : Re x6 I.ga) (h7 : Re x7 I.gb) (h8 : Re x8 I.wo) (h9 : Re x9 I.gp) (h10 : Re x10 I.gm) (h11 : Re x11 I.w1) (h12 : Re x12 I.w2) (h13 : Re x13 I.gq) (h14 : Re x14 I.gl) (h15 : Re x15 I.wg) (h16 : Re x16 I.wp) : Re (val_main_v144 (F := Ideal) x0 x1 x2 x3 x4 x6 x7 x8 x9 x10 x11 x12 x13 x14 x15 x16) (fun i j => I.dx3 i j * I.gl 0 j) := by
  intro i j
  have q0 := s139 h0 h1 h2 h3 h4 h6 h7 h8 h9 h10 h11 h12 h13 h14 h15 h16
  unfold val_main_v144 val_main_v143
  generalize val_main_v139 (F := Ideal) x0 x1 x2 x3 x4 x6 x7 x8 x9 x10 x11 x12 x13 x14 x15 x16 = y0 at *
  pointwise []
  simp only [q0, h0, h1, h2, h3, h4, h6, h7, h8, h9, h10, h11, h12, h13, h14, h15, h16, emul, eadd, esub, esum, emax, emax0, z32, neghalf, half, k2, k512, k1024, div512, div1024, eps_bits, Ideal.ofBits_def, rsq, hrq, zadd] <;> rfl

theorem s155 (h0 : Re x0 I.ya) (h1 : Re x1 I.yb) (h2 : Re x2 I.x) (h3 : Re x3 I.p) (h4 : Re x4 I.tg) (h6 : Re x6 I.ga) (h7 : Re x7 I.gb) (h8 : Re x8 I.wo) (h9 : Re x9 I.gp) (h10 : Re x10 I.gm) (h11 : Re x11 I.w1) (h12 : Re x12 I.w2) (h13 : Re x13 I.gq) (h14 : Re x14 I.gl) (h15 : Re x15 I.wg) (h16 : Re x16 I.wp) : Re (val_main_v155 (F := Ideal) x0 x1 x2 x3 x4 x6 x7 x8 x9 x10 x11 x12 x13 x14 x15 x16) (fun i _ => ge (I.dx3) I.h2 I.gl i) := by
  intro i j
  have q0 := s98 h0 h1 h2 h6 h7 h8 h9 h10 h11 h12 h13
  have q1 := s87 h0 h1 h2 h6 h7 h8 h9 h10 h11 h12 h13
  have q2 := s144 h0 h1 h2 h3 h4 h6 h7 h8 h9 h10 h11 h12 h13 h14 h15 h16
  unfold val_main_v155 val_main_v154 val_main_v153 val_main_cst_40 val_main_v151 val_main_v152 val_main_v147 val_main_cst_39 val_main_v146 val_main_v145 val_main_cst_38
  generalize val_main_v98 (F := Ideal) x0 x1 x2 x6 x7 x8 x9 x10 x11 x12 x13 = y0 at *
  generalize val_main_v87 (F := Ideal) x0 x1 x2 x6 x7 x8 x9 x10 x11 x12 x13 = y1 at *
  generalize val_main_v144 (F := Ideal) x0 x1 x2 x3 x4 x6 x7 x8 x9 x10 x11 x12 x13 x14 x15 x16 = y2 at *
  pointwise []
  simp only [q0, q1, q2, h0, h1, h2, h3, h4, h6, h7, h8, h9, h10, h11, h12, h13, h14, h15, h16, emul, eadd, esub, esum, emax, emax0, z32, neghalf, half, k2, k512, k1024, div512, div1024, eps_bits, Ideal.ofBits_def, rsq, hrq, zadd, Fin.sum_univ_one]
  rfl

theorem s159 (h0 : Re x0 I.ya) (h1 : Re x1 I.yb) (h2 : Re x2 I.x) (h3 : Re x3 I.p) (h4 : Re x4 I.tg) (h6 : Re x6 I.ga) (h7 : Re x7 I.gb) (h8 : Re x8 I.wo) (h9 : Re x9 I.gp) (h10 : Re x10 I.gm) (h11 : Re x11 I.w1) (h12 : Re x12 I.w2) (h13 : Re x13 I.gq) (h14 : Re x14 I.gl) (h15 : Re x15 I.wg) (h16 : Re x16 I.wp) : Re (val_main_v159 (F := Ideal) x0 x1 x2 x3 x4 x6 x7 x8 x9 x10 x11 x12 x13 x14 x15 x16) (I.dh2) := by
  intro i j
  have q0 := s155 h0 h1 h2 h3 h4 h6 h7 h8 h9 h10 h11 h12 h13 h14 h15 h16
  have q1 := s87 h0 h1 h2 h6 h7 h8 h9 h10 h11 h12 h13
  have q2 := s131 h0 h1 h2 h3 h4 h6 h7 h8 h9 h10 h11 h12 h13 h14 h15 h16
  have q3 := s144 h0 h1 h2 h3 h4 h6 h7 h8 h9 h10 h11 h12 h13 h14 h15 h16
  have q4 := s95 h0 h1 h2 h6 h7 h8 h9 h10 h11 h12 h13
  unfold val_main_v159 val_main_v157 val_main_v158 val_main_v150 val_main_v156 val_main_v149 val_main_v148
  generalize val_main_v155 (F := Ideal) x0 x1 x2 x3 x4 x6 x7 x8 x9 x10 x11 x12 x13 x14 x15 x16 = y0 at *
  generalize val_main_v87 (F := Ideal) x0 x1 x2 x6 x7 x8 x9 x10 x11 x12 x13 = y1 at *
  generalize val_main_v131 (F := Ideal) x0 x1 x2 x3 x4 x6 x7 x8 x9 x10 x11 x12 x13 x14 x15 x16 = y2 at *
  generalize val_main_v144 (F := Ideal) x0 x1 x2 x3 x4 x6 x7 x8 x9 x10 x11 x12 x13 x14 x15 x16 = y3 at *
  generalize val_main_v95 (F := Ideal) x0 x1 x2 x6 x7 x8 x9 x10 x11 x12 x13 = y4 at *
  pointwise []
  simp only [q0, q1, q2, q3, q4, h0, h1, h2, h3, h4, h6, h7, h8, h9, h10, h11, h12, h13, h14, h15, h16, emul, eadd, esub, esum, emax, emax0, z32, neghalf, half, k2, k512, k1024, div512, div1024, eps_bits, Ideal.ofBits_def, rsq, hrq, zadd]
  exact congrArg Real.toEReal (ngradp I.dh3 (I.dx3) I.h2 I.gl i j)

theorem s162 (h0 : Re x0 I.ya) (h1 : Re x1 I.yb) (h2 : Re x2 I.x) (h3 : Re x3 I.p) (h4 : Re x4 I.tg) (h6 : Re x6 I.ga) (h7 : Re x7 I.gb) (h8 : Re x8 I.wo) (h9 : Re x9 I.gp) (h10 : Re x10 I.gm) (h11 : Re x11 I.w1) (h12 : Re x12 I.w2) (h13 : Re x13 I.gq) (h14 : Re x14 I.gl) (h15 : Re x15 I.wg) (h16 : Re x16 I.wp) : Re (val_main_v162 (F := Ideal) x0 x1 x2 x3 x4 x6 x7 x8 x9 x10 x11 x12 x13 x14 x15 x16) (I.dgq) := by
  intro i j
  have q0 := s84 h0 h1 h2 h6 h7 h8 h9 h10 h11 h12
  have q1 := s159 h0 h1 h2 h3 h4 h6 h7 h8 h9 h10 h11 h12 h13 h14 h15 h16
  unfold val_main_v162 val_main_v161 val_main_v160 val_main_cst_41
  generalize val_main_v84 (F := Ideal) x0 x1 x2 x6 x7 x8 x9 x10 x11 x12 = y0 at *
  generalize val_main_v159 (F := Ideal) x0 x1 x2 x3 x4 x6 x7 x8 x9 x10 x11 x12 x13 x14 x15 x16 = y1 at *
  pointwise []
  simp only [q0, q1, h0, h1, h2, h3, h4, h6, h7, h8, h9, h10, h11, h12, h13, h14, h15, h16, emul, eadd, esub, esum, emax, emax0, z32, neghalf, half, k2, k512, k1024, div512, div1024, eps_bits, Ideal.ofBits_def, rsq, hrq, zadd]
  exact congrArg Real.toEReal (nrg_comm I.dh2 I.f2 i j)

theorem s164 (h0 : Re x0 I.ya) (h1 : Re x1 I.yb) (h2 : Re x2 I.x) (h3 : Re x3 I.p) (h4 : Re x4 I.tg) (h6 : Re x6 I.ga) (h7 : Re x7 I.gb) (h8 : Re x8 I.wo) (h9 : Re x9 I.gp) (h10 : Re x10 I.gm) (h11 : Re x11 I.w1) (h12 : Re x12 I.w2) (h13 : Re x13 I.gq) (h14 : Re x14 I.gl) (h15 : Re x15 I.wg) (h16 : Re x16 I.wp) : Re (val_main_v164 (F := Ideal) x0 x1 x2 x3 x4 x6 x7 x8 x9 x10 x11 x12 x13 x14 x15 x16) (fun i j => I.dh2 i j * I.gq 0 j) := by
  intro i j
  have q0 := s159 h0 h1 h2 h3 h4 h6 h7 h8 h9 h10 h11 h12 h13 h14 h15 h16
  unfold val_main_v164 val_main_v163
  generalize val_main_v159 (F := Ideal) x0 x1 x2 x3 x4 x6 x7 x8 x9 x10 x11 x12 x13 x14 x15 x16 = y0 at *
  pointwise []
  simp only [q0, h0, h1, h2, h3, h4, h6, h7, h8, h9, h10, h11, h12, h13, h14, h15, h16, emul, eadd, esub, esum, emax, emax0, z32, neghalf, half, k2, k512, k1024, div512, div1024, eps_bits, Ideal.ofBits_def, rsq, hrq, zadd] <;> rfl

theorem s174 (h0 : Re x0 I.ya) (h1 : Re x1 I.yb) (h2 : Re x2 I.x) (h3 : Re x3 I.p) (h4 : Re x4 I.tg) (h6 : Re x6 I.ga) (h7 : Re x7 I.gb) (h8 : Re x8 I.wo) (h9 : Re x9 I.gp) (h10 : Re x10 I.gm) (h11 : Re x11 I.w1) (h12 : Re x12 I.w2) (h13 : Re x13 I.gq) (h14 : Re x14 I.gl) (h15 : Re x15 I.wg) (h16 : Re x16 I.wp) : Re (val_main_v174 (F := Ideal) x0 x1 x2 x3 x4 x6 x7 x8 x9 x10 x11 x12 x13 x14 x15 x16) (fun i _ => ge (I.dh2) I.f2 I.gq i) := by
  intro i j
  have q0 := s82 h0 h1 h2 h6 h7 h8 h9 h10 h11 h12
  have q1 := s71 h0 h1 h2 h6 h7 h8 h9 h10 h11 h12
  have q2 := s164 h0 h1 h2 h3 h4 h6 h7 h8 h9 h10 h11 h12 h13 h14 h15 h16
  unfold val_main_v174 val_main_v173 val_main_v172 val_main_cst_44 val_main_v170 val_main_v171 val_main_v167 val_main_cst_43 val_main_v166 val_main_v165 val_main_cst_42
  generalize val_main_v82 (F := Ideal) x0 x1 x2 x6 x7 x8 x9 x10 x11 x12 = y0 at *
  generalize val_main_v71 (F := Ideal) x0 x1 x2 x6 x7 x8 x9 x10 x11 x12 = y1 at *
  generalize val_main_v164 (F := Ideal) x0 x1 x2 x3 x4 x6 x7 x8 x9 x10 x11 x12 x13 x14 x15 x16 = y2 at *
  pointwise []
  simp only [q0, q1, q2, h0, h1, h2, h3, h4, h6, h7, h8, h9, h10, h11, h12, h13, h14, h15, h16, emul, eadd, esub, esum, emax, emax0, z32, neghalf, half, k2, k512, k1024, div512, div1024, eps_bits, Ideal.ofBits_def, rsq, hrq, zadd, Fin.sum_univ_one]
  rfl

theorem s178 (h0 : Re x0 I.ya) (h1 : Re x1 I.yb) (h2 : Re x2 I.x) (h3 : Re x3 I.p) (h4 : Re x4 I.tg) (h6 : Re x6 I.ga) (h7 : Re x7 I.gb) (h8 : Re x8 I.wo) (h9 : Re x9 I.gp) (h10 : Re x10 I.gm) (h11 : Re x11 I.w1) (h12 : Re x12 I.w2) (h13 : Re x13 I.gq) (h14 : Re x14 I.gl) (h15 : Re x15 I.wg) (h16 : Re x16 I.wp) : Re (val_main_v178 (F := Ideal) x0 x1 x2 x3 x4 x6 x7 x8 x9 x10 x11 x12 x13 x14 x15 x16) (I.df2) := by
  intro i j
  have q0 := s174 h0 h1 h2 h3 h4 h6 h7 h8 h9 h10 h11 h12 h13 h14 h15 h16
  have q1 := s71 h0 h1 h2 h6 h7 h8 h9 h10 h11 h12
  have q2 := s164 h0 h1 h2 h3 h4 h6 h7 h8 h9 h10 h11 h12 h13 h14 h15 h16
  have q3 := s79 h0 h1 h2 h6 h7 h8 h9 h10 h11 h12
  unfold val_main_v178 val_main_v176 val_main_v177 val_main_v169 val_main_v175 val_main_v168
  generalize val_main_v174 (F := Ideal) x0 x1 x2 x3 x4 x6 x7 x8 x9 x10 x11 x12 x13 x14 x15 x16 = y0 at *
  generalize val_main_v71 (F := Ideal) x0 x1 x2 x6 x7 x8 x9 x10 x11 x12 = y1 at *
  generalize val_main_v164 (F := Ideal) x0 x1 x2 x3 x4 x6 x7 x8 x9 x10 x11 x12 x13 x14 x15 x16 = y2 at *
  generalize val_main_v79 (F := Ideal) x0 x1 x2 x6 x7 x8 x9 x10 x11 x12 = y3 at *
  pointwise []
  simp only [q0, q1, q2, q3, h0, h1, h2, h3, h4, h6, h7, h8, h9, h10, h11, h12, h13, h14, h15, h16, emul, eadd, esub, esum, emax, emax0, z32, neghalf, half, k2, k512, k1024, div512, div1024, eps_bits, Ideal.ofBits_def, rsq, hrq, zadd]
  exact congrArg Real.toEReal (ngrad (I.dh2) I.f2 I.gq i j)

theorem s180 (h0 : Re x0 I.ya) (h1 : Re x1 I.yb) (h2 : Re x2 I.x) (h3 : Re x3 I.p) (h4 : Re x4 I.tg) (h6 : Re x6 I.ga) (h7 : Re x7 I.gb) (h8 : Re x8 I.wo) (h9 : Re x9 I.gp) (h10 : Re x10 I.gm) (h11 : Re x11 I.w1) (h12 : Re x12 I.w2) (h13 : Re x13 I.gq) (h14 : Re x14 I.gl) (h15 : Re x15 I.wg) (h16 : Re x16 I.wp) : Re (val_main_v180 (F := Ideal) x0 x1 x2 x3 x4 x6 x7 x8 x9 x10 x11 x12 x13 x14 x15 x16) (I.dw2) := by
  intro i j
  have q0 := s178 h0 h1 h2 h3 h4 h6 h7 h8 h9 h10 h11 h12 h13 h14 h15 h16
  have q1 := s68 h0 h1 h2 h6 h7 h8 h9 h10 h11
  unfold val_main_v180 val_main_v179
  generalize val_main_v178 (F := Ideal) x0 x1 x2 x3 x4 x6 x7 x8 x9 x10 x11 x12 x13 x14 x15 x16 = y0 at *
  generalize val_main_v68 (F := Ideal) x0 x1 x2 x6 x7 x8 x9 x10 x11 = y1 at *
  pointwise []
  simp only [q0, q1, h0, h1, h2, h3, h4, h6, h7, h8, h9, h10, h11, h12, h13, h14, h15, h16, emul, eadd, esub, esum, emax, emax0, z32, neghalf, half, k2, k512, k1024, div512, div1024, eps_bits, Ideal.ofBits_def, rsq, hrq, zadd]
  exact congrArg Real.toEReal (tn_comm (rel2 I.u) I.df2 i j)

theorem s181 (h0 : Re x0 I.ya) (h1 : Re x1 I.yb) (h2 : Re x2 I.x) (h3 : Re x3 I.p) (h4 : Re x4 I.tg) (h6 : Re x6 I.ga) (h7 : Re x7 I.gb) (h8 : Re x8 I.wo) (h9 : Re x9 I.gp) (h10 : Re x10 I.gm) (h11 : Re x11 I.w1) (h12 : Re x12 I.w2) (h13 : Re x13 I.gq) (h14 : Re x14 I.gl) (h15 : Re x15 I.wg) (h16 : Re x16 I.wp) : Re (val_main_v181 (F := Ideal) x0 x1 x2 x3 x4 x6 x7 x8 x9 x10 x11 x12 x13 x14 x15 x16) (nt I.df2 I.w2) := by
  intro i j
  have q0 := s178 h0 h1 h2 h3 h4 h6 h7 h8 h9 h10 h11 h12 h13 h14 h15 h16
  unfold val_main_v181
  generalize val_main_v178 (F := Ideal) x0 x1 x2 x3 x4 x6 x7 x8 x9 x10 x11 x12 x13 x14 x15 x16 = y0 at *
  pointwise []
  simp only [q0, h0, h1, h2, h3, h4, h6, h7, h8, h9, h10, h11, h12, h13, h14, h15, h16, emul, eadd, esub, esum, emax, emax0, z32, neghalf, half, k2, k512, k1024, div512, div1024, eps_bits, Ideal.ofBits_def, rsq, hrq, zadd] <;> rfl

theorem s184 (h0 : Re x0 I.ya) (h1 : Re x1 I.yb) (h2 : Re x2 I.x) (h3 : Re x3 I.p) (h4 : Re x4 I.tg) (h6 : Re x6 I.ga) (h7 : Re x7 I.gb) (h8 : Re x8 I.wo) (h9 : Re x9 I.gp) (h10 : Re x10 I.gm) (h11 : Re x11 I.w1) (h12 : Re x12 I.w2) (h13 : Re x13 I.gq) (h14 : Re x14 I.gl) (h15 : Re x15 I.wg) (h16 : Re x16 I.wp) : Re (val_main_v184 (F := Ideal) x0 x1 x2 x3 x4 x6 x7 x8 x9 x10 x11 x12 x13 x14 x15 x16) (I.du) := by
  intro i j
  have q0 := s63 h0 h1 h2 h6 h7 h8 h9 h10 h11
  have q1 := s181 h0 h1 h2 h3 h4 h6 h7 h8 h9 h10 h11 h12 h13 h14 h15 h16
  have q2 := s70 h0 h1 h2 h6 h7 h8 h9 h10 h11
  unfold val_main_v184 val_main_v66 val_main_v182 val_main_v183 val_main_v65 val_main_cst_45 val_main_cst_15
  generalize val_main_v63 (F := Ideal) x0 x1 x2 x6 x7 x8 x9 x10 x11 = y0 at *
  generalize val_main_v181 (F := Ideal) x0 x1 x2 x3 x4 x6 x7 x8 x9 x10 x11 x12 x13 x14 x15 x16 = y1 at *
  generalize val_main_v70 (F := Ideal) x0 x1 x2 x6 x7 x8 x9 x10 x11 = y2 at *
  pointwise []
  simp only [q0, q1, q2, h0, h1, h2, h3, h4, h6, h7, h8, h9, h10, h11, h12, h13, h14, h15, h16, emul, eadd, esub, esum, emax, emax0, z32, neghalf, half, k2, k512, k1024, div512, div1024, eps_bits, Ideal.ofBits_def, rsq, hrq, zadd]
  exact sel_eq (nt I.df2 I.w2 i j) (I.u i j)

theorem s186 (h0 : Re x0 I.ya) (h1 : Re x1 I.yb) (h2 : Re x2 I.x) (h3 : Re x3 I.p) (h4 : Re x4 I.tg) (h6 : Re x6 I.ga) (h7 : Re x7 I.gb) (h8 : Re x8 I.wo) (h9 : Re x9 I.gp) (h10 : Re x10 I.gm) (h11 : Re x11 I.w1) (h12 : Re x12 I.w2) (h13 : Re x13 I.gq) (h14 : Re x14 I.gl) (h15 : Re x15 I.wg) (h16 : Re x16 I.wp) : Re (val_main_v186 (F := Ideal) x0 x1 x2 x3 x4 x6 x7 x8 x9 x10 x11 x12 x13 x14 x15 x16) (I.dw1) := by
  intro i j
  have q0 := s184 h0 h1 h2 h3 h4 h6 h7 h8 h9 h10 h11 h12 h13 h14 h15 h16
  have q1 := s62 h0 h1 h2 h6 h7 h8 h9 h10
  unfold val_main_v186 val_main_v185
  generalize val_main_v184 (F := Ideal) x0 x1 x2 x3 x4 x6 x7 x8 x9 x10 x11 x12 x13 x14 x15 x16 = y0 at *
  generalize val_main_v62 (F := Ideal) x0 x1 x2 x6 x7 x8 x9 x10 = y1 at *
  pointwise []
  simp only [q0, q1, h0, h1, h2, h3, h4, h6, h7, h8, h9, h10, h11, h12, h13, h14, h15, h16, emul, eadd, esub, esum, emax, emax0, z32, neghalf, half, k2, k512, k1024, div512, div1024, eps_bits, Ideal.ofBits_def, rsq, hrq, zadd]
  exact congrArg Real.toEReal (tn_comm I.xn2 I.du i j)

theorem s187 (h0 : Re x0 I.ya) (h1 : Re x1 I.yb) (h2 : Re x2 I.x) (h3 : Re x3 I.p) (h4 : Re x4 I.tg) (h6 : Re x6 I.ga) (h7 : Re x7 I.gb) (h8 : Re x8 I.wo) (h9 : Re x9 I.gp) (h10 : Re x10 I.gm) (h11 : Re x11 I.w1) (h12 : Re x12 I.w2) (h13 : Re x13 I.gq) (h14 : Re x14 I.gl) (h15 : Re x15 I.wg) (h16 : Re x16 I.wp) : Re (val_main_v187 (F := Ideal) x0 x1 x2 x3 x4 x6 x7 x8 x9 x10 x11 x12 x13 x14 x15 x16) (I.dx2) := by
  intro i j
  have q0 := s184 h0 h1 h2 h3 h4 h6 h7 h8 h9 h10 h11 h12 h13 h14 h15 h16
  unfold val_main_v187
  generalize val_main_v184 (F := Ideal) x0 x1 x2 x3 x4 x6 x7 x8 x9 x10 x11 x12 x13 x14 x15 x16 = y0 at *
  pointwise []
  simp only [q0, h0, h1, h2, h3, h4, h6, h7, h8, h9, h10, h11, h12, h13, h14, h15, h16, emul, eadd, esub, esum, emax, emax0, z32, neghalf, half, k2, k512, k1024, div512, div1024, eps_bits, Ideal.ofBits_def, rsq, hrq, zadd] <;> rfl

theorem s190 (h0 : Re x0 I.ya) (h1 : Re x1 I.yb) (h2 : Re x2 I.x) (h3 : Re x3 I.p) (h4 : Re x4 I.tg) (h6 : Re x6 I.ga) (h7 : Re x7 I.gb) (h8 : Re x8 I.wo) (h9 : Re x9 I.gp) (h10 : Re x10 I.gm) (h11 : Re x11 I.w1) (h12 : Re x12 I.w2) (h13 : Re x13 I.gq) (h14 : Re x14 I.gl) (h15 : Re x15 I.wg) (h16 : Re x16 I.wp) : Re (val_main_v190 (F := Ideal) x0 x1 x2 x3 x4 x6 x7 x8 x9 x10 x11 x12 x13 x14 x15 x16) (I.dgm) := by
  intro i j
  have q0 := s60 h0 h1 h2 h6 h7 h8 h9
  have q1 := s187 h0 h1 h2 h3 h4 h6 h7 h8 h9 h10 h11 h12 h13 h14 h15 h16
  unfold val_main_v190 val_main_v189 val_main_v188 val_main_cst_46
  generalize val_main_v60 (F := Ideal) x0 x1 x2 x6 x7 x8 x9 = y0 at *
  generalize val_main_v187 (F := Ideal) x0 x1 x2 x3 x4 x6 x7 x8 x9 x10 x11 x12 x13 x14 x15 x16 = y1 at *
  pointwise []
  simp only [q0, q1, h0, h1, h2, h3, h4, h6, h7, h8, h9, h10, h11, h12, h13, h14, h15, h16, emul, eadd, esub, esum, emax, emax0, z32, neghalf, half, k2, k512, k1024, div512, div1024, eps_bits, Ideal.ofBits_def, rsq, hrq, zadd]
  exact congrArg Real.toEReal (nrg_comm I.dx2 I.h1 i j)

theorem s192 (h0 : Re x0 I.ya) (h1 : Re x1 I.yb) (h2 : Re x2 I.x) (h3 : Re x3 I.p) (h4 : Re x4 I.tg) (h6 : Re x6 I.ga) (h7 : Re x7 I.gb) (h8 : Re x8 I.wo) (h9 : Re x9 I.gp) (h10 : Re x10 I.gm) (h11 : Re x11 I.w1) (h12 : Re x12 I.w2) (h13 : Re x13 I.gq) (h14 : Re x14 I.gl) (h15 : Re x15 I.wg) (h16 : Re x16 I.wp) : Re (val_main_v192 (F := Ideal) x0 x1 x2 x3 x4 x6 x7 x8 x9 x10 x11 x12 x13 x14 x15 x16) (fun i j => I.dx2 i j * I.gm 0 j) := by
  intro i j
  have q0 := s187 h0 h1 h2 h3 h4 h6 h7 h8 h9 h10 h11 h12 h13 h14 h15 h16
  unfold val_main_v192 val_main_v191
  generalize val_main_v187 (F := Ideal) x0 x1 x2 x3 x4 x6 x7 x8 x9 x10 x11 x12 x13 x14 x15 x16 = y0 at *
  pointwise []
  simp only [q0, h0, h1, h2, h3, h4, h6, h7, h8, h9, h10, h11, h12, h13, h14, h15, h16, emul, eadd, esub, esum, emax, emax0, z32, neghalf, half, k2, k512, k1024, div512, div1024, eps_bits, Ideal.ofBits_def, rsq, hrq, zadd] <;> rfl

theorem s203 (h0 : Re x0 I.ya) (h1 : Re x1 I.yb) (h2 : Re x2 I.x) (h3 : Re x3 I.p) (h4 : Re x4 I.tg) (h6 : Re x6 I.ga) (h7 : Re x7 I.gb) (h8 : Re x8 I.wo) (h9 : Re x9 I.gp) (h10 : Re x10 I.gm) (h11 : Re x11 I.w1) (h12 : Re x12 I.w2) (h13 : Re x13 I.gq) (h14 : Re x14 I.gl) (h15 : Re x15 I.wg) (h16 : Re x16 I.wp) : Re (val_main_v203 (F := Ideal) x0 x1 x2 x3 x4 x6 x7 x8 x9 x10 x11 x12 x13 x14 x15 x16) (fun i _ => ge (I.dx2) I.h1 I.gm i) := by
  intro i j
  have q0 := s58 h0 h1 h2 h6 h7 h8 h9
  have q1 := s47 h0 h1 h2 h6 h7 h8 h9
  have q2 := s192 h0 h1 h2 h3 h4 h6 h7 h8 h9 h10 h11 h12 h13 h14 h15 h16
  unfold val_main_v203 val_main_v202 val_main_v201 val_main_cst_49 val_main_v199 val_main_v200 val_main_v195 val_main_cst_48 val_main_v194 val_main_v193 val_main_cst_47
  generalize val_main_v58 (F := Ideal) x0 x1 x2 x6 x7 x8 x9 = y0 at *
  generalize val_main_v47 (F := Ideal) x0 x1 x2 x6 x7 x8 x9 = y1 at *
  generalize val_main_v192 (F := Ideal) x0 x1 x2 x3 x4 x6 x7 x8 x9 x10 x11 x12 x13 x14 x15 x16 = y2 at *
  pointwise []
  simp only [q0, q1, q2, h0, h1, h2, h3, h4, h6, h7, h8, h9, h10, h11, h12, h13, h14, h15, h16, emul, eadd, esub, esum, emax, emax0, z32, neghalf, half, k2, k512, k1024, div512, div1024, eps_bits, Ideal.ofBits_def, rsq, hrq, zadd, Fin.sum_univ_one]
  rfl

theorem s207 (h0 : Re x0 I.ya) (h1 : Re x1 I.yb) (h2 : Re x2 I.x) (h3 : Re x3 I.p) (h4 : Re x4 I.tg) (h6 : Re x6 I.ga) (h7 : Re x7 I.gb) (h8 : Re x8 I.wo) (h9 : Re x9 I.gp) (h10 : Re x10 I.gm) (h11 : Re x11 I.w1) (h12 : Re x12 I.w2) (h13 : Re x13 I.gq) (h14 : Re x14 I.gl) (h15 : Re x15 I.wg) (h16 : Re x16 I.wp) : Re (val_main_v207 (F := Ideal) x0 x1 x2 x3 x4 x6 x7 x8 x9 x10 x11 x12 x13 x14 x15 x16) (I.dh1) := by
  intro i j
  have q0 := s203 h0 h1 h2 h3 h4 h6 h7 h8 h9 h10 h11 h12 h13 h14 h15 h16
  have q1 := s47 h0 h1 h2 h6 h7 h8 h9
  have q2 := s159 h0 h1 h2 h3 h4 h6 h7 h8 h9 h10 h11 h12 h13 h14 h15 h16
  have q3 := s192 h0 h1 h2 h3 h4 h6 h7 h8 h9 h10 h11 h12 h13 h14 h15 h16
  have q4 := s55 h0 h1 h2 h6 h7 h8 h9
  unfold val_main_v207 val_main_v205 val_main_v206 val_main_v198 val_main_v204 val_main_v197 val_main_v196
  generalize val_main_v203 (F := Ideal) x0 x1 x2 x3 x4 x6 x7 x8 x9 x10 x11 x12 x13 x14 x15 x16 = y0 at *
  generalize val_main_v47 (F := Ideal) x0 x1 x2 x6 x7 x8 x9 = y1 at *
  generalize val_main_v159 (F := Ideal) x0 x1 x2 x3 x4 x6 x7 x8 x9 x10 x11 x12 x13 x14 x15 x16 = y2 at *
  generalize val_main_v192 (F := Ideal) x0 x1 x2 x3 x4 x6 x7 x8 x9 x10 x11 x12 x13 x14 x15 x16 = y3 at *
  generalize val_main_v55 (F := Ideal) x0 x1 x2 x6 x7 x8 x9 = y4 at *
  pointwise []
  simp only [q0, q1, q2, q3, q4, h0, h1, h2, h3, h4, h6, h7, h8, h9, h10, h11, h12, h13, h14, h15, h16, emul, eadd, esub, esum, emax, emax0, z32, neghalf, half, k2, k512, k1024, div512, div1024, eps_bits, Ideal.ofBits_def, rsq, hrq, zadd]
  exact congrArg Real.toEReal (ngradp I.dh2 (I.dx2) I.h1 I.gm i j)

theorem s210 (h0 : Re x0 I.ya) (h1 : Re x1 I.yb) (h2 : Re x2 I.x) (h3 : Re x3 I.p) (h4 : Re x4 I.tg) (h6 : Re x6 I.ga) (h7 : Re x7 I.gb) (h8 : Re x8 I.wo) (h9 : Re x9 I.gp) (h10 : Re x10 I.gm) (h11 : Re x11 I.w1) (h12 : Re x12 I.w2) (h13 : Re x13 I.gq) (h14 : Re x14 I.gl) (h15 : Re x15 I.wg) (h16 : Re x16 I.wp) : Re (val_main_v210 (F := Ideal) x0 x1 x2 x3 x4 x6 x7 x8 x9 x10 x11 x12 x13 x14 x15 x16) (I.dgp) := by
  intro i j
  have q0 := s44 h0 h1 h6 h7 h8
  have q1 := s207 h0 h1 h2 h3 h4 h6 h7 h8 h9 h10 h11 h12 h13 h14 h15 h16
  unfold val_main_v210 val_main_v209 val_main_v208 val_main_cst_50
  generalize val_main_v44 (F := Ideal) x0 x1 x6 x7 x8 = y0 at *
  generalize val_main_v207 (F := Ideal) x0 x1 x2 x3 x4 x6 x7 x8 x9 x10 x11 x12 x13 x14 x15 x16 = y1 at *
  pointwise []
  simp only [q0, q1, h0, h1, h2, h3, h4, h6, h7, h8, h9, h10, h11, h12, h13, h14, h15, h16, emul, eadd, esub, esum, emax, emax0, z32, neghalf, half, k2, k512, k1024, div512, div1024, eps_bits, Ideal.ofBits_def, rsq, hrq, zadd]
  exact congrArg Real.toEReal (nrg_comm I.dh1 I.y2 i j)

theorem s212 (h0 : Re x0 I.ya) (h1 : Re x1 I.yb) (h2 : Re x2 I.x) (h3 : Re x3 I.p) (h4 : Re x4 I.tg) (h6 : Re x6 I.ga) (h7 : Re x7 I.gb) (h8 : Re x8 I.wo) (h9 : Re x9 I.gp) (h10 : Re x10 I.gm) (h11 : Re x11 I.w1) (h12 : Re x12 I.w2) (h13 : Re x13 I.gq) (h14 : Re x14 I.gl) (h15 : Re x15 I.wg) (h16 : Re x16 I.wp) : Re (val_main_v212 (F := Ideal) x0 x1 x2 x3 x4 x6 x7 x8 x9 x10 x11 x12 x13 x14 x15 x16) (fun i j => I.dh1 i j * I.gp 0 j) := by
  intro i j
  have q0 := s207 h0 h1 h2 h3 h4 h6 h7 h8 h9 h10 h11 h12 h13 h14 h15 h16
  unfold val_main_v212 val_main_v211
  generalize val_main_v207 (F := Ideal) x0 x1 x2 x3 x4 x6 x7 x8 x9 x10 x11 x12 x13 x14 x15 x16 = y0 at *
  pointwise []
  simp only [q0, h0, h1, h2, h3, h4, h6, h7, h8, h9, h10, h11, h12, h13, h14, h15, h16, emul, eadd, esub, esum, emax, emax0, z32, neghalf, half, k2, k512, k1024, div512, div1024, eps_bits, Ideal.ofBits_def, rsq, hrq, zadd] <;> rfl

theorem s222 (h0 : Re x0 I.ya) (h1 : Re x1 I.yb) (h2 : Re x2 I.x) (h3 : Re x3 I.p) (h4 : Re x4 I.tg) (h6 : Re x6 I.ga) (h7 : Re x7 I.gb) (h8 : Re x8 I.wo) (h9 : Re x9 I.gp) (h10 : Re x10 I.gm) (h11 : Re x11 I.w1) (h12 : Re x12 I.w2) (h13 : Re x13 I.gq) (h14 : Re x14 I.gl) (h15 : Re x15 I.wg) (h16 : Re x16 I.wp) : Re (val_main_v222 (F := Ideal) x0 x1 x2 x3 x4 x6 x7 x8 x9 x10 x11 x12 x13 x14 x15 x16) (fun i _ => ge (I.dh1) I.y2 I.gp i) := by
  intro i j
  have q0 := s42 h0 h1 h6 h7 h8
  have q1 := s31 h0 h1 h6 h7 h8
  have q2 := s212 h0 h1 h2 h3 h4 h6 h7 h8 h9 h10 h11 h12 h13 h14 h15 h16
  unfold val_main_v222 val_main_v221 val_main_v220 val_main_cst_53 val_main_v218 val_main_v219 val_main_v215 val_main_cst_52 val_main_v214 val_main_v213 val_main_cst_51
  generalize val_main_v42 (F := Ideal) x0 x1 x6 x7 x8 = y0 at *
  generalize val_main_v31 (F := Ideal) x0 x1 x6 x7 x8 = y1 at *
  generalize val_main_v212 (F := Ideal) x0 x1 x2 x3 x4 x6 x7 x8 x9 x10 x11 x12 x13 x14 x15 x16 = y2 at *
  pointwise []
  simp only [q0, q1, q2, h0, h1, h2, h3, h4, h6, h7, h8, h9, h10, h11, h12, h13, h14, h15, h16, emul, eadd, esub, esum, emax, emax0, z32, neghalf, half, k2, k512, k1024, div512, div1024, eps_bits, Ideal.ofBits_def, rsq, hrq, zadd, Fin.sum_univ_one]
  rfl

theorem s226 (h0 : Re x0 I.ya) (h1 : Re x1 I.yb) (h2 : Re x2 I.x) (h3 : Re x3 I.p) (h4 : Re x4 I.tg) (h6 : Re x6 I.ga) (h7 : Re x7 I.gb) (h8 : Re x8 I.wo) (h9 : Re x9 I.gp) (h10 : Re x10 I.gm) (h11 : Re x11 I.w1) (h12 : Re x12 I.w2) (h13 : Re x13 I.gq) (h14 : Re x14 I.gl) (h15 : Re x15 I.wg) (h16 : Re x16 I.wp) : Re (val_main_v226 (F := Ideal) x0 x1 x2 x3 x4 x6 x7 x8 x9 x10 x11 x12 x13 x14 x15 x16) (I.dy2) := by
  intro i j
  have q0 := s222 h0 h1 h2 h3 h4 h6 h7 h8 h9 h10 h11 h12 h13 h14 h15 h16
  have q1 := s31 h0 h1 h6 h7 h8
  have q2 := s212 h0 h1 h2 h3 h4 h6 h7 h8 h9 h10 h11 h12 h13 h14 h15 h16
  have q3 := s39 h0 h1 h6 h7 h8
  unfold val_main_v226 val_main_v224 val_main_v225 val_main_v217 val_main_v223 val_main_v216
  generalize val_main_v222 (F := Ideal) x0 x1 x2 x3 x4 x6 x7 x8 x9 x10 x11 x12 x13 x14 x15 x16 = y0 at *
  generalize val_main_v31 (F := Ideal) x0 x1 x6 x7 x8 = y1 at *
  generalize val_main_v212 (F := Ideal) x0 x1 x2 x3 x4 x6 x7 x8 x9 x10 x11 x12 x13 x14 x15 x16 = y2 at *
  generalize val_main_v39 (F := Ideal) x0 x1 x6 x7 x8 = y3 at *
  pointwise []
  simp only [q0, q1, q2, q3, h0, h1, h2, h3, h4, h6, h7, h8, h9, h10, h11, h12, h13, h14, h15, h16, emul, eadd, esub, esum, emax, emax0, z32, neghalf, half, k2, k512, k1024, div512, div1024, eps_bits, Ideal.ofBits_def, rsq, hrq, zadd]
  exact congrArg Real.toEReal (ngrad (I.dh1) I.y2 I.gp i j)

theorem s228 (h0 : Re x0 I.ya) (h1 : Re x1 I.yb) (h2 : Re x2 I.x) (h3 : Re x3 I.p) (h4 : Re x4 I.tg) (h6 : Re x6 I.ga) (h7 : Re x7 I.gb) (h8 : Re x8 I.wo) (h9 : Re x9 I.gp) (h10 : Re x10 I.gm) (h11 : Re x11 I.w1) (h12 : Re x12 I.w2) (h13 : Re x13 I.gq) (h14 : Re x14 I.gl) (h15 : Re x15 I.wg) (h16 : Re x16 I.wp) : Re (val_main_v228 (F := Ideal) x0 x1 x2 x3 x4 x6 x7 x8 x9 x10 x11 x12 x13 x14 x15 x16) (I.dwo) := by
  intro i j
  have q0 := s226 h0 h1 h2 h3 h4 h6 h7 h8 h9 h10 h11 h12 h13 h14 h15 h16
  have q1 := s30 h0 h1 h6 h7
  unfold val_main_v228 val_main_v227
  generalize val_main_v226 (F := Ideal) x0 x1 x2 x3 x4 x6 x7 x8 x9 x10 x11 x12 x13 x14 x15 x16 = y0 at *
  generalize val_main_v30 (F := Ideal) x0 x1 x6 x7 = y1 at *
  pointwise []
  simp only [q0, q1, h0, h1, h2, h3, h4, h6, h7, h8, h9, h10, h11, h12, h13, h14, h15, h16, emul, eadd, esub, esum, emax, emax0, z32, neghalf, half, k2, k512, k1024, div512, div1024, eps_bits, Ideal.ofBits_def, rsq, hrq, zadd]
  exact congrArg Real.toEReal (tn_comm I.yc I.dy2 i j)

theorem s229 (h0 : Re x0 I.ya) (h1 : Re x1 I.yb) (h2 : Re x2 I.x) (h3 : Re x3 I.p) (h4 : Re x4 I.tg) (h6 : Re x6 I.ga) (h7 : Re x7 I.gb) (h8 : Re x8 I.wo) (h9 : Re x9 I.gp) (h10 : Re x10 I.gm) (h11 : Re x11 I.w1) (h12 : Re x12 I.w2) (h13 : Re x13 I.gq) (h14 : Re x14 I.gl) (h15 : Re x15 I.wg) (h16 : Re x16 I.wp) : Re (val_main_v229 (F := Ideal) x0 x1 x2 x3 x4 x6 x7 x8 x9 x10 x11 x12 x13 x14 x15 x16) (I.dyc) := by
  intro i j
  have q0 := s226 h0 h1 h2 h3 h4 h6 h7 h8 h9 h10 h11 h12 h13 h14 h15 h16
  unfold val_main_v229
  generalize val_main_v226 (F := Ideal) x0 x1 x2 x3 x4 x6 x7 x8 x9 x10 x11 x12 x13 x14 x15 x16 = y0 at *
  pointwise []
  simp only [q0, h0, h1, h2, h3, h4, h6, h7, h8, h9, h10, h11, h12, h13, h14, h15, h16, emul, eadd, esub, esum, emax, emax0, z32, neghalf, half, k2, k512, k1024, div512, div1024, eps_bits, Ideal.ofBits_def, rsq, hrq, zadd] <;> rfl

theorem s230 (h0 : Re x0 I.ya) (h1 : Re x1 I.yb) (h2 : Re x2 I.x) (h3 : Re x3 I.p) (h4 : Re x4 I.tg) (h6 : Re x6 I.ga) (h7 : Re x7 I.gb) (h8 : Re x8 I.wo) (h9 : Re x9 I.gp) (h10 : Re x10 I.gm) (h11 : Re x11 I.w1) (h12 : Re x12 I.w2) (h13 : Re x13 I.gq) (h14 : Re x14 I.gl) (h15 : Re x15 I.wg) (h16 : Re x16 I.wp) : Re (val_main_v230 (F := Ideal) x0 x1 x2 x3 x4 x6 x7 x8 x9 x10 x11 x12 x13 x14 x15 x16) (lo I.dyc) := by
  intro i j
  have q0 := s229 h0 h1 h2 h3 h4 h6 h7 h8 h9 h10 h11 h12 h13 h14 h15 h16
  unfold val_main_v230
  generalize val_main_v229 (F := Ideal) x0 x1 x2 x3 x4 x6 x7 x8 x9 x10 x11 x12 x13 x14 x15 x16 = y0 at *
  pointwise []
  simp only [q0, h0, h1, h2, h3, h4, h6, h7, h8, h9, h10, h11, h12, h13, h14, h15, h16, emul, eadd, esub, esum, emax, emax0, z32, neghalf, half, k2, k512, k1024, div512, div1024, eps_bits, Ideal.ofBits_def, rsq, hrq, zadd] <;> rfl

theorem s231 (h0 : Re x0 I.ya) (h1 : Re x1 I.yb) (h2 : Re x2 I.x) (h3 : Re x3 I.p) (h4 : Re x4 I.tg) (h6 : Re x6 I.ga) (h7 : Re x7 I.gb) (h8 : Re x8 I.wo) (h9 : Re x9 I.gp) (h10 : Re x10 I.gm) (h11 : Re x11 I.w1) (h12 : Re x12 I.w2) (h13 : Re x13 I.gq) (h14 : Re x14 I.gl) (h15 : Re x15 I.wg) (h16 : Re x16 I.wp) : Re (val_main_v231 (F := Ideal) x0 x1 x2 x3 x4 x6 x7 x8 x9 x10 x11 x12 x13 x14 x15 x16) (hi I.dyc) := by
  intro i j
  have q0 := s229 h0 h1 h2 h3 h4 h6 h7 h8 h9 h10 h11 h12 h13 h14 h15 h16
  unfold val_main_v231
  generalize val_main_v229 (F := Ideal) x0 x1 x2 x3 x4 x6 x7 x8 x9 x10 x11 x12 x13 x14 x15 x16 = y0 at *
  pointwise []
  simp only [q0, h0, h1, h2, h3, h4, h6, h7, h8, h9, h10, h11, h12, h13, h14, h15, h16, emul, eadd, esub, esum, emax, emax0, z32, neghalf, half, k2, k512, k1024, div512, div1024, eps_bits, Ideal.ofBits_def, rsq, hrq, zadd] <;> rfl

theorem s234 (h0 : Re x0 I.ya) (h1 : Re x1 I.yb) (h2 : Re x2 I.x) (h3 : Re x3 I.p) (h4 : Re x4 I.tg) (h6 : Re x6 I.ga) (h7 : Re x7 I.gb) (h8 : Re x8 I.wo) (h9 : Re x9 I.gp) (h10 : Re x10 I.gm) (h11 : Re x11 I.w1) (h12 : Re x12 I.w2) (h13 : Re x13 I.gq) (h14 : Re x14 I.gl) (h15 : Re x15 I.wg) (h16 : Re x16 I.wp) : Re (val_main_v234 (F := Ideal) x0 x1 x2 x3 x4 x6 x7 x8 x9 x10 x11 x12 x13 x14 x15 x16) (I.dgb) := by
  intro i j
  have q0 := s27 h1
  have q1 := s231 h0 h1 h2 h3 h4 h6 h7 h8 h9 h10 h11 h12 h13 h14 h15 h16
  unfold val_main_v234 val_main_v233 val_main_v232 val_main_cst_54
  generalize val_main_v27 (F := Ideal) x1 = y0 at *
  generalize val_main_v231 (F := Ideal) x0 x1 x2 x3 x4 x6 x7 x8 x9 x10 x11 x12 x13 x14 x15 x16 = y1 at *
  pointwise []
  simp only [q0, q1, h0, h1, h2, h3, h4, h6, h7, h8, h9, h10, h11, h12, h13, h14, h15, h16, emul, eadd, esub, esum, emax, emax0, z32, neghalf, half, k2, k512, k1024, div512, div1024, eps_bits, Ideal.ofBits_def, rsq, hrq, zadd]
  exact congrArg Real.toEReal (nrg_comm (hi I.dyc) I.yb i j)

theorem s236 (h0 : Re x0 I.ya) (h1 : Re x1 I.yb) (h2 : Re x2 I.x) (h3 : Re x3 I.p) (h4 : Re x4 I.tg) (h6 : Re x6 I.ga) (h7 : Re x7 I.gb) (h8 : Re x8 I.wo) (h9 : Re x9 I.gp) (h10 : Re x10 I.gm) (h11 : Re x11 I.w1) (h12 : Re x12 I.w2) (h13 : Re x13 I.gq) (h14 : Re x14 I.gl) (h15 : Re x15 I.wg) (h16 : Re x16 I.wp) : Re (val_main_v236 (F := Ideal) x0 x1 x2 x3 x4 x6 x7 x8 x9 x10 x11 x12 x13 x14 x15 x16) (fun i j => hi I.dyc i j * I.gb 0 j) := by
  intro i j
  have q0 := s231 h0 h1 h2 h3 h4 h6 h7 h8 h9 h10 h11 h12 h13 h14 h15 h16
  unfold val_main_v236 val_main_v235
  generalize val_main_v231 (F := Ideal) x0 x1 x2 x3 x4 x6 x7 x8 x9 x10 x11 x12 x13 x14 x15 x16 = y0 at *
  pointwise []
  simp only [q0, h0, h1, h2, h3, h4, h6, h7, h8, h9, h10, h11, h12, h13, h14, h15, h16, emul, eadd, esub, esum, emax, emax0, z32, neghalf, half, k2, k512, k1024, div512, div1024, eps_bits, Ideal.ofBits_def, rsq, hrq, zadd] <;> rfl

theorem s246 (h0 : Re x0 I.ya) (h1 : Re x1 I.yb) (h2 : Re x2 I.x) (h3 : Re x3 I.p) (h4 : Re x4 I.tg) (h6 : Re x6 I.ga) (h7 : Re x7 I.gb) (h8 : Re x8 I.wo) (h9 : Re x9 I.gp) (h10 : Re x10 I.gm) (h11 : Re x11 I.w1) (h12 : Re x12 I.w2) (h13 : Re x13 I.gq) (h14 : Re x14 I.gl) (h15 : Re x15 I.wg) (h16 : Re x16 I.wp) : Re (val_main_v246 (F := Ideal) x0 x1 x2 x3 x4 x6 x7 x8 x9 x10 x11 x12 x13 x14 x15 x16) (fun i _ => ge (hi I.dyc) I.yb I.gb i) := by
  intro i j
  have q0 := s25 h1
  have q1 := s236 h0 h1 h2 h3 h4 h6 h7 h8 h9 h10 h11 h12 h13 h14 h15 h16
  unfold val_main_v246 val_main_v245 val_main_v244 val_main_cst_57 val_main_v242 val_main_v243 val_main_v239 val_main_cst_56 val_main_v238 val_main_v237 val_main_cst_55
  generalize val_main_v25 (F := Ideal) x1 = y0 at *
  generalize val_main_v236 (F := Ideal) x0 x1 x2 x3 x4 x6 x7 x8 x9 x10 x11 x12 x13 x14 x15 x16 = y1 at *
  pointwise []
  simp only [q0, q1, h0, h1, h2, h3, h4, h6, h7, h8, h9, h10, h11, h12, h13, h14, h15, h16, emul, eadd, esub, esum, emax, emax0, z32, neghalf, half, k2, k512, k1024, div512, div1024, eps_bits, Ideal.ofBits_def, rsq, hrq, zadd, Fin.sum_univ_one]
  rfl

theorem s250 (h0 : Re x0 I.ya) (h1 : Re x1 I.yb) (h2 : Re x2 I.x) (h3 : Re x3 I.p) (h4 : Re x4 I.tg) (h6 : Re x6 I.ga) (h7 : Re x7 I.gb) (h8 : Re x8 I.wo) (h9 : Re x9 I.gp) (h10 : Re x10 I.gm) (h11 : Re x11 I.w1) (h12 : Re x12 I.w2) (h13 : Re x13 I.gq) (h14 : Re x14 I.gl) (h15 : Re x15 I.wg) (h16 : Re x16 I.wp) : Re (val_main_v250 (F := Ideal) x0 x1 x2 x3 x4 x6 x7 x8 x9 x10 x11 x12 x13 x14 x15 x16) (I.dyb) := by
  intro i j
  have q0 := s246 h0 h1 h2 h3 h4 h6 h7 h8 h9 h10 h11 h12 h13 h14 h15 h16
  have q1 := s236 h0 h1 h2 h3 h4 h6 h7 h8 h9 h10 h11 h12 h13 h14 h15 h16
  have q2 := s22 h1
  unfold val_main_v250 val_main_v248 val_main_v249 val_main_v241 val_main_v247 val_main_v240
  generalize val_main_v246 (F := Ideal) x0 x1 x2 x3 x4 x6 x7 x8 x9 x10 x11 x12 x13 x14 x15 x16 = y0 at *
  generalize val_main_v236 (F := Ideal) x0 x1 x2 x3 x4 x6 x7 x8 x9 x10 x11 x12 x13 x14 x15 x16 = y1 at *
  generalize val_main_v22 (F := Ideal) x1 = y2 at *
  pointwise []
  simp only [q0, q1, q2, h0, h1, h2, h3, h4, h6, h7, h8, h9, h10, h11, h12, h13, h14, h15, h16, emul, eadd, esub, esum, emax, emax0, z32, neghalf, half, k2, k512, k1024, div512, div1024, eps_bits, Ideal.ofBits_def, rsq, hrq, zadd]
  exact congrArg Real.toEReal (ngrad (hi I.dyc) I.yb I.gb i j)

theorem s253 (h0 : Re x0 I.ya) (h1 : Re x1 I.yb) (h2 : Re x2 I.x) (h3 : Re x3 I.p) (h4 : Re x4 I.tg) (h6 : Re x6 I.ga) (h7 : Re x7 I.gb) (h8 : Re x8 I.wo) (h9 : Re x9 I.gp) (h10 : Re x10 I.gm) (h11 : Re x11 I.w1) (h12 : Re x12 I.w2) (h13 : Re x13 I.gq) (h14 : Re x14 I.gl) (h15 : Re x15 I.wg) (h16 : Re x16 I.wp) : Re (val_main_v253 (F := Ideal) x0 x1 x2 x3 x4 x6 x7 x8 x9 x10 x11 x12 x13 x14 x15 x16) (I.dga) := by
  intro i j
  have q0 := s12 h0
  have q1 := s230 h0 h1 h2 h3 h4 h6 h7 h8 h9 h10 h11 h12 h13 h14 h15 h16
  unfold val_main_v253 val_main_v252 val_main_v251 val_main_cst_58
  generalize val_main_v12 (F := Ideal) x0 = y0 at *
  generalize val_main_v230 (F := Ideal) x0 x1 x2 x3 x4 x6 x7 x8 x9 x10 x11 x12 x13 x14 x15 x16 = y1 at *
  pointwise []
  simp only [q0, q1, h0, h1, h2, h3, h4, h6, h7, h8, h9, h10, h11, h12, h13, h14, h15, h16, emul, eadd, esub, esum, emax, emax0, z32, neghalf, half, k2, k512, k1024, div512, div1024, eps_bits, Ideal.ofBits_def, rsq, hrq, zadd]
  exact congrArg Real.toEReal (nrg_comm (lo I.dyc) I.ya i j)

theorem s255 (h0 : Re x0 I.ya) (h1 : Re x1 I.yb) (h2 : Re x2 I.x) (h3 : Re x3 I.p) (h4 : Re x4 I.tg) (h6 : Re x6 I.ga) (h7 : Re x7 I.gb) (h8 : Re x8 I.wo) (h9 : Re x9 I.gp) (h10 : Re x10 I.gm) (h11 : Re x11 I.w1) (h12 : Re x12 I.w2) (h13 : Re x13 I.gq) (h14 : Re x14 I.gl) (h15 : Re x15 I.wg) (h16 : Re x16 I.wp) : Re (val_main_v255 (F := Ideal) x0 x1 x2 x3 x4 x6 x7 x8 x9 x10 x11 x12 x13 x14 x15 x16) (fun i j => lo I.dyc i j * I.ga 0 j) := by
  intro i j
  have q0 := s230 h0 h1 h2 h3 h4 h6 h7 h8 h9 h10 h11 h12 h13 h14 h15 h16
  unfold val_main_v255 val_main_v254
  generalize val_main_v230 (F := Ideal) x0 x1 x2 x3 x4 x6 x7 x8 x9 x10 x11 x12 x13 x14 x15 x16 = y0 at *
  pointwise []
  simp only [q0, h0, h1, h2, h3, h4, h6, h7, h8, h9, h10, h11, h12, h13, h14, h15, h16, emul, eadd, esub, esum, emax, emax0, z32, neghalf, half, k2, k512, k1024, div512, div1024, eps_bits, Ideal.ofBits_def, rsq, hrq, zadd] <;> rfl

theorem s265 (h0 : Re x0 I.ya) (h1 : Re x1 I.yb) (h2 : Re x2 I.x) (h3 : Re x3 I.p) (h4 : Re x4 I.tg) (h6 : Re x6 I.ga) (h7 : Re x7 I.gb) (h8 : Re x8 I.wo) (h9 : Re x9 I.gp) (h10 : Re x10 I.gm) (h11 : Re x11 I.w1) (h12 : Re x12 I.w2) (h13 : Re x13 I.gq) (h14 : Re x14 I.gl) (h15 : Re x15 I.wg) (h16 : Re x16 I.wp) : Re (val_main_v265 (F := Ideal) x0 x1 x2 x3 x4 x6 x7 x8 x9 x10 x11 x12 x13 x14 x15 x16) (fun i _ => ge (lo I.dyc) I.ya I.ga i) := by
  intro i j
  have q0 := s10 h0
  have q1 := s255 h0 h1 h2 h3 h4 h6 h7 h8 h9 h10 h11 h12 h13 h14 h15 h16
  unfold val_main_v265 val_main_v264 val_main_v263 val_main_cst_61 val_main_v261 val_main_v262 val_main_v258 val_main_cst_60 val_main_v257 val_main_v256 val_main_cst_59
  generalize val_main_v10 (F := Ideal) x0 = y0 at *
  generalize val_main_v255 (F := Ideal) x0 x1 x2 x3 x4 x6 x7 x8 x9 x10 x11 x12 x13 x14 x15 x16 = y1 at *
  pointwise []
  simp only [q0, q1, h0, h1, h2, h3, h4, h6, h7, h8, h9, h10, h11, h12, h13, h14, h15, h16, emul, eadd, esub, esum, emax, emax0, z32, neghalf, half, k2, k512, k1024, div512, div1024, eps_bits, Ideal.ofBits_def, rsq, hrq, zadd, Fin.sum_univ_one]
  rfl

theorem s269 (h0 : Re x0 I.ya) (h1 : Re x1 I.yb) (h2 : Re x2 I.x) (h3 : Re x3 I.p) (h4 : Re x4 I.tg) (h6 : Re x6 I.ga) (h7 : Re x7 I.gb) (h8 : Re x8 I.wo) (h9 : Re x9 I.gp) (h10 : Re x10 I.gm) (h11 : Re x11 I.w1) (h12 : Re x12 I.w2) (h13 : Re x13 I.gq) (h14 : Re x14 I.gl) (h15 : Re x15 I.wg) (h16 : Re x16 I.wp) : Re (val_main_v269 (F := Ideal) x0 x1 x2 x3 x4 x6 x7 x8 x9 x10 x11 x12 x13 x14 x15 x16) (I.dya) := by
  intro i j
  have q0 := s265 h0 h1 h2 h3 h4 h6 h7 h8 h9 h10 h11 h12 h13 h14 h15 h16
  have q1 := s255 h0 h1 h2 h3 h4 h6 h7 h8 h9 h10 h11 h12 h13 h14 h15 h16
  have q2 := s7 h0
  unfold val_main_v269 val_main_v267 val_main_v268 val_main_v260 val_main_v266 val_main_v259
  generalize val_main_v265 (F := Ideal) x0 x1 x2 x3 x4 x6 x7 x8 x9 x10 x11 x12 x13 x14 x15 x16 = y0 at *
  generalize val_main_v255 (F := Ideal) x0 x1 x2 x3 x4 x6 x7 x8 x9 x10 x11 x12 x13 x14 x15 x16 = y1 at *
  generalize val_main_v7 (F := Ideal) x0 = y2 at *
  pointwise []
  simp only [q0, q1, q2, h0, h1, h2, h3, h4, h6, h7, h8, h9, h10, h11, h12, h13, h14, h15, h16, emul, eadd, esub, esum, emax, emax0, z32, neghalf, half, k2, k512, k1024, div512, div1024, eps_bits, Ideal.ofBits_def, rsq, hrq, zadd]
  exact congrArg Real.toEReal (ngrad (lo I.dyc) I.ya I.ga i j)

end ref

end Cert.Tail

end

end
-- ==== Proof.TailFinite.lean ====
module
public import proofs.«01_k».proof.Proof.Finite
public import proofs.«01_k».proof.Pre_finite2
public import proofs.«01_k».proof.Proof.TailSpec
@[expose] public section
set_option maxRecDepth 16384
noncomputable section
namespace Cert.Tail
open Idealize.ShloMosaic Idealize.ShloMosaic.Tactic

/-- The side conditions of the second precondition hold. -/
theorem pre_facts : Cert.Pre_finite2.Facts := ⟨by decide, by decide, by decide, by decide, by decide, by decide, by decide, by decide, by decide⟩

/-- The real matrix of an array of extended reals. -/
def rl {m n : ℕ} (x : Shape.Idx ⟨2, ![m, n]⟩ → EReal) : Mat m n := fun i j => (x (ix2 i j)).toReal

/-- Where the precondition's comparison is all ones, the array is that of its real matrix. -/
theorem rl_re {m n : ℕ} (x : FVec Ideal ⟨2, ![m, n]⟩ .f32) (h : Shape.BroadcastsInDim ⟨0, ![]⟩ ⟨2, ![m, n]⟩ (![] : Fin 0 → Fin 2))
    (e : cmpf .olt (Host.absf x) (broadcastInDim ⟨2, ![m, n]⟩ ![] h (constant ⟨0, ![]⟩ .f32 0x7F800000#32)) = fun _ => 1#1) :
    Re x (rl x) := fun i j => Cert.Pre_finite.real_of_lt _ (congrFun e (ix2 i j))
end Cert.Tail
end
end
-- ==== Proof.TailAlg.lean ====
module
public import proofs.«01_k».proof.Defs
public import proofs.«01_k».proof.Proof.TailRun
public import proofs.«01_k».proof.Proof.TailKer
public import proofs.«01_k».proof.Proof.TailRef
public import proofs.«01_k».proof.Proof.TailFinite
public import proofs.«01_k».proof.Proof.Gen.Reference2Ideal.Run
@[expose] public section
set_option maxRecDepth 16384
noncomputable section
namespace Cert.Tail
open Idealize.ShloMosaic Idealize.ShloMosaic.TcCoe Idealize.ShloMosaic.Tactic Idealize.SL.Sem Idealize.ShloMosaic.StableHlo

/-- An array that has the entries of a real matrix is the array of that matrix. -/
theorem re_arr {m n : ℕ} {v : Shape.Idx ⟨2, ![m, n]⟩ → EReal} {f : Mat m n} (h : Re v f) : v = Arr f := by
  funext y
  rw [eq_ix2 y]
  exact h (y 0) (y 1)

/-- An array equal to one that has the entries of a real matrix has them too. -/
theorem re_of_eq {m n : ℕ} {v w : Shape.Idx ⟨2, ![m, n]⟩ → EReal} {f : Mat m n} (e : v = w) (h : Re w f) : Re v f := by
  rw [e]
  exact h

/-- The inputs of the step, as the real matrices of the kernel's arguments. -/
def inp (m : (ℓ : Loc Cert.Kernel2Ideal.nD Cert.Kernel2Ideal.τ Cert.Kernel2Ideal.sig) → Buf (Elt Ideal) ℓ) (c : Dev Cert.Kernel2Ideal.nD) : Inp where
  ya := rl (m ((c : Thread Cert.Kernel2Ideal.nD Cert.Kernel2Ideal.τ).loc Cert.Kernel2Ideal.main_arg0))
  yb := rl (m ((c : Thread Cert.Kernel2Ideal.nD Cert.Kernel2Ideal.τ).loc Cert.Kernel2Ideal.main_arg1))
  x := rl (m ((c : Thread Cert.Kernel2Ideal.nD Cert.Kernel2Ideal.τ).loc Cert.Kernel2Ideal.main_arg2))
  p := rl (m ((c : Thread Cert.Kernel2Ideal.nD Cert.Kernel2Ideal.τ).loc Cert.Kernel2Ideal.main_arg3))
  tg := rl (m ((c : Thread Cert.Kernel2Ideal.nD Cert.Kernel2Ideal.τ).loc Cert.Kernel2Ideal.main_arg4))
  ga := rl (m ((c : Thread Cert.Kernel2Ideal.nD Cert.Kernel2Ideal.τ).loc Cert.Kernel2Ideal.main_arg6))
  gb := rl (m ((c : Thread Cert.Kernel2Ideal.nD Cert.Kernel2Ideal.τ).loc Cert.Kernel2Ideal.main_arg7))
  wo := rl (m ((c : Thread Cert.Kernel2Ideal.nD Cert.Kernel2Ideal.τ).loc Cert.Kernel2Ideal.main_arg8))
  gp := rl (m ((c : Thread Cert.Kernel2Ideal.nD Cert.Kernel2Ideal.τ).loc Cert.Kernel2Ideal.main_arg9))
  gm := rl (m ((c : Thread Cert.Kernel2Ideal.nD Cert.Kernel2Ideal.τ).loc Cert.Kernel2Ideal.main_arg10))
  w1 := rl (m ((c : Thread Cert.Kernel2Ideal.nD Cert.Kernel2Ideal.τ).loc Cert.Kernel2Ideal.main_arg11))
  w2 := rl (m ((c : Thread Cert.Kernel2Ideal.nD Cert.Kernel2Ideal.τ).loc Cert.Kernel2Ideal.main_arg12))
  gq := rl (m ((c : Thread Cert.Kernel2Ideal.nD Cert.Kernel2Ideal.τ).loc Cert.Kernel2Ideal.main_arg13))
  gl := rl (m ((c : Thread Cert.Kernel2Ideal.nD Cert.Kernel2Ideal.τ).loc Cert.Kernel2Ideal.main_arg14))
  wg := rl (m ((c : Thread Cert.Kernel2Ideal.nD Cert.Kernel2Ideal.τ).loc Cert.Kernel2Ideal.main_arg15))
  wp := rl (m ((c : Thread Cert.Kernel2Ideal.nD Cert.Kernel2Ideal.τ).loc Cert.Kernel2Ideal.main_arg16))

/-- From finite arguments, the calls after the attention and the reference's plain layers with their derivative end with the same
    arrays: the loss, the gradients of both branches of the attention and of the residual, and the gradients of all the weights. -/
theorem algebraic : Cert.algebraic_Kernel2Ideal_Reference2Ideal_pre_finite2 (hKernel2Ideal := Cert.Kernel2Ideal.Gen.facts)
    (hReference2Ideal := Cert.Reference2Ideal.Gen.facts) (hPre_finite2 := Cert.Tail.pre_facts) := by
  intro m g m' g' hpre hm
  refine ⟨fun c => Cert.Kernel2Ideal.Gen.W15 m g c (Proc.devRef .tc Cert.Kernel2Ideal.main_v8_4), fun c => Cert.Kernel2Ideal.Gen.W15 m g c (Proc.devRef .tc Cert.Kernel2Ideal.main_v17_0), fun c => Cert.Kernel2Ideal.Gen.W15 m g c (Proc.devRef .tc Cert.Kernel2Ideal.main_v18), fun c => Cert.Kernel2Ideal.Gen.W15 m g c (Proc.devRef .tc Cert.Kernel2Ideal.main_v15_0), fun c => Cert.Kernel2Ideal.Gen.W15 m g c (Proc.devRef .tc Cert.Kernel2Ideal.main_v17_4), fun c => Cert.Kernel2Ideal.Gen.W15 m g c (Proc.devRef .tc Cert.Kernel2Ideal.main_v17_5), fun c => Cert.Kernel2Ideal.Gen.W15 m g c (Proc.devRef .tc Cert.Kernel2Ideal.main_v16), fun c => Cert.Kernel2Ideal.Gen.W15 m g c (Proc.devRef .tc Cert.Kernel2Ideal.main_v15_3), fun c => Cert.Kernel2Ideal.Gen.W15 m g c (Proc.devRef .tc Cert.Kernel2Ideal.main_v15_2), fun c => Cert.Kernel2Ideal.Gen.W15 m g c (Proc.devRef .tc Cert.Kernel2Ideal.main_v14), fun c => Cert.Kernel2Ideal.Gen.W15 m g c (Proc.devRef .tc Cert.Kernel2Ideal.main_v11), fun c => Cert.Kernel2Ideal.Gen.W15 m g c (Proc.devRef .tc Cert.Kernel2Ideal.main_v8_6), fun c => Cert.Kernel2Ideal.Gen.W15 m g c (Proc.devRef .tc Cert.Kernel2Ideal.main_v8_5), fun c => Cert.Kernel2Ideal.Gen.W15 m g c (Proc.devRef .tc Cert.Kernel2Ideal.main_v9), fun c => Cert.Kernel2Ideal.Gen.W15 m g c (Proc.devRef .tc Cert.Kernel2Ideal.main_v10), ?_, ?_⟩
  · refine (θ_run _ _ _).mono (fun r h c => ?_) (run (F := Ideal) m g)
    exact ⟨h c _ (Cert.Kernel2Ideal.Gen.mem_uc Cert.Kernel2Ideal.main_v8_4 (by decide)),
      h c _ (Cert.Kernel2Ideal.Gen.mem_uc Cert.Kernel2Ideal.main_v17_0 (by decide)),
      h c _ (Cert.Kernel2Ideal.Gen.mem_uc Cert.Kernel2Ideal.main_v18 (by decide)),
      h c _ (Cert.Kernel2Ideal.Gen.mem_uc Cert.Kernel2Ideal.main_v15_0 (by decide)),
      h c _ (Cert.Kernel2Ideal.Gen.mem_uc Cert.Kernel2Ideal.main_v17_4 (by decide)),
      h c _ (Cert.Kernel2Ideal.Gen.mem_uc Cert.Kernel2Ideal.main_v17_5 (by decide)),
      h c _ (Cert.Kernel2Ideal.Gen.mem_uc Cert.Kernel2Ideal.main_v16 (by decide)),
      h c _ (Cert.Kernel2Ideal.Gen.mem_uc Cert.Kernel2Ideal.main_v15_3 (by decide)),
      h c _ (Cert.Kernel2Ideal.Gen.mem_uc Cert.Kernel2Ideal.main_v15_2 (by decide)),
      h c _ (Cert.Kernel2Ideal.Gen.mem_uc Cert.Kernel2Ideal.main_v14 (by decide)),
      h c _ (Cert.Kernel2Ideal.Gen.mem_uc Cert.Kernel2Ideal.main_v11 (by decide)),
      h c _ (Cert.Kernel2Ideal.Gen.mem_uc Cert.Kernel2Ideal.main_v8_6 (by decide)),
      h c _ (Cert.Kernel2Ideal.Gen.mem_uc Cert.Kernel2Ideal.main_v8_5 (by decide)),
      h c _ (Cert.Kernel2Ideal.Gen.mem_uc Cert.Kernel2Ideal.main_v9 (by decide)),
      h c _ (Cert.Kernel2Ideal.Gen.mem_uc Cert.Kernel2Ideal.main_v10 (by decide)),
      (h c _ (Cert.Kernel2Ideal.Gen.mem_uc Cert.Kernel2Ideal.main_arg0 (by decide))).trans (Cert.Kernel2Ideal.Gen.W15_main_arg0 m g c),
      (h c _ (Cert.Kernel2Ideal.Gen.mem_uc Cert.Kernel2Ideal.main_arg1 (by decide))).trans (Cert.Kernel2Ideal.Gen.W15_main_arg1 m g c),
      (h c _ (Cert.Kernel2Ideal.Gen.mem_uc Cert.Kernel2Ideal.main_arg2 (by decide))).trans (Cert.Kernel2Ideal.Gen.W15_main_arg2 m g c),
      (h c _ (Cert.Kernel2Ideal.Gen.mem_uc Cert.Kernel2Ideal.main_arg3 (by decide))).trans (Cert.Kernel2Ideal.Gen.W15_main_arg3 m g c),
      (h c _ (Cert.Kernel2Ideal.Gen.mem_uc Cert.Kernel2Ideal.main_arg4 (by decide))).trans (Cert.Kernel2Ideal.Gen.W15_main_arg4 m g c),
      (h c _ (Cert.Kernel2Ideal.Gen.mem_uc Cert.Kernel2Ideal.main_arg5 (by decide))).trans (Cert.Kernel2Ideal.Gen.W15_main_arg5 m g c),
      (h c _ (Cert.Kernel2Ideal.Gen.mem_uc Cert.Kernel2Ideal.main_arg6 (by decide))).trans (Cert.Kernel2Ideal.Gen.W15_main_arg6 m g c),
      (h c _ (Cert.Kernel2Ideal.Gen.mem_uc Cert.Kernel2Ideal.main_arg7 (by decide))).trans (Cert.Kernel2Ideal.Gen.W15_main_arg7 m g c),
      (h c _ (Cert.Kernel2Ideal.Gen.mem_uc Cert.Kernel2Ideal.main_arg8 (by decide))).trans (Cert.Kernel2Ideal.Gen.W15_main_arg8 m g c),
      (h c _ (Cert.Kernel2Ideal.Gen.mem_uc Cert.Kernel2Ideal.main_arg9 (by decide))).trans (Cert.Kernel2Ideal.Gen.W15_main_arg9 m g c),
      (h c _ (Cert.Kernel2Ideal.Gen.mem_uc Cert.Kernel2Ideal.main_arg10 (by decide))).trans (Cert.Kernel2Ideal.Gen.W15_main_arg10 m g c),
      (h c _ (Cert.Kernel2Ideal.Gen.mem_uc Cert.Kernel2Ideal.main_arg11 (by decide))).trans (Cert.Kernel2Ideal.Gen.W15_main_arg11 m g c),
      (h c _ (Cert.Kernel2Ideal.Gen.mem_uc Cert.Kernel2Ideal.main_arg12 (by decide))).trans (Cert.Kernel2Ideal.Gen.W15_main_arg12 m g c),
      (h c _ (Cert.Kernel2Ideal.Gen.mem_uc Cert.Kernel2Ideal.main_arg13 (by decide))).trans (Cert.Kernel2Ideal.Gen.W15_main_arg13 m g c),
      (h c _ (Cert.Kernel2Ideal.Gen.mem_uc Cert.Kernel2Ideal.main_arg14 (by decide))).trans (Cert.Kernel2Ideal.Gen.W15_main_arg14 m g c),
      (h c _ (Cert.Kernel2Ideal.Gen.mem_uc Cert.Kernel2Ideal.main_arg15 (by decide))).trans (Cert.Kernel2Ideal.Gen.W15_main_arg15 m g c),
      (h c _ (Cert.Kernel2Ideal.Gen.mem_uc Cert.Kernel2Ideal.main_arg16 (by decide))).trans (Cert.Kernel2Ideal.Gen.W15_main_arg16 m g c)⟩
  · refine (θ_run _ _ _).mono (fun r h c => ?_) (Cert.Reference2Ideal.Value.run (F := Ideal) m' g')
    obtain ⟨r0, r1, r2, r3, r4, r5, r6, r7, r8, r9, r10, r11, r12, r13, r14, a⟩ := h c
    obtain ⟨p0, p1, p2, p3, p4, p5, p6, p7, p8, p9, p10, p11, p12, p13, p14, p15, p16⟩ := hpre c
    obtain ⟨m0, m1, m2, m3, m4, m5, m6, m7, m8, m9, m10, m11, m12, m13, m14, m15, m16⟩ := hm c
    have e0 : Re (m ((c : Thread Cert.Kernel2Ideal.nD Cert.Kernel2Ideal.τ).loc Cert.Kernel2Ideal.main_arg0)) (inp m c).ya := rl_re _ _ p0
    have e1 : Re (m ((c : Thread Cert.Kernel2Ideal.nD Cert.Kernel2Ideal.τ).loc Cert.Kernel2Ideal.main_arg1)) (inp m c).yb := rl_re _ _ p1
    have e2 : Re (m ((c : Thread Cert.Kernel2Ideal.nD Cert.Kernel2Ideal.τ).loc Cert.Kernel2Ideal.main_arg2)) (inp m c).x := rl_re _ _ p2
    have e3 : Re (m ((c : Thread Cert.Kernel2Ideal.nD Cert.Kernel2Ideal.τ).loc Cert.Kernel2Ideal.main_arg3)) (inp m c).p := rl_re _ _ p3
    have e4 : Re (m ((c : Thread Cert.Kernel2Ideal.nD Cert.Kernel2Ideal.τ).loc Cert.Kernel2Ideal.main_arg4)) (inp m c).tg := rl_re _ _ p4
    have e6 : Re (m ((c : Thread Cert.Kernel2Ideal.nD Cert.Kernel2Ideal.τ).loc Cert.Kernel2Ideal.main_arg6)) (inp m c).ga := rl_re _ _ p6
    have e7 : Re (m ((c : Thread Cert.Kernel2Ideal.nD Cert.Kernel2Ideal.τ).loc Cert.Kernel2Ideal.main_arg7)) (inp m c).gb := rl_re _ _ p7
    have e8 : Re (m ((c : Thread Cert.Kernel2Ideal.nD Cert.Kernel2Ideal.τ).loc Cert.Kernel2Ideal.main_arg8)) (inp m c).wo := rl_re _ _ p8
    have e9 : Re (m ((c : Thread Cert.Kernel2Ideal.nD Cert.Kernel2Ideal.τ).loc Cert.Kernel2Ideal.main_arg9)) (inp m c).gp := rl_re _ _ p9
    have e10 : Re (m ((c : Thread Cert.Kernel2Ideal.nD Cert.Kernel2Ideal.τ).loc Cert.Kernel2Ideal.main_arg10)) (inp m c).gm := rl_re _ _ p10
    have e11 : Re (m ((c : Thread Cert.Kernel2Ideal.nD Cert.Kernel2Ideal.τ).loc Cert.Kernel2Ideal.main_arg11)) (inp m c).w1 := rl_re _ _ p11
    have e12 : Re (m ((c : Thread Cert.Kernel2Ideal.nD Cert.Kernel2Ideal.τ).loc Cert.Kernel2Ideal.main_arg12)) (inp m c).w2 := rl_re _ _ p12
    have e13 : Re (m ((c : Thread Cert.Kernel2Ideal.nD Cert.Kernel2Ideal.τ).loc Cert.Kernel2Ideal.main_arg13)) (inp m c).gq := rl_re _ _ p13
    have e14 : Re (m ((c : Thread Cert.Kernel2Ideal.nD Cert.Kernel2Ideal.τ).loc Cert.Kernel2Ideal.main_arg14)) (inp m c).gl := rl_re _ _ p14
    have e15 : Re (m ((c : Thread Cert.Kernel2Ideal.nD Cert.Kernel2Ideal.τ).loc Cert.Kernel2Ideal.main_arg15)) (inp m c).wg := rl_re _ _ p15
    have e16 : Re (m ((c : Thread Cert.Kernel2Ideal.nD Cert.Kernel2Ideal.τ).loc Cert.Kernel2Ideal.main_arg16)) (inp m c).wp := rl_re _ _ p16
    have h0 : Re (m' ((c : Thread Cert.Reference2Ideal.nD Cert.Reference2Ideal.τ).loc Cert.Reference2Ideal.main_arg0)) (inp m c).ya := re_of_eq m0 e0
    have h1 : Re (m' ((c : Thread Cert.Reference2Ideal.nD Cert.Reference2Ideal.τ).loc Cert.Reference2Ideal.main_arg1)) (inp m c).yb := re_of_eq m1 e1
    have h2 : Re (m' ((c : Thread Cert.Reference2Ideal.nD Cert.Reference2Ideal.τ).loc Cert.Reference2Ideal.main_arg2)) (inp m c).x := re_of_eq m2 e2
    have h3 : Re (m' ((c : Thread Cert.Reference2Ideal.nD Cert.Reference2Ideal.τ).loc Cert.Reference2Ideal.main_arg3)) (inp m c).p := re_of_eq m3 e3
    have h4 : Re (m' ((c : Thread Cert.Reference2Ideal.nD Cert.Reference2Ideal.τ).loc Cert.Reference2Ideal.main_arg4)) (inp m c).tg := re_of_eq m4 e4
    have h6 : Re (m' ((c : Thread Cert.Reference2Ideal.nD Cert.Reference2Ideal.τ).loc Cert.Reference2Ideal.main_arg6)) (inp m c).ga := re_of_eq m6 e6
    have h7 : Re (m' ((c : Thread Cert.Reference2Ideal.nD Cert.Reference2Ideal.τ).loc Cert.Reference2Ideal.main_arg7)) (inp m c).gb := re_of_eq m7 e7
    have h8 : Re (m' ((c : Thread Cert.Reference2Ideal.nD Cert.Reference2Ideal.τ).loc Cert.Reference2Ideal.main_arg8)) (inp m c).wo := re_of_eq m8 e8
    have h9 : Re (m' ((c : Thread Cert.Reference2Ideal.nD Cert.Reference2Ideal.τ).loc Cert.Reference2Ideal.main_arg9)) (inp m c).gp := re_of_eq m9 e9
    have h10 : Re (m' ((c : Thread Cert.Reference2Ideal.nD Cert.Reference2Ideal.τ).loc Cert.Reference2Ideal.main_arg10)) (inp m c).gm := re_of_eq m10 e10
    have h11 : Re (m' ((c : Thread Cert.Reference2Ideal.nD Cert.Reference2Ideal.τ).loc Cert.Reference2Ideal.main_arg11)) (inp m c).w1 := re_of_eq m11 e11
    have h12 : Re (m' ((c : Thread Cert.Reference2Ideal.nD Cert.Reference2Ideal.τ).loc Cert.Reference2Ideal.main_arg12)) (inp m c).w2 := re_of_eq m12 e12
    have h13 : Re (m' ((c : Thread Cert.Reference2Ideal.nD Cert.Reference2Ideal.τ).loc Cert.Reference2Ideal.main_arg13)) (inp m c).gq := re_of_eq m13 e13
    have h14 : Re (m' ((c : Thread Cert.Reference2Ideal.nD Cert.Reference2Ideal.τ).loc Cert.Reference2Ideal.main_arg14)) (inp m c).gl := re_of_eq m14 e14
    have h15 : Re (m' ((c : Thread Cert.Reference2Ideal.nD Cert.Reference2Ideal.τ).loc Cert.Reference2Ideal.main_arg15)) (inp m c).wg := re_of_eq m15 e15
    have h16 : Re (m' ((c : Thread Cert.Reference2Ideal.nD Cert.Reference2Ideal.τ).loc Cert.Reference2Ideal.main_arg16)) (inp m c).wp := re_of_eq m16 e16
    exact ⟨((r0.trans (Cert.Reference2Ideal.Read.val_main_v125_eq (launchContents m' c))).trans (re_arr (s125 h0 h1 h2 h3 h4 h6 h7 h8 h9 h10 h11 h12 h13 h14 h15 h16))).trans (z_loss m g c (inp m c) e0 e1 e2 e3 e4 e6 e7 e8 e9 e10 e11 e12 e13 e14 e15 e16).symm,
      ((r1.trans (Cert.Reference2Ideal.Read.val_main_v269_eq (launchContents m' c))).trans (re_arr (s269 h0 h1 h2 h3 h4 h6 h7 h8 h9 h10 h11 h12 h13 h14 h15 h16))).trans (z_dya m g c (inp m c) e0 e1 e2 e3 e4 e6 e7 e8 e9 e10 e11 e12 e13 e14 e15 e16).symm,
      ((r2.trans (Cert.Reference2Ideal.Read.val_main_v250_eq (launchContents m' c))).trans (re_arr (s250 h0 h1 h2 h3 h4 h6 h7 h8 h9 h10 h11 h12 h13 h14 h15 h16))).trans (z_dyb m g c (inp m c) e0 e1 e2 e3 e4 e6 e7 e8 e9 e10 e11 e12 e13 e14 e15 e16).symm,
      ((r3.trans (Cert.Reference2Ideal.Read.val_main_v207_eq (launchContents m' c))).trans (re_arr (s207 h0 h1 h2 h3 h4 h6 h7 h8 h9 h10 h11 h12 h13 h14 h15 h16))).trans (z_dh1 m g c (inp m c) e0 e1 e2 e3 e4 e6 e7 e8 e9 e10 e11 e12 e13 e14 e15 e16).symm,
      ((r4.trans (Cert.Reference2Ideal.Read.val_main_v253_eq (launchContents m' c))).trans (re_arr (s253 h0 h1 h2 h3 h4 h6 h7 h8 h9 h10 h11 h12 h13 h14 h15 h16))).trans (z_dga m g c (inp m c) e0 e1 e2 e3 e4 e6 e7 e8 e9 e10 e11 e12 e13 e14 e15 e16).symm,
      ((r5.trans (Cert.Reference2Ideal.Read.val_main_v234_eq (launchContents m' c))).trans (re_arr (s234 h0 h1 h2 h3 h4 h6 h7 h8 h9 h10 h11 h12 h13 h14 h15 h16))).trans (z_dgb m g c (inp m c) e0 e1 e2 e3 e4 e6 e7 e8 e9 e10 e11 e12 e13 e14 e15 e16).symm,
      ((r6.trans (Cert.Reference2Ideal.Read.val_main_v228_eq (launchContents m' c))).trans (re_arr (s228 h0 h1 h2 h3 h4 h6 h7 h8 h9 h10 h11 h12 h13 h14 h15 h16))).trans (z_dwo m g c (inp m c) e0 e1 e2 e3 e4 e6 e7 e8 e9 e10 e11 e12 e13 e14 e15 e16).symm,
      ((r7.trans (Cert.Reference2Ideal.Read.val_main_v210_eq (launchContents m' c))).trans (re_arr (s210 h0 h1 h2 h3 h4 h6 h7 h8 h9 h10 h11 h12 h13 h14 h15 h16))).trans (z_dgp m g c (inp m c) e0 e1 e2 e3 e4 e6 e7 e8 e9 e10 e11 e12 e13 e14 e15 e16).symm,
      ((r8.trans (Cert.Reference2Ideal.Read.val_main_v190_eq (launchContents m' c))).trans (re_arr (s190 h0 h1 h2 h3 h4 h6 h7 h8 h9 h10 h11 h12 h13 h14 h15 h16))).trans (z_dgm m g c (inp m c) e0 e1 e2 e3 e4 e6 e7 e8 e9 e10 e11 e12 e13 e14 e15 e16).symm,
      ((r9.trans (Cert.Reference2Ideal.Read.val_main_v186_eq (launchContents m' c))).trans (re_arr (s186 h0 h1 h2 h3 h4 h6 h7 h8 h9 h10 h11 h12 h13 h14 h15 h16))).trans (z_dw1 m g c (inp m c) e0 e1 e2 e3 e4 e6 e7 e8 e9 e10 e11 e12 e13 e14 e15 e16).symm,
      ((r10.trans (Cert.Reference2Ideal.Read.val_main_v180_eq (launchContents m' c))).trans (re_arr (s180 h0 h1 h2 h3 h4 h6 h7 h8 h9 h10 h11 h12 h13 h14 h15 h16))).trans (z_dw2 m g c (inp m c) e0 e1 e2 e3 e4 e6 e7 e8 e9 e10 e11 e12 e13 e14 e15 e16).symm,
      ((r11.trans (Cert.Reference2Ideal.Read.val_main_v162_eq (launchContents m' c))).trans (re_arr (s162 h0 h1 h2 h3 h4 h6 h7 h8 h9 h10 h11 h12 h13 h14 h15 h16))).trans (z_dgq m g c (inp m c) e0 e1 e2 e3 e4 e6 e7 e8 e9 e10 e11 e12 e13 e14 e15 e16).symm,
      ((r12.trans (Cert.Reference2Ideal.Read.val_main_v142_eq (launchContents m' c))).trans (re_arr (s142 h0 h1 h2 h3 h4 h6 h7 h8 h9 h10 h11 h12 h13 h14 h15 h16))).trans (z_dgl m g c (inp m c) e0 e1 e2 e3 e4 e6 e7 e8 e9 e10 e11 e12 e13 e14 e15 e16).symm,
      ((r13.trans (Cert.Reference2Ideal.Read.val_main_v138_eq (launchContents m' c))).trans (re_arr (s138 h0 h1 h2 h3 h4 h6 h7 h8 h9 h10 h11 h12 h13 h14 h15 h16))).trans (z_dwg m g c (inp m c) e0 e1 e2 e3 e4 e6 e7 e8 e9 e10 e11 e12 e13 e14 e15 e16).symm,
      ((r14.trans (Cert.Reference2Ideal.Read.val_main_v135_eq (launchContents m' c))).trans (re_arr (s135 h0 h1 h2 h3 h4 h6 h7 h8 h9 h10 h11 h12 h13 h14 h15 h16))).trans (z_dwp m g c (inp m c) e0 e1 e2 e3 e4 e6 e7 e8 e9 e10 e11 e12 e13 e14 e15 e16).symm, a⟩

end Cert.Tail
end
end
-- ==== Proof.InRun.lean ====
module
public import proofs.«01_k».proof.Proof.Gen.Kernel3Ideal.Frame
@[expose] public section
set_option maxRecDepth 16384
noncomputable section
namespace Cert.Inp
open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ
variable (m : (ℓ : Loc nD τ sig) → Buf (Elt F) ℓ) (ρ : Dev nD → PrngReg)

-- plain definitions in a metavariable's type
set_option backward.isDefEq.respectTransparency.types false in
/-- Every execution of both calls and the host operations around them ends, and every buffer of a TensorCore then holds what
    the fold over the segments, `W9`, gives it. -/
theorem run : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]
        · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h hz => h)

end Cert.Inp
end
end
-- ==== Proof.InSpec.lean ====
module
public import proofs.«01_k».proof.Proof.TailSpec

@[expose] public section

set_option maxRecDepth 16384

noncomputable section

namespace Cert.Inp

open Idealize.ShloMosaic Cert.Tail

/-! The layers before the attention, in real numbers: in blocks of 128 columns, each two heads side by side, and head by head. -/

section spec
variable {m n : ℕ}

/-- `w` columns of a matrix, from column `o` on. -/
def sl (w o : ℕ) (h : o + w ≤ n) (P : Mat m n) : Mat m w := fun i j => P i ⟨o + j.val, by omega⟩
/-- The sum over the 64 columns of a column's own head. -/
def gs (f : Fin 128 → ℝ) (j : Fin 128) : ℝ := ∑ k : Fin 128, f k * (if k.val / 64 = j.val / 64 then 1 else 0)
/-- The indicator of two columns belonging to one head. -/
def one : Mat 128 128 := fun k j => if k.val / 64 = j.val / 64 then 1 else 0
/-- The inverse root of the mean square of a column's own head. -/
def lr (x : Fin 128 → ℝ) (j : Fin 128) : ℝ := (√(gs (fun k => x k * x k) j * (1 / 64) + eps))⁻¹
/-- The halves of each head exchanged. -/
def swp (f : Fin 128 → ℝ) (j : Fin 128) : ℝ :=
  if j.val % 64 < 32 then f ⟨(j.val + 128 - 96) % 128, Nat.mod_lt _ (by norm_num)⟩ else f ⟨(j.val + 128 - 32) % 128, Nat.mod_lt _ (by norm_num)⟩
/-- Each head of a row normalised. -/
def cN (x : Mat m 128) : Mat m 128 := fun i j => x i j * lr (x i) j
/-- The rotation of the heads by the angles of the tables. -/
def cR (y cc ss : Mat m 128) : Mat m 128 := fun i j => y i j * cc i j + swp (y i) j * ss i j
/-- The columns scaled. -/
def cS (y : Mat m 128) (g : Mat 1 128) : Mat m 128 := fun i j => y i j * g 0 j
/-- The rotation back. -/
def cD (y cc ss : Mat m 128) : Mat m 128 := fun i j => y i j * cc i j - swp (y i) j * ss i j
/-- The gradient of the heads' normalisation. -/
def cX (dn x : Mat m 128) (g : Mat 1 128) : Mat m 128 := fun i j =>
  lr (x i) j * (dn i j * g 0 j - cN x i j * (gs (fun k => dn i k * g 0 k * cN x i k) j * (1 / 64)))
/-- The gradient of the heads' scale, column by column. -/
def cG (dn x : Mat m 128) : Mat 1 128 := fun _ j => ∑ i, dn i j * cN x i j
/-- The cosines' table, repeated. -/
def CC (co : Mat m 32) : Mat m 128 := fun i j => co i ⟨j.val % 32, Nat.mod_lt _ (by norm_num)⟩
/-- The sines' table, repeated with the signs of the rotation. -/
def SS (si : Mat m 32) : Mat m 128 := fun i j =>
  if j.val % 64 < 32 then -si i ⟨j.val % 32, Nat.mod_lt _ (by norm_num)⟩ else si i ⟨j.val % 32, Nat.mod_lt _ (by norm_num)⟩
/-- The heads' scale, twice. -/
def G2 (g : Mat 1 64) : Mat 1 128 := fun _ j => g 0 ⟨j.val % 64, Nat.mod_lt _ (by norm_num)⟩

/-- Nine matrices side by side: six of 128 columns and three of 512. -/
def cat9 (a b c d e f : Mat m 128) (u v w : Mat m 512) : Mat m 2304 := fun i j =>
  if h1 : j.val < 128 then a i ⟨j.val, h1⟩
  else if h2 : j.val - 128 < 128 then b i ⟨j.val - 128, h2⟩
  else if h3 : j.val - 128 - 128 < 128 then c i ⟨j.val - 128 - 128, h3⟩
  else if h4 : j.val - 128 - 128 - 128 < 128 then d i ⟨j.val - 128 - 128 - 128, h4⟩
  else if h5 : j.val - 128 - 128 - 128 - 128 < 128 then e i ⟨j.val - 128 - 128 - 128 - 128, h5⟩
  else if h6 : j.val - 128 - 128 - 128 - 128 - 128 < 128 then f i ⟨j.val - 128 - 128 - 128 - 128 - 128, h6⟩
  else if h7 : j.val - 128 - 128 - 128 - 128 - 128 - 128 < 512 then u i ⟨j.val - 128 - 128 - 128 - 128 - 128 - 128, h7⟩
  else if h8 : j.val - 128 - 128 - 128 - 128 - 128 - 128 - 512 < 512 then v i ⟨j.val - 128 - 128 - 128 - 128 - 128 - 128 - 512, h8⟩
  else w i ⟨j.val - 128 - 128 - 128 - 128 - 128 - 128 - 512 - 512, by omega⟩

/-- The first 64 columns of the first matrix beside the first 64 of the second. -/
def mixA (a b : Mat m 128) : Mat m 128 := fun i j => if h : j.val < 64 then a i j else b i ⟨j.val - 64, by omega⟩
/-- The last 64 columns of the first matrix beside the last 64 of the second. -/
def mixB (a b : Mat m 128) : Mat m 128 := fun i j => if h : j.val < 64 then a i ⟨j.val + 64, by omega⟩ else b i j

/-- Column `d` of head `hh` of a block of two heads. -/
def ln (hh : Fin 2) (d : Fin 64) : Fin 128 := ⟨64 * hh.val + d.val, by omega⟩
/-- A head of a block of two. -/
def pick (hh : Fin 2) (x : Mat m 128) : Mat m 64 := fun i d => x i (ln hh d)
/-- A head's rotation: its halves are turned into each other. -/
def rp (y : Mat m 64) (co si : Mat m 32) : Mat m 64 := fun i d =>
  if h : d.val < 32 then y i d * co i ⟨d.val, h⟩ - y i ⟨d.val + 32, by omega⟩ * si i ⟨d.val, h⟩
  else y i d * co i ⟨d.val - 32, by omega⟩ + y i ⟨d.val - 32, by omega⟩ * si i ⟨d.val - 32, by omega⟩
/-- A head's rotation back. -/
def rt (y : Mat m 64) (co si : Mat m 32) : Mat m 64 := fun i d =>
  if h : d.val < 32 then y i d * co i ⟨d.val, h⟩ + y i ⟨d.val + 32, by omega⟩ * si i ⟨d.val, h⟩
  else y i d * co i ⟨d.val - 32, by omega⟩ - y i ⟨d.val - 32, by omega⟩ * si i ⟨d.val - 32, by omega⟩

theorem gs_ln (f : Fin 128 → ℝ) (hh : Fin 2) (d : Fin 64) : gs f (ln hh d) = ∑ e : Fin 64, f (ln hh e) := by
  unfold gs
  have hd := d.isLt
  refine (Fin.sum_univ_add (a := 64) (b := 64) (fun k : Fin 128 => f k * (if k.val / 64 = (ln hh d).val / 64 then 1 else 0))).trans ?_
  have l : ∀ e : Fin 64, (Fin.castAdd 64 e).val / 64 = 0 := fun e => by have := e.isLt; simp only [Fin.val_castAdd]; omega
  have r : ∀ e : Fin 64, (Fin.natAdd 64 e).val / 64 = 1 := fun e => by have := e.isLt; simp only [Fin.val_natAdd]; omega
  simp only [l, r]
  match hh with
  | ⟨0, _⟩ =>
    have e : (ln ⟨0, by norm_num⟩ d).val / 64 = 0 := by simp only [ln]; omega
    simp only [e, if_true, mul_one, one_ne_zero, if_false, mul_zero, Finset.sum_const_zero, add_zero]
    exact Finset.sum_congr rfl fun e _ => congrArg f (Fin.ext (by simp [ln]))
  | ⟨1, _⟩ =>
    have e : (ln ⟨1, by norm_num⟩ d).val / 64 = 1 := by simp only [ln]; omega
    simp only [e, if_true, mul_one, zero_ne_one, if_false, mul_zero, Finset.sum_const_zero, zero_add]
    exact Finset.sum_congr rfl fun e _ => congrArg f (Fin.ext (by simp [ln]; omega))

theorem lr_ln (x : Fin 128 → ℝ) (hh : Fin 2) (d : Fin 64) : lr x (ln hh d) = rs fun e => x (ln hh e) := by
  unfold lr rs
  rw [gs_ln, mul_one_div]
  norm_num

theorem pick_cN (hh : Fin 2) (x : Mat m 128) : pick hh (cN x) = nr (pick hh x) := by
  funext i d
  unfold pick cN nr
  rw [lr_ln]

theorem swp_ln (f : Fin 128 → ℝ) (hh : Fin 2) (d : Fin 64) : swp f (ln hh d) =
    if h : d.val < 32 then f (ln hh ⟨d.val + 32, by omega⟩) else f (ln hh ⟨d.val - 32, by omega⟩) := by
  have hd := d.isLt
  have h2 := hh.isLt
  have e : (ln hh d).val % 64 = d.val := by simp only [ln]; omega
  unfold swp
  rw [e]
  by_cases h : d.val < 32
  · rw [if_pos h, dif_pos h]; exact congrArg f (Fin.ext (by simp only [ln]; omega))
  · rw [if_neg h, dif_neg h]; exact congrArg f (Fin.ext (by simp only [ln]; omega))

theorem CC_ln (co : Mat m 32) (i : Fin m) (hh : Fin 2) (d : Fin 64) : CC co i (ln hh d) =
    if h : d.val < 32 then co i ⟨d.val, h⟩ else co i ⟨d.val - 32, by omega⟩ := by
  have hd := d.isLt
  unfold CC
  by_cases h : d.val < 32
  · rw [dif_pos h]; exact congrArg (co i) (Fin.ext (by simp only [ln]; omega))
  · rw [dif_neg h]; exact congrArg (co i) (Fin.ext (by simp only [ln]; omega))

theorem SS_ln (si : Mat m 32) (i : Fin m) (hh : Fin 2) (d : Fin 64) : SS si i (ln hh d) =
    if h : d.val < 32 then -si i ⟨d.val, h⟩ else si i ⟨d.val - 32, by omega⟩ := by
  have hd := d.isLt
  have e : (ln hh d).val % 64 = d.val := by simp only [ln]; omega
  unfold SS
  rw [e]
  by_cases h : d.val < 32
  · rw [dif_pos h, if_pos h]; exact congrArg (fun z => -si i z) (Fin.ext (by simp only [ln]; omega))
  · rw [dif_neg h, if_neg h]; exact congrArg (si i) (Fin.ext (by simp only [ln]; omega))

theorem G2_ln (g : Mat 1 64) (i : Fin 1) (hh : Fin 2) (d : Fin 64) : G2 g i (ln hh d) = g 0 d := by
  have hd := d.isLt
  unfold G2
  exact congrArg (g 0) (Fin.ext (by simp only [ln]; omega))

theorem pick_cS (hh : Fin 2) (x : Mat m 128) (g : Mat 1 64) : pick hh (cS (cN x) (G2 g)) = nrm (pick hh x) g := by
  funext i d
  unfold cS nrm
  rw [← pick_cN]
  unfold pick
  dsimp only
  rw [G2_ln]

theorem pick_cR (hh : Fin 2) (y : Mat m 128) (co si : Mat m 32) : pick hh (cR y (CC co) (SS si)) = rp (pick hh y) co si := by
  funext i d
  unfold cR rp pick
  dsimp only
  rw [CC_ln, SS_ln, swp_ln]
  by_cases h : d.val < 32
  · simp only [dif_pos h]; ring
  · simp only [dif_neg h]

theorem pick_cD (hh : Fin 2) (y : Mat m 128) (co si : Mat m 32) : pick hh (cD y (CC co) (SS si)) = rt (pick hh y) co si := by
  funext i d
  unfold cD rt pick
  dsimp only
  rw [CC_ln, SS_ln, swp_ln]
  by_cases h : d.val < 32
  · simp only [dif_pos h]; ring
  · simp only [dif_neg h]

theorem pick_cX (hh : Fin 2) (dn x : Mat m 128) (g : Mat 1 64) : pick hh (cX dn x (G2 g)) = nrx (pick hh dn) (pick hh x) g := by
  funext i d
  unfold cX nrx
  rw [← pick_cN]
  unfold pick
  dsimp only
  rw [gs_ln, lr_ln, mul_one_div]
  simp only [G2_ln]
  norm_num

theorem cG_ln (dn x : Mat m 128) (i : Fin 1) (hh : Fin 2) (d : Fin 64) : cG dn x i (ln hh d) = nrg (pick hh dn) (pick hh x) 0 d := by
  unfold cG nrg
  rw [← pick_cN]
  rfl

end spec

end Cert.Inp
end
-- ==== Proof.InHost.lean ====
module
public import proofs.«01_k».proof.Proof.Gen.Kernel3Ideal.Frame
public import proofs.«01_k».proof.Proof.InSpec
public import Idealize.ShloMosaic.Lib.Pointwise
public import Idealize.ShloMosaic.Lib.StableHlo.RunRead

@[expose] public section

set_option maxRecDepth 16384

noncomputable section

namespace Cert.Inp

open Cert.Kernel3Ideal Cert.Kernel3Ideal.Gen Cert.Tail
open Idealize.ShloMosaic Idealize.ShloMosaic.TcCoe Idealize.ShloMosaic.Tactic Idealize.SL.Sem Idealize.ShloMosaic.StableHlo

/-! What the host operations around the calls give. -/

section host
variable (V : Valuation τ sig (Elt Ideal))

theorem host_v0 {f : Mat 1024 2304} (v : (⟨2, ![1024, 2304]⟩ : Shape).Idx → EReal) (hv : V (Proc.devRef .tc main_arg2) = v) (h : Re v f) (i : Fin 1024) (j : Fin 2304) :
    @Eq EReal (after hostOps0 V (Proc.devRef .tc main_v0) (ix2 i j)) ((f i j : ℝ) : EReal) := by
  after_reads_simp
  rw [hv]
  pointwise []
  exact h i j

/-- The cosines' table in the buffer the first call reads: repeated four times. -/
theorem host_v1 {f : Mat 16384 32} (v : (⟨2, ![16384, 32]⟩ : Shape).Idx → EReal) (hv : V (Proc.devRef .tc main_arg5) = v) (h : Re v f) (i : Fin 16384) (j : Fin 128) :
    @Eq EReal (after hostOps0 V (Proc.devRef .tc main_v1) (ix2 i j)) ((CC f i j : ℝ) : EReal) := by
  subst hv
  after_reads_simp
  pointwise []
  unfold CC
  have hj := j.isLt
  by_cases h1 : j.val < 32
  · rw [dif_pos h1]; exact (h _ _).trans (congrArg (fun z => ((f i z : ℝ) : EReal)) (Fin.ext (by dsimp only; omega)))
  rw [dif_neg h1]
  by_cases h2 : j.val - 32 < 32
  · rw [dif_pos h2]; exact (h _ _).trans (congrArg (fun z => ((f i z : ℝ) : EReal)) (Fin.ext (by dsimp only; omega)))
  rw [dif_neg h2]
  by_cases h3 : j.val - 32 - 32 < 32
  · rw [dif_pos h3]; exact (h _ _).trans (congrArg (fun z => ((f i z : ℝ) : EReal)) (Fin.ext (by dsimp only; omega)))
  rw [dif_neg h3]
  exact (h _ _).trans (congrArg (fun z => ((f i z : ℝ) : EReal)) (Fin.ext (by dsimp only; omega)))

omit V in
theorem SS_lo {m : ℕ} (f : Mat m 32) (i : Fin m) (j : Fin 128) (k : Fin 32) (h : j.val % 64 < 32) (e : k.val = j.val % 32) : -f i k = SS f i j := by
  unfold SS
  rw [if_pos h]
  exact congrArg (fun z => -f i z) (Fin.ext e)
omit V in
theorem SS_hi {m : ℕ} (f : Mat m 32) (i : Fin m) (j : Fin 128) (k : Fin 32) (h : ¬j.val % 64 < 32) (e : k.val = j.val % 32) : f i k = SS f i j := by
  unfold SS
  rw [if_neg h]
  exact congrArg (fun z => f i z) (Fin.ext e)

/-- The sines' table in the buffer the first call reads: repeated four times, with the signs of the rotation. -/
theorem host_v4 {f : Mat 16384 32} (v : (⟨2, ![16384, 32]⟩ : Shape).Idx → EReal) (hv : V (Proc.devRef .tc main_arg6) = v) (h : Re v f) (i : Fin 16384) (j : Fin 128) :
    @Eq EReal (after hostOps0 V (Proc.devRef .tc main_v4) (ix2 i j)) ((SS f i j : ℝ) : EReal) := by
  subst hv
  after_reads_simp
  pointwise []
  have hj := j.isLt
  by_cases h1 : j.val < 32
  · rw [dif_pos h1]
    after_reads_simp
    pointwise []
    exact (congrArg Neg.neg (h _ _)).trans (congrArg Real.toEReal (SS_lo f i j _ (by omega) (by dsimp only; omega)))
  rw [dif_neg h1]
  by_cases h2 : j.val - 32 < 32
  · rw [dif_pos h2]; exact (h _ _).trans (congrArg Real.toEReal (SS_hi f i j _ (by omega) (by dsimp only; omega)))
  rw [dif_neg h2]
  by_cases h3 : j.val - 32 - 32 < 32
  · rw [dif_pos h3]
    after_reads_simp
    pointwise []
    exact (congrArg Neg.neg (h _ _)).trans (congrArg Real.toEReal (SS_lo f i j _ (by omega) (by dsimp only; omega)))
  rw [dif_neg h3]
  exact (h _ _).trans (congrArg Real.toEReal (SS_hi f i j _ (by omega) (by dsimp only; omega)))

/-- The scale of the queries' heads, twice. -/
theorem host_v5 {f : Mat 1 64} (v : (⟨2, ![1, 64]⟩ : Shape).Idx → EReal) (hv : V (Proc.devRef .tc main_arg3) = v) (h : Re v f) (i : Fin 1) (j : Fin 128) :
    @Eq EReal (after hostOps0 V (Proc.devRef .tc main_v5) (ix2 i j)) ((G2 f i j : ℝ) : EReal) := by
  subst hv
  after_reads_simp
  pointwise []
  unfold G2
  have hj := j.isLt
  by_cases h1 : j.val < 64
  · rw [dif_pos h1]; exact (h _ _).trans (congrArg (fun z => ((f 0 z : ℝ) : EReal)) (Fin.ext (by dsimp only; omega)))
  rw [dif_neg h1]
  exact (h _ _).trans (congrArg (fun z => ((f 0 z : ℝ) : EReal)) (Fin.ext (by dsimp only; omega)))

/-- The scale of the keys' heads, twice. -/
theorem host_v6 {f : Mat 1 64} (v : (⟨2, ![1, 64]⟩ : Shape).Idx → EReal) (hv : V (Proc.devRef .tc main_arg4) = v) (h : Re v f) (i : Fin 1) (j : Fin 128) :
    @Eq EReal (after hostOps0 V (Proc.devRef .tc main_v6) (ix2 i j)) ((G2 f i j : ℝ) : EReal) := by
  subst hv
  after_reads_simp
  pointwise []
  unfold G2
  have hj := j.isLt
  by_cases h1 : j.val < 64
  · rw [dif_pos h1]; exact (h _ _).trans (congrArg (fun z => ((f 0 z : ℝ) : EReal)) (Fin.ext (by dsimp only; omega)))
  rw [dif_neg h1]
  exact (h _ _).trans (congrArg (fun z => ((f 0 z : ℝ) : EReal)) (Fin.ext (by dsimp only; omega)))

theorem host_v7 (j : S128.Idx) : @Eq (BitVec 32) (after hostOps0 V (Proc.devRef .tc main_v7) j) (BitVec.ofNat 32 (j 0).val) := by
  after_reads_simp
  pointwise []
theorem host_v8 (j : Fin 128) : @Eq (BitVec 32) (after hostOps0 V (Proc.devRef .tc main_v8) (ix2 j 0)) (BitVec.ofNat 32 j.val) := by
  after_reads_simp
  pointwise []
theorem host_c (j : S_.Idx) : @Eq (BitVec 32) (after hostOps0 V (Proc.devRef .tc main_c) j) 64#32 := by
  after_reads_simp
  pointwise []
theorem host_c0 (j : S_.Idx) : @Eq (BitVec 32) (after hostOps0_2 V (Proc.devRef .tc main_c_0) j) 64#32 := by
  after_reads_simp
  pointwise []
theorem host_v10 (v : S128.Idx → BitVec 32) (hv : V (Proc.devRef .tc main_v7) = v) (h : ∀ j : S128.Idx, v j = BitVec.ofNat 32 (j 0).val) (j : Fin 128) :
    @Eq (BitVec 32) (after hostOps0_2 V (Proc.devRef .tc main_v10) (ix2 0 j)) (BitVec.ofNat 32 j.val) := by
  after_reads_simp
  rw [hv]
  pointwise []
  exact h _
theorem host_v9 (v : S128x1.Idx → BitVec 32) (hv : V (Proc.devRef .tc main_v8) = v) (h : ∀ j : Fin 128, v (ix2 j 0) = BitVec.ofNat 32 j.val)
    (w : S_.Idx → BitVec 32) (hw : V (Proc.devRef .tc main_c) = w) (h' : ∀ j, w j = 64#32) (j : Fin 128) :
    @Eq (BitVec 32) (after hostOps0_1 V (Proc.devRef .tc main_v9) (ix2 j 0)) (BitVec.ofNat 32 (j.val / 64)) := by
  after_reads_simp
  simp only [TRef.ofBuf_toBuf]
  rw [hv, hw]
  show select (andi (cmpi .ne (signi v) (broadcastInDim S128x1 ![] bcast_S_S128x1 (signi w)))
      (cmpi .ne (Host.remsi v (broadcastInDim S128x1 ![] bcast_S_S128x1 w)) (broadcastInDim S128x1 ![] bcast_S_S128x1 (constantI S_ 32 0#32))))
    (subi (Host.divsi v (broadcastInDim S128x1 ![] bcast_S_S128x1 w)) (broadcastInDim S128x1 ![] bcast_S_S128x1 (constantI S_ 32 1#32)))
    (Host.divsi v (broadcastInDim S128x1 ![] bcast_S_S128x1 w)) (ix2 j 0) = _
  pointwise []
  rw [h]
  simp only [h']
  revert j
  decide +kernel
theorem host_v11 (v : S1x128.Idx → BitVec 32) (hv : V (Proc.devRef .tc main_v10) = v) (h : ∀ j : Fin 128, v (ix2 0 j) = BitVec.ofNat 32 j.val)
    (w : S_.Idx → BitVec 32) (hw : V (Proc.devRef .tc main_c_0) = w) (h' : ∀ j, w j = 64#32) (j : Fin 128) :
    @Eq (BitVec 32) (after hostOps0_3 V (Proc.devRef .tc main_v11) (ix2 0 j)) (BitVec.ofNat 32 (j.val / 64)) := by
  after_reads_simp
  simp only [TRef.ofBuf_toBuf]
  rw [hv, hw]
  show select (andi (cmpi .ne (signi v) (broadcastInDim S1x128 ![] bcast_S_S1x128 (signi w)))
      (cmpi .ne (Host.remsi v (broadcastInDim S1x128 ![] bcast_S_S1x128 w)) (broadcastInDim S1x128 ![] bcast_S_S1x128 (constantI S_ 32 0#32))))
    (subi (Host.divsi v (broadcastInDim S1x128 ![] bcast_S_S1x128 w)) (broadcastInDim S1x128 ![] bcast_S_S1x128 (constantI S_ 32 1#32)))
    (Host.divsi v (broadcastInDim S1x128 ![] bcast_S_S1x128 w)) (ix2 0 j) = _
  pointwise []
  rw [h]
  simp only [h']
  revert j
  decide +kernel

/-- The matrix of ones where two columns belong to one head. -/
theorem host_v15 (v : S128x1.Idx → BitVec 32) (hv : V (Proc.devRef .tc main_v9) = v) (h : ∀ j : Fin 128, v (ix2 j 0) = BitVec.ofNat 32 (j.val / 64))
    (w : S1x128.Idx → BitVec 32) (hw : V (Proc.devRef .tc main_v11) = w) (h' : ∀ j : Fin 128, w (ix2 0 j) = BitVec.ofNat 32 (j.val / 64)) (i j : Fin 128) :
    @Eq EReal (after hostOps0_4 V (Proc.devRef .tc main_v15) (ix2 i j)) ((one i j : ℝ) : EReal) := by
  subst hv hw
  after_reads_simp
  pointwise []
  rw [h, h']
  unfold one
  by_cases e : i.val / 64 = j.val / 64
  · rw [if_pos e, e]
    have k : IntOp.cmpi CmpIPredicate.eq (BitVec.ofNat 32 (j.val / 64)) (BitVec.ofNat 32 (j.val / 64)) = 1#1 := by simp [IntOp.cmpi]
    rw [k]
    show (((1#1 : BitVec 1).toNat : ℝ) : EReal) = _
    norm_num
  · rw [if_neg e]
    have k : IntOp.cmpi CmpIPredicate.eq (BitVec.ofNat 32 (i.val / 64)) (BitVec.ofNat 32 (j.val / 64)) = 0#1 := by
      revert i j
      decide +kernel
    rw [k]
    show (((0#1 : BitVec 1).toNat : ℝ) : EReal) = _
    norm_num
theorem host_v17 {f : Mat 16384 2304} (v : (⟨2, ![16384, 2304]⟩ : Shape).Idx → EReal) (hv : V (Proc.devRef .tc main_arg7) = v) (h : Re v f) (i : Fin 16384) (j : Fin 2304) :
    @Eq EReal (after hostOps1 V (Proc.devRef .tc main_v17) (ix2 i j)) ((f i j : ℝ) : EReal) := by
  after_reads_simp
  rw [hv]
  pointwise []
  exact h i j
theorem host_v19 {f : Mat 16384 512} (v : (⟨2, ![16384, 512]⟩ : Shape).Idx → EReal) (hv : V (Proc.devRef .tc main_v16_3) = v) (h : Re v f) (i : Fin 16384) (j : Fin 512) :
    @Eq EReal (after hostOps2 V (Proc.devRef .tc main_v19) (ix2 i j)) ((f i j : ℝ) : EReal) := by
  after_reads_simp
  rw [hv]
  pointwise []
  exact h i j
theorem host_v21 {f : Mat 16384 512} (v : (⟨2, ![16384, 512]⟩ : Shape).Idx → EReal) (hv : V (Proc.devRef .tc main_v16_5) = v) (h : Re v f) (i : Fin 16384) (j : Fin 512) :
    @Eq EReal (after hostOps2 V (Proc.devRef .tc main_v21) (ix2 i j)) ((f i j : ℝ) : EReal) := by
  after_reads_simp
  rw [hv]
  pointwise []
  exact h i j
theorem host_v22 {f : Mat 16384 512} (v : (⟨2, ![16384, 512]⟩ : Shape).Idx → EReal) (hv : V (Proc.devRef .tc main_v16_6) = v) (h : Re v f) (i : Fin 16384) (j : Fin 512) :
    @Eq EReal (after hostOps2 V (Proc.devRef .tc main_v22) (ix2 i j)) ((f i j : ℝ) : EReal) := by
  after_reads_simp
  rw [hv]
  pointwise []
  exact h i j
theorem host_v23 {f : Mat 16384 512} (v : (⟨2, ![16384, 512]⟩ : Shape).Idx → EReal) (hv : V (Proc.devRef .tc main_v16_7) = v) (h : Re v f) (i : Fin 16384) (j : Fin 512) :
    @Eq EReal (after hostOps2 V (Proc.devRef .tc main_v23) (ix2 i j)) ((f i j : ℝ) : EReal) := by
  after_reads_simp
  rw [hv]
  pointwise []
  exact h i j
theorem host_v20 {f : Fin 2 → Mat 16384 128} (v : (⟨3, ![2, 16384, 128]⟩ : Shape).Idx → EReal) (hv : V (Proc.devRef .tc main_v16_4) = v)
    (h : ∀ g i j, v (ix3 g i j) = ((f g i j : ℝ) : EReal)) (g : Fin 2) (i : Fin 16384) (j : Fin 128) :
    @Eq EReal (after hostOps2 V (Proc.devRef .tc main_v20) (ix3 g i j)) ((f g i j : ℝ) : EReal) := by
  after_reads_simp
  rw [hv]
  pointwise []
  exact h g i j
end host
end Cert.Inp
end
end
-- ==== Proof.InPay.lean ====
module
public import proofs.«01_k».proof.Proof.InSpec
public import proofs.«01_k».proof.Proof.TailAcc
public import proofs.«01_k».proof.Proof.FwdRead
public import proofs.«01_k».proof.Proof.Gen.Kernel3Ideal.Skeleton

@[expose] public section

set_option maxRecDepth 16384

noncomputable section

namespace Cert.Inp

open Cert.Kernel3Ideal Cert.Kernel3Ideal.Gen Cert.Tail
open Idealize.ShloMosaic Idealize.ShloMosaic.TcCoe Idealize.ShloMosaic.Tactic Idealize.SL.Sem

/-! What the values of the bodies of the input projection and of its gradient are, at real inputs. -/

/-- A block of 512 rows and two heads. -/
abbrev V := FVec Ideal S512x128 .f32

/-- The product of a block with the heads' indicator, in three parts. -/
def xd (o : FVec Ideal S128x128 .bf16) (a : V) : V :=
  have p : FVec Ideal S512x128 .bf16 := truncf .bf16 a bitsLt_bf16_f32
  have r : V := subf a (extf .f32 p bitsLt_bf16_f32)
  have q : FVec Ideal S512x128 .bf16 := truncf .bf16 r bitsLt_bf16_f32
  have s : FVec Ideal S512x128 .bf16 := truncf .bf16 (subf r (extf .f32 q bitsLt_bf16_f32)) bitsLt_bf16_f32
  addf (addf (matmul dot_S512x128_S128x128_S512x128_1_0_0_1_n_n none p o (constant S512x128 .f32 0x00000000#32))
    (matmul dot_S512x128_S128x128_S512x128_1_0_0_1_n_n none q o (constant S512x128 .f32 0x00000000#32)))
    (matmul dot_S512x128_S128x128_S512x128_1_0_0_1_n_n none s o (constant S512x128 .f32 0x00000000#32))
/-- The inverse root of the heads' mean squares. -/
def rV (o : FVec Ideal S128x128 .bf16) (x : V) : V :=
  rsqrt (addf (mulf (xd o (mulf x x)) (broadcast S512x128 (Scalar.ofBits (F := Ideal) .f32 0x3C800000#32))) (broadcast S512x128 (Scalar.ofBits (F := Ideal) .f32 0x358637BD#32)))
/-- The halves of each head exchanged. -/
def swV (y : V) : V := select k0_pay3 (dynamicRotate 1 96#32 none y rotates_S512x128_d1) (dynamicRotate 1 32#32 none y rotates_S512x128_d1)
/-- A row over all rows of a block. -/
def bV (g : FVec Ideal S1x128 .f32) : V := broadcastTo S512x128 g broadcasts_S1x128_S512x128
/-- A number over a block. -/
def kV (b : BitVec 32) : V := broadcast S512x128 (Scalar.ofBits (F := Ideal) .f32 b)
theorem k64 : Ideal.ofBits .f32 0x3C800000#32 = ((1 / 64 : ℝ) : EReal) := by
  simp [Ideal.ofBits, Ideal.ieee]
  refine congrArg Real.toEReal ?_
  norm_num
theorem k8 : Ideal.ofBits .f32 0x3E000000#32 = ((1 / 8 : ℝ) : EReal) := by
  simp [Ideal.ofBits, Ideal.ieee]
  refine congrArg Real.toEReal ?_
  norm_num

theorem lr_pos (x : Fin 128 → ℝ) (j : Fin 128) : 0 < gs (fun k => x k * x k) j * (1 / 64) + eps := by
  refine add_pos_of_nonneg_of_pos (mul_nonneg (Finset.sum_nonneg fun k _ => mul_nonneg (mul_self_nonneg _) ?_) (by norm_num)) eps_pos
  split_ifs <;> norm_num

theorem lrq (x : Fin 128 → ℝ) (j : Fin 128) : Ideal.rsqrt ((gs (fun k => x k * x k) j * (1 / 64) + eps : ℝ) : EReal) = ((lr x j : ℝ) : EReal) := by
  have h := lr_pos x j
  show (if _ < 0 then ⊥ else if _ = 0 then ⊤ else _) = _
  rw [if_neg (by linarith), if_neg (by linarith)]
  rfl

section ops
variable {o : FVec Ideal S128x128 .bf16} (ho : Re o one)

include ho in
theorem xd_re {a : V} {A : Mat 512 128} (ha : Re a A) : Re (xd o a) (fun i j => gs (A i) j) := by
  intro i j
  unfold xd
  pointwise
  simp only [ha, ho, esub, emul, esum, eadd, sub_self, zero_mul, Finset.sum_const_zero, add_zero]
  rfl

theorem mul_re {a b : V} {A B : Mat 512 128} (ha : Re a A) (hb : Re b B) : Re (mulf a b) (had A B) := fun i j => by
  pointwise
  rw [ha, hb, emul]; rfl
theorem add_re {a b : V} {A B : Mat 512 128} (ha : Re a A) (hb : Re b B) : Re (addf a b) (plus A B) := fun i j => by
  pointwise
  rw [ha, hb, eadd]; rfl
theorem sub_re {a b : V} {A B : Mat 512 128} (ha : Re a A) (hb : Re b B) : Re (subf a b) (fun i j => A i j - B i j) := fun i j => by
  pointwise
  rw [ha, hb, esub]
theorem bV_re {g : FVec Ideal S1x128 .f32} {G : Mat 1 128} (h : Re g G) : Re (bV g) (fun _ j => G 0 j) := fun i j => by
  unfold bV
  pointwise
  exact h 0 j

include ho in
theorem rV_re {x : V} {X : Mat 512 128} (hx : Re x X) : Re (rV o x) (fun i j => lr (X i) j) := fun i j => by
  have q := xd_re ho (mul_re hx hx) i j
  unfold rV
  generalize xd o (mulf x x) = y at *
  pointwise
  rw [q, k64, emul, eps_bits, eadd]
  exact lrq (X i) j

theorem mask_eq (j : Fin 128) : k0_pay3 (ix2 (0 : Fin 512) j) = if j.val % 64 < 32 then 1#1 else 0#1 := by
  pointwise [k0_pay3]
  revert j
  decide

theorem swV_re {y : V} {Y : Mat 512 128} (hy : Re y Y) : Re (swV y) (fun i j => swp (Y i) j) := fun i j => by
  have e := mask_eq j
  unfold swV
  revert e
  pointwise [k0_pay3]
  intro e
  rw [e]
  unfold swp
  by_cases h : j.val % 64 < 32
  · rw [if_pos h, if_pos h]; exact hy _ _
  · rw [if_neg h, if_neg h]; exact hy _ _

theorem c39 (v : FVec Ideal S128x128 .bf16) : k0_pay4 v = v := by
  funext y
  obtain ⟨i, j, rfl⟩ : ∃ (i j : Fin 128), y = ix2 i j := ⟨y 0, y 1, eq_ix2 y⟩
  pointwise [k0_pay4]
theorem cV (v : V) : k0_pay5 v = v := by
  funext y
  obtain ⟨i, j, rfl⟩ : ∃ (i : Fin 512) (j : Fin 128), y = ix2 i j := ⟨y 0, y 1, eq_ix2 y⟩
  pointwise [k0_pay5]
theorem c1 (v : FVec Ideal S1x128 .f32) : k0_pay13 v = v := by
  funext y
  obtain ⟨i, j, rfl⟩ : ∃ (i : Fin 1) (j : Fin 128), y = ix2 i j := ⟨y 0, y 1, eq_ix2 y⟩
  pointwise [k0_pay13]

/-- A block's heads normalised, scaled and rotated. -/
def fV (o : FVec Ideal S128x128 .bf16) (cc ss : V) (g : FVec Ideal S1x128 .f32) (x : V) : V :=
  have y := mulf (mulf x (rV o x)) (bV g)
  addf (mulf y cc) (mulf (swV y) ss)

section heads
variable {cc ss : V} {C S : Mat 512 128} {g : FVec Ideal S1x128 .f32} {G : Mat 1 128} {x y : V} {X Y : Mat 512 128}
variable (hc : Re cc C) (hs : Re ss S) (hg : Re g G) (hx : Re x X) (hy : Re y Y)

include ho hx in
theorem nV_re : Re (mulf x (rV o x)) (cN X) := mul_re hx (rV_re ho hx)

include ho hg hx in
theorem sV_re : Re (mulf (mulf x (rV o x)) (bV g)) (cS (cN X) G) := mul_re (nV_re ho hx) (bV_re hg)

include ho hc hs hg hx in
theorem fV_re : Re (fV o cc ss g x) (cR (cS (cN X) G) C S) :=
  add_re (mul_re (sV_re ho hg hx) hc) (mul_re (swV_re (sV_re ho hg hx)) hs)

theorem k8_re : Re (kV 0x3E000000#32) (fun _ _ => 1 / 8 : Mat 512 128) := fun i j => by unfold kV; pointwise; exact k8
theorem k64_re : Re (kV 0x3C800000#32) (fun _ _ => 1 / 64 : Mat 512 128) := fun i j => by unfold kV; pointwise; exact k64

include hy in
theorem s8_re : Re (mulf y (kV 0x3E000000#32)) (scl Y (1 / 8)) := mul_re hy k8_re

end heads

section first
variable {m : ℕ} {p : FVec Ideal S512x2304 .f32} {P : Mat 512 2304} (hp : Re p P)
include hp
theorem e0 : Re (extractStridedSlice S512x128 ![0, 0] p slices_S512x2304_o0_0_S512x128) (sl 128 0 (by norm_num) P) := fun i j => by
  pointwise
  rw [hp]; unfold sl; simp only [zero_add]
theorem e1' : Re (extractStridedSlice S512x128 ![0, 128] p slices_S512x2304_o0_128_S512x128) (sl 128 128 (by norm_num) P) := fun i j => by
  pointwise
  rw [hp]; rfl
theorem e2 : Re (k0_pay12 p) (sl 128 256 (by norm_num) P) := fun i j => by
  pointwise [k0_pay12]
  rw [hp]; rfl
theorem e3 : Re (k0_pay15 p) (sl 128 384 (by norm_num) P) := fun i j => by
  pointwise [k0_pay15]
  rw [hp]; rfl
theorem e4 : Re (k0_pay8 p) (sl 128 512 (by norm_num) P) := fun i j => by
  pointwise [k0_pay8]
  rw [hp]; rfl
theorem e5 : Re (k0_pay26 p) (sl 128 640 (by norm_num) P) := fun i j => by
  pointwise [k0_pay26]
  rw [hp]; rfl
theorem eq' : Re (k0_pay7 p) (sl 512 0 (by norm_num) P) := fun i j => by
  pointwise [k0_pay7]
  rw [hp]; unfold sl; simp only [zero_add]
theorem eqb : Re (k0_pay30 p) (scl (sl 512 768 (by norm_num) P) (1 / 8)) := fun i j => by
  pointwise [k0_pay30]
  simp only [hp, k8, emul]; rfl
theorem ekb : Re (k0_pay31 p) (sl 512 1280 (by norm_num) P) := fun i j => by
  pointwise [k0_pay31]
  rw [hp]; rfl
theorem evb : Re (k0_pay32 p) (sl 512 1792 (by norm_num) P) := fun i j => by
  pointwise [k0_pay32]
  rw [hp]; rfl

variable {cc ss : V} {C S : Mat 512 128} {g : FVec Ideal S1x128 .f32} {G : Mat 1 128} (hc : Re cc C) (hs : Re ss S) (hg : Re g G)
include ho hc hs hg

theorem q0 : Re (k0_pay10 (k0_pay9 p k0_pay3 o cc ss g)) (scl (cR (cS (cN (sl 128 0 (by norm_num) P)) G) C S) (1 / 8)) := by
  have h := s8_re (fV_re ho hc hs hg (e0 hp))
  have e : k0_pay10 (k0_pay9 p k0_pay3 o cc ss g) = mulf (fV (k0_pay4 o) (k0_pay5 cc) (k0_pay5 ss) (k0_pay13 g)
    (extractStridedSlice S512x128 ![0, 0] p slices_S512x2304_o0_0_S512x128)) (kV 0x3E000000#32) := rfl
  rw [e, c39, cV, cV, c1]
  exact h
theorem q1 : Re (k0_pay11 p k0_pay3 o cc ss g) (scl (cR (cS (cN (sl 128 128 (by norm_num) P)) G) C S) (1 / 8)) := by
  have h := s8_re (fV_re ho hc hs hg (e1' hp))
  have e : k0_pay11 p k0_pay3 o cc ss g = mulf (fV o cc ss (k0_pay13 g)
    (extractStridedSlice S512x128 ![0, 128] p slices_S512x2304_o0_128_S512x128)) (kV 0x3E000000#32) := rfl
  rw [e, c1]
  exact h
theorem q2 : Re (k0_pay14 k0_pay3 o cc ss (k0_pay12 p) g) (scl (cR (cS (cN (sl 128 256 (by norm_num) P)) G) C S) (1 / 8)) :=
  s8_re (fV_re ho hc hs hg (e2 hp))
theorem q3 : Re (k0_pay23 k0_pay3 o cc ss (k0_pay15 p) g (k0_pay21 p) (k0_pay22 p o)) (scl (cR (cS (cN (sl 128 384 (by norm_num) P)) G) C S) (1 / 8)) :=
  s8_re (fV_re ho hc hs hg (e3 hp))
theorem kk : Re (k0_pay25 k0_pay3 cc ss (k0_pay24 p o g)) (cR (cS (cN (sl 128 512 (by norm_num) P)) G) C S) := by
  have h := fV_re ho hc hs hg (e4 hp)
  have e : k0_pay25 k0_pay3 cc ss (k0_pay24 p o g) = fV o cc ss (k0_pay13 g) (k0_pay8 p) := rfl
  rw [e, c1]
  exact h

theorem kv0 (i : Fin 512) (j : Fin 128) : k0_pay28 p k0_pay3 cc ss (k0_pay24 p o g) (ix3 0 i j)
    = ((mixA (cR (cS (cN (sl 128 512 (by norm_num) P)) G) C S) (sl 128 640 (by norm_num) P) i j : ℝ) : EReal) := by
  have h := kk ho hp hc hs hg
  have h2 := e5 hp
  unfold k0_pay28
  generalize k0_pay25 k0_pay3 cc ss (k0_pay24 p o g) = y at *
  generalize k0_pay26 p = z at *
  pointwise [k0_pay27]
  rw [KernelIdeal.Att.select_low]
  unfold mixA
  by_cases hj : j.val < 64
  · rw [if_pos hj, dif_pos hj]; exact h _ _
  · rw [if_neg hj, dif_neg hj, h2]
    refine congrArg (fun q => ((sl 128 640 (by norm_num) P i q : ℝ) : EReal)) (Fin.ext ?_)
    dsimp only
    omega
theorem kv1 (i : Fin 512) (j : Fin 128) : k0_pay29 p k0_pay3 cc ss (k0_pay24 p o g) (ix3 0 i j)
    = ((mixB (cR (cS (cN (sl 128 512 (by norm_num) P)) G) C S) (sl 128 640 (by norm_num) P) i j : ℝ) : EReal) := by
  have h := kk ho hp hc hs hg
  have h2 := e5 hp
  unfold k0_pay29
  generalize k0_pay25 k0_pay3 cc ss (k0_pay24 p o g) = y at *
  generalize k0_pay26 p = z at *
  pointwise [k0_pay27]
  rw [KernelIdeal.Att.select_low]
  unfold mixB
  by_cases hj : j.val < 64
  · rw [if_pos hj, dif_pos hj, h]
    refine congrArg (fun q => ((cR (cS (cN (sl 128 512 (by norm_num) P)) G) C S i q : ℝ) : EReal)) (Fin.ext ?_)
    dsimp only
    omega
  · rw [if_neg hj, dif_neg hj]; exact h2 _ _
end first

theorem pxn {x : FVec Ideal S512x1024 .f32} {g : FVec Ideal S1x1024 .f32} {X : Mat 512 1024} {G : Mat 1 1024} (hx : Re x X) (hg : Re g G) :
    Re (k0_pay1 (F := Ideal) x g) (nrm X G) := fun i j => by
  pointwise [k0_pay1]
  simp only [hx, hg, emul, esum, k1024, div1024, eps_bits, eadd, rsq, Ideal.ofBits_def]
  rfl
theorem pproj {x : FVec Ideal S512x1024 .f32} {g : FVec Ideal S1x1024 .f32} {w : FVec Ideal S1024x2304 .bf16} {X : Mat 512 1024} {G : Mat 1 1024} {W : Mat 1024 2304}
    (hx : Re x X) (hg : Re g G) (hw : Re w W) : Re (k0_pay2 (F := Ideal) x g w) (mm (nrm X G) W) := fun i j => by
  have h := pxn hx hg
  unfold k0_pay2
  generalize k0_pay1 (F := Ideal) x g = y at *
  pointwise
  simp only [h, hw, emul, esum]
  rfl
end ops
end Cert.Inp
end
-- ==== Proof.InHeads.lean ====
module
public import proofs.«01_k».proof.Proof.InSpec

@[expose] public section

set_option maxRecDepth 16384

noncomputable section

namespace Cert.Inp

open Idealize.ShloMosaic Cert.Tail

/-! The results of the layers before the attention, head by head. -/

section heads
variable {m n : ℕ}

/-- A head, from column `o` of the projection on, normalised, scaled and rotated. -/
def hdn (o : ℕ) (h : o + 64 ≤ n) (P : Mat m n) (g : Mat 1 64) (co si : Mat m 32) : Mat m 64 := rp (nrm (sl 64 o h P) g) co si

/-- The queries of the first attention: eight heads, with the scale of the attention. -/
def qaF (P : Mat m 2304) (g : Mat 1 64) (co si : Mat m 32) : Mat m 512 := fun i j =>
  hdn (64 * (j.val / 64)) (by have := j.isLt; omega) P g co si i ⟨j.val % 64, Nat.mod_lt _ (by norm_num)⟩ * (1 / 8)
/-- The keys and values of the first attention: a key head beside its value head. -/
def kvF (P : Mat m 2304) (g : Mat 1 64) (co si : Mat m 32) (u : Fin 2) : Mat m 128 := fun i j =>
  if h : j.val < 64 then hdn (512 + 64 * u.val) (by have := u.isLt; omega) P g co si i ⟨j.val, h⟩
  else P i ⟨640 + 64 * u.val + (j.val - 64), by have := u.isLt; have := j.isLt; omega⟩

theorem hdn_congr {o o' : ℕ} (h : o + 64 ≤ n) (h' : o' + 64 ≤ n) (P : Mat m n) (g : Mat 1 64) (co si : Mat m 32) (i : Fin m) (d d' : Fin 64)
    (e : o = o') (ed : d.val = d'.val) : hdn o h P g co si i d = hdn o' h' P g co si i d' := by
  subst e
  exact congrArg _ (Fin.ext ed)

/-- A block of two heads normalised, scaled and rotated. -/
def hn (x : Mat m 128) (g : Mat 1 128) (cc ss : Mat m 128) : Mat m 128 := cR (cS (cN x) g) cc ss

theorem pick_sl (hh : Fin 2) (o : ℕ) (h : o + 128 ≤ n) (P : Mat m n) : pick hh (sl 128 o h P) = sl 64 (o + 64 * hh.val) (by have := hh.isLt; omega) P := by
  funext i d
  unfold pick sl ln
  exact congrArg (P i) (Fin.ext (by dsimp only; omega))

theorem hn_ln (o : ℕ) (h : o + 128 ≤ n) (P : Mat m n) (g : Mat 1 64) (co si : Mat m 32) (i : Fin m) (hh : Fin 2) (d : Fin 64) :
    hn (sl 128 o h P) (G2 g) (CC co) (SS si) i (ln hh d) = hdn (o + 64 * hh.val) (by have := hh.isLt; omega) P g co si i d := by
  have e := congrFun (congrFun (pick_cR hh (cS (cN (sl 128 o h P)) (G2 g)) co si) i) d
  rw [pick_cS, pick_sl] at e
  exact e

theorem hn_at (o : ℕ) (h : o + 128 ≤ n) (P : Mat m n) (g : Mat 1 64) (co si : Mat m 32) (i : Fin m) (j : Fin 128)
    {o' : ℕ} (h' : o' + 64 ≤ n) (d : Fin 64) (e : o + 64 * (j.val / 64) = o') (ed : j.val % 64 = d.val) :
    hn (sl 128 o h P) (G2 g) (CC co) (SS si) i j = hdn o' h' P g co si i d := by
  have hj := j.isLt
  have ej : j = ln ⟨j.val / 64, by omega⟩ d := Fin.ext (by simp only [ln]; omega)
  refine (congrArg (hn (sl 128 o h P) (G2 g) (CC co) (SS si) i) ej).trans ((hn_ln o h P g co si i _ d).trans ?_)
  exact hdn_congr _ _ P g co si i d d e rfl

/-- Four matrices side by side. -/
def cat4 (a b c d : Mat m 128) : Mat m 512 := fun i j =>
  if h1 : j.val < 128 then a i ⟨j.val, h1⟩
  else if h2 : j.val < 256 then b i ⟨j.val - 128, by omega⟩
  else if h3 : j.val < 384 then c i ⟨j.val - 256, by omega⟩
  else d i ⟨j.val - 384, by omega⟩
/-- The queries of the first attention, in blocks of two heads. -/
def qaC (P : Mat m 2304) (g : Mat 1 128) (cc ss : Mat m 128) : Mat m 512 :=
  cat4 (scl (hn (sl 128 0 (by norm_num) P) g cc ss) (1 / 8)) (scl (hn (sl 128 128 (by norm_num) P) g cc ss) (1 / 8))
    (scl (hn (sl 128 256 (by norm_num) P) g cc ss) (1 / 8)) (scl (hn (sl 128 384 (by norm_num) P) g cc ss) (1 / 8))
/-- The keys and values of the first attention, from a block of two key heads and one of two value heads. -/
def kvC (P : Mat m 2304) (g : Mat 1 128) (cc ss : Mat m 128) (h : Fin 2) : Mat m 128 :=
  if h.val = 0 then mixA (hn (sl 128 512 (by norm_num) P) g cc ss) (sl 128 640 (by norm_num) P)
  else mixB (hn (sl 128 512 (by norm_num) P) g cc ss) (sl 128 640 (by norm_num) P)

/-- The queries in blocks of two heads are the queries head by head. -/
theorem qaC_eq (P : Mat m 2304) (g : Mat 1 64) (co si : Mat m 32) : qaC P (G2 g) (CC co) (SS si) = qaF P g co si := by
  funext i j
  have hj := j.isLt
  unfold qaC cat4 qaF
  by_cases h1 : j.val < 128
  · rw [dif_pos h1]
    exact congrArg (· * (1 / 8)) (hn_at 0 (by norm_num) P g co si i _ _ _ (by dsimp only; omega) (by dsimp only))
  rw [dif_neg h1]
  by_cases h2 : j.val < 256
  · rw [dif_pos h2]
    exact congrArg (· * (1 / 8)) (hn_at 128 (by norm_num) P g co si i _ _ _ (by dsimp only; omega) (by dsimp only; omega))
  rw [dif_neg h2]
  by_cases h3 : j.val < 384
  · rw [dif_pos h3]
    exact congrArg (· * (1 / 8)) (hn_at 256 (by norm_num) P g co si i _ _ _ (by dsimp only; omega) (by dsimp only; omega))
  rw [dif_neg h3]
  exact congrArg (· * (1 / 8)) (hn_at 384 (by norm_num) P g co si i _ _ _ (by dsimp only; omega) (by dsimp only; omega))

/-- The keys and values in blocks of two heads are those head by head. -/
theorem kvC_eq (P : Mat m 2304) (g : Mat 1 64) (co si : Mat m 32) (u : Fin 2) : kvC P (G2 g) (CC co) (SS si) u = kvF P g co si u := by
  funext i j
  have hj := j.isLt
  have hu := u.isLt
  unfold kvC kvF
  by_cases h0 : u.val = 0
  · rw [if_pos h0]
    unfold mixA
    by_cases h1 : j.val < 64
    · rw [dif_pos h1, dif_pos h1]
      exact hn_at 512 (by norm_num) P g co si i _ _ _ (by omega) (by dsimp only; omega)
    · rw [dif_neg h1, dif_neg h1]
      exact congrArg (P i) (Fin.ext (by dsimp only; omega))
  · rw [if_neg h0]
    unfold mixB
    by_cases h1 : j.val < 64
    · rw [dif_pos h1, dif_pos h1]
      exact hn_at 512 (by norm_num) P g co si i _ _ _ (by dsimp only; omega) (by dsimp only; omega)
    · rw [dif_neg h1, dif_neg h1]
      exact congrArg (P i) (Fin.ext (by dsimp only; omega))
end heads

end Cert.Inp
end
-- ==== Proof.InChunk.lean ====
module
public import proofs.«01_k».proof.Proof.InPay
public import proofs.«01_k».proof.Proof.InHeads
public import proofs.«01_k».proof.Proof.Gen.Kernel3Ideal.Frame

@[expose] public section

set_option maxRecDepth 16384

noncomputable section

namespace Cert.Inp

open Cert.Kernel3Ideal Cert.Kernel3Ideal.Gen Cert.Tail
open Idealize.ShloMosaic Idealize.ShloMosaic.TcCoe Idealize.ShloMosaic.Tactic Idealize.SL.Sem

/-! The body of the weight's gradient. -/

theorem p1 {a : FVec Ideal S2048x1024 .bf16} {A : Mat 2048 1024} (ha : Re a A) {b : FVec Ideal S2048x2304 .bf16} {B : Mat 2048 2304} (hb : Re b B) {acc : FVec Ideal S1024x2304 .f32} {C : Mat 1024 2304} (hc : Re acc C) :
    Re (k1_pay2 (F := Ideal) a acc b) (plus C (tn A B)) := fun i j => by
  pointwise [k1_pay2]
  simp only [ha, hb, hc, emul, esum, eadd]
  rfl
theorem z1 : Re (k1_pay1 (F := Ideal)) (fun _ _ => 0) := fun _ _ => Ideal.ofBits_zero_f32

/-! Writing a block in pieces. -/

section pieces
variable {e : EltTy}
theorem at4 (o : ℕ) (h : ∀ a, (![0, o] : Fin 2 → ℕ) a + S512x128.size a ≤ S512x512.size a) (w : Vec Ideal S512x128 e)
    (l : List (View.Piece (Elt Ideal) S512x512 e)) (r x : Fin 512) (h1 : o ≤ x.val) (h2 : x.val < o + 128) :
    View.canon (Val := Elt Ideal) (s := S512x512) (e := e) (⟨Rect.unit (s := S512x512) ![0, o] S512x128.size h, w⟩ :: l) (ix2 r x) = w (ix2 r ⟨x.val - o, by omega⟩) := by
  have e : (Rect.unit (s := S512x512) ![0, o] S512x128.size h).emb (ix2 r ⟨x.val - o, by omega⟩) = ix2 r x := funext fun a => Fin.ext (by
    match a with
    | ⟨0, _⟩ => exact (Nat.zero_add _).trans (Nat.one_mul r.val)
    | ⟨1, _⟩ => show o + 1 * (x.val - o) = x.val; omega)
  rw [← e]
  exact View.canon_cons_emb _ _ _ _
theorem past4 (o : ℕ) (h : ∀ a, (![0, o] : Fin 2 → ℕ) a + S512x128.size a ≤ S512x512.size a) (w : Vec Ideal S512x128 e)
    (l : List (View.Piece (Elt Ideal) S512x512 e)) (r x : Fin 512) (h1 : x.val < o) :
    View.canon (Val := Elt Ideal) (s := S512x512) (e := e) (⟨Rect.unit (s := S512x512) ![0, o] S512x128.size h, w⟩ :: l) (ix2 r x) = View.canon l (ix2 r x) := by
  rw [View.canon_cons_of_not_mem _ _ (by
    rw [Rect.mem_set_unit]
    intro hall
    have h1 : o ≤ x.val := (hall 1).1
    omega)]
theorem canon4 (w3 w2 w1 w0 : Vec Ideal S512x128 e) (r x : Fin 512) :
    View.canon (Val := Elt Ideal) (s := S512x512) (e := e) [⟨r0_10, w3⟩, ⟨r0_9, w2⟩, ⟨r0_8, w1⟩, ⟨r0_7, w0⟩] (ix2 r x)
    = if h : x.val < 128 then w0 (ix2 r ⟨x.val, h⟩) else if h : x.val < 256 then w1 (ix2 r ⟨x.val - 128, by omega⟩)
      else if h : x.val < 384 then w2 (ix2 r ⟨x.val - 256, by omega⟩) else w3 (ix2 r ⟨x.val - 384, by omega⟩) := by
  have hx := x.isLt
  by_cases h1 : x.val < 128
  · rw [dif_pos h1]
    exact (past4 384 _ w3 _ r x (by omega)).trans ((past4 256 _ w2 _ r x (by omega)).trans ((past4 128 _ w1 _ r x h1).trans (at4 0 _ w0 _ r x (by omega) (by omega))))
  rw [dif_neg h1]
  by_cases h2 : x.val < 256
  · rw [dif_pos h2]
    exact (past4 384 _ w3 _ r x (by omega)).trans ((past4 256 _ w2 _ r x (by omega)).trans (at4 128 _ w1 _ r x (by omega) (by omega)))
  rw [dif_neg h2]
  by_cases h3 : x.val < 384
  · rw [dif_pos h3]
    exact (past4 384 _ w3 _ r x (by omega)).trans (at4 256 _ w2 _ r x (by omega) (by omega))
  rw [dif_neg h3]
  exact at4 384 _ w3 _ r x (by omega) (by omega)

theorem canon2 (w1 w0 : Vec Ideal S1x512x128 e) (h : Fin 2) (r : Fin 512) (x : Fin 128) :
    View.canon (Val := Elt Ideal) (s := S2x512x128) (e := e) [⟨r0_12, w1⟩, ⟨r0_11, w0⟩] (ix3 h r x)
    = if h.val = 0 then w0 (ix3 0 r x) else w1 (ix3 0 r x) := by
  match h with
  | ⟨0, _⟩ =>
    rw [if_pos rfl, View.canon_cons_of_not_mem _ _ (by
      rw [Rect.mem_set_unit]; intro hall; have h1 : (1 : ℕ) ≤ 0 := (hall 0).1; omega)]
    have e : r0_11.emb (ix3 0 r x) = ix3 ⟨0, by norm_num⟩ r x := funext fun a => Fin.ext (by
      match a with
      | ⟨0, _⟩ => rfl
      | ⟨1, _⟩ => exact (Nat.zero_add _).trans (Nat.one_mul r.val)
      | ⟨2, _⟩ => exact (Nat.zero_add _).trans (Nat.one_mul x.val))
    rw [← e]
    exact View.canon_cons_emb _ _ _ _
  | ⟨1, _⟩ =>
    rw [if_neg (by norm_num)]
    have e : r0_12.emb (ix3 0 r x) = ix3 ⟨1, by norm_num⟩ r x := funext fun a => Fin.ext (by
      match a with
      | ⟨0, _⟩ => rfl
      | ⟨1, _⟩ => exact (Nat.zero_add _).trans (Nat.one_mul r.val)
      | ⟨2, _⟩ => exact (Nat.zero_add _).trans (Nat.one_mul x.val))
    rw [← e]
    exact View.canon_cons_emb _ _ _ _
end pieces
end Cert.Inp
end
-- ==== Proof.InArr0.lean ====
module
public import proofs.«01_k».proof.Proof.InChunk
public import Idealize.ShloMosaic.Lib.Pipeline.ValueKit

@[expose] public section

set_option maxRecDepth 16384

noncomputable section

namespace Cert.Inp

open Cert.Kernel3Ideal Cert.Kernel3Ideal.Gen Cert.Tail
open Idealize.ShloMosaic Idealize.ShloMosaic.TcCoe Idealize.ShloMosaic.Tactic Idealize.SL.Sem

/-! What the body leaves, from the blocks it reads. -/

theorem oz : (![0, 0] : Fin 2 → ℕ) = fun _ => 0 := funext fun a => by fin_cases a <;> rfl

section body
variable {x0 : Vec Ideal S512x1024 .f32} {x1 : Vec Ideal S1x1024 .f32} {x2 : Vec Ideal S1024x2304 .bf16} {x3 x4 : Vec Ideal S512x128 .f32} {x5 x6 : Vec Ideal S1x128 .f32} {x7 : Vec Ideal S128x128 .bf16}
variable {X : Mat 512 1024} {G : Mat 1 1024} {W : Mat 1024 2304} {C S : Mat 512 128} {gq gk : Mat 1 128}
variable (h0 : Re x0 X) (h1 : Re x1 G) (h2 : Re x2 W) (h3 : Re x3 C) (h4 : Re x4 S) (h5 : Re x5 gq) (h6 : Re x6 gk) (h7 : Re x7 one)

include h0 h1 h2 in
theorem B33 : Re (k0_pay33 x0 x1 x2 x3 x4 x5 x6 x7) (mm (nrm X G) W) := by
  unfold k0_pay33
  rw [View.ld_unit_zero oz _ x0, View.ld_unit_zero oz _ x1, View.ld_unit_zero oz _ x2]
  exact pproj h0 h1 h2
theorem B34 : k0_pay34 (F := Ideal) x0 x1 x2 x3 x4 x5 x6 x7 = k0_pay3 := rfl
theorem B35 : k0_pay35 (F := Ideal) x0 x1 x2 x3 x4 x5 x6 x7 = x7 := by
  unfold k0_pay35
  rw [View.ld_unit_zero oz _ x7, c39]
theorem B36 : k0_pay36 (F := Ideal) x0 x1 x2 x3 x4 x5 x6 x7 = x3 := by
  unfold k0_pay36
  rw [View.ld_unit_zero oz _ x3, cV]
theorem B37 : k0_pay37 (F := Ideal) x0 x1 x2 x3 x4 x5 x6 x7 = x4 := by
  unfold k0_pay37
  rw [View.ld_unit_zero oz _ x4]
  exact cV x4
theorem B16 (v : FVec Ideal S1x128 .f32) : k0_pay16 v = v := c1 v

include h0 h1 in
theorem o8 : Re (out0_8 x0 x1 x2 x3 x4 x5 x6 x7) (nrm X G) := by
  unfold out0_8
  rw [View.canon_unit_zero oz, View.ld_unit_zero oz _ x0, View.ld_unit_zero oz _ x1]
  exact pxn h0 h1

include h0 h1 h2 in
theorem o9 : Re (out0_9 x0 x1 x2 x3 x4 x5 x6 x7) (sl 512 0 (by norm_num) (mm (nrm X G) W)) := by
  have q := eq' (B33 (x3 := x3) (x4 := x4) (x5 := x5) (x6 := x6) (x7 := x7) h0 h1 h2)
  unfold out0_9
  rw [View.canon_unit_zero oz]
  exact q

include h0 h1 h2 in
theorem o10 : Re (out0_10 x0 x1 x2 x3 x4 x5 x6 x7) (sl 128 512 (by norm_num) (mm (nrm X G) W)) := by
  have q := e4 (B33 (x3 := x3) (x4 := x4) (x5 := x5) (x6 := x6) (x7 := x7) h0 h1 h2)
  unfold out0_10
  rw [View.canon_unit_zero oz]
  exact q

include h0 h1 h2 in
theorem o13 : Re (out0_13 x0 x1 x2 x3 x4 x5 x6 x7) (scl (sl 512 768 (by norm_num) (mm (nrm X G) W)) (1 / 8)) := by
  have q := eqb (B33 (x3 := x3) (x4 := x4) (x5 := x5) (x6 := x6) (x7 := x7) h0 h1 h2)
  unfold out0_13
  rw [View.canon_unit_zero oz]
  exact q

include h0 h1 h2 in
theorem o14 : Re (out0_14 x0 x1 x2 x3 x4 x5 x6 x7) (sl 512 1280 (by norm_num) (mm (nrm X G) W)) := by
  have q := ekb (B33 (x3 := x3) (x4 := x4) (x5 := x5) (x6 := x6) (x7 := x7) h0 h1 h2)
  unfold out0_14
  rw [View.canon_unit_zero oz]
  exact q

include h0 h1 h2 in
theorem o15 : Re (out0_15 x0 x1 x2 x3 x4 x5 x6 x7) (sl 512 1792 (by norm_num) (mm (nrm X G) W)) := by
  have q := evb (B33 (x3 := x3) (x4 := x4) (x5 := x5) (x6 := x6) (x7 := x7) h0 h1 h2)
  unfold out0_15
  rw [View.canon_unit_zero oz]
  exact q

include h0 h1 h2 h3 h4 h5 h7 in
theorem o11 : Re (out0_11 x0 x1 x2 x3 x4 x5 x6 x7) (qaC (mm (nrm X G) W) gq C S) := by
  have hp := B33 (x3 := x3) (x4 := x4) (x5 := x5) (x6 := x6) (x7 := x7) h0 h1 h2
  have l7 : View.ld x7 r0_3 = x7 := View.ld_unit_zero oz _ x7
  have l3 : View.ld x3 r0_4 = x3 := View.ld_unit_zero oz _ x3
  have l4 : View.ld x4 r0_4 = x4 := View.ld_unit_zero oz _ x4
  have l5 : View.ld x5 r0_6 = x5 := View.ld_unit_zero oz _ x5
  unfold out0_11
  rw [B34, B35, B36, B37, l7, l3, l4, l5, B16, c1]
  generalize k0_pay33 x0 x1 x2 x3 x4 x5 x6 x7 = p at *
  have a0 := q0 h7 hp h3 h4 h5
  have a1 := q1 h7 hp h3 h4 h5
  have a2 := q2 h7 hp h3 h4 h5
  have a3 := q3 h7 hp h3 h4 h5
  intro r j
  rw [canon4]
  unfold qaC cat4 hn
  by_cases j1 : j.val < 128
  · rw [dif_pos j1, dif_pos j1]; exact a0 _ _
  rw [dif_neg j1, dif_neg j1]
  by_cases j2 : j.val < 256
  · rw [dif_pos j2, dif_pos j2]; exact a1 _ _
  rw [dif_neg j2, dif_neg j2]
  by_cases j3 : j.val < 384
  · rw [dif_pos j3, dif_pos j3]; exact a2 _ _
  rw [dif_neg j3, dif_neg j3]
  exact a3 _ _

include h0 h1 h2 h3 h4 h6 h7 in
theorem o12 (u : Fin 2) (i : Fin 512) (j : Fin 128) : out0_12 x0 x1 x2 x3 x4 x5 x6 x7 (ix3 u i j) = ((kvC (mm (nrm X G) W) gk C S u i j : ℝ) : EReal) := by
  have hp := B33 (x3 := x3) (x4 := x4) (x5 := x5) (x6 := x6) (x7 := x7) h0 h1 h2
  have l6 : View.ld x6 r0_6 = x6 := View.ld_unit_zero oz _ x6
  unfold out0_12 k0_pay38
  rw [B34, B35, B36, B37, l6]
  generalize k0_pay33 x0 x1 x2 x3 x4 x5 x6 x7 = p at *
  have a0 := kv0 h7 hp h3 h4 h6
  have a1 := kv1 h7 hp h3 h4 h6
  rw [canon2]
  unfold kvC hn
  by_cases hu : u.val = 0
  · rw [if_pos hu, if_pos hu]; exact a0 _ _
  · rw [if_neg hu, if_neg hu]; exact a1 _ _
end body

theorem blk_kvC (q : ℕ) (P : Mat 16384 2304) (g : Mat 1 128) (cc ss : Mat 16384 128) (u : Fin 2) :
    kvC (blk q P) g (blk q cc) (blk q ss) u = blk q (kvC P g cc ss u) := by
  unfold kvC
  by_cases hu : u.val = 0
  · rw [if_pos hu, if_pos hu]; rfl
  · rw [if_neg hu, if_neg hu]; rfl

section arr
variable (V : (c : Dev nD) → (b : Ref sig .tc) → Buf (Elt Ideal) ((c : Thread nD τ).loc b)) (c : Dev nD)

theorem ix0_0 : ∀ t : Fin cfg0.N, win0_0.index t = ![t.val, 0] := (by decide +kernel : ∀ t : Fin grid0.N, _)
theorem ix0_1 : ∀ t : Fin cfg0.N, win0_1.index t = ![0, 0] := (by decide +kernel : ∀ t : Fin grid0.N, _)
theorem ix0_2 : ∀ t : Fin cfg0.N, win0_2.index t = ![0, 0] := (by decide +kernel : ∀ t : Fin grid0.N, _)
theorem ix0_3 : ∀ t : Fin cfg0.N, win0_3.index t = ![t.val, 0] := (by decide +kernel : ∀ t : Fin grid0.N, _)
theorem ix0_4 : ∀ t : Fin cfg0.N, win0_4.index t = ![t.val, 0] := (by decide +kernel : ∀ t : Fin grid0.N, _)
theorem ix0_5 : ∀ t : Fin cfg0.N, win0_5.index t = ![0, 0] := (by decide +kernel : ∀ t : Fin grid0.N, _)
theorem ix0_6 : ∀ t : Fin cfg0.N, win0_6.index t = ![0, 0] := (by decide +kernel : ∀ t : Fin grid0.N, _)
theorem ix0_7 : ∀ t : Fin cfg0.N, win0_7.index t = ![0, 0] := (by decide +kernel : ∀ t : Fin grid0.N, _)
theorem ix0_12 : ∀ t : Fin cfg0.N, win0_12.index t = ![0, t.val, 0] := (by decide +kernel : ∀ t : Fin grid0.N, _)
theorem ix0_8 : ∀ t : Fin cfg0.N, win0_8.index t = ![t.val, 0] := (by decide +kernel : ∀ t : Fin grid0.N, _)
theorem ix0_9 : ∀ t : Fin cfg0.N, win0_9.index t = ![t.val, 0] := (by decide +kernel : ∀ t : Fin grid0.N, _)
theorem ix0_10 : ∀ t : Fin cfg0.N, win0_10.index t = ![t.val, 0] := (by decide +kernel : ∀ t : Fin grid0.N, _)
theorem ix0_11 : ∀ t : Fin cfg0.N, win0_11.index t = ![t.val, 0] := (by decide +kernel : ∀ t : Fin grid0.N, _)
theorem ix0_13 : ∀ t : Fin cfg0.N, win0_13.index t = ![t.val, 0] := (by decide +kernel : ∀ t : Fin grid0.N, _)
theorem ix0_14 : ∀ t : Fin cfg0.N, win0_14.index t = ![t.val, 0] := (by decide +kernel : ∀ t : Fin grid0.N, _)
theorem ix0_15 : ∀ t : Fin cfg0.N, win0_15.index t = ![t.val, 0] := (by decide +kernel : ∀ t : Fin grid0.N, _)

theorem b0_0 {f : Mat 16384 1024} (h : Re (V c main_arg0) f) (t : Fin cfg0.N) : Re (iblk0 V c 0 t) (blk t.val f) := by
  have ht : t.val < 32 := t.isLt
  intro i j
  refine Eq.trans ?_ (h (row t.val i) j)
  blk_simp [iblk0]
  refine congrArg (V c main_arg0) (funext fun a => Fin.ext ?_)
  match a with
  | ⟨0, _⟩ => blk_simp [ix0_0]; simp [ix2, row]; omega
  | ⟨1, _⟩ => blk_simp [ix0_0]

theorem b0_1 {f : Mat 1 1024} (h : Re (V c main_arg1) f) (t : Fin cfg0.N) : Re (iblk0 V c 1 t) f := by
  have ht : t.val < 32 := t.isLt
  intro i j
  refine Eq.trans ?_ (h i j)
  blk_simp [iblk0]
  refine congrArg (V c main_arg1) (funext fun a => Fin.ext ?_)
  match a with
  | ⟨0, _⟩ => blk_simp [ix0_1]
  | ⟨1, _⟩ => blk_simp [ix0_1]

theorem b0_2 {f : Mat 1024 2304} (h : Re (V c main_v0) f) (t : Fin cfg0.N) : Re (iblk0 V c 2 t) f := by
  have ht : t.val < 32 := t.isLt
  intro i j
  refine Eq.trans ?_ (h i j)
  blk_simp [iblk0]
  refine congrArg (V c main_v0) (funext fun a => Fin.ext ?_)
  match a with
  | ⟨0, _⟩ => blk_simp [ix0_2]
  | ⟨1, _⟩ => blk_simp [ix0_2]

theorem b0_3 {f : Mat 16384 128} (h : Re (V c main_v1) f) (t : Fin cfg0.N) : Re (iblk0 V c 3 t) (blk t.val f) := by
  have ht : t.val < 32 := t.isLt
  intro i j
  refine Eq.trans ?_ (h (row t.val i) j)
  blk_simp [iblk0]
  refine congrArg (V c main_v1) (funext fun a => Fin.ext ?_)
  match a with
  | ⟨0, _⟩ => blk_simp [ix0_3]; simp [ix2, row]; omega
  | ⟨1, _⟩ => blk_simp [ix0_3]

theorem b0_4 {f : Mat 16384 128} (h : Re (V c main_v4) f) (t : Fin cfg0.N) : Re (iblk0 V c 4 t) (blk t.val f) := by
  have ht : t.val < 32 := t.isLt
  intro i j
  refine Eq.trans ?_ (h (row t.val i) j)
  blk_simp [iblk0]
  refine congrArg (V c main_v4) (funext fun a => Fin.ext ?_)
  match a with
  | ⟨0, _⟩ => blk_simp [ix0_4]; simp [ix2, row]; omega
  | ⟨1, _⟩ => blk_simp [ix0_4]

theorem b0_5 {f : Mat 1 128} (h : Re (V c main_v5) f) (t : Fin cfg0.N) : Re (iblk0 V c 5 t) f := by
  have ht : t.val < 32 := t.isLt
  intro i j
  refine Eq.trans ?_ (h i j)
  blk_simp [iblk0]
  refine congrArg (V c main_v5) (funext fun a => Fin.ext ?_)
  match a with
  | ⟨0, _⟩ => blk_simp [ix0_5]
  | ⟨1, _⟩ => blk_simp [ix0_5]

theorem b0_6 {f : Mat 1 128} (h : Re (V c main_v6) f) (t : Fin cfg0.N) : Re (iblk0 V c 6 t) f := by
  have ht : t.val < 32 := t.isLt
  intro i j
  refine Eq.trans ?_ (h i j)
  blk_simp [iblk0]
  refine congrArg (V c main_v6) (funext fun a => Fin.ext ?_)
  match a with
  | ⟨0, _⟩ => blk_simp [ix0_6]
  | ⟨1, _⟩ => blk_simp [ix0_6]

theorem b0_7 {f : Mat 128 128} (h : Re (V c main_v15) f) (t : Fin cfg0.N) : Re (iblk0 V c 7 t) f := by
  have ht : t.val < 32 := t.isLt
  intro i j
  refine Eq.trans ?_ (h i j)
  blk_simp [iblk0]
  refine congrArg (V c main_v15) (funext fun a => Fin.ext ?_)
  match a with
  | ⟨0, _⟩ => blk_simp [ix0_7]
  | ⟨1, _⟩ => blk_simp [ix0_7]

theorem a0_12 (g : Fin 2 → Mat 16384 128) (h : ∀ (t : Fin cfg0.N) (u : Fin 2) (i : Fin 512) (j : Fin 128), (dat0 V c).after 12 t (ix3 u i j) = ((blk t.val (g u) i j : ℝ) : EReal)) :
    (dat0 V c).arrAt 12 cfg0.N = fun y => ((g (y 0) (y 1) (y 2) : ℝ) : EReal) := by
  refine (dat0 V c).arrAt_eq_of_covers 12 _ (by decide +kernel) fun t hf y => ?_
  have ht : t.val < 32 := t.isLt
  obtain ⟨u, r, x, rfl⟩ : ∃ (u : Fin 2) (r : Fin 512) (x : Fin 128), y = ix3 u r x := ⟨y 0, y 1, y 2, eq_ix3 y⟩
  refine (h t u r x).trans ?_
  refine congrArg (fun y : S2x16384x128.Idx => ((g (y 0) (y 1) (y 2) : ℝ) : EReal)) (funext fun a => Fin.ext ?_ : ix3 u (row t.val r) x = _)
  match a with
  | ⟨0, _⟩ => blk_simp [ix0_12]
  | ⟨1, _⟩ => blk_simp [ix0_12]; simp [ix3, row]; omega
  | ⟨2, _⟩ => blk_simp [ix0_12]

theorem a0_8 (g : Mat 16384 1024) (h : ∀ t : Fin cfg0.N, Re ((dat0 V c).after 8 t) (blk t.val g)) :
    (dat0 V c).arrAt 8 cfg0.N = Arr g := by
  refine (dat0 V c).arrAt_eq_of_covers 8 _ (by decide +kernel) fun t hf y => ?_
  have ht : t.val < 32 := t.isLt
  obtain ⟨r, x, rfl⟩ : ∃ (r : Fin 512) (x : Fin 1024), y = ix2 r x := ⟨y 0, y 1, eq_ix2 y⟩
  refine (h t r x).trans ?_
  refine congrArg (Arr g) (funext fun a => Fin.ext ?_ : ix2 (row t.val r) x = _)
  match a with
  | ⟨0, _⟩ => blk_simp [ix0_8]; simp [ix2, row]; omega
  | ⟨1, _⟩ => blk_simp [ix0_8]

theorem a0_9 (g : Mat 16384 512) (h : ∀ t : Fin cfg0.N, Re ((dat0 V c).after 9 t) (blk t.val g)) :
    (dat0 V c).arrAt 9 cfg0.N = Arr g := by
  refine (dat0 V c).arrAt_eq_of_covers 9 _ (by decide +kernel) fun t hf y => ?_
  have ht : t.val < 32 := t.isLt
  obtain ⟨r, x, rfl⟩ : ∃ (r : Fin 512) (x : Fin 512), y = ix2 r x := ⟨y 0, y 1, eq_ix2 y⟩
  refine (h t r x).trans ?_
  refine congrArg (Arr g) (funext fun a => Fin.ext ?_ : ix2 (row t.val r) x = _)
  match a with
  | ⟨0, _⟩ => blk_simp [ix0_9]; simp [ix2, row]; omega
  | ⟨1, _⟩ => blk_simp [ix0_9]

theorem a0_10 (g : Mat 16384 128) (h : ∀ t : Fin cfg0.N, Re ((dat0 V c).after 10 t) (blk t.val g)) :
    (dat0 V c).arrAt 10 cfg0.N = Arr g := by
  refine (dat0 V c).arrAt_eq_of_covers 10 _ (by decide +kernel) fun t hf y => ?_
  have ht : t.val < 32 := t.isLt
  obtain ⟨r, x, rfl⟩ : ∃ (r : Fin 512) (x : Fin 128), y = ix2 r x := ⟨y 0, y 1, eq_ix2 y⟩
  refine (h t r x).trans ?_
  refine congrArg (Arr g) (funext fun a => Fin.ext ?_ : ix2 (row t.val r) x = _)
  match a with
  | ⟨0, _⟩ => blk_simp [ix0_10]; simp [ix2, row]; omega
  | ⟨1, _⟩ => blk_simp [ix0_10]

theorem a0_11 (g : Mat 16384 512) (h : ∀ t : Fin cfg0.N, Re ((dat0 V c).after 11 t) (blk t.val g)) :
    (dat0 V c).arrAt 11 cfg0.N = Arr g := by
  refine (dat0 V c).arrAt_eq_of_covers 11 _ (by decide +kernel) fun t hf y => ?_
  have ht : t.val < 32 := t.isLt
  obtain ⟨r, x, rfl⟩ : ∃ (r : Fin 512) (x : Fin 512), y = ix2 r x := ⟨y 0, y 1, eq_ix2 y⟩
  refine (h t r x).trans ?_
  refine congrArg (Arr g) (funext fun a => Fin.ext ?_ : ix2 (row t.val r) x = _)
  match a with
  | ⟨0, _⟩ => blk_simp [ix0_11]; simp [ix2, row]; omega
  | ⟨1, _⟩ => blk_simp [ix0_11]

theorem a0_13 (g : Mat 16384 512) (h : ∀ t : Fin cfg0.N, Re ((dat0 V c).after 13 t) (blk t.val g)) :
    (dat0 V c).arrAt 13 cfg0.N = Arr g := by
  refine (dat0 V c).arrAt_eq_of_covers 13 _ (by decide +kernel) fun t hf y => ?_
  have ht : t.val < 32 := t.isLt
  obtain ⟨r, x, rfl⟩ : ∃ (r : Fin 512) (x : Fin 512), y = ix2 r x := ⟨y 0, y 1, eq_ix2 y⟩
  refine (h t r x).trans ?_
  refine congrArg (Arr g) (funext fun a => Fin.ext ?_ : ix2 (row t.val r) x = _)
  match a with
  | ⟨0, _⟩ => blk_simp [ix0_13]; simp [ix2, row]; omega
  | ⟨1, _⟩ => blk_simp [ix0_13]

theorem a0_14 (g : Mat 16384 512) (h : ∀ t : Fin cfg0.N, Re ((dat0 V c).after 14 t) (blk t.val g)) :
    (dat0 V c).arrAt 14 cfg0.N = Arr g := by
  refine (dat0 V c).arrAt_eq_of_covers 14 _ (by decide +kernel) fun t hf y => ?_
  have ht : t.val < 32 := t.isLt
  obtain ⟨r, x, rfl⟩ : ∃ (r : Fin 512) (x : Fin 512), y = ix2 r x := ⟨y 0, y 1, eq_ix2 y⟩
  refine (h t r x).trans ?_
  refine congrArg (Arr g) (funext fun a => Fin.ext ?_ : ix2 (row t.val r) x = _)
  match a with
  | ⟨0, _⟩ => blk_simp [ix0_14]; simp [ix2, row]; omega
  | ⟨1, _⟩ => blk_simp [ix0_14]

theorem a0_15 (g : Mat 16384 512) (h : ∀ t : Fin cfg0.N, Re ((dat0 V c).after 15 t) (blk t.val g)) :
    (dat0 V c).arrAt 15 cfg0.N = Arr g := by
  refine (dat0 V c).arrAt_eq_of_covers 15 _ (by decide +kernel) fun t hf y => ?_
  have ht : t.val < 32 := t.isLt
  obtain ⟨r, x, rfl⟩ : ∃ (r : Fin 512) (x : Fin 512), y = ix2 r x := ⟨y 0, y 1, eq_ix2 y⟩
  refine (h t r x).trans ?_
  refine congrArg (Arr g) (funext fun a => Fin.ext ?_ : ix2 (row t.val r) x = _)
  match a with
  | ⟨0, _⟩ => blk_simp [ix0_15]; simp [ix2, row]; omega
  | ⟨1, _⟩ => blk_simp [ix0_15]

variable {x : Mat 16384 1024} (h0 : Re (V c main_arg0) x) {g : Mat 1 1024} (h1 : Re (V c main_arg1) g) {w : Mat 1024 2304} (h2 : Re (V c main_v0) w) {cc : Mat 16384 128} (h3 : Re (V c main_v1) cc) {ss : Mat 16384 128} (h4 : Re (V c main_v4) ss) {gq : Mat 1 128} (h5 : Re (V c main_v5) gq) {gk : Mat 1 128} (h6 : Re (V c main_v6) gk) (h7 : Re (V c main_v15) one)
include h0 h1 h2 h3 h4 h5 h6 h7

/-- What result 8 of this call holds when it has run. -/
theorem r0_8 : (dat0 V c).arrAt 8 cfg0.N = Arr (nrm x g) := by
  refine a0_8 V c _ fun t => ?_
  have H0 := b0_0 V c h0 t
  have H1 := b0_1 V c h1 t
  have H2 := b0_2 V c h2 t
  have H3 := b0_3 V c h3 t
  have H4 := b0_4 V c h4 t
  have H5 := b0_5 V c h5 t
  have H6 := b0_6 V c h6 t
  have H7 := b0_7 V c h7 t
  rw [after0_8]
  exact o8 H0 H1

/-- What result 9 of this call holds when it has run. -/
theorem r0_9 : (dat0 V c).arrAt 9 cfg0.N = Arr (sl 512 0 (by norm_num) (mm (nrm x g) w)) := by
  refine a0_9 V c _ fun t => ?_
  have H0 := b0_0 V c h0 t
  have H1 := b0_1 V c h1 t
  have H2 := b0_2 V c h2 t
  have H3 := b0_3 V c h3 t
  have H4 := b0_4 V c h4 t
  have H5 := b0_5 V c h5 t
  have H6 := b0_6 V c h6 t
  have H7 := b0_7 V c h7 t
  rw [after0_9]
  exact o9 H0 H1 H2

/-- What result 10 of this call holds when it has run. -/
theorem r0_10 : (dat0 V c).arrAt 10 cfg0.N = Arr (sl 128 512 (by norm_num) (mm (nrm x g) w)) := by
  refine a0_10 V c _ fun t => ?_
  have H0 := b0_0 V c h0 t
  have H1 := b0_1 V c h1 t
  have H2 := b0_2 V c h2 t
  have H3 := b0_3 V c h3 t
  have H4 := b0_4 V c h4 t
  have H5 := b0_5 V c h5 t
  have H6 := b0_6 V c h6 t
  have H7 := b0_7 V c h7 t
  rw [after0_10]
  exact o10 H0 H1 H2

/-- What result 13 of this call holds when it has run. -/
theorem r0_13 : (dat0 V c).arrAt 13 cfg0.N = Arr (scl (sl 512 768 (by norm_num) (mm (nrm x g) w)) (1 / 8)) := by
  refine a0_13 V c _ fun t => ?_
  have H0 := b0_0 V c h0 t
  have H1 := b0_1 V c h1 t
  have H2 := b0_2 V c h2 t
  have H3 := b0_3 V c h3 t
  have H4 := b0_4 V c h4 t
  have H5 := b0_5 V c h5 t
  have H6 := b0_6 V c h6 t
  have H7 := b0_7 V c h7 t
  rw [after0_13]
  exact o13 H0 H1 H2

/-- What result 14 of this call holds when it has run. -/
theorem r0_14 : (dat0 V c).arrAt 14 cfg0.N = Arr (sl 512 1280 (by norm_num) (mm (nrm x g) w)) := by
  refine a0_14 V c _ fun t => ?_
  have H0 := b0_0 V c h0 t
  have H1 := b0_1 V c h1 t
  have H2 := b0_2 V c h2 t
  have H3 := b0_3 V c h3 t
  have H4 := b0_4 V c h4 t
  have H5 := b0_5 V c h5 t
  have H6 := b0_6 V c h6 t
  have H7 := b0_7 V c h7 t
  rw [after0_14]
  exact o14 H0 H1 H2

/-- What result 15 of this call holds when it has run. -/
theorem r0_15 : (dat0 V c).arrAt 15 cfg0.N = Arr (sl 512 1792 (by norm_num) (mm (nrm x g) w)) := by
  refine a0_15 V c _ fun t => ?_
  have H0 := b0_0 V c h0 t
  have H1 := b0_1 V c h1 t
  have H2 := b0_2 V c h2 t
  have H3 := b0_3 V c h3 t
  have H4 := b0_4 V c h4 t
  have H5 := b0_5 V c h5 t
  have H6 := b0_6 V c h6 t
  have H7 := b0_7 V c h7 t
  rw [after0_15]
  exact o15 H0 H1 H2

/-- What result 11 of this call holds when it has run. -/
theorem r0_11 : (dat0 V c).arrAt 11 cfg0.N = Arr (qaC (mm (nrm x g) w) gq cc ss) := by
  refine a0_11 V c _ fun t => ?_
  have H0 := b0_0 V c h0 t
  have H1 := b0_1 V c h1 t
  have H2 := b0_2 V c h2 t
  have H3 := b0_3 V c h3 t
  have H4 := b0_4 V c h4 t
  have H5 := b0_5 V c h5 t
  have H6 := b0_6 V c h6 t
  have H7 := b0_7 V c h7 t
  rw [after0_11]
  exact o11 H0 H1 H2 H3 H4 H5 H7

/-- What result 12 of this call holds when it has run. -/
theorem r0_12 : (dat0 V c).arrAt 12 cfg0.N = fun y => ((kvC (mm (nrm x g) w) gk cc ss (y 0) (y 1) (y 2) : ℝ) : EReal) := by
  refine a0_12 V c _ fun t u i j => ?_
  have H0 := b0_0 V c h0 t
  have H1 := b0_1 V c h1 t
  have H2 := b0_2 V c h2 t
  have H3 := b0_3 V c h3 t
  have H4 := b0_4 V c h4 t
  have H5 := b0_5 V c h5 t
  have H6 := b0_6 V c h6 t
  have H7 := b0_7 V c h7 t
  rw [after0_12]
  have q := o12 (x5 := iblk0 V c 5 t) H0 H1 H2 H3 H4 H6 H7 u i j
  rw [← blk_kvC]
  exact q

end arr

end Cert.Inp

end

end
-- ==== Proof.InArr1.lean ====
module
public import proofs.«01_k».proof.Proof.InChunk
public import Idealize.ShloMosaic.Lib.Pipeline.ValueKit

@[expose] public section

set_option maxRecDepth 16384

noncomputable section

namespace Cert.Inp

open Cert.Kernel3Ideal Cert.Kernel3Ideal.Gen Cert.Tail
open Idealize.ShloMosaic Idealize.ShloMosaic.TcCoe Idealize.ShloMosaic.Tactic Idealize.SL.Sem

section arr
variable (V : (c : Dev nD) → (b : Ref sig .tc) → Buf (Elt Ideal) ((c : Thread nD τ).loc b)) (c : Dev nD)

theorem ix1_0 : ∀ t : Fin cfg1.N, win1_0.index t = ![t.val % 8, 0] := (by decide +kernel : ∀ t : Fin grid1.N, _)
theorem ix1_1 : ∀ t : Fin cfg1.N, win1_1.index t = ![t.val % 8, 0] := (by decide +kernel : ∀ t : Fin grid1.N, _)
theorem ix1_2 : ∀ t : Fin cfg1.N, win1_2.index t = ![0, 0] := (by decide +kernel : ∀ t : Fin grid1.N, _)

theorem b1_0 {f : Mat 16384 1024} (h : Re (V c main_v16_0) f) (t : Fin cfg1.N) : Re (iblk1 V c 0 t) (blk8 (t.val % 8) f) := by
  have ht : t.val < 8 := t.isLt
  intro i j
  refine Eq.trans ?_ (h (row8 (t.val % 8) i) j)
  blk_simp [iblk1]
  refine congrArg (V c main_v16_0) (funext fun a => Fin.ext ?_)
  match a with
  | ⟨0, _⟩ => blk_simp [ix1_0]; simp [ix2, row8]; omega
  | ⟨1, _⟩ => blk_simp [ix1_0]

theorem b1_1 {f : Mat 16384 2304} (h : Re (V c main_v17) f) (t : Fin cfg1.N) : Re (iblk1 V c 1 t) (blk8 (t.val % 8) f) := by
  have ht : t.val < 8 := t.isLt
  intro i j
  refine Eq.trans ?_ (h (row8 (t.val % 8) i) j)
  blk_simp [iblk1]
  refine congrArg (V c main_v17) (funext fun a => Fin.ext ?_)
  match a with
  | ⟨0, _⟩ => blk_simp [ix1_1]; simp [ix2, row8]; omega
  | ⟨1, _⟩ => blk_simp [ix1_1]

theorem a1_2 (g : Mat 1024 2304) (h : ∀ t : Fin cfg1.N, t.val % 8 = 7 → Re ((dat1 V c).after 2 t) g) :
    (dat1 V c).arrAt 2 cfg1.N = Arr g := by
  refine (dat1 V c).arrAt_eq_of_covers 2 _ (by decide +kernel) fun t hf y => ?_
  have ht : t.val < 8 := t.isLt
  obtain ⟨r, x, rfl⟩ : ∃ (r : Fin 1024) (x : Fin 2304), y = ix2 r x := ⟨y 0, y 1, eq_ix2 y⟩
  refine (h t ((flush1_2 t).mp hf) r x).trans ?_
  refine congrArg (Arr g) (funext fun a => Fin.ext ?_ : ix2 r x = _)
  match a with
  | ⟨0, _⟩ => blk_simp [ix1_2]
  | ⟨1, _⟩ => blk_simp [ix1_2]

variable {a : Mat 16384 1024} (h0 : Re (V c main_v16_0) a) {b : Mat 16384 2304} (h1 : Re (V c main_v17) b)
include h0 h1

/-- The result of this call is the product it is meant to be. -/
theorem r1_2 : (dat1 V c).arrAt 2 cfg1.N = Arr (tn a b) := by
  refine a1_2 V c _ fun t hf => ?_
  have ht : t.val < 8 := t.isLt
  have q := acc_re (J := 8) (by decide) (fun n h => outsAt1 V c n h) (fun n => (fun q r : ℕ => tn (blk8 r a) (blk8 r b)) (n / 8) (n % 8))
    (fun t h => by
      have H0 := b1_0 V c h0 t
      have H1 := b1_1 V c h1 t
      show Re (outsAt1 V c t.val t.isLt) _
      rw [outsAt1_A V c t h]; frame_out
      exact p1 H0 H1 z1)
    (fun t h acc ha => by
      have H0 := b1_0 V c h0 t
      have H1 := b1_1 V c h1 t
      show Re (outsAt1 V c t.val t.isLt) _
      rw [outsAt1_B V c t h]; frame_out
      exact p1 H0 H1 (ha _)) t.val t.isLt
  have e := last8 (t := t.val) hf (fun q r : ℕ => tn (blk8 r a) (blk8 r b)) (tn a b) (tn_sum a b)
  rw [e] at q
  rw [after1_2]
  exact q

end arr

end Cert.Inp

end

end
-- ==== Proof.InKer.lean ====
module
public import proofs.«01_k».proof.Proof.InHost
public import proofs.«01_k».proof.Proof.InArr0
public import proofs.«01_k».proof.Proof.InArr1
public import proofs.«01_k».proof.Proof.InHeads

@[expose] public section

set_option maxRecDepth 16384

noncomputable section

namespace Cert.Inp

open Cert.Kernel3Ideal Cert.Kernel3Ideal.Gen Cert.Tail
open Idealize.ShloMosaic Idealize.ShloMosaic.TcCoe Idealize.ShloMosaic.Tactic Idealize.SL.Sem Idealize.ShloMosaic.StableHlo

/-- An array that has the entries of a real matrix is the array of that matrix. -/
theorem re_arr {m n : ℕ} {v : Shape.Idx ⟨2, ![m, n]⟩ → EReal} {f : Mat m n} (h : Re v f) : v = Arr f := by
  funext y
  rw [eq_ix2 y]
  exact h (y 0) (y 1)

/-! The buffers of the two calls' results, from the kernel's arguments. -/

section ker
variable (m : (ℓ : Loc nD τ sig) → Buf (Elt Ideal) ℓ) (ρ : Dev nD → PrngReg) (c : Dev nD)
  {x : Mat 16384 1024} {g : Mat 1 1024} {w : Mat 1024 2304} {gq gk : Mat 1 64} {co si : Mat 16384 32} {dp : Mat 16384 2304}
  (e0 : Re (m ((c : Thread nD τ).loc main_arg0)) x)
  (e1 : Re (m ((c : Thread nD τ).loc main_arg1)) g)
  (e2 : Re (m ((c : Thread nD τ).loc main_arg2)) w)
  (e3 : Re (m ((c : Thread nD τ).loc main_arg3)) gq)
  (e4 : Re (m ((c : Thread nD τ).loc main_arg4)) gk)
  (e5 : Re (m ((c : Thread nD τ).loc main_arg5)) co)
  (e6 : Re (m ((c : Thread nD τ).loc main_arg6)) si)
  (e7 : Re (m ((c : Thread nD τ).loc main_arg7)) dp)

/-- The heads' indices down the rows. -/
theorem a9 (j : Fin 128) : @Eq (BitVec 32) (W2 m ρ c (Proc.devRef .tc main_v9) (ix2 j 0)) (BitVec.ofNat 32 (j.val / 64)) :=
  host_v9 (W1 m ρ c) _ rfl (fun j => host_v8 (W0 m ρ c) j) _ rfl (fun j => host_c (W0 m ρ c) j) j
/-- The heads' indices along the columns. -/
theorem a11 (j : Fin 128) : @Eq (BitVec 32) (W4 m ρ c (Proc.devRef .tc main_v11) (ix2 0 j)) (BitVec.ofNat 32 (j.val / 64)) :=
  host_v11 (W3 m ρ c) _ rfl (fun j => host_v10 (W2 m ρ c) _ rfl
      (fun j => (congrFun (W2_of m ρ c main_v7 (by decide)) j).trans (host_v7 (W0 m ρ c) j)) j) _ rfl (fun j => host_c0 (W2 m ρ c) j) j
/-- The matrix of ones the first call reads. -/
theorem b15 : Re (V5 m ρ c main_v15) one := fun i j =>
  host_v15 (W4 m ρ c) _ rfl (fun j => (congrFun ((W4_of m ρ c main_v9 (by decide)).trans (W3_of m ρ c main_v9 (by decide))) (ix2 j 0)).trans (a9 m ρ c j))
    _ rfl (fun j => a11 m ρ c j) i j
include e0 e1 e2 e3 e4 e5 e6 e7
/-- The buffer of the normalised input after the first call. -/
theorem k_xn : W6 m ρ c (Proc.devRef .tc main_v16_0) = Arr (nrm x g) :=
  (W6_arr m ρ c 8).trans ((r0_8 (V5 m ρ) c (fun i j => (congrFun (W5_args m ρ c main_arg0 (by decide)) (ix2 i j)).trans (e0 i j)) (fun i j => (congrFun (W5_args m ρ c main_arg1 (by decide)) (ix2 i j)).trans (e1 i j)) (fun i j => (congrFun ((W5_of m ρ c main_v0 (by decide)).trans ((W4_of m ρ c main_v0 (by decide)).trans ((W3_of m ρ c main_v0 (by decide)).trans (W2_of m ρ c main_v0 (by decide))))) (ix2 i j)).trans (host_v0 (W0 m ρ c) _ rfl e2 i j)) (fun i j => (congrFun ((W5_of m ρ c main_v1 (by decide)).trans ((W4_of m ρ c main_v1 (by decide)).trans ((W3_of m ρ c main_v1 (by decide)).trans (W2_of m ρ c main_v1 (by decide))))) (ix2 i j)).trans (host_v1 (W0 m ρ c) _ rfl e5 i j)) (fun i j => (congrFun ((W5_of m ρ c main_v4 (by decide)).trans ((W4_of m ρ c main_v4 (by decide)).trans ((W3_of m ρ c main_v4 (by decide)).trans (W2_of m ρ c main_v4 (by decide))))) (ix2 i j)).trans (host_v4 (W0 m ρ c) _ rfl e6 i j)) (fun i j => (congrFun ((W5_of m ρ c main_v5 (by decide)).trans ((W4_of m ρ c main_v5 (by decide)).trans ((W3_of m ρ c main_v5 (by decide)).trans (W2_of m ρ c main_v5 (by decide))))) (ix2 i j)).trans (host_v5 (W0 m ρ c) _ rfl e3 i j)) (fun i j => (congrFun ((W5_of m ρ c main_v6 (by decide)).trans ((W4_of m ρ c main_v6 (by decide)).trans ((W3_of m ρ c main_v6 (by decide)).trans (W2_of m ρ c main_v6 (by decide))))) (ix2 i j)).trans (host_v6 (W0 m ρ c) _ rfl e4 i j)) (b15 m ρ c)))
/-- The buffer of the first queries after the first call. -/
theorem k_qa : W6 m ρ c (Proc.devRef .tc main_v16_3) = Arr (qaF (mm (nrm x g) w) gq co si) :=
  (W6_arr m ρ c 11).trans ((r0_11 (V5 m ρ) c (fun i j => (congrFun (W5_args m ρ c main_arg0 (by decide)) (ix2 i j)).trans (e0 i j)) (fun i j => (congrFun (W5_args m ρ c main_arg1 (by decide)) (ix2 i j)).trans (e1 i j)) (fun i j => (congrFun ((W5_of m ρ c main_v0 (by decide)).trans ((W4_of m ρ c main_v0 (by decide)).trans ((W3_of m ρ c main_v0 (by decide)).trans (W2_of m ρ c main_v0 (by decide))))) (ix2 i j)).trans (host_v0 (W0 m ρ c) _ rfl e2 i j)) (fun i j => (congrFun ((W5_of m ρ c main_v1 (by decide)).trans ((W4_of m ρ c main_v1 (by decide)).trans ((W3_of m ρ c main_v1 (by decide)).trans (W2_of m ρ c main_v1 (by decide))))) (ix2 i j)).trans (host_v1 (W0 m ρ c) _ rfl e5 i j)) (fun i j => (congrFun ((W5_of m ρ c main_v4 (by decide)).trans ((W4_of m ρ c main_v4 (by decide)).trans ((W3_of m ρ c main_v4 (by decide)).trans (W2_of m ρ c main_v4 (by decide))))) (ix2 i j)).trans (host_v4 (W0 m ρ c) _ rfl e6 i j)) (fun i j => (congrFun ((W5_of m ρ c main_v5 (by decide)).trans ((W4_of m ρ c main_v5 (by decide)).trans ((W3_of m ρ c main_v5 (by decide)).trans (W2_of m ρ c main_v5 (by decide))))) (ix2 i j)).trans (host_v5 (W0 m ρ c) _ rfl e3 i j)) (fun i j => (congrFun ((W5_of m ρ c main_v6 (by decide)).trans ((W4_of m ρ c main_v6 (by decide)).trans ((W3_of m ρ c main_v6 (by decide)).trans (W2_of m ρ c main_v6 (by decide))))) (ix2 i j)).trans (host_v6 (W0 m ρ c) _ rfl e4 i j)) (b15 m ρ c)).trans (congrArg Arr (qaC_eq _ _ _ _)))
/-- The buffer of the first keys and values after the first call. -/
theorem k_kv : W6 m ρ c (Proc.devRef .tc main_v16_4) = fun y => ((kvF (mm (nrm x g) w) gk co si (y 0) (y 1) (y 2) : ℝ) : EReal) :=
  (W6_arr m ρ c 12).trans ((r0_12 (V5 m ρ) c (fun i j => (congrFun (W5_args m ρ c main_arg0 (by decide)) (ix2 i j)).trans (e0 i j)) (fun i j => (congrFun (W5_args m ρ c main_arg1 (by decide)) (ix2 i j)).trans (e1 i j)) (fun i j => (congrFun ((W5_of m ρ c main_v0 (by decide)).trans ((W4_of m ρ c main_v0 (by decide)).trans ((W3_of m ρ c main_v0 (by decide)).trans (W2_of m ρ c main_v0 (by decide))))) (ix2 i j)).trans (host_v0 (W0 m ρ c) _ rfl e2 i j)) (fun i j => (congrFun ((W5_of m ρ c main_v1 (by decide)).trans ((W4_of m ρ c main_v1 (by decide)).trans ((W3_of m ρ c main_v1 (by decide)).trans (W2_of m ρ c main_v1 (by decide))))) (ix2 i j)).trans (host_v1 (W0 m ρ c) _ rfl e5 i j)) (fun i j => (congrFun ((W5_of m ρ c main_v4 (by decide)).trans ((W4_of m ρ c main_v4 (by decide)).trans ((W3_of m ρ c main_v4 (by decide)).trans (W2_of m ρ c main_v4 (by decide))))) (ix2 i j)).trans (host_v4 (W0 m ρ c) _ rfl e6 i j)) (fun i j => (congrFun ((W5_of m ρ c main_v5 (by decide)).trans ((W4_of m ρ c main_v5 (by decide)).trans ((W3_of m ρ c main_v5 (by decide)).trans (W2_of m ρ c main_v5 (by decide))))) (ix2 i j)).trans (host_v5 (W0 m ρ c) _ rfl e3 i j)) (fun i j => (congrFun ((W5_of m ρ c main_v6 (by decide)).trans ((W4_of m ρ c main_v6 (by decide)).trans ((W3_of m ρ c main_v6 (by decide)).trans (W2_of m ρ c main_v6 (by decide))))) (ix2 i j)).trans (host_v6 (W0 m ρ c) _ rfl e4 i j)) (b15 m ρ c)).trans (funext fun y => congrArg Real.toEReal (congrFun (congrFun (kvC_eq _ _ _ _ _) _) _)))
/-- The buffer of the second queries after the first call. -/
theorem k_qb : W6 m ρ c (Proc.devRef .tc main_v16_5) = Arr (scl (sl 512 768 (by norm_num) (mm (nrm x g) w)) (1 / 8)) :=
  (W6_arr m ρ c 13).trans ((r0_13 (V5 m ρ) c (fun i j => (congrFun (W5_args m ρ c main_arg0 (by decide)) (ix2 i j)).trans (e0 i j)) (fun i j => (congrFun (W5_args m ρ c main_arg1 (by decide)) (ix2 i j)).trans (e1 i j)) (fun i j => (congrFun ((W5_of m ρ c main_v0 (by decide)).trans ((W4_of m ρ c main_v0 (by decide)).trans ((W3_of m ρ c main_v0 (by decide)).trans (W2_of m ρ c main_v0 (by decide))))) (ix2 i j)).trans (host_v0 (W0 m ρ c) _ rfl e2 i j)) (fun i j => (congrFun ((W5_of m ρ c main_v1 (by decide)).trans ((W4_of m ρ c main_v1 (by decide)).trans ((W3_of m ρ c main_v1 (by decide)).trans (W2_of m ρ c main_v1 (by decide))))) (ix2 i j)).trans (host_v1 (W0 m ρ c) _ rfl e5 i j)) (fun i j => (congrFun ((W5_of m ρ c main_v4 (by decide)).trans ((W4_of m ρ c main_v4 (by decide)).trans ((W3_of m ρ c main_v4 (by decide)).trans (W2_of m ρ c main_v4 (by decide))))) (ix2 i j)).trans (host_v4 (W0 m ρ c) _ rfl e6 i j)) (fun i j => (congrFun ((W5_of m ρ c main_v5 (by decide)).trans ((W4_of m ρ c main_v5 (by decide)).trans ((W3_of m ρ c main_v5 (by decide)).trans (W2_of m ρ c main_v5 (by decide))))) (ix2 i j)).trans (host_v5 (W0 m ρ c) _ rfl e3 i j)) (fun i j => (congrFun ((W5_of m ρ c main_v6 (by decide)).trans ((W4_of m ρ c main_v6 (by decide)).trans ((W3_of m ρ c main_v6 (by decide)).trans (W2_of m ρ c main_v6 (by decide))))) (ix2 i j)).trans (host_v6 (W0 m ρ c) _ rfl e4 i j)) (b15 m ρ c)))
/-- The buffer of the second keys after the first call. -/
theorem k_kb : W6 m ρ c (Proc.devRef .tc main_v16_6) = Arr (sl 512 1280 (by norm_num) (mm (nrm x g) w)) :=
  (W6_arr m ρ c 14).trans ((r0_14 (V5 m ρ) c (fun i j => (congrFun (W5_args m ρ c main_arg0 (by decide)) (ix2 i j)).trans (e0 i j)) (fun i j => (congrFun (W5_args m ρ c main_arg1 (by decide)) (ix2 i j)).trans (e1 i j)) (fun i j => (congrFun ((W5_of m ρ c main_v0 (by decide)).trans ((W4_of m ρ c main_v0 (by decide)).trans ((W3_of m ρ c main_v0 (by decide)).trans (W2_of m ρ c main_v0 (by decide))))) (ix2 i j)).trans (host_v0 (W0 m ρ c) _ rfl e2 i j)) (fun i j => (congrFun ((W5_of m ρ c main_v1 (by decide)).trans ((W4_of m ρ c main_v1 (by decide)).trans ((W3_of m ρ c main_v1 (by decide)).trans (W2_of m ρ c main_v1 (by decide))))) (ix2 i j)).trans (host_v1 (W0 m ρ c) _ rfl e5 i j)) (fun i j => (congrFun ((W5_of m ρ c main_v4 (by decide)).trans ((W4_of m ρ c main_v4 (by decide)).trans ((W3_of m ρ c main_v4 (by decide)).trans (W2_of m ρ c main_v4 (by decide))))) (ix2 i j)).trans (host_v4 (W0 m ρ c) _ rfl e6 i j)) (fun i j => (congrFun ((W5_of m ρ c main_v5 (by decide)).trans ((W4_of m ρ c main_v5 (by decide)).trans ((W3_of m ρ c main_v5 (by decide)).trans (W2_of m ρ c main_v5 (by decide))))) (ix2 i j)).trans (host_v5 (W0 m ρ c) _ rfl e3 i j)) (fun i j => (congrFun ((W5_of m ρ c main_v6 (by decide)).trans ((W4_of m ρ c main_v6 (by decide)).trans ((W3_of m ρ c main_v6 (by decide)).trans (W2_of m ρ c main_v6 (by decide))))) (ix2 i j)).trans (host_v6 (W0 m ρ c) _ rfl e4 i j)) (b15 m ρ c)))
/-- The buffer of the second values after the first call. -/
theorem k_vb : W6 m ρ c (Proc.devRef .tc main_v16_7) = Arr (sl 512 1792 (by norm_num) (mm (nrm x g) w)) :=
  (W6_arr m ρ c 15).trans ((r0_15 (V5 m ρ) c (fun i j => (congrFun (W5_args m ρ c main_arg0 (by decide)) (ix2 i j)).trans (e0 i j)) (fun i j => (congrFun (W5_args m ρ c main_arg1 (by decide)) (ix2 i j)).trans (e1 i j)) (fun i j => (congrFun ((W5_of m ρ c main_v0 (by decide)).trans ((W4_of m ρ c main_v0 (by decide)).trans ((W3_of m ρ c main_v0 (by decide)).trans (W2_of m ρ c main_v0 (by decide))))) (ix2 i j)).trans (host_v0 (W0 m ρ c) _ rfl e2 i j)) (fun i j => (congrFun ((W5_of m ρ c main_v1 (by decide)).trans ((W4_of m ρ c main_v1 (by decide)).trans ((W3_of m ρ c main_v1 (by decide)).trans (W2_of m ρ c main_v1 (by decide))))) (ix2 i j)).trans (host_v1 (W0 m ρ c) _ rfl e5 i j)) (fun i j => (congrFun ((W5_of m ρ c main_v4 (by decide)).trans ((W4_of m ρ c main_v4 (by decide)).trans ((W3_of m ρ c main_v4 (by decide)).trans (W2_of m ρ c main_v4 (by decide))))) (ix2 i j)).trans (host_v4 (W0 m ρ c) _ rfl e6 i j)) (fun i j => (congrFun ((W5_of m ρ c main_v5 (by decide)).trans ((W4_of m ρ c main_v5 (by decide)).trans ((W3_of m ρ c main_v5 (by decide)).trans (W2_of m ρ c main_v5 (by decide))))) (ix2 i j)).trans (host_v5 (W0 m ρ c) _ rfl e3 i j)) (fun i j => (congrFun ((W5_of m ρ c main_v6 (by decide)).trans ((W4_of m ρ c main_v6 (by decide)).trans ((W3_of m ρ c main_v6 (by decide)).trans (W2_of m ρ c main_v6 (by decide))))) (ix2 i j)).trans (host_v6 (W0 m ρ c) _ rfl e4 i j)) (b15 m ρ c)))

/-- The buffer of the gradient of the input projection's weight. -/
theorem z_dw : W9 m ρ c (Proc.devRef .tc main_v18) = Arr (tn (nrm x g) dp) :=
  (W9_of m ρ c main_v18 (by decide)).trans ((W8_arr m ρ c 2).trans (r1_2 (V7 m ρ) c
    (fun i j => (congrFun ((W7_of m ρ c main_v16_0 (by decide)).trans (k_xn m ρ c e0 e1 e2 e3 e4 e5 e6 e7)) (ix2 i j)).trans (arr_re _ i j))
    (fun i j => host_v17 (W6 m ρ c) _ rfl (fun i j => (congrFun (W6_args m ρ c main_arg7 (by decide)) (ix2 i j)).trans (e7 i j)) i j)))
/-- The result of the first queries. -/
theorem z_qa : W9 m ρ c (Proc.devRef .tc main_v19) = Arr (qaF (mm (nrm x g) w) gq co si) := by
  refine re_arr fun i j => host_v19 (W8 m ρ c) _ rfl (fun i j => ?_) i j
  exact (congrFun ((W8_of m ρ c main_v16_3 (by decide)).trans ((W7_of m ρ c main_v16_3 (by decide)).trans (k_qa m ρ c e0 e1 e2 e3 e4 e5 e6 e7))) (ix2 i j)).trans (arr_re _ i j)
/-- The result of the second queries. -/
theorem z_qb : W9 m ρ c (Proc.devRef .tc main_v21) = Arr (scl (sl 512 768 (by norm_num) (mm (nrm x g) w)) (1 / 8)) := by
  refine re_arr fun i j => host_v21 (W8 m ρ c) _ rfl (fun i j => ?_) i j
  exact (congrFun ((W8_of m ρ c main_v16_5 (by decide)).trans ((W7_of m ρ c main_v16_5 (by decide)).trans (k_qb m ρ c e0 e1 e2 e3 e4 e5 e6 e7))) (ix2 i j)).trans (arr_re _ i j)
/-- The result of the second keys. -/
theorem z_kb : W9 m ρ c (Proc.devRef .tc main_v22) = Arr (sl 512 1280 (by norm_num) (mm (nrm x g) w)) := by
  refine re_arr fun i j => host_v22 (W8 m ρ c) _ rfl (fun i j => ?_) i j
  exact (congrFun ((W8_of m ρ c main_v16_6 (by decide)).trans ((W7_of m ρ c main_v16_6 (by decide)).trans (k_kb m ρ c e0 e1 e2 e3 e4 e5 e6 e7))) (ix2 i j)).trans (arr_re _ i j)
/-- The result of the second values. -/
theorem z_vb : W9 m ρ c (Proc.devRef .tc main_v23) = Arr (sl 512 1792 (by norm_num) (mm (nrm x g) w)) := by
  refine re_arr fun i j => host_v23 (W8 m ρ c) _ rfl (fun i j => ?_) i j
  exact (congrFun ((W8_of m ρ c main_v16_7 (by decide)).trans ((W7_of m ρ c main_v16_7 (by decide)).trans (k_vb m ρ c e0 e1 e2 e3 e4 e5 e6 e7))) (ix2 i j)).trans (arr_re _ i j)
/-- The result of the first keys and values. -/
theorem z_kv : W9 m ρ c (Proc.devRef .tc main_v20) = fun y => ((kvF (mm (nrm x g) w) gk co si (y 0) (y 1) (y 2) : ℝ) : EReal) := by
  funext y
  rw [eq_ix3 y]
  refine host_v20 (W8 m ρ c) _ rfl (fun u i j => ?_) (y 0) (y 1) (y 2)
  exact congrFun ((W8_of m ρ c main_v16_4 (by decide)).trans ((W7_of m ρ c main_v16_4 (by decide)).trans (k_kv m ρ c e0 e1 e2 e3 e4 e5 e6 e7))) (ix3 u i j)
end ker
end Cert.Inp
end
-- ==== Proof.InRef.lean ====
module
public import proofs.«01_k».proof.Proof.InHeads
public import proofs.«01_k».proof.Proof.TailRef
public import proofs.«01_k».proof.Proof.Gen.Reference3Ideal.Read
public import Idealize.ShloMosaic.Lib.Pointwise

@[expose] public section

set_option maxRecDepth 16384

noncomputable section

namespace Cert.Inp

open Cert.Reference3Ideal Cert.Reference3Ideal.Read Cert.Tail
open Idealize.ShloMosaic Idealize.ShloMosaic.TcCoe Idealize.ShloMosaic.Tactic Idealize.SL.Sem

/-! The reference's stages. -/

/-- An array of three dimensions has the given real entries. -/
abbrev Re3 {a b d : ℕ} (v : Shape.Idx ⟨3, ![a, b, d]⟩ → EReal) (f : Fin a → Fin b → Fin d → ℝ) : Prop := ∀ i j k, v (ix3 i j k) = ((f i j k : ℝ) : EReal)

theorem r64 : Ideal.ofBits .f32 0x42800000#32 = ((64 : ℝ) : EReal) := by
  simp [Ideal.ofBits, Ideal.ieee]
  refine congrArg Real.toEReal ?_
  norm_num
theorem r8 : Ideal.ofBits .f32 0x3E000000#32 = ((1 / 8 : ℝ) : EReal) := by
  simp [Ideal.ofBits, Ideal.ieee]
  refine congrArg Real.toEReal ?_
  norm_num
theorem rdiv64 (a : ℝ) : Ideal.div ((a : ℝ) : EReal) ((64 : ℝ) : EReal) = ((a / ((64 : ℕ) : ℝ) : ℝ) : EReal) := by
  rw [Ideal.div_coe (by norm_num), ← EReal.coe_mul]
  refine congrArg Real.toEReal ?_
  push_cast
  ring

section ref
variable {x : Mat 16384 1024} {g : Mat 1 1024} {w : Mat 1024 2304} {gq gk : Mat 1 64} {co si : Mat 16384 32} {dp : Mat 16384 2304}
  {x0 : FVec Ideal S16384x1024 .f32} {x1 : FVec Ideal S1x1024 .f32} {x2 : FVec Ideal S1024x2304 .f32} {x3 x4 : FVec Ideal S1x64 .f32}
  {x5 x6 : FVec Ideal S16384x32 .f32} {x7 : FVec Ideal S16384x2304 .f32}

theorem t7 (h0 : Re x0 x) : Re (val_main_v7 (F := Ideal) x0) (fun i _ => rs (x i)) := by
  intro i j
  unfold val_main_v7 val_main_v6 val_main_v4 val_main_v5 val_main_v2 val_main_v3 val_main_cst_1 val_main_v1 val_main_cst_0 val_main_v0 val_main_cst
  pointwise []
  simp only [h0, emul, eadd, esub, esum, z32, r64, r8, k1024, rdiv64, div1024, eps_bits, Ideal.ofBits_def, rsq, zadd] <;> rfl

theorem t11 (h0 : Re x0 x) (h1 : Re x1 g) : Re (val_main_v11 (F := Ideal) x0 x1) (nrm x g) := by
  intro i j
  have q7 := t7 h0
  unfold val_main_v11 val_main_v9 val_main_v10 val_main_v8
  generalize val_main_v7 (F := Ideal) x0 = y7 at *
  pointwise []
  simp only [q7, h0, h1, emul, eadd, esub, esum, z32, r64, r8, k1024, rdiv64, div1024, eps_bits, Ideal.ofBits_def, rsq, zadd] <;> rfl

theorem t14 (h0 : Re x0 x) (h1 : Re x1 g) (h7 : Re x7 dp) : Re (val_main_v14 (F := Ideal) x0 x1 x7) (tn (nrm x g) dp) := by
  intro i j
  have q11 := t11 h0 h1
  unfold val_main_v14 val_main_v13
  generalize val_main_v11 (F := Ideal) x0 x1 = y11 at *
  pointwise []
  simp only [q11, h0, h1, h7, emul, eadd, esub, esum, z32, r64, r8, k1024, rdiv64, div1024, eps_bits, Ideal.ofBits_def, rsq, zadd, tn_comm]

theorem t22 (h0 : Re x0 x) : Re (val_main_v22 (F := Ideal) x0) (fun i _ => rs (x i)) := by
  intro i j
  unfold val_main_v22 val_main_v21 val_main_v19 val_main_v20 val_main_v17 val_main_v18 val_main_cst_4 val_main_v16 val_main_cst_3 val_main_v15 val_main_cst_2
  pointwise []
  simp only [h0, emul, eadd, esub, esum, z32, r64, r8, k1024, rdiv64, div1024, eps_bits, Ideal.ofBits_def, rsq, zadd] <;> rfl

theorem t26 (h0 : Re x0 x) (h1 : Re x1 g) : Re (val_main_v26 (F := Ideal) x0 x1) (nrm x g) := by
  intro i j
  have q22 := t22 h0
  unfold val_main_v26 val_main_v24 val_main_v25 val_main_v23
  generalize val_main_v22 (F := Ideal) x0 = y22 at *
  pointwise []
  simp only [q22, h0, h1, emul, eadd, esub, esum, z32, r64, r8, k1024, rdiv64, div1024, eps_bits, Ideal.ofBits_def, rsq, zadd] <;> rfl

theorem t27 (h0 : Re x0 x) (h1 : Re x1 g) (h2 : Re x2 w) : Re (val_main_v27 (F := Ideal) x0 x1 x2) (mm (nrm x g) w) := by
  intro i j
  have q26 := t26 h0 h1
  unfold val_main_v27
  generalize val_main_v26 (F := Ideal) x0 x1 = y26 at *
  pointwise []
  simp only [q26, h0, h1, h2, emul, eadd, esub, esum, z32, r64, r8, k1024, rdiv64, div1024, eps_bits, Ideal.ofBits_def, rsq, zadd] <;> rfl

theorem t99 (h0 : Re x0 x) (h1 : Re x1 g) (h2 : Re x2 w) : Re (val_main_v99 (F := Ideal) x0 x1 x2) (scl (sl 512 768 (by norm_num) (mm (nrm x g) w)) (1 / 8)) := by
  intro i j
  have q27 := t27 h0 h1 h2
  unfold val_main_v99 val_main_v31 val_main_v98 val_main_cst_12
  generalize val_main_v27 (F := Ideal) x0 x1 x2 = y27 at *
  pointwise []
  simp only [q27, h0, h1, h2, emul, eadd, esub, esum, z32, r64, r8, k1024, rdiv64, div1024, eps_bits, Ideal.ofBits_def, rsq, zadd] <;> rfl

theorem t32 (h0 : Re x0 x) (h1 : Re x1 g) (h2 : Re x2 w) : Re (val_main_v32 (F := Ideal) x0 x1 x2) (sl 512 1280 (by norm_num) (mm (nrm x g) w)) := by
  intro i j
  have q27 := t27 h0 h1 h2
  unfold val_main_v32
  generalize val_main_v27 (F := Ideal) x0 x1 x2 = y27 at *
  pointwise []
  simp only [q27, h0, h1, h2, emul, eadd, esub, esum, z32, r64, r8, k1024, rdiv64, div1024, eps_bits, Ideal.ofBits_def, rsq, zadd] <;> rfl

theorem t33 (h0 : Re x0 x) (h1 : Re x1 g) (h2 : Re x2 w) : Re (val_main_v33 (F := Ideal) x0 x1 x2) (sl 512 1792 (by norm_num) (mm (nrm x g) w)) := by
  intro i j
  have q27 := t27 h0 h1 h2
  unfold val_main_v33
  generalize val_main_v27 (F := Ideal) x0 x1 x2 = y27 at *
  pointwise []
  simp only [q27, h0, h1, h2, emul, eadd, esub, esum, z32, r64, r8, k1024, rdiv64, div1024, eps_bits, Ideal.ofBits_def, rsq, zadd] <;> rfl

theorem t34 (h0 : Re x0 x) (h1 : Re x1 g) (h2 : Re x2 w) : Re3 (val_main_v34 (F := Ideal) x0 x1 x2) (fun i (u : Fin 8) d => sl 64 (64 * u.val) (by have := u.isLt; omega) (mm (nrm x g) w) i d) := by
  intro i j k
  have q27 := t27 h0 h1 h2
  unfold val_main_v34 val_main_v28
  generalize val_main_v27 (F := Ideal) x0 x1 x2 = y27 at *
  pointwise []
  refine (q27 _ _).trans (congrArg Real.toEReal (congr (congrArg (mm (nrm x g) w) (Fin.ext ?_)) (Fin.ext ?_))) <;> (have := j.isLt; have := k.isLt; (try dsimp only); try omega)

theorem t42 (h0 : Re x0 x) (h1 : Re x1 g) (h2 : Re x2 w) : Re3 (val_main_v42 (F := Ideal) x0 x1 x2) (fun i (u : Fin 8) _ => rs ((sl 64 (64 * u.val) (by have := u.isLt; omega) (mm (nrm x g) w)) i)) := by
  intro i j k
  have q34 := t34 h0 h1 h2
  unfold val_main_v42 val_main_v41 val_main_v39 val_main_v40 val_main_v37 val_main_v38 val_main_cst_7 val_main_v36 val_main_cst_6 val_main_v35 val_main_cst_5
  generalize val_main_v34 (F := Ideal) x0 x1 x2 = y34 at *
  pointwise []
  simp only [q34, h0, h1, h2, emul, eadd, esub, esum, z32, r64, r8, k1024, rdiv64, div1024, eps_bits, Ideal.ofBits_def, rsq, zadd] <;> rfl

theorem t47 (h0 : Re x0 x) (h1 : Re x1 g) (h2 : Re x2 w) (h3 : Re x3 gq) : Re3 (val_main_v47 (F := Ideal) x0 x1 x2 x3) (fun i (u : Fin 8) d => nrm (sl 64 (64 * u.val) (by have := u.isLt; omega) (mm (nrm x g) w)) gq i d) := by
  intro i j k
  have q34 := t34 h0 h1 h2
  have q42 := t42 h0 h1 h2
  unfold val_main_v47 val_main_v44 val_main_v46 val_main_v43 val_main_v45
  generalize val_main_v34 (F := Ideal) x0 x1 x2 = y34 at *
  generalize val_main_v42 (F := Ideal) x0 x1 x2 = y42 at *
  pointwise []
  simp only [q34, q42, h0, h1, h2, h3, emul, eadd, esub, esum, z32, r64, r8, k1024, rdiv64, div1024, eps_bits, Ideal.ofBits_def, rsq, zadd] <;> rfl

theorem t62 (h0 : Re x0 x) (h1 : Re x1 g) (h2 : Re x2 w) (h3 : Re x3 gq) (h5 : Re x5 co) (h6 : Re x6 si) : Re3 (val_main_v62 (F := Ideal) x0 x1 x2 x3 x5 x6) (fun i (u : Fin 8) d => hdn (64 * u.val) (by have := u.isLt; omega) (mm (nrm x g) w) gq co si i d) := by
  intro i j k
  have q47 := t47 h0 h1 h2 h3
  unfold val_main_v62 val_main_v56 val_main_v61 val_main_v53 val_main_v55 val_main_v58 val_main_v60 val_main_v48 val_main_v52 val_main_v49 val_main_v54 val_main_v57 val_main_v59 val_main_v50 val_main_v51
  generalize val_main_v47 (F := Ideal) x0 x1 x2 x3 = y47 at *
  pointwise []
  unfold hdn rp
  by_cases hk : k.val < 32
  · rw [dif_pos hk, dif_pos hk]
    simp only [q47, h0, h1, h2, h3, h5, h6, emul, eadd, esub, esum, z32, r64, r8, k1024, rdiv64, div1024, eps_bits, Ideal.ofBits_def, rsq, zadd, Nat.add_comm 32] <;> rfl
  · have ek : 32 + (k.val - 32) = k.val := by omega
    rw [dif_neg hk, dif_neg hk]
    simp only [q47, h0, h1, h2, h3, h5, h6, emul, eadd, esub, esum, z32, r64, r8, k1024, rdiv64, div1024, eps_bits, Ideal.ofBits_def, rsq, zadd, ek] <;> rfl

theorem t97 (h0 : Re x0 x) (h1 : Re x1 g) (h2 : Re x2 w) (h3 : Re x3 gq) (h5 : Re x5 co) (h6 : Re x6 si) : Re (val_main_v97 (F := Ideal) x0 x1 x2 x3 x5 x6) (qaF (mm (nrm x g) w) gq co si) := by
  intro i j
  have q62 := t62 h0 h1 h2 h3 h5 h6
  unfold val_main_v97 val_main_v95 val_main_v96 val_main_cst_11
  generalize val_main_v62 (F := Ideal) x0 x1 x2 x3 x5 x6 = y62 at *
  pointwise []
  simp only [q62, h0, h1, h2, h3, h5, h6, emul, eadd, esub, esum, z32, r64, r8, k1024, rdiv64, div1024, eps_bits, Ideal.ofBits_def, rsq, zadd] <;> rfl

theorem t63 (h0 : Re x0 x) (h1 : Re x1 g) (h2 : Re x2 w) : Re3 (val_main_v63 (F := Ideal) x0 x1 x2) (fun i (u : Fin 2) d => sl 64 (512 + 64 * u.val) (by have := u.isLt; omega) (mm (nrm x g) w) i d) := by
  intro i j k
  have q27 := t27 h0 h1 h2
  unfold val_main_v63 val_main_v29
  generalize val_main_v27 (F := Ideal) x0 x1 x2 = y27 at *
  pointwise []
  refine (q27 _ _).trans (congrArg Real.toEReal (congr (congrArg (mm (nrm x g) w) (Fin.ext ?_)) (Fin.ext ?_))) <;> (have := j.isLt; have := k.isLt; (try dsimp only); try omega)

theorem t71 (h0 : Re x0 x) (h1 : Re x1 g) (h2 : Re x2 w) : Re3 (val_main_v71 (F := Ideal) x0 x1 x2) (fun i (u : Fin 2) _ => rs ((sl 64 (512 + 64 * u.val) (by have := u.isLt; omega) (mm (nrm x g) w)) i)) := by
  intro i j k
  have q63 := t63 h0 h1 h2
  unfold val_main_v71 val_main_v70 val_main_v68 val_main_v69 val_main_v66 val_main_v67 val_main_cst_10 val_main_v65 val_main_cst_9 val_main_v64 val_main_cst_8
  generalize val_main_v63 (F := Ideal) x0 x1 x2 = y63 at *
  pointwise []
  simp only [q63, h0, h1, h2, emul, eadd, esub, esum, z32, r64, r8, k1024, rdiv64, div1024, eps_bits, Ideal.ofBits_def, rsq, zadd] <;> rfl

theorem t76 (h0 : Re x0 x) (h1 : Re x1 g) (h2 : Re x2 w) (h4 : Re x4 gk) : Re3 (val_main_v76 (F := Ideal) x0 x1 x2 x4) (fun i (u : Fin 2) d => nrm (sl 64 (512 + 64 * u.val) (by have := u.isLt; omega) (mm (nrm x g) w)) gk i d) := by
  intro i j k
  have q63 := t63 h0 h1 h2
  have q71 := t71 h0 h1 h2
  unfold val_main_v76 val_main_v73 val_main_v75 val_main_v72 val_main_v74
  generalize val_main_v63 (F := Ideal) x0 x1 x2 = y63 at *
  generalize val_main_v71 (F := Ideal) x0 x1 x2 = y71 at *
  pointwise []
  simp only [q63, q71, h0, h1, h2, h4, emul, eadd, esub, esum, z32, r64, r8, k1024, rdiv64, div1024, eps_bits, Ideal.ofBits_def, rsq, zadd] <;> rfl

theorem t91 (h0 : Re x0 x) (h1 : Re x1 g) (h2 : Re x2 w) (h4 : Re x4 gk) (h5 : Re x5 co) (h6 : Re x6 si) : Re3 (val_main_v91 (F := Ideal) x0 x1 x2 x4 x5 x6) (fun i (u : Fin 2) d => hdn (512 + 64 * u.val) (by have := u.isLt; omega) (mm (nrm x g) w) gk co si i d) := by
  intro i j k
  have q76 := t76 h0 h1 h2 h4
  unfold val_main_v91 val_main_v85 val_main_v90 val_main_v82 val_main_v84 val_main_v87 val_main_v89 val_main_v77 val_main_v81 val_main_v78 val_main_v83 val_main_v86 val_main_v88 val_main_v79 val_main_v80
  generalize val_main_v76 (F := Ideal) x0 x1 x2 x4 = y76 at *
  pointwise []
  unfold hdn rp
  by_cases hk : k.val < 32
  · rw [dif_pos hk, dif_pos hk]
    simp only [q76, h0, h1, h2, h4, h5, h6, emul, eadd, esub, esum, z32, r64, r8, k1024, rdiv64, div1024, eps_bits, Ideal.ofBits_def, rsq, zadd, Nat.add_comm 32] <;> rfl
  · have ek : 32 + (k.val - 32) = k.val := by omega
    rw [dif_neg hk, dif_neg hk]
    simp only [q76, h0, h1, h2, h4, h5, h6, emul, eadd, esub, esum, z32, r64, r8, k1024, rdiv64, div1024, eps_bits, Ideal.ofBits_def, rsq, zadd, ek] <;> rfl

theorem t92 (h0 : Re x0 x) (h1 : Re x1 g) (h2 : Re x2 w) : Re3 (val_main_v92 (F := Ideal) x0 x1 x2) (fun i (u : Fin 2) d => (mm (nrm x g) w) i ⟨640 + 64 * u.val + d.val, by have := u.isLt; have := d.isLt; omega⟩) := by
  intro i j k
  have q27 := t27 h0 h1 h2
  unfold val_main_v92 val_main_v30
  generalize val_main_v27 (F := Ideal) x0 x1 x2 = y27 at *
  pointwise []
  refine (q27 _ _).trans (congrArg Real.toEReal (congr (congrArg (mm (nrm x g) w) (Fin.ext ?_)) (Fin.ext ?_))) <;> (have := j.isLt; have := k.isLt; (try dsimp only); try omega)

theorem t94 (h0 : Re x0 x) (h1 : Re x1 g) (h2 : Re x2 w) (h4 : Re x4 gk) (h5 : Re x5 co) (h6 : Re x6 si) : Re3 (val_main_v94 (F := Ideal) x0 x1 x2 x4 x5 x6) (kvF (mm (nrm x g) w) gk co si) := by
  intro i j k
  have q91 := t91 h0 h1 h2 h4 h5 h6
  have q92 := t92 h0 h1 h2
  unfold val_main_v94 val_main_v93
  generalize val_main_v91 (F := Ideal) x0 x1 x2 x4 x5 x6 = y91 at *
  generalize val_main_v92 (F := Ideal) x0 x1 x2 = y92 at *
  pointwise []
  unfold kvF
  by_cases hk : k.val < 64
  · rw [dif_pos hk]
    refine (q91 _ _ _).trans (congrArg Real.toEReal ?_)
    rw [dif_pos hk]
  · rw [dif_neg hk]
    refine (q92 _ _ _).trans (congrArg Real.toEReal ?_)
    rw [dif_neg hk]
end ref
end Cert.Inp
end
-- ==== Proof.InFinite.lean ====
module
public import proofs.«01_k».proof.Proof.TailFinite
public import proofs.«01_k».proof.Pre_finite3
@[expose] public section
noncomputable section
namespace Cert.Inp
/-- The side conditions of the third precondition hold. -/
theorem pre_facts : Cert.Pre_finite3.Facts := ⟨by decide, by decide, by decide, by decide, by decide, by decide⟩
end Cert.Inp
end
end
-- ==== Proof.InAlg.lean ====
module
public import proofs.«01_k».proof.Defs
public import proofs.«01_k».proof.Proof.InRun
public import proofs.«01_k».proof.Proof.InKer
public import proofs.«01_k».proof.Proof.InRef
public import proofs.«01_k».proof.Proof.InFinite
public import proofs.«01_k».proof.Proof.Gen.Reference3Ideal.Run
@[expose] public section
set_option maxRecDepth 16384
noncomputable section
namespace Cert.Inp
open Idealize.ShloMosaic Idealize.ShloMosaic.TcCoe Idealize.ShloMosaic.Tactic Idealize.SL.Sem Idealize.ShloMosaic.StableHlo Cert.Tail

/-- An array equal to one that has the entries of a real matrix has them too. -/
theorem re_eq {m n : ℕ} {v w : Shape.Idx ⟨2, ![m, n]⟩ → EReal} {f : Mat m n} (e : v = w) (h : Re w f) : Re v f := by
  rw [e]
  exact h

/-- An array of three dimensions with the given real entries, as a function. -/
theorem re3_arr {a b d : ℕ} {v : Shape.Idx ⟨3, ![a, b, d]⟩ → EReal} {f : Fin a → Fin b → Fin d → ℝ} (h : Re3 v f) :
    v = fun y => ((f (y 0) (y 1) (y 2) : ℝ) : EReal) := by
  funext y
  rw [eq_ix3 y]
  exact h (y 0) (y 1) (y 2)

/-- From finite arguments, the input projection's calls and the plain layers end with the same arrays: the gradient of the
    projection's weight, and the queries, keys and values of both branches of the attention. -/
theorem algebraic : Cert.algebraic_Kernel3Ideal_Reference3Ideal_pre_finite3 (hKernel3Ideal := Cert.Kernel3Ideal.Gen.facts)
    (hReference3Ideal := Cert.Reference3Ideal.Gen.facts) (hPre_finite3 := Cert.Inp.pre_facts) := by
  intro m g m' g' hpre hm
  refine ⟨fun c => Cert.Kernel3Ideal.Gen.W9 m g c (Proc.devRef .tc Cert.Kernel3Ideal.main_v18), fun c => Cert.Kernel3Ideal.Gen.W9 m g c (Proc.devRef .tc Cert.Kernel3Ideal.main_v19), fun c => Cert.Kernel3Ideal.Gen.W9 m g c (Proc.devRef .tc Cert.Kernel3Ideal.main_v20), fun c => Cert.Kernel3Ideal.Gen.W9 m g c (Proc.devRef .tc Cert.Kernel3Ideal.main_v21), fun c => Cert.Kernel3Ideal.Gen.W9 m g c (Proc.devRef .tc Cert.Kernel3Ideal.main_v22), fun c => Cert.Kernel3Ideal.Gen.W9 m g c (Proc.devRef .tc Cert.Kernel3Ideal.main_v23), ?_, ?_⟩
  · refine (θ_run _ _ _).mono (fun r h c => ?_) (run (F := Ideal) m g)
    exact ⟨h c _ (Cert.Kernel3Ideal.Gen.mem_uc Cert.Kernel3Ideal.main_v18 (by decide)),
      h c _ (Cert.Kernel3Ideal.Gen.mem_uc Cert.Kernel3Ideal.main_v19 (by decide)),
      h c _ (Cert.Kernel3Ideal.Gen.mem_uc Cert.Kernel3Ideal.main_v20 (by decide)),
      h c _ (Cert.Kernel3Ideal.Gen.mem_uc Cert.Kernel3Ideal.main_v21 (by decide)),
      h c _ (Cert.Kernel3Ideal.Gen.mem_uc Cert.Kernel3Ideal.main_v22 (by decide)),
      h c _ (Cert.Kernel3Ideal.Gen.mem_uc Cert.Kernel3Ideal.main_v23 (by decide)),
      (h c _ (Cert.Kernel3Ideal.Gen.mem_uc Cert.Kernel3Ideal.main_arg0 (by decide))).trans (Cert.Kernel3Ideal.Gen.W9_main_arg0 m g c),
      (h c _ (Cert.Kernel3Ideal.Gen.mem_uc Cert.Kernel3Ideal.main_arg1 (by decide))).trans (Cert.Kernel3Ideal.Gen.W9_main_arg1 m g c),
      (h c _ (Cert.Kernel3Ideal.Gen.mem_uc Cert.Kernel3Ideal.main_arg2 (by decide))).trans (Cert.Kernel3Ideal.Gen.W9_main_arg2 m g c),
      (h c _ (Cert.Kernel3Ideal.Gen.mem_uc Cert.Kernel3Ideal.main_arg3 (by decide))).trans (Cert.Kernel3Ideal.Gen.W9_main_arg3 m g c),
      (h c _ (Cert.Kernel3Ideal.Gen.mem_uc Cert.Kernel3Ideal.main_arg4 (by decide))).trans (Cert.Kernel3Ideal.Gen.W9_main_arg4 m g c),
      (h c _ (Cert.Kernel3Ideal.Gen.mem_uc Cert.Kernel3Ideal.main_arg5 (by decide))).trans (Cert.Kernel3Ideal.Gen.W9_main_arg5 m g c),
      (h c _ (Cert.Kernel3Ideal.Gen.mem_uc Cert.Kernel3Ideal.main_arg6 (by decide))).trans (Cert.Kernel3Ideal.Gen.W9_main_arg6 m g c),
      (h c _ (Cert.Kernel3Ideal.Gen.mem_uc Cert.Kernel3Ideal.main_arg7 (by decide))).trans (Cert.Kernel3Ideal.Gen.W9_main_arg7 m g c)⟩
  · refine (θ_run _ _ _).mono (fun r h c => ?_) (Cert.Reference3Ideal.Value.run (F := Ideal) m' g')
    obtain ⟨r0, r1, r2, r3, r4, r5, a⟩ := h c
    obtain ⟨p0, p1, p2, p3, p4, p5, p6, p7⟩ := hpre c
    obtain ⟨m0, m1, m2, m3, m4, m5, m6, m7⟩ := hm c
    have e0 := rl_re _ _ p0
    have e1 := rl_re _ _ p1
    have e2 := rl_re _ _ p2
    have e3 := rl_re _ _ p3
    have e4 := rl_re _ _ p4
    have e5 := rl_re _ _ p5
    have e6 := rl_re _ _ p6
    have e7 := rl_re _ _ p7
    have h0 : Re (m' ((c : Thread Cert.Reference3Ideal.nD Cert.Reference3Ideal.τ).loc Cert.Reference3Ideal.main_arg0)) _ := re_eq m0 e0
    have h1 : Re (m' ((c : Thread Cert.Reference3Ideal.nD Cert.Reference3Ideal.τ).loc Cert.Reference3Ideal.main_arg1)) _ := re_eq m1 e1
    have h2 : Re (m' ((c : Thread Cert.Reference3Ideal.nD Cert.Reference3Ideal.τ).loc Cert.Reference3Ideal.main_arg2)) _ := re_eq m2 e2
    have h3 : Re (m' ((c : Thread Cert.Reference3Ideal.nD Cert.Reference3Ideal.τ).loc Cert.Reference3Ideal.main_arg3)) _ := re_eq m3 e3
    have h4 : Re (m' ((c : Thread Cert.Reference3Ideal.nD Cert.Reference3Ideal.τ).loc Cert.Reference3Ideal.main_arg4)) _ := re_eq m4 e4
    have h5 : Re (m' ((c : Thread Cert.Reference3Ideal.nD Cert.Reference3Ideal.τ).loc Cert.Reference3Ideal.main_arg5)) _ := re_eq m5 e5
    have h6 : Re (m' ((c : Thread Cert.Reference3Ideal.nD Cert.Reference3Ideal.τ).loc Cert.Reference3Ideal.main_arg6)) _ := re_eq m6 e6
    have h7 : Re (m' ((c : Thread Cert.Reference3Ideal.nD Cert.Reference3Ideal.τ).loc Cert.Reference3Ideal.main_arg7)) _ := re_eq m7 e7
    exact ⟨((r0.trans (Cert.Reference3Ideal.Read.val_main_v14_eq _ _ _)).trans (re_arr (t14 h0 h1 h7))).trans (z_dw m g c e0 e1 e2 e3 e4 e5 e6 e7).symm,
      ((r1.trans (Cert.Reference3Ideal.Read.val_main_v97_eq m' c)).trans (re_arr (t97 h0 h1 h2 h3 h5 h6))).trans (z_qa m g c e0 e1 e2 e3 e4 e5 e6 e7).symm,
      ((r2.trans (Cert.Reference3Ideal.Read.val_main_v94_eq m' c)).trans (re3_arr (t94 h0 h1 h2 h4 h5 h6))).trans (z_kv m g c e0 e1 e2 e3 e4 e5 e6 e7).symm,
      ((r3.trans (Cert.Reference3Ideal.Read.val_main_v99_eq _ _ _)).trans (re_arr (t99 h0 h1 h2))).trans (z_qb m g c e0 e1 e2 e3 e4 e5 e6 e7).symm,
      ((r4.trans (Cert.Reference3Ideal.Read.val_main_v32_eq _ _ _)).trans (re_arr (t32 h0 h1 h2))).trans (z_kb m g c e0 e1 e2 e3 e4 e5 e6 e7).symm,
      ((r5.trans (Cert.Reference3Ideal.Read.val_main_v33_eq _ _ _)).trans (re_arr (t33 h0 h1 h2))).trans (z_vb m g c e0 e1 e2 e3 e4 e5 e6 e7).symm, a⟩

end Cert.Inp
end
end
-- ==== Proof.OptRun.lean ====
module
public import proofs.«01_k».proof.Proof.Gen.Kernel4Ideal.Frame
@[expose] public section
set_option maxRecDepth 16384
noncomputable section
namespace Cert.Opt
open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ
variable (m : (ℓ : Loc nD τ sig) → Buf (Elt F) ℓ) (ρ : Dev nD → PrngReg)

-- plain definitions in a metavariable's type
set_option backward.isDefEq.respectTransparency.types false in
/-- Every execution of the seven optimiser calls ends, and every buffer of a TensorCore then holds what the fold over the calls,
    `W7`, gives it. -/
theorem run : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz => h)

end Cert.Opt
end
end
-- ==== Proof.OptArr.lean ====
module
public import proofs.«01_k».proof.Proof.Gen.Kernel4Ideal.Frame
public import Idealize.ShloMosaic.Lib.Pipeline.ValueKit

@[expose] public section

set_option maxRecDepth 16384

noncomputable section

namespace Cert.Opt

open Cert.Kernel4Ideal Cert.Kernel4Ideal.Gen
open Idealize.ShloMosaic Idealize.ShloMosaic.TcCoe Idealize.ShloMosaic.Tactic Idealize.SL.Sem

/-- A constant of the step, from its bits. -/
abbrev kc (b : BitVec 32) : Ideal .f32 := Scalar.ofBits (F := Ideal) .f32 b

/-- The next first moment of one parameter, from its gradient and its first moment. -/
def nmS (g m : Ideal .f32) : Ideal .f32 :=
  FloatOps.addf (FloatOps.mulf (kc 0x3F666666#32) m) (FloatOps.mulf (kc 0x3DCCCCCD#32) g)

/-- The next second moment of one parameter, from its gradient and its second moment. -/
def nvS (g v : Ideal .f32) : Ideal .f32 :=
  FloatOps.addf (FloatOps.mulf (kc 0x3F7FBE77#32) v) (FloatOps.mulf (kc 0x3A83126F#32) (FloatOps.mulf g g))

/-- The step of one parameter, from its value, its gradient and its two moments. -/
def dS (w g m v : Ideal .f32) : Ideal .f32 :=
  FloatOps.mulf (kc 0xBA83126F#32) (FloatOps.addf
    (FloatOps.divf (FloatOps.divf (nmS g m) (kc 0x3F26BD02#32))
      (FloatOps.addf (FloatOps.sqrt (FloatOps.divf (nvS g v) (kc 0x3C231ACC#32))) (kc 0x322BCC77#32)))
    (FloatOps.mulf (kc 0x3C23D70A#32) w))

section arr
variable (V : (c : Dev nD) → (b : Ref sig .tc) → Buf (Elt Ideal) ((c : Thread nD τ).loc b)) (c : Dev nD)

/-- The step of the input projection, at every entry. -/
theorem a0_4 : (dat0 V c).arrAt 4 cfg0.N = fun y => dS (V c main_arg0 y) (V c main_arg1 y) (V c main_arg2 y) (V c main_arg3 y) := by
  refine (dat0 V c).arrAt_eq_of_covers 4 _ (by decide +kernel) fun t hf y => ?_
  rw [after0_4]
  frame_out
  rfl

/-- The next first moment of the input projection, at every entry. -/
theorem a0_5 : (dat0 V c).arrAt 5 cfg0.N = fun y => nmS (V c main_arg1 y) (V c main_arg2 y) := by
  refine (dat0 V c).arrAt_eq_of_covers 5 _ (by decide +kernel) fun t hf y => ?_
  rw [after0_5]
  frame_out
  rfl

/-- The next second moment of the input projection, at every entry. -/
theorem a0_6 : (dat0 V c).arrAt 6 cfg0.N = fun y => nvS (V c main_arg1 y) (V c main_arg3 y) := by
  refine (dat0 V c).arrAt_eq_of_covers 6 _ (by decide +kernel) fun t hf y => ?_
  rw [after0_6]
  frame_out
  rfl

/-- The step of the output projection, at every entry. -/
theorem a1_4 : (dat1 V c).arrAt 4 cfg1.N = fun y => dS (V c main_arg4 y) (V c main_arg5 y) (V c main_arg6 y) (V c main_arg7 y) := by
  refine (dat1 V c).arrAt_eq_of_covers 4 _ (by decide +kernel) fun t hf y => ?_
  rw [after1_4]
  frame_out
  rfl

/-- The next first moment of the output projection, at every entry. -/
theorem a1_5 : (dat1 V c).arrAt 5 cfg1.N = fun y => nmS (V c main_arg5 y) (V c main_arg6 y) := by
  refine (dat1 V c).arrAt_eq_of_covers 5 _ (by decide +kernel) fun t hf y => ?_
  rw [after1_5]
  frame_out
  rfl

/-- The next second moment of the output projection, at every entry. -/
theorem a1_6 : (dat1 V c).arrAt 6 cfg1.N = fun y => nvS (V c main_arg5 y) (V c main_arg7 y) := by
  refine (dat1 V c).arrAt_eq_of_covers 6 _ (by decide +kernel) fun t hf y => ?_
  rw [after1_6]
  frame_out
  rfl

/-- The step of the first matrix of the layer between, at every entry. -/
theorem a2_4 : (dat2 V c).arrAt 4 cfg2.N = fun y => dS (V c main_arg8 y) (V c main_arg9 y) (V c main_arg10 y) (V c main_arg11 y) := by
  refine (dat2 V c).arrAt_eq_of_covers 4 _ (by decide +kernel) fun t hf y => ?_
  rw [after2_4]
  frame_out
  rfl

/-- The next first moment of the first matrix of the layer between, at every entry. -/
theorem a2_5 : (dat2 V c).arrAt 5 cfg2.N = fun y => nmS (V c main_arg9 y) (V c main_arg10 y) := by
  refine (dat2 V c).arrAt_eq_of_covers 5 _ (by decide +kernel) fun t hf y => ?_
  rw [after2_5]
  frame_out
  rfl

/-- The next second moment of the first matrix of the layer between, at every entry. -/
theorem a2_6 : (dat2 V c).arrAt 6 cfg2.N = fun y => nvS (V c main_arg9 y) (V c main_arg11 y) := by
  refine (dat2 V c).arrAt_eq_of_covers 6 _ (by decide +kernel) fun t hf y => ?_
  rw [after2_6]
  frame_out
  rfl

/-- The step of the second matrix of the layer between, at every entry. -/
theorem a3_4 : (dat3 V c).arrAt 4 cfg3.N = fun y => dS (V c main_arg12 y) (V c main_arg13 y) (V c main_arg14 y) (V c main_arg15 y) := by
  refine (dat3 V c).arrAt_eq_of_covers 4 _ (by decide +kernel) fun t hf y => ?_
  rw [after3_4]
  frame_out
  rfl

/-- The next first moment of the second matrix of the layer between, at every entry. -/
theorem a3_5 : (dat3 V c).arrAt 5 cfg3.N = fun y => nmS (V c main_arg13 y) (V c main_arg14 y) := by
  refine (dat3 V c).arrAt_eq_of_covers 5 _ (by decide +kernel) fun t hf y => ?_
  rw [after3_5]
  frame_out
  rfl

/-- The next second moment of the second matrix of the layer between, at every entry. -/
theorem a3_6 : (dat3 V c).arrAt 6 cfg3.N = fun y => nvS (V c main_arg13 y) (V c main_arg15 y) := by
  refine (dat3 V c).arrAt_eq_of_covers 6 _ (by decide +kernel) fun t hf y => ?_
  rw [after3_6]
  frame_out
  rfl

/-- The step of the gate of the per-layer embedding, at every entry. -/
theorem a4_4 : (dat4 V c).arrAt 4 cfg4.N = fun y => dS (V c main_arg16 y) (V c main_arg17 y) (V c main_arg18 y) (V c main_arg19 y) := by
  refine (dat4 V c).arrAt_eq_of_covers 4 _ (by decide +kernel) fun t hf y => ?_
  rw [after4_4]
  frame_out
  rfl

/-- The next first moment of the gate of the per-layer embedding, at every entry. -/
theorem a4_5 : (dat4 V c).arrAt 5 cfg4.N = fun y => nmS (V c main_arg17 y) (V c main_arg18 y) := by
  refine (dat4 V c).arrAt_eq_of_covers 5 _ (by decide +kernel) fun t hf y => ?_
  rw [after4_5]
  frame_out
  rfl

/-- The next second moment of the gate of the per-layer embedding, at every entry. -/
theorem a4_6 : (dat4 V c).arrAt 6 cfg4.N = fun y => nvS (V c main_arg17 y) (V c main_arg19 y) := by
  refine (dat4 V c).arrAt_eq_of_covers 6 _ (by decide +kernel) fun t hf y => ?_
  rw [after4_6]
  frame_out
  rfl

/-- The step of the projection of the per-layer embedding, at every entry. -/
theorem a5_4 : (dat5 V c).arrAt 4 cfg5.N = fun y => dS (V c main_arg20 y) (V c main_arg21 y) (V c main_arg22 y) (V c main_arg23 y) := by
  refine (dat5 V c).arrAt_eq_of_covers 4 _ (by decide +kernel) fun t hf y => ?_
  rw [after5_4]
  frame_out
  rfl

/-- The next first moment of the projection of the per-layer embedding, at every entry. -/
theorem a5_5 : (dat5 V c).arrAt 5 cfg5.N = fun y => nmS (V c main_arg21 y) (V c main_arg22 y) := by
  refine (dat5 V c).arrAt_eq_of_covers 5 _ (by decide +kernel) fun t hf y => ?_
  rw [after5_5]
  frame_out
  rfl

/-- The next second moment of the projection of the per-layer embedding, at every entry. -/
theorem a5_6 : (dat5 V c).arrAt 6 cfg5.N = fun y => nvS (V c main_arg21 y) (V c main_arg23 y) := by
  refine (dat5 V c).arrAt_eq_of_covers 6 _ (by decide +kernel) fun t hf y => ?_
  rw [after5_6]
  frame_out
  rfl

/-- The step of the small parameters, at every entry. -/
theorem a6_4 : (dat6 V c).arrAt 4 cfg6.N = fun y => dS (V c main_arg24 y) (V c main_arg25 y) (V c main_arg26 y) (V c main_arg27 y) := by
  refine (dat6 V c).arrAt_eq_of_covers 4 _ (by decide +kernel) fun t hf y => ?_
  rw [after6_4]
  frame_out
  rfl

/-- The next first moment of the small parameters, at every entry. -/
theorem a6_5 : (dat6 V c).arrAt 5 cfg6.N = fun y => nmS (V c main_arg25 y) (V c main_arg26 y) := by
  refine (dat6 V c).arrAt_eq_of_covers 5 _ (by decide +kernel) fun t hf y => ?_
  rw [after6_5]
  frame_out
  rfl

/-- The next second moment of the small parameters, at every entry. -/
theorem a6_6 : (dat6 V c).arrAt 6 cfg6.N = fun y => nvS (V c main_arg25 y) (V c main_arg27 y) := by
  refine (dat6 V c).arrAt_eq_of_covers 6 _ (by decide +kernel) fun t hf y => ?_
  rw [after6_6]
  frame_out
  rfl

end arr

end Cert.Opt

end

end
-- ==== Proof.OptKer.lean ====
module
public import proofs.«01_k».proof.Proof.OptRun
public import proofs.«01_k».proof.Proof.OptArr
@[expose] public section
set_option maxRecDepth 16384
noncomputable section
namespace Cert.Opt
open Cert.Kernel4Ideal Cert.Kernel4Ideal.Gen
open Idealize.ShloMosaic Idealize.ShloMosaic.TcCoe Idealize.ShloMosaic.Tactic Idealize.SL.Sem

/-- Equal arrays have equal next first moments. -/
theorem nm_congr {S : Shape} {g m g' m' : S.Idx → Ideal .f32} (hg : g = g') (hm : m = m') :
    (fun y => nmS (g y) (m y)) = fun y => nmS (g' y) (m' y) := by
  subst hg hm
  rfl

/-- Equal arrays have equal next second moments. -/
theorem nv_congr {S : Shape} {g v g' v' : S.Idx → Ideal .f32} (hg : g = g') (hv : v = v') :
    (fun y => nvS (g y) (v y)) = fun y => nvS (g' y) (v' y) := by
  subst hg hv
  rfl

/-- Equal arrays have equal steps. -/
theorem d_congr {S : Shape} {w g m v w' g' m' v' : S.Idx → Ideal .f32} (hw : w = w') (hg : g = g') (hm : m = m') (hv : v = v') :
    (fun y => dS (w y) (g y) (m y) (v y)) = fun y => dS (w' y) (g' y) (m' y) (v' y) := by
  subst hw hg hm hv
  rfl

variable (m : (ℓ : Loc nD τ sig) → Buf (Elt Ideal) ℓ) (ρ : Dev nD → PrngReg) (c : Dev nD)

/-- The step of the input projection, from the arguments. -/
theorem z0_4 : W7 m ρ c (Proc.devRef .tc main_v0_0) = fun y => dS (m ((c : Thread nD τ).loc main_arg0) y) (m ((c : Thread nD τ).loc main_arg1) y) (m ((c : Thread nD τ).loc main_arg2) y) (m ((c : Thread nD τ).loc main_arg3) y) :=
  ((W7_of m ρ c main_v0_0 (by decide)).trans ((W6_of m ρ c main_v0_0 (by decide)).trans ((W5_of m ρ c main_v0_0 (by decide)).trans ((W4_of m ρ c main_v0_0 (by decide)).trans ((W3_of m ρ c main_v0_0 (by decide)).trans ((W2_of m ρ c main_v0_0 (by decide)).trans (W1_arr m ρ c 4))))))).trans ((a0_4 (V0 m ρ) c).trans (d_congr (W0_args m ρ c main_arg0 (by decide)) (W0_args m ρ c main_arg1 (by decide)) (W0_args m ρ c main_arg2 (by decide)) (W0_args m ρ c main_arg3 (by decide))))

/-- The next first moment of the input projection, from the arguments. -/
theorem z0_5 : W7 m ρ c (Proc.devRef .tc main_v0_1) = fun y => nmS (m ((c : Thread nD τ).loc main_arg1) y) (m ((c : Thread nD τ).loc main_arg2) y) :=
  ((W7_of m ρ c main_v0_1 (by decide)).trans ((W6_of m ρ c main_v0_1 (by decide)).trans ((W5_of m ρ c main_v0_1 (by decide)).trans ((W4_of m ρ c main_v0_1 (by decide)).trans ((W3_of m ρ c main_v0_1 (by decide)).trans ((W2_of m ρ c main_v0_1 (by decide)).trans (W1_arr m ρ c 5))))))).trans ((a0_5 (V0 m ρ) c).trans (nm_congr (W0_args m ρ c main_arg1 (by decide)) (W0_args m ρ c main_arg2 (by decide))))

/-- The next second moment of the input projection, from the arguments. -/
theorem z0_6 : W7 m ρ c (Proc.devRef .tc main_v0_2) = fun y => nvS (m ((c : Thread nD τ).loc main_arg1) y) (m ((c : Thread nD τ).loc main_arg3) y) :=
  ((W7_of m ρ c main_v0_2 (by decide)).trans ((W6_of m ρ c main_v0_2 (by decide)).trans ((W5_of m ρ c main_v0_2 (by decide)).trans ((W4_of m ρ c main_v0_2 (by decide)).trans ((W3_of m ρ c main_v0_2 (by decide)).trans ((W2_of m ρ c main_v0_2 (by decide)).trans (W1_arr m ρ c 6))))))).trans ((a0_6 (V0 m ρ) c).trans (nv_congr (W0_args m ρ c main_arg1 (by decide)) (W0_args m ρ c main_arg3 (by decide))))

/-- The step of the output projection, from the arguments. -/
theorem z1_4 : W7 m ρ c (Proc.devRef .tc main_v1_0) = fun y => dS (m ((c : Thread nD τ).loc main_arg4) y) (m ((c : Thread nD τ).loc main_arg5) y) (m ((c : Thread nD τ).loc main_arg6) y) (m ((c : Thread nD τ).loc main_arg7) y) :=
  ((W7_of m ρ c main_v1_0 (by decide)).trans ((W6_of m ρ c main_v1_0 (by decide)).trans ((W5_of m ρ c main_v1_0 (by decide)).trans ((W4_of m ρ c main_v1_0 (by decide)).trans ((W3_of m ρ c main_v1_0 (by decide)).trans (W2_arr m ρ c 4)))))).trans ((a1_4 (V1 m ρ) c).trans (d_congr (W1_args m ρ c main_arg4 (by decide)) (W1_args m ρ c main_arg5 (by decide)) (W1_args m ρ c main_arg6 (by decide)) (W1_args m ρ c main_arg7 (by decide))))

/-- The next first moment of the output projection, from the arguments. -/
theorem z1_5 : W7 m ρ c (Proc.devRef .tc main_v1_1) = fun y => nmS (m ((c : Thread nD τ).loc main_arg5) y) (m ((c : Thread nD τ).loc main_arg6) y) :=
  ((W7_of m ρ c main_v1_1 (by decide)).trans ((W6_of m ρ c main_v1_1 (by decide)).trans ((W5_of m ρ c main_v1_1 (by decide)).trans ((W4_of m ρ c main_v1_1 (by decide)).trans ((W3_of m ρ c main_v1_1 (by decide)).trans (W2_arr m ρ c 5)))))).trans ((a1_5 (V1 m ρ) c).trans (nm_congr (W1_args m ρ c main_arg5 (by decide)) (W1_args m ρ c main_arg6 (by decide))))

/-- The next second moment of the output projection, from the arguments. -/
theorem z1_6 : W7 m ρ c (Proc.devRef .tc main_v1_2) = fun y => nvS (m ((c : Thread nD τ).loc main_arg5) y) (m ((c : Thread nD τ).loc main_arg7) y) :=
  ((W7_of m ρ c main_v1_2 (by decide)).trans ((W6_of m ρ c main_v1_2 (by decide)).trans ((W5_of m ρ c main_v1_2 (by decide)).trans ((W4_of m ρ c main_v1_2 (by decide)).trans ((W3_of m ρ c main_v1_2 (by decide)).trans (W2_arr m ρ c 6)))))).trans ((a1_6 (V1 m ρ) c).trans (nv_congr (W1_args m ρ c main_arg5 (by decide)) (W1_args m ρ c main_arg7 (by decide))))

/-- The step of the first matrix of the layer between, from the arguments. -/
theorem z2_4 : W7 m ρ c (Proc.devRef .tc main_v2_0) = fun y => dS (m ((c : Thread nD τ).loc main_arg8) y) (m ((c : Thread nD τ).loc main_arg9) y) (m ((c : Thread nD τ).loc main_arg10) y) (m ((c : Thread nD τ).loc main_arg11) y) :=
  ((W7_of m ρ c main_v2_0 (by decide)).trans ((W6_of m ρ c main_v2_0 (by decide)).trans ((W5_of m ρ c main_v2_0 (by decide)).trans ((W4_of m ρ c main_v2_0 (by decide)).trans (W3_arr m ρ c 4))))).trans ((a2_4 (V2 m ρ) c).trans (d_congr (W2_args m ρ c main_arg8 (by decide)) (W2_args m ρ c main_arg9 (by decide)) (W2_args m ρ c main_arg10 (by decide)) (W2_args m ρ c main_arg11 (by decide))))

/-- The next first moment of the first matrix of the layer between, from the arguments. -/
theorem z2_5 : W7 m ρ c (Proc.devRef .tc main_v2_1) = fun y => nmS (m ((c : Thread nD τ).loc main_arg9) y) (m ((c : Thread nD τ).loc main_arg10) y) :=
  ((W7_of m ρ c main_v2_1 (by decide)).trans ((W6_of m ρ c main_v2_1 (by decide)).trans ((W5_of m ρ c main_v2_1 (by decide)).trans ((W4_of m ρ c main_v2_1 (by decide)).trans (W3_arr m ρ c 5))))).trans ((a2_5 (V2 m ρ) c).trans (nm_congr (W2_args m ρ c main_arg9 (by decide)) (W2_args m ρ c main_arg10 (by decide))))

/-- The next second moment of the first matrix of the layer between, from the arguments. -/
theorem z2_6 : W7 m ρ c (Proc.devRef .tc main_v2_2) = fun y => nvS (m ((c : Thread nD τ).loc main_arg9) y) (m ((c : Thread nD τ).loc main_arg11) y) :=
  ((W7_of m ρ c main_v2_2 (by decide)).trans ((W6_of m ρ c main_v2_2 (by decide)).trans ((W5_of m ρ c main_v2_2 (by decide)).trans ((W4_of m ρ c main_v2_2 (by decide)).trans (W3_arr m ρ c 6))))).trans ((a2_6 (V2 m ρ) c).trans (nv_congr (W2_args m ρ c main_arg9 (by decide)) (W2_args m ρ c main_arg11 (by decide))))

/-- The step of the second matrix of the layer between, from the arguments. -/
theorem z3_4 : W7 m ρ c (Proc.devRef .tc main_v3_0) = fun y => dS (m ((c : Thread nD τ).loc main_arg12) y) (m ((c : Thread nD τ).loc main_arg13) y) (m ((c : Thread nD τ).loc main_arg14) y) (m ((c : Thread nD τ).loc main_arg15) y) :=
  ((W7_of m ρ c main_v3_0 (by decide)).trans ((W6_of m ρ c main_v3_0 (by decide)).trans ((W5_of m ρ c main_v3_0 (by decide)).trans (W4_arr m ρ c 4)))).trans ((a3_4 (V3 m ρ) c).trans (d_congr (W3_args m ρ c main_arg12 (by decide)) (W3_args m ρ c main_arg13 (by decide)) (W3_args m ρ c main_arg14 (by decide)) (W3_args m ρ c main_arg15 (by decide))))

/-- The next first moment of the second matrix of the layer between, from the arguments. -/
theorem z3_5 : W7 m ρ c (Proc.devRef .tc main_v3_1) = fun y => nmS (m ((c : Thread nD τ).loc main_arg13) y) (m ((c : Thread nD τ).loc main_arg14) y) :=
  ((W7_of m ρ c main_v3_1 (by decide)).trans ((W6_of m ρ c main_v3_1 (by decide)).trans ((W5_of m ρ c main_v3_1 (by decide)).trans (W4_arr m ρ c 5)))).trans ((a3_5 (V3 m ρ) c).trans (nm_congr (W3_args m ρ c main_arg13 (by decide)) (W3_args m ρ c main_arg14 (by decide))))

/-- The next second moment of the second matrix of the layer between, from the arguments. -/
theorem z3_6 : W7 m ρ c (Proc.devRef .tc main_v3_2) = fun y => nvS (m ((c : Thread nD τ).loc main_arg13) y) (m ((c : Thread nD τ).loc main_arg15) y) :=
  ((W7_of m ρ c main_v3_2 (by decide)).trans ((W6_of m ρ c main_v3_2 (by decide)).trans ((W5_of m ρ c main_v3_2 (by decide)).trans (W4_arr m ρ c 6)))).trans ((a3_6 (V3 m ρ) c).trans (nv_congr (W3_args m ρ c main_arg13 (by decide)) (W3_args m ρ c main_arg15 (by decide))))

/-- The step of the gate of the per-layer embedding, from the arguments. -/
theorem z4_4 : W7 m ρ c (Proc.devRef .tc main_v4_0) = fun y => dS (m ((c : Thread nD τ).loc main_arg16) y) (m ((c : Thread nD τ).loc main_arg17) y) (m ((c : Thread nD τ).loc main_arg18) y) (m ((c : Thread nD τ).loc main_arg19) y) :=
  ((W7_of m ρ c main_v4_0 (by decide)).trans ((W6_of m ρ c main_v4_0 (by decide)).trans (W5_arr m ρ c 4))).trans ((a4_4 (V4 m ρ) c).trans (d_congr (W4_args m ρ c main_arg16 (by decide)) (W4_args m ρ c main_arg17 (by decide)) (W4_args m ρ c main_arg18 (by decide)) (W4_args m ρ c main_arg19 (by decide))))

/-- The next first moment of the gate of the per-layer embedding, from the arguments. -/
theorem z4_5 : W7 m ρ c (Proc.devRef .tc main_v4_1) = fun y => nmS (m ((c : Thread nD τ).loc main_arg17) y) (m ((c : Thread nD τ).loc main_arg18) y) :=
  ((W7_of m ρ c main_v4_1 (by decide)).trans ((W6_of m ρ c main_v4_1 (by decide)).trans (W5_arr m ρ c 5))).trans ((a4_5 (V4 m ρ) c).trans (nm_congr (W4_args m ρ c main_arg17 (by decide)) (W4_args m ρ c main_arg18 (by decide))))

/-- The next second moment of the gate of the per-layer embedding, from the arguments. -/
theorem z4_6 : W7 m ρ c (Proc.devRef .tc main_v4_2) = fun y => nvS (m ((c : Thread nD τ).loc main_arg17) y) (m ((c : Thread nD τ).loc main_arg19) y) :=
  ((W7_of m ρ c main_v4_2 (by decide)).trans ((W6_of m ρ c main_v4_2 (by decide)).trans (W5_arr m ρ c 6))).trans ((a4_6 (V4 m ρ) c).trans (nv_congr (W4_args m ρ c main_arg17 (by decide)) (W4_args m ρ c main_arg19 (by decide))))

/-- The step of the projection of the per-layer embedding, from the arguments. -/
theorem z5_4 : W7 m ρ c (Proc.devRef .tc main_v5_0) = fun y => dS (m ((c : Thread nD τ).loc main_arg20) y) (m ((c : Thread nD τ).loc main_arg21) y) (m ((c : Thread nD τ).loc main_arg22) y) (m ((c : Thread nD τ).loc main_arg23) y) :=
  ((W7_of m ρ c main_v5_0 (by decide)).trans (W6_arr m ρ c 4)).trans ((a5_4 (V5 m ρ) c).trans (d_congr (W5_args m ρ c main_arg20 (by decide)) (W5_args m ρ c main_arg21 (by decide)) (W5_args m ρ c main_arg22 (by decide)) (W5_args m ρ c main_arg23 (by decide))))

/-- The next first moment of the projection of the per-layer embedding, from the arguments. -/
theorem z5_5 : W7 m ρ c (Proc.devRef .tc main_v5_1) = fun y => nmS (m ((c : Thread nD τ).loc main_arg21) y) (m ((c : Thread nD τ).loc main_arg22) y) :=
  ((W7_of m ρ c main_v5_1 (by decide)).trans (W6_arr m ρ c 5)).trans ((a5_5 (V5 m ρ) c).trans (nm_congr (W5_args m ρ c main_arg21 (by decide)) (W5_args m ρ c main_arg22 (by decide))))

/-- The next second moment of the projection of the per-layer embedding, from the arguments. -/
theorem z5_6 : W7 m ρ c (Proc.devRef .tc main_v5_2) = fun y => nvS (m ((c : Thread nD τ).loc main_arg21) y) (m ((c : Thread nD τ).loc main_arg23) y) :=
  ((W7_of m ρ c main_v5_2 (by decide)).trans (W6_arr m ρ c 6)).trans ((a5_6 (V5 m ρ) c).trans (nv_congr (W5_args m ρ c main_arg21 (by decide)) (W5_args m ρ c main_arg23 (by decide))))

/-- The step of the small parameters, from the arguments. -/
theorem z6_4 : W7 m ρ c (Proc.devRef .tc main_v6_0) = fun y => dS (m ((c : Thread nD τ).loc main_arg24) y) (m ((c : Thread nD τ).loc main_arg25) y) (m ((c : Thread nD τ).loc main_arg26) y) (m ((c : Thread nD τ).loc main_arg27) y) :=
  (W7_arr m ρ c 4).trans ((a6_4 (V6 m ρ) c).trans (d_congr (W6_args m ρ c main_arg24 (by decide)) (W6_args m ρ c main_arg25 (by decide)) (W6_args m ρ c main_arg26 (by decide)) (W6_args m ρ c main_arg27 (by decide))))

/-- The next first moment of the small parameters, from the arguments. -/
theorem z6_5 : W7 m ρ c (Proc.devRef .tc main_v6_1) = fun y => nmS (m ((c : Thread nD τ).loc main_arg25) y) (m ((c : Thread nD τ).loc main_arg26) y) :=
  (W7_arr m ρ c 5).trans ((a6_5 (V6 m ρ) c).trans (nm_congr (W6_args m ρ c main_arg25 (by decide)) (W6_args m ρ c main_arg26 (by decide))))

/-- The next second moment of the small parameters, from the arguments. -/
theorem z6_6 : W7 m ρ c (Proc.devRef .tc main_v6_2) = fun y => nvS (m ((c : Thread nD τ).loc main_arg25) y) (m ((c : Thread nD τ).loc main_arg27) y) :=
  (W7_arr m ρ c 6).trans ((a6_6 (V6 m ρ) c).trans (nv_congr (W6_args m ρ c main_arg25 (by decide)) (W6_args m ρ c main_arg27 (by decide))))

end Cert.Opt
end
end
-- ==== Proof.OptAlg.lean ====
module
public import proofs.«01_k».proof.Defs
public import proofs.«01_k».proof.Proof.OptKer
public import proofs.«01_k».proof.Proof.Gen.Reference4Ideal.Run
@[expose] public section
set_option maxRecDepth 16384
noncomputable section
namespace Cert.Opt
open Idealize.ShloMosaic Idealize.ShloMosaic.TcCoe Idealize.ShloMosaic.Tactic Idealize.SL.Sem Idealize.ShloMosaic.StableHlo

set_option maxHeartbeats 4000000 in
/-- From any arguments, the optimiser's seven calls and the plain step end with the same arrays: of every matrix and of the
    small parameters, the step and the two next moments. -/
theorem algebraic : Cert.algebraic_Kernel4Ideal_Reference4Ideal (hKernel4Ideal := Cert.Kernel4Ideal.Gen.facts)
    (hReference4Ideal := Cert.Reference4Ideal.Gen.facts) := by
  intro m g m' g' _ hm
  refine ⟨fun c => Cert.Kernel4Ideal.Gen.W7 m g c (Proc.devRef .tc Cert.Kernel4Ideal.main_v0_0), fun c => Cert.Kernel4Ideal.Gen.W7 m g c (Proc.devRef .tc Cert.Kernel4Ideal.main_v0_1), fun c => Cert.Kernel4Ideal.Gen.W7 m g c (Proc.devRef .tc Cert.Kernel4Ideal.main_v0_2), fun c => Cert.Kernel4Ideal.Gen.W7 m g c (Proc.devRef .tc Cert.Kernel4Ideal.main_v1_0), fun c => Cert.Kernel4Ideal.Gen.W7 m g c (Proc.devRef .tc Cert.Kernel4Ideal.main_v1_1), fun c => Cert.Kernel4Ideal.Gen.W7 m g c (Proc.devRef .tc Cert.Kernel4Ideal.main_v1_2), fun c => Cert.Kernel4Ideal.Gen.W7 m g c (Proc.devRef .tc Cert.Kernel4Ideal.main_v2_0), fun c => Cert.Kernel4Ideal.Gen.W7 m g c (Proc.devRef .tc Cert.Kernel4Ideal.main_v2_1), fun c => Cert.Kernel4Ideal.Gen.W7 m g c (Proc.devRef .tc Cert.Kernel4Ideal.main_v2_2), fun c => Cert.Kernel4Ideal.Gen.W7 m g c (Proc.devRef .tc Cert.Kernel4Ideal.main_v3_0), fun c => Cert.Kernel4Ideal.Gen.W7 m g c (Proc.devRef .tc Cert.Kernel4Ideal.main_v3_1), fun c => Cert.Kernel4Ideal.Gen.W7 m g c (Proc.devRef .tc Cert.Kernel4Ideal.main_v3_2), fun c => Cert.Kernel4Ideal.Gen.W7 m g c (Proc.devRef .tc Cert.Kernel4Ideal.main_v4_0), fun c => Cert.Kernel4Ideal.Gen.W7 m g c (Proc.devRef .tc Cert.Kernel4Ideal.main_v4_1), fun c => Cert.Kernel4Ideal.Gen.W7 m g c (Proc.devRef .tc Cert.Kernel4Ideal.main_v4_2), fun c => Cert.Kernel4Ideal.Gen.W7 m g c (Proc.devRef .tc Cert.Kernel4Ideal.main_v5_0), fun c => Cert.Kernel4Ideal.Gen.W7 m g c (Proc.devRef .tc Cert.Kernel4Ideal.main_v5_1), fun c => Cert.Kernel4Ideal.Gen.W7 m g c (Proc.devRef .tc Cert.Kernel4Ideal.main_v5_2), fun c => Cert.Kernel4Ideal.Gen.W7 m g c (Proc.devRef .tc Cert.Kernel4Ideal.main_v6_0), fun c => Cert.Kernel4Ideal.Gen.W7 m g c (Proc.devRef .tc Cert.Kernel4Ideal.main_v6_1), fun c => Cert.Kernel4Ideal.Gen.W7 m g c (Proc.devRef .tc Cert.Kernel4Ideal.main_v6_2), ?_, ?_⟩
  · refine (θ_run _ _ _).mono (fun r h c => ?_) (run (F := Ideal) m g)
    exact ⟨h c _ (Cert.Kernel4Ideal.Gen.mem_uc Cert.Kernel4Ideal.main_v0_0 (by decide)),
      h c _ (Cert.Kernel4Ideal.Gen.mem_uc Cert.Kernel4Ideal.main_v0_1 (by decide)),
      h c _ (Cert.Kernel4Ideal.Gen.mem_uc Cert.Kernel4Ideal.main_v0_2 (by decide)),
      h c _ (Cert.Kernel4Ideal.Gen.mem_uc Cert.Kernel4Ideal.main_v1_0 (by decide)),
      h c _ (Cert.Kernel4Ideal.Gen.mem_uc Cert.Kernel4Ideal.main_v1_1 (by decide)),
      h c _ (Cert.Kernel4Ideal.Gen.mem_uc Cert.Kernel4Ideal.main_v1_2 (by decide)),
      h c _ (Cert.Kernel4Ideal.Gen.mem_uc Cert.Kernel4Ideal.main_v2_0 (by decide)),
      h c _ (Cert.Kernel4Ideal.Gen.mem_uc Cert.Kernel4Ideal.main_v2_1 (by decide)),
      h c _ (Cert.Kernel4Ideal.Gen.mem_uc Cert.Kernel4Ideal.main_v2_2 (by decide)),
      h c _ (Cert.Kernel4Ideal.Gen.mem_uc Cert.Kernel4Ideal.main_v3_0 (by decide)),
      h c _ (Cert.Kernel4Ideal.Gen.mem_uc Cert.Kernel4Ideal.main_v3_1 (by decide)),
      h c _ (Cert.Kernel4Ideal.Gen.mem_uc Cert.Kernel4Ideal.main_v3_2 (by decide)),
      h c _ (Cert.Kernel4Ideal.Gen.mem_uc Cert.Kernel4Ideal.main_v4_0 (by decide)),
      h c _ (Cert.Kernel4Ideal.Gen.mem_uc Cert.Kernel4Ideal.main_v4_1 (by decide)),
      h c _ (Cert.Kernel4Ideal.Gen.mem_uc Cert.Kernel4Ideal.main_v4_2 (by decide)),
      h c _ (Cert.Kernel4Ideal.Gen.mem_uc Cert.Kernel4Ideal.main_v5_0 (by decide)),
      h c _ (Cert.Kernel4Ideal.Gen.mem_uc Cert.Kernel4Ideal.main_v5_1 (by decide)),
      h c _ (Cert.Kernel4Ideal.Gen.mem_uc Cert.Kernel4Ideal.main_v5_2 (by decide)),
      h c _ (Cert.Kernel4Ideal.Gen.mem_uc Cert.Kernel4Ideal.main_v6_0 (by decide)),
      h c _ (Cert.Kernel4Ideal.Gen.mem_uc Cert.Kernel4Ideal.main_v6_1 (by decide)),
      h c _ (Cert.Kernel4Ideal.Gen.mem_uc Cert.Kernel4Ideal.main_v6_2 (by decide)),
      (h c _ (Cert.Kernel4Ideal.Gen.mem_uc Cert.Kernel4Ideal.main_arg0 (by decide))).trans (Cert.Kernel4Ideal.Gen.W7_main_arg0 m g c),
      (h c _ (Cert.Kernel4Ideal.Gen.mem_uc Cert.Kernel4Ideal.main_arg1 (by decide))).trans (Cert.Kernel4Ideal.Gen.W7_main_arg1 m g c),
      (h c _ (Cert.Kernel4Ideal.Gen.mem_uc Cert.Kernel4Ideal.main_arg2 (by decide))).trans (Cert.Kernel4Ideal.Gen.W7_main_arg2 m g c),
      (h c _ (Cert.Kernel4Ideal.Gen.mem_uc Cert.Kernel4Ideal.main_arg3 (by decide))).trans (Cert.Kernel4Ideal.Gen.W7_main_arg3 m g c),
      (h c _ (Cert.Kernel4Ideal.Gen.mem_uc Cert.Kernel4Ideal.main_arg4 (by decide))).trans (Cert.Kernel4Ideal.Gen.W7_main_arg4 m g c),
      (h c _ (Cert.Kernel4Ideal.Gen.mem_uc Cert.Kernel4Ideal.main_arg5 (by decide))).trans (Cert.Kernel4Ideal.Gen.W7_main_arg5 m g c),
      (h c _ (Cert.Kernel4Ideal.Gen.mem_uc Cert.Kernel4Ideal.main_arg6 (by decide))).trans (Cert.Kernel4Ideal.Gen.W7_main_arg6 m g c),
      (h c _ (Cert.Kernel4Ideal.Gen.mem_uc Cert.Kernel4Ideal.main_arg7 (by decide))).trans (Cert.Kernel4Ideal.Gen.W7_main_arg7 m g c),
      (h c _ (Cert.Kernel4Ideal.Gen.mem_uc Cert.Kernel4Ideal.main_arg8 (by decide))).trans (Cert.Kernel4Ideal.Gen.W7_main_arg8 m g c),
      (h c _ (Cert.Kernel4Ideal.Gen.mem_uc Cert.Kernel4Ideal.main_arg9 (by decide))).trans (Cert.Kernel4Ideal.Gen.W7_main_arg9 m g c),
      (h c _ (Cert.Kernel4Ideal.Gen.mem_uc Cert.Kernel4Ideal.main_arg10 (by decide))).trans (Cert.Kernel4Ideal.Gen.W7_main_arg10 m g c),
      (h c _ (Cert.Kernel4Ideal.Gen.mem_uc Cert.Kernel4Ideal.main_arg11 (by decide))).trans (Cert.Kernel4Ideal.Gen.W7_main_arg11 m g c),
      (h c _ (Cert.Kernel4Ideal.Gen.mem_uc Cert.Kernel4Ideal.main_arg12 (by decide))).trans (Cert.Kernel4Ideal.Gen.W7_main_arg12 m g c),
      (h c _ (Cert.Kernel4Ideal.Gen.mem_uc Cert.Kernel4Ideal.main_arg13 (by decide))).trans (Cert.Kernel4Ideal.Gen.W7_main_arg13 m g c),
      (h c _ (Cert.Kernel4Ideal.Gen.mem_uc Cert.Kernel4Ideal.main_arg14 (by decide))).trans (Cert.Kernel4Ideal.Gen.W7_main_arg14 m g c),
      (h c _ (Cert.Kernel4Ideal.Gen.mem_uc Cert.Kernel4Ideal.main_arg15 (by decide))).trans (Cert.Kernel4Ideal.Gen.W7_main_arg15 m g c),
      (h c _ (Cert.Kernel4Ideal.Gen.mem_uc Cert.Kernel4Ideal.main_arg16 (by decide))).trans (Cert.Kernel4Ideal.Gen.W7_main_arg16 m g c),
      (h c _ (Cert.Kernel4Ideal.Gen.mem_uc Cert.Kernel4Ideal.main_arg17 (by decide))).trans (Cert.Kernel4Ideal.Gen.W7_main_arg17 m g c),
      (h c _ (Cert.Kernel4Ideal.Gen.mem_uc Cert.Kernel4Ideal.main_arg18 (by decide))).trans (Cert.Kernel4Ideal.Gen.W7_main_arg18 m g c),
      (h c _ (Cert.Kernel4Ideal.Gen.mem_uc Cert.Kernel4Ideal.main_arg19 (by decide))).trans (Cert.Kernel4Ideal.Gen.W7_main_arg19 m g c),
      (h c _ (Cert.Kernel4Ideal.Gen.mem_uc Cert.Kernel4Ideal.main_arg20 (by decide))).trans (Cert.Kernel4Ideal.Gen.W7_main_arg20 m g c),
      (h c _ (Cert.Kernel4Ideal.Gen.mem_uc Cert.Kernel4Ideal.main_arg21 (by decide))).trans (Cert.Kernel4Ideal.Gen.W7_main_arg21 m g c),
      (h c _ (Cert.Kernel4Ideal.Gen.mem_uc Cert.Kernel4Ideal.main_arg22 (by decide))).trans (Cert.Kernel4Ideal.Gen.W7_main_arg22 m g c),
      (h c _ (Cert.Kernel4Ideal.Gen.mem_uc Cert.Kernel4Ideal.main_arg23 (by decide))).trans (Cert.Kernel4Ideal.Gen.W7_main_arg23 m g c),
      (h c _ (Cert.Kernel4Ideal.Gen.mem_uc Cert.Kernel4Ideal.main_arg24 (by decide))).trans (Cert.Kernel4Ideal.Gen.W7_main_arg24 m g c),
      (h c _ (Cert.Kernel4Ideal.Gen.mem_uc Cert.Kernel4Ideal.main_arg25 (by decide))).trans (Cert.Kernel4Ideal.Gen.W7_main_arg25 m g c),
      (h c _ (Cert.Kernel4Ideal.Gen.mem_uc Cert.Kernel4Ideal.main_arg26 (by decide))).trans (Cert.Kernel4Ideal.Gen.W7_main_arg26 m g c),
      (h c _ (Cert.Kernel4Ideal.Gen.mem_uc Cert.Kernel4Ideal.main_arg27 (by decide))).trans (Cert.Kernel4Ideal.Gen.W7_main_arg27 m g c)⟩
  · refine (θ_run _ _ _).mono (fun r h c => ?_) (Cert.Reference4Ideal.Value.run (F := Ideal) m' g')
    obtain ⟨r0, r1, r2, r3, r4, r5, r6, r7, r8, r9, r10, r11, r12, r13, r14, r15, r16, r17, r18, r19, r20, a⟩ := h c
    obtain ⟨m0, m1, m2, m3, m4, m5, m6, m7, m8, m9, m10, m11, m12, m13, m14, m15, m16, m17, m18, m19, m20, m21, m22, m23, m24, m25, m26, m27⟩ := hm c
    exact ⟨(Eq.trans (b := fun y : Cert.Reference4Ideal.S1024x576.Idx => dS (m' ((c : Thread Cert.Reference4Ideal.nD Cert.Reference4Ideal.τ).loc Cert.Reference4Ideal.main_arg0) y) (m' ((c : Thread Cert.Reference4Ideal.nD Cert.Reference4Ideal.τ).loc Cert.Reference4Ideal.main_arg1) y) (m' ((c : Thread Cert.Reference4Ideal.nD Cert.Reference4Ideal.τ).loc Cert.Reference4Ideal.main_arg2) y) (m' ((c : Thread Cert.Reference4Ideal.nD Cert.Reference4Ideal.τ).loc Cert.Reference4Ideal.main_arg3) y)) r0
        (d_congr m0 m1 m2 m3)).trans (z0_4 m g c).symm,
      (Eq.trans (b := fun y : Cert.Reference4Ideal.S1024x576.Idx => nmS (m' ((c : Thread Cert.Reference4Ideal.nD Cert.Reference4Ideal.τ).loc Cert.Reference4Ideal.main_arg1) y) (m' ((c : Thread Cert.Reference4Ideal.nD Cert.Reference4Ideal.τ).loc Cert.Reference4Ideal.main_arg2) y)) r1
        (nm_congr m1 m2)).trans (z0_5 m g c).symm,
      (Eq.trans (b := fun y : Cert.Reference4Ideal.S1024x576.Idx => nvS (m' ((c : Thread Cert.Reference4Ideal.nD Cert.Reference4Ideal.τ).loc Cert.Reference4Ideal.main_arg1) y) (m' ((c : Thread Cert.Reference4Ideal.nD Cert.Reference4Ideal.τ).loc Cert.Reference4Ideal.main_arg3) y)) r2
        (nv_congr m1 m3)).trans (z0_6 m g c).symm,
      (Eq.trans (b := fun y : Cert.Reference4Ideal.S256x1024.Idx => dS (m' ((c : Thread Cert.Reference4Ideal.nD Cert.Reference4Ideal.τ).loc Cert.Reference4Ideal.main_arg4) y) (m' ((c : Thread Cert.Reference4Ideal.nD Cert.Reference4Ideal.τ).loc Cert.Reference4Ideal.main_arg5) y) (m' ((c : Thread Cert.Reference4Ideal.nD Cert.Reference4Ideal.τ).loc Cert.Reference4Ideal.main_arg6) y) (m' ((c : Thread Cert.Reference4Ideal.nD Cert.Reference4Ideal.τ).loc Cert.Reference4Ideal.main_arg7) y)) r3
        (d_congr m4 m5 m6 m7)).trans (z1_4 m g c).symm,
      (Eq.trans (b := fun y : Cert.Reference4Ideal.S256x1024.Idx => nmS (m' ((c : Thread Cert.Reference4Ideal.nD Cert.Reference4Ideal.τ).loc Cert.Reference4Ideal.main_arg5) y) (m' ((c : Thread Cert.Reference4Ideal.nD Cert.Reference4Ideal.τ).loc Cert.Reference4Ideal.main_arg6) y)) r4
        (nm_congr m5 m6)).trans (z1_5 m g c).symm,
      (Eq.trans (b := fun y : Cert.Reference4Ideal.S256x1024.Idx => nvS (m' ((c : Thread Cert.Reference4Ideal.nD Cert.Reference4Ideal.τ).loc Cert.Reference4Ideal.main_arg5) y) (m' ((c : Thread Cert.Reference4Ideal.nD Cert.Reference4Ideal.τ).loc Cert.Reference4Ideal.main_arg7) y)) r5
        (nv_congr m5 m7)).trans (z1_6 m g c).symm,
      (Eq.trans (b := fun y : Cert.Reference4Ideal.S1024x1024.Idx => dS (m' ((c : Thread Cert.Reference4Ideal.nD Cert.Reference4Ideal.τ).loc Cert.Reference4Ideal.main_arg8) y) (m' ((c : Thread Cert.Reference4Ideal.nD Cert.Reference4Ideal.τ).loc Cert.Reference4Ideal.main_arg9) y) (m' ((c : Thread Cert.Reference4Ideal.nD Cert.Reference4Ideal.τ).loc Cert.Reference4Ideal.main_arg10) y) (m' ((c : Thread Cert.Reference4Ideal.nD Cert.Reference4Ideal.τ).loc Cert.Reference4Ideal.main_arg11) y)) r6
        (d_congr m8 m9 m10 m11)).trans (z2_4 m g c).symm,
      (Eq.trans (b := fun y : Cert.Reference4Ideal.S1024x1024.Idx => nmS (m' ((c : Thread Cert.Reference4Ideal.nD Cert.Reference4Ideal.τ).loc Cert.Reference4Ideal.main_arg9) y) (m' ((c : Thread Cert.Reference4Ideal.nD Cert.Reference4Ideal.τ).loc Cert.Reference4Ideal.main_arg10) y)) r7
        (nm_congr m9 m10)).trans (z2_5 m g c).symm,
      (Eq.trans (b := fun y : Cert.Reference4Ideal.S1024x1024.Idx => nvS (m' ((c : Thread Cert.Reference4Ideal.nD Cert.Reference4Ideal.τ).loc Cert.Reference4Ideal.main_arg9) y) (m' ((c : Thread Cert.Reference4Ideal.nD Cert.Reference4Ideal.τ).loc Cert.Reference4Ideal.main_arg11) y)) r8
        (nv_congr m9 m11)).trans (z2_6 m g c).symm,
      (Eq.trans (b := fun y : Cert.Reference4Ideal.S1024x1024.Idx => dS (m' ((c : Thread Cert.Reference4Ideal.nD Cert.Reference4Ideal.τ).loc Cert.Reference4Ideal.main_arg12) y) (m' ((c : Thread Cert.Reference4Ideal.nD Cert.Reference4Ideal.τ).loc Cert.Reference4Ideal.main_arg13) y) (m' ((c : Thread Cert.Reference4Ideal.nD Cert.Reference4Ideal.τ).loc Cert.Reference4Ideal.main_arg14) y) (m' ((c : Thread Cert.Reference4Ideal.nD Cert.Reference4Ideal.τ).loc Cert.Reference4Ideal.main_arg15) y)) r9
        (d_congr m12 m13 m14 m15)).trans (z3_4 m g c).symm,
      (Eq.trans (b := fun y : Cert.Reference4Ideal.S1024x1024.Idx => nmS (m' ((c : Thread Cert.Reference4Ideal.nD Cert.Reference4Ideal.τ).loc Cert.Reference4Ideal.main_arg13) y) (m' ((c : Thread Cert.Reference4Ideal.nD Cert.Reference4Ideal.τ).loc Cert.Reference4Ideal.main_arg14) y)) r10
        (nm_congr m13 m14)).trans (z3_5 m g c).symm,
      (Eq.trans (b := fun y : Cert.Reference4Ideal.S1024x1024.Idx => nvS (m' ((c : Thread Cert.Reference4Ideal.nD Cert.Reference4Ideal.τ).loc Cert.Reference4Ideal.main_arg13) y) (m' ((c : Thread Cert.Reference4Ideal.nD Cert.Reference4Ideal.τ).loc Cert.Reference4Ideal.main_arg15) y)) r11
        (nv_congr m13 m15)).trans (z3_6 m g c).symm,
      (Eq.trans (b := fun y : Cert.Reference4Ideal.S256x1024.Idx => dS (m' ((c : Thread Cert.Reference4Ideal.nD Cert.Reference4Ideal.τ).loc Cert.Reference4Ideal.main_arg16) y) (m' ((c : Thread Cert.Reference4Ideal.nD Cert.Reference4Ideal.τ).loc Cert.Reference4Ideal.main_arg17) y) (m' ((c : Thread Cert.Reference4Ideal.nD Cert.Reference4Ideal.τ).loc Cert.Reference4Ideal.main_arg18) y) (m' ((c : Thread Cert.Reference4Ideal.nD Cert.Reference4Ideal.τ).loc Cert.Reference4Ideal.main_arg19) y)) r12
        (d_congr m16 m17 m18 m19)).trans (z4_4 m g c).symm,
      (Eq.trans (b := fun y : Cert.Reference4Ideal.S256x1024.Idx => nmS (m' ((c : Thread Cert.Reference4Ideal.nD Cert.Reference4Ideal.τ).loc Cert.Reference4Ideal.main_arg17) y) (m' ((c : Thread Cert.Reference4Ideal.nD Cert.Reference4Ideal.τ).loc Cert.Reference4Ideal.main_arg18) y)) r13
        (nm_congr m17 m18)).trans (z4_5 m g c).symm,
      (Eq.trans (b := fun y : Cert.Reference4Ideal.S256x1024.Idx => nvS (m' ((c : Thread Cert.Reference4Ideal.nD Cert.Reference4Ideal.τ).loc Cert.Reference4Ideal.main_arg17) y) (m' ((c : Thread Cert.Reference4Ideal.nD Cert.Reference4Ideal.τ).loc Cert.Reference4Ideal.main_arg19) y)) r14
        (nv_congr m17 m19)).trans (z4_6 m g c).symm,
      (Eq.trans (b := fun y : Cert.Reference4Ideal.S256x256.Idx => dS (m' ((c : Thread Cert.Reference4Ideal.nD Cert.Reference4Ideal.τ).loc Cert.Reference4Ideal.main_arg20) y) (m' ((c : Thread Cert.Reference4Ideal.nD Cert.Reference4Ideal.τ).loc Cert.Reference4Ideal.main_arg21) y) (m' ((c : Thread Cert.Reference4Ideal.nD Cert.Reference4Ideal.τ).loc Cert.Reference4Ideal.main_arg22) y) (m' ((c : Thread Cert.Reference4Ideal.nD Cert.Reference4Ideal.τ).loc Cert.Reference4Ideal.main_arg23) y)) r15
        (d_congr m20 m21 m22 m23)).trans (z5_4 m g c).symm,
      (Eq.trans (b := fun y : Cert.Reference4Ideal.S256x256.Idx => nmS (m' ((c : Thread Cert.Reference4Ideal.nD Cert.Reference4Ideal.τ).loc Cert.Reference4Ideal.main_arg21) y) (m' ((c : Thread Cert.Reference4Ideal.nD Cert.Reference4Ideal.τ).loc Cert.Reference4Ideal.main_arg22) y)) r16
        (nm_congr m21 m22)).trans (z5_5 m g c).symm,
      (Eq.trans (b := fun y : Cert.Reference4Ideal.S256x256.Idx => nvS (m' ((c : Thread Cert.Reference4Ideal.nD Cert.Reference4Ideal.τ).loc Cert.Reference4Ideal.main_arg21) y) (m' ((c : Thread Cert.Reference4Ideal.nD Cert.Reference4Ideal.τ).loc Cert.Reference4Ideal.main_arg23) y)) r17
        (nv_congr m21 m23)).trans (z5_6 m g c).symm,
      (Eq.trans (b := fun y : Cert.Reference4Ideal.S8x1024.Idx => dS (m' ((c : Thread Cert.Reference4Ideal.nD Cert.Reference4Ideal.τ).loc Cert.Reference4Ideal.main_arg24) y) (m' ((c : Thread Cert.Reference4Ideal.nD Cert.Reference4Ideal.τ).loc Cert.Reference4Ideal.main_arg25) y) (m' ((c : Thread Cert.Reference4Ideal.nD Cert.Reference4Ideal.τ).loc Cert.Reference4Ideal.main_arg26) y) (m' ((c : Thread Cert.Reference4Ideal.nD Cert.Reference4Ideal.τ).loc Cert.Reference4Ideal.main_arg27) y)) r18
        (d_congr m24 m25 m26 m27)).trans (z6_4 m g c).symm,
      (Eq.trans (b := fun y : Cert.Reference4Ideal.S8x1024.Idx => nmS (m' ((c : Thread Cert.Reference4Ideal.nD Cert.Reference4Ideal.τ).loc Cert.Reference4Ideal.main_arg25) y) (m' ((c : Thread Cert.Reference4Ideal.nD Cert.Reference4Ideal.τ).loc Cert.Reference4Ideal.main_arg26) y)) r19
        (nm_congr m25 m26)).trans (z6_5 m g c).symm,
      (Eq.trans (b := fun y : Cert.Reference4Ideal.S8x1024.Idx => nvS (m' ((c : Thread Cert.Reference4Ideal.nD Cert.Reference4Ideal.τ).loc Cert.Reference4Ideal.main_arg25) y) (m' ((c : Thread Cert.Reference4Ideal.nD Cert.Reference4Ideal.τ).loc Cert.Reference4Ideal.main_arg27) y)) r20
        (nv_congr m25 m27)).trans (z6_6 m g c).symm, a⟩

end Cert.Opt
end
end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Algebraic
public import proofs.«01_k».proof.Proof.TailAlg
public import proofs.«01_k».proof.Proof.InAlg
public import proofs.«01_k».proof.Proof.OptAlg
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The reference runs, leaves its arguments unchanged and ends quiescent. -/
theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0) :=
  (θ_run Cert.ReferenceIdeal.defs _ _).mono (fun r h => ⟨fun c => (h c).2.2.2,
      Idealize.ShloMosaic.sem_eq_zero_of_no_sems (by decide) r.2⟩)
    (Cert.ReferenceIdeal.Value.run (F := Ideal) m g)

/-- The reference of the layers after the attention runs, leaves its arguments unchanged and ends quiescent. -/
theorem frame_reference2 (m : (ℓ : Loc Cert.Reference2Ideal.nD Cert.Reference2Ideal.τ Cert.Reference2Ideal.sig) → Buf (Elt Ideal) ℓ)
    (g : Dev Cert.Reference2Ideal.nD → PrngReg) :
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13)
      ∧ r.2.mem ((c.tc : Thread Cert.Reference2Ideal.nD Cert.Reference2Ideal.τ).loc Cert.Reference2Ideal.main_arg14) = m ((c.tc : Thread Cert.Reference2Ideal.nD Cert.Reference2Ideal.τ).loc Cert.Reference2Ideal.main_arg14)
      ∧ r.2.mem ((c.tc : Thread Cert.Reference2Ideal.nD Cert.Reference2Ideal.τ).loc Cert.Reference2Ideal.main_arg15) = m ((c.tc : Thread Cert.Reference2Ideal.nD Cert.Reference2Ideal.τ).loc Cert.Reference2Ideal.main_arg15)
      ∧ r.2.mem ((c.tc : Thread Cert.Reference2Ideal.nD Cert.Reference2Ideal.τ).loc Cert.Reference2Ideal.main_arg16) = m ((c.tc : Thread Cert.Reference2Ideal.nD Cert.Reference2Ideal.τ).loc Cert.Reference2Ideal.main_arg16))
      ∧ r.2.sem = fun _ => 0) :=
  (θ_run Cert.Reference2Ideal.defs _ _).mono (fun r h => ⟨fun c => (h c).2.2.2.2.2.2.2.2.2.2.2.2.2.2.2,
      Idealize.ShloMosaic.sem_eq_zero_of_no_sems (by decide) r.2⟩)
    (Cert.Reference2Ideal.Value.run (F := Ideal) m g)

/-- The reference of the input projection runs, leaves its arguments unchanged and ends quiescent. -/
theorem frame_reference3 (m : (ℓ : Loc Cert.Reference3Ideal.nD Cert.Reference3Ideal.τ Cert.Reference3Ideal.sig) → Buf (Elt Ideal) ℓ)
    (g : Dev Cert.Reference3Ideal.nD → PrngReg) :
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0) :=
  (θ_run Cert.Reference3Ideal.defs _ _).mono (fun r h => ⟨fun c => (h c).2.2.2.2.2.2,
      Idealize.ShloMosaic.sem_eq_zero_of_no_sems (by decide) r.2⟩)
    (Cert.Reference3Ideal.Value.run (F := Ideal) m g)

/-- The reference of the optimiser's step runs, leaves its arguments unchanged and ends quiescent. -/
theorem frame_reference4 (m : (ℓ : Loc Cert.Reference4Ideal.nD Cert.Reference4Ideal.τ Cert.Reference4Ideal.sig) → Buf (Elt Ideal) ℓ)
    (g : Dev Cert.Reference4Ideal.nD → PrngReg) :
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12)
      ∧ r.2.mem ((c.tc : Thread Cert.Reference4Ideal.nD Cert.Reference4Ideal.τ).loc Cert.Reference4Ideal.main_arg13) = m ((c.tc : Thread Cert.Reference4Ideal.nD Cert.Reference4Ideal.τ).loc Cert.Reference4Ideal.main_arg13)
      ∧ r.2.mem ((c.tc : Thread Cert.Reference4Ideal.nD Cert.Reference4Ideal.τ).loc Cert.Reference4Ideal.main_arg14) = m ((c.tc : Thread Cert.Reference4Ideal.nD Cert.Reference4Ideal.τ).loc Cert.Reference4Ideal.main_arg14)
      ∧ r.2.mem ((c.tc : Thread Cert.Reference4Ideal.nD Cert.Reference4Ideal.τ).loc Cert.Reference4Ideal.main_arg15) = m ((c.tc : Thread Cert.Reference4Ideal.nD Cert.Reference4Ideal.τ).loc Cert.Reference4Ideal.main_arg15)
      ∧ r.2.mem ((c.tc : Thread Cert.Reference4Ideal.nD Cert.Reference4Ideal.τ).loc Cert.Reference4Ideal.main_arg16) = m ((c.tc : Thread Cert.Reference4Ideal.nD Cert.Reference4Ideal.τ).loc Cert.Reference4Ideal.main_arg16)
      ∧ r.2.mem ((c.tc : Thread Cert.Reference4Ideal.nD Cert.Reference4Ideal.τ).loc Cert.Reference4Ideal.main_arg17) = m ((c.tc : Thread Cert.Reference4Ideal.nD Cert.Reference4Ideal.τ).loc Cert.Reference4Ideal.main_arg17)
      ∧ r.2.mem ((c.tc : Thread Cert.Reference4Ideal.nD Cert.Reference4Ideal.τ).loc Cert.Reference4Ideal.main_arg18) = m ((c.tc : Thread Cert.Reference4Ideal.nD Cert.Reference4Ideal.τ).loc Cert.Reference4Ideal.main_arg18)
      ∧ r.2.mem ((c.tc : Thread Cert.Reference4Ideal.nD Cert.Reference4Ideal.τ).loc Cert.Reference4Ideal.main_arg19) = m ((c.tc : Thread Cert.Reference4Ideal.nD Cert.Reference4Ideal.τ).loc Cert.Reference4Ideal.main_arg19)
      ∧ r.2.mem ((c.tc : Thread Cert.Reference4Ideal.nD Cert.Reference4Ideal.τ).loc Cert.Reference4Ideal.main_arg20) = m ((c.tc : Thread Cert.Reference4Ideal.nD Cert.Reference4Ideal.τ).loc Cert.Reference4Ideal.main_arg20)
      ∧ r.2.mem ((c.tc : Thread Cert.Reference4Ideal.nD Cert.Reference4Ideal.τ).loc Cert.Reference4Ideal.main_arg21) = m ((c.tc : Thread Cert.Reference4Ideal.nD Cert.Reference4Ideal.τ).loc Cert.Reference4Ideal.main_arg21)
      ∧ r.2.mem ((c.tc : Thread Cert.Reference4Ideal.nD Cert.Reference4Ideal.τ).loc Cert.Reference4Ideal.main_arg22) = m ((c.tc : Thread Cert.Reference4Ideal.nD Cert.Reference4Ideal.τ).loc Cert.Reference4Ideal.main_arg22)
      ∧ r.2.mem ((c.tc : Thread Cert.Reference4Ideal.nD Cert.Reference4Ideal.τ).loc Cert.Reference4Ideal.main_arg23) = m ((c.tc : Thread Cert.Reference4Ideal.nD Cert.Reference4Ideal.τ).loc Cert.Reference4Ideal.main_arg23)
      ∧ r.2.mem ((c.tc : Thread Cert.Reference4Ideal.nD Cert.Reference4Ideal.τ).loc Cert.Reference4Ideal.main_arg24) = m ((c.tc : Thread Cert.Reference4Ideal.nD Cert.Reference4Ideal.τ).loc Cert.Reference4Ideal.main_arg24)
      ∧ r.2.mem ((c.tc : Thread Cert.Reference4Ideal.nD Cert.Reference4Ideal.τ).loc Cert.Reference4Ideal.main_arg25) = m ((c.tc : Thread Cert.Reference4Ideal.nD Cert.Reference4Ideal.τ).loc Cert.Reference4Ideal.main_arg25)
      ∧ r.2.mem ((c.tc : Thread Cert.Reference4Ideal.nD Cert.Reference4Ideal.τ).loc Cert.Reference4Ideal.main_arg26) = m ((c.tc : Thread Cert.Reference4Ideal.nD Cert.Reference4Ideal.τ).loc Cert.Reference4Ideal.main_arg26)
      ∧ r.2.mem ((c.tc : Thread Cert.Reference4Ideal.nD Cert.Reference4Ideal.τ).loc Cert.Reference4Ideal.main_arg27) = m ((c.tc : Thread Cert.Reference4Ideal.nD Cert.Reference4Ideal.τ).loc Cert.Reference4Ideal.main_arg27))
      ∧ r.2.sem = fun _ => 0) :=
  (θ_run Cert.Reference4Ideal.defs _ _).mono (fun r h => ⟨fun c => (h c).2.2.2.2.2.2.2.2.2.2.2.2.2.2.2.2.2.2.2.2.2,
      Idealize.ShloMosaic.sem_eq_zero_of_no_sems (by decide) r.2⟩)
    (Cert.Reference4Ideal.Value.run (F := Ideal) m g)

/-- Everything the certificate claims. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Pre_finite.facts, Cert.Tail.pre_facts, Cert.Inp.pre_facts,
  fun m ρ _ => Cert.Kernel.Gen.frame m ρ, fun m ρ _ => Cert.KernelIdeal.Gen.frame m ρ, fun m ρ _ => Cert.KernelIdeal.Gen.frame m ρ,
  fun m ρ _ => frame_reference m ρ, fun m ρ _ => frame_reference m ρ,
  fun m ρ _ => Cert.Kernel2.Gen.frame m ρ, fun m ρ _ => Cert.Kernel2Ideal.Gen.frame m ρ, fun m ρ _ => Cert.Kernel2Ideal.Gen.frame m ρ,
  fun m ρ _ => frame_reference2 m ρ, fun m ρ _ => frame_reference2 m ρ,
  fun m ρ _ => Cert.Kernel3.Gen.frame m ρ, fun m ρ _ => Cert.Kernel3Ideal.Gen.frame m ρ, fun m ρ _ => Cert.Kernel3Ideal.Gen.frame m ρ,
  fun m ρ _ => frame_reference3 m ρ, fun m ρ _ => frame_reference3 m ρ,
  fun m ρ _ => Cert.Kernel4.Gen.frame m ρ, fun m ρ _ => Cert.Kernel4Ideal.Gen.frame m ρ, fun m ρ _ => frame_reference4 m ρ,
  trivial, Cert.KernelIdeal.Att.algebraic, trivial, Cert.Tail.algebraic, trivial, Cert.Inp.algebraic, trivial, Cert.Opt.algebraic⟩

end Cert.Proof

end
